-- ==== Defs.lean ====
def Pre_LbsBwd (m : (ℓ : Loc Cert.LbsBwd.nD Cert.LbsBwd.τ Cert.LbsBwd.sig) → Buf (Elt Bits) ℓ) : Prop :=
  True

def Pre_LbsBwdIdeal (m : (ℓ : Loc Cert.LbsBwdIdeal.nD Cert.LbsBwdIdeal.τ Cert.LbsBwdIdeal.sig) → Buf (Elt Ideal) ℓ) : Prop :=
  True

def Pre_LbsBwdIdeal_lbs_bwd_finite [hPre_lbs_bwd_finite : Cert.Pre_lbs_bwd_finite.Facts] (m : (ℓ : Loc Cert.LbsBwdIdeal.nD Cert.LbsBwdIdeal.τ Cert.LbsBwdIdeal.sig) → Buf (Elt Ideal) ℓ) : Prop :=
  ∀ c : Dev Cert.LbsBwdIdeal.nD,
    (Cert.Pre_lbs_bwd_finite.fn (F := Ideal) (m ((c.tc : Thread Cert.LbsBwdIdeal.nD Cert.LbsBwdIdeal.τ).loc Cert.LbsBwdIdeal.main_arg0)) (m ((c.tc : Thread Cert.LbsBwdIdeal.nD Cert.LbsBwdIdeal.τ).loc Cert.LbsBwdIdeal.main_arg1))).1 = (fun _ => 1#1)
    ∧ (Cert.Pre_lbs_bwd_finite.fn (F := Ideal) (m ((c.tc : Thread Cert.LbsBwdIdeal.nD Cert.LbsBwdIdeal.τ).loc Cert.LbsBwdIdeal.main_arg0)) (m ((c.tc : Thread Cert.LbsBwdIdeal.nD Cert.LbsBwdIdeal.τ).loc Cert.LbsBwdIdeal.main_arg1))).2 = (fun _ => 1#1)

def Pre_LbsBwdRefIdeal (m : (ℓ : Loc Cert.LbsBwdRefIdeal.nD Cert.LbsBwdRefIdeal.τ Cert.LbsBwdRefIdeal.sig) → Buf (Elt Ideal) ℓ) : Prop :=
  True

def Pre_LbsBwdRefIdeal_lbs_bwd_finite [hPre_lbs_bwd_finite : Cert.Pre_lbs_bwd_finite.Facts] (m : (ℓ : Loc Cert.LbsBwdRefIdeal.nD Cert.LbsBwdRefIdeal.τ Cert.LbsBwdRefIdeal.sig) → Buf (Elt Ideal) ℓ) : Prop :=
  ∀ c : Dev Cert.LbsBwdRefIdeal.nD,
    (Cert.Pre_lbs_bwd_finite.fn (F := Ideal) (m ((c.tc : Thread Cert.LbsBwdRefIdeal.nD Cert.LbsBwdRefIdeal.τ).loc Cert.LbsBwdRefIdeal.main_arg0)) (m ((c.tc : Thread Cert.LbsBwdRefIdeal.nD Cert.LbsBwdRefIdeal.τ).loc Cert.LbsBwdRefIdeal.main_arg1))).1 = (fun _ => 1#1)
    ∧ (Cert.Pre_lbs_bwd_finite.fn (F := Ideal) (m ((c.tc : Thread Cert.LbsBwdRefIdeal.nD Cert.LbsBwdRefIdeal.τ).loc Cert.LbsBwdRefIdeal.main_arg0)) (m ((c.tc : Thread Cert.LbsBwdRefIdeal.nD Cert.LbsBwdRefIdeal.τ).loc Cert.LbsBwdRefIdeal.main_arg1))).2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_head_finite [hPre_loss_head_finite : Cert.Pre_loss_head_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_head_finite [hPre_loss_head_finite : Cert.Pre_loss_head_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).1 = (fun _ => 1#1)
    ∧ (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.1 = (fun _ => 1#1)
    ∧ (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.2 = (fun _ => 1#1)

def Pre_Ff2Dgrad (m : (ℓ : Loc Cert.Ff2Dgrad.nD Cert.Ff2Dgrad.τ Cert.Ff2Dgrad.sig) → Buf (Elt Bits) ℓ) : Prop :=
  True

def Pre_Ff2DgradIdeal (m : (ℓ : Loc Cert.Ff2DgradIdeal.nD Cert.Ff2DgradIdeal.τ Cert.Ff2DgradIdeal.sig) → Buf (Elt Ideal) ℓ) : Prop :=
  True

def Pre_Ff2DgradRefIdeal (m : (ℓ : Loc Cert.Ff2DgradRefIdeal.nD Cert.Ff2DgradRefIdeal.τ Cert.Ff2DgradRefIdeal.sig) → Buf (Elt Ideal) ℓ) : Prop :=
  True

def Pre_Ff1Dgrad (m : (ℓ : Loc Cert.Ff1Dgrad.nD Cert.Ff1Dgrad.τ Cert.Ff1Dgrad.sig) → Buf (Elt Bits) ℓ) : Prop :=
  True

def Pre_Ff1DgradIdeal (m : (ℓ : Loc Cert.Ff1DgradIdeal.nD Cert.Ff1DgradIdeal.τ Cert.Ff1DgradIdeal.sig) → Buf (Elt Ideal) ℓ) : Prop :=
  True

def Pre_Ff1DgradIdeal_dgrad_finite [hPre_dgrad_finite : Cert.Pre_dgrad_finite.Facts] (m : (ℓ : Loc Cert.Ff1DgradIdeal.nD Cert.Ff1DgradIdeal.τ Cert.Ff1DgradIdeal.sig) → Buf (Elt Ideal) ℓ) : Prop :=
  ∀ c : Dev Cert.Ff1DgradIdeal.nD,
    (Cert.Pre_dgrad_finite.fn (F := Ideal) (m ((c.tc : Thread Cert.Ff1DgradIdeal.nD Cert.Ff1DgradIdeal.τ).loc Cert.Ff1DgradIdeal.main_arg0)) (m ((c.tc : Thread Cert.Ff1DgradIdeal.nD Cert.Ff1DgradIdeal.τ).loc Cert.Ff1DgradIdeal.main_arg1)) (m ((c.tc : Thread Cert.Ff1DgradIdeal.nD Cert.Ff1DgradIdeal.τ).loc Cert.Ff1DgradIdeal.main_arg2)) (m ((c.tc : Thread Cert.Ff1DgradIdeal.nD Cert.Ff1DgradIdeal.τ).loc Cert.Ff1DgradIdeal.main_arg3)) (m ((c.tc : Thread Cert.Ff1DgradIdeal.nD Cert.Ff1DgradIdeal.τ).loc Cert.Ff1DgradIdeal.main_arg4))).1 = (fun _ => 1#1)
    ∧ (Cert.Pre_dgrad_finite.fn (F := Ideal) (m ((c.tc : Thread Cert.Ff1DgradIdeal.nD Cert.Ff1DgradIdeal.τ).loc Cert.Ff1DgradIdeal.main_arg0)) (m ((c.tc : Thread Cert.Ff1DgradIdeal.nD Cert.Ff1DgradIdeal.τ).loc Cert.Ff1DgradIdeal.main_arg1)) (m ((c.tc : Thread Cert.Ff1DgradIdeal.nD Cert.Ff1DgradIdeal.τ).loc Cert.Ff1DgradIdeal.main_arg2)) (m ((c.tc : Thread Cert.Ff1DgradIdeal.nD Cert.Ff1DgradIdeal.τ).loc Cert.Ff1DgradIdeal.main_arg3)) (m ((c.tc : Thread Cert.Ff1DgradIdeal.nD Cert.Ff1DgradIdeal.τ).loc Cert.Ff1DgradIdeal.main_arg4))).2.1 = (fun _ => 1#1)
    ∧ (Cert.Pre_dgrad_finite.fn (F := Ideal) (m ((c.tc : Thread Cert.Ff1DgradIdeal.nD Cert.Ff1DgradIdeal.τ).loc Cert.Ff1DgradIdeal.main_arg0)) (m ((c.tc : Thread Cert.Ff1DgradIdeal.nD Cert.Ff1DgradIdeal.τ).loc Cert.Ff1DgradIdeal.main_arg1)) (m ((c.tc : Thread Cert.Ff1DgradIdeal.nD Cert.Ff1DgradIdeal.τ).loc Cert.Ff1DgradIdeal.main_arg2)) (m ((c.tc : Thread Cert.Ff1DgradIdeal.nD Cert.Ff1DgradIdeal.τ).loc Cert.Ff1DgradIdeal.main_arg3)) (m ((c.tc : Thread Cert.Ff1DgradIdeal.nD Cert.Ff1DgradIdeal.τ).loc Cert.Ff1DgradIdeal.main_arg4))).2.2.1 = (fun _ => 1#1)
    ∧ (Cert.Pre_dgrad_finite.fn (F := Ideal) (m ((c.tc : Thread Cert.Ff1DgradIdeal.nD Cert.Ff1DgradIdeal.τ).loc Cert.Ff1DgradIdeal.main_arg0)) (m ((c.tc : Thread Cert.Ff1DgradIdeal.nD Cert.Ff1DgradIdeal.τ).loc Cert.Ff1DgradIdeal.main_arg1)) (m ((c.tc : Thread Cert.Ff1DgradIdeal.nD Cert.Ff1DgradIdeal.τ).loc Cert.Ff1DgradIdeal.main_arg2)) (m ((c.tc : Thread Cert.Ff1DgradIdeal.nD Cert.Ff1DgradIdeal.τ).loc Cert.Ff1DgradIdeal.main_arg3)) (m ((c.tc : Thread Cert.Ff1DgradIdeal.nD Cert.Ff1DgradIdeal.τ).loc Cert.Ff1DgradIdeal.main_arg4))).2.2.2 = (fun _ => 1#1)

def Pre_Ff1DgradRefIdeal (m : (ℓ : Loc Cert.Ff1DgradRefIdeal.nD Cert.Ff1DgradRefIdeal.τ Cert.Ff1DgradRefIdeal.sig) → Buf (Elt Ideal) ℓ) : Prop :=
  True

def Pre_Ff1DgradRefIdeal_dgrad_finite [hPre_dgrad_finite : Cert.Pre_dgrad_finite.Facts] (m : (ℓ : Loc Cert.Ff1DgradRefIdeal.nD Cert.Ff1DgradRefIdeal.τ Cert.Ff1DgradRefIdeal.sig) → Buf (Elt Ideal) ℓ) : Prop :=
  ∀ c : Dev Cert.Ff1DgradRefIdeal.nD,
    (Cert.Pre_dgrad_finite.fn (F := Ideal) (m ((c.tc : Thread Cert.Ff1DgradRefIdeal.nD Cert.Ff1DgradRefIdeal.τ).loc Cert.Ff1DgradRefIdeal.main_arg0)) (m ((c.tc : Thread Cert.Ff1DgradRefIdeal.nD Cert.Ff1DgradRefIdeal.τ).loc Cert.Ff1DgradRefIdeal.main_arg1)) (m ((c.tc : Thread Cert.Ff1DgradRefIdeal.nD Cert.Ff1DgradRefIdeal.τ).loc Cert.Ff1DgradRefIdeal.main_arg2)) (m ((c.tc : Thread Cert.Ff1DgradRefIdeal.nD Cert.Ff1DgradRefIdeal.τ).loc Cert.Ff1DgradRefIdeal.main_arg3)) (m ((c.tc : Thread Cert.Ff1DgradRefIdeal.nD Cert.Ff1DgradRefIdeal.τ).loc Cert.Ff1DgradRefIdeal.main_arg4))).1 = (fun _ => 1#1)
    ∧ (Cert.Pre_dgrad_finite.fn (F := Ideal) (m ((c.tc : Thread Cert.Ff1DgradRefIdeal.nD Cert.Ff1DgradRefIdeal.τ).loc Cert.Ff1DgradRefIdeal.main_arg0)) (m ((c.tc : Thread Cert.Ff1DgradRefIdeal.nD Cert.Ff1DgradRefIdeal.τ).loc Cert.Ff1DgradRefIdeal.main_arg1)) (m ((c.tc : Thread Cert.Ff1DgradRefIdeal.nD Cert.Ff1DgradRefIdeal.τ).loc Cert.Ff1DgradRefIdeal.main_arg2)) (m ((c.tc : Thread Cert.Ff1DgradRefIdeal.nD Cert.Ff1DgradRefIdeal.τ).loc Cert.Ff1DgradRefIdeal.main_arg3)) (m ((c.tc : Thread Cert.Ff1DgradRefIdeal.nD Cert.Ff1DgradRefIdeal.τ).loc Cert.Ff1DgradRefIdeal.main_arg4))).2.1 = (fun _ => 1#1)
    ∧ (Cert.Pre_dgrad_finite.fn (F := Ideal) (m ((c.tc : Thread Cert.Ff1DgradRefIdeal.nD Cert.Ff1DgradRefIdeal.τ).loc Cert.Ff1DgradRefIdeal.main_arg0)) (m ((c.tc : Thread Cert.Ff1DgradRefIdeal.nD Cert.Ff1DgradRefIdeal.τ).loc Cert.Ff1DgradRefIdeal.main_arg1)) (m ((c.tc : Thread Cert.Ff1DgradRefIdeal.nD Cert.Ff1DgradRefIdeal.τ).loc Cert.Ff1DgradRefIdeal.main_arg2)) (m ((c.tc : Thread Cert.Ff1DgradRefIdeal.nD Cert.Ff1DgradRefIdeal.τ).loc Cert.Ff1DgradRefIdeal.main_arg3)) (m ((c.tc : Thread Cert.Ff1DgradRefIdeal.nD Cert.Ff1DgradRefIdeal.τ).loc Cert.Ff1DgradRefIdeal.main_arg4))).2.2.1 = (fun _ => 1#1)
    ∧ (Cert.Pre_dgrad_finite.fn (F := Ideal) (m ((c.tc : Thread Cert.Ff1DgradRefIdeal.nD Cert.Ff1DgradRefIdeal.τ).loc Cert.Ff1DgradRefIdeal.main_arg0)) (m ((c.tc : Thread Cert.Ff1DgradRefIdeal.nD Cert.Ff1DgradRefIdeal.τ).loc Cert.Ff1DgradRefIdeal.main_arg1)) (m ((c.tc : Thread Cert.Ff1DgradRefIdeal.nD Cert.Ff1DgradRefIdeal.τ).loc Cert.Ff1DgradRefIdeal.main_arg2)) (m ((c.tc : Thread Cert.Ff1DgradRefIdeal.nD Cert.Ff1DgradRefIdeal.τ).loc Cert.Ff1DgradRefIdeal.main_arg3)) (m ((c.tc : Thread Cert.Ff1DgradRefIdeal.nD Cert.Ff1DgradRefIdeal.τ).loc Cert.Ff1DgradRefIdeal.main_arg4))).2.2.2 = (fun _ => 1#1)

def Pre_InDgrad (m : (ℓ : Loc Cert.InDgrad.nD Cert.InDgrad.τ Cert.InDgrad.sig) → Buf (Elt Bits) ℓ) : Prop :=
  True

def Pre_InDgradIdeal (m : (ℓ : Loc Cert.InDgradIdeal.nD Cert.InDgradIdeal.τ Cert.InDgradIdeal.sig) → Buf (Elt Ideal) ℓ) : Prop :=
  True

def Pre_InDgradIdeal_in_dgrad_finite [hPre_in_dgrad_finite : Cert.Pre_in_dgrad_finite.Facts] (m : (ℓ : Loc Cert.InDgradIdeal.nD Cert.InDgradIdeal.τ Cert.InDgradIdeal.sig) → Buf (Elt Ideal) ℓ) : Prop :=
  ∀ c : Dev Cert.InDgradIdeal.nD,
    (Cert.Pre_in_dgrad_finite.fn (F := Ideal) (m ((c.tc : Thread Cert.InDgradIdeal.nD Cert.InDgradIdeal.τ).loc Cert.InDgradIdeal.main_arg0)) (m ((c.tc : Thread Cert.InDgradIdeal.nD Cert.InDgradIdeal.τ).loc Cert.InDgradIdeal.main_arg1)) (m ((c.tc : Thread Cert.InDgradIdeal.nD Cert.InDgradIdeal.τ).loc Cert.InDgradIdeal.main_arg2)) (m ((c.tc : Thread Cert.InDgradIdeal.nD Cert.InDgradIdeal.τ).loc Cert.InDgradIdeal.main_arg3)) (m ((c.tc : Thread Cert.InDgradIdeal.nD Cert.InDgradIdeal.τ).loc Cert.InDgradIdeal.main_arg4))).1 = (fun _ => 1#1)
    ∧ (Cert.Pre_in_dgrad_finite.fn (F := Ideal) (m ((c.tc : Thread Cert.InDgradIdeal.nD Cert.InDgradIdeal.τ).loc Cert.InDgradIdeal.main_arg0)) (m ((c.tc : Thread Cert.InDgradIdeal.nD Cert.InDgradIdeal.τ).loc Cert.InDgradIdeal.main_arg1)) (m ((c.tc : Thread Cert.InDgradIdeal.nD Cert.InDgradIdeal.τ).loc Cert.InDgradIdeal.main_arg2)) (m ((c.tc : Thread Cert.InDgradIdeal.nD Cert.InDgradIdeal.τ).loc Cert.InDgradIdeal.main_arg3)) (m ((c.tc : Thread Cert.InDgradIdeal.nD Cert.InDgradIdeal.τ).loc Cert.InDgradIdeal.main_arg4))).2.1 = (fun _ => 1#1)
    ∧ (Cert.Pre_in_dgrad_finite.fn (F := Ideal) (m ((c.tc : Thread Cert.InDgradIdeal.nD Cert.InDgradIdeal.τ).loc Cert.InDgradIdeal.main_arg0)) (m ((c.tc : Thread Cert.InDgradIdeal.nD Cert.InDgradIdeal.τ).loc Cert.InDgradIdeal.main_arg1)) (m ((c.tc : Thread Cert.InDgradIdeal.nD Cert.InDgradIdeal.τ).loc Cert.InDgradIdeal.main_arg2)) (m ((c.tc : Thread Cert.InDgradIdeal.nD Cert.InDgradIdeal.τ).loc Cert.InDgradIdeal.main_arg3)) (m ((c.tc : Thread Cert.InDgradIdeal.nD Cert.InDgradIdeal.τ).loc Cert.InDgradIdeal.main_arg4))).2.2.1 = (fun _ => 1#1)
    ∧ (Cert.Pre_in_dgrad_finite.fn (F := Ideal) (m ((c.tc : Thread Cert.InDgradIdeal.nD Cert.InDgradIdeal.τ).loc Cert.InDgradIdeal.main_arg0)) (m ((c.tc : Thread Cert.InDgradIdeal.nD Cert.InDgradIdeal.τ).loc Cert.InDgradIdeal.main_arg1)) (m ((c.tc : Thread Cert.InDgradIdeal.nD Cert.InDgradIdeal.τ).loc Cert.InDgradIdeal.main_arg2)) (m ((c.tc : Thread Cert.InDgradIdeal.nD Cert.InDgradIdeal.τ).loc Cert.InDgradIdeal.main_arg3)) (m ((c.tc : Thread Cert.InDgradIdeal.nD Cert.InDgradIdeal.τ).loc Cert.InDgradIdeal.main_arg4))).2.2.2 = (fun _ => 1#1)

def Pre_InDgradRefIdeal (m : (ℓ : Loc Cert.InDgradRefIdeal.nD Cert.InDgradRefIdeal.τ Cert.InDgradRefIdeal.sig) → Buf (Elt Ideal) ℓ) : Prop :=
  True

def Pre_InDgradRefIdeal_in_dgrad_finite [hPre_in_dgrad_finite : Cert.Pre_in_dgrad_finite.Facts] (m : (ℓ : Loc Cert.InDgradRefIdeal.nD Cert.InDgradRefIdeal.τ Cert.InDgradRefIdeal.sig) → Buf (Elt Ideal) ℓ) : Prop :=
  ∀ c : Dev Cert.InDgradRefIdeal.nD,
    (Cert.Pre_in_dgrad_finite.fn (F := Ideal) (m ((c.tc : Thread Cert.InDgradRefIdeal.nD Cert.InDgradRefIdeal.τ).loc Cert.InDgradRefIdeal.main_arg0)) (m ((c.tc : Thread Cert.InDgradRefIdeal.nD Cert.InDgradRefIdeal.τ).loc Cert.InDgradRefIdeal.main_arg1)) (m ((c.tc : Thread Cert.InDgradRefIdeal.nD Cert.InDgradRefIdeal.τ).loc Cert.InDgradRefIdeal.main_arg2)) (m ((c.tc : Thread Cert.InDgradRefIdeal.nD Cert.InDgradRefIdeal.τ).loc Cert.InDgradRefIdeal.main_arg3)) (m ((c.tc : Thread Cert.InDgradRefIdeal.nD Cert.InDgradRefIdeal.τ).loc Cert.InDgradRefIdeal.main_arg4))).1 = (fun _ => 1#1)
    ∧ (Cert.Pre_in_dgrad_finite.fn (F := Ideal) (m ((c.tc : Thread Cert.InDgradRefIdeal.nD Cert.InDgradRefIdeal.τ).loc Cert.InDgradRefIdeal.main_arg0)) (m ((c.tc : Thread Cert.InDgradRefIdeal.nD Cert.InDgradRefIdeal.τ).loc Cert.InDgradRefIdeal.main_arg1)) (m ((c.tc : Thread Cert.InDgradRefIdeal.nD Cert.InDgradRefIdeal.τ).loc Cert.InDgradRefIdeal.main_arg2)) (m ((c.tc : Thread Cert.InDgradRefIdeal.nD Cert.InDgradRefIdeal.τ).loc Cert.InDgradRefIdeal.main_arg3)) (m ((c.tc : Thread Cert.InDgradRefIdeal.nD Cert.InDgradRefIdeal.τ).loc Cert.InDgradRefIdeal.main_arg4))).2.1 = (fun _ => 1#1)
    ∧ (Cert.Pre_in_dgrad_finite.fn (F := Ideal) (m ((c.tc : Thread Cert.InDgradRefIdeal.nD Cert.InDgradRefIdeal.τ).loc Cert.InDgradRefIdeal.main_arg0)) (m ((c.tc : Thread Cert.InDgradRefIdeal.nD Cert.InDgradRefIdeal.τ).loc Cert.InDgradRefIdeal.main_arg1)) (m ((c.tc : Thread Cert.InDgradRefIdeal.nD Cert.InDgradRefIdeal.τ).loc Cert.InDgradRefIdeal.main_arg2)) (m ((c.tc : Thread Cert.InDgradRefIdeal.nD Cert.InDgradRefIdeal.τ).loc Cert.InDgradRefIdeal.main_arg3)) (m ((c.tc : Thread Cert.InDgradRefIdeal.nD Cert.InDgradRefIdeal.τ).loc Cert.InDgradRefIdeal.main_arg4))).2.2.1 = (fun _ => 1#1)
    ∧ (Cert.Pre_in_dgrad_finite.fn (F := Ideal) (m ((c.tc : Thread Cert.InDgradRefIdeal.nD Cert.InDgradRefIdeal.τ).loc Cert.InDgradRefIdeal.main_arg0)) (m ((c.tc : Thread Cert.InDgradRefIdeal.nD Cert.InDgradRefIdeal.τ).loc Cert.InDgradRefIdeal.main_arg1)) (m ((c.tc : Thread Cert.InDgradRefIdeal.nD Cert.InDgradRefIdeal.τ).loc Cert.InDgradRefIdeal.main_arg2)) (m ((c.tc : Thread Cert.InDgradRefIdeal.nD Cert.InDgradRefIdeal.τ).loc Cert.InDgradRefIdeal.main_arg3)) (m ((c.tc : Thread Cert.InDgradRefIdeal.nD Cert.InDgradRefIdeal.τ).loc Cert.InDgradRefIdeal.main_arg4))).2.2.2 = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_SgBwd (m : (ℓ : Loc Cert.SgBwd.nD Cert.SgBwd.τ Cert.SgBwd.sig) → Buf (Elt Bits) ℓ) : Prop :=
  True

def Pre_SgBwdIdeal (m : (ℓ : Loc Cert.SgBwdIdeal.nD Cert.SgBwdIdeal.τ Cert.SgBwdIdeal.sig) → Buf (Elt Ideal) ℓ) : Prop :=
  True

def Pre_SgBwdIdeal_sg_bwd_finite [hPre_sg_bwd_finite : Cert.Pre_sg_bwd_finite.Facts] (m : (ℓ : Loc Cert.SgBwdIdeal.nD Cert.SgBwdIdeal.τ Cert.SgBwdIdeal.sig) → Buf (Elt Ideal) ℓ) : Prop :=
  ∀ c : Dev Cert.SgBwdIdeal.nD,
    (Cert.Pre_sg_bwd_finite.fn (F := Ideal) (m ((c.tc : Thread Cert.SgBwdIdeal.nD Cert.SgBwdIdeal.τ).loc Cert.SgBwdIdeal.main_arg0)) (m ((c.tc : Thread Cert.SgBwdIdeal.nD Cert.SgBwdIdeal.τ).loc Cert.SgBwdIdeal.main_arg1)) (m ((c.tc : Thread Cert.SgBwdIdeal.nD Cert.SgBwdIdeal.τ).loc Cert.SgBwdIdeal.main_arg2)) (m ((c.tc : Thread Cert.SgBwdIdeal.nD Cert.SgBwdIdeal.τ).loc Cert.SgBwdIdeal.main_arg3)) (m ((c.tc : Thread Cert.SgBwdIdeal.nD Cert.SgBwdIdeal.τ).loc Cert.SgBwdIdeal.main_arg4)) (m ((c.tc : Thread Cert.SgBwdIdeal.nD Cert.SgBwdIdeal.τ).loc Cert.SgBwdIdeal.main_arg5)) (m ((c.tc : Thread Cert.SgBwdIdeal.nD Cert.SgBwdIdeal.τ).loc Cert.SgBwdIdeal.main_arg6))).1 = (fun _ => 1#1)
    ∧ (Cert.Pre_sg_bwd_finite.fn (F := Ideal) (m ((c.tc : Thread Cert.SgBwdIdeal.nD Cert.SgBwdIdeal.τ).loc Cert.SgBwdIdeal.main_arg0)) (m ((c.tc : Thread Cert.SgBwdIdeal.nD Cert.SgBwdIdeal.τ).loc Cert.SgBwdIdeal.main_arg1)) (m ((c.tc : Thread Cert.SgBwdIdeal.nD Cert.SgBwdIdeal.τ).loc Cert.SgBwdIdeal.main_arg2)) (m ((c.tc : Thread Cert.SgBwdIdeal.nD Cert.SgBwdIdeal.τ).loc Cert.SgBwdIdeal.main_arg3)) (m ((c.tc : Thread Cert.SgBwdIdeal.nD Cert.SgBwdIdeal.τ).loc Cert.SgBwdIdeal.main_arg4)) (m ((c.tc : Thread Cert.SgBwdIdeal.nD Cert.SgBwdIdeal.τ).loc Cert.SgBwdIdeal.main_arg5)) (m ((c.tc : Thread Cert.SgBwdIdeal.nD Cert.SgBwdIdeal.τ).loc Cert.SgBwdIdeal.main_arg6))).2.1 = (fun _ => 1#1)
    ∧ (Cert.Pre_sg_bwd_finite.fn (F := Ideal) (m ((c.tc : Thread Cert.SgBwdIdeal.nD Cert.SgBwdIdeal.τ).loc Cert.SgBwdIdeal.main_arg0)) (m ((c.tc : Thread Cert.SgBwdIdeal.nD Cert.SgBwdIdeal.τ).loc Cert.SgBwdIdeal.main_arg1)) (m ((c.tc : Thread Cert.SgBwdIdeal.nD Cert.SgBwdIdeal.τ).loc Cert.SgBwdIdeal.main_arg2)) (m ((c.tc : Thread Cert.SgBwdIdeal.nD Cert.SgBwdIdeal.τ).loc Cert.SgBwdIdeal.main_arg3)) (m ((c.tc : Thread Cert.SgBwdIdeal.nD Cert.SgBwdIdeal.τ).loc Cert.SgBwdIdeal.main_arg4)) (m ((c.tc : Thread Cert.SgBwdIdeal.nD Cert.SgBwdIdeal.τ).loc Cert.SgBwdIdeal.main_arg5)) (m ((c.tc : Thread Cert.SgBwdIdeal.nD Cert.SgBwdIdeal.τ).loc Cert.SgBwdIdeal.main_arg6))).2.2.1 = (fun _ => 1#1)
    ∧ (Cert.Pre_sg_bwd_finite.fn (F := Ideal) (m ((c.tc : Thread Cert.SgBwdIdeal.nD Cert.SgBwdIdeal.τ).loc Cert.SgBwdIdeal.main_arg0)) (m ((c.tc : Thread Cert.SgBwdIdeal.nD Cert.SgBwdIdeal.τ).loc Cert.SgBwdIdeal.main_arg1)) (m ((c.tc : Thread Cert.SgBwdIdeal.nD Cert.SgBwdIdeal.τ).loc Cert.SgBwdIdeal.main_arg2)) (m ((c.tc : Thread Cert.SgBwdIdeal.nD Cert.SgBwdIdeal.τ).loc Cert.SgBwdIdeal.main_arg3)) (m ((c.tc : Thread Cert.SgBwdIdeal.nD Cert.SgBwdIdeal.τ).loc Cert.SgBwdIdeal.main_arg4)) (m ((c.tc : Thread Cert.SgBwdIdeal.nD Cert.SgBwdIdeal.τ).loc Cert.SgBwdIdeal.main_arg5)) (m ((c.tc : Thread Cert.SgBwdIdeal.nD Cert.SgBwdIdeal.τ).loc Cert.SgBwdIdeal.main_arg6))).2.2.2.1 = (fun _ => 1#1)
    ∧ (Cert.Pre_sg_bwd_finite.fn (F := Ideal) (m ((c.tc : Thread Cert.SgBwdIdeal.nD Cert.SgBwdIdeal.τ).loc Cert.SgBwdIdeal.main_arg0)) (m ((c.tc : Thread Cert.SgBwdIdeal.nD Cert.SgBwdIdeal.τ).loc Cert.SgBwdIdeal.main_arg1)) (m ((c.tc : Thread Cert.SgBwdIdeal.nD Cert.SgBwdIdeal.τ).loc Cert.SgBwdIdeal.main_arg2)) (m ((c.tc : Thread Cert.SgBwdIdeal.nD Cert.SgBwdIdeal.τ).loc Cert.SgBwdIdeal.main_arg3)) (m ((c.tc : Thread Cert.SgBwdIdeal.nD Cert.SgBwdIdeal.τ).loc Cert.SgBwdIdeal.main_arg4)) (m ((c.tc : Thread Cert.SgBwdIdeal.nD Cert.SgBwdIdeal.τ).loc Cert.SgBwdIdeal.main_arg5)) (m ((c.tc : Thread Cert.SgBwdIdeal.nD Cert.SgBwdIdeal.τ).loc Cert.SgBwdIdeal.main_arg6))).2.2.2.2.1 = (fun _ => 1#1)
    ∧ (Cert.Pre_sg_bwd_finite.fn (F := Ideal) (m ((c.tc : Thread Cert.SgBwdIdeal.nD Cert.SgBwdIdeal.τ).loc Cert.SgBwdIdeal.main_arg0)) (m ((c.tc : Thread Cert.SgBwdIdeal.nD Cert.SgBwdIdeal.τ).loc Cert.SgBwdIdeal.main_arg1)) (m ((c.tc : Thread Cert.SgBwdIdeal.nD Cert.SgBwdIdeal.τ).loc Cert.SgBwdIdeal.main_arg2)) (m ((c.tc : Thread Cert.SgBwdIdeal.nD Cert.SgBwdIdeal.τ).loc Cert.SgBwdIdeal.main_arg3)) (m ((c.tc : Thread Cert.SgBwdIdeal.nD Cert.SgBwdIdeal.τ).loc Cert.SgBwdIdeal.main_arg4)) (m ((c.tc : Thread Cert.SgBwdIdeal.nD Cert.SgBwdIdeal.τ).loc Cert.SgBwdIdeal.main_arg5)) (m ((c.tc : Thread Cert.SgBwdIdeal.nD Cert.SgBwdIdeal.τ).loc Cert.SgBwdIdeal.main_arg6))).2.2.2.2.2 = (fun _ => 1#1)

def Pre_SgBwdRefIdeal (m : (ℓ : Loc Cert.SgBwdRefIdeal.nD Cert.SgBwdRefIdeal.τ Cert.SgBwdRefIdeal.sig) → Buf (Elt Ideal) ℓ) : Prop :=
  True

def Pre_SgBwdRefIdeal_sg_bwd_finite [hPre_sg_bwd_finite : Cert.Pre_sg_bwd_finite.Facts] (m : (ℓ : Loc Cert.SgBwdRefIdeal.nD Cert.SgBwdRefIdeal.τ Cert.SgBwdRefIdeal.sig) → Buf (Elt Ideal) ℓ) : Prop :=
  ∀ c : Dev Cert.SgBwdRefIdeal.nD,
    (Cert.Pre_sg_bwd_finite.fn (F := Ideal) (m ((c.tc : Thread Cert.SgBwdRefIdeal.nD Cert.SgBwdRefIdeal.τ).loc Cert.SgBwdRefIdeal.main_arg0)) (m ((c.tc : Thread Cert.SgBwdRefIdeal.nD Cert.SgBwdRefIdeal.τ).loc Cert.SgBwdRefIdeal.main_arg1)) (m ((c.tc : Thread Cert.SgBwdRefIdeal.nD Cert.SgBwdRefIdeal.τ).loc Cert.SgBwdRefIdeal.main_arg2)) (m ((c.tc : Thread Cert.SgBwdRefIdeal.nD Cert.SgBwdRefIdeal.τ).loc Cert.SgBwdRefIdeal.main_arg3)) (m ((c.tc : Thread Cert.SgBwdRefIdeal.nD Cert.SgBwdRefIdeal.τ).loc Cert.SgBwdRefIdeal.main_arg4)) (m ((c.tc : Thread Cert.SgBwdRefIdeal.nD Cert.SgBwdRefIdeal.τ).loc Cert.SgBwdRefIdeal.main_arg5)) (m ((c.tc : Thread Cert.SgBwdRefIdeal.nD Cert.SgBwdRefIdeal.τ).loc Cert.SgBwdRefIdeal.main_arg6))).1 = (fun _ => 1#1)
    ∧ (Cert.Pre_sg_bwd_finite.fn (F := Ideal) (m ((c.tc : Thread Cert.SgBwdRefIdeal.nD Cert.SgBwdRefIdeal.τ).loc Cert.SgBwdRefIdeal.main_arg0)) (m ((c.tc : Thread Cert.SgBwdRefIdeal.nD Cert.SgBwdRefIdeal.τ).loc Cert.SgBwdRefIdeal.main_arg1)) (m ((c.tc : Thread Cert.SgBwdRefIdeal.nD Cert.SgBwdRefIdeal.τ).loc Cert.SgBwdRefIdeal.main_arg2)) (m ((c.tc : Thread Cert.SgBwdRefIdeal.nD Cert.SgBwdRefIdeal.τ).loc Cert.SgBwdRefIdeal.main_arg3)) (m ((c.tc : Thread Cert.SgBwdRefIdeal.nD Cert.SgBwdRefIdeal.τ).loc Cert.SgBwdRefIdeal.main_arg4)) (m ((c.tc : Thread Cert.SgBwdRefIdeal.nD Cert.SgBwdRefIdeal.τ).loc Cert.SgBwdRefIdeal.main_arg5)) (m ((c.tc : Thread Cert.SgBwdRefIdeal.nD Cert.SgBwdRefIdeal.τ).loc Cert.SgBwdRefIdeal.main_arg6))).2.1 = (fun _ => 1#1)
    ∧ (Cert.Pre_sg_bwd_finite.fn (F := Ideal) (m ((c.tc : Thread Cert.SgBwdRefIdeal.nD Cert.SgBwdRefIdeal.τ).loc Cert.SgBwdRefIdeal.main_arg0)) (m ((c.tc : Thread Cert.SgBwdRefIdeal.nD Cert.SgBwdRefIdeal.τ).loc Cert.SgBwdRefIdeal.main_arg1)) (m ((c.tc : Thread Cert.SgBwdRefIdeal.nD Cert.SgBwdRefIdeal.τ).loc Cert.SgBwdRefIdeal.main_arg2)) (m ((c.tc : Thread Cert.SgBwdRefIdeal.nD Cert.SgBwdRefIdeal.τ).loc Cert.SgBwdRefIdeal.main_arg3)) (m ((c.tc : Thread Cert.SgBwdRefIdeal.nD Cert.SgBwdRefIdeal.τ).loc Cert.SgBwdRefIdeal.main_arg4)) (m ((c.tc : Thread Cert.SgBwdRefIdeal.nD Cert.SgBwdRefIdeal.τ).loc Cert.SgBwdRefIdeal.main_arg5)) (m ((c.tc : Thread Cert.SgBwdRefIdeal.nD Cert.SgBwdRefIdeal.τ).loc Cert.SgBwdRefIdeal.main_arg6))).2.2.1 = (fun _ => 1#1)
    ∧ (Cert.Pre_sg_bwd_finite.fn (F := Ideal) (m ((c.tc : Thread Cert.SgBwdRefIdeal.nD Cert.SgBwdRefIdeal.τ).loc Cert.SgBwdRefIdeal.main_arg0)) (m ((c.tc : Thread Cert.SgBwdRefIdeal.nD Cert.SgBwdRefIdeal.τ).loc Cert.SgBwdRefIdeal.main_arg1)) (m ((c.tc : Thread Cert.SgBwdRefIdeal.nD Cert.SgBwdRefIdeal.τ).loc Cert.SgBwdRefIdeal.main_arg2)) (m ((c.tc : Thread Cert.SgBwdRefIdeal.nD Cert.SgBwdRefIdeal.τ).loc Cert.SgBwdRefIdeal.main_arg3)) (m ((c.tc : Thread Cert.SgBwdRefIdeal.nD Cert.SgBwdRefIdeal.τ).loc Cert.SgBwdRefIdeal.main_arg4)) (m ((c.tc : Thread Cert.SgBwdRefIdeal.nD Cert.SgBwdRefIdeal.τ).loc Cert.SgBwdRefIdeal.main_arg5)) (m ((c.tc : Thread Cert.SgBwdRefIdeal.nD Cert.SgBwdRefIdeal.τ).loc Cert.SgBwdRefIdeal.main_arg6))).2.2.2.1 = (fun _ => 1#1)
    ∧ (Cert.Pre_sg_bwd_finite.fn (F := Ideal) (m ((c.tc : Thread Cert.SgBwdRefIdeal.nD Cert.SgBwdRefIdeal.τ).loc Cert.SgBwdRefIdeal.main_arg0)) (m ((c.tc : Thread Cert.SgBwdRefIdeal.nD Cert.SgBwdRefIdeal.τ).loc Cert.SgBwdRefIdeal.main_arg1)) (m ((c.tc : Thread Cert.SgBwdRefIdeal.nD Cert.SgBwdRefIdeal.τ).loc Cert.SgBwdRefIdeal.main_arg2)) (m ((c.tc : Thread Cert.SgBwdRefIdeal.nD Cert.SgBwdRefIdeal.τ).loc Cert.SgBwdRefIdeal.main_arg3)) (m ((c.tc : Thread Cert.SgBwdRefIdeal.nD Cert.SgBwdRefIdeal.τ).loc Cert.SgBwdRefIdeal.main_arg4)) (m ((c.tc : Thread Cert.SgBwdRefIdeal.nD Cert.SgBwdRefIdeal.τ).loc Cert.SgBwdRefIdeal.main_arg5)) (m ((c.tc : Thread Cert.SgBwdRefIdeal.nD Cert.SgBwdRefIdeal.τ).loc Cert.SgBwdRefIdeal.main_arg6))).2.2.2.2.1 = (fun _ => 1#1)
    ∧ (Cert.Pre_sg_bwd_finite.fn (F := Ideal) (m ((c.tc : Thread Cert.SgBwdRefIdeal.nD Cert.SgBwdRefIdeal.τ).loc Cert.SgBwdRefIdeal.main_arg0)) (m ((c.tc : Thread Cert.SgBwdRefIdeal.nD Cert.SgBwdRefIdeal.τ).loc Cert.SgBwdRefIdeal.main_arg1)) (m ((c.tc : Thread Cert.SgBwdRefIdeal.nD Cert.SgBwdRefIdeal.τ).loc Cert.SgBwdRefIdeal.main_arg2)) (m ((c.tc : Thread Cert.SgBwdRefIdeal.nD Cert.SgBwdRefIdeal.τ).loc Cert.SgBwdRefIdeal.main_arg3)) (m ((c.tc : Thread Cert.SgBwdRefIdeal.nD Cert.SgBwdRefIdeal.τ).loc Cert.SgBwdRefIdeal.main_arg4)) (m ((c.tc : Thread Cert.SgBwdRefIdeal.nD Cert.SgBwdRefIdeal.τ).loc Cert.SgBwdRefIdeal.main_arg5)) (m ((c.tc : Thread Cert.SgBwdRefIdeal.nD Cert.SgBwdRefIdeal.τ).loc Cert.SgBwdRefIdeal.main_arg6))).2.2.2.2.2 = (fun _ => 1#1)

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_SgFwd (m : (ℓ : Loc Cert.SgFwd.nD Cert.SgFwd.τ Cert.SgFwd.sig) → Buf (Elt Bits) ℓ) : Prop :=
  True

def Pre_SgFwdIdeal (m : (ℓ : Loc Cert.SgFwdIdeal.nD Cert.SgFwdIdeal.τ Cert.SgFwdIdeal.sig) → Buf (Elt Ideal) ℓ) : Prop :=
  True

def Pre_SgFwdRefIdeal (m : (ℓ : Loc Cert.SgFwdRefIdeal.nD Cert.SgFwdRefIdeal.τ Cert.SgFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_LbsFwd (m : (ℓ : Loc Cert.LbsFwd.nD Cert.LbsFwd.τ Cert.LbsFwd.sig) → Buf (Elt Bits) ℓ) : Prop :=
  True

def Pre_LbsFwdIdeal (m : (ℓ : Loc Cert.LbsFwdIdeal.nD Cert.LbsFwdIdeal.τ Cert.LbsFwdIdeal.sig) → Buf (Elt Ideal) ℓ) : Prop :=
  True

def Pre_LbsFwdIdeal_lbs_fwd_finite [hPre_lbs_fwd_finite : Cert.Pre_lbs_fwd_finite.Facts] (m : (ℓ : Loc Cert.LbsFwdIdeal.nD Cert.LbsFwdIdeal.τ Cert.LbsFwdIdeal.sig) → Buf (Elt Ideal) ℓ) : Prop :=
  ∀ c : Dev Cert.LbsFwdIdeal.nD,
    (Cert.Pre_lbs_fwd_finite.fn (F := Ideal) (m ((c.tc : Thread Cert.LbsFwdIdeal.nD Cert.LbsFwdIdeal.τ).loc Cert.LbsFwdIdeal.main_arg0))) = (fun _ => 1#1)

def Pre_LbsFwdRefIdeal (m : (ℓ : Loc Cert.LbsFwdRefIdeal.nD Cert.LbsFwdRefIdeal.τ Cert.LbsFwdRefIdeal.sig) → Buf (Elt Ideal) ℓ) : Prop :=
  True

def Pre_LbsFwdRefIdeal_lbs_fwd_finite [hPre_lbs_fwd_finite : Cert.Pre_lbs_fwd_finite.Facts] (m : (ℓ : Loc Cert.LbsFwdRefIdeal.nD Cert.LbsFwdRefIdeal.τ Cert.LbsFwdRefIdeal.sig) → Buf (Elt Ideal) ℓ) : Prop :=
  ∀ c : Dev Cert.LbsFwdRefIdeal.nD,
    (Cert.Pre_lbs_fwd_finite.fn (F := Ideal) (m ((c.tc : Thread Cert.LbsFwdRefIdeal.nD Cert.LbsFwdRefIdeal.τ).loc Cert.LbsFwdRefIdeal.main_arg0))) = (fun _ => 1#1)

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_SumDevices (m : (ℓ : Loc Cert.SumDevices.nD Cert.SumDevices.τ Cert.SumDevices.sig) → Buf (Elt Bits) ℓ) : Prop :=
  True

def Pre_SumDevicesIdeal (m : (ℓ : Loc Cert.SumDevicesIdeal.nD Cert.SumDevicesIdeal.τ Cert.SumDevicesIdeal.sig) → Buf (Elt Ideal) ℓ) : Prop :=
  True

def Pre_SumDevicesRefIdeal (m : (ℓ : Loc Cert.SumDevicesRefIdeal.nD Cert.SumDevicesRefIdeal.τ Cert.SumDevicesRefIdeal.sig) → Buf (Elt Ideal) ℓ) : Prop :=
  True

def Pre_AdamwFlat (m : (ℓ : Loc Cert.AdamwFlat.nD Cert.AdamwFlat.τ Cert.AdamwFlat.sig) → Buf (Elt Bits) ℓ) : Prop :=
  True

def Pre_AdamwFlatIdeal (m : (ℓ : Loc Cert.AdamwFlatIdeal.nD Cert.AdamwFlatIdeal.τ Cert.AdamwFlatIdeal.sig) → Buf (Elt Ideal) ℓ) : Prop :=
  True

def Pre_AdamwFlatRefIdeal (m : (ℓ : Loc Cert.AdamwFlatRefIdeal.nD Cert.AdamwFlatRefIdeal.τ Cert.AdamwFlatRefIdeal.sig) → Buf (Elt Ideal) ℓ) : Prop :=
  True

def Pre_AdamwLayers (m : (ℓ : Loc Cert.AdamwLayers.nD Cert.AdamwLayers.τ Cert.AdamwLayers.sig) → Buf (Elt Bits) ℓ) : Prop :=
  True

def Pre_AdamwLayersIdeal (m : (ℓ : Loc Cert.AdamwLayersIdeal.nD Cert.AdamwLayersIdeal.τ Cert.AdamwLayersIdeal.sig) → Buf (Elt Ideal) ℓ) : Prop :=
  True

def Pre_AdamwLayersRefIdeal (m : (ℓ : Loc Cert.AdamwLayersRefIdeal.nD Cert.AdamwLayersRefIdeal.τ Cert.AdamwLayersRefIdeal.sig) → Buf (Elt Ideal) ℓ) : Prop :=
  True

def Pre_InWgrad (m : (ℓ : Loc Cert.InWgrad.nD Cert.InWgrad.τ Cert.InWgrad.sig) → Buf (Elt Bits) ℓ) : Prop :=
  True

def Pre_InWgradIdeal (m : (ℓ : Loc Cert.InWgradIdeal.nD Cert.InWgradIdeal.τ Cert.InWgradIdeal.sig) → Buf (Elt Ideal) ℓ) : Prop :=
  True

def Pre_InWgradRefIdeal (m : (ℓ : Loc Cert.InWgradRefIdeal.nD Cert.InWgradRefIdeal.τ Cert.InWgradRefIdeal.sig) → Buf (Elt Ideal) ℓ) : Prop :=
  True

def Pre_OutDgrad (m : (ℓ : Loc Cert.OutDgrad.nD Cert.OutDgrad.τ Cert.OutDgrad.sig) → Buf (Elt Bits) ℓ) : Prop :=
  True

def Pre_OutDgradIdeal (m : (ℓ : Loc Cert.OutDgradIdeal.nD Cert.OutDgradIdeal.τ Cert.OutDgradIdeal.sig) → Buf (Elt Ideal) ℓ) : Prop :=
  True

def Pre_OutDgradRefIdeal (m : (ℓ : Loc Cert.OutDgradRefIdeal.nD Cert.OutDgradRefIdeal.τ Cert.OutDgradRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ff2Fwd (m : (ℓ : Loc Cert.Ff2Fwd.nD Cert.Ff2Fwd.τ Cert.Ff2Fwd.sig) → Buf (Elt Bits) ℓ) : Prop :=
  True

def Pre_Ff2FwdIdeal (m : (ℓ : Loc Cert.Ff2FwdIdeal.nD Cert.Ff2FwdIdeal.τ Cert.Ff2FwdIdeal.sig) → Buf (Elt Ideal) ℓ) : Prop :=
  True

def Pre_Ff2FwdRefIdeal (m : (ℓ : Loc Cert.Ff2FwdRefIdeal.nD Cert.Ff2FwdRefIdeal.τ Cert.Ff2FwdRefIdeal.sig) → Buf (Elt Ideal) ℓ) : Prop :=
  True

def Pre_HgrnFwd (m : (ℓ : Loc Cert.HgrnFwd.nD Cert.HgrnFwd.τ Cert.HgrnFwd.sig) → Buf (Elt Bits) ℓ) : Prop :=
  True

def Pre_HgrnFwdIdeal (m : (ℓ : Loc Cert.HgrnFwdIdeal.nD Cert.HgrnFwdIdeal.τ Cert.HgrnFwdIdeal.sig) → Buf (Elt Ideal) ℓ) : Prop :=
  True

def Pre_HgrnBwd (m : (ℓ : Loc Cert.HgrnBwd.nD Cert.HgrnBwd.τ Cert.HgrnBwd.sig) → Buf (Elt Bits) ℓ) : Prop :=
  True

def Pre_HgrnBwdIdeal (m : (ℓ : Loc Cert.HgrnBwdIdeal.nD Cert.HgrnBwdIdeal.τ Cert.HgrnBwdIdeal.sig) → Buf (Elt Ideal) ℓ) : Prop :=
  True

def quiescent_LbsBwd [hLbsBwd : Cert.LbsBwd.Facts] : Prop :=
  ∀ (m : (ℓ : Loc Cert.LbsBwd.nD Cert.LbsBwd.τ Cert.LbsBwd.sig) → Buf (Elt Bits) ℓ) (g : Dev Cert.LbsBwd.nD → PrngReg), Pre_LbsBwd m →
    θ_run (Cert.LbsBwd.defs (F := Bits)) (onTc (τ := Cert.LbsBwd.τ) (Cert.LbsBwd.main (F := Bits))) ⟨m, fun _ => 0, g⟩ (fun r => (∀ c : Dev Cert.LbsBwd.nD,
      r.2.mem ((c.tc : Thread Cert.LbsBwd.nD Cert.LbsBwd.τ).loc Cert.LbsBwd.main_arg0) = m ((c.tc : Thread Cert.LbsBwd.nD Cert.LbsBwd.τ).loc Cert.LbsBwd.main_arg0)
      ∧ r.2.mem ((c.tc : Thread Cert.LbsBwd.nD Cert.LbsBwd.τ).loc Cert.LbsBwd.main_arg1) = m ((c.tc : Thread Cert.LbsBwd.nD Cert.LbsBwd.τ).loc Cert.LbsBwd.main_arg1))
      ∧ r.2.sem = fun _ => 0)

def quiescent_LbsBwdIdeal [hLbsBwdIdeal : Cert.LbsBwdIdeal.Facts] : Prop :=
  ∀ (m : (ℓ : Loc Cert.LbsBwdIdeal.nD Cert.LbsBwdIdeal.τ Cert.LbsBwdIdeal.sig) → Buf (Elt Ideal) ℓ) (g : Dev Cert.LbsBwdIdeal.nD → PrngReg), Pre_LbsBwdIdeal m →
    θ_run (Cert.LbsBwdIdeal.defs (F := Ideal)) (onTc (τ := Cert.LbsBwdIdeal.τ) (Cert.LbsBwdIdeal.main (F := Ideal))) ⟨m, fun _ => 0, g⟩ (fun r => (∀ c : Dev Cert.LbsBwdIdeal.nD,
      r.2.mem ((c.tc : Thread Cert.LbsBwdIdeal.nD Cert.LbsBwdIdeal.τ).loc Cert.LbsBwdIdeal.main_arg0) = m ((c.tc : Thread Cert.LbsBwdIdeal.nD Cert.LbsBwdIdeal.τ).loc Cert.LbsBwdIdeal.main_arg0)
      ∧ r.2.mem ((c.tc : Thread Cert.LbsBwdIdeal.nD Cert.LbsBwdIdeal.τ).loc Cert.LbsBwdIdeal.main_arg1) = m ((c.tc : Thread Cert.LbsBwdIdeal.nD Cert.LbsBwdIdeal.τ).loc Cert.LbsBwdIdeal.main_arg1))
      ∧ r.2.sem = fun _ => 0)

def quiescent_LbsBwdIdeal_pre_lbs_bwd_finite [hLbsBwdIdeal : Cert.LbsBwdIdeal.Facts] [hPre_lbs_bwd_finite : Cert.Pre_lbs_bwd_finite.Facts] : Prop :=
  ∀ (m : (ℓ : Loc Cert.LbsBwdIdeal.nD Cert.LbsBwdIdeal.τ Cert.LbsBwdIdeal.sig) → Buf (Elt Ideal) ℓ) (g : Dev Cert.LbsBwdIdeal.nD → PrngReg), Pre_LbsBwdIdeal_lbs_bwd_finite m →
    θ_run (Cert.LbsBwdIdeal.defs (F := Ideal)) (onTc (τ := Cert.LbsBwdIdeal.τ) (Cert.LbsBwdIdeal.main (F := Ideal))) ⟨m, fun _ => 0, g⟩ (fun r => (∀ c : Dev Cert.LbsBwdIdeal.nD,
      r.2.mem ((c.tc : Thread Cert.LbsBwdIdeal.nD Cert.LbsBwdIdeal.τ).loc Cert.LbsBwdIdeal.main_arg0) = m ((c.tc : Thread Cert.LbsBwdIdeal.nD Cert.LbsBwdIdeal.τ).loc Cert.LbsBwdIdeal.main_arg0)
      ∧ r.2.mem ((c.tc : Thread Cert.LbsBwdIdeal.nD Cert.LbsBwdIdeal.τ).loc Cert.LbsBwdIdeal.main_arg1) = m ((c.tc : Thread Cert.LbsBwdIdeal.nD Cert.LbsBwdIdeal.τ).loc Cert.LbsBwdIdeal.main_arg1))
      ∧ r.2.sem = fun _ => 0)

def quiescent_LbsBwdRefIdeal [hLbsBwdRefIdeal : Cert.LbsBwdRefIdeal.Facts] : Prop :=
  ∀ (m : (ℓ : Loc Cert.LbsBwdRefIdeal.nD Cert.LbsBwdRefIdeal.τ Cert.LbsBwdRefIdeal.sig) → Buf (Elt Ideal) ℓ) (g : Dev Cert.LbsBwdRefIdeal.nD → PrngReg), Pre_LbsBwdRefIdeal m →
    θ_run (Cert.LbsBwdRefIdeal.defs (F := Ideal)) (onTc (τ := Cert.LbsBwdRefIdeal.τ) (Cert.LbsBwdRefIdeal.main (F := Ideal))) ⟨m, fun _ => 0, g⟩ (fun r => (∀ c : Dev Cert.LbsBwdRefIdeal.nD,
      r.2.mem ((c.tc : Thread Cert.LbsBwdRefIdeal.nD Cert.LbsBwdRefIdeal.τ).loc Cert.LbsBwdRefIdeal.main_arg0) = m ((c.tc : Thread Cert.LbsBwdRefIdeal.nD Cert.LbsBwdRefIdeal.τ).loc Cert.LbsBwdRefIdeal.main_arg0)
      ∧ r.2.mem ((c.tc : Thread Cert.LbsBwdRefIdeal.nD Cert.LbsBwdRefIdeal.τ).loc Cert.LbsBwdRefIdeal.main_arg1) = m ((c.tc : Thread Cert.LbsBwdRefIdeal.nD Cert.LbsBwdRefIdeal.τ).loc Cert.LbsBwdRefIdeal.main_arg1))
      ∧ r.2.sem = fun _ => 0)

def quiescent_LbsBwdRefIdeal_pre_lbs_bwd_finite [hLbsBwdRefIdeal : Cert.LbsBwdRefIdeal.Facts] [hPre_lbs_bwd_finite : Cert.Pre_lbs_bwd_finite.Facts] : Prop :=
  ∀ (m : (ℓ : Loc Cert.LbsBwdRefIdeal.nD Cert.LbsBwdRefIdeal.τ Cert.LbsBwdRefIdeal.sig) → Buf (Elt Ideal) ℓ) (g : Dev Cert.LbsBwdRefIdeal.nD → PrngReg), Pre_LbsBwdRefIdeal_lbs_bwd_finite m →
    θ_run (Cert.LbsBwdRefIdeal.defs (F := Ideal)) (onTc (τ := Cert.LbsBwdRefIdeal.τ) (Cert.LbsBwdRefIdeal.main (F := Ideal))) ⟨m, fun _ => 0, g⟩ (fun r => (∀ c : Dev Cert.LbsBwdRefIdeal.nD,
      r.2.mem ((c.tc : Thread Cert.LbsBwdRefIdeal.nD Cert.LbsBwdRefIdeal.τ).loc Cert.LbsBwdRefIdeal.main_arg0) = m ((c.tc : Thread Cert.LbsBwdRefIdeal.nD Cert.LbsBwdRefIdeal.τ).loc Cert.LbsBwdRefIdeal.main_arg0)
      ∧ r.2.mem ((c.tc : Thread Cert.LbsBwdRefIdeal.nD Cert.LbsBwdRefIdeal.τ).loc Cert.LbsBwdRefIdeal.main_arg1) = m ((c.tc : Thread Cert.LbsBwdRefIdeal.nD Cert.LbsBwdRefIdeal.τ).loc Cert.LbsBwdRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_loss_head_finite [hLossHeadIdeal : Cert.LossHeadIdeal.Facts] [hPre_loss_head_finite : Cert.Pre_loss_head_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_head_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_loss_head_finite [hLossHeadRefIdeal : Cert.LossHeadRefIdeal.Facts] [hPre_loss_head_finite : Cert.Pre_loss_head_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_head_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_Ff2Dgrad [hFf2Dgrad : Cert.Ff2Dgrad.Facts] : Prop :=
  ∀ (m : (ℓ : Loc Cert.Ff2Dgrad.nD Cert.Ff2Dgrad.τ Cert.Ff2Dgrad.sig) → Buf (Elt Bits) ℓ) (g : Dev Cert.Ff2Dgrad.nD → PrngReg), Pre_Ff2Dgrad m →
    θ_run (Cert.Ff2Dgrad.defs (F := Bits)) (onTc (τ := Cert.Ff2Dgrad.τ) (Cert.Ff2Dgrad.main (F := Bits))) ⟨m, fun _ => 0, g⟩ (fun r => (∀ c : Dev Cert.Ff2Dgrad.nD,
      r.2.mem ((c.tc : Thread Cert.Ff2Dgrad.nD Cert.Ff2Dgrad.τ).loc Cert.Ff2Dgrad.main_arg0) = m ((c.tc : Thread Cert.Ff2Dgrad.nD Cert.Ff2Dgrad.τ).loc Cert.Ff2Dgrad.main_arg0)
      ∧ r.2.mem ((c.tc : Thread Cert.Ff2Dgrad.nD Cert.Ff2Dgrad.τ).loc Cert.Ff2Dgrad.main_arg1) = m ((c.tc : Thread Cert.Ff2Dgrad.nD Cert.Ff2Dgrad.τ).loc Cert.Ff2Dgrad.main_arg1)
      ∧ r.2.mem ((c.tc : Thread Cert.Ff2Dgrad.nD Cert.Ff2Dgrad.τ).loc Cert.Ff2Dgrad.main_arg2) = m ((c.tc : Thread Cert.Ff2Dgrad.nD Cert.Ff2Dgrad.τ).loc Cert.Ff2Dgrad.main_arg2)
      ∧ r.2.mem ((c.tc : Thread Cert.Ff2Dgrad.nD Cert.Ff2Dgrad.τ).loc Cert.Ff2Dgrad.main_arg3) = m ((c.tc : Thread Cert.Ff2Dgrad.nD Cert.Ff2Dgrad.τ).loc Cert.Ff2Dgrad.main_arg3))
      ∧ r.2.sem = fun _ => 0)

def quiescent_Ff2DgradIdeal [hFf2DgradIdeal : Cert.Ff2DgradIdeal.Facts] : Prop :=
  ∀ (m : (ℓ : Loc Cert.Ff2DgradIdeal.nD Cert.Ff2DgradIdeal.τ Cert.Ff2DgradIdeal.sig) → Buf (Elt Ideal) ℓ) (g : Dev Cert.Ff2DgradIdeal.nD → PrngReg), Pre_Ff2DgradIdeal m →
    θ_run (Cert.Ff2DgradIdeal.defs (F := Ideal)) (onTc (τ := Cert.Ff2DgradIdeal.τ) (Cert.Ff2DgradIdeal.main (F := Ideal))) ⟨m, fun _ => 0, g⟩ (fun r => (∀ c : Dev Cert.Ff2DgradIdeal.nD,
      r.2.mem ((c.tc : Thread Cert.Ff2DgradIdeal.nD Cert.Ff2DgradIdeal.τ).loc Cert.Ff2DgradIdeal.main_arg0) = m ((c.tc : Thread Cert.Ff2DgradIdeal.nD Cert.Ff2DgradIdeal.τ).loc Cert.Ff2DgradIdeal.main_arg0)
      ∧ r.2.mem ((c.tc : Thread Cert.Ff2DgradIdeal.nD Cert.Ff2DgradIdeal.τ).loc Cert.Ff2DgradIdeal.main_arg1) = m ((c.tc : Thread Cert.Ff2DgradIdeal.nD Cert.Ff2DgradIdeal.τ).loc Cert.Ff2DgradIdeal.main_arg1)
      ∧ r.2.mem ((c.tc : Thread Cert.Ff2DgradIdeal.nD Cert.Ff2DgradIdeal.τ).loc Cert.Ff2DgradIdeal.main_arg2) = m ((c.tc : Thread Cert.Ff2DgradIdeal.nD Cert.Ff2DgradIdeal.τ).loc Cert.Ff2DgradIdeal.main_arg2)
      ∧ r.2.mem ((c.tc : Thread Cert.Ff2DgradIdeal.nD Cert.Ff2DgradIdeal.τ).loc Cert.Ff2DgradIdeal.main_arg3) = m ((c.tc : Thread Cert.Ff2DgradIdeal.nD Cert.Ff2DgradIdeal.τ).loc Cert.Ff2DgradIdeal.main_arg3))
      ∧ r.2.sem = fun _ => 0)

def quiescent_Ff2DgradRefIdeal [hFf2DgradRefIdeal : Cert.Ff2DgradRefIdeal.Facts] : Prop :=
  ∀ (m : (ℓ : Loc Cert.Ff2DgradRefIdeal.nD Cert.Ff2DgradRefIdeal.τ Cert.Ff2DgradRefIdeal.sig) → Buf (Elt Ideal) ℓ) (g : Dev Cert.Ff2DgradRefIdeal.nD → PrngReg), Pre_Ff2DgradRefIdeal m →
    θ_run (Cert.Ff2DgradRefIdeal.defs (F := Ideal)) (onTc (τ := Cert.Ff2DgradRefIdeal.τ) (Cert.Ff2DgradRefIdeal.main (F := Ideal))) ⟨m, fun _ => 0, g⟩ (fun r => (∀ c : Dev Cert.Ff2DgradRefIdeal.nD,
      r.2.mem ((c.tc : Thread Cert.Ff2DgradRefIdeal.nD Cert.Ff2DgradRefIdeal.τ).loc Cert.Ff2DgradRefIdeal.main_arg0) = m ((c.tc : Thread Cert.Ff2DgradRefIdeal.nD Cert.Ff2DgradRefIdeal.τ).loc Cert.Ff2DgradRefIdeal.main_arg0)
      ∧ r.2.mem ((c.tc : Thread Cert.Ff2DgradRefIdeal.nD Cert.Ff2DgradRefIdeal.τ).loc Cert.Ff2DgradRefIdeal.main_arg1) = m ((c.tc : Thread Cert.Ff2DgradRefIdeal.nD Cert.Ff2DgradRefIdeal.τ).loc Cert.Ff2DgradRefIdeal.main_arg1)
      ∧ r.2.mem ((c.tc : Thread Cert.Ff2DgradRefIdeal.nD Cert.Ff2DgradRefIdeal.τ).loc Cert.Ff2DgradRefIdeal.main_arg2) = m ((c.tc : Thread Cert.Ff2DgradRefIdeal.nD Cert.Ff2DgradRefIdeal.τ).loc Cert.Ff2DgradRefIdeal.main_arg2)
      ∧ r.2.mem ((c.tc : Thread Cert.Ff2DgradRefIdeal.nD Cert.Ff2DgradRefIdeal.τ).loc Cert.Ff2DgradRefIdeal.main_arg3) = m ((c.tc : Thread Cert.Ff2DgradRefIdeal.nD Cert.Ff2DgradRefIdeal.τ).loc Cert.Ff2DgradRefIdeal.main_arg3))
      ∧ r.2.sem = fun _ => 0)

def quiescent_Ff1Dgrad [hFf1Dgrad : Cert.Ff1Dgrad.Facts] : Prop :=
  ∀ (m : (ℓ : Loc Cert.Ff1Dgrad.nD Cert.Ff1Dgrad.τ Cert.Ff1Dgrad.sig) → Buf (Elt Bits) ℓ) (g : Dev Cert.Ff1Dgrad.nD → PrngReg), Pre_Ff1Dgrad m →
    θ_run (Cert.Ff1Dgrad.defs (F := Bits)) (onTc (τ := Cert.Ff1Dgrad.τ) (Cert.Ff1Dgrad.main (F := Bits))) ⟨m, fun _ => 0, g⟩ (fun r => (∀ c : Dev Cert.Ff1Dgrad.nD,
      r.2.mem ((c.tc : Thread Cert.Ff1Dgrad.nD Cert.Ff1Dgrad.τ).loc Cert.Ff1Dgrad.main_arg0) = m ((c.tc : Thread Cert.Ff1Dgrad.nD Cert.Ff1Dgrad.τ).loc Cert.Ff1Dgrad.main_arg0)
      ∧ r.2.mem ((c.tc : Thread Cert.Ff1Dgrad.nD Cert.Ff1Dgrad.τ).loc Cert.Ff1Dgrad.main_arg1) = m ((c.tc : Thread Cert.Ff1Dgrad.nD Cert.Ff1Dgrad.τ).loc Cert.Ff1Dgrad.main_arg1)
      ∧ r.2.mem ((c.tc : Thread Cert.Ff1Dgrad.nD Cert.Ff1Dgrad.τ).loc Cert.Ff1Dgrad.main_arg2) = m ((c.tc : Thread Cert.Ff1Dgrad.nD Cert.Ff1Dgrad.τ).loc Cert.Ff1Dgrad.main_arg2)
      ∧ r.2.mem ((c.tc : Thread Cert.Ff1Dgrad.nD Cert.Ff1Dgrad.τ).loc Cert.Ff1Dgrad.main_arg3) = m ((c.tc : Thread Cert.Ff1Dgrad.nD Cert.Ff1Dgrad.τ).loc Cert.Ff1Dgrad.main_arg3)
      ∧ r.2.mem ((c.tc : Thread Cert.Ff1Dgrad.nD Cert.Ff1Dgrad.τ).loc Cert.Ff1Dgrad.main_arg4) = m ((c.tc : Thread Cert.Ff1Dgrad.nD Cert.Ff1Dgrad.τ).loc Cert.Ff1Dgrad.main_arg4))
      ∧ r.2.sem = fun _ => 0)

def quiescent_Ff1DgradIdeal [hFf1DgradIdeal : Cert.Ff1DgradIdeal.Facts] : Prop :=
  ∀ (m : (ℓ : Loc Cert.Ff1DgradIdeal.nD Cert.Ff1DgradIdeal.τ Cert.Ff1DgradIdeal.sig) → Buf (Elt Ideal) ℓ) (g : Dev Cert.Ff1DgradIdeal.nD → PrngReg), Pre_Ff1DgradIdeal m →
    θ_run (Cert.Ff1DgradIdeal.defs (F := Ideal)) (onTc (τ := Cert.Ff1DgradIdeal.τ) (Cert.Ff1DgradIdeal.main (F := Ideal))) ⟨m, fun _ => 0, g⟩ (fun r => (∀ c : Dev Cert.Ff1DgradIdeal.nD,
      r.2.mem ((c.tc : Thread Cert.Ff1DgradIdeal.nD Cert.Ff1DgradIdeal.τ).loc Cert.Ff1DgradIdeal.main_arg0) = m ((c.tc : Thread Cert.Ff1DgradIdeal.nD Cert.Ff1DgradIdeal.τ).loc Cert.Ff1DgradIdeal.main_arg0)
      ∧ r.2.mem ((c.tc : Thread Cert.Ff1DgradIdeal.nD Cert.Ff1DgradIdeal.τ).loc Cert.Ff1DgradIdeal.main_arg1) = m ((c.tc : Thread Cert.Ff1DgradIdeal.nD Cert.Ff1DgradIdeal.τ).loc Cert.Ff1DgradIdeal.main_arg1)
      ∧ r.2.mem ((c.tc : Thread Cert.Ff1DgradIdeal.nD Cert.Ff1DgradIdeal.τ).loc Cert.Ff1DgradIdeal.main_arg2) = m ((c.tc : Thread Cert.Ff1DgradIdeal.nD Cert.Ff1DgradIdeal.τ).loc Cert.Ff1DgradIdeal.main_arg2)
      ∧ r.2.mem ((c.tc : Thread Cert.Ff1DgradIdeal.nD Cert.Ff1DgradIdeal.τ).loc Cert.Ff1DgradIdeal.main_arg3) = m ((c.tc : Thread Cert.Ff1DgradIdeal.nD Cert.Ff1DgradIdeal.τ).loc Cert.Ff1DgradIdeal.main_arg3)
      ∧ r.2.mem ((c.tc : Thread Cert.Ff1DgradIdeal.nD Cert.Ff1DgradIdeal.τ).loc Cert.Ff1DgradIdeal.main_arg4) = m ((c.tc : Thread Cert.Ff1DgradIdeal.nD Cert.Ff1DgradIdeal.τ).loc Cert.Ff1DgradIdeal.main_arg4))
      ∧ r.2.sem = fun _ => 0)

def quiescent_Ff1DgradIdeal_pre_dgrad_finite [hFf1DgradIdeal : Cert.Ff1DgradIdeal.Facts] [hPre_dgrad_finite : Cert.Pre_dgrad_finite.Facts] : Prop :=
  ∀ (m : (ℓ : Loc Cert.Ff1DgradIdeal.nD Cert.Ff1DgradIdeal.τ Cert.Ff1DgradIdeal.sig) → Buf (Elt Ideal) ℓ) (g : Dev Cert.Ff1DgradIdeal.nD → PrngReg), Pre_Ff1DgradIdeal_dgrad_finite m →
    θ_run (Cert.Ff1DgradIdeal.defs (F := Ideal)) (onTc (τ := Cert.Ff1DgradIdeal.τ) (Cert.Ff1DgradIdeal.main (F := Ideal))) ⟨m, fun _ => 0, g⟩ (fun r => (∀ c : Dev Cert.Ff1DgradIdeal.nD,
      r.2.mem ((c.tc : Thread Cert.Ff1DgradIdeal.nD Cert.Ff1DgradIdeal.τ).loc Cert.Ff1DgradIdeal.main_arg0) = m ((c.tc : Thread Cert.Ff1DgradIdeal.nD Cert.Ff1DgradIdeal.τ).loc Cert.Ff1DgradIdeal.main_arg0)
      ∧ r.2.mem ((c.tc : Thread Cert.Ff1DgradIdeal.nD Cert.Ff1DgradIdeal.τ).loc Cert.Ff1DgradIdeal.main_arg1) = m ((c.tc : Thread Cert.Ff1DgradIdeal.nD Cert.Ff1DgradIdeal.τ).loc Cert.Ff1DgradIdeal.main_arg1)
      ∧ r.2.mem ((c.tc : Thread Cert.Ff1DgradIdeal.nD Cert.Ff1DgradIdeal.τ).loc Cert.Ff1DgradIdeal.main_arg2) = m ((c.tc : Thread Cert.Ff1DgradIdeal.nD Cert.Ff1DgradIdeal.τ).loc Cert.Ff1DgradIdeal.main_arg2)
      ∧ r.2.mem ((c.tc : Thread Cert.Ff1DgradIdeal.nD Cert.Ff1DgradIdeal.τ).loc Cert.Ff1DgradIdeal.main_arg3) = m ((c.tc : Thread Cert.Ff1DgradIdeal.nD Cert.Ff1DgradIdeal.τ).loc Cert.Ff1DgradIdeal.main_arg3)
      ∧ r.2.mem ((c.tc : Thread Cert.Ff1DgradIdeal.nD Cert.Ff1DgradIdeal.τ).loc Cert.Ff1DgradIdeal.main_arg4) = m ((c.tc : Thread Cert.Ff1DgradIdeal.nD Cert.Ff1DgradIdeal.τ).loc Cert.Ff1DgradIdeal.main_arg4))
      ∧ r.2.sem = fun _ => 0)

def quiescent_Ff1DgradRefIdeal [hFf1DgradRefIdeal : Cert.Ff1DgradRefIdeal.Facts] : Prop :=
  ∀ (m : (ℓ : Loc Cert.Ff1DgradRefIdeal.nD Cert.Ff1DgradRefIdeal.τ Cert.Ff1DgradRefIdeal.sig) → Buf (Elt Ideal) ℓ) (g : Dev Cert.Ff1DgradRefIdeal.nD → PrngReg), Pre_Ff1DgradRefIdeal m →
    θ_run (Cert.Ff1DgradRefIdeal.defs (F := Ideal)) (onTc (τ := Cert.Ff1DgradRefIdeal.τ) (Cert.Ff1DgradRefIdeal.main (F := Ideal))) ⟨m, fun _ => 0, g⟩ (fun r => (∀ c : Dev Cert.Ff1DgradRefIdeal.nD,
      r.2.mem ((c.tc : Thread Cert.Ff1DgradRefIdeal.nD Cert.Ff1DgradRefIdeal.τ).loc Cert.Ff1DgradRefIdeal.main_arg0) = m ((c.tc : Thread Cert.Ff1DgradRefIdeal.nD Cert.Ff1DgradRefIdeal.τ).loc Cert.Ff1DgradRefIdeal.main_arg0)
      ∧ r.2.mem ((c.tc : Thread Cert.Ff1DgradRefIdeal.nD Cert.Ff1DgradRefIdeal.τ).loc Cert.Ff1DgradRefIdeal.main_arg1) = m ((c.tc : Thread Cert.Ff1DgradRefIdeal.nD Cert.Ff1DgradRefIdeal.τ).loc Cert.Ff1DgradRefIdeal.main_arg1)
      ∧ r.2.mem ((c.tc : Thread Cert.Ff1DgradRefIdeal.nD Cert.Ff1DgradRefIdeal.τ).loc Cert.Ff1DgradRefIdeal.main_arg2) = m ((c.tc : Thread Cert.Ff1DgradRefIdeal.nD Cert.Ff1DgradRefIdeal.τ).loc Cert.Ff1DgradRefIdeal.main_arg2)
      ∧ r.2.mem ((c.tc : Thread Cert.Ff1DgradRefIdeal.nD Cert.Ff1DgradRefIdeal.τ).loc Cert.Ff1DgradRefIdeal.main_arg3) = m ((c.tc : Thread Cert.Ff1DgradRefIdeal.nD Cert.Ff1DgradRefIdeal.τ).loc Cert.Ff1DgradRefIdeal.main_arg3)
      ∧ r.2.mem ((c.tc : Thread Cert.Ff1DgradRefIdeal.nD Cert.Ff1DgradRefIdeal.τ).loc Cert.Ff1DgradRefIdeal.main_arg4) = m ((c.tc : Thread Cert.Ff1DgradRefIdeal.nD Cert.Ff1DgradRefIdeal.τ).loc Cert.Ff1DgradRefIdeal.main_arg4))
      ∧ r.2.sem = fun _ => 0)

def quiescent_Ff1DgradRefIdeal_pre_dgrad_finite [hFf1DgradRefIdeal : Cert.Ff1DgradRefIdeal.Facts] [hPre_dgrad_finite : Cert.Pre_dgrad_finite.Facts] : Prop :=
  ∀ (m : (ℓ : Loc Cert.Ff1DgradRefIdeal.nD Cert.Ff1DgradRefIdeal.τ Cert.Ff1DgradRefIdeal.sig) → Buf (Elt Ideal) ℓ) (g : Dev Cert.Ff1DgradRefIdeal.nD → PrngReg), Pre_Ff1DgradRefIdeal_dgrad_finite m →
    θ_run (Cert.Ff1DgradRefIdeal.defs (F := Ideal)) (onTc (τ := Cert.Ff1DgradRefIdeal.τ) (Cert.Ff1DgradRefIdeal.main (F := Ideal))) ⟨m, fun _ => 0, g⟩ (fun r => (∀ c : Dev Cert.Ff1DgradRefIdeal.nD,
      r.2.mem ((c.tc : Thread Cert.Ff1DgradRefIdeal.nD Cert.Ff1DgradRefIdeal.τ).loc Cert.Ff1DgradRefIdeal.main_arg0) = m ((c.tc : Thread Cert.Ff1DgradRefIdeal.nD Cert.Ff1DgradRefIdeal.τ).loc Cert.Ff1DgradRefIdeal.main_arg0)
      ∧ r.2.mem ((c.tc : Thread Cert.Ff1DgradRefIdeal.nD Cert.Ff1DgradRefIdeal.τ).loc Cert.Ff1DgradRefIdeal.main_arg1) = m ((c.tc : Thread Cert.Ff1DgradRefIdeal.nD Cert.Ff1DgradRefIdeal.τ).loc Cert.Ff1DgradRefIdeal.main_arg1)
      ∧ r.2.mem ((c.tc : Thread Cert.Ff1DgradRefIdeal.nD Cert.Ff1DgradRefIdeal.τ).loc Cert.Ff1DgradRefIdeal.main_arg2) = m ((c.tc : Thread Cert.Ff1DgradRefIdeal.nD Cert.Ff1DgradRefIdeal.τ).loc Cert.Ff1DgradRefIdeal.main_arg2)
      ∧ r.2.mem ((c.tc : Thread Cert.Ff1DgradRefIdeal.nD Cert.Ff1DgradRefIdeal.τ).loc Cert.Ff1DgradRefIdeal.main_arg3) = m ((c.tc : Thread Cert.Ff1DgradRefIdeal.nD Cert.Ff1DgradRefIdeal.τ).loc Cert.Ff1DgradRefIdeal.main_arg3)
      ∧ r.2.mem ((c.tc : Thread Cert.Ff1DgradRefIdeal.nD Cert.Ff1DgradRefIdeal.τ).loc Cert.Ff1DgradRefIdeal.main_arg4) = m ((c.tc : Thread Cert.Ff1DgradRefIdeal.nD Cert.Ff1DgradRefIdeal.τ).loc Cert.Ff1DgradRefIdeal.main_arg4))
      ∧ r.2.sem = fun _ => 0)

def quiescent_InDgrad [hInDgrad : Cert.InDgrad.Facts] : Prop :=
  ∀ (m : (ℓ : Loc Cert.InDgrad.nD Cert.InDgrad.τ Cert.InDgrad.sig) → Buf (Elt Bits) ℓ) (g : Dev Cert.InDgrad.nD → PrngReg), Pre_InDgrad m →
    θ_run (Cert.InDgrad.defs (F := Bits)) (onTc (τ := Cert.InDgrad.τ) (Cert.InDgrad.main (F := Bits))) ⟨m, fun _ => 0, g⟩ (fun r => (∀ c : Dev Cert.InDgrad.nD,
      r.2.mem ((c.tc : Thread Cert.InDgrad.nD Cert.InDgrad.τ).loc Cert.InDgrad.main_arg0) = m ((c.tc : Thread Cert.InDgrad.nD Cert.InDgrad.τ).loc Cert.InDgrad.main_arg0)
      ∧ r.2.mem ((c.tc : Thread Cert.InDgrad.nD Cert.InDgrad.τ).loc Cert.InDgrad.main_arg1) = m ((c.tc : Thread Cert.InDgrad.nD Cert.InDgrad.τ).loc Cert.InDgrad.main_arg1)
      ∧ r.2.mem ((c.tc : Thread Cert.InDgrad.nD Cert.InDgrad.τ).loc Cert.InDgrad.main_arg2) = m ((c.tc : Thread Cert.InDgrad.nD Cert.InDgrad.τ).loc Cert.InDgrad.main_arg2)
      ∧ r.2.mem ((c.tc : Thread Cert.InDgrad.nD Cert.InDgrad.τ).loc Cert.InDgrad.main_arg3) = m ((c.tc : Thread Cert.InDgrad.nD Cert.InDgrad.τ).loc Cert.InDgrad.main_arg3)
      ∧ r.2.mem ((c.tc : Thread Cert.InDgrad.nD Cert.InDgrad.τ).loc Cert.InDgrad.main_arg4) = m ((c.tc : Thread Cert.InDgrad.nD Cert.InDgrad.τ).loc Cert.InDgrad.main_arg4))
      ∧ r.2.sem = fun _ => 0)

def quiescent_InDgradIdeal [hInDgradIdeal : Cert.InDgradIdeal.Facts] : Prop :=
  ∀ (m : (ℓ : Loc Cert.InDgradIdeal.nD Cert.InDgradIdeal.τ Cert.InDgradIdeal.sig) → Buf (Elt Ideal) ℓ) (g : Dev Cert.InDgradIdeal.nD → PrngReg), Pre_InDgradIdeal m →
    θ_run (Cert.InDgradIdeal.defs (F := Ideal)) (onTc (τ := Cert.InDgradIdeal.τ) (Cert.InDgradIdeal.main (F := Ideal))) ⟨m, fun _ => 0, g⟩ (fun r => (∀ c : Dev Cert.InDgradIdeal.nD,
      r.2.mem ((c.tc : Thread Cert.InDgradIdeal.nD Cert.InDgradIdeal.τ).loc Cert.InDgradIdeal.main_arg0) = m ((c.tc : Thread Cert.InDgradIdeal.nD Cert.InDgradIdeal.τ).loc Cert.InDgradIdeal.main_arg0)
      ∧ r.2.mem ((c.tc : Thread Cert.InDgradIdeal.nD Cert.InDgradIdeal.τ).loc Cert.InDgradIdeal.main_arg1) = m ((c.tc : Thread Cert.InDgradIdeal.nD Cert.InDgradIdeal.τ).loc Cert.InDgradIdeal.main_arg1)
      ∧ r.2.mem ((c.tc : Thread Cert.InDgradIdeal.nD Cert.InDgradIdeal.τ).loc Cert.InDgradIdeal.main_arg2) = m ((c.tc : Thread Cert.InDgradIdeal.nD Cert.InDgradIdeal.τ).loc Cert.InDgradIdeal.main_arg2)
      ∧ r.2.mem ((c.tc : Thread Cert.InDgradIdeal.nD Cert.InDgradIdeal.τ).loc Cert.InDgradIdeal.main_arg3) = m ((c.tc : Thread Cert.InDgradIdeal.nD Cert.InDgradIdeal.τ).loc Cert.InDgradIdeal.main_arg3)
      ∧ r.2.mem ((c.tc : Thread Cert.InDgradIdeal.nD Cert.InDgradIdeal.τ).loc Cert.InDgradIdeal.main_arg4) = m ((c.tc : Thread Cert.InDgradIdeal.nD Cert.InDgradIdeal.τ).loc Cert.InDgradIdeal.main_arg4))
      ∧ r.2.sem = fun _ => 0)

def quiescent_InDgradIdeal_pre_in_dgrad_finite [hInDgradIdeal : Cert.InDgradIdeal.Facts] [hPre_in_dgrad_finite : Cert.Pre_in_dgrad_finite.Facts] : Prop :=
  ∀ (m : (ℓ : Loc Cert.InDgradIdeal.nD Cert.InDgradIdeal.τ Cert.InDgradIdeal.sig) → Buf (Elt Ideal) ℓ) (g : Dev Cert.InDgradIdeal.nD → PrngReg), Pre_InDgradIdeal_in_dgrad_finite m →
    θ_run (Cert.InDgradIdeal.defs (F := Ideal)) (onTc (τ := Cert.InDgradIdeal.τ) (Cert.InDgradIdeal.main (F := Ideal))) ⟨m, fun _ => 0, g⟩ (fun r => (∀ c : Dev Cert.InDgradIdeal.nD,
      r.2.mem ((c.tc : Thread Cert.InDgradIdeal.nD Cert.InDgradIdeal.τ).loc Cert.InDgradIdeal.main_arg0) = m ((c.tc : Thread Cert.InDgradIdeal.nD Cert.InDgradIdeal.τ).loc Cert.InDgradIdeal.main_arg0)
      ∧ r.2.mem ((c.tc : Thread Cert.InDgradIdeal.nD Cert.InDgradIdeal.τ).loc Cert.InDgradIdeal.main_arg1) = m ((c.tc : Thread Cert.InDgradIdeal.nD Cert.InDgradIdeal.τ).loc Cert.InDgradIdeal.main_arg1)
      ∧ r.2.mem ((c.tc : Thread Cert.InDgradIdeal.nD Cert.InDgradIdeal.τ).loc Cert.InDgradIdeal.main_arg2) = m ((c.tc : Thread Cert.InDgradIdeal.nD Cert.InDgradIdeal.τ).loc Cert.InDgradIdeal.main_arg2)
      ∧ r.2.mem ((c.tc : Thread Cert.InDgradIdeal.nD Cert.InDgradIdeal.τ).loc Cert.InDgradIdeal.main_arg3) = m ((c.tc : Thread Cert.InDgradIdeal.nD Cert.InDgradIdeal.τ).loc Cert.InDgradIdeal.main_arg3)
      ∧ r.2.mem ((c.tc : Thread Cert.InDgradIdeal.nD Cert.InDgradIdeal.τ).loc Cert.InDgradIdeal.main_arg4) = m ((c.tc : Thread Cert.InDgradIdeal.nD Cert.InDgradIdeal.τ).loc Cert.InDgradIdeal.main_arg4))
      ∧ r.2.sem = fun _ => 0)

def quiescent_InDgradRefIdeal [hInDgradRefIdeal : Cert.InDgradRefIdeal.Facts] : Prop :=
  ∀ (m : (ℓ : Loc Cert.InDgradRefIdeal.nD Cert.InDgradRefIdeal.τ Cert.InDgradRefIdeal.sig) → Buf (Elt Ideal) ℓ) (g : Dev Cert.InDgradRefIdeal.nD → PrngReg), Pre_InDgradRefIdeal m →
    θ_run (Cert.InDgradRefIdeal.defs (F := Ideal)) (onTc (τ := Cert.InDgradRefIdeal.τ) (Cert.InDgradRefIdeal.main (F := Ideal))) ⟨m, fun _ => 0, g⟩ (fun r => (∀ c : Dev Cert.InDgradRefIdeal.nD,
      r.2.mem ((c.tc : Thread Cert.InDgradRefIdeal.nD Cert.InDgradRefIdeal.τ).loc Cert.InDgradRefIdeal.main_arg0) = m ((c.tc : Thread Cert.InDgradRefIdeal.nD Cert.InDgradRefIdeal.τ).loc Cert.InDgradRefIdeal.main_arg0)
      ∧ r.2.mem ((c.tc : Thread Cert.InDgradRefIdeal.nD Cert.InDgradRefIdeal.τ).loc Cert.InDgradRefIdeal.main_arg1) = m ((c.tc : Thread Cert.InDgradRefIdeal.nD Cert.InDgradRefIdeal.τ).loc Cert.InDgradRefIdeal.main_arg1)
      ∧ r.2.mem ((c.tc : Thread Cert.InDgradRefIdeal.nD Cert.InDgradRefIdeal.τ).loc Cert.InDgradRefIdeal.main_arg2) = m ((c.tc : Thread Cert.InDgradRefIdeal.nD Cert.InDgradRefIdeal.τ).loc Cert.InDgradRefIdeal.main_arg2)
      ∧ r.2.mem ((c.tc : Thread Cert.InDgradRefIdeal.nD Cert.InDgradRefIdeal.τ).loc Cert.InDgradRefIdeal.main_arg3) = m ((c.tc : Thread Cert.InDgradRefIdeal.nD Cert.InDgradRefIdeal.τ).loc Cert.InDgradRefIdeal.main_arg3)
      ∧ r.2.mem ((c.tc : Thread Cert.InDgradRefIdeal.nD Cert.InDgradRefIdeal.τ).loc Cert.InDgradRefIdeal.main_arg4) = m ((c.tc : Thread Cert.InDgradRefIdeal.nD Cert.InDgradRefIdeal.τ).loc Cert.InDgradRefIdeal.main_arg4))
      ∧ r.2.sem = fun _ => 0)

def quiescent_InDgradRefIdeal_pre_in_dgrad_finite [hInDgradRefIdeal : Cert.InDgradRefIdeal.Facts] [hPre_in_dgrad_finite : Cert.Pre_in_dgrad_finite.Facts] : Prop :=
  ∀ (m : (ℓ : Loc Cert.InDgradRefIdeal.nD Cert.InDgradRefIdeal.τ Cert.InDgradRefIdeal.sig) → Buf (Elt Ideal) ℓ) (g : Dev Cert.InDgradRefIdeal.nD → PrngReg), Pre_InDgradRefIdeal_in_dgrad_finite m →
    θ_run (Cert.InDgradRefIdeal.defs (F := Ideal)) (onTc (τ := Cert.InDgradRefIdeal.τ) (Cert.InDgradRefIdeal.main (F := Ideal))) ⟨m, fun _ => 0, g⟩ (fun r => (∀ c : Dev Cert.InDgradRefIdeal.nD,
      r.2.mem ((c.tc : Thread Cert.InDgradRefIdeal.nD Cert.InDgradRefIdeal.τ).loc Cert.InDgradRefIdeal.main_arg0) = m ((c.tc : Thread Cert.InDgradRefIdeal.nD Cert.InDgradRefIdeal.τ).loc Cert.InDgradRefIdeal.main_arg0)
      ∧ r.2.mem ((c.tc : Thread Cert.InDgradRefIdeal.nD Cert.InDgradRefIdeal.τ).loc Cert.InDgradRefIdeal.main_arg1) = m ((c.tc : Thread Cert.InDgradRefIdeal.nD Cert.InDgradRefIdeal.τ).loc Cert.InDgradRefIdeal.main_arg1)
      ∧ r.2.mem ((c.tc : Thread Cert.InDgradRefIdeal.nD Cert.InDgradRefIdeal.τ).loc Cert.InDgradRefIdeal.main_arg2) = m ((c.tc : Thread Cert.InDgradRefIdeal.nD Cert.InDgradRefIdeal.τ).loc Cert.InDgradRefIdeal.main_arg2)
      ∧ r.2.mem ((c.tc : Thread Cert.InDgradRefIdeal.nD Cert.InDgradRefIdeal.τ).loc Cert.InDgradRefIdeal.main_arg3) = m ((c.tc : Thread Cert.InDgradRefIdeal.nD Cert.InDgradRefIdeal.τ).loc Cert.InDgradRefIdeal.main_arg3)
      ∧ r.2.mem ((c.tc : Thread Cert.InDgradRefIdeal.nD Cert.InDgradRefIdeal.τ).loc Cert.InDgradRefIdeal.main_arg4) = m ((c.tc : Thread Cert.InDgradRefIdeal.nD Cert.InDgradRefIdeal.τ).loc Cert.InDgradRefIdeal.main_arg4))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_SgBwd [hSgBwd : Cert.SgBwd.Facts] : Prop :=
  ∀ (m : (ℓ : Loc Cert.SgBwd.nD Cert.SgBwd.τ Cert.SgBwd.sig) → Buf (Elt Bits) ℓ) (g : Dev Cert.SgBwd.nD → PrngReg), Pre_SgBwd m →
    θ_run (Cert.SgBwd.defs (F := Bits)) (onTc (τ := Cert.SgBwd.τ) (Cert.SgBwd.main (F := Bits))) ⟨m, fun _ => 0, g⟩ (fun r => (∀ c : Dev Cert.SgBwd.nD,
      r.2.mem ((c.tc : Thread Cert.SgBwd.nD Cert.SgBwd.τ).loc Cert.SgBwd.main_arg0) = m ((c.tc : Thread Cert.SgBwd.nD Cert.SgBwd.τ).loc Cert.SgBwd.main_arg0)
      ∧ r.2.mem ((c.tc : Thread Cert.SgBwd.nD Cert.SgBwd.τ).loc Cert.SgBwd.main_arg1) = m ((c.tc : Thread Cert.SgBwd.nD Cert.SgBwd.τ).loc Cert.SgBwd.main_arg1)
      ∧ r.2.mem ((c.tc : Thread Cert.SgBwd.nD Cert.SgBwd.τ).loc Cert.SgBwd.main_arg2) = m ((c.tc : Thread Cert.SgBwd.nD Cert.SgBwd.τ).loc Cert.SgBwd.main_arg2)
      ∧ r.2.mem ((c.tc : Thread Cert.SgBwd.nD Cert.SgBwd.τ).loc Cert.SgBwd.main_arg3) = m ((c.tc : Thread Cert.SgBwd.nD Cert.SgBwd.τ).loc Cert.SgBwd.main_arg3)
      ∧ r.2.mem ((c.tc : Thread Cert.SgBwd.nD Cert.SgBwd.τ).loc Cert.SgBwd.main_arg4) = m ((c.tc : Thread Cert.SgBwd.nD Cert.SgBwd.τ).loc Cert.SgBwd.main_arg4)
      ∧ r.2.mem ((c.tc : Thread Cert.SgBwd.nD Cert.SgBwd.τ).loc Cert.SgBwd.main_arg5) = m ((c.tc : Thread Cert.SgBwd.nD Cert.SgBwd.τ).loc Cert.SgBwd.main_arg5)
      ∧ r.2.mem ((c.tc : Thread Cert.SgBwd.nD Cert.SgBwd.τ).loc Cert.SgBwd.main_arg6) = m ((c.tc : Thread Cert.SgBwd.nD Cert.SgBwd.τ).loc Cert.SgBwd.main_arg6))
      ∧ r.2.sem = fun _ => 0)

def quiescent_SgBwdIdeal [hSgBwdIdeal : Cert.SgBwdIdeal.Facts] : Prop :=
  ∀ (m : (ℓ : Loc Cert.SgBwdIdeal.nD Cert.SgBwdIdeal.τ Cert.SgBwdIdeal.sig) → Buf (Elt Ideal) ℓ) (g : Dev Cert.SgBwdIdeal.nD → PrngReg), Pre_SgBwdIdeal m →
    θ_run (Cert.SgBwdIdeal.defs (F := Ideal)) (onTc (τ := Cert.SgBwdIdeal.τ) (Cert.SgBwdIdeal.main (F := Ideal))) ⟨m, fun _ => 0, g⟩ (fun r => (∀ c : Dev Cert.SgBwdIdeal.nD,
      r.2.mem ((c.tc : Thread Cert.SgBwdIdeal.nD Cert.SgBwdIdeal.τ).loc Cert.SgBwdIdeal.main_arg0) = m ((c.tc : Thread Cert.SgBwdIdeal.nD Cert.SgBwdIdeal.τ).loc Cert.SgBwdIdeal.main_arg0)
      ∧ r.2.mem ((c.tc : Thread Cert.SgBwdIdeal.nD Cert.SgBwdIdeal.τ).loc Cert.SgBwdIdeal.main_arg1) = m ((c.tc : Thread Cert.SgBwdIdeal.nD Cert.SgBwdIdeal.τ).loc Cert.SgBwdIdeal.main_arg1)
      ∧ r.2.mem ((c.tc : Thread Cert.SgBwdIdeal.nD Cert.SgBwdIdeal.τ).loc Cert.SgBwdIdeal.main_arg2) = m ((c.tc : Thread Cert.SgBwdIdeal.nD Cert.SgBwdIdeal.τ).loc Cert.SgBwdIdeal.main_arg2)
      ∧ r.2.mem ((c.tc : Thread Cert.SgBwdIdeal.nD Cert.SgBwdIdeal.τ).loc Cert.SgBwdIdeal.main_arg3) = m ((c.tc : Thread Cert.SgBwdIdeal.nD Cert.SgBwdIdeal.τ).loc Cert.SgBwdIdeal.main_arg3)
      ∧ r.2.mem ((c.tc : Thread Cert.SgBwdIdeal.nD Cert.SgBwdIdeal.τ).loc Cert.SgBwdIdeal.main_arg4) = m ((c.tc : Thread Cert.SgBwdIdeal.nD Cert.SgBwdIdeal.τ).loc Cert.SgBwdIdeal.main_arg4)
      ∧ r.2.mem ((c.tc : Thread Cert.SgBwdIdeal.nD Cert.SgBwdIdeal.τ).loc Cert.SgBwdIdeal.main_arg5) = m ((c.tc : Thread Cert.SgBwdIdeal.nD Cert.SgBwdIdeal.τ).loc Cert.SgBwdIdeal.main_arg5)
      ∧ r.2.mem ((c.tc : Thread Cert.SgBwdIdeal.nD Cert.SgBwdIdeal.τ).loc Cert.SgBwdIdeal.main_arg6) = m ((c.tc : Thread Cert.SgBwdIdeal.nD Cert.SgBwdIdeal.τ).loc Cert.SgBwdIdeal.main_arg6))
      ∧ r.2.sem = fun _ => 0)

def quiescent_SgBwdIdeal_pre_sg_bwd_finite [hSgBwdIdeal : Cert.SgBwdIdeal.Facts] [hPre_sg_bwd_finite : Cert.Pre_sg_bwd_finite.Facts] : Prop :=
  ∀ (m : (ℓ : Loc Cert.SgBwdIdeal.nD Cert.SgBwdIdeal.τ Cert.SgBwdIdeal.sig) → Buf (Elt Ideal) ℓ) (g : Dev Cert.SgBwdIdeal.nD → PrngReg), Pre_SgBwdIdeal_sg_bwd_finite m →
    θ_run (Cert.SgBwdIdeal.defs (F := Ideal)) (onTc (τ := Cert.SgBwdIdeal.τ) (Cert.SgBwdIdeal.main (F := Ideal))) ⟨m, fun _ => 0, g⟩ (fun r => (∀ c : Dev Cert.SgBwdIdeal.nD,
      r.2.mem ((c.tc : Thread Cert.SgBwdIdeal.nD Cert.SgBwdIdeal.τ).loc Cert.SgBwdIdeal.main_arg0) = m ((c.tc : Thread Cert.SgBwdIdeal.nD Cert.SgBwdIdeal.τ).loc Cert.SgBwdIdeal.main_arg0)
      ∧ r.2.mem ((c.tc : Thread Cert.SgBwdIdeal.nD Cert.SgBwdIdeal.τ).loc Cert.SgBwdIdeal.main_arg1) = m ((c.tc : Thread Cert.SgBwdIdeal.nD Cert.SgBwdIdeal.τ).loc Cert.SgBwdIdeal.main_arg1)
      ∧ r.2.mem ((c.tc : Thread Cert.SgBwdIdeal.nD Cert.SgBwdIdeal.τ).loc Cert.SgBwdIdeal.main_arg2) = m ((c.tc : Thread Cert.SgBwdIdeal.nD Cert.SgBwdIdeal.τ).loc Cert.SgBwdIdeal.main_arg2)
      ∧ r.2.mem ((c.tc : Thread Cert.SgBwdIdeal.nD Cert.SgBwdIdeal.τ).loc Cert.SgBwdIdeal.main_arg3) = m ((c.tc : Thread Cert.SgBwdIdeal.nD Cert.SgBwdIdeal.τ).loc Cert.SgBwdIdeal.main_arg3)
      ∧ r.2.mem ((c.tc : Thread Cert.SgBwdIdeal.nD Cert.SgBwdIdeal.τ).loc Cert.SgBwdIdeal.main_arg4) = m ((c.tc : Thread Cert.SgBwdIdeal.nD Cert.SgBwdIdeal.τ).loc Cert.SgBwdIdeal.main_arg4)
      ∧ r.2.mem ((c.tc : Thread Cert.SgBwdIdeal.nD Cert.SgBwdIdeal.τ).loc Cert.SgBwdIdeal.main_arg5) = m ((c.tc : Thread Cert.SgBwdIdeal.nD Cert.SgBwdIdeal.τ).loc Cert.SgBwdIdeal.main_arg5)
      ∧ r.2.mem ((c.tc : Thread Cert.SgBwdIdeal.nD Cert.SgBwdIdeal.τ).loc Cert.SgBwdIdeal.main_arg6) = m ((c.tc : Thread Cert.SgBwdIdeal.nD Cert.SgBwdIdeal.τ).loc Cert.SgBwdIdeal.main_arg6))
      ∧ r.2.sem = fun _ => 0)

def quiescent_SgBwdRefIdeal [hSgBwdRefIdeal : Cert.SgBwdRefIdeal.Facts] : Prop :=
  ∀ (m : (ℓ : Loc Cert.SgBwdRefIdeal.nD Cert.SgBwdRefIdeal.τ Cert.SgBwdRefIdeal.sig) → Buf (Elt Ideal) ℓ) (g : Dev Cert.SgBwdRefIdeal.nD → PrngReg), Pre_SgBwdRefIdeal m →
    θ_run (Cert.SgBwdRefIdeal.defs (F := Ideal)) (onTc (τ := Cert.SgBwdRefIdeal.τ) (Cert.SgBwdRefIdeal.main (F := Ideal))) ⟨m, fun _ => 0, g⟩ (fun r => (∀ c : Dev Cert.SgBwdRefIdeal.nD,
      r.2.mem ((c.tc : Thread Cert.SgBwdRefIdeal.nD Cert.SgBwdRefIdeal.τ).loc Cert.SgBwdRefIdeal.main_arg0) = m ((c.tc : Thread Cert.SgBwdRefIdeal.nD Cert.SgBwdRefIdeal.τ).loc Cert.SgBwdRefIdeal.main_arg0)
      ∧ r.2.mem ((c.tc : Thread Cert.SgBwdRefIdeal.nD Cert.SgBwdRefIdeal.τ).loc Cert.SgBwdRefIdeal.main_arg1) = m ((c.tc : Thread Cert.SgBwdRefIdeal.nD Cert.SgBwdRefIdeal.τ).loc Cert.SgBwdRefIdeal.main_arg1)
      ∧ r.2.mem ((c.tc : Thread Cert.SgBwdRefIdeal.nD Cert.SgBwdRefIdeal.τ).loc Cert.SgBwdRefIdeal.main_arg2) = m ((c.tc : Thread Cert.SgBwdRefIdeal.nD Cert.SgBwdRefIdeal.τ).loc Cert.SgBwdRefIdeal.main_arg2)
      ∧ r.2.mem ((c.tc : Thread Cert.SgBwdRefIdeal.nD Cert.SgBwdRefIdeal.τ).loc Cert.SgBwdRefIdeal.main_arg3) = m ((c.tc : Thread Cert.SgBwdRefIdeal.nD Cert.SgBwdRefIdeal.τ).loc Cert.SgBwdRefIdeal.main_arg3)
      ∧ r.2.mem ((c.tc : Thread Cert.SgBwdRefIdeal.nD Cert.SgBwdRefIdeal.τ).loc Cert.SgBwdRefIdeal.main_arg4) = m ((c.tc : Thread Cert.SgBwdRefIdeal.nD Cert.SgBwdRefIdeal.τ).loc Cert.SgBwdRefIdeal.main_arg4)
      ∧ r.2.mem ((c.tc : Thread Cert.SgBwdRefIdeal.nD Cert.SgBwdRefIdeal.τ).loc Cert.SgBwdRefIdeal.main_arg5) = m ((c.tc : Thread Cert.SgBwdRefIdeal.nD Cert.SgBwdRefIdeal.τ).loc Cert.SgBwdRefIdeal.main_arg5)
      ∧ r.2.mem ((c.tc : Thread Cert.SgBwdRefIdeal.nD Cert.SgBwdRefIdeal.τ).loc Cert.SgBwdRefIdeal.main_arg6) = m ((c.tc : Thread Cert.SgBwdRefIdeal.nD Cert.SgBwdRefIdeal.τ).loc Cert.SgBwdRefIdeal.main_arg6))
      ∧ r.2.sem = fun _ => 0)

def quiescent_SgBwdRefIdeal_pre_sg_bwd_finite [hSgBwdRefIdeal : Cert.SgBwdRefIdeal.Facts] [hPre_sg_bwd_finite : Cert.Pre_sg_bwd_finite.Facts] : Prop :=
  ∀ (m : (ℓ : Loc Cert.SgBwdRefIdeal.nD Cert.SgBwdRefIdeal.τ Cert.SgBwdRefIdeal.sig) → Buf (Elt Ideal) ℓ) (g : Dev Cert.SgBwdRefIdeal.nD → PrngReg), Pre_SgBwdRefIdeal_sg_bwd_finite m →
    θ_run (Cert.SgBwdRefIdeal.defs (F := Ideal)) (onTc (τ := Cert.SgBwdRefIdeal.τ) (Cert.SgBwdRefIdeal.main (F := Ideal))) ⟨m, fun _ => 0, g⟩ (fun r => (∀ c : Dev Cert.SgBwdRefIdeal.nD,
      r.2.mem ((c.tc : Thread Cert.SgBwdRefIdeal.nD Cert.SgBwdRefIdeal.τ).loc Cert.SgBwdRefIdeal.main_arg0) = m ((c.tc : Thread Cert.SgBwdRefIdeal.nD Cert.SgBwdRefIdeal.τ).loc Cert.SgBwdRefIdeal.main_arg0)
      ∧ r.2.mem ((c.tc : Thread Cert.SgBwdRefIdeal.nD Cert.SgBwdRefIdeal.τ).loc Cert.SgBwdRefIdeal.main_arg1) = m ((c.tc : Thread Cert.SgBwdRefIdeal.nD Cert.SgBwdRefIdeal.τ).loc Cert.SgBwdRefIdeal.main_arg1)
      ∧ r.2.mem ((c.tc : Thread Cert.SgBwdRefIdeal.nD Cert.SgBwdRefIdeal.τ).loc Cert.SgBwdRefIdeal.main_arg2) = m ((c.tc : Thread Cert.SgBwdRefIdeal.nD Cert.SgBwdRefIdeal.τ).loc Cert.SgBwdRefIdeal.main_arg2)
      ∧ r.2.mem ((c.tc : Thread Cert.SgBwdRefIdeal.nD Cert.SgBwdRefIdeal.τ).loc Cert.SgBwdRefIdeal.main_arg3) = m ((c.tc : Thread Cert.SgBwdRefIdeal.nD Cert.SgBwdRefIdeal.τ).loc Cert.SgBwdRefIdeal.main_arg3)
      ∧ r.2.mem ((c.tc : Thread Cert.SgBwdRefIdeal.nD Cert.SgBwdRefIdeal.τ).loc Cert.SgBwdRefIdeal.main_arg4) = m ((c.tc : Thread Cert.SgBwdRefIdeal.nD Cert.SgBwdRefIdeal.τ).loc Cert.SgBwdRefIdeal.main_arg4)
      ∧ r.2.mem ((c.tc : Thread Cert.SgBwdRefIdeal.nD Cert.SgBwdRefIdeal.τ).loc Cert.SgBwdRefIdeal.main_arg5) = m ((c.tc : Thread Cert.SgBwdRefIdeal.nD Cert.SgBwdRefIdeal.τ).loc Cert.SgBwdRefIdeal.main_arg5)
      ∧ r.2.mem ((c.tc : Thread Cert.SgBwdRefIdeal.nD Cert.SgBwdRefIdeal.τ).loc Cert.SgBwdRefIdeal.main_arg6) = m ((c.tc : Thread Cert.SgBwdRefIdeal.nD Cert.SgBwdRefIdeal.τ).loc Cert.SgBwdRefIdeal.main_arg6))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_SgFwd [hSgFwd : Cert.SgFwd.Facts] : Prop :=
  ∀ (m : (ℓ : Loc Cert.SgFwd.nD Cert.SgFwd.τ Cert.SgFwd.sig) → Buf (Elt Bits) ℓ) (g : Dev Cert.SgFwd.nD → PrngReg), Pre_SgFwd m →
    θ_run (Cert.SgFwd.defs (F := Bits)) (onTc (τ := Cert.SgFwd.τ) (Cert.SgFwd.main (F := Bits))) ⟨m, fun _ => 0, g⟩ (fun r => (∀ c : Dev Cert.SgFwd.nD,
      r.2.mem ((c.tc : Thread Cert.SgFwd.nD Cert.SgFwd.τ).loc Cert.SgFwd.main_arg0) = m ((c.tc : Thread Cert.SgFwd.nD Cert.SgFwd.τ).loc Cert.SgFwd.main_arg0)
      ∧ r.2.mem ((c.tc : Thread Cert.SgFwd.nD Cert.SgFwd.τ).loc Cert.SgFwd.main_arg1) = m ((c.tc : Thread Cert.SgFwd.nD Cert.SgFwd.τ).loc Cert.SgFwd.main_arg1)
      ∧ r.2.mem ((c.tc : Thread Cert.SgFwd.nD Cert.SgFwd.τ).loc Cert.SgFwd.main_arg2) = m ((c.tc : Thread Cert.SgFwd.nD Cert.SgFwd.τ).loc Cert.SgFwd.main_arg2)
      ∧ r.2.mem ((c.tc : Thread Cert.SgFwd.nD Cert.SgFwd.τ).loc Cert.SgFwd.main_arg3) = m ((c.tc : Thread Cert.SgFwd.nD Cert.SgFwd.τ).loc Cert.SgFwd.main_arg3)
      ∧ r.2.mem ((c.tc : Thread Cert.SgFwd.nD Cert.SgFwd.τ).loc Cert.SgFwd.main_arg4) = m ((c.tc : Thread Cert.SgFwd.nD Cert.SgFwd.τ).loc Cert.SgFwd.main_arg4)
      ∧ r.2.mem ((c.tc : Thread Cert.SgFwd.nD Cert.SgFwd.τ).loc Cert.SgFwd.main_arg5) = m ((c.tc : Thread Cert.SgFwd.nD Cert.SgFwd.τ).loc Cert.SgFwd.main_arg5))
      ∧ r.2.sem = fun _ => 0)

def quiescent_SgFwdIdeal [hSgFwdIdeal : Cert.SgFwdIdeal.Facts] : Prop :=
  ∀ (m : (ℓ : Loc Cert.SgFwdIdeal.nD Cert.SgFwdIdeal.τ Cert.SgFwdIdeal.sig) → Buf (Elt Ideal) ℓ) (g : Dev Cert.SgFwdIdeal.nD → PrngReg), Pre_SgFwdIdeal m →
    θ_run (Cert.SgFwdIdeal.defs (F := Ideal)) (onTc (τ := Cert.SgFwdIdeal.τ) (Cert.SgFwdIdeal.main (F := Ideal))) ⟨m, fun _ => 0, g⟩ (fun r => (∀ c : Dev Cert.SgFwdIdeal.nD,
      r.2.mem ((c.tc : Thread Cert.SgFwdIdeal.nD Cert.SgFwdIdeal.τ).loc Cert.SgFwdIdeal.main_arg0) = m ((c.tc : Thread Cert.SgFwdIdeal.nD Cert.SgFwdIdeal.τ).loc Cert.SgFwdIdeal.main_arg0)
      ∧ r.2.mem ((c.tc : Thread Cert.SgFwdIdeal.nD Cert.SgFwdIdeal.τ).loc Cert.SgFwdIdeal.main_arg1) = m ((c.tc : Thread Cert.SgFwdIdeal.nD Cert.SgFwdIdeal.τ).loc Cert.SgFwdIdeal.main_arg1)
      ∧ r.2.mem ((c.tc : Thread Cert.SgFwdIdeal.nD Cert.SgFwdIdeal.τ).loc Cert.SgFwdIdeal.main_arg2) = m ((c.tc : Thread Cert.SgFwdIdeal.nD Cert.SgFwdIdeal.τ).loc Cert.SgFwdIdeal.main_arg2)
      ∧ r.2.mem ((c.tc : Thread Cert.SgFwdIdeal.nD Cert.SgFwdIdeal.τ).loc Cert.SgFwdIdeal.main_arg3) = m ((c.tc : Thread Cert.SgFwdIdeal.nD Cert.SgFwdIdeal.τ).loc Cert.SgFwdIdeal.main_arg3)
      ∧ r.2.mem ((c.tc : Thread Cert.SgFwdIdeal.nD Cert.SgFwdIdeal.τ).loc Cert.SgFwdIdeal.main_arg4) = m ((c.tc : Thread Cert.SgFwdIdeal.nD Cert.SgFwdIdeal.τ).loc Cert.SgFwdIdeal.main_arg4)
      ∧ r.2.mem ((c.tc : Thread Cert.SgFwdIdeal.nD Cert.SgFwdIdeal.τ).loc Cert.SgFwdIdeal.main_arg5) = m ((c.tc : Thread Cert.SgFwdIdeal.nD Cert.SgFwdIdeal.τ).loc Cert.SgFwdIdeal.main_arg5))
      ∧ r.2.sem = fun _ => 0)

def quiescent_SgFwdRefIdeal [hSgFwdRefIdeal : Cert.SgFwdRefIdeal.Facts] : Prop :=
  ∀ (m : (ℓ : Loc Cert.SgFwdRefIdeal.nD Cert.SgFwdRefIdeal.τ Cert.SgFwdRefIdeal.sig) → Buf (Elt Ideal) ℓ) (g : Dev Cert.SgFwdRefIdeal.nD → PrngReg), Pre_SgFwdRefIdeal m →
    θ_run (Cert.SgFwdRefIdeal.defs (F := Ideal)) (onTc (τ := Cert.SgFwdRefIdeal.τ) (Cert.SgFwdRefIdeal.main (F := Ideal))) ⟨m, fun _ => 0, g⟩ (fun r => (∀ c : Dev Cert.SgFwdRefIdeal.nD,
      r.2.mem ((c.tc : Thread Cert.SgFwdRefIdeal.nD Cert.SgFwdRefIdeal.τ).loc Cert.SgFwdRefIdeal.main_arg0) = m ((c.tc : Thread Cert.SgFwdRefIdeal.nD Cert.SgFwdRefIdeal.τ).loc Cert.SgFwdRefIdeal.main_arg0)
      ∧ r.2.mem ((c.tc : Thread Cert.SgFwdRefIdeal.nD Cert.SgFwdRefIdeal.τ).loc Cert.SgFwdRefIdeal.main_arg1) = m ((c.tc : Thread Cert.SgFwdRefIdeal.nD Cert.SgFwdRefIdeal.τ).loc Cert.SgFwdRefIdeal.main_arg1)
      ∧ r.2.mem ((c.tc : Thread Cert.SgFwdRefIdeal.nD Cert.SgFwdRefIdeal.τ).loc Cert.SgFwdRefIdeal.main_arg2) = m ((c.tc : Thread Cert.SgFwdRefIdeal.nD Cert.SgFwdRefIdeal.τ).loc Cert.SgFwdRefIdeal.main_arg2)
      ∧ r.2.mem ((c.tc : Thread Cert.SgFwdRefIdeal.nD Cert.SgFwdRefIdeal.τ).loc Cert.SgFwdRefIdeal.main_arg3) = m ((c.tc : Thread Cert.SgFwdRefIdeal.nD Cert.SgFwdRefIdeal.τ).loc Cert.SgFwdRefIdeal.main_arg3)
      ∧ r.2.mem ((c.tc : Thread Cert.SgFwdRefIdeal.nD Cert.SgFwdRefIdeal.τ).loc Cert.SgFwdRefIdeal.main_arg4) = m ((c.tc : Thread Cert.SgFwdRefIdeal.nD Cert.SgFwdRefIdeal.τ).loc Cert.SgFwdRefIdeal.main_arg4)
      ∧ r.2.mem ((c.tc : Thread Cert.SgFwdRefIdeal.nD Cert.SgFwdRefIdeal.τ).loc Cert.SgFwdRefIdeal.main_arg5) = m ((c.tc : Thread Cert.SgFwdRefIdeal.nD Cert.SgFwdRefIdeal.τ).loc Cert.SgFwdRefIdeal.main_arg5))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_LbsFwd [hLbsFwd : Cert.LbsFwd.Facts] : Prop :=
  ∀ (m : (ℓ : Loc Cert.LbsFwd.nD Cert.LbsFwd.τ Cert.LbsFwd.sig) → Buf (Elt Bits) ℓ) (g : Dev Cert.LbsFwd.nD → PrngReg), Pre_LbsFwd m →
    θ_run (Cert.LbsFwd.defs (F := Bits)) (onTc (τ := Cert.LbsFwd.τ) (Cert.LbsFwd.main (F := Bits))) ⟨m, fun _ => 0, g⟩ (fun r => (∀ c : Dev Cert.LbsFwd.nD,
      r.2.mem ((c.tc : Thread Cert.LbsFwd.nD Cert.LbsFwd.τ).loc Cert.LbsFwd.main_arg0) = m ((c.tc : Thread Cert.LbsFwd.nD Cert.LbsFwd.τ).loc Cert.LbsFwd.main_arg0))
      ∧ r.2.sem = fun _ => 0)

def quiescent_LbsFwdIdeal [hLbsFwdIdeal : Cert.LbsFwdIdeal.Facts] : Prop :=
  ∀ (m : (ℓ : Loc Cert.LbsFwdIdeal.nD Cert.LbsFwdIdeal.τ Cert.LbsFwdIdeal.sig) → Buf (Elt Ideal) ℓ) (g : Dev Cert.LbsFwdIdeal.nD → PrngReg), Pre_LbsFwdIdeal m →
    θ_run (Cert.LbsFwdIdeal.defs (F := Ideal)) (onTc (τ := Cert.LbsFwdIdeal.τ) (Cert.LbsFwdIdeal.main (F := Ideal))) ⟨m, fun _ => 0, g⟩ (fun r => (∀ c : Dev Cert.LbsFwdIdeal.nD,
      r.2.mem ((c.tc : Thread Cert.LbsFwdIdeal.nD Cert.LbsFwdIdeal.τ).loc Cert.LbsFwdIdeal.main_arg0) = m ((c.tc : Thread Cert.LbsFwdIdeal.nD Cert.LbsFwdIdeal.τ).loc Cert.LbsFwdIdeal.main_arg0))
      ∧ r.2.sem = fun _ => 0)

def quiescent_LbsFwdIdeal_pre_lbs_fwd_finite [hLbsFwdIdeal : Cert.LbsFwdIdeal.Facts] [hPre_lbs_fwd_finite : Cert.Pre_lbs_fwd_finite.Facts] : Prop :=
  ∀ (m : (ℓ : Loc Cert.LbsFwdIdeal.nD Cert.LbsFwdIdeal.τ Cert.LbsFwdIdeal.sig) → Buf (Elt Ideal) ℓ) (g : Dev Cert.LbsFwdIdeal.nD → PrngReg), Pre_LbsFwdIdeal_lbs_fwd_finite m →
    θ_run (Cert.LbsFwdIdeal.defs (F := Ideal)) (onTc (τ := Cert.LbsFwdIdeal.τ) (Cert.LbsFwdIdeal.main (F := Ideal))) ⟨m, fun _ => 0, g⟩ (fun r => (∀ c : Dev Cert.LbsFwdIdeal.nD,
      r.2.mem ((c.tc : Thread Cert.LbsFwdIdeal.nD Cert.LbsFwdIdeal.τ).loc Cert.LbsFwdIdeal.main_arg0) = m ((c.tc : Thread Cert.LbsFwdIdeal.nD Cert.LbsFwdIdeal.τ).loc Cert.LbsFwdIdeal.main_arg0))
      ∧ r.2.sem = fun _ => 0)

def quiescent_LbsFwdRefIdeal [hLbsFwdRefIdeal : Cert.LbsFwdRefIdeal.Facts] : Prop :=
  ∀ (m : (ℓ : Loc Cert.LbsFwdRefIdeal.nD Cert.LbsFwdRefIdeal.τ Cert.LbsFwdRefIdeal.sig) → Buf (Elt Ideal) ℓ) (g : Dev Cert.LbsFwdRefIdeal.nD → PrngReg), Pre_LbsFwdRefIdeal m →
    θ_run (Cert.LbsFwdRefIdeal.defs (F := Ideal)) (onTc (τ := Cert.LbsFwdRefIdeal.τ) (Cert.LbsFwdRefIdeal.main (F := Ideal))) ⟨m, fun _ => 0, g⟩ (fun r => (∀ c : Dev Cert.LbsFwdRefIdeal.nD,
      r.2.mem ((c.tc : Thread Cert.LbsFwdRefIdeal.nD Cert.LbsFwdRefIdeal.τ).loc Cert.LbsFwdRefIdeal.main_arg0) = m ((c.tc : Thread Cert.LbsFwdRefIdeal.nD Cert.LbsFwdRefIdeal.τ).loc Cert.LbsFwdRefIdeal.main_arg0))
      ∧ r.2.sem = fun _ => 0)

def quiescent_LbsFwdRefIdeal_pre_lbs_fwd_finite [hLbsFwdRefIdeal : Cert.LbsFwdRefIdeal.Facts] [hPre_lbs_fwd_finite : Cert.Pre_lbs_fwd_finite.Facts] : Prop :=
  ∀ (m : (ℓ : Loc Cert.LbsFwdRefIdeal.nD Cert.LbsFwdRefIdeal.τ Cert.LbsFwdRefIdeal.sig) → Buf (Elt Ideal) ℓ) (g : Dev Cert.LbsFwdRefIdeal.nD → PrngReg), Pre_LbsFwdRefIdeal_lbs_fwd_finite m →
    θ_run (Cert.LbsFwdRefIdeal.defs (F := Ideal)) (onTc (τ := Cert.LbsFwdRefIdeal.τ) (Cert.LbsFwdRefIdeal.main (F := Ideal))) ⟨m, fun _ => 0, g⟩ (fun r => (∀ c : Dev Cert.LbsFwdRefIdeal.nD,
      r.2.mem ((c.tc : Thread Cert.LbsFwdRefIdeal.nD Cert.LbsFwdRefIdeal.τ).loc Cert.LbsFwdRefIdeal.main_arg0) = m ((c.tc : Thread Cert.LbsFwdRefIdeal.nD Cert.LbsFwdRefIdeal.τ).loc Cert.LbsFwdRefIdeal.main_arg0))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_SumDevices [hSumDevices : Cert.SumDevices.Facts] : Prop :=
  ∀ (m : (ℓ : Loc Cert.SumDevices.nD Cert.SumDevices.τ Cert.SumDevices.sig) → Buf (Elt Bits) ℓ) (g : Dev Cert.SumDevices.nD → PrngReg), Pre_SumDevices m →
    θ_run (Cert.SumDevices.defs (F := Bits)) (onTc (τ := Cert.SumDevices.τ) (Cert.SumDevices.main (F := Bits))) ⟨m, fun _ => 0, g⟩ (fun r => (∀ c : Dev Cert.SumDevices.nD,
      r.2.mem ((c.tc : Thread Cert.SumDevices.nD Cert.SumDevices.τ).loc Cert.SumDevices.main_arg0) = m ((c.tc : Thread Cert.SumDevices.nD Cert.SumDevices.τ).loc Cert.SumDevices.main_arg0))
      ∧ r.2.sem = fun _ => 0)

def quiescent_SumDevicesIdeal [hSumDevicesIdeal : Cert.SumDevicesIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg), Pre_SumDevicesIdeal m →
    θ_run (Cert.SumDevicesIdeal.defs (F := Ideal)) (onTc (τ := Cert.SumDevicesIdeal.τ) (Cert.SumDevicesIdeal.main (F := Ideal))) ⟨m, fun _ => 0, g⟩ (fun r => (∀ c : Dev Cert.SumDevicesIdeal.nD,
      r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ r.2.sem = fun _ => 0)

def quiescent_SumDevicesRefIdeal [hSumDevicesRefIdeal : Cert.SumDevicesRefIdeal.Facts] : Prop :=
  ∀ (m : (ℓ : Loc Cert.SumDevicesRefIdeal.nD Cert.SumDevicesRefIdeal.τ Cert.SumDevicesRefIdeal.sig) → Buf (Elt Ideal) ℓ) (g : Dev Cert.SumDevicesRefIdeal.nD → PrngReg), Pre_SumDevicesRefIdeal m →
    θ_run (Cert.SumDevicesRefIdeal.defs (F := Ideal)) (onTc (τ := Cert.SumDevicesRefIdeal.τ) (Cert.SumDevicesRefIdeal.main (F := Ideal))) ⟨m, fun _ => 0, g⟩ (fun r => (∀ c : Dev Cert.SumDevicesRefIdeal.nD,
      r.2.mem ((c.tc : Thread Cert.SumDevicesRefIdeal.nD Cert.SumDevicesRefIdeal.τ).loc Cert.SumDevicesRefIdeal.main_arg0) = m ((c.tc : Thread Cert.SumDevicesRefIdeal.nD Cert.SumDevicesRefIdeal.τ).loc Cert.SumDevicesRefIdeal.main_arg0))
      ∧ r.2.sem = fun _ => 0)

def quiescent_AdamwFlat [hAdamwFlat : Cert.AdamwFlat.Facts] : Prop :=
  ∀ (m : (ℓ : Loc Cert.AdamwFlat.nD Cert.AdamwFlat.τ Cert.AdamwFlat.sig) → Buf (Elt Bits) ℓ) (g : Dev Cert.AdamwFlat.nD → PrngReg), Pre_AdamwFlat m →
    θ_run (Cert.AdamwFlat.defs (F := Bits)) (onTc (τ := Cert.AdamwFlat.τ) (Cert.AdamwFlat.main (F := Bits))) ⟨m, fun _ => 0, g⟩ (fun r => (∀ c : Dev Cert.AdamwFlat.nD,
      r.2.mem ((c.tc : Thread Cert.AdamwFlat.nD Cert.AdamwFlat.τ).loc Cert.AdamwFlat.main_arg0) = m ((c.tc : Thread Cert.AdamwFlat.nD Cert.AdamwFlat.τ).loc Cert.AdamwFlat.main_arg0)
      ∧ r.2.mem ((c.tc : Thread Cert.AdamwFlat.nD Cert.AdamwFlat.τ).loc Cert.AdamwFlat.main_arg1) = m ((c.tc : Thread Cert.AdamwFlat.nD Cert.AdamwFlat.τ).loc Cert.AdamwFlat.main_arg1)
      ∧ r.2.mem ((c.tc : Thread Cert.AdamwFlat.nD Cert.AdamwFlat.τ).loc Cert.AdamwFlat.main_arg2) = m ((c.tc : Thread Cert.AdamwFlat.nD Cert.AdamwFlat.τ).loc Cert.AdamwFlat.main_arg2)
      ∧ r.2.mem ((c.tc : Thread Cert.AdamwFlat.nD Cert.AdamwFlat.τ).loc Cert.AdamwFlat.main_arg3) = m ((c.tc : Thread Cert.AdamwFlat.nD Cert.AdamwFlat.τ).loc Cert.AdamwFlat.main_arg3))
      ∧ r.2.sem = fun _ => 0)

def quiescent_AdamwFlatIdeal [hAdamwFlatIdeal : Cert.AdamwFlatIdeal.Facts] : Prop :=
  ∀ (m : (ℓ : Loc Cert.AdamwFlatIdeal.nD Cert.AdamwFlatIdeal.τ Cert.AdamwFlatIdeal.sig) → Buf (Elt Ideal) ℓ) (g : Dev Cert.AdamwFlatIdeal.nD → PrngReg), Pre_AdamwFlatIdeal m →
    θ_run (Cert.AdamwFlatIdeal.defs (F := Ideal)) (onTc (τ := Cert.AdamwFlatIdeal.τ) (Cert.AdamwFlatIdeal.main (F := Ideal))) ⟨m, fun _ => 0, g⟩ (fun r => (∀ c : Dev Cert.AdamwFlatIdeal.nD,
      r.2.mem ((c.tc : Thread Cert.AdamwFlatIdeal.nD Cert.AdamwFlatIdeal.τ).loc Cert.AdamwFlatIdeal.main_arg0) = m ((c.tc : Thread Cert.AdamwFlatIdeal.nD Cert.AdamwFlatIdeal.τ).loc Cert.AdamwFlatIdeal.main_arg0)
      ∧ r.2.mem ((c.tc : Thread Cert.AdamwFlatIdeal.nD Cert.AdamwFlatIdeal.τ).loc Cert.AdamwFlatIdeal.main_arg1) = m ((c.tc : Thread Cert.AdamwFlatIdeal.nD Cert.AdamwFlatIdeal.τ).loc Cert.AdamwFlatIdeal.main_arg1)
      ∧ r.2.mem ((c.tc : Thread Cert.AdamwFlatIdeal.nD Cert.AdamwFlatIdeal.τ).loc Cert.AdamwFlatIdeal.main_arg2) = m ((c.tc : Thread Cert.AdamwFlatIdeal.nD Cert.AdamwFlatIdeal.τ).loc Cert.AdamwFlatIdeal.main_arg2)
      ∧ r.2.mem ((c.tc : Thread Cert.AdamwFlatIdeal.nD Cert.AdamwFlatIdeal.τ).loc Cert.AdamwFlatIdeal.main_arg3) = m ((c.tc : Thread Cert.AdamwFlatIdeal.nD Cert.AdamwFlatIdeal.τ).loc Cert.AdamwFlatIdeal.main_arg3))
      ∧ r.2.sem = fun _ => 0)

def quiescent_AdamwFlatRefIdeal [hAdamwFlatRefIdeal : Cert.AdamwFlatRefIdeal.Facts] : Prop :=
  ∀ (m : (ℓ : Loc Cert.AdamwFlatRefIdeal.nD Cert.AdamwFlatRefIdeal.τ Cert.AdamwFlatRefIdeal.sig) → Buf (Elt Ideal) ℓ) (g : Dev Cert.AdamwFlatRefIdeal.nD → PrngReg), Pre_AdamwFlatRefIdeal m →
    θ_run (Cert.AdamwFlatRefIdeal.defs (F := Ideal)) (onTc (τ := Cert.AdamwFlatRefIdeal.τ) (Cert.AdamwFlatRefIdeal.main (F := Ideal))) ⟨m, fun _ => 0, g⟩ (fun r => (∀ c : Dev Cert.AdamwFlatRefIdeal.nD,
      r.2.mem ((c.tc : Thread Cert.AdamwFlatRefIdeal.nD Cert.AdamwFlatRefIdeal.τ).loc Cert.AdamwFlatRefIdeal.main_arg0) = m ((c.tc : Thread Cert.AdamwFlatRefIdeal.nD Cert.AdamwFlatRefIdeal.τ).loc Cert.AdamwFlatRefIdeal.main_arg0)
      ∧ r.2.mem ((c.tc : Thread Cert.AdamwFlatRefIdeal.nD Cert.AdamwFlatRefIdeal.τ).loc Cert.AdamwFlatRefIdeal.main_arg1) = m ((c.tc : Thread Cert.AdamwFlatRefIdeal.nD Cert.AdamwFlatRefIdeal.τ).loc Cert.AdamwFlatRefIdeal.main_arg1)
      ∧ r.2.mem ((c.tc : Thread Cert.AdamwFlatRefIdeal.nD Cert.AdamwFlatRefIdeal.τ).loc Cert.AdamwFlatRefIdeal.main_arg2) = m ((c.tc : Thread Cert.AdamwFlatRefIdeal.nD Cert.AdamwFlatRefIdeal.τ).loc Cert.AdamwFlatRefIdeal.main_arg2)
      ∧ r.2.mem ((c.tc : Thread Cert.AdamwFlatRefIdeal.nD Cert.AdamwFlatRefIdeal.τ).loc Cert.AdamwFlatRefIdeal.main_arg3) = m ((c.tc : Thread Cert.AdamwFlatRefIdeal.nD Cert.AdamwFlatRefIdeal.τ).loc Cert.AdamwFlatRefIdeal.main_arg3))
      ∧ r.2.sem = fun _ => 0)

def quiescent_AdamwLayers [hAdamwLayers : Cert.AdamwLayers.Facts] : Prop :=
  ∀ (m : (ℓ : Loc Cert.AdamwLayers.nD Cert.AdamwLayers.τ Cert.AdamwLayers.sig) → Buf (Elt Bits) ℓ) (g : Dev Cert.AdamwLayers.nD → PrngReg), Pre_AdamwLayers m →
    θ_run (Cert.AdamwLayers.defs (F := Bits)) (onTc (τ := Cert.AdamwLayers.τ) (Cert.AdamwLayers.main (F := Bits))) ⟨m, fun _ => 0, g⟩ (fun r => (∀ c : Dev Cert.AdamwLayers.nD,
      r.2.mem ((c.tc : Thread Cert.AdamwLayers.nD Cert.AdamwLayers.τ).loc Cert.AdamwLayers.main_arg0) = m ((c.tc : Thread Cert.AdamwLayers.nD Cert.AdamwLayers.τ).loc Cert.AdamwLayers.main_arg0)
      ∧ r.2.mem ((c.tc : Thread Cert.AdamwLayers.nD Cert.AdamwLayers.τ).loc Cert.AdamwLayers.main_arg1) = m ((c.tc : Thread Cert.AdamwLayers.nD Cert.AdamwLayers.τ).loc Cert.AdamwLayers.main_arg1)
      ∧ r.2.mem ((c.tc : Thread Cert.AdamwLayers.nD Cert.AdamwLayers.τ).loc Cert.AdamwLayers.main_arg2) = m ((c.tc : Thread Cert.AdamwLayers.nD Cert.AdamwLayers.τ).loc Cert.AdamwLayers.main_arg2)
      ∧ r.2.mem ((c.tc : Thread Cert.AdamwLayers.nD Cert.AdamwLayers.τ).loc Cert.AdamwLayers.main_arg3) = m ((c.tc : Thread Cert.AdamwLayers.nD Cert.AdamwLayers.τ).loc Cert.AdamwLayers.main_arg3)
      ∧ r.2.mem ((c.tc : Thread Cert.AdamwLayers.nD Cert.AdamwLayers.τ).loc Cert.AdamwLayers.main_arg4) = m ((c.tc : Thread Cert.AdamwLayers.nD Cert.AdamwLayers.τ).loc Cert.AdamwLayers.main_arg4)
      ∧ r.2.mem ((c.tc : Thread Cert.AdamwLayers.nD Cert.AdamwLayers.τ).loc Cert.AdamwLayers.main_arg5) = m ((c.tc : Thread Cert.AdamwLayers.nD Cert.AdamwLayers.τ).loc Cert.AdamwLayers.main_arg5)
      ∧ r.2.mem ((c.tc : Thread Cert.AdamwLayers.nD Cert.AdamwLayers.τ).loc Cert.AdamwLayers.main_arg6) = m ((c.tc : Thread Cert.AdamwLayers.nD Cert.AdamwLayers.τ).loc Cert.AdamwLayers.main_arg6))
      ∧ r.2.sem = fun _ => 0)

def quiescent_AdamwLayersIdeal [hAdamwLayersIdeal : Cert.AdamwLayersIdeal.Facts] : Prop :=
  ∀ (m : (ℓ : Loc Cert.AdamwLayersIdeal.nD Cert.AdamwLayersIdeal.τ Cert.AdamwLayersIdeal.sig) → Buf (Elt Ideal) ℓ) (g : Dev Cert.AdamwLayersIdeal.nD → PrngReg), Pre_AdamwLayersIdeal m →
    θ_run (Cert.AdamwLayersIdeal.defs (F := Ideal)) (onTc (τ := Cert.AdamwLayersIdeal.τ) (Cert.AdamwLayersIdeal.main (F := Ideal))) ⟨m, fun _ => 0, g⟩ (fun r => (∀ c : Dev Cert.AdamwLayersIdeal.nD,
      r.2.mem ((c.tc : Thread Cert.AdamwLayersIdeal.nD Cert.AdamwLayersIdeal.τ).loc Cert.AdamwLayersIdeal.main_arg0) = m ((c.tc : Thread Cert.AdamwLayersIdeal.nD Cert.AdamwLayersIdeal.τ).loc Cert.AdamwLayersIdeal.main_arg0)
      ∧ r.2.mem ((c.tc : Thread Cert.AdamwLayersIdeal.nD Cert.AdamwLayersIdeal.τ).loc Cert.AdamwLayersIdeal.main_arg1) = m ((c.tc : Thread Cert.AdamwLayersIdeal.nD Cert.AdamwLayersIdeal.τ).loc Cert.AdamwLayersIdeal.main_arg1)
      ∧ r.2.mem ((c.tc : Thread Cert.AdamwLayersIdeal.nD Cert.AdamwLayersIdeal.τ).loc Cert.AdamwLayersIdeal.main_arg2) = m ((c.tc : Thread Cert.AdamwLayersIdeal.nD Cert.AdamwLayersIdeal.τ).loc Cert.AdamwLayersIdeal.main_arg2)
      ∧ r.2.mem ((c.tc : Thread Cert.AdamwLayersIdeal.nD Cert.AdamwLayersIdeal.τ).loc Cert.AdamwLayersIdeal.main_arg3) = m ((c.tc : Thread Cert.AdamwLayersIdeal.nD Cert.AdamwLayersIdeal.τ).loc Cert.AdamwLayersIdeal.main_arg3)
      ∧ r.2.mem ((c.tc : Thread Cert.AdamwLayersIdeal.nD Cert.AdamwLayersIdeal.τ).loc Cert.AdamwLayersIdeal.main_arg4) = m ((c.tc : Thread Cert.AdamwLayersIdeal.nD Cert.AdamwLayersIdeal.τ).loc Cert.AdamwLayersIdeal.main_arg4)
      ∧ r.2.mem ((c.tc : Thread Cert.AdamwLayersIdeal.nD Cert.AdamwLayersIdeal.τ).loc Cert.AdamwLayersIdeal.main_arg5) = m ((c.tc : Thread Cert.AdamwLayersIdeal.nD Cert.AdamwLayersIdeal.τ).loc Cert.AdamwLayersIdeal.main_arg5)
      ∧ r.2.mem ((c.tc : Thread Cert.AdamwLayersIdeal.nD Cert.AdamwLayersIdeal.τ).loc Cert.AdamwLayersIdeal.main_arg6) = m ((c.tc : Thread Cert.AdamwLayersIdeal.nD Cert.AdamwLayersIdeal.τ).loc Cert.AdamwLayersIdeal.main_arg6))
      ∧ r.2.sem = fun _ => 0)

def quiescent_AdamwLayersRefIdeal [hAdamwLayersRefIdeal : Cert.AdamwLayersRefIdeal.Facts] : Prop :=
  ∀ (m : (ℓ : Loc Cert.AdamwLayersRefIdeal.nD Cert.AdamwLayersRefIdeal.τ Cert.AdamwLayersRefIdeal.sig) → Buf (Elt Ideal) ℓ) (g : Dev Cert.AdamwLayersRefIdeal.nD → PrngReg), Pre_AdamwLayersRefIdeal m →
    θ_run (Cert.AdamwLayersRefIdeal.defs (F := Ideal)) (onTc (τ := Cert.AdamwLayersRefIdeal.τ) (Cert.AdamwLayersRefIdeal.main (F := Ideal))) ⟨m, fun _ => 0, g⟩ (fun r => (∀ c : Dev Cert.AdamwLayersRefIdeal.nD,
      r.2.mem ((c.tc : Thread Cert.AdamwLayersRefIdeal.nD Cert.AdamwLayersRefIdeal.τ).loc Cert.AdamwLayersRefIdeal.main_arg0) = m ((c.tc : Thread Cert.AdamwLayersRefIdeal.nD Cert.AdamwLayersRefIdeal.τ).loc Cert.AdamwLayersRefIdeal.main_arg0)
      ∧ r.2.mem ((c.tc : Thread Cert.AdamwLayersRefIdeal.nD Cert.AdamwLayersRefIdeal.τ).loc Cert.AdamwLayersRefIdeal.main_arg1) = m ((c.tc : Thread Cert.AdamwLayersRefIdeal.nD Cert.AdamwLayersRefIdeal.τ).loc Cert.AdamwLayersRefIdeal.main_arg1)
      ∧ r.2.mem ((c.tc : Thread Cert.AdamwLayersRefIdeal.nD Cert.AdamwLayersRefIdeal.τ).loc Cert.AdamwLayersRefIdeal.main_arg2) = m ((c.tc : Thread Cert.AdamwLayersRefIdeal.nD Cert.AdamwLayersRefIdeal.τ).loc Cert.AdamwLayersRefIdeal.main_arg2)
      ∧ r.2.mem ((c.tc : Thread Cert.AdamwLayersRefIdeal.nD Cert.AdamwLayersRefIdeal.τ).loc Cert.AdamwLayersRefIdeal.main_arg3) = m ((c.tc : Thread Cert.AdamwLayersRefIdeal.nD Cert.AdamwLayersRefIdeal.τ).loc Cert.AdamwLayersRefIdeal.main_arg3)
      ∧ r.2.mem ((c.tc : Thread Cert.AdamwLayersRefIdeal.nD Cert.AdamwLayersRefIdeal.τ).loc Cert.AdamwLayersRefIdeal.main_arg4) = m ((c.tc : Thread Cert.AdamwLayersRefIdeal.nD Cert.AdamwLayersRefIdeal.τ).loc Cert.AdamwLayersRefIdeal.main_arg4)
      ∧ r.2.mem ((c.tc : Thread Cert.AdamwLayersRefIdeal.nD Cert.AdamwLayersRefIdeal.τ).loc Cert.AdamwLayersRefIdeal.main_arg5) = m ((c.tc : Thread Cert.AdamwLayersRefIdeal.nD Cert.AdamwLayersRefIdeal.τ).loc Cert.AdamwLayersRefIdeal.main_arg5)
      ∧ r.2.mem ((c.tc : Thread Cert.AdamwLayersRefIdeal.nD Cert.AdamwLayersRefIdeal.τ).loc Cert.AdamwLayersRefIdeal.main_arg6) = m ((c.tc : Thread Cert.AdamwLayersRefIdeal.nD Cert.AdamwLayersRefIdeal.τ).loc Cert.AdamwLayersRefIdeal.main_arg6))
      ∧ r.2.sem = fun _ => 0)

def quiescent_InWgrad [hInWgrad : Cert.InWgrad.Facts] : Prop :=
  ∀ (m : (ℓ : Loc Cert.InWgrad.nD Cert.InWgrad.τ Cert.InWgrad.sig) → Buf (Elt Bits) ℓ) (g : Dev Cert.InWgrad.nD → PrngReg), Pre_InWgrad m →
    θ_run (Cert.InWgrad.defs (F := Bits)) (onTc (τ := Cert.InWgrad.τ) (Cert.InWgrad.main (F := Bits))) ⟨m, fun _ => 0, g⟩ (fun r => (∀ c : Dev Cert.InWgrad.nD,
      r.2.mem ((c.tc : Thread Cert.InWgrad.nD Cert.InWgrad.τ).loc Cert.InWgrad.main_arg0) = m ((c.tc : Thread Cert.InWgrad.nD Cert.InWgrad.τ).loc Cert.InWgrad.main_arg0)
      ∧ r.2.mem ((c.tc : Thread Cert.InWgrad.nD Cert.InWgrad.τ).loc Cert.InWgrad.main_arg1) = m ((c.tc : Thread Cert.InWgrad.nD Cert.InWgrad.τ).loc Cert.InWgrad.main_arg1))
      ∧ r.2.sem = fun _ => 0)

def quiescent_InWgradIdeal [hInWgradIdeal : Cert.InWgradIdeal.Facts] : Prop :=
  ∀ (m : (ℓ : Loc Cert.InWgradIdeal.nD Cert.InWgradIdeal.τ Cert.InWgradIdeal.sig) → Buf (Elt Ideal) ℓ) (g : Dev Cert.InWgradIdeal.nD → PrngReg), Pre_InWgradIdeal m →
    θ_run (Cert.InWgradIdeal.defs (F := Ideal)) (onTc (τ := Cert.InWgradIdeal.τ) (Cert.InWgradIdeal.main (F := Ideal))) ⟨m, fun _ => 0, g⟩ (fun r => (∀ c : Dev Cert.InWgradIdeal.nD,
      r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
      ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1))
      ∧ r.2.sem = fun _ => 0)

def quiescent_InWgradRefIdeal [hInWgradRefIdeal : Cert.InWgradRefIdeal.Facts] : Prop :=
  ∀ (m : (ℓ : Loc Cert.InWgradRefIdeal.nD Cert.InWgradRefIdeal.τ Cert.InWgradRefIdeal.sig) → Buf (Elt Ideal) ℓ) (g : Dev Cert.InWgradRefIdeal.nD → PrngReg), Pre_InWgradRefIdeal m →
    θ_run (Cert.InWgradRefIdeal.defs (F := Ideal)) (onTc (τ := Cert.InWgradRefIdeal.τ) (Cert.InWgradRefIdeal.main (F := Ideal))) ⟨m, fun _ => 0, g⟩ (fun r => (∀ c : Dev Cert.InWgradRefIdeal.nD,
      r.2.mem ((c.tc : Thread Cert.InWgradRefIdeal.nD Cert.InWgradRefIdeal.τ).loc Cert.InWgradRefIdeal.main_arg0) = m ((c.tc : Thread Cert.InWgradRefIdeal.nD Cert.InWgradRefIdeal.τ).loc Cert.InWgradRefIdeal.main_arg0)
      ∧ r.2.mem ((c.tc : Thread Cert.InWgradRefIdeal.nD Cert.InWgradRefIdeal.τ).loc Cert.InWgradRefIdeal.main_arg1) = m ((c.tc : Thread Cert.InWgradRefIdeal.nD Cert.InWgradRefIdeal.τ).loc Cert.InWgradRefIdeal.main_arg1))
      ∧ r.2.sem = fun _ => 0)

def quiescent_OutDgrad [hOutDgrad : Cert.OutDgrad.Facts] : Prop :=
  ∀ (m : (ℓ : Loc Cert.OutDgrad.nD Cert.OutDgrad.τ Cert.OutDgrad.sig) → Buf (Elt Bits) ℓ) (g : Dev Cert.OutDgrad.nD → PrngReg), Pre_OutDgrad m →
    θ_run (Cert.OutDgrad.defs (F := Bits)) (onTc (τ := Cert.OutDgrad.τ) (Cert.OutDgrad.main (F := Bits))) ⟨m, fun _ => 0, g⟩ (fun r => (∀ c : Dev Cert.OutDgrad.nD,
      r.2.mem ((c.tc : Thread Cert.OutDgrad.nD Cert.OutDgrad.τ).loc Cert.OutDgrad.main_arg0) = m ((c.tc : Thread Cert.OutDgrad.nD Cert.OutDgrad.τ).loc Cert.OutDgrad.main_arg0)
      ∧ r.2.mem ((c.tc : Thread Cert.OutDgrad.nD Cert.OutDgrad.τ).loc Cert.OutDgrad.main_arg1) = m ((c.tc : Thread Cert.OutDgrad.nD Cert.OutDgrad.τ).loc Cert.OutDgrad.main_arg1))
      ∧ r.2.sem = fun _ => 0)

def quiescent_OutDgradIdeal [hOutDgradIdeal : Cert.OutDgradIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg), Pre_OutDgradIdeal m →
    θ_run (Cert.OutDgradIdeal.defs (F := Ideal)) (onTc (τ := Cert.OutDgradIdeal.τ) (Cert.OutDgradIdeal.main (F := Ideal))) ⟨m, fun _ => 0, g⟩ (fun r => (∀ c : Dev Cert.OutDgradIdeal.nD,
      r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
      ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1))
      ∧ r.2.sem = fun _ => 0)

def quiescent_OutDgradRefIdeal [hOutDgradRefIdeal : Cert.OutDgradRefIdeal.Facts] : Prop :=
  ∀ (m : (ℓ : Loc Cert.OutDgradRefIdeal.nD Cert.OutDgradRefIdeal.τ Cert.OutDgradRefIdeal.sig) → Buf (Elt Ideal) ℓ) (g : Dev Cert.OutDgradRefIdeal.nD → PrngReg), Pre_OutDgradRefIdeal m →
    θ_run (Cert.OutDgradRefIdeal.defs (F := Ideal)) (onTc (τ := Cert.OutDgradRefIdeal.τ) (Cert.OutDgradRefIdeal.main (F := Ideal))) ⟨m, fun _ => 0, g⟩ (fun r => (∀ c : Dev Cert.OutDgradRefIdeal.nD,
      r.2.mem ((c.tc : Thread Cert.OutDgradRefIdeal.nD Cert.OutDgradRefIdeal.τ).loc Cert.OutDgradRefIdeal.main_arg0) = m ((c.tc : Thread Cert.OutDgradRefIdeal.nD Cert.OutDgradRefIdeal.τ).loc Cert.OutDgradRefIdeal.main_arg0)
      ∧ r.2.mem ((c.tc : Thread Cert.OutDgradRefIdeal.nD Cert.OutDgradRefIdeal.τ).loc Cert.OutDgradRefIdeal.main_arg1) = m ((c.tc : Thread Cert.OutDgradRefIdeal.nD Cert.OutDgradRefIdeal.τ).loc Cert.OutDgradRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Ff2Fwd [hFf2Fwd : Cert.Ff2Fwd.Facts] : Prop :=
  ∀ (m : (ℓ : Loc Cert.Ff2Fwd.nD Cert.Ff2Fwd.τ Cert.Ff2Fwd.sig) → Buf (Elt Bits) ℓ) (g : Dev Cert.Ff2Fwd.nD → PrngReg), Pre_Ff2Fwd m →
    θ_run (Cert.Ff2Fwd.defs (F := Bits)) (onTc (τ := Cert.Ff2Fwd.τ) (Cert.Ff2Fwd.main (F := Bits))) ⟨m, fun _ => 0, g⟩ (fun r => (∀ c : Dev Cert.Ff2Fwd.nD,
      r.2.mem ((c.tc : Thread Cert.Ff2Fwd.nD Cert.Ff2Fwd.τ).loc Cert.Ff2Fwd.main_arg0) = m ((c.tc : Thread Cert.Ff2Fwd.nD Cert.Ff2Fwd.τ).loc Cert.Ff2Fwd.main_arg0)
      ∧ r.2.mem ((c.tc : Thread Cert.Ff2Fwd.nD Cert.Ff2Fwd.τ).loc Cert.Ff2Fwd.main_arg1) = m ((c.tc : Thread Cert.Ff2Fwd.nD Cert.Ff2Fwd.τ).loc Cert.Ff2Fwd.main_arg1)
      ∧ r.2.mem ((c.tc : Thread Cert.Ff2Fwd.nD Cert.Ff2Fwd.τ).loc Cert.Ff2Fwd.main_arg2) = m ((c.tc : Thread Cert.Ff2Fwd.nD Cert.Ff2Fwd.τ).loc Cert.Ff2Fwd.main_arg2)
      ∧ r.2.mem ((c.tc : Thread Cert.Ff2Fwd.nD Cert.Ff2Fwd.τ).loc Cert.Ff2Fwd.main_arg3) = m ((c.tc : Thread Cert.Ff2Fwd.nD Cert.Ff2Fwd.τ).loc Cert.Ff2Fwd.main_arg3))
      ∧ r.2.sem = fun _ => 0)

def quiescent_Ff2FwdIdeal [hFf2FwdIdeal : Cert.Ff2FwdIdeal.Facts] : Prop :=
  ∀ (m : (ℓ : Loc Cert.Ff2FwdIdeal.nD Cert.Ff2FwdIdeal.τ Cert.Ff2FwdIdeal.sig) → Buf (Elt Ideal) ℓ) (g : Dev Cert.Ff2FwdIdeal.nD → PrngReg), Pre_Ff2FwdIdeal m →
    θ_run (Cert.Ff2FwdIdeal.defs (F := Ideal)) (onTc (τ := Cert.Ff2FwdIdeal.τ) (Cert.Ff2FwdIdeal.main (F := Ideal))) ⟨m, fun _ => 0, g⟩ (fun r => (∀ c : Dev Cert.Ff2FwdIdeal.nD,
      r.2.mem ((c.tc : Thread Cert.Ff2FwdIdeal.nD Cert.Ff2FwdIdeal.τ).loc Cert.Ff2FwdIdeal.main_arg0) = m ((c.tc : Thread Cert.Ff2FwdIdeal.nD Cert.Ff2FwdIdeal.τ).loc Cert.Ff2FwdIdeal.main_arg0)
      ∧ r.2.mem ((c.tc : Thread Cert.Ff2FwdIdeal.nD Cert.Ff2FwdIdeal.τ).loc Cert.Ff2FwdIdeal.main_arg1) = m ((c.tc : Thread Cert.Ff2FwdIdeal.nD Cert.Ff2FwdIdeal.τ).loc Cert.Ff2FwdIdeal.main_arg1)
      ∧ r.2.mem ((c.tc : Thread Cert.Ff2FwdIdeal.nD Cert.Ff2FwdIdeal.τ).loc Cert.Ff2FwdIdeal.main_arg2) = m ((c.tc : Thread Cert.Ff2FwdIdeal.nD Cert.Ff2FwdIdeal.τ).loc Cert.Ff2FwdIdeal.main_arg2)
      ∧ r.2.mem ((c.tc : Thread Cert.Ff2FwdIdeal.nD Cert.Ff2FwdIdeal.τ).loc Cert.Ff2FwdIdeal.main_arg3) = m ((c.tc : Thread Cert.Ff2FwdIdeal.nD Cert.Ff2FwdIdeal.τ).loc Cert.Ff2FwdIdeal.main_arg3))
      ∧ r.2.sem = fun _ => 0)

def quiescent_Ff2FwdRefIdeal [hFf2FwdRefIdeal : Cert.Ff2FwdRefIdeal.Facts] : Prop :=
  ∀ (m : (ℓ : Loc Cert.Ff2FwdRefIdeal.nD Cert.Ff2FwdRefIdeal.τ Cert.Ff2FwdRefIdeal.sig) → Buf (Elt Ideal) ℓ) (g : Dev Cert.Ff2FwdRefIdeal.nD → PrngReg), Pre_Ff2FwdRefIdeal m →
    θ_run (Cert.Ff2FwdRefIdeal.defs (F := Ideal)) (onTc (τ := Cert.Ff2FwdRefIdeal.τ) (Cert.Ff2FwdRefIdeal.main (F := Ideal))) ⟨m, fun _ => 0, g⟩ (fun r => (∀ c : Dev Cert.Ff2FwdRefIdeal.nD,
      r.2.mem ((c.tc : Thread Cert.Ff2FwdRefIdeal.nD Cert.Ff2FwdRefIdeal.τ).loc Cert.Ff2FwdRefIdeal.main_arg0) = m ((c.tc : Thread Cert.Ff2FwdRefIdeal.nD Cert.Ff2FwdRefIdeal.τ).loc Cert.Ff2FwdRefIdeal.main_arg0)
      ∧ r.2.mem ((c.tc : Thread Cert.Ff2FwdRefIdeal.nD Cert.Ff2FwdRefIdeal.τ).loc Cert.Ff2FwdRefIdeal.main_arg1) = m ((c.tc : Thread Cert.Ff2FwdRefIdeal.nD Cert.Ff2FwdRefIdeal.τ).loc Cert.Ff2FwdRefIdeal.main_arg1)
      ∧ r.2.mem ((c.tc : Thread Cert.Ff2FwdRefIdeal.nD Cert.Ff2FwdRefIdeal.τ).loc Cert.Ff2FwdRefIdeal.main_arg2) = m ((c.tc : Thread Cert.Ff2FwdRefIdeal.nD Cert.Ff2FwdRefIdeal.τ).loc Cert.Ff2FwdRefIdeal.main_arg2)
      ∧ r.2.mem ((c.tc : Thread Cert.Ff2FwdRefIdeal.nD Cert.Ff2FwdRefIdeal.τ).loc Cert.Ff2FwdRefIdeal.main_arg3) = m ((c.tc : Thread Cert.Ff2FwdRefIdeal.nD Cert.Ff2FwdRefIdeal.τ).loc Cert.Ff2FwdRefIdeal.main_arg3))
      ∧ r.2.sem = fun _ => 0)

def quiescent_HgrnFwd [hHgrnFwd : Cert.HgrnFwd.Facts] : Prop :=
  ∀ (m : (ℓ : Loc Cert.HgrnFwd.nD Cert.HgrnFwd.τ Cert.HgrnFwd.sig) → Buf (Elt Bits) ℓ) (g : Dev Cert.HgrnFwd.nD → PrngReg), Pre_HgrnFwd m →
    θ_run (Cert.HgrnFwd.defs (F := Bits)) (onTc (τ := Cert.HgrnFwd.τ) (Cert.HgrnFwd.main (F := Bits))) ⟨m, fun _ => 0, g⟩ (fun r => (∀ c : Dev Cert.HgrnFwd.nD,
      r.2.mem ((c.tc : Thread Cert.HgrnFwd.nD Cert.HgrnFwd.τ).loc Cert.HgrnFwd.main_arg0) = m ((c.tc : Thread Cert.HgrnFwd.nD Cert.HgrnFwd.τ).loc Cert.HgrnFwd.main_arg0)
      ∧ r.2.mem ((c.tc : Thread Cert.HgrnFwd.nD Cert.HgrnFwd.τ).loc Cert.HgrnFwd.main_arg1) = m ((c.tc : Thread Cert.HgrnFwd.nD Cert.HgrnFwd.τ).loc Cert.HgrnFwd.main_arg1)
      ∧ r.2.mem ((c.tc : Thread Cert.HgrnFwd.nD Cert.HgrnFwd.τ).loc Cert.HgrnFwd.main_arg2) = m ((c.tc : Thread Cert.HgrnFwd.nD Cert.HgrnFwd.τ).loc Cert.HgrnFwd.main_arg2))
      ∧ r.2.sem = fun _ => 0)

def quiescent_HgrnFwdIdeal [hHgrnFwdIdeal : Cert.HgrnFwdIdeal.Facts] : Prop :=
  ∀ (m : (ℓ : Loc Cert.HgrnFwdIdeal.nD Cert.HgrnFwdIdeal.τ Cert.HgrnFwdIdeal.sig) → Buf (Elt Ideal) ℓ) (g : Dev Cert.HgrnFwdIdeal.nD → PrngReg), Pre_HgrnFwdIdeal m →
    θ_run (Cert.HgrnFwdIdeal.defs (F := Ideal)) (onTc (τ := Cert.HgrnFwdIdeal.τ) (Cert.HgrnFwdIdeal.main (F := Ideal))) ⟨m, fun _ => 0, g⟩ (fun r => (∀ c : Dev Cert.HgrnFwdIdeal.nD,
      r.2.mem ((c.tc : Thread Cert.HgrnFwdIdeal.nD Cert.HgrnFwdIdeal.τ).loc Cert.HgrnFwdIdeal.main_arg0) = m ((c.tc : Thread Cert.HgrnFwdIdeal.nD Cert.HgrnFwdIdeal.τ).loc Cert.HgrnFwdIdeal.main_arg0)
      ∧ r.2.mem ((c.tc : Thread Cert.HgrnFwdIdeal.nD Cert.HgrnFwdIdeal.τ).loc Cert.HgrnFwdIdeal.main_arg1) = m ((c.tc : Thread Cert.HgrnFwdIdeal.nD Cert.HgrnFwdIdeal.τ).loc Cert.HgrnFwdIdeal.main_arg1)
      ∧ r.2.mem ((c.tc : Thread Cert.HgrnFwdIdeal.nD Cert.HgrnFwdIdeal.τ).loc Cert.HgrnFwdIdeal.main_arg2) = m ((c.tc : Thread Cert.HgrnFwdIdeal.nD Cert.HgrnFwdIdeal.τ).loc Cert.HgrnFwdIdeal.main_arg2))
      ∧ r.2.sem = fun _ => 0)

def quiescent_HgrnBwd [hHgrnBwd : Cert.HgrnBwd.Facts] : Prop :=
  ∀ (m : (ℓ : Loc Cert.HgrnBwd.nD Cert.HgrnBwd.τ Cert.HgrnBwd.sig) → Buf (Elt Bits) ℓ) (g : Dev Cert.HgrnBwd.nD → PrngReg), Pre_HgrnBwd m →
    θ_run (Cert.HgrnBwd.defs (F := Bits)) (onTc (τ := Cert.HgrnBwd.τ) (Cert.HgrnBwd.main (F := Bits))) ⟨m, fun _ => 0, g⟩ (fun r => (∀ c : Dev Cert.HgrnBwd.nD,
      r.2.mem ((c.tc : Thread Cert.HgrnBwd.nD Cert.HgrnBwd.τ).loc Cert.HgrnBwd.main_arg0) = m ((c.tc : Thread Cert.HgrnBwd.nD Cert.HgrnBwd.τ).loc Cert.HgrnBwd.main_arg0)
      ∧ r.2.mem ((c.tc : Thread Cert.HgrnBwd.nD Cert.HgrnBwd.τ).loc Cert.HgrnBwd.main_arg1) = m ((c.tc : Thread Cert.HgrnBwd.nD Cert.HgrnBwd.τ).loc Cert.HgrnBwd.main_arg1)
      ∧ r.2.mem ((c.tc : Thread Cert.HgrnBwd.nD Cert.HgrnBwd.τ).loc Cert.HgrnBwd.main_arg2) = m ((c.tc : Thread Cert.HgrnBwd.nD Cert.HgrnBwd.τ).loc Cert.HgrnBwd.main_arg2)
      ∧ r.2.mem ((c.tc : Thread Cert.HgrnBwd.nD Cert.HgrnBwd.τ).loc Cert.HgrnBwd.main_arg3) = m ((c.tc : Thread Cert.HgrnBwd.nD Cert.HgrnBwd.τ).loc Cert.HgrnBwd.main_arg3)
      ∧ r.2.mem ((c.tc : Thread Cert.HgrnBwd.nD Cert.HgrnBwd.τ).loc Cert.HgrnBwd.main_arg4) = m ((c.tc : Thread Cert.HgrnBwd.nD Cert.HgrnBwd.τ).loc Cert.HgrnBwd.main_arg4)
      ∧ r.2.mem ((c.tc : Thread Cert.HgrnBwd.nD Cert.HgrnBwd.τ).loc Cert.HgrnBwd.main_arg5) = m ((c.tc : Thread Cert.HgrnBwd.nD Cert.HgrnBwd.τ).loc Cert.HgrnBwd.main_arg5)
      ∧ r.2.mem ((c.tc : Thread Cert.HgrnBwd.nD Cert.HgrnBwd.τ).loc Cert.HgrnBwd.main_arg6) = m ((c.tc : Thread Cert.HgrnBwd.nD Cert.HgrnBwd.τ).loc Cert.HgrnBwd.main_arg6))
      ∧ r.2.sem = fun _ => 0)

def quiescent_HgrnBwdIdeal [hHgrnBwdIdeal : Cert.HgrnBwdIdeal.Facts] : Prop :=
  ∀ (m : (ℓ : Loc Cert.HgrnBwdIdeal.nD Cert.HgrnBwdIdeal.τ Cert.HgrnBwdIdeal.sig) → Buf (Elt Ideal) ℓ) (g : Dev Cert.HgrnBwdIdeal.nD → PrngReg), Pre_HgrnBwdIdeal m →
    θ_run (Cert.HgrnBwdIdeal.defs (F := Ideal)) (onTc (τ := Cert.HgrnBwdIdeal.τ) (Cert.HgrnBwdIdeal.main (F := Ideal))) ⟨m, fun _ => 0, g⟩ (fun r => (∀ c : Dev Cert.HgrnBwdIdeal.nD,
      r.2.mem ((c.tc : Thread Cert.HgrnBwdIdeal.nD Cert.HgrnBwdIdeal.τ).loc Cert.HgrnBwdIdeal.main_arg0) = m ((c.tc : Thread Cert.HgrnBwdIdeal.nD Cert.HgrnBwdIdeal.τ).loc Cert.HgrnBwdIdeal.main_arg0)
      ∧ r.2.mem ((c.tc : Thread Cert.HgrnBwdIdeal.nD Cert.HgrnBwdIdeal.τ).loc Cert.HgrnBwdIdeal.main_arg1) = m ((c.tc : Thread Cert.HgrnBwdIdeal.nD Cert.HgrnBwdIdeal.τ).loc Cert.HgrnBwdIdeal.main_arg1)
      ∧ r.2.mem ((c.tc : Thread Cert.HgrnBwdIdeal.nD Cert.HgrnBwdIdeal.τ).loc Cert.HgrnBwdIdeal.main_arg2) = m ((c.tc : Thread Cert.HgrnBwdIdeal.nD Cert.HgrnBwdIdeal.τ).loc Cert.HgrnBwdIdeal.main_arg2)
      ∧ r.2.mem ((c.tc : Thread Cert.HgrnBwdIdeal.nD Cert.HgrnBwdIdeal.τ).loc Cert.HgrnBwdIdeal.main_arg3) = m ((c.tc : Thread Cert.HgrnBwdIdeal.nD Cert.HgrnBwdIdeal.τ).loc Cert.HgrnBwdIdeal.main_arg3)
      ∧ r.2.mem ((c.tc : Thread Cert.HgrnBwdIdeal.nD Cert.HgrnBwdIdeal.τ).loc Cert.HgrnBwdIdeal.main_arg4) = m ((c.tc : Thread Cert.HgrnBwdIdeal.nD Cert.HgrnBwdIdeal.τ).loc Cert.HgrnBwdIdeal.main_arg4)
      ∧ r.2.mem ((c.tc : Thread Cert.HgrnBwdIdeal.nD Cert.HgrnBwdIdeal.τ).loc Cert.HgrnBwdIdeal.main_arg5) = m ((c.tc : Thread Cert.HgrnBwdIdeal.nD Cert.HgrnBwdIdeal.τ).loc Cert.HgrnBwdIdeal.main_arg5)
      ∧ r.2.mem ((c.tc : Thread Cert.HgrnBwdIdeal.nD Cert.HgrnBwdIdeal.τ).loc Cert.HgrnBwdIdeal.main_arg6) = m ((c.tc : Thread Cert.HgrnBwdIdeal.nD Cert.HgrnBwdIdeal.τ).loc Cert.HgrnBwdIdeal.main_arg6))
      ∧ r.2.sem = fun _ => 0)

def preserves_LbsBwd_LbsBwdIdeal : Prop :=
  True

def algebraic_LbsBwdIdeal_LbsBwdRefIdeal_pre_lbs_bwd_finite [hLbsBwdIdeal : Cert.LbsBwdIdeal.Facts] [hLbsBwdRefIdeal : Cert.LbsBwdRefIdeal.Facts] [hPre_lbs_bwd_finite : Cert.Pre_lbs_bwd_finite.Facts] : Prop :=
  ∀ (m : (ℓ : Loc Cert.LbsBwdIdeal.nD Cert.LbsBwdIdeal.τ Cert.LbsBwdIdeal.sig) → Buf (Elt Ideal) ℓ) (g : Dev Cert.LbsBwdIdeal.nD → PrngReg)
    (m' : (ℓ : Loc Cert.LbsBwdRefIdeal.nD Cert.LbsBwdRefIdeal.τ Cert.LbsBwdRefIdeal.sig) → Buf (Elt Ideal) ℓ) (g' : Dev Cert.LbsBwdRefIdeal.nD → PrngReg), Pre_LbsBwdIdeal_lbs_bwd_finite m →
    (∀ c : Dev Cert.LbsBwdIdeal.nD,
      m' ((c.tc : Thread Cert.LbsBwdRefIdeal.nD Cert.LbsBwdRefIdeal.τ).loc Cert.LbsBwdRefIdeal.main_arg0) = m ((c.tc : Thread Cert.LbsBwdIdeal.nD Cert.LbsBwdIdeal.τ).loc Cert.LbsBwdIdeal.main_arg0)
      ∧ m' ((c.tc : Thread Cert.LbsBwdRefIdeal.nD Cert.LbsBwdRefIdeal.τ).loc Cert.LbsBwdRefIdeal.main_arg1) = m ((c.tc : Thread Cert.LbsBwdIdeal.nD Cert.LbsBwdIdeal.τ).loc Cert.LbsBwdIdeal.main_arg1)) →
    ∃ (v0 : (c : Dev Cert.LbsBwdIdeal.nD) → Buf (Elt Ideal) ((c.tc : Thread Cert.LbsBwdIdeal.nD Cert.LbsBwdIdeal.τ).loc Cert.LbsBwdIdeal.main_v0)),
      θ_run (Cert.LbsBwdIdeal.defs (F := Ideal)) (onTc (τ := Cert.LbsBwdIdeal.τ) (Cert.LbsBwdIdeal.main (F := Ideal))) ⟨m, fun _ => 0, g⟩ (fun r => ∀ c : Dev Cert.LbsBwdIdeal.nD,
          r.2.mem ((c.tc : Thread Cert.LbsBwdIdeal.nD Cert.LbsBwdIdeal.τ).loc Cert.LbsBwdIdeal.main_v0) = v0 c
          ∧ r.2.mem ((c.tc : Thread Cert.LbsBwdIdeal.nD Cert.LbsBwdIdeal.τ).loc Cert.LbsBwdIdeal.main_arg0) = m ((c.tc : Thread Cert.LbsBwdIdeal.nD Cert.LbsBwdIdeal.τ).loc Cert.LbsBwdIdeal.main_arg0)
          ∧ r.2.mem ((c.tc : Thread Cert.LbsBwdIdeal.nD Cert.LbsBwdIdeal.τ).loc Cert.LbsBwdIdeal.main_arg1) = m ((c.tc : Thread Cert.LbsBwdIdeal.nD Cert.LbsBwdIdeal.τ).loc Cert.LbsBwdIdeal.main_arg1))
      ∧ θ_run (Cert.LbsBwdRefIdeal.defs (F := Ideal)) (onTc (τ := Cert.LbsBwdRefIdeal.τ) (Cert.LbsBwdRefIdeal.main (F := Ideal))) ⟨m', fun _ => 0, g'⟩ (fun r => ∀ c : Dev Cert.LbsBwdRefIdeal.nD,
          r.2.mem ((c.tc : Thread Cert.LbsBwdRefIdeal.nD Cert.LbsBwdRefIdeal.τ).loc Cert.LbsBwdRefIdeal.main_v54) = v0 c
          ∧ r.2.mem ((c.tc : Thread Cert.LbsBwdRefIdeal.nD Cert.LbsBwdRefIdeal.τ).loc Cert.LbsBwdRefIdeal.main_arg0) = m' ((c.tc : Thread Cert.LbsBwdRefIdeal.nD Cert.LbsBwdRefIdeal.τ).loc Cert.LbsBwdRefIdeal.main_arg0)
          ∧ r.2.mem ((c.tc : Thread Cert.LbsBwdRefIdeal.nD Cert.LbsBwdRefIdeal.τ).loc Cert.LbsBwdRefIdeal.main_arg1) = m' ((c.tc : Thread Cert.LbsBwdRefIdeal.nD Cert.LbsBwdRefIdeal.τ).loc Cert.LbsBwdRefIdeal.main_arg1))

def preserves_LossHead_LossHeadIdeal : Prop :=
  True

def algebraic_LossHeadIdeal_LossHeadRefIdeal_pre_loss_head_finite [hLossHeadIdeal : Cert.LossHeadIdeal.Facts] [hLossHeadRefIdeal : Cert.LossHeadRefIdeal.Facts] [hPre_loss_head_finite : Cert.Pre_loss_head_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_head_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v3_0)) (v1 : (c : Dev Cert.LossHeadIdeal.nD) → Buf (Elt Ideal) ((c.tc : Thread Cert.LossHeadIdeal.nD Cert.LossHeadIdeal.τ).loc Cert.LossHeadIdeal.main_v3_1)) (v2 : (c : Dev Cert.LossHeadIdeal.nD) → Buf (Elt Ideal) ((c.tc : Thread Cert.LossHeadIdeal.nD Cert.LossHeadIdeal.τ).loc Cert.LossHeadIdeal.main_v3_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3_0) = v0 c
          ∧ r.2.mem ((c.tc : Thread Cert.LossHeadIdeal.nD Cert.LossHeadIdeal.τ).loc Cert.LossHeadIdeal.main_v3_1) = v1 c
          ∧ r.2.mem ((c.tc : Thread Cert.LossHeadIdeal.nD Cert.LossHeadIdeal.τ).loc Cert.LossHeadIdeal.main_v3_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v52) = v0 c
          ∧ r.2.mem ((c.tc : Thread Cert.LossHeadRefIdeal.nD Cert.LossHeadRefIdeal.τ).loc Cert.LossHeadRefIdeal.main_v53) = v1 c
          ∧ r.2.mem ((c.tc : Thread Cert.LossHeadRefIdeal.nD Cert.LossHeadRefIdeal.τ).loc Cert.LossHeadRefIdeal.main_v56) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_Ff2Dgrad_Ff2DgradIdeal : Prop :=
  True

def algebraic_Ff2DgradIdeal_Ff2DgradRefIdeal [hFf2DgradIdeal : Cert.Ff2DgradIdeal.Facts] [hFf2DgradRefIdeal : Cert.Ff2DgradRefIdeal.Facts] : Prop :=
  ∀ (m : (ℓ : Loc Cert.Ff2DgradIdeal.nD Cert.Ff2DgradIdeal.τ Cert.Ff2DgradIdeal.sig) → Buf (Elt Ideal) ℓ) (g : Dev Cert.Ff2DgradIdeal.nD → PrngReg)
    (m' : (ℓ : Loc Cert.Ff2DgradRefIdeal.nD Cert.Ff2DgradRefIdeal.τ Cert.Ff2DgradRefIdeal.sig) → Buf (Elt Ideal) ℓ) (g' : Dev Cert.Ff2DgradRefIdeal.nD → PrngReg), Pre_Ff2DgradIdeal m →
    (∀ c : Dev Cert.Ff2DgradIdeal.nD,
      m' ((c.tc : Thread Cert.Ff2DgradRefIdeal.nD Cert.Ff2DgradRefIdeal.τ).loc Cert.Ff2DgradRefIdeal.main_arg0) = m ((c.tc : Thread Cert.Ff2DgradIdeal.nD Cert.Ff2DgradIdeal.τ).loc Cert.Ff2DgradIdeal.main_arg0)
      ∧ m' ((c.tc : Thread Cert.Ff2DgradRefIdeal.nD Cert.Ff2DgradRefIdeal.τ).loc Cert.Ff2DgradRefIdeal.main_arg1) = m ((c.tc : Thread Cert.Ff2DgradIdeal.nD Cert.Ff2DgradIdeal.τ).loc Cert.Ff2DgradIdeal.main_arg1)
      ∧ m' ((c.tc : Thread Cert.Ff2DgradRefIdeal.nD Cert.Ff2DgradRefIdeal.τ).loc Cert.Ff2DgradRefIdeal.main_arg2) = m ((c.tc : Thread Cert.Ff2DgradIdeal.nD Cert.Ff2DgradIdeal.τ).loc Cert.Ff2DgradIdeal.main_arg2)
      ∧ m' ((c.tc : Thread Cert.Ff2DgradRefIdeal.nD Cert.Ff2DgradRefIdeal.τ).loc Cert.Ff2DgradRefIdeal.main_arg3) = m ((c.tc : Thread Cert.Ff2DgradIdeal.nD Cert.Ff2DgradIdeal.τ).loc Cert.Ff2DgradIdeal.main_arg3)) →
    ∃ (v0 : (c : Dev Cert.Ff2DgradIdeal.nD) → Buf (Elt Ideal) ((c.tc : Thread Cert.Ff2DgradIdeal.nD Cert.Ff2DgradIdeal.τ).loc Cert.Ff2DgradIdeal.main_v7)),
      θ_run (Cert.Ff2DgradIdeal.defs (F := Ideal)) (onTc (τ := Cert.Ff2DgradIdeal.τ) (Cert.Ff2DgradIdeal.main (F := Ideal))) ⟨m, fun _ => 0, g⟩ (fun r => ∀ c : Dev Cert.Ff2DgradIdeal.nD,
          r.2.mem ((c.tc : Thread Cert.Ff2DgradIdeal.nD Cert.Ff2DgradIdeal.τ).loc Cert.Ff2DgradIdeal.main_v7) = v0 c
          ∧ r.2.mem ((c.tc : Thread Cert.Ff2DgradIdeal.nD Cert.Ff2DgradIdeal.τ).loc Cert.Ff2DgradIdeal.main_arg0) = m ((c.tc : Thread Cert.Ff2DgradIdeal.nD Cert.Ff2DgradIdeal.τ).loc Cert.Ff2DgradIdeal.main_arg0)
          ∧ r.2.mem ((c.tc : Thread Cert.Ff2DgradIdeal.nD Cert.Ff2DgradIdeal.τ).loc Cert.Ff2DgradIdeal.main_arg1) = m ((c.tc : Thread Cert.Ff2DgradIdeal.nD Cert.Ff2DgradIdeal.τ).loc Cert.Ff2DgradIdeal.main_arg1)
          ∧ r.2.mem ((c.tc : Thread Cert.Ff2DgradIdeal.nD Cert.Ff2DgradIdeal.τ).loc Cert.Ff2DgradIdeal.main_arg2) = m ((c.tc : Thread Cert.Ff2DgradIdeal.nD Cert.Ff2DgradIdeal.τ).loc Cert.Ff2DgradIdeal.main_arg2)
          ∧ r.2.mem ((c.tc : Thread Cert.Ff2DgradIdeal.nD Cert.Ff2DgradIdeal.τ).loc Cert.Ff2DgradIdeal.main_arg3) = m ((c.tc : Thread Cert.Ff2DgradIdeal.nD Cert.Ff2DgradIdeal.τ).loc Cert.Ff2DgradIdeal.main_arg3))
      ∧ θ_run (Cert.Ff2DgradRefIdeal.defs (F := Ideal)) (onTc (τ := Cert.Ff2DgradRefIdeal.τ) (Cert.Ff2DgradRefIdeal.main (F := Ideal))) ⟨m', fun _ => 0, g'⟩ (fun r => ∀ c : Dev Cert.Ff2DgradRefIdeal.nD,
          r.2.mem ((c.tc : Thread Cert.Ff2DgradRefIdeal.nD Cert.Ff2DgradRefIdeal.τ).loc Cert.Ff2DgradRefIdeal.main_v14) = v0 c
          ∧ r.2.mem ((c.tc : Thread Cert.Ff2DgradRefIdeal.nD Cert.Ff2DgradRefIdeal.τ).loc Cert.Ff2DgradRefIdeal.main_arg0) = m' ((c.tc : Thread Cert.Ff2DgradRefIdeal.nD Cert.Ff2DgradRefIdeal.τ).loc Cert.Ff2DgradRefIdeal.main_arg0)
          ∧ r.2.mem ((c.tc : Thread Cert.Ff2DgradRefIdeal.nD Cert.Ff2DgradRefIdeal.τ).loc Cert.Ff2DgradRefIdeal.main_arg1) = m' ((c.tc : Thread Cert.Ff2DgradRefIdeal.nD Cert.Ff2DgradRefIdeal.τ).loc Cert.Ff2DgradRefIdeal.main_arg1)
          ∧ r.2.mem ((c.tc : Thread Cert.Ff2DgradRefIdeal.nD Cert.Ff2DgradRefIdeal.τ).loc Cert.Ff2DgradRefIdeal.main_arg2) = m' ((c.tc : Thread Cert.Ff2DgradRefIdeal.nD Cert.Ff2DgradRefIdeal.τ).loc Cert.Ff2DgradRefIdeal.main_arg2)
          ∧ r.2.mem ((c.tc : Thread Cert.Ff2DgradRefIdeal.nD Cert.Ff2DgradRefIdeal.τ).loc Cert.Ff2DgradRefIdeal.main_arg3) = m' ((c.tc : Thread Cert.Ff2DgradRefIdeal.nD Cert.Ff2DgradRefIdeal.τ).loc Cert.Ff2DgradRefIdeal.main_arg3))

def preserves_Ff1Dgrad_Ff1DgradIdeal : Prop :=
  True

def algebraic_Ff1DgradIdeal_Ff1DgradRefIdeal_pre_dgrad_finite [hFf1DgradIdeal : Cert.Ff1DgradIdeal.Facts] [hFf1DgradRefIdeal : Cert.Ff1DgradRefIdeal.Facts] [hPre_dgrad_finite : Cert.Pre_dgrad_finite.Facts] : Prop :=
  ∀ (m : (ℓ : Loc Cert.Ff1DgradIdeal.nD Cert.Ff1DgradIdeal.τ Cert.Ff1DgradIdeal.sig) → Buf (Elt Ideal) ℓ) (g : Dev Cert.Ff1DgradIdeal.nD → PrngReg)
    (m' : (ℓ : Loc Cert.Ff1DgradRefIdeal.nD Cert.Ff1DgradRefIdeal.τ Cert.Ff1DgradRefIdeal.sig) → Buf (Elt Ideal) ℓ) (g' : Dev Cert.Ff1DgradRefIdeal.nD → PrngReg), Pre_Ff1DgradIdeal_dgrad_finite m →
    (∀ c : Dev Cert.Ff1DgradIdeal.nD,
      m' ((c.tc : Thread Cert.Ff1DgradRefIdeal.nD Cert.Ff1DgradRefIdeal.τ).loc Cert.Ff1DgradRefIdeal.main_arg0) = m ((c.tc : Thread Cert.Ff1DgradIdeal.nD Cert.Ff1DgradIdeal.τ).loc Cert.Ff1DgradIdeal.main_arg0)
      ∧ m' ((c.tc : Thread Cert.Ff1DgradRefIdeal.nD Cert.Ff1DgradRefIdeal.τ).loc Cert.Ff1DgradRefIdeal.main_arg1) = m ((c.tc : Thread Cert.Ff1DgradIdeal.nD Cert.Ff1DgradIdeal.τ).loc Cert.Ff1DgradIdeal.main_arg1)
      ∧ m' ((c.tc : Thread Cert.Ff1DgradRefIdeal.nD Cert.Ff1DgradRefIdeal.τ).loc Cert.Ff1DgradRefIdeal.main_arg2) = m ((c.tc : Thread Cert.Ff1DgradIdeal.nD Cert.Ff1DgradIdeal.τ).loc Cert.Ff1DgradIdeal.main_arg2)
      ∧ m' ((c.tc : Thread Cert.Ff1DgradRefIdeal.nD Cert.Ff1DgradRefIdeal.τ).loc Cert.Ff1DgradRefIdeal.main_arg3) = m ((c.tc : Thread Cert.Ff1DgradIdeal.nD Cert.Ff1DgradIdeal.τ).loc Cert.Ff1DgradIdeal.main_arg3)
      ∧ m' ((c.tc : Thread Cert.Ff1DgradRefIdeal.nD Cert.Ff1DgradRefIdeal.τ).loc Cert.Ff1DgradRefIdeal.main_arg4) = m ((c.tc : Thread Cert.Ff1DgradIdeal.nD Cert.Ff1DgradIdeal.τ).loc Cert.Ff1DgradIdeal.main_arg4)) →
    ∃ (v0 : (c : Dev Cert.Ff1DgradIdeal.nD) → Buf (Elt Ideal) ((c.tc : Thread Cert.Ff1DgradIdeal.nD Cert.Ff1DgradIdeal.τ).loc Cert.Ff1DgradIdeal.main_v4_0)) (v1 : (c : Dev Cert.Ff1DgradIdeal.nD) → Buf (Elt Ideal) ((c.tc : Thread Cert.Ff1DgradIdeal.nD Cert.Ff1DgradIdeal.τ).loc Cert.Ff1DgradIdeal.main_v4_1)),
      θ_run (Cert.Ff1DgradIdeal.defs (F := Ideal)) (onTc (τ := Cert.Ff1DgradIdeal.τ) (Cert.Ff1DgradIdeal.main (F := Ideal))) ⟨m, fun _ => 0, g⟩ (fun r => ∀ c : Dev Cert.Ff1DgradIdeal.nD,
          r.2.mem ((c.tc : Thread Cert.Ff1DgradIdeal.nD Cert.Ff1DgradIdeal.τ).loc Cert.Ff1DgradIdeal.main_v4_0) = v0 c
          ∧ r.2.mem ((c.tc : Thread Cert.Ff1DgradIdeal.nD Cert.Ff1DgradIdeal.τ).loc Cert.Ff1DgradIdeal.main_v4_1) = v1 c
          ∧ r.2.mem ((c.tc : Thread Cert.Ff1DgradIdeal.nD Cert.Ff1DgradIdeal.τ).loc Cert.Ff1DgradIdeal.main_arg0) = m ((c.tc : Thread Cert.Ff1DgradIdeal.nD Cert.Ff1DgradIdeal.τ).loc Cert.Ff1DgradIdeal.main_arg0)
          ∧ r.2.mem ((c.tc : Thread Cert.Ff1DgradIdeal.nD Cert.Ff1DgradIdeal.τ).loc Cert.Ff1DgradIdeal.main_arg1) = m ((c.tc : Thread Cert.Ff1DgradIdeal.nD Cert.Ff1DgradIdeal.τ).loc Cert.Ff1DgradIdeal.main_arg1)
          ∧ r.2.mem ((c.tc : Thread Cert.Ff1DgradIdeal.nD Cert.Ff1DgradIdeal.τ).loc Cert.Ff1DgradIdeal.main_arg2) = m ((c.tc : Thread Cert.Ff1DgradIdeal.nD Cert.Ff1DgradIdeal.τ).loc Cert.Ff1DgradIdeal.main_arg2)
          ∧ r.2.mem ((c.tc : Thread Cert.Ff1DgradIdeal.nD Cert.Ff1DgradIdeal.τ).loc Cert.Ff1DgradIdeal.main_arg3) = m ((c.tc : Thread Cert.Ff1DgradIdeal.nD Cert.Ff1DgradIdeal.τ).loc Cert.Ff1DgradIdeal.main_arg3)
          ∧ r.2.mem ((c.tc : Thread Cert.Ff1DgradIdeal.nD Cert.Ff1DgradIdeal.τ).loc Cert.Ff1DgradIdeal.main_arg4) = m ((c.tc : Thread Cert.Ff1DgradIdeal.nD Cert.Ff1DgradIdeal.τ).loc Cert.Ff1DgradIdeal.main_arg4))
      ∧ θ_run (Cert.Ff1DgradRefIdeal.defs (F := Ideal)) (onTc (τ := Cert.Ff1DgradRefIdeal.τ) (Cert.Ff1DgradRefIdeal.main (F := Ideal))) ⟨m', fun _ => 0, g'⟩ (fun r => ∀ c : Dev Cert.Ff1DgradRefIdeal.nD,
          r.2.mem ((c.tc : Thread Cert.Ff1DgradRefIdeal.nD Cert.Ff1DgradRefIdeal.τ).loc Cert.Ff1DgradRefIdeal.main_v39) = v0 c
          ∧ r.2.mem ((c.tc : Thread Cert.Ff1DgradRefIdeal.nD Cert.Ff1DgradRefIdeal.τ).loc Cert.Ff1DgradRefIdeal.main_v42) = v1 c
          ∧ r.2.mem ((c.tc : Thread Cert.Ff1DgradRefIdeal.nD Cert.Ff1DgradRefIdeal.τ).loc Cert.Ff1DgradRefIdeal.main_arg0) = m' ((c.tc : Thread Cert.Ff1DgradRefIdeal.nD Cert.Ff1DgradRefIdeal.τ).loc Cert.Ff1DgradRefIdeal.main_arg0)
          ∧ r.2.mem ((c.tc : Thread Cert.Ff1DgradRefIdeal.nD Cert.Ff1DgradRefIdeal.τ).loc Cert.Ff1DgradRefIdeal.main_arg1) = m' ((c.tc : Thread Cert.Ff1DgradRefIdeal.nD Cert.Ff1DgradRefIdeal.τ).loc Cert.Ff1DgradRefIdeal.main_arg1)
          ∧ r.2.mem ((c.tc : Thread Cert.Ff1DgradRefIdeal.nD Cert.Ff1DgradRefIdeal.τ).loc Cert.Ff1DgradRefIdeal.main_arg2) = m' ((c.tc : Thread Cert.Ff1DgradRefIdeal.nD Cert.Ff1DgradRefIdeal.τ).loc Cert.Ff1DgradRefIdeal.main_arg2)
          ∧ r.2.mem ((c.tc : Thread Cert.Ff1DgradRefIdeal.nD Cert.Ff1DgradRefIdeal.τ).loc Cert.Ff1DgradRefIdeal.main_arg3) = m' ((c.tc : Thread Cert.Ff1DgradRefIdeal.nD Cert.Ff1DgradRefIdeal.τ).loc Cert.Ff1DgradRefIdeal.main_arg3)
          ∧ r.2.mem ((c.tc : Thread Cert.Ff1DgradRefIdeal.nD Cert.Ff1DgradRefIdeal.τ).loc Cert.Ff1DgradRefIdeal.main_arg4) = m' ((c.tc : Thread Cert.Ff1DgradRefIdeal.nD Cert.Ff1DgradRefIdeal.τ).loc Cert.Ff1DgradRefIdeal.main_arg4))

def preserves_InDgrad_InDgradIdeal : Prop :=
  True

def algebraic_InDgradIdeal_InDgradRefIdeal_pre_in_dgrad_finite [hInDgradIdeal : Cert.InDgradIdeal.Facts] [hInDgradRefIdeal : Cert.InDgradRefIdeal.Facts] [hPre_in_dgrad_finite : Cert.Pre_in_dgrad_finite.Facts] : Prop :=
  ∀ (m : (ℓ : Loc Cert.InDgradIdeal.nD Cert.InDgradIdeal.τ Cert.InDgradIdeal.sig) → Buf (Elt Ideal) ℓ) (g : Dev Cert.InDgradIdeal.nD → PrngReg)
    (m' : (ℓ : Loc Cert.InDgradRefIdeal.nD Cert.InDgradRefIdeal.τ Cert.InDgradRefIdeal.sig) → Buf (Elt Ideal) ℓ) (g' : Dev Cert.InDgradRefIdeal.nD → PrngReg), Pre_InDgradIdeal_in_dgrad_finite m →
    (∀ c : Dev Cert.InDgradIdeal.nD,
      m' ((c.tc : Thread Cert.InDgradRefIdeal.nD Cert.InDgradRefIdeal.τ).loc Cert.InDgradRefIdeal.main_arg0) = m ((c.tc : Thread Cert.InDgradIdeal.nD Cert.InDgradIdeal.τ).loc Cert.InDgradIdeal.main_arg0)
      ∧ m' ((c.tc : Thread Cert.InDgradRefIdeal.nD Cert.InDgradRefIdeal.τ).loc Cert.InDgradRefIdeal.main_arg1) = m ((c.tc : Thread Cert.InDgradIdeal.nD Cert.InDgradIdeal.τ).loc Cert.InDgradIdeal.main_arg1)
      ∧ m' ((c.tc : Thread Cert.InDgradRefIdeal.nD Cert.InDgradRefIdeal.τ).loc Cert.InDgradRefIdeal.main_arg2) = m ((c.tc : Thread Cert.InDgradIdeal.nD Cert.InDgradIdeal.τ).loc Cert.InDgradIdeal.main_arg2)
      ∧ m' ((c.tc : Thread Cert.InDgradRefIdeal.nD Cert.InDgradRefIdeal.τ).loc Cert.InDgradRefIdeal.main_arg3) = m ((c.tc : Thread Cert.InDgradIdeal.nD Cert.InDgradIdeal.τ).loc Cert.InDgradIdeal.main_arg3)
      ∧ m' ((c.tc : Thread Cert.InDgradRefIdeal.nD Cert.InDgradRefIdeal.τ).loc Cert.InDgradRefIdeal.main_arg4) = m ((c.tc : Thread Cert.InDgradIdeal.nD Cert.InDgradIdeal.τ).loc Cert.InDgradIdeal.main_arg4)) →
    ∃ (v0 : (c : Dev Cert.InDgradIdeal.nD) → Buf (Elt Ideal) ((c.tc : Thread Cert.InDgradIdeal.nD Cert.InDgradIdeal.τ).loc Cert.InDgradIdeal.main_v4_0)) (v1 : (c : Dev Cert.InDgradIdeal.nD) → Buf (Elt Ideal) ((c.tc : Thread Cert.InDgradIdeal.nD Cert.InDgradIdeal.τ).loc Cert.InDgradIdeal.main_v4_1)),
      θ_run (Cert.InDgradIdeal.defs (F := Ideal)) (onTc (τ := Cert.InDgradIdeal.τ) (Cert.InDgradIdeal.main (F := Ideal))) ⟨m, fun _ => 0, g⟩ (fun r => ∀ c : Dev Cert.InDgradIdeal.nD,
          r.2.mem ((c.tc : Thread Cert.InDgradIdeal.nD Cert.InDgradIdeal.τ).loc Cert.InDgradIdeal.main_v4_0) = v0 c
          ∧ r.2.mem ((c.tc : Thread Cert.InDgradIdeal.nD Cert.InDgradIdeal.τ).loc Cert.InDgradIdeal.main_v4_1) = v1 c
          ∧ r.2.mem ((c.tc : Thread Cert.InDgradIdeal.nD Cert.InDgradIdeal.τ).loc Cert.InDgradIdeal.main_arg0) = m ((c.tc : Thread Cert.InDgradIdeal.nD Cert.InDgradIdeal.τ).loc Cert.InDgradIdeal.main_arg0)
          ∧ r.2.mem ((c.tc : Thread Cert.InDgradIdeal.nD Cert.InDgradIdeal.τ).loc Cert.InDgradIdeal.main_arg1) = m ((c.tc : Thread Cert.InDgradIdeal.nD Cert.InDgradIdeal.τ).loc Cert.InDgradIdeal.main_arg1)
          ∧ r.2.mem ((c.tc : Thread Cert.InDgradIdeal.nD Cert.InDgradIdeal.τ).loc Cert.InDgradIdeal.main_arg2) = m ((c.tc : Thread Cert.InDgradIdeal.nD Cert.InDgradIdeal.τ).loc Cert.InDgradIdeal.main_arg2)
          ∧ r.2.mem ((c.tc : Thread Cert.InDgradIdeal.nD Cert.InDgradIdeal.τ).loc Cert.InDgradIdeal.main_arg3) = m ((c.tc : Thread Cert.InDgradIdeal.nD Cert.InDgradIdeal.τ).loc Cert.InDgradIdeal.main_arg3)
          ∧ r.2.mem ((c.tc : Thread Cert.InDgradIdeal.nD Cert.InDgradIdeal.τ).loc Cert.InDgradIdeal.main_arg4) = m ((c.tc : Thread Cert.InDgradIdeal.nD Cert.InDgradIdeal.τ).loc Cert.InDgradIdeal.main_arg4))
      ∧ θ_run (Cert.InDgradRefIdeal.defs (F := Ideal)) (onTc (τ := Cert.InDgradRefIdeal.τ) (Cert.InDgradRefIdeal.main (F := Ideal))) ⟨m', fun _ => 0, g'⟩ (fun r => ∀ c : Dev Cert.InDgradRefIdeal.nD,
          r.2.mem ((c.tc : Thread Cert.InDgradRefIdeal.nD Cert.InDgradRefIdeal.τ).loc Cert.InDgradRefIdeal.main_v39) = v0 c
          ∧ r.2.mem ((c.tc : Thread Cert.InDgradRefIdeal.nD Cert.InDgradRefIdeal.τ).loc Cert.InDgradRefIdeal.main_v42) = v1 c
          ∧ r.2.mem ((c.tc : Thread Cert.InDgradRefIdeal.nD Cert.InDgradRefIdeal.τ).loc Cert.InDgradRefIdeal.main_arg0) = m' ((c.tc : Thread Cert.InDgradRefIdeal.nD Cert.InDgradRefIdeal.τ).loc Cert.InDgradRefIdeal.main_arg0)
          ∧ r.2.mem ((c.tc : Thread Cert.InDgradRefIdeal.nD Cert.InDgradRefIdeal.τ).loc Cert.InDgradRefIdeal.main_arg1) = m' ((c.tc : Thread Cert.InDgradRefIdeal.nD Cert.InDgradRefIdeal.τ).loc Cert.InDgradRefIdeal.main_arg1)
          ∧ r.2.mem ((c.tc : Thread Cert.InDgradRefIdeal.nD Cert.InDgradRefIdeal.τ).loc Cert.InDgradRefIdeal.main_arg2) = m' ((c.tc : Thread Cert.InDgradRefIdeal.nD Cert.InDgradRefIdeal.τ).loc Cert.InDgradRefIdeal.main_arg2)
          ∧ r.2.mem ((c.tc : Thread Cert.InDgradRefIdeal.nD Cert.InDgradRefIdeal.τ).loc Cert.InDgradRefIdeal.main_arg3) = m' ((c.tc : Thread Cert.InDgradRefIdeal.nD Cert.InDgradRefIdeal.τ).loc Cert.InDgradRefIdeal.main_arg3)
          ∧ r.2.mem ((c.tc : Thread Cert.InDgradRefIdeal.nD Cert.InDgradRefIdeal.τ).loc Cert.InDgradRefIdeal.main_arg4) = m' ((c.tc : Thread Cert.InDgradRefIdeal.nD Cert.InDgradRefIdeal.τ).loc Cert.InDgradRefIdeal.main_arg4))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v83) = v0 c
          ∧ r.2.mem ((c.tc : Thread Cert.ConvBwdRefIdeal.nD Cert.ConvBwdRefIdeal.τ).loc Cert.ConvBwdRefIdeal.main_v85) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3))

def preserves_SgBwd_SgBwdIdeal : Prop :=
  IdealRules.named_const.Statement Cert.SgBwdIdeal.κ "gelu_a" .f32 0x3D372713#32 ((8943 / 200000 : ℝ) : EReal)
  ∧ IdealRules.named_const.Statement Cert.SgBwdIdeal.κ "gelu_3a" .f32 0x3E095D4F#32 ((26829 / 200000 : ℝ) : EReal)

def algebraic_SgBwdIdeal_SgBwdRefIdeal_pre_sg_bwd_finite [hSgBwdIdeal : Cert.SgBwdIdeal.Facts] [hSgBwdRefIdeal : Cert.SgBwdRefIdeal.Facts] [hPre_sg_bwd_finite : Cert.Pre_sg_bwd_finite.Facts] : Prop :=
  ∀ (m : (ℓ : Loc Cert.SgBwdIdeal.nD Cert.SgBwdIdeal.τ Cert.SgBwdIdeal.sig) → Buf (Elt Ideal) ℓ) (g : Dev Cert.SgBwdIdeal.nD → PrngReg)
    (m' : (ℓ : Loc Cert.SgBwdRefIdeal.nD Cert.SgBwdRefIdeal.τ Cert.SgBwdRefIdeal.sig) → Buf (Elt Ideal) ℓ) (g' : Dev Cert.SgBwdRefIdeal.nD → PrngReg), Pre_SgBwdIdeal_sg_bwd_finite m →
    (∀ c : Dev Cert.SgBwdIdeal.nD,
      m' ((c.tc : Thread Cert.SgBwdRefIdeal.nD Cert.SgBwdRefIdeal.τ).loc Cert.SgBwdRefIdeal.main_arg0) = m ((c.tc : Thread Cert.SgBwdIdeal.nD Cert.SgBwdIdeal.τ).loc Cert.SgBwdIdeal.main_arg0)
      ∧ m' ((c.tc : Thread Cert.SgBwdRefIdeal.nD Cert.SgBwdRefIdeal.τ).loc Cert.SgBwdRefIdeal.main_arg1) = m ((c.tc : Thread Cert.SgBwdIdeal.nD Cert.SgBwdIdeal.τ).loc Cert.SgBwdIdeal.main_arg1)
      ∧ m' ((c.tc : Thread Cert.SgBwdRefIdeal.nD Cert.SgBwdRefIdeal.τ).loc Cert.SgBwdRefIdeal.main_arg2) = m ((c.tc : Thread Cert.SgBwdIdeal.nD Cert.SgBwdIdeal.τ).loc Cert.SgBwdIdeal.main_arg2)
      ∧ m' ((c.tc : Thread Cert.SgBwdRefIdeal.nD Cert.SgBwdRefIdeal.τ).loc Cert.SgBwdRefIdeal.main_arg3) = m ((c.tc : Thread Cert.SgBwdIdeal.nD Cert.SgBwdIdeal.τ).loc Cert.SgBwdIdeal.main_arg3)
      ∧ m' ((c.tc : Thread Cert.SgBwdRefIdeal.nD Cert.SgBwdRefIdeal.τ).loc Cert.SgBwdRefIdeal.main_arg4) = m ((c.tc : Thread Cert.SgBwdIdeal.nD Cert.SgBwdIdeal.τ).loc Cert.SgBwdIdeal.main_arg4)
      ∧ m' ((c.tc : Thread Cert.SgBwdRefIdeal.nD Cert.SgBwdRefIdeal.τ).loc Cert.SgBwdRefIdeal.main_arg5) = m ((c.tc : Thread Cert.SgBwdIdeal.nD Cert.SgBwdIdeal.τ).loc Cert.SgBwdIdeal.main_arg5)
      ∧ m' ((c.tc : Thread Cert.SgBwdRefIdeal.nD Cert.SgBwdRefIdeal.τ).loc Cert.SgBwdRefIdeal.main_arg6) = m ((c.tc : Thread Cert.SgBwdIdeal.nD Cert.SgBwdIdeal.τ).loc Cert.SgBwdIdeal.main_arg6)) →
    ∃ (v0 : (c : Dev Cert.SgBwdIdeal.nD) → Buf (Elt Ideal) ((c.tc : Thread Cert.SgBwdIdeal.nD Cert.SgBwdIdeal.τ).loc Cert.SgBwdIdeal.main_v3_0)) (v1 : (c : Dev Cert.SgBwdIdeal.nD) → Buf (Elt Ideal) ((c.tc : Thread Cert.SgBwdIdeal.nD Cert.SgBwdIdeal.τ).loc Cert.SgBwdIdeal.main_v3_1)) (v2 : (c : Dev Cert.SgBwdIdeal.nD) → Buf (Elt Ideal) ((c.tc : Thread Cert.SgBwdIdeal.nD Cert.SgBwdIdeal.τ).loc Cert.SgBwdIdeal.main_v3_2)) (v3 : (c : Dev Cert.SgBwdIdeal.nD) → Buf (Elt Ideal) ((c.tc : Thread Cert.SgBwdIdeal.nD Cert.SgBwdIdeal.τ).loc Cert.SgBwdIdeal.main_v3_3)) (v4 : (c : Dev Cert.SgBwdIdeal.nD) → Buf (Elt Ideal) ((c.tc : Thread Cert.SgBwdIdeal.nD Cert.SgBwdIdeal.τ).loc Cert.SgBwdIdeal.main_v3_4)),
      θ_run (Cert.SgBwdIdeal.defs (F := Ideal)) (onTc (τ := Cert.SgBwdIdeal.τ) (Cert.SgBwdIdeal.main (F := Ideal))) ⟨m, fun _ => 0, g⟩ (fun r => ∀ c : Dev Cert.SgBwdIdeal.nD,
          r.2.mem ((c.tc : Thread Cert.SgBwdIdeal.nD Cert.SgBwdIdeal.τ).loc Cert.SgBwdIdeal.main_v3_0) = v0 c
          ∧ r.2.mem ((c.tc : Thread Cert.SgBwdIdeal.nD Cert.SgBwdIdeal.τ).loc Cert.SgBwdIdeal.main_v3_1) = v1 c
          ∧ r.2.mem ((c.tc : Thread Cert.SgBwdIdeal.nD Cert.SgBwdIdeal.τ).loc Cert.SgBwdIdeal.main_v3_2) = v2 c
          ∧ r.2.mem ((c.tc : Thread Cert.SgBwdIdeal.nD Cert.SgBwdIdeal.τ).loc Cert.SgBwdIdeal.main_v3_3) = v3 c
          ∧ r.2.mem ((c.tc : Thread Cert.SgBwdIdeal.nD Cert.SgBwdIdeal.τ).loc Cert.SgBwdIdeal.main_v3_4) = v4 c
          ∧ r.2.mem ((c.tc : Thread Cert.SgBwdIdeal.nD Cert.SgBwdIdeal.τ).loc Cert.SgBwdIdeal.main_arg0) = m ((c.tc : Thread Cert.SgBwdIdeal.nD Cert.SgBwdIdeal.τ).loc Cert.SgBwdIdeal.main_arg0)
          ∧ r.2.mem ((c.tc : Thread Cert.SgBwdIdeal.nD Cert.SgBwdIdeal.τ).loc Cert.SgBwdIdeal.main_arg1) = m ((c.tc : Thread Cert.SgBwdIdeal.nD Cert.SgBwdIdeal.τ).loc Cert.SgBwdIdeal.main_arg1)
          ∧ r.2.mem ((c.tc : Thread Cert.SgBwdIdeal.nD Cert.SgBwdIdeal.τ).loc Cert.SgBwdIdeal.main_arg2) = m ((c.tc : Thread Cert.SgBwdIdeal.nD Cert.SgBwdIdeal.τ).loc Cert.SgBwdIdeal.main_arg2)
          ∧ r.2.mem ((c.tc : Thread Cert.SgBwdIdeal.nD Cert.SgBwdIdeal.τ).loc Cert.SgBwdIdeal.main_arg3) = m ((c.tc : Thread Cert.SgBwdIdeal.nD Cert.SgBwdIdeal.τ).loc Cert.SgBwdIdeal.main_arg3)
          ∧ r.2.mem ((c.tc : Thread Cert.SgBwdIdeal.nD Cert.SgBwdIdeal.τ).loc Cert.SgBwdIdeal.main_arg4) = m ((c.tc : Thread Cert.SgBwdIdeal.nD Cert.SgBwdIdeal.τ).loc Cert.SgBwdIdeal.main_arg4)
          ∧ r.2.mem ((c.tc : Thread Cert.SgBwdIdeal.nD Cert.SgBwdIdeal.τ).loc Cert.SgBwdIdeal.main_arg5) = m ((c.tc : Thread Cert.SgBwdIdeal.nD Cert.SgBwdIdeal.τ).loc Cert.SgBwdIdeal.main_arg5)
          ∧ r.2.mem ((c.tc : Thread Cert.SgBwdIdeal.nD Cert.SgBwdIdeal.τ).loc Cert.SgBwdIdeal.main_arg6) = m ((c.tc : Thread Cert.SgBwdIdeal.nD Cert.SgBwdIdeal.τ).loc Cert.SgBwdIdeal.main_arg6))
      ∧ θ_run (Cert.SgBwdRefIdeal.defs (F := Ideal)) (onTc (τ := Cert.SgBwdRefIdeal.τ) (Cert.SgBwdRefIdeal.main (F := Ideal))) ⟨m', fun _ => 0, g'⟩ (fun r => ∀ c : Dev Cert.SgBwdRefIdeal.nD,
          r.2.mem ((c.tc : Thread Cert.SgBwdRefIdeal.nD Cert.SgBwdRefIdeal.τ).loc Cert.SgBwdRefIdeal.main_v170) = v0 c
          ∧ r.2.mem ((c.tc : Thread Cert.SgBwdRefIdeal.nD Cert.SgBwdRefIdeal.τ).loc Cert.SgBwdRefIdeal.main_v105) = v1 c
          ∧ r.2.mem ((c.tc : Thread Cert.SgBwdRefIdeal.nD Cert.SgBwdRefIdeal.τ).loc Cert.SgBwdRefIdeal.main_v171) = v2 c
          ∧ r.2.mem ((c.tc : Thread Cert.SgBwdRefIdeal.nD Cert.SgBwdRefIdeal.τ).loc Cert.SgBwdRefIdeal.main_v174) = v3 c
          ∧ r.2.mem ((c.tc : Thread Cert.SgBwdRefIdeal.nD Cert.SgBwdRefIdeal.τ).loc Cert.SgBwdRefIdeal.main_v177) = v4 c
          ∧ r.2.mem ((c.tc : Thread Cert.SgBwdRefIdeal.nD Cert.SgBwdRefIdeal.τ).loc Cert.SgBwdRefIdeal.main_arg0) = m' ((c.tc : Thread Cert.SgBwdRefIdeal.nD Cert.SgBwdRefIdeal.τ).loc Cert.SgBwdRefIdeal.main_arg0)
          ∧ r.2.mem ((c.tc : Thread Cert.SgBwdRefIdeal.nD Cert.SgBwdRefIdeal.τ).loc Cert.SgBwdRefIdeal.main_arg1) = m' ((c.tc : Thread Cert.SgBwdRefIdeal.nD Cert.SgBwdRefIdeal.τ).loc Cert.SgBwdRefIdeal.main_arg1)
          ∧ r.2.mem ((c.tc : Thread Cert.SgBwdRefIdeal.nD Cert.SgBwdRefIdeal.τ).loc Cert.SgBwdRefIdeal.main_arg2) = m' ((c.tc : Thread Cert.SgBwdRefIdeal.nD Cert.SgBwdRefIdeal.τ).loc Cert.SgBwdRefIdeal.main_arg2)
          ∧ r.2.mem ((c.tc : Thread Cert.SgBwdRefIdeal.nD Cert.SgBwdRefIdeal.τ).loc Cert.SgBwdRefIdeal.main_arg3) = m' ((c.tc : Thread Cert.SgBwdRefIdeal.nD Cert.SgBwdRefIdeal.τ).loc Cert.SgBwdRefIdeal.main_arg3)
          ∧ r.2.mem ((c.tc : Thread Cert.SgBwdRefIdeal.nD Cert.SgBwdRefIdeal.τ).loc Cert.SgBwdRefIdeal.main_arg4) = m' ((c.tc : Thread Cert.SgBwdRefIdeal.nD Cert.SgBwdRefIdeal.τ).loc Cert.SgBwdRefIdeal.main_arg4)
          ∧ r.2.mem ((c.tc : Thread Cert.SgBwdRefIdeal.nD Cert.SgBwdRefIdeal.τ).loc Cert.SgBwdRefIdeal.main_arg5) = m' ((c.tc : Thread Cert.SgBwdRefIdeal.nD Cert.SgBwdRefIdeal.τ).loc Cert.SgBwdRefIdeal.main_arg5)
          ∧ r.2.mem ((c.tc : Thread Cert.SgBwdRefIdeal.nD Cert.SgBwdRefIdeal.τ).loc Cert.SgBwdRefIdeal.main_arg6) = m' ((c.tc : Thread Cert.SgBwdRefIdeal.nD Cert.SgBwdRefIdeal.τ).loc Cert.SgBwdRefIdeal.main_arg6))

def preserves_MergeBwd_MergeBwdIdeal : Prop :=
  True

def algebraic_MergeBwdIdeal_MergeBwdRefIdeal_on_merge_bwd_written [hMergeBwdIdeal : Cert.MergeBwdIdeal.Facts] [hMergeBwdRefIdeal : Cert.MergeBwdRefIdeal.Facts] [hOn_merge_bwd_written : Cert.On_merge_bwd_written.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v3_0)) (v1 : (c : Dev Cert.MergeBwdIdeal.nD) → Buf (Elt Ideal) ((c.tc : Thread Cert.MergeBwdIdeal.nD Cert.MergeBwdIdeal.τ).loc Cert.MergeBwdIdeal.main_v3_1)) (v2 : (c : Dev Cert.MergeBwdIdeal.nD) → Buf (Elt Ideal) ((c.tc : Thread Cert.MergeBwdIdeal.nD Cert.MergeBwdIdeal.τ).loc Cert.MergeBwdIdeal.main_v3_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          (∀ i : (⟨2, ![2048, 7680]⟩ : Shape).Idx, (Cert.On_merge_bwd_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3))).1 i = 1#1 → r.2.mem ((c.tc : Thread Cert.MergeBwdIdeal.nD Cert.MergeBwdIdeal.τ).loc Cert.MergeBwdIdeal.main_v3_0) i = v0 c i)
          ∧ (∀ i : (⟨4, ![4, 3, 512, 256]⟩ : Shape).Idx, (Cert.On_merge_bwd_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3))).2.1 i = 1#1 → r.2.mem ((c.tc : Thread Cert.MergeBwdIdeal.nD Cert.MergeBwdIdeal.τ).loc Cert.MergeBwdIdeal.main_v3_1) i = v1 c i)
          ∧ (∀ i : (⟨3, ![3, 2048, 512]⟩ : Shape).Idx, (Cert.On_merge_bwd_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3))).2.2 i = 1#1 → r.2.mem ((c.tc : Thread Cert.MergeBwdIdeal.nD Cert.MergeBwdIdeal.τ).loc Cert.MergeBwdIdeal.main_v3_2) i = v2 c i)
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          (∀ i : (⟨2, ![2048, 7680]⟩ : Shape).Idx, (Cert.On_merge_bwd_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3))).1 i = 1#1 → r.2.mem ((c.tc : Thread Cert.MergeBwdRefIdeal.nD Cert.MergeBwdRefIdeal.τ).loc Cert.MergeBwdRefIdeal.main_v36) i = v0 c i)
          ∧ (∀ i : (⟨4, ![4, 3, 512, 256]⟩ : Shape).Idx, (Cert.On_merge_bwd_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3))).2.1 i = 1#1 → r.2.mem ((c.tc : Thread Cert.MergeBwdRefIdeal.nD Cert.MergeBwdRefIdeal.τ).loc Cert.MergeBwdRefIdeal.main_v38) i = v1 c i)
          ∧ (∀ i : (⟨3, ![3, 2048, 512]⟩ : Shape).Idx, (Cert.On_merge_bwd_written.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3))).2.2 i = 1#1 → r.2.mem ((c.tc : Thread Cert.MergeBwdRefIdeal.nD Cert.MergeBwdRefIdeal.τ).loc Cert.MergeBwdRefIdeal.main_v32) i = v2 c i)
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_SgFwd_SgFwdIdeal : Prop :=
  IdealRules.named_const.Statement Cert.SgFwdIdeal.κ "gelu_a" .f32 0x3D372713#32 ((8943 / 200000 : ℝ) : EReal)

def algebraic_SgFwdIdeal_SgFwdRefIdeal [hSgFwdIdeal : Cert.SgFwdIdeal.Facts] [hSgFwdRefIdeal : Cert.SgFwdRefIdeal.Facts] : Prop :=
  ∀ (m : (ℓ : Loc Cert.SgFwdIdeal.nD Cert.SgFwdIdeal.τ Cert.SgFwdIdeal.sig) → Buf (Elt Ideal) ℓ) (g : Dev Cert.SgFwdIdeal.nD → PrngReg)
    (m' : (ℓ : Loc Cert.SgFwdRefIdeal.nD Cert.SgFwdRefIdeal.τ Cert.SgFwdRefIdeal.sig) → Buf (Elt Ideal) ℓ) (g' : Dev Cert.SgFwdRefIdeal.nD → PrngReg), Pre_SgFwdIdeal m →
    (∀ c : Dev Cert.SgFwdIdeal.nD,
      m' ((c.tc : Thread Cert.SgFwdRefIdeal.nD Cert.SgFwdRefIdeal.τ).loc Cert.SgFwdRefIdeal.main_arg0) = m ((c.tc : Thread Cert.SgFwdIdeal.nD Cert.SgFwdIdeal.τ).loc Cert.SgFwdIdeal.main_arg0)
      ∧ m' ((c.tc : Thread Cert.SgFwdRefIdeal.nD Cert.SgFwdRefIdeal.τ).loc Cert.SgFwdRefIdeal.main_arg1) = m ((c.tc : Thread Cert.SgFwdIdeal.nD Cert.SgFwdIdeal.τ).loc Cert.SgFwdIdeal.main_arg1)
      ∧ m' ((c.tc : Thread Cert.SgFwdRefIdeal.nD Cert.SgFwdRefIdeal.τ).loc Cert.SgFwdRefIdeal.main_arg2) = m ((c.tc : Thread Cert.SgFwdIdeal.nD Cert.SgFwdIdeal.τ).loc Cert.SgFwdIdeal.main_arg2)
      ∧ m' ((c.tc : Thread Cert.SgFwdRefIdeal.nD Cert.SgFwdRefIdeal.τ).loc Cert.SgFwdRefIdeal.main_arg3) = m ((c.tc : Thread Cert.SgFwdIdeal.nD Cert.SgFwdIdeal.τ).loc Cert.SgFwdIdeal.main_arg3)
      ∧ m' ((c.tc : Thread Cert.SgFwdRefIdeal.nD Cert.SgFwdRefIdeal.τ).loc Cert.SgFwdRefIdeal.main_arg4) = m ((c.tc : Thread Cert.SgFwdIdeal.nD Cert.SgFwdIdeal.τ).loc Cert.SgFwdIdeal.main_arg4)
      ∧ m' ((c.tc : Thread Cert.SgFwdRefIdeal.nD Cert.SgFwdRefIdeal.τ).loc Cert.SgFwdRefIdeal.main_arg5) = m ((c.tc : Thread Cert.SgFwdIdeal.nD Cert.SgFwdIdeal.τ).loc Cert.SgFwdIdeal.main_arg5)) →
    ∃ (v0 : (c : Dev Cert.SgFwdIdeal.nD) → Buf (Elt Ideal) ((c.tc : Thread Cert.SgFwdIdeal.nD Cert.SgFwdIdeal.τ).loc Cert.SgFwdIdeal.main_v3)),
      θ_run (Cert.SgFwdIdeal.defs (F := Ideal)) (onTc (τ := Cert.SgFwdIdeal.τ) (Cert.SgFwdIdeal.main (F := Ideal))) ⟨m, fun _ => 0, g⟩ (fun r => ∀ c : Dev Cert.SgFwdIdeal.nD,
          r.2.mem ((c.tc : Thread Cert.SgFwdIdeal.nD Cert.SgFwdIdeal.τ).loc Cert.SgFwdIdeal.main_v3) = v0 c
          ∧ r.2.mem ((c.tc : Thread Cert.SgFwdIdeal.nD Cert.SgFwdIdeal.τ).loc Cert.SgFwdIdeal.main_arg0) = m ((c.tc : Thread Cert.SgFwdIdeal.nD Cert.SgFwdIdeal.τ).loc Cert.SgFwdIdeal.main_arg0)
          ∧ r.2.mem ((c.tc : Thread Cert.SgFwdIdeal.nD Cert.SgFwdIdeal.τ).loc Cert.SgFwdIdeal.main_arg1) = m ((c.tc : Thread Cert.SgFwdIdeal.nD Cert.SgFwdIdeal.τ).loc Cert.SgFwdIdeal.main_arg1)
          ∧ r.2.mem ((c.tc : Thread Cert.SgFwdIdeal.nD Cert.SgFwdIdeal.τ).loc Cert.SgFwdIdeal.main_arg2) = m ((c.tc : Thread Cert.SgFwdIdeal.nD Cert.SgFwdIdeal.τ).loc Cert.SgFwdIdeal.main_arg2)
          ∧ r.2.mem ((c.tc : Thread Cert.SgFwdIdeal.nD Cert.SgFwdIdeal.τ).loc Cert.SgFwdIdeal.main_arg3) = m ((c.tc : Thread Cert.SgFwdIdeal.nD Cert.SgFwdIdeal.τ).loc Cert.SgFwdIdeal.main_arg3)
          ∧ r.2.mem ((c.tc : Thread Cert.SgFwdIdeal.nD Cert.SgFwdIdeal.τ).loc Cert.SgFwdIdeal.main_arg4) = m ((c.tc : Thread Cert.SgFwdIdeal.nD Cert.SgFwdIdeal.τ).loc Cert.SgFwdIdeal.main_arg4)
          ∧ r.2.mem ((c.tc : Thread Cert.SgFwdIdeal.nD Cert.SgFwdIdeal.τ).loc Cert.SgFwdIdeal.main_arg5) = m ((c.tc : Thread Cert.SgFwdIdeal.nD Cert.SgFwdIdeal.τ).loc Cert.SgFwdIdeal.main_arg5))
      ∧ θ_run (Cert.SgFwdRefIdeal.defs (F := Ideal)) (onTc (τ := Cert.SgFwdRefIdeal.τ) (Cert.SgFwdRefIdeal.main (F := Ideal))) ⟨m', fun _ => 0, g'⟩ (fun r => ∀ c : Dev Cert.SgFwdRefIdeal.nD,
          r.2.mem ((c.tc : Thread Cert.SgFwdRefIdeal.nD Cert.SgFwdRefIdeal.τ).loc Cert.SgFwdRefIdeal.main_v71) = v0 c
          ∧ r.2.mem ((c.tc : Thread Cert.SgFwdRefIdeal.nD Cert.SgFwdRefIdeal.τ).loc Cert.SgFwdRefIdeal.main_arg0) = m' ((c.tc : Thread Cert.SgFwdRefIdeal.nD Cert.SgFwdRefIdeal.τ).loc Cert.SgFwdRefIdeal.main_arg0)
          ∧ r.2.mem ((c.tc : Thread Cert.SgFwdRefIdeal.nD Cert.SgFwdRefIdeal.τ).loc Cert.SgFwdRefIdeal.main_arg1) = m' ((c.tc : Thread Cert.SgFwdRefIdeal.nD Cert.SgFwdRefIdeal.τ).loc Cert.SgFwdRefIdeal.main_arg1)
          ∧ r.2.mem ((c.tc : Thread Cert.SgFwdRefIdeal.nD Cert.SgFwdRefIdeal.τ).loc Cert.SgFwdRefIdeal.main_arg2) = m' ((c.tc : Thread Cert.SgFwdRefIdeal.nD Cert.SgFwdRefIdeal.τ).loc Cert.SgFwdRefIdeal.main_arg2)
          ∧ r.2.mem ((c.tc : Thread Cert.SgFwdRefIdeal.nD Cert.SgFwdRefIdeal.τ).loc Cert.SgFwdRefIdeal.main_arg3) = m' ((c.tc : Thread Cert.SgFwdRefIdeal.nD Cert.SgFwdRefIdeal.τ).loc Cert.SgFwdRefIdeal.main_arg3)
          ∧ r.2.mem ((c.tc : Thread Cert.SgFwdRefIdeal.nD Cert.SgFwdRefIdeal.τ).loc Cert.SgFwdRefIdeal.main_arg4) = m' ((c.tc : Thread Cert.SgFwdRefIdeal.nD Cert.SgFwdRefIdeal.τ).loc Cert.SgFwdRefIdeal.main_arg4)
          ∧ r.2.mem ((c.tc : Thread Cert.SgFwdRefIdeal.nD Cert.SgFwdRefIdeal.τ).loc Cert.SgFwdRefIdeal.main_arg5) = m' ((c.tc : Thread Cert.SgFwdRefIdeal.nD Cert.SgFwdRefIdeal.τ).loc Cert.SgFwdRefIdeal.main_arg5))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v33) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v3)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v3) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v17) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v14) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_LbsFwd_LbsFwdIdeal : Prop :=
  True

def algebraic_LbsFwdIdeal_LbsFwdRefIdeal_pre_lbs_fwd_finite [hLbsFwdIdeal : Cert.LbsFwdIdeal.Facts] [hLbsFwdRefIdeal : Cert.LbsFwdRefIdeal.Facts] [hPre_lbs_fwd_finite : Cert.Pre_lbs_fwd_finite.Facts] : Prop :=
  ∀ (m : (ℓ : Loc Cert.LbsFwdIdeal.nD Cert.LbsFwdIdeal.τ Cert.LbsFwdIdeal.sig) → Buf (Elt Ideal) ℓ) (g : Dev Cert.LbsFwdIdeal.nD → PrngReg)
    (m' : (ℓ : Loc Cert.LbsFwdRefIdeal.nD Cert.LbsFwdRefIdeal.τ Cert.LbsFwdRefIdeal.sig) → Buf (Elt Ideal) ℓ) (g' : Dev Cert.LbsFwdRefIdeal.nD → PrngReg), Pre_LbsFwdIdeal_lbs_fwd_finite m →
    (∀ c : Dev Cert.LbsFwdIdeal.nD,
      m' ((c.tc : Thread Cert.LbsFwdRefIdeal.nD Cert.LbsFwdRefIdeal.τ).loc Cert.LbsFwdRefIdeal.main_arg0) = m ((c.tc : Thread Cert.LbsFwdIdeal.nD Cert.LbsFwdIdeal.τ).loc Cert.LbsFwdIdeal.main_arg0)) →
    ∃ (v0 : (c : Dev Cert.LbsFwdIdeal.nD) → Buf (Elt Ideal) ((c.tc : Thread Cert.LbsFwdIdeal.nD Cert.LbsFwdIdeal.τ).loc Cert.LbsFwdIdeal.main_v0)),
      θ_run (Cert.LbsFwdIdeal.defs (F := Ideal)) (onTc (τ := Cert.LbsFwdIdeal.τ) (Cert.LbsFwdIdeal.main (F := Ideal))) ⟨m, fun _ => 0, g⟩ (fun r => ∀ c : Dev Cert.LbsFwdIdeal.nD,
          r.2.mem ((c.tc : Thread Cert.LbsFwdIdeal.nD Cert.LbsFwdIdeal.τ).loc Cert.LbsFwdIdeal.main_v0) = v0 c
          ∧ r.2.mem ((c.tc : Thread Cert.LbsFwdIdeal.nD Cert.LbsFwdIdeal.τ).loc Cert.LbsFwdIdeal.main_arg0) = m ((c.tc : Thread Cert.LbsFwdIdeal.nD Cert.LbsFwdIdeal.τ).loc Cert.LbsFwdIdeal.main_arg0))
      ∧ θ_run (Cert.LbsFwdRefIdeal.defs (F := Ideal)) (onTc (τ := Cert.LbsFwdRefIdeal.τ) (Cert.LbsFwdRefIdeal.main (F := Ideal))) ⟨m', fun _ => 0, g'⟩ (fun r => ∀ c : Dev Cert.LbsFwdRefIdeal.nD,
          r.2.mem ((c.tc : Thread Cert.LbsFwdRefIdeal.nD Cert.LbsFwdRefIdeal.τ).loc Cert.LbsFwdRefIdeal.main_v16) = v0 c
          ∧ r.2.mem ((c.tc : Thread Cert.LbsFwdRefIdeal.nD Cert.LbsFwdRefIdeal.τ).loc Cert.LbsFwdRefIdeal.main_arg0) = m' ((c.tc : Thread Cert.LbsFwdRefIdeal.nD Cert.LbsFwdRefIdeal.τ).loc Cert.LbsFwdRefIdeal.main_arg0))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v3)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v3) = v0 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v4) = v0 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_v17) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_SumDevices_SumDevicesIdeal : Prop :=
  True

def algebraic_SumDevicesIdeal_SumDevicesRefIdeal [hSumDevicesIdeal : Cert.SumDevicesIdeal.Facts] [hSumDevicesRefIdeal : Cert.SumDevicesRefIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg)
    (m' : (ℓ : Loc Cert.SumDevicesRefIdeal.nD Cert.SumDevicesRefIdeal.τ Cert.SumDevicesRefIdeal.sig) → Buf (Elt Ideal) ℓ) (g' : Dev Cert.SumDevicesRefIdeal.nD → PrngReg), Pre_SumDevicesIdeal m →
    (∀ c : Dev Cert.SumDevicesIdeal.nD,
      m' ((c.tc : Thread Cert.SumDevicesRefIdeal.nD Cert.SumDevicesRefIdeal.τ).loc Cert.SumDevicesRefIdeal.main_arg0) = m ((c.tc : Thread Cert.SumDevicesIdeal.nD Cert.SumDevicesIdeal.τ).loc Cert.SumDevicesIdeal.main_arg0)) →
    ∃ (v0 : (c : Dev Cert.SumDevicesIdeal.nD) → Buf (Elt Ideal) ((c.tc : Thread Cert.SumDevicesIdeal.nD Cert.SumDevicesIdeal.τ).loc Cert.SumDevicesIdeal.main_v0)),
      θ_run (Cert.SumDevicesIdeal.defs (F := Ideal)) (onTc (τ := Cert.SumDevicesIdeal.τ) (Cert.SumDevicesIdeal.main (F := Ideal))) ⟨m, fun _ => 0, g⟩ (fun r => ∀ c : Dev Cert.SumDevicesIdeal.nD,
          r.2.mem ((c.tc : Thread Cert.SumDevicesIdeal.nD Cert.SumDevicesIdeal.τ).loc Cert.SumDevicesIdeal.main_v0) = v0 c
          ∧ r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ θ_run (Cert.SumDevicesRefIdeal.defs (F := Ideal)) (onTc (τ := Cert.SumDevicesRefIdeal.τ) (Cert.SumDevicesRefIdeal.main (F := Ideal))) ⟨m', fun _ => 0, g'⟩ (fun r => ∀ c : Dev Cert.SumDevicesRefIdeal.nD,
          r.2.mem ((c.tc : Thread Cert.SumDevicesRefIdeal.nD Cert.SumDevicesRefIdeal.τ).loc Cert.SumDevicesRefIdeal.main_v0) = v0 c
          ∧ r.2.mem ((c.tc : Thread Cert.SumDevicesRefIdeal.nD Cert.SumDevicesRefIdeal.τ).loc Cert.SumDevicesRefIdeal.main_arg0) = m' ((c.tc : Thread Cert.SumDevicesRefIdeal.nD Cert.SumDevicesRefIdeal.τ).loc Cert.SumDevicesRefIdeal.main_arg0))

def preserves_AdamwFlat_AdamwFlatIdeal : Prop :=
  True

def algebraic_AdamwFlatIdeal_AdamwFlatRefIdeal [hAdamwFlatIdeal : Cert.AdamwFlatIdeal.Facts] [hAdamwFlatRefIdeal : Cert.AdamwFlatRefIdeal.Facts] : Prop :=
  ∀ (m : (ℓ : Loc Cert.AdamwFlatIdeal.nD Cert.AdamwFlatIdeal.τ Cert.AdamwFlatIdeal.sig) → Buf (Elt Ideal) ℓ) (g : Dev Cert.AdamwFlatIdeal.nD → PrngReg)
    (m' : (ℓ : Loc Cert.AdamwFlatRefIdeal.nD Cert.AdamwFlatRefIdeal.τ Cert.AdamwFlatRefIdeal.sig) → Buf (Elt Ideal) ℓ) (g' : Dev Cert.AdamwFlatRefIdeal.nD → PrngReg), Pre_AdamwFlatIdeal m →
    (∀ c : Dev Cert.AdamwFlatIdeal.nD,
      m' ((c.tc : Thread Cert.AdamwFlatRefIdeal.nD Cert.AdamwFlatRefIdeal.τ).loc Cert.AdamwFlatRefIdeal.main_arg0) = m ((c.tc : Thread Cert.AdamwFlatIdeal.nD Cert.AdamwFlatIdeal.τ).loc Cert.AdamwFlatIdeal.main_arg0)
      ∧ m' ((c.tc : Thread Cert.AdamwFlatRefIdeal.nD Cert.AdamwFlatRefIdeal.τ).loc Cert.AdamwFlatRefIdeal.main_arg1) = m ((c.tc : Thread Cert.AdamwFlatIdeal.nD Cert.AdamwFlatIdeal.τ).loc Cert.AdamwFlatIdeal.main_arg1)
      ∧ m' ((c.tc : Thread Cert.AdamwFlatRefIdeal.nD Cert.AdamwFlatRefIdeal.τ).loc Cert.AdamwFlatRefIdeal.main_arg2) = m ((c.tc : Thread Cert.AdamwFlatIdeal.nD Cert.AdamwFlatIdeal.τ).loc Cert.AdamwFlatIdeal.main_arg2)
      ∧ m' ((c.tc : Thread Cert.AdamwFlatRefIdeal.nD Cert.AdamwFlatRefIdeal.τ).loc Cert.AdamwFlatRefIdeal.main_arg3) = m ((c.tc : Thread Cert.AdamwFlatIdeal.nD Cert.AdamwFlatIdeal.τ).loc Cert.AdamwFlatIdeal.main_arg3)) →
    ∃ (v0 : (c : Dev Cert.AdamwFlatIdeal.nD) → Buf (Elt Ideal) ((c.tc : Thread Cert.AdamwFlatIdeal.nD Cert.AdamwFlatIdeal.τ).loc Cert.AdamwFlatIdeal.main_v0_0)) (v1 : (c : Dev Cert.AdamwFlatIdeal.nD) → Buf (Elt Ideal) ((c.tc : Thread Cert.AdamwFlatIdeal.nD Cert.AdamwFlatIdeal.τ).loc Cert.AdamwFlatIdeal.main_v0_1)) (v2 : (c : Dev Cert.AdamwFlatIdeal.nD) → Buf (Elt Ideal) ((c.tc : Thread Cert.AdamwFlatIdeal.nD Cert.AdamwFlatIdeal.τ).loc Cert.AdamwFlatIdeal.main_v0_2)),
      θ_run (Cert.AdamwFlatIdeal.defs (F := Ideal)) (onTc (τ := Cert.AdamwFlatIdeal.τ) (Cert.AdamwFlatIdeal.main (F := Ideal))) ⟨m, fun _ => 0, g⟩ (fun r => ∀ c : Dev Cert.AdamwFlatIdeal.nD,
          r.2.mem ((c.tc : Thread Cert.AdamwFlatIdeal.nD Cert.AdamwFlatIdeal.τ).loc Cert.AdamwFlatIdeal.main_v0_0) = v0 c
          ∧ r.2.mem ((c.tc : Thread Cert.AdamwFlatIdeal.nD Cert.AdamwFlatIdeal.τ).loc Cert.AdamwFlatIdeal.main_v0_1) = v1 c
          ∧ r.2.mem ((c.tc : Thread Cert.AdamwFlatIdeal.nD Cert.AdamwFlatIdeal.τ).loc Cert.AdamwFlatIdeal.main_v0_2) = v2 c
          ∧ r.2.mem ((c.tc : Thread Cert.AdamwFlatIdeal.nD Cert.AdamwFlatIdeal.τ).loc Cert.AdamwFlatIdeal.main_arg0) = m ((c.tc : Thread Cert.AdamwFlatIdeal.nD Cert.AdamwFlatIdeal.τ).loc Cert.AdamwFlatIdeal.main_arg0)
          ∧ r.2.mem ((c.tc : Thread Cert.AdamwFlatIdeal.nD Cert.AdamwFlatIdeal.τ).loc Cert.AdamwFlatIdeal.main_arg1) = m ((c.tc : Thread Cert.AdamwFlatIdeal.nD Cert.AdamwFlatIdeal.τ).loc Cert.AdamwFlatIdeal.main_arg1)
          ∧ r.2.mem ((c.tc : Thread Cert.AdamwFlatIdeal.nD Cert.AdamwFlatIdeal.τ).loc Cert.AdamwFlatIdeal.main_arg2) = m ((c.tc : Thread Cert.AdamwFlatIdeal.nD Cert.AdamwFlatIdeal.τ).loc Cert.AdamwFlatIdeal.main_arg2)
          ∧ r.2.mem ((c.tc : Thread Cert.AdamwFlatIdeal.nD Cert.AdamwFlatIdeal.τ).loc Cert.AdamwFlatIdeal.main_arg3) = m ((c.tc : Thread Cert.AdamwFlatIdeal.nD Cert.AdamwFlatIdeal.τ).loc Cert.AdamwFlatIdeal.main_arg3))
      ∧ θ_run (Cert.AdamwFlatRefIdeal.defs (F := Ideal)) (onTc (τ := Cert.AdamwFlatRefIdeal.τ) (Cert.AdamwFlatRefIdeal.main (F := Ideal))) ⟨m', fun _ => 0, g'⟩ (fun r => ∀ c : Dev Cert.AdamwFlatRefIdeal.nD,
          r.2.mem ((c.tc : Thread Cert.AdamwFlatRefIdeal.nD Cert.AdamwFlatRefIdeal.τ).loc Cert.AdamwFlatRefIdeal.main_v23) = v0 c
          ∧ r.2.mem ((c.tc : Thread Cert.AdamwFlatRefIdeal.nD Cert.AdamwFlatRefIdeal.τ).loc Cert.AdamwFlatRefIdeal.main_v4) = v1 c
          ∧ r.2.mem ((c.tc : Thread Cert.AdamwFlatRefIdeal.nD Cert.AdamwFlatRefIdeal.τ).loc Cert.AdamwFlatRefIdeal.main_v10) = v2 c
          ∧ r.2.mem ((c.tc : Thread Cert.AdamwFlatRefIdeal.nD Cert.AdamwFlatRefIdeal.τ).loc Cert.AdamwFlatRefIdeal.main_arg0) = m' ((c.tc : Thread Cert.AdamwFlatRefIdeal.nD Cert.AdamwFlatRefIdeal.τ).loc Cert.AdamwFlatRefIdeal.main_arg0)
          ∧ r.2.mem ((c.tc : Thread Cert.AdamwFlatRefIdeal.nD Cert.AdamwFlatRefIdeal.τ).loc Cert.AdamwFlatRefIdeal.main_arg1) = m' ((c.tc : Thread Cert.AdamwFlatRefIdeal.nD Cert.AdamwFlatRefIdeal.τ).loc Cert.AdamwFlatRefIdeal.main_arg1)
          ∧ r.2.mem ((c.tc : Thread Cert.AdamwFlatRefIdeal.nD Cert.AdamwFlatRefIdeal.τ).loc Cert.AdamwFlatRefIdeal.main_arg2) = m' ((c.tc : Thread Cert.AdamwFlatRefIdeal.nD Cert.AdamwFlatRefIdeal.τ).loc Cert.AdamwFlatRefIdeal.main_arg2)
          ∧ r.2.mem ((c.tc : Thread Cert.AdamwFlatRefIdeal.nD Cert.AdamwFlatRefIdeal.τ).loc Cert.AdamwFlatRefIdeal.main_arg3) = m' ((c.tc : Thread Cert.AdamwFlatRefIdeal.nD Cert.AdamwFlatRefIdeal.τ).loc Cert.AdamwFlatRefIdeal.main_arg3))

def preserves_AdamwLayers_AdamwLayersIdeal : Prop :=
  True

def algebraic_AdamwLayersIdeal_AdamwLayersRefIdeal [hAdamwLayersIdeal : Cert.AdamwLayersIdeal.Facts] [hAdamwLayersRefIdeal : Cert.AdamwLayersRefIdeal.Facts] : Prop :=
  ∀ (m : (ℓ : Loc Cert.AdamwLayersIdeal.nD Cert.AdamwLayersIdeal.τ Cert.AdamwLayersIdeal.sig) → Buf (Elt Ideal) ℓ) (g : Dev Cert.AdamwLayersIdeal.nD → PrngReg)
    (m' : (ℓ : Loc Cert.AdamwLayersRefIdeal.nD Cert.AdamwLayersRefIdeal.τ Cert.AdamwLayersRefIdeal.sig) → Buf (Elt Ideal) ℓ) (g' : Dev Cert.AdamwLayersRefIdeal.nD → PrngReg), Pre_AdamwLayersIdeal m →
    (∀ c : Dev Cert.AdamwLayersIdeal.nD,
      m' ((c.tc : Thread Cert.AdamwLayersRefIdeal.nD Cert.AdamwLayersRefIdeal.τ).loc Cert.AdamwLayersRefIdeal.main_arg0) = m ((c.tc : Thread Cert.AdamwLayersIdeal.nD Cert.AdamwLayersIdeal.τ).loc Cert.AdamwLayersIdeal.main_arg0)
      ∧ m' ((c.tc : Thread Cert.AdamwLayersRefIdeal.nD Cert.AdamwLayersRefIdeal.τ).loc Cert.AdamwLayersRefIdeal.main_arg1) = m ((c.tc : Thread Cert.AdamwLayersIdeal.nD Cert.AdamwLayersIdeal.τ).loc Cert.AdamwLayersIdeal.main_arg1)
      ∧ m' ((c.tc : Thread Cert.AdamwLayersRefIdeal.nD Cert.AdamwLayersRefIdeal.τ).loc Cert.AdamwLayersRefIdeal.main_arg2) = m ((c.tc : Thread Cert.AdamwLayersIdeal.nD Cert.AdamwLayersIdeal.τ).loc Cert.AdamwLayersIdeal.main_arg2)
      ∧ m' ((c.tc : Thread Cert.AdamwLayersRefIdeal.nD Cert.AdamwLayersRefIdeal.τ).loc Cert.AdamwLayersRefIdeal.main_arg3) = m ((c.tc : Thread Cert.AdamwLayersIdeal.nD Cert.AdamwLayersIdeal.τ).loc Cert.AdamwLayersIdeal.main_arg3)
      ∧ m' ((c.tc : Thread Cert.AdamwLayersRefIdeal.nD Cert.AdamwLayersRefIdeal.τ).loc Cert.AdamwLayersRefIdeal.main_arg4) = m ((c.tc : Thread Cert.AdamwLayersIdeal.nD Cert.AdamwLayersIdeal.τ).loc Cert.AdamwLayersIdeal.main_arg4)
      ∧ m' ((c.tc : Thread Cert.AdamwLayersRefIdeal.nD Cert.AdamwLayersRefIdeal.τ).loc Cert.AdamwLayersRefIdeal.main_arg5) = m ((c.tc : Thread Cert.AdamwLayersIdeal.nD Cert.AdamwLayersIdeal.τ).loc Cert.AdamwLayersIdeal.main_arg5)
      ∧ m' ((c.tc : Thread Cert.AdamwLayersRefIdeal.nD Cert.AdamwLayersRefIdeal.τ).loc Cert.AdamwLayersRefIdeal.main_arg6) = m ((c.tc : Thread Cert.AdamwLayersIdeal.nD Cert.AdamwLayersIdeal.τ).loc Cert.AdamwLayersIdeal.main_arg6)) →
    ∃ (v0 : (c : Dev Cert.AdamwLayersIdeal.nD) → Buf (Elt Ideal) ((c.tc : Thread Cert.AdamwLayersIdeal.nD Cert.AdamwLayersIdeal.τ).loc Cert.AdamwLayersIdeal.main_v0_0)) (v1 : (c : Dev Cert.AdamwLayersIdeal.nD) → Buf (Elt Ideal) ((c.tc : Thread Cert.AdamwLayersIdeal.nD Cert.AdamwLayersIdeal.τ).loc Cert.AdamwLayersIdeal.main_v0_1)) (v2 : (c : Dev Cert.AdamwLayersIdeal.nD) → Buf (Elt Ideal) ((c.tc : Thread Cert.AdamwLayersIdeal.nD Cert.AdamwLayersIdeal.τ).loc Cert.AdamwLayersIdeal.main_v0_2)) (v3 : (c : Dev Cert.AdamwLayersIdeal.nD) → Buf (Elt Ideal) ((c.tc : Thread Cert.AdamwLayersIdeal.nD Cert.AdamwLayersIdeal.τ).loc Cert.AdamwLayersIdeal.main_v0_3)),
      θ_run (Cert.AdamwLayersIdeal.defs (F := Ideal)) (onTc (τ := Cert.AdamwLayersIdeal.τ) (Cert.AdamwLayersIdeal.main (F := Ideal))) ⟨m, fun _ => 0, g⟩ (fun r => ∀ c : Dev Cert.AdamwLayersIdeal.nD,
          r.2.mem ((c.tc : Thread Cert.AdamwLayersIdeal.nD Cert.AdamwLayersIdeal.τ).loc Cert.AdamwLayersIdeal.main_v0_0) = v0 c
          ∧ r.2.mem ((c.tc : Thread Cert.AdamwLayersIdeal.nD Cert.AdamwLayersIdeal.τ).loc Cert.AdamwLayersIdeal.main_v0_1) = v1 c
          ∧ r.2.mem ((c.tc : Thread Cert.AdamwLayersIdeal.nD Cert.AdamwLayersIdeal.τ).loc Cert.AdamwLayersIdeal.main_v0_2) = v2 c
          ∧ r.2.mem ((c.tc : Thread Cert.AdamwLayersIdeal.nD Cert.AdamwLayersIdeal.τ).loc Cert.AdamwLayersIdeal.main_v0_3) = v3 c
          ∧ r.2.mem ((c.tc : Thread Cert.AdamwLayersIdeal.nD Cert.AdamwLayersIdeal.τ).loc Cert.AdamwLayersIdeal.main_arg0) = m ((c.tc : Thread Cert.AdamwLayersIdeal.nD Cert.AdamwLayersIdeal.τ).loc Cert.AdamwLayersIdeal.main_arg0)
          ∧ r.2.mem ((c.tc : Thread Cert.AdamwLayersIdeal.nD Cert.AdamwLayersIdeal.τ).loc Cert.AdamwLayersIdeal.main_arg1) = m ((c.tc : Thread Cert.AdamwLayersIdeal.nD Cert.AdamwLayersIdeal.τ).loc Cert.AdamwLayersIdeal.main_arg1)
          ∧ r.2.mem ((c.tc : Thread Cert.AdamwLayersIdeal.nD Cert.AdamwLayersIdeal.τ).loc Cert.AdamwLayersIdeal.main_arg2) = m ((c.tc : Thread Cert.AdamwLayersIdeal.nD Cert.AdamwLayersIdeal.τ).loc Cert.AdamwLayersIdeal.main_arg2)
          ∧ r.2.mem ((c.tc : Thread Cert.AdamwLayersIdeal.nD Cert.AdamwLayersIdeal.τ).loc Cert.AdamwLayersIdeal.main_arg3) = m ((c.tc : Thread Cert.AdamwLayersIdeal.nD Cert.AdamwLayersIdeal.τ).loc Cert.AdamwLayersIdeal.main_arg3)
          ∧ r.2.mem ((c.tc : Thread Cert.AdamwLayersIdeal.nD Cert.AdamwLayersIdeal.τ).loc Cert.AdamwLayersIdeal.main_arg4) = m ((c.tc : Thread Cert.AdamwLayersIdeal.nD Cert.AdamwLayersIdeal.τ).loc Cert.AdamwLayersIdeal.main_arg4)
          ∧ r.2.mem ((c.tc : Thread Cert.AdamwLayersIdeal.nD Cert.AdamwLayersIdeal.τ).loc Cert.AdamwLayersIdeal.main_arg5) = m ((c.tc : Thread Cert.AdamwLayersIdeal.nD Cert.AdamwLayersIdeal.τ).loc Cert.AdamwLayersIdeal.main_arg5)
          ∧ r.2.mem ((c.tc : Thread Cert.AdamwLayersIdeal.nD Cert.AdamwLayersIdeal.τ).loc Cert.AdamwLayersIdeal.main_arg6) = m ((c.tc : Thread Cert.AdamwLayersIdeal.nD Cert.AdamwLayersIdeal.τ).loc Cert.AdamwLayersIdeal.main_arg6))
      ∧ θ_run (Cert.AdamwLayersRefIdeal.defs (F := Ideal)) (onTc (τ := Cert.AdamwLayersRefIdeal.τ) (Cert.AdamwLayersRefIdeal.main (F := Ideal))) ⟨m', fun _ => 0, g'⟩ (fun r => ∀ c : Dev Cert.AdamwLayersRefIdeal.nD,
          r.2.mem ((c.tc : Thread Cert.AdamwLayersRefIdeal.nD Cert.AdamwLayersRefIdeal.τ).loc Cert.AdamwLayersRefIdeal.main_v4) = v0 c
          ∧ r.2.mem ((c.tc : Thread Cert.AdamwLayersRefIdeal.nD Cert.AdamwLayersRefIdeal.τ).loc Cert.AdamwLayersRefIdeal.main_v28) = v1 c
          ∧ r.2.mem ((c.tc : Thread Cert.AdamwLayersRefIdeal.nD Cert.AdamwLayersRefIdeal.τ).loc Cert.AdamwLayersRefIdeal.main_v9) = v2 c
          ∧ r.2.mem ((c.tc : Thread Cert.AdamwLayersRefIdeal.nD Cert.AdamwLayersRefIdeal.τ).loc Cert.AdamwLayersRefIdeal.main_v15) = v3 c
          ∧ r.2.mem ((c.tc : Thread Cert.AdamwLayersRefIdeal.nD Cert.AdamwLayersRefIdeal.τ).loc Cert.AdamwLayersRefIdeal.main_arg0) = m' ((c.tc : Thread Cert.AdamwLayersRefIdeal.nD Cert.AdamwLayersRefIdeal.τ).loc Cert.AdamwLayersRefIdeal.main_arg0)
          ∧ r.2.mem ((c.tc : Thread Cert.AdamwLayersRefIdeal.nD Cert.AdamwLayersRefIdeal.τ).loc Cert.AdamwLayersRefIdeal.main_arg1) = m' ((c.tc : Thread Cert.AdamwLayersRefIdeal.nD Cert.AdamwLayersRefIdeal.τ).loc Cert.AdamwLayersRefIdeal.main_arg1)
          ∧ r.2.mem ((c.tc : Thread Cert.AdamwLayersRefIdeal.nD Cert.AdamwLayersRefIdeal.τ).loc Cert.AdamwLayersRefIdeal.main_arg2) = m' ((c.tc : Thread Cert.AdamwLayersRefIdeal.nD Cert.AdamwLayersRefIdeal.τ).loc Cert.AdamwLayersRefIdeal.main_arg2)
          ∧ r.2.mem ((c.tc : Thread Cert.AdamwLayersRefIdeal.nD Cert.AdamwLayersRefIdeal.τ).loc Cert.AdamwLayersRefIdeal.main_arg3) = m' ((c.tc : Thread Cert.AdamwLayersRefIdeal.nD Cert.AdamwLayersRefIdeal.τ).loc Cert.AdamwLayersRefIdeal.main_arg3)
          ∧ r.2.mem ((c.tc : Thread Cert.AdamwLayersRefIdeal.nD Cert.AdamwLayersRefIdeal.τ).loc Cert.AdamwLayersRefIdeal.main_arg4) = m' ((c.tc : Thread Cert.AdamwLayersRefIdeal.nD Cert.AdamwLayersRefIdeal.τ).loc Cert.AdamwLayersRefIdeal.main_arg4)
          ∧ r.2.mem ((c.tc : Thread Cert.AdamwLayersRefIdeal.nD Cert.AdamwLayersRefIdeal.τ).loc Cert.AdamwLayersRefIdeal.main_arg5) = m' ((c.tc : Thread Cert.AdamwLayersRefIdeal.nD Cert.AdamwLayersRefIdeal.τ).loc Cert.AdamwLayersRefIdeal.main_arg5)
          ∧ r.2.mem ((c.tc : Thread Cert.AdamwLayersRefIdeal.nD Cert.AdamwLayersRefIdeal.τ).loc Cert.AdamwLayersRefIdeal.main_arg6) = m' ((c.tc : Thread Cert.AdamwLayersRefIdeal.nD Cert.AdamwLayersRefIdeal.τ).loc Cert.AdamwLayersRefIdeal.main_arg6))

def preserves_InWgrad_InWgradIdeal : Prop :=
  True

def algebraic_InWgradIdeal_InWgradRefIdeal [hInWgradIdeal : Cert.InWgradIdeal.Facts] [hInWgradRefIdeal : Cert.InWgradRefIdeal.Facts] : Prop :=
  ∀ (m : (ℓ : Loc Cert.InWgradIdeal.nD Cert.InWgradIdeal.τ Cert.InWgradIdeal.sig) → Buf (Elt Ideal) ℓ) (g : Dev Cert.InWgradIdeal.nD → PrngReg)
    (m' : (ℓ : Loc Cert.InWgradRefIdeal.nD Cert.InWgradRefIdeal.τ Cert.InWgradRefIdeal.sig) → Buf (Elt Ideal) ℓ) (g' : Dev Cert.InWgradRefIdeal.nD → PrngReg), Pre_InWgradIdeal m →
    (∀ c : Dev Cert.InWgradIdeal.nD,
      m' ((c.tc : Thread Cert.InWgradRefIdeal.nD Cert.InWgradRefIdeal.τ).loc Cert.InWgradRefIdeal.main_arg0) = m ((c.tc : Thread Cert.InWgradIdeal.nD Cert.InWgradIdeal.τ).loc Cert.InWgradIdeal.main_arg0)
      ∧ m' ((c.tc : Thread Cert.InWgradRefIdeal.nD Cert.InWgradRefIdeal.τ).loc Cert.InWgradRefIdeal.main_arg1) = m ((c.tc : Thread Cert.InWgradIdeal.nD Cert.InWgradIdeal.τ).loc Cert.InWgradIdeal.main_arg1)) →
    ∃ (v0 : (c : Dev Cert.InWgradIdeal.nD) → Buf (Elt Ideal) ((c.tc : Thread Cert.InWgradIdeal.nD Cert.InWgradIdeal.τ).loc Cert.InWgradIdeal.main_v0)),
      θ_run (Cert.InWgradIdeal.defs (F := Ideal)) (onTc (τ := Cert.InWgradIdeal.τ) (Cert.InWgradIdeal.main (F := Ideal))) ⟨m, fun _ => 0, g⟩ (fun r => ∀ c : Dev Cert.InWgradIdeal.nD,
          r.2.mem ((c.tc : Thread Cert.InWgradIdeal.nD Cert.InWgradIdeal.τ).loc Cert.InWgradIdeal.main_v0) = v0 c
          ∧ r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
          ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1))
      ∧ θ_run (Cert.InWgradRefIdeal.defs (F := Ideal)) (onTc (τ := Cert.InWgradRefIdeal.τ) (Cert.InWgradRefIdeal.main (F := Ideal))) ⟨m', fun _ => 0, g'⟩ (fun r => ∀ c : Dev Cert.InWgradRefIdeal.nD,
          r.2.mem ((c.tc : Thread Cert.InWgradRefIdeal.nD Cert.InWgradRefIdeal.τ).loc Cert.InWgradRefIdeal.main_v7) = v0 c
          ∧ r.2.mem ((c.tc : Thread Cert.InWgradRefIdeal.nD Cert.InWgradRefIdeal.τ).loc Cert.InWgradRefIdeal.main_arg0) = m' ((c.tc : Thread Cert.InWgradRefIdeal.nD Cert.InWgradRefIdeal.τ).loc Cert.InWgradRefIdeal.main_arg0)
          ∧ r.2.mem ((c.tc : Thread Cert.InWgradRefIdeal.nD Cert.InWgradRefIdeal.τ).loc Cert.InWgradRefIdeal.main_arg1) = m' ((c.tc : Thread Cert.InWgradRefIdeal.nD Cert.InWgradRefIdeal.τ).loc Cert.InWgradRefIdeal.main_arg1))

def preserves_OutDgrad_OutDgradIdeal : Prop :=
  True

def algebraic_OutDgradIdeal_OutDgradRefIdeal [hOutDgradIdeal : Cert.OutDgradIdeal.Facts] [hOutDgradRefIdeal : Cert.OutDgradRefIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg)
    (m' : (ℓ : Loc Cert.OutDgradRefIdeal.nD Cert.OutDgradRefIdeal.τ Cert.OutDgradRefIdeal.sig) → Buf (Elt Ideal) ℓ) (g' : Dev Cert.OutDgradRefIdeal.nD → PrngReg), Pre_OutDgradIdeal m →
    (∀ c : Dev Cert.OutDgradIdeal.nD,
      m' ((c.tc : Thread Cert.OutDgradRefIdeal.nD Cert.OutDgradRefIdeal.τ).loc Cert.OutDgradRefIdeal.main_arg0) = m ((c.tc : Thread Cert.OutDgradIdeal.nD Cert.OutDgradIdeal.τ).loc Cert.OutDgradIdeal.main_arg0)
      ∧ m' ((c.tc : Thread Cert.OutDgradRefIdeal.nD Cert.OutDgradRefIdeal.τ).loc Cert.OutDgradRefIdeal.main_arg1) = m ((c.tc : Thread Cert.OutDgradIdeal.nD Cert.OutDgradIdeal.τ).loc Cert.OutDgradIdeal.main_arg1)) →
    ∃ (v0 : (c : Dev Cert.OutDgradIdeal.nD) → Buf (Elt Ideal) ((c.tc : Thread Cert.OutDgradIdeal.nD Cert.OutDgradIdeal.τ).loc Cert.OutDgradIdeal.main_v3)),
      θ_run (Cert.OutDgradIdeal.defs (F := Ideal)) (onTc (τ := Cert.OutDgradIdeal.τ) (Cert.OutDgradIdeal.main (F := Ideal))) ⟨m, fun _ => 0, g⟩ (fun r => ∀ c : Dev Cert.OutDgradIdeal.nD,
          r.2.mem ((c.tc : Thread Cert.OutDgradIdeal.nD Cert.OutDgradIdeal.τ).loc Cert.OutDgradIdeal.main_v3) = v0 c
          ∧ r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
          ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1))
      ∧ θ_run (Cert.OutDgradRefIdeal.defs (F := Ideal)) (onTc (τ := Cert.OutDgradRefIdeal.τ) (Cert.OutDgradRefIdeal.main (F := Ideal))) ⟨m', fun _ => 0, g'⟩ (fun r => ∀ c : Dev Cert.OutDgradRefIdeal.nD,
          r.2.mem ((c.tc : Thread Cert.OutDgradRefIdeal.nD Cert.OutDgradRefIdeal.τ).loc Cert.OutDgradRefIdeal.main_v3) = v0 c
          ∧ r.2.mem ((c.tc : Thread Cert.OutDgradRefIdeal.nD Cert.OutDgradRefIdeal.τ).loc Cert.OutDgradRefIdeal.main_arg0) = m' ((c.tc : Thread Cert.OutDgradRefIdeal.nD Cert.OutDgradRefIdeal.τ).loc Cert.OutDgradRefIdeal.main_arg0)
          ∧ r.2.mem ((c.tc : Thread Cert.OutDgradRefIdeal.nD Cert.OutDgradRefIdeal.τ).loc Cert.OutDgradRefIdeal.main_arg1) = m' ((c.tc : Thread Cert.OutDgradRefIdeal.nD Cert.OutDgradRefIdeal.τ).loc Cert.OutDgradRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Ff2Fwd_Ff2FwdIdeal : Prop :=
  True

def algebraic_Ff2FwdIdeal_Ff2FwdRefIdeal [hFf2FwdIdeal : Cert.Ff2FwdIdeal.Facts] [hFf2FwdRefIdeal : Cert.Ff2FwdRefIdeal.Facts] : Prop :=
  ∀ (m : (ℓ : Loc Cert.Ff2FwdIdeal.nD Cert.Ff2FwdIdeal.τ Cert.Ff2FwdIdeal.sig) → Buf (Elt Ideal) ℓ) (g : Dev Cert.Ff2FwdIdeal.nD → PrngReg)
    (m' : (ℓ : Loc Cert.Ff2FwdRefIdeal.nD Cert.Ff2FwdRefIdeal.τ Cert.Ff2FwdRefIdeal.sig) → Buf (Elt Ideal) ℓ) (g' : Dev Cert.Ff2FwdRefIdeal.nD → PrngReg), Pre_Ff2FwdIdeal m →
    (∀ c : Dev Cert.Ff2FwdIdeal.nD,
      m' ((c.tc : Thread Cert.Ff2FwdRefIdeal.nD Cert.Ff2FwdRefIdeal.τ).loc Cert.Ff2FwdRefIdeal.main_arg0) = m ((c.tc : Thread Cert.Ff2FwdIdeal.nD Cert.Ff2FwdIdeal.τ).loc Cert.Ff2FwdIdeal.main_arg0)
      ∧ m' ((c.tc : Thread Cert.Ff2FwdRefIdeal.nD Cert.Ff2FwdRefIdeal.τ).loc Cert.Ff2FwdRefIdeal.main_arg1) = m ((c.tc : Thread Cert.Ff2FwdIdeal.nD Cert.Ff2FwdIdeal.τ).loc Cert.Ff2FwdIdeal.main_arg1)
      ∧ m' ((c.tc : Thread Cert.Ff2FwdRefIdeal.nD Cert.Ff2FwdRefIdeal.τ).loc Cert.Ff2FwdRefIdeal.main_arg2) = m ((c.tc : Thread Cert.Ff2FwdIdeal.nD Cert.Ff2FwdIdeal.τ).loc Cert.Ff2FwdIdeal.main_arg2)
      ∧ m' ((c.tc : Thread Cert.Ff2FwdRefIdeal.nD Cert.Ff2FwdRefIdeal.τ).loc Cert.Ff2FwdRefIdeal.main_arg3) = m ((c.tc : Thread Cert.Ff2FwdIdeal.nD Cert.Ff2FwdIdeal.τ).loc Cert.Ff2FwdIdeal.main_arg3)) →
    ∃ (v0 : (c : Dev Cert.Ff2FwdIdeal.nD) → Buf (Elt Ideal) ((c.tc : Thread Cert.Ff2FwdIdeal.nD Cert.Ff2FwdIdeal.τ).loc Cert.Ff2FwdIdeal.main_v3_0)) (v1 : (c : Dev Cert.Ff2FwdIdeal.nD) → Buf (Elt Ideal) ((c.tc : Thread Cert.Ff2FwdIdeal.nD Cert.Ff2FwdIdeal.τ).loc Cert.Ff2FwdIdeal.main_v3_1)),
      θ_run (Cert.Ff2FwdIdeal.defs (F := Ideal)) (onTc (τ := Cert.Ff2FwdIdeal.τ) (Cert.Ff2FwdIdeal.main (F := Ideal))) ⟨m, fun _ => 0, g⟩ (fun r => ∀ c : Dev Cert.Ff2FwdIdeal.nD,
          r.2.mem ((c.tc : Thread Cert.Ff2FwdIdeal.nD Cert.Ff2FwdIdeal.τ).loc Cert.Ff2FwdIdeal.main_v3_0) = v0 c
          ∧ r.2.mem ((c.tc : Thread Cert.Ff2FwdIdeal.nD Cert.Ff2FwdIdeal.τ).loc Cert.Ff2FwdIdeal.main_v3_1) = v1 c
          ∧ r.2.mem ((c.tc : Thread Cert.Ff2FwdIdeal.nD Cert.Ff2FwdIdeal.τ).loc Cert.Ff2FwdIdeal.main_arg0) = m ((c.tc : Thread Cert.Ff2FwdIdeal.nD Cert.Ff2FwdIdeal.τ).loc Cert.Ff2FwdIdeal.main_arg0)
          ∧ r.2.mem ((c.tc : Thread Cert.Ff2FwdIdeal.nD Cert.Ff2FwdIdeal.τ).loc Cert.Ff2FwdIdeal.main_arg1) = m ((c.tc : Thread Cert.Ff2FwdIdeal.nD Cert.Ff2FwdIdeal.τ).loc Cert.Ff2FwdIdeal.main_arg1)
          ∧ r.2.mem ((c.tc : Thread Cert.Ff2FwdIdeal.nD Cert.Ff2FwdIdeal.τ).loc Cert.Ff2FwdIdeal.main_arg2) = m ((c.tc : Thread Cert.Ff2FwdIdeal.nD Cert.Ff2FwdIdeal.τ).loc Cert.Ff2FwdIdeal.main_arg2)
          ∧ r.2.mem ((c.tc : Thread Cert.Ff2FwdIdeal.nD Cert.Ff2FwdIdeal.τ).loc Cert.Ff2FwdIdeal.main_arg3) = m ((c.tc : Thread Cert.Ff2FwdIdeal.nD Cert.Ff2FwdIdeal.τ).loc Cert.Ff2FwdIdeal.main_arg3))
      ∧ θ_run (Cert.Ff2FwdRefIdeal.defs (F := Ideal)) (onTc (τ := Cert.Ff2FwdRefIdeal.τ) (Cert.Ff2FwdRefIdeal.main (F := Ideal))) ⟨m', fun _ => 0, g'⟩ (fun r => ∀ c : Dev Cert.Ff2FwdRefIdeal.nD,
          r.2.mem ((c.tc : Thread Cert.Ff2FwdRefIdeal.nD Cert.Ff2FwdRefIdeal.τ).loc Cert.Ff2FwdRefIdeal.main_v2) = v0 c
          ∧ r.2.mem ((c.tc : Thread Cert.Ff2FwdRefIdeal.nD Cert.Ff2FwdRefIdeal.τ).loc Cert.Ff2FwdRefIdeal.main_v17) = v1 c
          ∧ r.2.mem ((c.tc : Thread Cert.Ff2FwdRefIdeal.nD Cert.Ff2FwdRefIdeal.τ).loc Cert.Ff2FwdRefIdeal.main_arg0) = m' ((c.tc : Thread Cert.Ff2FwdRefIdeal.nD Cert.Ff2FwdRefIdeal.τ).loc Cert.Ff2FwdRefIdeal.main_arg0)
          ∧ r.2.mem ((c.tc : Thread Cert.Ff2FwdRefIdeal.nD Cert.Ff2FwdRefIdeal.τ).loc Cert.Ff2FwdRefIdeal.main_arg1) = m' ((c.tc : Thread Cert.Ff2FwdRefIdeal.nD Cert.Ff2FwdRefIdeal.τ).loc Cert.Ff2FwdRefIdeal.main_arg1)
          ∧ r.2.mem ((c.tc : Thread Cert.Ff2FwdRefIdeal.nD Cert.Ff2FwdRefIdeal.τ).loc Cert.Ff2FwdRefIdeal.main_arg2) = m' ((c.tc : Thread Cert.Ff2FwdRefIdeal.nD Cert.Ff2FwdRefIdeal.τ).loc Cert.Ff2FwdRefIdeal.main_arg2)
          ∧ r.2.mem ((c.tc : Thread Cert.Ff2FwdRefIdeal.nD Cert.Ff2FwdRefIdeal.τ).loc Cert.Ff2FwdRefIdeal.main_arg3) = m' ((c.tc : Thread Cert.Ff2FwdRefIdeal.nD Cert.Ff2FwdRefIdeal.τ).loc Cert.Ff2FwdRefIdeal.main_arg3))

def preserves_HgrnFwd_HgrnFwdIdeal : Prop :=
  True

def preserves_HgrnBwd_HgrnBwdIdeal : Prop :=
  True

def Claim : Prop :=
  ∃ (hLbsBwd : Cert.LbsBwd.Facts) (hLbsBwdIdeal : Cert.LbsBwdIdeal.Facts) (hLbsBwdRefIdeal : Cert.LbsBwdRefIdeal.Facts) (hLossHead : Cert.LossHead.Facts) (hLossHeadIdeal : Cert.LossHeadIdeal.Facts) (hLossHeadRefIdeal : Cert.LossHeadRefIdeal.Facts) (hFf2Dgrad : Cert.Ff2Dgrad.Facts) (hFf2DgradIdeal : Cert.Ff2DgradIdeal.Facts) (hFf2DgradRefIdeal : Cert.Ff2DgradRefIdeal.Facts) (hFf1Dgrad : Cert.Ff1Dgrad.Facts) (hFf1DgradIdeal : Cert.Ff1DgradIdeal.Facts) (hFf1DgradRefIdeal : Cert.Ff1DgradRefIdeal.Facts) (hInDgrad : Cert.InDgrad.Facts) (hInDgradIdeal : Cert.InDgradIdeal.Facts) (hInDgradRefIdeal : Cert.InDgradRefIdeal.Facts) (hConvBwd : Cert.ConvBwd.Facts) (hConvBwdIdeal : Cert.ConvBwdIdeal.Facts) (hConvBwdRefIdeal : Cert.ConvBwdRefIdeal.Facts) (hSgBwd : Cert.SgBwd.Facts) (hSgBwdIdeal : Cert.SgBwdIdeal.Facts) (hSgBwdRefIdeal : Cert.SgBwdRefIdeal.Facts) (hMergeBwd : Cert.MergeBwd.Facts) (hMergeBwdIdeal : Cert.MergeBwdIdeal.Facts) (hMergeBwdRefIdeal : Cert.MergeBwdRefIdeal.Facts) (hSgFwd : Cert.SgFwd.Facts) (hSgFwdIdeal : Cert.SgFwdIdeal.Facts) (hSgFwdRefIdeal : Cert.SgFwdRefIdeal.Facts) (hConvFwd : Cert.ConvFwd.Facts) (hConvFwdIdeal : Cert.ConvFwdIdeal.Facts) (hConvFwdRefIdeal : Cert.ConvFwdRefIdeal.Facts) (hMergeFwd : Cert.MergeFwd.Facts) (hMergeFwdIdeal : Cert.MergeFwdIdeal.Facts) (hMergeFwdRefIdeal : Cert.MergeFwdRefIdeal.Facts) (hRmsFwd : Cert.RmsFwd.Facts) (hRmsFwdIdeal : Cert.RmsFwdIdeal.Facts) (hRmsFwdRefIdeal : Cert.RmsFwdRefIdeal.Facts) (hLbsFwd : Cert.LbsFwd.Facts) (hLbsFwdIdeal : Cert.LbsFwdIdeal.Facts) (hLbsFwdRefIdeal : Cert.LbsFwdRefIdeal.Facts) (hFf1 : Cert.Ff1.Facts) (hFf1Ideal : Cert.Ff1Ideal.Facts) (hFf1RefIdeal : Cert.Ff1RefIdeal.Facts) (hOutProj : Cert.OutProj.Facts) (hOutProjIdeal : Cert.OutProjIdeal.Facts) (hOutProjRefIdeal : Cert.OutProjRefIdeal.Facts) (hSumDevices : Cert.SumDevices.Facts) (hSumDevicesIdeal : Cert.SumDevicesIdeal.Facts) (hSumDevicesRefIdeal : Cert.SumDevicesRefIdeal.Facts) (hAdamwFlat : Cert.AdamwFlat.Facts) (hAdamwFlatIdeal : Cert.AdamwFlatIdeal.Facts) (hAdamwFlatRefIdeal : Cert.AdamwFlatRefIdeal.Facts) (hAdamwLayers : Cert.AdamwLayers.Facts) (hAdamwLayersIdeal : Cert.AdamwLayersIdeal.Facts) (hAdamwLayersRefIdeal : Cert.AdamwLayersRefIdeal.Facts) (hInWgrad : Cert.InWgrad.Facts) (hInWgradIdeal : Cert.InWgradIdeal.Facts) (hInWgradRefIdeal : Cert.InWgradRefIdeal.Facts) (hOutDgrad : Cert.OutDgrad.Facts) (hOutDgradIdeal : Cert.OutDgradIdeal.Facts) (hOutDgradRefIdeal : Cert.OutDgradRefIdeal.Facts) (hInProj : Cert.InProj.Facts) (hInProjIdeal : Cert.InProjIdeal.Facts) (hInProjRefIdeal : Cert.InProjRefIdeal.Facts) (hFf2Fwd : Cert.Ff2Fwd.Facts) (hFf2FwdIdeal : Cert.Ff2FwdIdeal.Facts) (hFf2FwdRefIdeal : Cert.Ff2FwdRefIdeal.Facts) (hHgrnFwd : Cert.HgrnFwd.Facts) (hHgrnFwdIdeal : Cert.HgrnFwdIdeal.Facts) (hHgrnBwd : Cert.HgrnBwd.Facts) (hHgrnBwdIdeal : Cert.HgrnBwdIdeal.Facts) (hPre_lbs_bwd_finite : Cert.Pre_lbs_bwd_finite.Facts) (hPre_loss_head_finite : Cert.Pre_loss_head_finite.Facts) (hPre_dgrad_finite : Cert.Pre_dgrad_finite.Facts) (hPre_in_dgrad_finite : Cert.Pre_in_dgrad_finite.Facts) (hPre_sg_bwd_finite : Cert.Pre_sg_bwd_finite.Facts) (hPre_lbs_fwd_finite : Cert.Pre_lbs_fwd_finite.Facts) (hOn_merge_bwd_written : Cert.On_merge_bwd_written.Facts),
    quiescent_LbsBwd (hLbsBwd := hLbsBwd)
    ∧ quiescent_LbsBwdIdeal (hLbsBwdIdeal := hLbsBwdIdeal)
    ∧ quiescent_LbsBwdIdeal_pre_lbs_bwd_finite (hLbsBwdIdeal := hLbsBwdIdeal) (hPre_lbs_bwd_finite := hPre_lbs_bwd_finite)
    ∧ quiescent_LbsBwdRefIdeal (hLbsBwdRefIdeal := hLbsBwdRefIdeal)
    ∧ quiescent_LbsBwdRefIdeal_pre_lbs_bwd_finite (hLbsBwdRefIdeal := hLbsBwdRefIdeal) (hPre_lbs_bwd_finite := hPre_lbs_bwd_finite)
    ∧ quiescent_LossHead (hLossHead := hLossHead)
    ∧ quiescent_LossHeadIdeal (hLossHeadIdeal := hLossHeadIdeal)
    ∧ quiescent_LossHeadIdeal_pre_loss_head_finite (hLossHeadIdeal := hLossHeadIdeal) (hPre_loss_head_finite := hPre_loss_head_finite)
    ∧ quiescent_LossHeadRefIdeal (hLossHeadRefIdeal := hLossHeadRefIdeal)
    ∧ quiescent_LossHeadRefIdeal_pre_loss_head_finite (hLossHeadRefIdeal := hLossHeadRefIdeal) (hPre_loss_head_finite := hPre_loss_head_finite)
    ∧ quiescent_Ff2Dgrad (hFf2Dgrad := hFf2Dgrad)
    ∧ quiescent_Ff2DgradIdeal (hFf2DgradIdeal := hFf2DgradIdeal)
    ∧ quiescent_Ff2DgradRefIdeal (hFf2DgradRefIdeal := hFf2DgradRefIdeal)
    ∧ quiescent_Ff1Dgrad (hFf1Dgrad := hFf1Dgrad)
    ∧ quiescent_Ff1DgradIdeal (hFf1DgradIdeal := hFf1DgradIdeal)
    ∧ quiescent_Ff1DgradIdeal_pre_dgrad_finite (hFf1DgradIdeal := hFf1DgradIdeal) (hPre_dgrad_finite := hPre_dgrad_finite)
    ∧ quiescent_Ff1DgradRefIdeal (hFf1DgradRefIdeal := hFf1DgradRefIdeal)
    ∧ quiescent_Ff1DgradRefIdeal_pre_dgrad_finite (hFf1DgradRefIdeal := hFf1DgradRefIdeal) (hPre_dgrad_finite := hPre_dgrad_finite)
    ∧ quiescent_InDgrad (hInDgrad := hInDgrad)
    ∧ quiescent_InDgradIdeal (hInDgradIdeal := hInDgradIdeal)
    ∧ quiescent_InDgradIdeal_pre_in_dgrad_finite (hInDgradIdeal := hInDgradIdeal) (hPre_in_dgrad_finite := hPre_in_dgrad_finite)
    ∧ quiescent_InDgradRefIdeal (hInDgradRefIdeal := hInDgradRefIdeal)
    ∧ quiescent_InDgradRefIdeal_pre_in_dgrad_finite (hInDgradRefIdeal := hInDgradRefIdeal) (hPre_in_dgrad_finite := hPre_in_dgrad_finite)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_SgBwd (hSgBwd := hSgBwd)
    ∧ quiescent_SgBwdIdeal (hSgBwdIdeal := hSgBwdIdeal)
    ∧ quiescent_SgBwdIdeal_pre_sg_bwd_finite (hSgBwdIdeal := hSgBwdIdeal) (hPre_sg_bwd_finite := hPre_sg_bwd_finite)
    ∧ quiescent_SgBwdRefIdeal (hSgBwdRefIdeal := hSgBwdRefIdeal)
    ∧ quiescent_SgBwdRefIdeal_pre_sg_bwd_finite (hSgBwdRefIdeal := hSgBwdRefIdeal) (hPre_sg_bwd_finite := hPre_sg_bwd_finite)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_SgFwd (hSgFwd := hSgFwd)
    ∧ quiescent_SgFwdIdeal (hSgFwdIdeal := hSgFwdIdeal)
    ∧ quiescent_SgFwdRefIdeal (hSgFwdRefIdeal := hSgFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_LbsFwd (hLbsFwd := hLbsFwd)
    ∧ quiescent_LbsFwdIdeal (hLbsFwdIdeal := hLbsFwdIdeal)
    ∧ quiescent_LbsFwdIdeal_pre_lbs_fwd_finite (hLbsFwdIdeal := hLbsFwdIdeal) (hPre_lbs_fwd_finite := hPre_lbs_fwd_finite)
    ∧ quiescent_LbsFwdRefIdeal (hLbsFwdRefIdeal := hLbsFwdRefIdeal)
    ∧ quiescent_LbsFwdRefIdeal_pre_lbs_fwd_finite (hLbsFwdRefIdeal := hLbsFwdRefIdeal) (hPre_lbs_fwd_finite := hPre_lbs_fwd_finite)
    ∧ quiescent_Ff1 (hFf1 := hFf1)
    ∧ quiescent_Ff1Ideal (hFf1Ideal := hFf1Ideal)
    ∧ quiescent_Ff1RefIdeal (hFf1RefIdeal := hFf1RefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_SumDevices (hSumDevices := hSumDevices)
    ∧ quiescent_SumDevicesIdeal (hSumDevicesIdeal := hSumDevicesIdeal)
    ∧ quiescent_SumDevicesRefIdeal (hSumDevicesRefIdeal := hSumDevicesRefIdeal)
    ∧ quiescent_AdamwFlat (hAdamwFlat := hAdamwFlat)
    ∧ quiescent_AdamwFlatIdeal (hAdamwFlatIdeal := hAdamwFlatIdeal)
    ∧ quiescent_AdamwFlatRefIdeal (hAdamwFlatRefIdeal := hAdamwFlatRefIdeal)
    ∧ quiescent_AdamwLayers (hAdamwLayers := hAdamwLayers)
    ∧ quiescent_AdamwLayersIdeal (hAdamwLayersIdeal := hAdamwLayersIdeal)
    ∧ quiescent_AdamwLayersRefIdeal (hAdamwLayersRefIdeal := hAdamwLayersRefIdeal)
    ∧ quiescent_InWgrad (hInWgrad := hInWgrad)
    ∧ quiescent_InWgradIdeal (hInWgradIdeal := hInWgradIdeal)
    ∧ quiescent_InWgradRefIdeal (hInWgradRefIdeal := hInWgradRefIdeal)
    ∧ quiescent_OutDgrad (hOutDgrad := hOutDgrad)
    ∧ quiescent_OutDgradIdeal (hOutDgradIdeal := hOutDgradIdeal)
    ∧ quiescent_OutDgradRefIdeal (hOutDgradRefIdeal := hOutDgradRefIdeal)
    ∧ quiescent_InProj (hInProj := hInProj)
    ∧ quiescent_InProjIdeal (hInProjIdeal := hInProjIdeal)
    ∧ quiescent_InProjRefIdeal (hInProjRefIdeal := hInProjRefIdeal)
    ∧ quiescent_Ff2Fwd (hFf2Fwd := hFf2Fwd)
    ∧ quiescent_Ff2FwdIdeal (hFf2FwdIdeal := hFf2FwdIdeal)
    ∧ quiescent_Ff2FwdRefIdeal (hFf2FwdRefIdeal := hFf2FwdRefIdeal)
    ∧ quiescent_HgrnFwd (hHgrnFwd := hHgrnFwd)
    ∧ quiescent_HgrnFwdIdeal (hHgrnFwdIdeal := hHgrnFwdIdeal)
    ∧ quiescent_HgrnBwd (hHgrnBwd := hHgrnBwd)
    ∧ quiescent_HgrnBwdIdeal (hHgrnBwdIdeal := hHgrnBwdIdeal)
    ∧ preserves_LbsBwd_LbsBwdIdeal
    ∧ algebraic_LbsBwdIdeal_LbsBwdRefIdeal_pre_lbs_bwd_finite (hLbsBwdIdeal := hLbsBwdIdeal) (hLbsBwdRefIdeal := hLbsBwdRefIdeal) (hPre_lbs_bwd_finite := hPre_lbs_bwd_finite)
    ∧ preserves_LossHead_LossHeadIdeal
    ∧ algebraic_LossHeadIdeal_LossHeadRefIdeal_pre_loss_head_finite (hLossHeadIdeal := hLossHeadIdeal) (hLossHeadRefIdeal := hLossHeadRefIdeal) (hPre_loss_head_finite := hPre_loss_head_finite)
    ∧ preserves_Ff2Dgrad_Ff2DgradIdeal
    ∧ algebraic_Ff2DgradIdeal_Ff2DgradRefIdeal (hFf2DgradIdeal := hFf2DgradIdeal) (hFf2DgradRefIdeal := hFf2DgradRefIdeal)
    ∧ preserves_Ff1Dgrad_Ff1DgradIdeal
    ∧ algebraic_Ff1DgradIdeal_Ff1DgradRefIdeal_pre_dgrad_finite (hFf1DgradIdeal := hFf1DgradIdeal) (hFf1DgradRefIdeal := hFf1DgradRefIdeal) (hPre_dgrad_finite := hPre_dgrad_finite)
    ∧ preserves_InDgrad_InDgradIdeal
    ∧ algebraic_InDgradIdeal_InDgradRefIdeal_pre_in_dgrad_finite (hInDgradIdeal := hInDgradIdeal) (hInDgradRefIdeal := hInDgradRefIdeal) (hPre_in_dgrad_finite := hPre_in_dgrad_finite)
    ∧ preserves_ConvBwd_ConvBwdIdeal
    ∧ algebraic_ConvBwdIdeal_ConvBwdRefIdeal (hConvBwdIdeal := hConvBwdIdeal) (hConvBwdRefIdeal := hConvBwdRefIdeal)
    ∧ preserves_SgBwd_SgBwdIdeal
    ∧ algebraic_SgBwdIdeal_SgBwdRefIdeal_pre_sg_bwd_finite (hSgBwdIdeal := hSgBwdIdeal) (hSgBwdRefIdeal := hSgBwdRefIdeal) (hPre_sg_bwd_finite := hPre_sg_bwd_finite)
    ∧ preserves_MergeBwd_MergeBwdIdeal
    ∧ algebraic_MergeBwdIdeal_MergeBwdRefIdeal_on_merge_bwd_written (hMergeBwdIdeal := hMergeBwdIdeal) (hMergeBwdRefIdeal := hMergeBwdRefIdeal) (hOn_merge_bwd_written := hOn_merge_bwd_written)
    ∧ preserves_SgFwd_SgFwdIdeal
    ∧ algebraic_SgFwdIdeal_SgFwdRefIdeal (hSgFwdIdeal := hSgFwdIdeal) (hSgFwdRefIdeal := hSgFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_LbsFwd_LbsFwdIdeal
    ∧ algebraic_LbsFwdIdeal_LbsFwdRefIdeal_pre_lbs_fwd_finite (hLbsFwdIdeal := hLbsFwdIdeal) (hLbsFwdRefIdeal := hLbsFwdRefIdeal) (hPre_lbs_fwd_finite := hPre_lbs_fwd_finite)
    ∧ preserves_Ff1_Ff1Ideal
    ∧ algebraic_Ff1Ideal_Ff1RefIdeal (hFf1Ideal := hFf1Ideal) (hFf1RefIdeal := hFf1RefIdeal)
    ∧ preserves_OutProj_OutProjIdeal
    ∧ algebraic_OutProjIdeal_OutProjRefIdeal (hOutProjIdeal := hOutProjIdeal) (hOutProjRefIdeal := hOutProjRefIdeal)
    ∧ preserves_SumDevices_SumDevicesIdeal
    ∧ algebraic_SumDevicesIdeal_SumDevicesRefIdeal (hSumDevicesIdeal := hSumDevicesIdeal) (hSumDevicesRefIdeal := hSumDevicesRefIdeal)
    ∧ preserves_AdamwFlat_AdamwFlatIdeal
    ∧ algebraic_AdamwFlatIdeal_AdamwFlatRefIdeal (hAdamwFlatIdeal := hAdamwFlatIdeal) (hAdamwFlatRefIdeal := hAdamwFlatRefIdeal)
    ∧ preserves_AdamwLayers_AdamwLayersIdeal
    ∧ algebraic_AdamwLayersIdeal_AdamwLayersRefIdeal (hAdamwLayersIdeal := hAdamwLayersIdeal) (hAdamwLayersRefIdeal := hAdamwLayersRefIdeal)
    ∧ preserves_InWgrad_InWgradIdeal
    ∧ algebraic_InWgradIdeal_InWgradRefIdeal (hInWgradIdeal := hInWgradIdeal) (hInWgradRefIdeal := hInWgradRefIdeal)
    ∧ preserves_OutDgrad_OutDgradIdeal
    ∧ algebraic_OutDgradIdeal_OutDgradRefIdeal (hOutDgradIdeal := hOutDgradIdeal) (hOutDgradRefIdeal := hOutDgradRefIdeal)
    ∧ preserves_InProj_InProjIdeal
    ∧ algebraic_InProjIdeal_InProjRefIdeal (hInProjIdeal := hInProjIdeal) (hInProjRefIdeal := hInProjRefIdeal)
    ∧ preserves_Ff2Fwd_Ff2FwdIdeal
    ∧ algebraic_Ff2FwdIdeal_Ff2FwdRefIdeal (hFf2FwdIdeal := hFf2FwdIdeal) (hFf2FwdRefIdeal := hFf2FwdRefIdeal)
    ∧ preserves_HgrnFwd_HgrnFwdIdeal
    ∧ preserves_HgrnBwd_HgrnBwdIdeal
-- ==== On_merge_bwd_written.lean ====
abbrev S3x2048x512 : Shape := ⟨3, ![3, 2048, 512]⟩
abbrev S2048x7680 : Shape := ⟨2, ![2048, 7680]⟩
abbrev S3x512x1024 : Shape := ⟨3, ![3, 512, 1024]⟩
abbrev S2048x1024 : Shape := ⟨2, ![2048, 1024]⟩
abbrev S_ : Shape := ⟨0, ![]⟩
abbrev S4x3x512x256 : Shape := ⟨4, ![4, 3, 512, 256]⟩

class Facts : Prop where
  bcast_S_S2048x7680 : S_.BroadcastsInDim S2048x7680 (![] : Fin 0 → Fin S2048x7680.rank)
  bcast_S_S4x3x512x256 : S_.BroadcastsInDim S4x3x512x256 (![] : Fin 0 → Fin S4x3x512x256.rank)
  bcast_S_S3x2048x512 : S_.BroadcastsInDim S3x2048x512 (![] : Fin 0 → Fin S3x2048x512.rank)

variable [Facts]

def fn {F : FTy → Type} [FloatOps F] (main_arg0 : FVec F S3x2048x512 .bf16) (main_arg1 : FVec F S2048x7680 .f32) (main_arg2 : FVec F S3x512x1024 .f32) (main_arg3 : FVec F S2048x1024 .bf16) : IVec S2048x7680 1 × IVec S4x3x512x256 1 × IVec S3x2048x512 1 :=
  let main_v0 : IVec S2048x7680 32 := iotaInDim S2048x7680 32 1
  let main_c : IVec S_ 32 := constantI S_ 32 4608#32
  let main_v1 : IVec S2048x7680 32 := broadcastInDim S2048x7680 ![] bcast_S_S2048x7680 main_c
  let main_v2 : IVec S2048x7680 1 := cmpi .sge main_v0 main_v1
  let main_v3 : IVec S4x3x512x256 32 := iotaInDim S4x3x512x256 32 0
  let main_c_0 : IVec S_ 32 := constantI S_ 32 0#32
  let main_v4 : IVec S4x3x512x256 32 := broadcastInDim S4x3x512x256 ![] bcast_S_S4x3x512x256 main_c_0
  let main_v5 : IVec S4x3x512x256 1 := cmpi .sge main_v3 main_v4
  let main_v6 : IVec S3x2048x512 32 := iotaInDim S3x2048x512 32 0
  let main_c_1 : IVec S_ 32 := constantI S_ 32 0#32
  let main_v7 : IVec S3x2048x512 32 := broadcastInDim S3x2048x512 ![] bcast_S_S3x2048x512 main_c_1
  let main_v8 : IVec S3x2048x512 1 := cmpi .sge main_v6 main_v7
  (main_v2, main_v5, main_v8)
-- ==== Pre_dgrad_finite.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bcast_S_S1024x4096 : S_.BroadcastsInDim S1024x4096 (![] : Fin 0 → Fin S1024x4096.rank)
  bitsLt_bf16_f32 : FTy.bits .bf16 < FTy.bits .f32
  bcast_S_S2048x4096 : S_.BroadcastsInDim S2048x4096 (![] : Fin 0 → Fin S2048x4096.rank)

variable [Facts]

def fn {F : FTy → Type} [FloatOps F] (main_arg0 : FVec F S2048x1024 .f32) (main_arg1 : FVec F S1024 .f32) (main_arg2 : FVec F S1024x4096 .f32) (main_arg3 : FVec F S2048x4096 .bf16) (main_arg4 : FVec F S2048x1024 .f32) : IVec S2048x1024 1 × IVec S1024 1 × IVec S1024x4096 1 × IVec S2048x4096 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S2048x4096 .f32 := (extf .f32 · bitsLt_bf16_f32) main_arg3
  let main_v10 : FVec F S2048x4096 .f32 := Host.absf main_v9
  let main_cst_2 : FVec F S_ .f32 := constant S_ .f32 0x7F800000#32
  let main_v11 : FVec F S2048x4096 .f32 := broadcastInDim S2048x4096 ![] bcast_S_S2048x4096 main_cst_2
  let main_v12 : IVec S2048x4096 1 := cmpf .olt main_v10 main_v11
  (main_v2, main_v5, main_v8, main_v12)
-- ==== Pre_in_dgrad_finite.lean ====
abbrev S2048x1024 : Shape := ⟨2, ![2048, 1024]⟩
abbrev S1024 : Shape := ⟨1, ![1024]⟩
abbrev S1024x7680 : Shape := ⟨2, ![1024, 7680]⟩
abbrev S2048x7680 : Shape := ⟨2, ![2048, 7680]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bcast_S_S1024x7680 : S_.BroadcastsInDim S1024x7680 (![] : Fin 0 → Fin S1024x7680.rank)
  bitsLt_bf16_f32 : FTy.bits .bf16 < FTy.bits .f32
  bcast_S_S2048x7680 : S_.BroadcastsInDim S2048x7680 (![] : Fin 0 → Fin S2048x7680.rank)

variable [Facts]

def fn {F : FTy → Type} [FloatOps F] (main_arg0 : FVec F S2048x1024 .f32) (main_arg1 : FVec F S1024 .f32) (main_arg2 : FVec F S1024x7680 .f32) (main_arg3 : FVec F S2048x7680 .bf16) (main_arg4 : FVec F S2048x1024 .f32) : IVec S2048x1024 1 × IVec S1024 1 × IVec S1024x7680 1 × IVec S2048x7680 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x7680 .f32 := Host.absf main_arg2
  let main_cst_1 : FVec F S_ .f32 := constant S_ .f32 0x7F800000#32
  let main_v7 : FVec F S1024x7680 .f32 := broadcastInDim S1024x7680 ![] bcast_S_S1024x7680 main_cst_1
  let main_v8 : IVec S1024x7680 1 := cmpf .olt main_v6 main_v7
  let main_v9 : FVec F S2048x7680 .f32 := (extf .f32 · bitsLt_bf16_f32) main_arg3
  let main_v10 : FVec F S2048x7680 .f32 := Host.absf main_v9
  let main_cst_2 : FVec F S_ .f32 := constant S_ .f32 0x7F800000#32
  let main_v11 : FVec F S2048x7680 .f32 := broadcastInDim S2048x7680 ![] bcast_S_S2048x7680 main_cst_2
  let main_v12 : IVec S2048x7680 1 := cmpf .olt main_v10 main_v11
  (main_v2, main_v5, main_v8, main_v12)
-- ==== Pre_lbs_bwd_finite.lean ====
abbrev S4x512 : Shape := ⟨2, ![4, 512]⟩
abbrev S_ : Shape := ⟨0, ![]⟩

class Facts : Prop where
  bcast_S_S4x512 : S_.BroadcastsInDim S4x512 (![] : Fin 0 → Fin S4x512.rank)

variable [Facts]

def fn {F : FTy → Type} [FloatOps F] (main_arg0 : FVec F S4x512 .f32) (main_arg1 : FVec F S4x512 .f32) : IVec S4x512 1 × IVec S4x512 1 :=
  let main_v0 : FVec F S4x512 .f32 := Host.absf main_arg0
  let main_cst : FVec F S_ .f32 := constant S_ .f32 0x7F800000#32
  let main_v1 : FVec F S4x512 .f32 := broadcastInDim S4x512 ![] bcast_S_S4x512 main_cst
  let main_v2 : IVec S4x512 1 := cmpf .olt main_v0 main_v1
  let main_v3 : FVec F S4x512 .f32 := Host.absf main_arg1
  let main_cst_0 : FVec F S_ .f32 := constant S_ .f32 0x7F800000#32
  let main_v4 : FVec F S4x512 .f32 := broadcastInDim S4x512 ![] bcast_S_S4x512 main_cst_0
  let main_v5 : IVec S4x512 1 := cmpf .olt main_v3 main_v4
  (main_v2, main_v5)
-- ==== Pre_lbs_fwd_finite.lean ====
abbrev S4x512 : Shape := ⟨2, ![4, 512]⟩
abbrev S_ : Shape := ⟨0, ![]⟩

class Facts : Prop where
  bcast_S_S4x512 : S_.BroadcastsInDim S4x512 (![] : Fin 0 → Fin S4x512.rank)

variable [Facts]

def fn {F : FTy → Type} [FloatOps F] (main_arg0 : FVec F S4x512 .f32) : IVec S4x512 1 :=
  let main_v0 : FVec F S4x512 .f32 := Host.absf main_arg0
  let main_cst : FVec F S_ .f32 := constant S_ .f32 0x7F800000#32
  let main_v1 : FVec F S4x512 .f32 := broadcastInDim S4x512 ![] bcast_S_S4x512 main_cst
  let main_v2 : IVec S4x512 1 := cmpf .olt main_v0 main_v1
  main_v2
-- ==== Pre_loss_head_finite.lean ====
abbrev S1x2048x1024 : Shape := ⟨3, ![1, 2048, 1024]⟩
abbrev S1024 : Shape := ⟨1, ![1024]⟩
abbrev S_ : Shape := ⟨0, ![]⟩

class Facts : Prop where
  bcast_S_S1x2048x1024 : S_.BroadcastsInDim S1x2048x1024 (![] : Fin 0 → Fin S1x2048x1024.rank)
  bcast_S_S1024 : S_.BroadcastsInDim S1024 (![] : Fin 0 → Fin S1024.rank)

variable [Facts]

def fn {F : FTy → Type} [FloatOps F] (main_arg0 : FVec F S1x2048x1024 .f32) (main_arg1 : FVec F S1024 .f32) (main_arg2 : FVec F S1x2048x1024 .f32) : IVec S1x2048x1024 1 × IVec S1024 1 × IVec S1x2048x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1x2048x1024 .f32 := Host.absf main_arg2
  let main_cst_1 : FVec F S_ .f32 := constant S_ .f32 0x7F800000#32
  let main_v7 : FVec F S1x2048x1024 .f32 := broadcastInDim S1x2048x1024 ![] bcast_S_S1x2048x1024 main_cst_1
  let main_v8 : IVec S1x2048x1024 1 := cmpf .olt main_v6 main_v7
  (main_v2, main_v5, main_v8)
-- ==== Pre_sg_bwd_finite.lean ====
abbrev S2048x7680 : Shape := ⟨2, ![2048, 7680]⟩
abbrev S512 : Shape := ⟨1, ![512]⟩
abbrev S4x128x128 : Shape := ⟨3, ![4, 128, 128]⟩
abbrev S4x128 : Shape := ⟨2, ![4, 128]⟩
abbrev S3x2048x512 : Shape := ⟨3, ![3, 2048, 512]⟩
abbrev S_ : Shape := ⟨0, ![]⟩

class Facts : Prop where
  bcast_S_S2048x7680 : S_.BroadcastsInDim S2048x7680 (![] : Fin 0 → Fin S2048x7680.rank)
  bcast_S_S512 : S_.BroadcastsInDim S512 (![] : Fin 0 → Fin S512.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S3x2048x512 : S_.BroadcastsInDim S3x2048x512 (![] : Fin 0 → Fin S3x2048x512.rank)

variable [Facts]

def fn {F : FTy → Type} [FloatOps F] (main_arg0 : FVec F S2048x7680 .f32) (main_arg1 : FVec F S512 .f32) (main_arg2 : FVec F S512 .f32) (main_arg3 : FVec F S4x128x128 .f32) (main_arg4 : FVec F S4x128 .f32) (main_arg5 : FVec F S3x2048x512 .f32) (main_arg6 : FVec F S2048x7680 .bf16) : IVec S2048x7680 1 × IVec S512 1 × IVec S512 1 × IVec S4x128x128 1 × IVec S4x128 1 × IVec S3x2048x512 1 :=
  let main_v0 : FVec F S2048x7680 .f32 := Host.absf main_arg0
  let main_cst : FVec F S_ .f32 := constant S_ .f32 0x7F800000#32
  let main_v1 : FVec F S2048x7680 .f32 := broadcastInDim S2048x7680 ![] bcast_S_S2048x7680 main_cst
  let main_v2 : IVec S2048x7680 1 := cmpf .olt main_v0 main_v1
  let main_v3 : FVec F S512 .f32 := Host.absf main_arg1
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_v12 : FVec F S4x128 .f32 := Host.absf main_arg4
  let main_cst_3 : FVec F S_ .f32 := constant S_ .f32 0x7F800000#32
  let main_v13 : FVec F S4x128 .f32 := broadcastInDim S4x128 ![] bcast_S_S4x128 main_cst_3
  let main_v14 : IVec S4x128 1 := cmpf .olt main_v12 main_v13
  let main_v15 : FVec F S3x2048x512 .f32 := Host.absf main_arg5
  let main_cst_4 : FVec F S_ .f32 := constant S_ .f32 0x7F800000#32
  let main_v16 : FVec F S3x2048x512 .f32 := broadcastInDim S3x2048x512 ![] bcast_S_S3x2048x512 main_cst_4
  let main_v17 : IVec S3x2048x512 1 := cmpf .olt main_v15 main_v16
  (main_v2, main_v5, main_v8, main_v11, main_v14, main_v17)
-- ==== LbsBwd.lean ====
abbrev S4x512 : Shape := ⟨2, ![4, 512]⟩
abbrev S1x512 : Shape := ⟨2, ![1, 512]⟩

abbrev nBuf : Space → Nat
  | .hbm => 3
  | .vmem => 3
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LbsBwdRefIdeal.lean ====
abbrev S4x512 : Shape := ⟨2, ![4, 512]⟩
abbrev S_ : Shape := ⟨0, ![]⟩
abbrev S512 : Shape := ⟨1, ![512]⟩
abbrev S1x512 : Shape := ⟨2, ![1, 512]⟩

abbrev nBuf : Space → Nat
  | .hbm => 76
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S_, .f32⟩
  | .hbm, ⟨3, _⟩ => ⟨S512, .f32⟩
  | .hbm, ⟨4, _⟩ => ⟨S1x512, .f32⟩
  | .hbm, ⟨5, _⟩ => ⟨S4x512, .f32⟩
  | .hbm, ⟨6, _⟩ => ⟨S4x512, .i1⟩
  | .hbm, ⟨7, _⟩ => ⟨S4x512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .i1⟩
  | .hbm, ⟨16, _⟩ => ⟨S_, .f32⟩
  | .hbm, ⟨17, _⟩ => ⟨S512, .f32⟩
  | .hbm, ⟨18, _⟩ => ⟨S512, .i1⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S4x512, .f32⟩
  | .hbm, ⟨29, _⟩ => ⟨S4x512, .f32⟩
  | .hbm, ⟨30, _⟩ => ⟨S4x512, .f32⟩
  | .hbm, ⟨31, _⟩ => ⟨S_, .f32⟩
  | .hbm, ⟨32, _⟩ => ⟨S512, .f32⟩
  | .hbm, ⟨33, _⟩ => ⟨S1x512, .f32⟩
  | .hbm, ⟨34, _⟩ => ⟨S4x512, .f32⟩
  | .hbm, ⟨35, _⟩ => ⟨S4x512, .f32⟩
  | .hbm, ⟨36, _⟩ => ⟨S1x512, .f32⟩
  | .hbm, ⟨37, _⟩ => ⟨S_, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S_, .f32⟩
  | .hbm, ⟨42, _⟩ => ⟨S4x512, .f32⟩
  | .hbm, ⟨43, _⟩ => ⟨S1x512, .f32⟩
  | .hbm, ⟨44, _⟩ => ⟨S512, .f32⟩
  | .hbm, ⟨45, _⟩ => ⟨S1x512, .f32⟩
  | .hbm, ⟨46, _⟩ => ⟨S4x512, .f32⟩
  | .hbm, ⟨47, _⟩ => ⟨S4x512, .f32⟩
  | .hbm, ⟨48, _⟩ => ⟨S4x512, .f32⟩
  | .hbm, ⟨49, _⟩ => ⟨S4x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S_, .f32⟩
  | .hbm, ⟨57, _⟩ => ⟨S4x512, .f32⟩
  | .hbm, ⟨58, _⟩ => ⟨S_, .f32⟩
  | .hbm, ⟨59, _⟩ => ⟨S_, .f32⟩
  | .hbm, ⟨60, _⟩ => ⟨S4x512, .f32⟩
  | .hbm, ⟨61, _⟩ => ⟨S4x512, .f32⟩
  | .hbm, ⟨62, _⟩ => ⟨S4x512, .f32⟩
  | .hbm, ⟨63, _⟩ => ⟨S4x512, .f32⟩
  | .hbm, ⟨64, _⟩ => ⟨S4x512, .f32⟩
  | .hbm, ⟨65, _⟩ => ⟨S_, .f32⟩
  | .hbm, ⟨66, _⟩ => ⟨S512, .f32⟩
  | .hbm, ⟨67, _⟩ => ⟨S1x512, .f32⟩
  | .hbm, ⟨68, _⟩ => ⟨S1x512, .f32⟩
  | .hbm, ⟨69, _⟩ => ⟨S4x512, .f32⟩
  | .hbm, ⟨70, _⟩ => ⟨S4x512, .f32⟩
  | .hbm, ⟨71, _⟩ => ⟨S_, .f32⟩
  | .hbm, ⟨72, _⟩ => ⟨S512, .f32⟩
  | .hbm, ⟨73, _⟩ => ⟨S4x512, .f32⟩
  | .hbm, ⟨74, _⟩ => ⟨S4x512, .f32⟩
  | .hbm, ⟨75, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_call1_call0_cst : Ref sig .tc := ⟨.hbm, 58, rfl⟩
abbrev main_call1_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== LossHead.lean ====
abbrev S1x2048x1024 : Shape := ⟨3, ![1, 2048, 1024]⟩
abbrev S1024 : Shape := ⟨1, ![1024]⟩
abbrev S2048x1024 : Shape := ⟨2, ![2048, 1024]⟩
abbrev S1x1024 : Shape := ⟨2, ![1, 1024]⟩
abbrev S8x128 : Shape := ⟨2, ![8, 128]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S8x128, .f32⟩
  | .hbm, ⟨7, _⟩ => ⟨S2048x1024, .f32⟩
  | .hbm, ⟨8, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S8x128, .f32⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S1x2048x1024 : Shape := ⟨3, ![1, 2048, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x1024 : Shape := ⟨2, ![1, 1024]⟩
abbrev S2048 : Shape := ⟨1, ![2048]⟩
abbrev S8x128 : Shape := ⟨2, ![8, 128]⟩
abbrev S2048x1024 : Shape := ⟨2, ![2048, 1024]⟩
abbrev S7x1024 : Shape := ⟨2, ![7, 1024]⟩
abbrev S8x1024 : Shape := ⟨2, ![8, 1024]⟩

abbrev nBuf : Space → Nat
  | .hbm => 78
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x2048x1024, .f32⟩
  | .hbm, ⟨3, _⟩ => ⟨S1x2048x1024, .f32⟩
  | .hbm, ⟨4, _⟩ => ⟨S_, .f32⟩
  | .hbm, ⟨5, _⟩ => ⟨S1x2048, .f32⟩
  | .hbm, ⟨6, _⟩ => ⟨S1x2048x1, .f32⟩
  | .hbm, ⟨7, _⟩ => ⟨S_, .f32⟩
  | .hbm, ⟨8, _⟩ => ⟨S1x2048x1, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1024, .f32⟩
  | .hbm, ⟨19, _⟩ => ⟨S1x2048x1024, .f32⟩
  | .hbm, ⟨20, _⟩ => ⟨S1x1x1024, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S_, .f32⟩
  | .hbm, ⟨26, _⟩ => ⟨S1x2048x1024, .f32⟩
  | .hbm, ⟨27, _⟩ => ⟨S1x2048x1024, .f32⟩
  | .hbm, ⟨28, _⟩ => ⟨S_, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x2048, .f32⟩
  | .hbm, ⟨41, _⟩ => ⟨S_, .f32⟩
  | .hbm, ⟨42, _⟩ => ⟨S1x2048, .f32⟩
  | .hbm, ⟨43, _⟩ => ⟨S1x2048, .f32⟩
  | .hbm, ⟨44, _⟩ => ⟨S1x2048x1024, .f32⟩
  | .hbm, ⟨45, _⟩ => ⟨S1x2048x1024, .f32⟩
  | .hbm, ⟨46, _⟩ => ⟨S1x2048x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x2048x1024, .f32⟩
  | .hbm, ⟨51, _⟩ => ⟨S1x2048x1024, .f32⟩
  | .hbm, ⟨52, _⟩ => ⟨S_, .f32⟩
  | .hbm, ⟨53, _⟩ => ⟨S1024, .f32⟩
  | .hbm, ⟨54, _⟩ => ⟨S1x2048x1024, .f32⟩
  | .hbm, ⟨55, _⟩ => ⟨S_, .f32⟩
  | .hbm, ⟨56, _⟩ => ⟨S1x2048, .f32⟩
  | .hbm, ⟨57, _⟩ => ⟨S1x2048x1, .f32⟩
  | .hbm, ⟨58, _⟩ => ⟨S1x2048x1024, .f32⟩
  | .hbm, ⟨59, _⟩ => ⟨S1x2048x1024, .f32⟩
  | .hbm, ⟨60, _⟩ => ⟨S1x2048x1, .f32⟩
  | .hbm, ⟨61, _⟩ => ⟨S_, .f32⟩
  | .hbm, ⟨62, _⟩ => ⟨S1x2048x1, .f32⟩
  | .hbm, ⟨63, _⟩ => ⟨S1x2048x1, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S1x2048x1024, .f32⟩
  | .hbm, ⟨68, _⟩ => ⟨S1x2048x1024, .f32⟩
  | .hbm, ⟨69, _⟩ => ⟨S1x2048x1024, .f32⟩
  | .hbm, ⟨70, _⟩ => ⟨S1x2048x1024, .f32⟩
  | .hbm, ⟨71, _⟩ => ⟨S1x2048x1024, .f32⟩
  | .hbm, ⟨72, _⟩ => ⟨S8x128, .f32⟩
  | .hbm, ⟨73, _⟩ => ⟨S2048x1024, .f32⟩
  | .hbm, ⟨74, _⟩ => ⟨S1x1024, .f32⟩
  | .hbm, ⟨75, _⟩ => ⟨S_, .f32⟩
  | .hbm, ⟨76, _⟩ => ⟨S7x1024, .f32⟩
  | .hbm, ⟨77, _⟩ => ⟨S8x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_16 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Ff2Dgrad.lean ====
abbrev S2048x1024 : Shape := ⟨2, ![2048, 1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S2048x4096 : Shape := ⟨2, ![2048, 4096]⟩
abbrev S1024x1024 : Shape := ⟨2, ![1024, 1024]⟩
abbrev S1x1024x1024 : Shape := ⟨3, ![1, 1024, 1024]⟩
abbrev S256x1024 : Shape := ⟨2, ![256, 1024]⟩
abbrev S256x4096 : Shape := ⟨2, ![256, 4096]⟩

abbrev nBuf : Space → Nat
  | .hbm => 12
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | .hbm, ⟨7, _⟩ => ⟨S4x1024x1024, .f32⟩
  | .hbm, ⟨8, _⟩ => ⟨S4x1024x1024, .bf16⟩
  | .hbm, ⟨9, _⟩ => ⟨S2048x4096, .bf16⟩
  | .hbm, ⟨10, _⟩ => ⟨S4096x1024, .bf16⟩
  | .hbm, ⟨11, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | .local _ .vmem, ⟨8, _⟩ => ⟨S4096x1024, .bf16⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S256x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]
-- ==== Ff2DgradRefIdeal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x1024, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .i1⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S2048x1024, .f32⟩
  | .hbm, ⟨19, _⟩ => ⟨S2048x4096, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Ff1Dgrad.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x4096, .bf16⟩
  | .hbm, ⟨4, _⟩ => ⟨S2048x1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S1x1024, .f32⟩
  | .hbm, ⟨9, _⟩ => ⟨S2048x1024, .f32⟩
  | .hbm, ⟨10, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Ff1DgradRefIdeal.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x4096, .bf16⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x4096, .f32⟩
  | .hbm, ⟨26, _⟩ => ⟨S2048x4096, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | .hbm, ⟨55, _⟩ => ⟨S_, .f32⟩
  | .hbm, ⟨56, _⟩ => ⟨S7x1024, .f32⟩
  | .hbm, ⟨57, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== InDgrad.lean ====
abbrev S2048x1024 : Shape := ⟨2, ![2048, 1024]⟩
abbrev S1024 : Shape := ⟨1, ![1024]⟩
abbrev S1024x7680 : Shape := ⟨2, ![1024, 7680]⟩
abbrev S2048x7680 : Shape := ⟨2, ![2048, 7680]⟩
abbrev S1024x4x1920 : Shape := ⟨3, ![1024, 4, 1920]⟩
abbrev S4x1024x1920 : Shape := ⟨3, ![4, 1024, 1920]⟩
abbrev S1x1024 : Shape := ⟨2, ![1, 1024]⟩
abbrev S8x1024 : Shape := ⟨2, ![8, 1024]⟩
abbrev S512x7680 : Shape := ⟨2, ![512, 7680]⟩
abbrev S512x1024 : Shape := ⟨2, ![512, 1024]⟩
abbrev S512x1920 : Shape := ⟨2, ![512, 1920]⟩
abbrev S1x1024x1920 : Shape := ⟨3, ![1, 1024, 1920]⟩
abbrev S1024x1920 : Shape := ⟨2, ![1024, 1920]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x7680, .f32⟩
  | .hbm, ⟨3, _⟩ => ⟨S2048x7680, .bf16⟩
  | .hbm, ⟨4, _⟩ => ⟨S2048x1024, .f32⟩
  | .hbm, ⟨5, _⟩ => ⟨S1024x4x1920, .f32⟩
  | .hbm, ⟨6, _⟩ => ⟨S4x1024x1920, .f32⟩
  | .hbm, ⟨7, _⟩ => ⟨S4x1024x1920, .bf16⟩
  | .hbm, ⟨8, _⟩ => ⟨S1x1024, .f32⟩
  | .hbm, ⟨9, _⟩ => ⟨S2048x1024, .f32⟩
  | .hbm, ⟨10, _⟩ => ⟨S8x1024, .f32⟩
  | .local _ .vmem, ⟨0, _⟩ => ⟨S512x7680, .bf16⟩
  | .local _ .vmem, ⟨1, _⟩ => ⟨S512x7680, .bf16⟩
  | .local _ .vmem, ⟨2, _⟩ => ⟨S4x1024x1920, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x7680 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InDgradRefIdeal.lean ====
abbrev S2048x1024 : Shape := ⟨2, ![2048, 1024]⟩
abbrev S1024 : Shape := ⟨1, ![1024]⟩
abbrev S1024x7680 : Shape := ⟨2, ![1024, 7680]⟩
abbrev S2048x7680 : Shape := ⟨2, ![2048, 7680]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x7680, .f32⟩
  | .hbm, ⟨3, _⟩ => ⟨S2048x7680, .bf16⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x7680, .f32⟩
  | .hbm, ⟨26, _⟩ => ⟨S2048x7680, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | .hbm, ⟨55, _⟩ => ⟨S_, .f32⟩
  | .hbm, ⟨56, _⟩ => ⟨S7x1024, .f32⟩
  | .hbm, ⟨57, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== ConvBwd.lean ====
abbrev S2048x7680 : Shape := ⟨2, ![2048, 7680]⟩
abbrev S3x512 : Shape := ⟨2, ![3, 512]⟩
abbrev S3x2048x512 : Shape := ⟨3, ![3, 2048, 512]⟩
abbrev S8x512 : Shape := ⟨2, ![8, 512]⟩
abbrev S1024x512 : Shape := ⟨2, ![1024, 512]⟩
abbrev S1x1024x512 : Shape := ⟨3, ![1, 1024, 512]⟩
abbrev S1x8x512 : Shape := ⟨3, ![1, 8, 512]⟩
abbrev S2x1024x512 : Shape := ⟨3, ![2, 1024, 512]⟩
abbrev S1x512 : Shape := ⟨2, ![1, 512]⟩
abbrev S1016x512 : Shape := ⟨2, ![1016, 512]⟩
abbrev S512 : Shape := ⟨1, ![512]⟩

abbrev nBuf : Space → Nat
  | .hbm => 6
  | .vmem => 21
  | .smem => 0
  | _ => 0

abbrev bufTy : (tb : Table) → Fin (tcTables nBuf tb) → BufTy
  | .hbm, ⟨0, _⟩ => ⟨S2048x7680, .f32⟩
  | .hbm, ⟨1, _⟩ => ⟨S3x512, .f32⟩
  | .hbm, ⟨2, _⟩ => ⟨S3x2048x512, .f32⟩
  | .hbm, ⟨3, _⟩ => ⟨S2048x7680, .bf16⟩
  | .hbm, ⟨4, _⟩ => ⟨S2048x7680, .bf16⟩
  | .hbm, ⟨5, _⟩ => ⟨S8x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S1x1024x512, .f32⟩
  | .local _ .vmem, ⟨13, _⟩ => ⟨S1x1024x512, .f32⟩
  | .local _ .vmem, ⟨14, _⟩ => ⟨S1x8x512, .f32⟩
  | .local _ .vmem, ⟨15, _⟩ => ⟨S1x8x512, .f32⟩
  | .local _ .vmem, ⟨16, _⟩ => ⟨S3x512, .f32⟩
  | .local _ .vmem, ⟨17, _⟩ => ⟨S1024x512, .bf16⟩
  | .local _ .vmem, ⟨18, _⟩ => ⟨S1024x512, .bf16⟩
  | .local _ .vmem, ⟨19, _⟩ => ⟨S8x512, .f32⟩
  | .local _ .vmem, ⟨20, _⟩ => ⟨S2x1024x512, .f32⟩
  | _, _ => ⟨S2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![2, 3], ![false, false]⟩

def k0_cond3 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def k0_off1 (i : grid0.Coords) : Fin 3 → Nat :=
  let arg1 : BitVec 32 := BitVec.ofNat 32 (i 1).val
  let c1_i32 : BitVec 32 := 1#32
  let v11 : BitVec 32 := Scalar.subi arg1 c1_i32
  let v12 : Index := Scalar.indexCast v11
  let c0 : Index := 0#32
  let c0_6 : Index := 0#32
  ![v12.toNat, 0, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c255_i32 : BitVec 32 := 255#32
  let v2 : BitVec 32 := Scalar.minsi v1 c255_i32
  let c4_i32 : BitVec 32 := 4#32
  let c0_i32 : BitVec 32 := 0#32
  ![v2.toNat, c4_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c255_i32 : BitVec 32 := 255#32
  let v2 : BitVec 32 := Scalar.minsi v1 c255_i32
  let c1_i32_0 : BitVec 32 := 1#32
  let c0_i32 : BitVec 32 := 0#32
  let c0_i32_1 : BitVec 32 := 0#32
  ![c1_i32_0.toNat, v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ConvBwdRefIdeal.lean ====
abbrev S2048x7680 : Shape := ⟨2, ![2048, 7680]⟩
abbrev S3x512 : Shape := ⟨2, ![3, 512]⟩
abbrev S3x2048x512 : Shape := ⟨3, ![3, 2048, 512]⟩
abbrev S2048x512 : Shape := ⟨2, ![2048, 512]⟩
abbrev S1x2048x512 : Shape := ⟨3, ![1, 2048, 512]⟩
abbrev S_ : Shape := ⟨0, ![]⟩
abbrev S1x2x512 : Shape := ⟨3, ![1, 2, 512]⟩
abbrev S1x2050x512 : Shape := ⟨3, ![1, 2050, 512]⟩
abbrev S1x512 : Shape := ⟨2, ![1, 512]⟩
abbrev S512 : Shape := ⟨1, ![512]⟩
abbrev S1x1x512 : Shape := ⟨3, ![1, 1, 512]⟩
abbrev S2048x2048 : Shape := ⟨2, ![2048, 2048]⟩
abbrev S2048x1536 : Shape := ⟨2, ![2048, 1536]⟩
abbrev S2048x4096 : Shape := ⟨2, ![2048, 4096]⟩
abbrev S5x512 : Shape := ⟨2, ![5, 512]⟩
abbrev S8x512 : Shape := ⟨2, ![8, 512]⟩

abbrev nBuf : Space → Nat
  | .hbm => 111
  | .vmem => 0
  | .smem => 0
  | _ => 0

abbrev bufTy : (tb : Table) → Fin (tcTables nBuf tb) → BufTy
  | .hbm, ⟨0, _⟩ => ⟨S2048x7680, .f32⟩
  | .hbm, ⟨1, _⟩ => ⟨S3x512, .f32⟩
  | .hbm, ⟨2, _⟩ => ⟨S3x2048x512, .f32⟩
  | .hbm, ⟨3, _⟩ => ⟨S2048x7680, .bf16⟩
  | .hbm, ⟨4, _⟩ => ⟨S2048x512, .f32⟩
  | .hbm, ⟨5, _⟩ => ⟨S1x2048x512, .f32⟩
  | .hbm, ⟨6, _⟩ => ⟨S2048x512, .f32⟩
  | .hbm, ⟨7, _⟩ => ⟨S1x2048x512, .f32⟩
  | .hbm, ⟨8, _⟩ => ⟨S2048x512, .f32⟩
  | .hbm, ⟨9, _⟩ => ⟨S1x2048x512, .f32⟩
  | .hbm, ⟨10, _⟩ => ⟨S1x2048x512, .f32⟩
  | .hbm, ⟨11, _⟩ => ⟨S_, .f32⟩
  | .hbm, ⟨12, _⟩ => ⟨S1x2x512, .f32⟩
  | .hbm, ⟨13, _⟩ => ⟨S1x2050x512, .f32⟩
  | .hbm, ⟨14, _⟩ => ⟨S_, .f32⟩
  | .hbm, ⟨15, _⟩ => ⟨S1x2x512, .f32⟩
  | .hbm, ⟨16, _⟩ => ⟨S1x2048x512, .f32⟩
  | .hbm, ⟨17, _⟩ => ⟨S1x512, .f32⟩
  | .hbm, ⟨18, _⟩ => ⟨S512, .f32⟩
  | .hbm, ⟨19, _⟩ => ⟨S1x1x512, .f32⟩
  | .hbm, ⟨20, _⟩ => ⟨S1x2048x512, .f32⟩
  | .hbm, ⟨21, _⟩ => ⟨S1x2048x512, .f32⟩
  | .hbm, ⟨22, _⟩ => ⟨S1x2048x512, .f32⟩
  | .hbm, ⟨23, _⟩ => ⟨S1x512, .f32⟩
  | .hbm, ⟨24, _⟩ => ⟨S512, .f32⟩
  | .hbm, ⟨25, _⟩ => ⟨S1x1x512, .f32⟩
  | .hbm, ⟨26, _⟩ => ⟨S1x2048x512, .f32⟩
  | .hbm, ⟨27, _⟩ => ⟨S1x2048x512, .f32⟩
  | .hbm, ⟨28, _⟩ => ⟨S1x2048x512, .f32⟩
  | .hbm, ⟨29, _⟩ => ⟨S1x2048x512, .f32⟩
  | .hbm, ⟨30, _⟩ => ⟨S1x512, .f32⟩
  | .hbm, ⟨31, _⟩ => ⟨S512, .f32⟩
  | .hbm, ⟨32, _⟩ => ⟨S1x1x512, .f32⟩
  | .hbm, ⟨33, _⟩ => ⟨S1x2048x512, .f32⟩
  | .hbm, ⟨34, _⟩ => ⟨S1x2048x512, .f32⟩
  | .hbm, ⟨35, _⟩ => ⟨S1x2048x512, .f32⟩
  | .hbm, ⟨36, _⟩ => ⟨S1x2048x512, .f32⟩
  | .hbm, ⟨37, _⟩ => ⟨S1x2048x512, .f32⟩
  | .hbm, ⟨38, _⟩ => ⟨S2048x512, .f32⟩
  | .hbm, ⟨39, _⟩ => ⟨S1x2048x512, .f32⟩
  | .hbm, ⟨40, _⟩ => ⟨S1x2048x512, .f32⟩
  | .hbm, ⟨41, _⟩ => ⟨S1x2048x512, .f32⟩
  | .hbm, ⟨42, _⟩ => ⟨S1x2048x512, .f32⟩
  | .hbm, ⟨43, _⟩ => ⟨S_, .f32⟩
  | .hbm, ⟨44, _⟩ => ⟨S1x512, .f32⟩
  | .hbm, ⟨45, _⟩ => ⟨S1x1x512, .f32⟩
  | .hbm, ⟨46, _⟩ => ⟨S1x2048x512, .f32⟩
  | .hbm, ⟨47, _⟩ => ⟨S1x2048x512, .f32⟩
  | .hbm, ⟨48, _⟩ => ⟨S_, .f32⟩
  | .hbm, ⟨49, _⟩ => ⟨S512, .f32⟩
  | .hbm, ⟨50, _⟩ => ⟨S1x512, .f32⟩
  | .hbm, ⟨51, _⟩ => ⟨S_, .f32⟩
  | .hbm, ⟨52, _⟩ => ⟨S3x512, .f32⟩
  | .hbm, ⟨53, _⟩ => ⟨S_, .f32⟩
  | .hbm, ⟨54, _⟩ => ⟨S1x2050x512, .f32⟩
  | .hbm, ⟨55, _⟩ => ⟨S1x2048x512, .f32⟩
  | .hbm, ⟨56, _⟩ => ⟨S_, .f32⟩
  | .hbm, ⟨57, _⟩ => ⟨S1x512, .f32⟩
  | .hbm, ⟨58, _⟩ => ⟨S1x1x512, .f32⟩
  | .hbm, ⟨59, _⟩ => ⟨S1x2048x512, .f32⟩
  | .hbm, ⟨60, _⟩ => ⟨S1x2048x512, .f32⟩
  | .hbm, ⟨61, _⟩ => ⟨S_, .f32⟩
  | .hbm, ⟨62, _⟩ => ⟨S512, .f32⟩
  | .hbm, ⟨63, _⟩ => ⟨S1x512, .f32⟩
  | .hbm, ⟨64, _⟩ => ⟨S_, .f32⟩
  | .hbm, ⟨65, _⟩ => ⟨S3x512, .f32⟩
  | .hbm, ⟨66, _⟩ => ⟨S3x512, .f32⟩
  | .hbm, ⟨67, _⟩ => ⟨S_, .f32⟩
  | .hbm, ⟨68, _⟩ => ⟨S1x2050x512, .f32⟩
  | .hbm, ⟨69, _⟩ => ⟨S1x2050x512, .f32⟩
  | .hbm, ⟨70, _⟩ => ⟨S1x2048x512, .f32⟩
  | .hbm, ⟨71, _⟩ => ⟨S_, .f32⟩
  | .hbm, ⟨72, _⟩ => ⟨S1x512, .f32⟩
  | .hbm, ⟨73, _⟩ => ⟨S1x1x512, .f32⟩
  | .hbm, ⟨74, _⟩ => ⟨S1x2048x512, .f32⟩
  | .hbm, ⟨75, _⟩ => ⟨S1x2048x512, .f32⟩
  | .hbm, ⟨76, _⟩ => ⟨S_, .f32⟩
  | .hbm, ⟨77, _⟩ => ⟨S512, .f32⟩
  | .hbm, ⟨78, _⟩ => ⟨S1x512, .f32⟩
  | .hbm, ⟨79, _⟩ => ⟨S_, .f32⟩
  | .hbm, ⟨80, _⟩ => ⟨S3x512, .f32⟩
  | .hbm, ⟨81, _⟩ => ⟨S3x512, .f32⟩
  | .hbm, ⟨82, _⟩ => ⟨S_, .f32⟩
  | .hbm, ⟨83, _⟩ => ⟨S1x2050x512, .f32⟩
  | .hbm, ⟨84, _⟩ => ⟨S1x2050x512, .f32⟩
  | .hbm, ⟨85, _⟩ => ⟨S1x2x512, .f32⟩
  | .hbm, ⟨86, _⟩ => ⟨S1x2048x512, .f32⟩
  | .hbm, ⟨87, _⟩ => ⟨S1x2048x512, .f32⟩
  | .hbm, ⟨88, _⟩ => ⟨S1x2048x512, .f32⟩
  | .hbm, ⟨89, _⟩ => ⟨S_, .f32⟩
  | .hbm, ⟨90, _⟩ => ⟨S2048x512, .f32⟩
  | .hbm, ⟨91, _⟩ => ⟨S_, .f32⟩
  | .hbm, ⟨92, _⟩ => ⟨S2048x7680, .f32⟩
  | .hbm, ⟨93, _⟩ => ⟨S_, .f32⟩
  | .hbm, ⟨94, _⟩ => ⟨S2048x512, .f32⟩
  | .hbm, ⟨95, _⟩ => ⟨S_, .f32⟩
  | .hbm, ⟨96, _⟩ => ⟨S2048x7680, .f32⟩
  | .hbm, ⟨97, _⟩ => ⟨S2048x7680, .f32⟩
  | .hbm, ⟨98, _⟩ => ⟨S_, .f32⟩
  | .hbm, ⟨99, _⟩ => ⟨S2048x512, .f32⟩
  | .hbm, ⟨100, _⟩ => ⟨S_, .f32⟩
  | .hbm, ⟨101, _⟩ => ⟨S2048x7680, .f32⟩
  | .hbm, ⟨102, _⟩ => ⟨S2048x7680, .f32⟩
  | .hbm, ⟨103, _⟩ => ⟨S2048x2048, .bf16⟩
  | .hbm, ⟨104, _⟩ => ⟨S2048x1536, .f32⟩
  | .hbm, ⟨105, _⟩ => ⟨S2048x1536, .bf16⟩
  | .hbm, ⟨106, _⟩ => ⟨S2048x4096, .bf16⟩
  | .hbm, ⟨107, _⟩ => ⟨S2048x7680, .bf16⟩
  | .hbm, ⟨108, _⟩ => ⟨S_, .f32⟩
  | .hbm, ⟨109, _⟩ => ⟨S5x512, .f32⟩
  | .hbm, ⟨110, _⟩ => ⟨S8x512, .f32⟩
  | _, _ => ⟨S2048x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_1 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_2 : Ref sig .tc := ⟨.hbm, 48, rfl⟩
abbrev main_v41 : Ref sig .tc := ⟨.hbm, 49, rfl⟩
abbrev main_v42 : Ref sig .tc := ⟨.hbm, 50, rfl⟩
abbrev main_cst_3 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_10 : Ref sig .tc := ⟨.hbm, 76, rfl⟩
abbrev main_v61 : Ref sig .tc := ⟨.hbm, 77, rfl⟩
abbrev main_v62 : Ref sig .tc := ⟨.hbm, 78, rfl⟩
abbrev main_cst_11 : Ref sig .tc := ⟨.hbm, 79, rfl⟩
abbrev main_v63 : Ref sig .tc := ⟨.hbm, 80, rfl⟩
abbrev main_v64 : Ref sig .tc := ⟨.hbm, 81, rfl⟩
abbrev main_cst_12 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_13 : Ref sig .tc := ⟨.hbm, 89, rfl⟩
abbrev main_v71 : Ref sig .tc := ⟨.hbm, 90, rfl⟩
abbrev main_cst_14 : Ref sig .tc := ⟨.hbm, 91, rfl⟩
abbrev main_v72 : Ref sig .tc := ⟨.hbm, 92, rfl⟩
abbrev main_cst_15 : Ref sig .tc := ⟨.hbm, 93, rfl⟩
abbrev main_v73 : Ref sig .tc := ⟨.hbm, 94, rfl⟩
abbrev main_cst_16 : Ref sig .tc := ⟨.hbm, 95, rfl⟩
abbrev main_v74 : Ref sig .tc := ⟨.hbm, 96, rfl⟩
abbrev main_v75 : Ref sig .tc := ⟨.hbm, 97, rfl⟩
abbrev main_cst_17 : Ref sig .tc := ⟨.hbm, 98, rfl⟩
abbrev main_v76 : Ref sig .tc := ⟨.hbm, 99, rfl⟩
abbrev main_cst_18 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_19 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]
-- ==== SgBwd.lean ====
abbrev S2048x7680 : Shape := ⟨2, ![2048, 7680]⟩
abbrev S512 : Shape := ⟨1, ![512]⟩
abbrev S4x128x128 : Shape := ⟨3, ![4, 128, 128]⟩
abbrev S4x128 : Shape := ⟨2, ![4, 128]⟩
abbrev S3x2048x512 : Shape := ⟨3, ![3, 2048, 512]⟩
abbrev S1x512 : Shape := ⟨2, ![1, 512]⟩
abbrev S4x128x1 : Shape := ⟨3, ![4, 128, 1]⟩
abbrev S8x512 : Shape := ⟨2, ![8, 512]⟩
abbrev S512x512 : Shape := ⟨2, ![512, 512]⟩
abbrev S1x512x512 : Shape := ⟨3, ![1, 512, 512]⟩
abbrev S128x512 : Shape := ⟨2, ![128, 512]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S1x128x1 : Shape := ⟨3, ![1, 128, 1]⟩
abbrev S1x128x512 : Shape := ⟨3, ![1, 128, 512]⟩

abbrev nBuf : Space → Nat
  | .hbm => 15
  | .vmem => 17
  | .smem => 0
  | _ => 0

abbrev bufTy : (tb : Table) → Fin (tcTables nBuf tb) → BufTy
  | .hbm, ⟨0, _⟩ => ⟨S2048x7680, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S3x2048x512, .f32⟩
  | .hbm, ⟨6, _⟩ => ⟨S2048x7680, .bf16⟩
  | .hbm, ⟨7, _⟩ => ⟨S1x512, .f32⟩
  | .hbm, ⟨8, _⟩ => ⟨S1x512, .f32⟩
  | .hbm, ⟨9, _⟩ => ⟨S4x128x1, .f32⟩
  | .hbm, ⟨10, _⟩ => ⟨S2048x7680, .bf16⟩
  | .hbm, ⟨11, _⟩ => ⟨S4x128x128, .f32⟩
  | .hbm, ⟨12, _⟩ => ⟨S4x128x1, .f32⟩
  | .hbm, ⟨13, _⟩ => ⟨S8x512, .f32⟩
  | .hbm, ⟨14, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S4x128x1, .f32⟩
  | .local _ .vmem, ⟨8, _⟩ => ⟨S1x512x512, .f32⟩
  | .local _ .vmem, ⟨9, _⟩ => ⟨S1x512x512, .f32⟩
  | .local _ .vmem, ⟨10, _⟩ => ⟨S512x512, .bf16⟩
  | .local _ .vmem, ⟨11, _⟩ => ⟨S512x512, .bf16⟩
  | .local _ .vmem, ⟨12, _⟩ => ⟨S4x128x128, .f32⟩
  | .local _ .vmem, ⟨13, _⟩ => ⟨S4x128x1, .f32⟩
  | .local _ .vmem, ⟨14, _⟩ => ⟨S8x512, .f32⟩
  | .local _ .vmem, ⟨15, _⟩ => ⟨S8x512, .f32⟩
  | .local _ .vmem, ⟨16, _⟩ => ⟨S512x512, .f32⟩
  | _, _ => ⟨S2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== SgBwdIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== SgBwdRefIdeal.lean ====
abbrev S2048x7680 : Shape := ⟨2, ![2048, 7680]⟩
abbrev S512 : Shape := ⟨1, ![512]⟩
abbrev S4x128x128 : Shape := ⟨3, ![4, 128, 128]⟩
abbrev S4x128 : Shape := ⟨2, ![4, 128]⟩
abbrev S3x2048x512 : Shape := ⟨3, ![3, 2048, 512]⟩
abbrev S2048x512 : Shape := ⟨2, ![2048, 512]⟩
abbrev S1x2048x512 : Shape := ⟨3, ![1, 2048, 512]⟩
abbrev S_ : Shape := ⟨0, ![]⟩
abbrev S1x2048 : Shape := ⟨2, ![1, 2048]⟩
abbrev S1x2048x1 : Shape := ⟨3, ![1, 2048, 1]⟩
abbrev S1x1x512 : Shape := ⟨3, ![1, 1, 512]⟩
abbrev S1x16x128x4x128 : Shape := ⟨5, ![1, 16, 128, 4, 128]⟩
abbrev S128x128 : Shape := ⟨2, ![128, 128]⟩
abbrev S1x128x128 : Shape := ⟨3, ![1, 128, 128]⟩
abbrev S4x1x16x128x128 : Shape := ⟨5, ![4, 1, 16, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x128x4 : Shape := ⟨3, ![1, 128, 4]⟩
abbrev S1x512 : Shape := ⟨2, ![1, 512]⟩
abbrev S2048 : Shape := ⟨1, ![2048]⟩
abbrev S2048x3584 : Shape := ⟨2, ![2048, 3584]⟩
abbrev S2048x3072 : Shape := ⟨2, ![2048, 3072]⟩
abbrev S4x128x1 : Shape := ⟨3, ![4, 128, 1]⟩
abbrev S7x512 : Shape := ⟨2, ![7, 512]⟩
abbrev S8x512 : Shape := ⟨2, ![8, 512]⟩

abbrev nBuf : Space → Nat
  | .hbm => 235
  | .vmem => 0
  | .smem => 0
  | _ => 0

abbrev hbmTy0_0 (i : Nat) : BufTy := match i % 128 with
  | 0 => ⟨S2048x7680, .f32⟩
  | 1 => ⟨S512, .f32⟩
  | 2 => ⟨S512, .f32⟩
  | 3 => ⟨S4x128x128, .f32⟩
  | 4 => ⟨S4x128, .f32⟩
  | 5 => ⟨S3x2048x512, .f32⟩
  | 6 => ⟨S2048x7680, .bf16⟩
  | 7 => ⟨S2048x512, .f32⟩
  | 8 => ⟨S1x2048x512, .f32⟩
  | 9 => ⟨S2048x512, .f32⟩
  | 10 => ⟨S1x2048x512, .f32⟩
  | 11 => ⟨S_, .f32⟩
  | 12 => ⟨S_, .f32⟩
  | 13 => ⟨S_, .f32⟩
  | 14 => ⟨S1x2048x512, .f32⟩
  | 15 => ⟨S1x2048x512, .f32⟩
  | 16 => ⟨S1x2048x512, .f32⟩
  | 17 => ⟨S_, .f32⟩
  | 18 => ⟨S1x2048x512, .f32⟩
  | 19 => ⟨S1x2048x512, .f32⟩
  | 20 => ⟨S1x2048x512, .f32⟩
  | 21 => ⟨S1x2048x512, .f32⟩
  | 22 => ⟨S1x2048x512, .f32⟩
  | 23 => ⟨S_, .f32⟩
  | 24 => ⟨S1x2048x512, .f32⟩
  | 25 => ⟨S1x2048x512, .f32⟩
  | 26 => ⟨S1x2048x512, .f32⟩
  | 27 => ⟨S_, .f32⟩
  | 28 => ⟨S1x2048x512, .f32⟩
  | 29 => ⟨S1x2048x512, .f32⟩
  | 30 => ⟨S_, .f32⟩
  | 31 => ⟨S1x2048x512, .f32⟩
  | 32 => ⟨S1x2048x512, .f32⟩
  | 33 => ⟨S1x2048x512, .f32⟩
  | 34 => ⟨S_, .f32⟩
  | 35 => ⟨S1x2048x512, .f32⟩
  | 36 => ⟨S1x2048x512, .f32⟩
  | 37 => ⟨S_, .f32⟩
  | 38 => ⟨S1x2048x512, .f32⟩
  | 39 => ⟨S1x2048x512, .f32⟩
  | 40 => ⟨S1x2048x512, .f32⟩
  | 41 => ⟨S_, .f32⟩
  | 42 => ⟨S_, .f32⟩
  | 43 => ⟨S_, .f32⟩
  | 44 => ⟨S1x2048x512, .f32⟩
  | 45 => ⟨S1x2048x512, .f32⟩
  | 46 => ⟨S1x2048x512, .f32⟩
  | 47 => ⟨S_, .f32⟩
  | 48 => ⟨S1x2048x512, .f32⟩
  | 49 => ⟨S1x2048x512, .f32⟩
  | 50 => ⟨S1x2048x512, .f32⟩
  | 51 => ⟨S1x2048x512, .f32⟩
  | 52 => ⟨S1x2048x512, .f32⟩
  | 53 => ⟨S_, .f32⟩
  | 54 => ⟨S1x2048x512, .f32⟩
  | 55 => ⟨S1x2048x512, .f32⟩
  | 56 => ⟨S1x2048x512, .f32⟩
  | 57 => ⟨S_, .f32⟩
  | 58 => ⟨S1x2048x512, .f32⟩
  | 59 => ⟨S1x2048x512, .f32⟩
  | 60 => ⟨S_, .f32⟩
  | 61 => ⟨S1x2048x512, .f32⟩
  | 62 => ⟨S1x2048x512, .f32⟩
  | 63 => ⟨S1x2048x512, .f32⟩
  | 64 => ⟨S_, .f32⟩
  | 65 => ⟨S1x2048x512, .f32⟩
  | 66 => ⟨S1x2048x512, .f32⟩
  | 67 => ⟨S_, .f32⟩
  | 68 => ⟨S1x2048x512, .f32⟩
  | 69 => ⟨S1x2048x512, .f32⟩
  | 70 => ⟨S1x2048x512, .f32⟩
  | 71 => ⟨S_, .f32⟩
  | 72 => ⟨S1x2048, .f32⟩
  | 73 => ⟨S1x2048x1, .f32⟩
  | 74 => ⟨S_, .f32⟩
  | 75 => ⟨S1x2048x1, .f32⟩
  | 76 => ⟨S1x2048x1, .f32⟩
  | 77 => ⟨S1x2048x512, .f32⟩
  | 78 => ⟨S1x2048x512, .f32⟩
  | 79 => ⟨S1x2048x512, .f32⟩
  | 80 => ⟨S_, .f32⟩
  | 81 => ⟨S1x2048, .f32⟩
  | 82 => ⟨S1x2048x1, .f32⟩
  | 83 => ⟨S_, .f32⟩
  | 84 => ⟨S1x2048x1, .f32⟩
  | 85 => ⟨S1x2048x1, .f32⟩
  | 86 => ⟨S_, .f32⟩
  | 87 => ⟨S1x2048x1, .f32⟩
  | 88 => ⟨S1x2048x1, .f32⟩
  | 89 => ⟨S1x2048x1, .f32⟩
  | 90 => ⟨S1x2048x1, .f32⟩
  | 91 => ⟨S_, .f32⟩
  | 92 => ⟨S1x2048x1, .f32⟩
  | 93 => ⟨S1x2048x1, .f32⟩
  | 94 => ⟨S1x2048x512, .f32⟩
  | 95 => ⟨S1x2048x512, .f32⟩
  | 96 => ⟨S1x1x512, .f32⟩
  | 97 => ⟨S1x2048x512, .f32⟩
  | 98 => ⟨S1x2048x512, .f32⟩
  | 99 => ⟨S1x1x512, .f32⟩
  | 100 => ⟨S1x2048x512, .f32⟩
  | 101 => ⟨S1x2048x512, .f32⟩
  | 102 => ⟨S1x16x128x4x128, .f32⟩
  | 103 => ⟨S_, .f32⟩
  | 104 => ⟨S128x128, .f32⟩
  | 105 => ⟨S128x128, .i32⟩
  | 106 => ⟨S_, .i32⟩
  | 107 => ⟨S128x128, .i32⟩
  | 108 => ⟨S128x128, .i32⟩
  | 109 => ⟨S128x128, .i32⟩
  | 110 => ⟨S128x128, .i1⟩
  | 111 => ⟨S_, .f32⟩
  | 112 => ⟨S128x128, .f32⟩
  | 113 => ⟨S128x128, .f32⟩
  | 114 => ⟨S1x128x128, .f32⟩
  | 115 => ⟨S4x128x128, .f32⟩
  | 116 => ⟨S4x128x128, .f32⟩
  | 117 => ⟨S4x1x16x128x128, .f32⟩
  | 118 => ⟨S1x16x128x4x128, .f32⟩
  | 119 => ⟨S128x4, .f32⟩
  | 120 => ⟨S128x4x1, .f32⟩
  | 121 => ⟨S1x1x128x4x1, .f32⟩
  | 122 => ⟨S1x16x128x4x128, .f32⟩
  | 123 => ⟨S1x16x128x4x128, .f32⟩
  | 124 => ⟨S1x2048x512, .f32⟩
  | 125 => ⟨S1x2048x512, .f32⟩
  | 126 => ⟨S1x2048x512, .f32⟩
  | 127 => ⟨S2048x512, .f32⟩
  | _ => ⟨S2048x7680, .f32⟩

abbrev hbmTy0_1 (i : Nat) : BufTy := match i % 128 with
  | 0 => ⟨S1x2048x512, .f32⟩
  | 1 => ⟨S1x2048x512, .f32⟩
  | 2 => ⟨S1x2048x512, .f32⟩
  | 3 => ⟨S1x16x128x4x128, .f32⟩
  | 4 => ⟨S_, .f32⟩
  | 5 => ⟨S1x128x4, .f32⟩
  | 6 => ⟨S1x1x128x4x1, .f32⟩
  | 7 => ⟨S_, .f32⟩
  | 8 => ⟨S128x4, .f32⟩
  | 9 => ⟨S128x4x1, .f32⟩
  | 10 => ⟨S_, .f32⟩
  | 11 => ⟨S128x4, .f32⟩
  | 12 => ⟨S4x128, .f32⟩
  | 13 => ⟨S4x1x16x128x128, .f32⟩
  | 14 => ⟨S4x128x128, .f32⟩
  | 15 => ⟨S4x1x16x128x128, .f32⟩
  | 16 => ⟨S1x16x128x4x128, .f32⟩
  | 17 => ⟨S4x128x128, .f32⟩
  | 18 => ⟨S4x128x128, .f32⟩
  | 19 => ⟨S1x2048x512, .f32⟩
  | 20 => ⟨S_, .f32⟩
  | 21 => ⟨S1x512, .f32⟩
  | 22 => ⟨S1x1x512, .f32⟩
  | 23 => ⟨S_, .f32⟩
  | 24 => ⟨S512, .f32⟩
  | 25 => ⟨S1x2048x512, .f32⟩
  | 26 => ⟨S_, .f32⟩
  | 27 => ⟨S1x512, .f32⟩
  | 28 => ⟨S1x1x512, .f32⟩
  | 29 => ⟨S1x2048x512, .f32⟩
  | 30 => ⟨S1x2048x512, .f32⟩
  | 31 => ⟨S_, .f32⟩
  | 32 => ⟨S512, .f32⟩
  | 33 => ⟨S1x2048x512, .f32⟩
  | 34 => ⟨S_, .f32⟩
  | 35 => ⟨S1x2048, .f32⟩
  | 36 => ⟨S1x2048x1, .f32⟩
  | 37 => ⟨S1x2048x512, .f32⟩
  | 38 => ⟨S1x2048x512, .f32⟩
  | 39 => ⟨S1x2048x1, .f32⟩
  | 40 => ⟨S_, .f32⟩
  | 41 => ⟨S1x2048x1, .f32⟩
  | 42 => ⟨S1x2048x1, .f32⟩
  | 43 => ⟨S_, .f32⟩
  | 44 => ⟨S2048, .f32⟩
  | 45 => ⟨S1x2048, .f32⟩
  | 46 => ⟨S1x2048x512, .f32⟩
  | 47 => ⟨S1x2048x512, .f32⟩
  | 48 => ⟨S1x2048x512, .f32⟩
  | 49 => ⟨S1x2048x512, .f32⟩
  | 50 => ⟨S1x2048x512, .f32⟩
  | 51 => ⟨S1x2048x512, .f32⟩
  | 52 => ⟨S_, .f32⟩
  | 53 => ⟨S1x2048, .f32⟩
  | 54 => ⟨S1x2048x1, .f32⟩
  | 55 => ⟨S_, .f32⟩
  | 56 => ⟨S1x2048x1, .f32⟩
  | 57 => ⟨S1x2048x1, .f32⟩
  | 58 => ⟨S_, .f32⟩
  | 59 => ⟨S2048, .f32⟩
  | 60 => ⟨S1x2048, .f32⟩
  | 61 => ⟨S1x2048x512, .f32⟩
  | 62 => ⟨S1x2048x512, .f32⟩
  | 63 => ⟨S1x2048x512, .f32⟩
  | 64 => ⟨S1x2048x512, .f32⟩
  | 65 => ⟨S_, .f32⟩
  | 66 => ⟨S1x2048x512, .f32⟩
  | 67 => ⟨S1x2048x512, .f32⟩
  | 68 => ⟨S1x2048x512, .f32⟩
  | 69 => ⟨S_, .f32⟩
  | 70 => ⟨S1x2048x512, .f32⟩
  | 71 => ⟨S1x2048x512, .f32⟩
  | 72 => ⟨S1x2048x512, .f32⟩
  | 73 => ⟨S1x2048x512, .f32⟩
  | 74 => ⟨S1x2048x512, .f32⟩
  | 75 => ⟨S1x2048x512, .f32⟩
  | 76 => ⟨S1x2048x512, .f32⟩
  | 77 => ⟨S1x2048x512, .f32⟩
  | 78 => ⟨S1x2048x512, .f32⟩
  | 79 => ⟨S_, .f32⟩
  | 80 => ⟨S1x2048x512, .f32⟩
  | 81 => ⟨S1x2048x512, .f32⟩
  | 82 => ⟨S1x2048x512, .f32⟩
  | 83 => ⟨S_, .f32⟩
  | 84 => ⟨S1x2048x512, .f32⟩
  | 85 => ⟨S1x2048x512, .f32⟩
  | 86 => ⟨S1x2048x512, .f32⟩
  | 87 => ⟨S1x2048x512, .f32⟩
  | 88 => ⟨S1x2048x512, .f32⟩
  | 89 => ⟨S1x2048x512, .f32⟩
  | 90 => ⟨S1x2048x512, .f32⟩
  | 91 => ⟨S2048x3584, .bf16⟩
  | 92 => ⟨S2048x512, .f32⟩
  | 93 => ⟨S2048x512, .bf16⟩
  | 94 => ⟨S2048x512, .f32⟩
  | 95 => ⟨S2048x512, .bf16⟩
  | 96 => ⟨S2048x3072, .bf16⟩
  | 97 => ⟨S2048x7680, .bf16⟩
  | 98 => ⟨S4x128x1, .f32⟩
  | 99 => ⟨S1x512, .f32⟩
  | 100 => ⟨S_, .f32⟩
  | 101 => ⟨S7x512, .f32⟩
  | 102 => ⟨S8x512, .f32⟩
  | 103 => ⟨S1x512, .f32⟩
  | 104 => ⟨S_, .f32⟩
  | 105 => ⟨S7x512, .f32⟩
  | 106 => ⟨S8x512, .f32⟩
  | _ => ⟨S2048x7680, .f32⟩

abbrev hbmTy (i : Nat) : BufTy := match i / 128 with
  | 0 => hbmTy0_0 i
  | 1 => hbmTy0_1 i
  | _ => ⟨S2048x7680, .f32⟩

abbrev bufTy : (tb : Table) → Fin (tcTables nBuf tb) → BufTy
  | .hbm, ⟨i, _⟩ => hbmTy i
  | _, _ => ⟨S2048x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_13 : Ref sig .tc := ⟨.hbm, 64, rfl⟩
abbrev main_v43 : Ref sig .tc := ⟨.hbm, 65, rfl⟩
abbrev main_v44 : Ref sig .tc := ⟨.hbm, 66, rfl⟩
abbrev main_cst_14 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_15 : Ref sig .tc := ⟨.hbm, 71, rfl⟩
abbrev main_v48 : Ref sig .tc := ⟨.hbm, 72, rfl⟩
abbrev main_v49 : Ref sig .tc := ⟨.hbm, 73, rfl⟩
abbrev main_cst_16 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_17 : Ref sig .tc := ⟨.hbm, 80, rfl⟩
abbrev main_v55 : Ref sig .tc := ⟨.hbm, 81, rfl⟩
abbrev main_v56 : Ref sig .tc := ⟨.hbm, 82, rfl⟩
abbrev main_cst_18 : Ref sig .tc := ⟨.hbm, 83, rfl⟩
abbrev main_v57 : Ref sig .tc := ⟨.hbm, 84, rfl⟩
abbrev main_v58 : Ref sig .tc := ⟨.hbm, 85, rfl⟩
abbrev main_cst_19 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_20 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_21 : Ref sig .tc := ⟨.hbm, 103, rfl⟩
abbrev main_v74 : Ref sig .tc := ⟨.hbm, 104, rfl⟩
abbrev main_call0_v0 : Ref sig .tc := ⟨.hbm, 105, rfl⟩
abbrev main_call0_c : Ref sig .tc := ⟨.hbm, 106, rfl⟩
abbrev main_call0_v1 : Ref sig .tc := ⟨.hbm, 107, rfl⟩
abbrev main_call0_v2 : Ref sig .tc := ⟨.hbm, 108, rfl⟩
abbrev main_call0_v3 : Ref sig .tc := ⟨.hbm, 109, rfl⟩
abbrev main_call0_v4 : Ref sig .tc := ⟨.hbm, 110, rfl⟩
abbrev main_call0_cst : Ref sig .tc := ⟨.hbm, 111, rfl⟩
abbrev main_call0_v5 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_22 : Ref sig .tc := ⟨.hbm, 132, rfl⟩
abbrev main_v94 : Ref sig .tc := ⟨.hbm, 133, rfl⟩
abbrev main_v95 : Ref sig .tc := ⟨.hbm, 134, rfl⟩
abbrev main_cst_23 : Ref sig .tc := ⟨.hbm, 135, rfl⟩
abbrev main_v96 : Ref sig .tc := ⟨.hbm, 136, rfl⟩
abbrev main_v97 : Ref sig .tc := ⟨.hbm, 137, rfl⟩
abbrev main_cst_24 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_25 : Ref sig .tc := ⟨.hbm, 148, rfl⟩
abbrev main_v107 : Ref sig .tc := ⟨.hbm, 149, rfl⟩
abbrev main_v108 : Ref sig .tc := ⟨.hbm, 150, rfl⟩
abbrev main_cst_26 : Ref sig .tc := ⟨.hbm, 151, rfl⟩
abbrev main_v109 : Ref sig .tc := ⟨.hbm, 152, rfl⟩
abbrev main_v110 : Ref sig .tc := ⟨.hbm, 153, rfl⟩
abbrev main_cst_27 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_28 : Ref sig .tc := ⟨.hbm, 159, rfl⟩
abbrev main_v115 : Ref sig .tc := ⟨.hbm, 160, rfl⟩
abbrev main_v116 : Ref sig .tc := ⟨.hbm, 161, rfl⟩
abbrev main_cst_29 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_30 : Ref sig .tc := ⟨.hbm, 168, rfl⟩
abbrev main_v122 : Ref sig .tc := ⟨.hbm, 169, rfl⟩
abbrev main_v123 : Ref sig .tc := ⟨.hbm, 170, rfl⟩
abbrev main_cst_31 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_32 : Ref sig .tc := ⟨.hbm, 180, rfl⟩
abbrev main_v132 : Ref sig .tc := ⟨.hbm, 181, rfl⟩
abbrev main_v133 : Ref sig .tc := ⟨.hbm, 182, rfl⟩
abbrev main_cst_33 : Ref sig .tc := ⟨.hbm, 183, rfl⟩
abbrev main_v134 : Ref sig .tc := ⟨.hbm, 184, rfl⟩
abbrev main_v135 : Ref sig .tc := ⟨.hbm, 185, rfl⟩
abbrev main_cst_34 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_35 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_cst_36 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_cst_37 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_cst_38 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_cst_39 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_cst_40 : Ref sig .tc := ⟨.hbm, 232, rfl⟩
abbrev main_v176 : Ref sig .tc := ⟨.hbm, 233, rfl⟩
abbrev main_v177 : Ref sig .tc := ⟨.hbm, 234, rfl⟩

abbrev nD : Nat := 1
abbrev τ : Topo := Topo.v7x

variable {F : FTy → Type} [FloatOps F]
-- ==== MergeBwd.lean ====
abbrev S3x2048x512 : Shape := ⟨3, ![3, 2048, 512]⟩
abbrev S2048x7680 : Shape := ⟨2, ![2048, 7680]⟩
abbrev S3x512x1024 : Shape := ⟨3, ![3, 512, 1024]⟩
abbrev S2048x1024 : Shape := ⟨2, ![2048, 1024]⟩
abbrev S3x512x4x256 : Shape := ⟨4, ![3, 512, 4, 256]⟩
abbrev S4x3x512x256 : Shape := ⟨4, ![4, 3, 512, 256]⟩
abbrev S1x1024x512 : Shape := ⟨3, ![1, 1024, 512]⟩
abbrev S1x1x512x256 : Shape := ⟨4, ![1, 1, 512, 256]⟩
abbrev S1024x512 : Shape := ⟨2, ![1024, 512]⟩
abbrev S2x1x512x256 : Shape := ⟨4, ![2, 1, 512, 256]⟩
abbrev S1x2048x512 : Shape := ⟨3, ![1, 2048, 512]⟩
abbrev S512x256 : Shape := ⟨2, ![512, 256]⟩
abbrev S1024x256 : Shape := ⟨2, ![1024, 256]⟩
abbrev S512x512 : Shape := ⟨2, ![512, 512]⟩

abbrev nBuf : Space → Nat
  | .hbm => 10
  | .vmem => 16
  | .smem => 0
  | _ => 0

abbrev bufTy : (tb : Table) → Fin (tcTables nBuf tb) → BufTy
  | .hbm, ⟨0, _⟩ => ⟨S3x2048x512, .bf16⟩
  | .hbm, ⟨1, _⟩ => ⟨S2048x7680, .f32⟩
  | .hbm, ⟨2, _⟩ => ⟨S3x512x1024, .f32⟩
  | .hbm, ⟨3, _⟩ => ⟨S2048x1024, .bf16⟩
  | .hbm, ⟨4, _⟩ => ⟨S3x512x4x256, .f32⟩
  | .hbm, ⟨5, _⟩ => ⟨S4x3x512x256, .f32⟩
  | .hbm, ⟨6, _⟩ => ⟨S4x3x512x256, .bf16⟩
  | .hbm, ⟨7, _⟩ => ⟨S2048x7680, .bf16⟩
  | .hbm, ⟨8, _⟩ => ⟨S4x3x512x256, .f32⟩
  | .hbm, ⟨9, _⟩ => ⟨S3x2048x512, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1x1x512x256, .bf16⟩
  | .local _ .vmem, ⟨5, _⟩ => ⟨S1x1x512x256, .bf16⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S2x1x512x256, .f32⟩
  | .local _ .vmem, ⟨13, _⟩ => ⟨S2x1x512x256, .f32⟩
  | .local _ .vmem, ⟨14, _⟩ => ⟨S1x2048x512, .f32⟩
  | .local _ .vmem, ⟨15, _⟩ => ⟨S1x2048x512, .f32⟩
  | _, _ => ⟨S3x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![3, 2, 2], ![false, false, false]⟩

def k0_mult1 (i : grid0.Coords) : BitVec 32 :=
  let arg2 : BitVec 32 := BitVec.ofNat 32 (i 2).val
  let c1024_i32 : BitVec 32 := 1024#32
  let v28 : BitVec 32 := Scalar.muli arg2 c1024_i32
  v28
def k0_cond3 (i : grid0.Coords) : BitVec 1 :=
  let arg1 : BitVec 32 := BitVec.ofNat 32 (i 1).val
  let c0_i32_24 : BitVec 32 := 0#32
  let v36 : BitVec 1 := Scalar.cmpi .eq arg1 c0_i32_24
  let v37 : BitVec 32 := Scalar.extui v36
  let c0_i32_25 : BitVec 32 := 0#32
  let v38 : BitVec 1 := Scalar.cmpi .ne v37 c0_i32_25
  v38

def k0_off1 (i : grid0.Coords) : Fin 3 → Nat :=
  let c0_28 : Index := 0#32
  let arg2 : BitVec 32 := BitVec.ofNat 32 (i 2).val
  let c1024_i32 : BitVec 32 := 1024#32
  let v28 : BitVec 32 := Scalar.muli arg2 c1024_i32
  let v29 : BitVec 32 := v28
  let v42 : Index := Scalar.indexCast v29
  let c0_29 : Index := 0#32
  ![0, v42.toNat, 0]
def k0_cond4 (i : grid0.Coords) : BitVec 1 :=
  let arg1 : BitVec 32 := BitVec.ofNat 32 (i 1).val
  let c0_i32_26 : BitVec 32 := 0#32
  let v39 : BitVec 1 := Scalar.cmpi .sgt arg1 c0_i32_26
  let v40 : BitVec 32 := Scalar.extui v39
  let c0_i32_27 : BitVec 32 := 0#32
  let v41 : BitVec 1 := Scalar.cmpi .ne v40 c0_i32_27
  v41

def k0_off2 (i : grid0.Coords) : Fin 3 → Nat :=
  let c0_28 : Index := 0#32
  let arg2 : BitVec 32 := BitVec.ofNat 32 (i 2).val
  let c1024_i32 : BitVec 32 := 1024#32
  let v28 : BitVec 32 := Scalar.muli arg2 c1024_i32
  let v29 : BitVec 32 := v28
  let v42 : Index := Scalar.indexCast v29
  let c0_29 : Index := 0#32
  ![0, v42.toNat, 0]
def k0_cond1 (i : grid0.Coords) : BitVec 1 :=
  let arg2 : BitVec 32 := BitVec.ofNat 32 (i 2).val
  let c0_i32 : BitVec 32 := 0#32
  let v30 : BitVec 1 := Scalar.cmpi .eq arg2 c0_i32
  let v31 : BitVec 32 := Scalar.extui v30
  let c0_i32_21 : BitVec 32 := 0#32
  let v32 : BitVec 1 := Scalar.cmpi .ne v31 c0_i32_21
  v32

def k0_cond2 (i : grid0.Coords) : BitVec 1 :=
  let arg2 : BitVec 32 := BitVec.ofNat 32 (i 2).val
  let c0_i32_22 : BitVec 32 := 0#32
  let v33 : BitVec 1 := Scalar.cmpi .sgt arg2 c0_i32_22
  let v34 : BitVec 32 := Scalar.extui v33
  let c0_i32_23 : BitVec 32 := 0#32
  let v35 : BitVec 1 := Scalar.cmpi .ne v34 c0_i32_23
  v35

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c9_i32 : BitVec 32 := 9#32
  let v1 : BitVec 32 := Scalar.addi c9_i32 v0
  let v2 : BitVec 32 := Scalar.addi v1 arg1
  let c0_i32 : BitVec 32 := 0#32
  ![arg2.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c9_i32 : BitVec 32 := 9#32
  let v1 : BitVec 32 := Scalar.addi c9_i32 v0
  let v2 : BitVec 32 := Scalar.addi v1 arg1
  let c0_i32 : BitVec 32 := 0#32
  ![arg2.toNat, v2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2x1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== MergeBwdRefIdeal.lean ====
abbrev S3x2048x512 : Shape := ⟨3, ![3, 2048, 512]⟩
abbrev S2048x7680 : Shape := ⟨2, ![2048, 7680]⟩
abbrev S3x512x1024 : Shape := ⟨3, ![3, 512, 1024]⟩
abbrev S2048x1024 : Shape := ⟨2, ![2048, 1024]⟩
abbrev S2048x3072 : Shape := ⟨2, ![2048, 3072]⟩
abbrev S1x2048x3072 : Shape := ⟨3, ![1, 2048, 3072]⟩
abbrev S2048x3x512 : Shape := ⟨3, ![2048, 3, 512]⟩
abbrev S1x2048x3x512 : Shape := ⟨4, ![1, 2048, 3, 512]⟩
abbrev S3x1024x1x2048 : Shape := ⟨4, ![3, 1024, 1, 2048]⟩
abbrev S1x2048x3x1024 : Shape := ⟨4, ![1, 2048, 3, 1024]⟩
abbrev S_ : Shape := ⟨0, ![]⟩
abbrev S1x2048x1024 : Shape := ⟨3, ![1, 2048, 1024]⟩
abbrev S3x1x2048x512 : Shape := ⟨4, ![3, 1, 2048, 512]⟩
abbrev S3x1024x512 : Shape := ⟨3, ![3, 1024, 512]⟩
abbrev S2048x4608 : Shape := ⟨2, ![2048, 4608]⟩
abbrev S3x512x4x256 : Shape := ⟨4, ![3, 512, 4, 256]⟩
abbrev S4x3x512x256 : Shape := ⟨4, ![4, 3, 512, 256]⟩

abbrev nBuf : Space → Nat
  | .hbm => 49
  | .vmem => 0
  | .smem => 0
  | _ => 0

abbrev bufTy : (tb : Table) → Fin (tcTables nBuf tb) → BufTy
  | .hbm, ⟨0, _⟩ => ⟨S3x2048x512, .bf16⟩
  | .hbm, ⟨1, _⟩ => ⟨S2048x7680, .f32⟩
  | .hbm, ⟨2, _⟩ => ⟨S3x512x1024, .f32⟩
  | .hbm, ⟨3, _⟩ => ⟨S2048x1024, .bf16⟩
  | .hbm, ⟨4, _⟩ => ⟨S3x2048x512, .f32⟩
  | .hbm, ⟨5, _⟩ => ⟨S2048x3072, .f32⟩
  | .hbm, ⟨6, _⟩ => ⟨S1x2048x3072, .f32⟩
  | .hbm, ⟨7, _⟩ => ⟨S2048x3x512, .f32⟩
  | .hbm, ⟨8, _⟩ => ⟨S1x2048x3x512, .f32⟩
  | .hbm, ⟨9, _⟩ => ⟨S3x1024x1x2048, .f32⟩
  | .hbm, ⟨10, _⟩ => ⟨S1x2048x3x1024, .f32⟩
  | .hbm, ⟨11, _⟩ => ⟨S1x2048x3072, .f32⟩
  | .hbm, ⟨12, _⟩ => ⟨S1x2048x3072, .f32⟩
  | .hbm, ⟨13, _⟩ => ⟨S_, .f32⟩
  | .hbm, ⟨14, _⟩ => ⟨S1x2048x3072, .f32⟩
  | .hbm, ⟨15, _⟩ => ⟨S1x2048x3072, .f32⟩
  | .hbm, ⟨16, _⟩ => ⟨S_, .f32⟩
  | .hbm, ⟨17, _⟩ => ⟨S1x2048x3072, .f32⟩
  | .hbm, ⟨18, _⟩ => ⟨S1x2048x3072, .f32⟩
  | .hbm, ⟨19, _⟩ => ⟨S_, .f32⟩
  | .hbm, ⟨20, _⟩ => ⟨S1x2048x3072, .f32⟩
  | .hbm, ⟨21, _⟩ => ⟨S1x2048x3072, .f32⟩
  | .hbm, ⟨22, _⟩ => ⟨S1x2048x3072, .f32⟩
  | .hbm, ⟨23, _⟩ => ⟨S1x2048x3x1024, .f32⟩
  | .hbm, ⟨24, _⟩ => ⟨S1x2048x3x1024, .f32⟩
  | .hbm, ⟨25, _⟩ => ⟨S_, .f32⟩
  | .hbm, ⟨26, _⟩ => ⟨S1x2048x1024, .f32⟩
  | .hbm, ⟨27, _⟩ => ⟨S2048x1024, .f32⟩
  | .hbm, ⟨28, _⟩ => ⟨S1x2048x1024, .f32⟩
  | .hbm, ⟨29, _⟩ => ⟨S1x2048x3x1024, .f32⟩
  | .hbm, ⟨30, _⟩ => ⟨S1x2048x3x1024, .f32⟩
  | .hbm, ⟨31, _⟩ => ⟨S1x2048x3x1024, .f32⟩
  | .hbm, ⟨32, _⟩ => ⟨S1x2048x3072, .f32⟩
  | .hbm, ⟨33, _⟩ => ⟨S1x2048x3072, .f32⟩
  | .hbm, ⟨34, _⟩ => ⟨S3x1024x1x2048, .f32⟩
  | .hbm, ⟨35, _⟩ => ⟨S3x1x2048x512, .f32⟩
  | .hbm, ⟨36, _⟩ => ⟨S1x2048x3x512, .f32⟩
  | .hbm, ⟨37, _⟩ => ⟨S3x1024x512, .f32⟩
  | .hbm, ⟨38, _⟩ => ⟨S3x512x1024, .f32⟩
  | .hbm, ⟨39, _⟩ => ⟨S_, .f32⟩
  | .hbm, ⟨40, _⟩ => ⟨S2048x3x512, .f32⟩
  | .hbm, ⟨41, _⟩ => ⟨S3x2048x512, .f32⟩
  | .hbm, ⟨42, _⟩ => ⟨S_, .bf16⟩
  | .hbm, ⟨43, _⟩ => ⟨S2048x4608, .bf16⟩
  | .hbm, ⟨44, _⟩ => ⟨S2048x3072, .f32⟩
  | .hbm, ⟨45, _⟩ => ⟨S2048x3072, .bf16⟩
  | .hbm, ⟨46, _⟩ => ⟨S2048x7680, .bf16⟩
  | .hbm, ⟨47, _⟩ => ⟨S3x512x4x256, .f32⟩
  | .hbm, ⟨48, _⟩ => ⟨S4x3x512x256, .f32⟩
  | _, _ => ⟨S3x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== SgFwd.lean ====
abbrev S2048x7680 : Shape := ⟨2, ![2048, 7680]⟩
abbrev S512 : Shape := ⟨1, ![512]⟩
abbrev S4x128x128 : Shape := ⟨3, ![4, 128, 128]⟩
abbrev S4x128 : Shape := ⟨2, ![4, 128]⟩
abbrev S3x2048x512 : Shape := ⟨3, ![3, 2048, 512]⟩
abbrev S1x512 : Shape := ⟨2, ![1, 512]⟩
abbrev S4x128x1 : Shape := ⟨3, ![4, 128, 1]⟩
abbrev S512x512 : Shape := ⟨2, ![512, 512]⟩
abbrev S1x512x512 : Shape := ⟨3, ![1, 512, 512]⟩
abbrev S128x512 : Shape := ⟨2, ![128, 512]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S1x128x1 : Shape := ⟨3, ![1, 128, 1]⟩
abbrev S1x128x512 : Shape := ⟨3, ![1, 128, 512]⟩

abbrev nBuf : Space → Nat
  | .hbm => 10
  | .vmem => 10
  | .smem => 0
  | _ => 0

abbrev bufTy : (tb : Table) → Fin (tcTables nBuf tb) → BufTy
  | .hbm, ⟨0, _⟩ => ⟨S2048x7680, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S3x2048x512, .bf16⟩
  | .hbm, ⟨6, _⟩ => ⟨S1x512, .f32⟩
  | .hbm, ⟨7, _⟩ => ⟨S1x512, .f32⟩
  | .hbm, ⟨8, _⟩ => ⟨S4x128x1, .f32⟩
  | .hbm, ⟨9, _⟩ => ⟨S3x2048x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S4x128x1, .f32⟩
  | .local _ .vmem, ⟨8, _⟩ => ⟨S1x512x512, .bf16⟩
  | .local _ .vmem, ⟨9, _⟩ => ⟨S1x512x512, .bf16⟩
  | _, _ => ⟨S2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SgFwdIdeal.lean ====
variable {F : FTy → Type} [FloatOps F] [Named F]
def κ : String → Option EReal := fun
  | "gelu_a" => some ((8943 / 200000 : ℝ) : EReal)
  | _ => none
-- ==== SgFwdRefIdeal.lean ====
abbrev S2048x7680 : Shape := ⟨2, ![2048, 7680]⟩
abbrev S512 : Shape := ⟨1, ![512]⟩
abbrev S4x128x128 : Shape := ⟨3, ![4, 128, 128]⟩
abbrev S4x128 : Shape := ⟨2, ![4, 128]⟩
abbrev S3x2048x512 : Shape := ⟨3, ![3, 2048, 512]⟩
abbrev S2048x512 : Shape := ⟨2, ![2048, 512]⟩
abbrev S1x2048x512 : Shape := ⟨3, ![1, 2048, 512]⟩
abbrev S_ : Shape := ⟨0, ![]⟩
abbrev S1x2048 : Shape := ⟨2, ![1, 2048]⟩
abbrev S1x2048x1 : Shape := ⟨3, ![1, 2048, 1]⟩
abbrev S1x1x512 : Shape := ⟨3, ![1, 1, 512]⟩
abbrev S1x16x128x4x128 : Shape := ⟨5, ![1, 16, 128, 4, 128]⟩
abbrev S128x128 : Shape := ⟨2, ![128, 128]⟩
abbrev S1x128x128 : Shape := ⟨3, ![1, 128, 128]⟩
abbrev S4x1x16x128x128 : Shape := ⟨5, ![4, 1, 16, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S2x2048x512 : Shape := ⟨3, ![2, 2048, 512]⟩

abbrev nBuf : Space → Nat
  | .hbm => 102
  | .vmem => 0
  | .smem => 0
  | _ => 0

abbrev bufTy : (tb : Table) → Fin (tcTables nBuf tb) → BufTy
  | .hbm, ⟨0, _⟩ => ⟨S2048x7680, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S3x2048x512, .bf16⟩
  | .hbm, ⟨6, _⟩ => ⟨S2048x512, .f32⟩
  | .hbm, ⟨7, _⟩ => ⟨S1x2048x512, .f32⟩
  | .hbm, ⟨8, _⟩ => ⟨S2048x512, .f32⟩
  | .hbm, ⟨9, _⟩ => ⟨S1x2048x512, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x2048x512, .f32⟩
  | .hbm, ⟨14, _⟩ => ⟨S1x2048x512, .f32⟩
  | .hbm, ⟨15, _⟩ => ⟨S1x2048x512, .f32⟩
  | .hbm, ⟨16, _⟩ => ⟨S1x2048x512, .f32⟩
  | .hbm, ⟨17, _⟩ => ⟨S1x2048x512, .f32⟩
  | .hbm, ⟨18, _⟩ => ⟨S_, .f32⟩
  | .hbm, ⟨19, _⟩ => ⟨S1x2048x512, .f32⟩
  | .hbm, ⟨20, _⟩ => ⟨S1x2048x512, .f32⟩
  | .hbm, ⟨21, _⟩ => ⟨S1x2048x512, .f32⟩
  | .hbm, ⟨22, _⟩ => ⟨S_, .f32⟩
  | .hbm, ⟨23, _⟩ => ⟨S1x2048x512, .f32⟩
  | .hbm, ⟨24, _⟩ => ⟨S1x2048x512, .f32⟩
  | .hbm, ⟨25, _⟩ => ⟨S_, .f32⟩
  | .hbm, ⟨26, _⟩ => ⟨S1x2048x512, .f32⟩
  | .hbm, ⟨27, _⟩ => ⟨S1x2048x512, .f32⟩
  | .hbm, ⟨28, _⟩ => ⟨S1x2048x512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x2048x512, .f32⟩
  | .hbm, ⟨33, _⟩ => ⟨S1x2048x512, .f32⟩
  | .hbm, ⟨34, _⟩ => ⟨S1x2048x512, .f32⟩
  | .hbm, ⟨35, _⟩ => ⟨S1x2048x512, .f32⟩
  | .hbm, ⟨36, _⟩ => ⟨S1x2048x512, .f32⟩
  | .hbm, ⟨37, _⟩ => ⟨S_, .f32⟩
  | .hbm, ⟨38, _⟩ => ⟨S1x2048x512, .f32⟩
  | .hbm, ⟨39, _⟩ => ⟨S1x2048x512, .f32⟩
  | .hbm, ⟨40, _⟩ => ⟨S1x2048x512, .f32⟩
  | .hbm, ⟨41, _⟩ => ⟨S_, .f32⟩
  | .hbm, ⟨42, _⟩ => ⟨S1x2048x512, .f32⟩
  | .hbm, ⟨43, _⟩ => ⟨S1x2048x512, .f32⟩
  | .hbm, ⟨44, _⟩ => ⟨S_, .f32⟩
  | .hbm, ⟨45, _⟩ => ⟨S1x2048x512, .f32⟩
  | .hbm, ⟨46, _⟩ => ⟨S1x2048x512, .f32⟩
  | .hbm, ⟨47, _⟩ => ⟨S1x2048x512, .f32⟩
  | .hbm, ⟨48, _⟩ => ⟨S_, .f32⟩
  | .hbm, ⟨49, _⟩ => ⟨S1x2048, .f32⟩
  | .hbm, ⟨50, _⟩ => ⟨S1x2048x1, .f32⟩
  | .hbm, ⟨51, _⟩ => ⟨S_, .f32⟩
  | .hbm, ⟨52, _⟩ => ⟨S1x2048x1, .f32⟩
  | .hbm, ⟨53, _⟩ => ⟨S1x2048x1, .f32⟩
  | .hbm, ⟨54, _⟩ => ⟨S1x2048x512, .f32⟩
  | .hbm, ⟨55, _⟩ => ⟨S1x2048x512, .f32⟩
  | .hbm, ⟨56, _⟩ => ⟨S1x2048x512, .f32⟩
  | .hbm, ⟨57, _⟩ => ⟨S_, .f32⟩
  | .hbm, ⟨58, _⟩ => ⟨S1x2048, .f32⟩
  | .hbm, ⟨59, _⟩ => ⟨S1x2048x1, .f32⟩
  | .hbm, ⟨60, _⟩ => ⟨S_, .f32⟩
  | .hbm, ⟨61, _⟩ => ⟨S1x2048x1, .f32⟩
  | .hbm, ⟨62, _⟩ => ⟨S1x2048x1, .f32⟩
  | .hbm, ⟨63, _⟩ => ⟨S_, .f32⟩
  | .hbm, ⟨64, _⟩ => ⟨S1x2048x1, .f32⟩
  | .hbm, ⟨65, _⟩ => ⟨S1x2048x1, .f32⟩
  | .hbm, ⟨66, _⟩ => ⟨S1x2048x1, .f32⟩
  | .hbm, ⟨67, _⟩ => ⟨S1x2048x512, .f32⟩
  | .hbm, ⟨68, _⟩ => ⟨S1x2048x512, .f32⟩
  | .hbm, ⟨69, _⟩ => ⟨S1x1x512, .f32⟩
  | .hbm, ⟨70, _⟩ => ⟨S1x2048x512, .f32⟩
  | .hbm, ⟨71, _⟩ => ⟨S1x2048x512, .f32⟩
  | .hbm, ⟨72, _⟩ => ⟨S1x1x512, .f32⟩
  | .hbm, ⟨73, _⟩ => ⟨S1x2048x512, .f32⟩
  | .hbm, ⟨74, _⟩ => ⟨S1x2048x512, .f32⟩
  | .hbm, ⟨75, _⟩ => ⟨S1x16x128x4x128, .f32⟩
  | .hbm, ⟨76, _⟩ => ⟨S_, .f32⟩
  | .hbm, ⟨77, _⟩ => ⟨S128x128, .f32⟩
  | .hbm, ⟨78, _⟩ => ⟨S128x128, .i32⟩
  | .hbm, ⟨79, _⟩ => ⟨S_, .i32⟩
  | .hbm, ⟨80, _⟩ => ⟨S128x128, .i32⟩
  | .hbm, ⟨81, _⟩ => ⟨S128x128, .i32⟩
  | .hbm, ⟨82, _⟩ => ⟨S128x128, .i32⟩
  | .hbm, ⟨83, _⟩ => ⟨S128x128, .i1⟩
  | .hbm, ⟨84, _⟩ => ⟨S_, .f32⟩
  | .hbm, ⟨85, _⟩ => ⟨S128x128, .f32⟩
  | .hbm, ⟨86, _⟩ => ⟨S128x128, .f32⟩
  | .hbm, ⟨87, _⟩ => ⟨S1x128x128, .f32⟩
  | .hbm, ⟨88, _⟩ => ⟨S4x128x128, .f32⟩
  | .hbm, ⟨89, _⟩ => ⟨S4x128x128, .f32⟩
  | .hbm, ⟨90, _⟩ => ⟨S4x1x16x128x128, .f32⟩
  | .hbm, ⟨91, _⟩ => ⟨S1x16x128x4x128, .f32⟩
  | .hbm, ⟨92, _⟩ => ⟨S128x4, .f32⟩
  | .hbm, ⟨93, _⟩ => ⟨S128x4x1, .f32⟩
  | .hbm, ⟨94, _⟩ => ⟨S1x1x128x4x1, .f32⟩
  | .hbm, ⟨95, _⟩ => ⟨S1x16x128x4x128, .f32⟩
  | .hbm, ⟨96, _⟩ => ⟨S1x16x128x4x128, .f32⟩
  | .hbm, ⟨97, _⟩ => ⟨S1x2048x512, .f32⟩
  | .hbm, ⟨98, _⟩ => ⟨S1x2048x512, .f32⟩
  | .hbm, ⟨99, _⟩ => ⟨S2x2048x512, .bf16⟩
  | .hbm, ⟨100, _⟩ => ⟨S1x2048x512, .bf16⟩
  | .hbm, ⟨101, _⟩ => ⟨S3x2048x512, .bf16⟩
  | _, _ => ⟨S2048x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_14 : Ref sig .tc := ⟨.hbm, 76, rfl⟩
abbrev main_v55 : Ref sig .tc := ⟨.hbm, 77, rfl⟩
abbrev main_call0_v0 : Ref sig .tc := ⟨.hbm, 78, rfl⟩
abbrev main_call0_c : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_cst : Ref sig .tc := ⟨.hbm, 84, rfl⟩
abbrev main_call0_v5 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩

abbrev nD : Nat := 1
abbrev τ : Topo := Topo.v7x

variable {F : FTy → Type} [FloatOps F]
-- ==== ConvFwd.lean ====
abbrev S2048x7680 : Shape := ⟨2, ![2048, 7680]⟩
abbrev S3x512 : Shape := ⟨2, ![3, 512]⟩
abbrev S3x2048x512 : Shape := ⟨3, ![3, 2048, 512]⟩
abbrev S1024x512 : Shape := ⟨2, ![1024, 512]⟩
abbrev S8x512 : Shape := ⟨2, ![8, 512]⟩
abbrev S1x1024x512 : Shape := ⟨3, ![1, 1024, 512]⟩
abbrev S1x512 : Shape := ⟨2, ![1, 512]⟩
abbrev S1016x512 : Shape := ⟨2, ![1016, 512]⟩

abbrev nBuf : Space → Nat
  | .hbm => 4
  | .vmem => 13
  | .smem => 0
  | _ => 0

abbrev bufTy : (tb : Table) → Fin (tcTables nBuf tb) → BufTy
  | .hbm, ⟨0, _⟩ => ⟨S2048x7680, .f32⟩
  | .hbm, ⟨1, _⟩ => ⟨S3x512, .f32⟩
  | .hbm, ⟨2, _⟩ => ⟨S3x2048x512, .bf16⟩
  | .hbm, ⟨3, _⟩ => ⟨S3x2048x512, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S3x512, .f32⟩
  | .local _ .vmem, ⟨11, _⟩ => ⟨S1x1024x512, .bf16⟩
  | .local _ .vmem, ⟨12, _⟩ => ⟨S1x1024x512, .bf16⟩
  | _, _ => ⟨S2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_4 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFwdRefIdeal.lean ====
abbrev S2048x7680 : Shape := ⟨2, ![2048, 7680]⟩
abbrev S3x512 : Shape := ⟨2, ![3, 512]⟩
abbrev S3x2048x512 : Shape := ⟨3, ![3, 2048, 512]⟩
abbrev S1x2048x512 : Shape := ⟨3, ![1, 2048, 512]⟩
abbrev S2048x512 : Shape := ⟨2, ![2048, 512]⟩
abbrev S_ : Shape := ⟨0, ![]⟩
abbrev S1x2x512 : Shape := ⟨3, ![1, 2, 512]⟩
abbrev S1x2050x512 : Shape := ⟨3, ![1, 2050, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 38
  | .vmem => 0
  | .smem => 0
  | _ => 0

abbrev bufTy : (tb : Table) → Fin (tcTables nBuf tb) → BufTy
  | .hbm, ⟨0, _⟩ => ⟨S2048x7680, .f32⟩
  | .hbm, ⟨1, _⟩ => ⟨S3x512, .f32⟩
  | .hbm, ⟨2, _⟩ => ⟨S3x2048x512, .bf16⟩
  | .hbm, ⟨3, _⟩ => ⟨S1x2048x512, .bf16⟩
  | .hbm, ⟨4, _⟩ => ⟨S2048x512, .f32⟩
  | .hbm, ⟨5, _⟩ => ⟨S1x2048x512, .f32⟩
  | .hbm, ⟨6, _⟩ => ⟨S2048x512, .f32⟩
  | .hbm, ⟨7, _⟩ => ⟨S1x2048x512, .f32⟩
  | .hbm, ⟨8, _⟩ => ⟨S2048x512, .f32⟩
  | .hbm, ⟨9, _⟩ => ⟨S1x2048x512, .f32⟩
  | .hbm, ⟨10, _⟩ => ⟨S1x2048x512, .f32⟩
  | .hbm, ⟨11, _⟩ => ⟨S_, .f32⟩
  | .hbm, ⟨12, _⟩ => ⟨S1x2x512, .f32⟩
  | .hbm, ⟨13, _⟩ => ⟨S1x2050x512, .f32⟩
  | .hbm, ⟨14, _⟩ => ⟨S1x2048x512, .f32⟩
  | .hbm, ⟨15, _⟩ => ⟨S1x512, .f32⟩
  | .hbm, ⟨16, _⟩ => ⟨S512, .f32⟩
  | .hbm, ⟨17, _⟩ => ⟨S1x1x512, .f32⟩
  | .hbm, ⟨18, _⟩ => ⟨S1x2048x512, .f32⟩
  | .hbm, ⟨19, _⟩ => ⟨S1x2048x512, .f32⟩
  | .hbm, ⟨20, _⟩ => ⟨S1x2048x512, .f32⟩
  | .hbm, ⟨21, _⟩ => ⟨S1x512, .f32⟩
  | .hbm, ⟨22, _⟩ => ⟨S512, .f32⟩
  | .hbm, ⟨23, _⟩ => ⟨S1x1x512, .f32⟩
  | .hbm, ⟨24, _⟩ => ⟨S1x2048x512, .f32⟩
  | .hbm, ⟨25, _⟩ => ⟨S1x2048x512, .f32⟩
  | .hbm, ⟨26, _⟩ => ⟨S1x2048x512, .f32⟩
  | .hbm, ⟨27, _⟩ => ⟨S1x2048x512, .f32⟩
  | .hbm, ⟨28, _⟩ => ⟨S1x512, .f32⟩
  | .hbm, ⟨29, _⟩ => ⟨S512, .f32⟩
  | .hbm, ⟨30, _⟩ => ⟨S1x1x512, .f32⟩
  | .hbm, ⟨31, _⟩ => ⟨S1x2048x512, .f32⟩
  | .hbm, ⟨32, _⟩ => ⟨S1x2048x512, .f32⟩
  | .hbm, ⟨33, _⟩ => ⟨S1x2048x512, .f32⟩
  | .hbm, ⟨34, _⟩ => ⟨S1x2048x512, .f32⟩
  | .hbm, ⟨35, _⟩ => ⟨S1x2048x512, .bf16⟩
  | .hbm, ⟨36, _⟩ => ⟨S1x2048x512, .bf16⟩
  | .hbm, ⟨37, _⟩ => ⟨S3x2048x512, .bf16⟩
  | _, _ => ⟨S2048x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== MergeFwd.lean ====
abbrev S3x2048x512 : Shape := ⟨3, ![3, 2048, 512]⟩
abbrev S2048x7680 : Shape := ⟨2, ![2048, 7680]⟩
abbrev S3x512x1024 : Shape := ⟨3, ![3, 512, 1024]⟩
abbrev S3x512x4x256 : Shape := ⟨4, ![3, 512, 4, 256]⟩
abbrev S4x3x512x256 : Shape := ⟨4, ![4, 3, 512, 256]⟩
abbrev S2048x1024 : Shape := ⟨2, ![2048, 1024]⟩
abbrev S1x1024x512 : Shape := ⟨3, ![1, 1024, 512]⟩
abbrev S1x1x512x256 : Shape := ⟨4, ![1, 1, 512, 256]⟩
abbrev S1024x512 : Shape := ⟨2, ![1024, 512]⟩
abbrev S512x256 : Shape := ⟨2, ![512, 256]⟩
abbrev S1024x256 : Shape := ⟨2, ![1024, 256]⟩

abbrev nBuf : Space → Nat
  | .hbm => 7
  | .vmem => 11
  | .smem => 0
  | _ => 0

abbrev bufTy : (tb : Table) → Fin (tcTables nBuf tb) → BufTy
  | .hbm, ⟨0, _⟩ => ⟨S3x2048x512, .bf16⟩
  | .hbm, ⟨1, _⟩ => ⟨S2048x7680, .f32⟩
  | .hbm, ⟨2, _⟩ => ⟨S3x512x1024, .f32⟩
  | .hbm, ⟨3, _⟩ => ⟨S3x512x4x256, .f32⟩
  | .hbm, ⟨4, _⟩ => ⟨S4x3x512x256, .f32⟩
  | .hbm, ⟨5, _⟩ => ⟨S4x3x512x256, .bf16⟩
  | .hbm, ⟨6, _⟩ => ⟨S2048x1024, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1x1x512x256, .bf16⟩
  | .local _ .vmem, ⟨5, _⟩ => ⟨S1x1x512x256, .bf16⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | _, _ => ⟨S3x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v18 : BitVec 1 := Scalar.cmpi .eq arg2 c2_i32
  let v19 : BitVec 32 := Scalar.extui v18
  let c0_i32_16 : BitVec 32 := 0#32
  let v20 : BitVec 1 := Scalar.cmpi .ne v19 c0_i32_16
  v20

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, arg2.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, arg2.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c9_i32 : BitVec 32 := 9#32
  let v1 : BitVec 32 := Scalar.addi c9_i32 v0
  let v2 : BitVec 32 := Scalar.addi v1 arg1
  let c0_i32 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MergeFwdRefIdeal.lean ====
abbrev S3x2048x512 : Shape := ⟨3, ![3, 2048, 512]⟩
abbrev S2048x7680 : Shape := ⟨2, ![2048, 7680]⟩
abbrev S3x512x1024 : Shape := ⟨3, ![3, 512, 1024]⟩
abbrev S2048x3072 : Shape := ⟨2, ![2048, 3072]⟩
abbrev S1x2048x3072 : Shape := ⟨3, ![1, 2048, 3072]⟩
abbrev S2048x3x512 : Shape := ⟨3, ![2048, 3, 512]⟩
abbrev S1x2048x3x512 : Shape := ⟨4, ![1, 2048, 3, 512]⟩
abbrev S3x1024x1x2048 : Shape := ⟨4, ![3, 1024, 1, 2048]⟩
abbrev S1x2048x3x1024 : Shape := ⟨4, ![1, 2048, 3, 1024]⟩
abbrev S_ : Shape := ⟨0, ![]⟩
abbrev S1x2048x1024 : Shape := ⟨3, ![1, 2048, 1024]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S3x2048x512, .bf16⟩
  | .hbm, ⟨1, _⟩ => ⟨S2048x7680, .f32⟩
  | .hbm, ⟨2, _⟩ => ⟨S3x512x1024, .f32⟩
  | .hbm, ⟨3, _⟩ => ⟨S3x2048x512, .f32⟩
  | .hbm, ⟨4, _⟩ => ⟨S2048x3072, .f32⟩
  | .hbm, ⟨5, _⟩ => ⟨S1x2048x3072, .f32⟩
  | .hbm, ⟨6, _⟩ => ⟨S2048x3x512, .f32⟩
  | .hbm, ⟨7, _⟩ => ⟨S1x2048x3x512, .f32⟩
  | .hbm, ⟨8, _⟩ => ⟨S3x1024x1x2048, .f32⟩
  | .hbm, ⟨9, _⟩ => ⟨S1x2048x3x1024, .f32⟩
  | .hbm, ⟨10, _⟩ => ⟨S1x2048x3072, .f32⟩
  | .hbm, ⟨11, _⟩ => ⟨S1x2048x3072, .f32⟩
  | .hbm, ⟨12, _⟩ => ⟨S_, .f32⟩
  | .hbm, ⟨13, _⟩ => ⟨S1x2048x3072, .f32⟩
  | .hbm, ⟨14, _⟩ => ⟨S1x2048x3072, .f32⟩
  | .hbm, ⟨15, _⟩ => ⟨S_, .f32⟩
  | .hbm, ⟨16, _⟩ => ⟨S1x2048x3072, .f32⟩
  | .hbm, ⟨17, _⟩ => ⟨S1x2048x3072, .f32⟩
  | .hbm, ⟨18, _⟩ => ⟨S1x2048x3x1024, .f32⟩
  | .hbm, ⟨19, _⟩ => ⟨S1x2048x3x1024, .f32⟩
  | .hbm, ⟨20, _⟩ => ⟨S_, .f32⟩
  | .hbm, ⟨21, _⟩ => ⟨S1x2048x1024, .f32⟩
  | .hbm, ⟨22, _⟩ => ⟨S2048x1024, .f32⟩
  | .hbm, ⟨23, _⟩ => ⟨S2048x1024, .bf16⟩
  | _, _ => ⟨S3x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== RmsFwd.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== LbsFwd.lean ====
abbrev S4x512 : Shape := ⟨2, ![4, 512]⟩
abbrev S1x512 : Shape := ⟨2, ![1, 512]⟩

abbrev nBuf : Space → Nat
  | .hbm => 2
  | .vmem => 2
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .local _ .vmem, ⟨0, _⟩ => ⟨S4x512, .f32⟩
  | .local _ .vmem, ⟨1, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LbsFwdRefIdeal.lean ====
abbrev S4x512 : Shape := ⟨2, ![4, 512]⟩
abbrev S_ : Shape := ⟨0, ![]⟩
abbrev S512 : Shape := ⟨1, ![512]⟩
abbrev S1x512 : Shape := ⟨2, ![1, 512]⟩

abbrev nBuf : Space → Nat
  | .hbm => 23
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S4x512, .f32⟩
  | .hbm, ⟨8, _⟩ => ⟨S4x512, .f32⟩
  | .hbm, ⟨9, _⟩ => ⟨S4x512, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S_, .f32⟩
  | .hbm, ⟨17, _⟩ => ⟨S4x512, .f32⟩
  | .hbm, ⟨18, _⟩ => ⟨S1x512, .f32⟩
  | .hbm, ⟨19, _⟩ => ⟨S512, .f32⟩
  | .hbm, ⟨20, _⟩ => ⟨S1x512, .f32⟩
  | .hbm, ⟨21, _⟩ => ⟨S4x512, .f32⟩
  | .hbm, ⟨22, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Ff1.lean ====
abbrev S2048x1024 : Shape := ⟨2, ![2048, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S2048x4096 : Shape := ⟨2, ![2048, 4096]⟩
abbrev S1024x1024 : Shape := ⟨2, ![1024, 1024]⟩
abbrev S1x1024x1024 : Shape := ⟨3, ![1, 1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .f32⟩
  | .hbm, ⟨2, _⟩ => ⟨S1024x4x1024, .f32⟩
  | .hbm, ⟨3, _⟩ => ⟨S4x1024x1024, .f32⟩
  | .hbm, ⟨4, _⟩ => ⟨S4x1024x1024, .bf16⟩
  | .hbm, ⟨5, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1RefIdeal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .f32⟩
  | .hbm, ⟨2, _⟩ => ⟨S2048x1024, .f32⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OutProj.lean ====
abbrev S2048x1024 : Shape := ⟨2, ![2048, 1024]⟩
abbrev S1024x1024 : Shape := ⟨2, ![1024, 1024]⟩
abbrev S1x1024 : Shape := ⟨2, ![1, 1024]⟩
abbrev S4x256x1024 : Shape := ⟨3, ![4, 256, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S4x256x1024, .f32⟩
  | .hbm, ⟨5, _⟩ => ⟨S4x256x1024, .bf16⟩
  | .hbm, ⟨6, _⟩ => ⟨S1024x1024, .bf16⟩
  | .hbm, ⟨7, _⟩ => ⟨S2048x1024, .f32⟩
  | .hbm, ⟨8, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== OutProjRefIdeal.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== SumDevices.lean ====
abbrev S8x2256x128 : Shape := ⟨3, ![8, 2256, 128]⟩
abbrev S2256x128 : Shape := ⟨2, ![2256, 128]⟩
abbrev S1x2256x128 : Shape := ⟨3, ![1, 2256, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2256x128, .f32⟩
  | .hbm, ⟨1, _⟩ => ⟨S2256x128, .f32⟩
  | .local _ .vmem, ⟨0, _⟩ => ⟨S8x2256x128, .f32⟩
  | .local _ .vmem, ⟨1, _⟩ => ⟨S2256x128, .f32⟩
  | _, _ => ⟨S8x2256x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x2256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumDevicesRefIdeal.lean ====
abbrev S8x2256x128 : Shape := ⟨3, ![8, 2256, 128]⟩
abbrev S_ : Shape := ⟨0, ![]⟩
abbrev S2256x128 : Shape := ⟨2, ![2256, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2256x128, .f32⟩
  | .hbm, ⟨1, _⟩ => ⟨S_, .f32⟩
  | .hbm, ⟨2, _⟩ => ⟨S2256x128, .f32⟩
  | _, _ => ⟨S8x2256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamwFlat.lean ====
abbrev S2216x128 : Shape := ⟨2, ![2216, 128]⟩

abbrev nBuf : Space → Nat
  | .hbm => 7
  | .vmem => 7
  | .smem => 0
  | _ => 0

abbrev bufTy : (tb : Table) → Fin (tcTables nBuf tb) → BufTy
  | .hbm, ⟨0, _⟩ => ⟨S2216x128, .f32⟩
  | .hbm, ⟨1, _⟩ => ⟨S2216x128, .f32⟩
  | .hbm, ⟨2, _⟩ => ⟨S2216x128, .f32⟩
  | .hbm, ⟨3, _⟩ => ⟨S2216x128, .f32⟩
  | .hbm, ⟨4, _⟩ => ⟨S2216x128, .f32⟩
  | .hbm, ⟨5, _⟩ => ⟨S2216x128, .f32⟩
  | .hbm, ⟨6, _⟩ => ⟨S2216x128, .f32⟩
  | .local _ .vmem, ⟨0, _⟩ => ⟨S2216x128, .f32⟩
  | .local _ .vmem, ⟨1, _⟩ => ⟨S2216x128, .f32⟩
  | .local _ .vmem, ⟨2, _⟩ => ⟨S2216x128, .f32⟩
  | .local _ .vmem, ⟨3, _⟩ => ⟨S2216x128, .f32⟩
  | .local _ .vmem, ⟨4, _⟩ => ⟨S2216x128, .f32⟩
  | .local _ .vmem, ⟨5, _⟩ => ⟨S2216x128, .f32⟩
  | .local _ .vmem, ⟨6, _⟩ => ⟨S2216x128, .f32⟩
  | _, _ => ⟨S2216x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2216x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2216x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2216x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2216x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2216x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2216x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2216x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamwFlatRefIdeal.lean ====
abbrev S2216x128 : Shape := ⟨2, ![2216, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2216x128, .f32⟩
  | .hbm, ⟨1, _⟩ => ⟨S2216x128, .f32⟩
  | .hbm, ⟨2, _⟩ => ⟨S2216x128, .f32⟩
  | .hbm, ⟨3, _⟩ => ⟨S2216x128, .f32⟩
  | .hbm, ⟨4, _⟩ => ⟨S_, .f32⟩
  | .hbm, ⟨5, _⟩ => ⟨S2216x128, .f32⟩
  | .hbm, ⟨6, _⟩ => ⟨S2216x128, .f32⟩
  | .hbm, ⟨7, _⟩ => ⟨S_, .f32⟩
  | .hbm, ⟨8, _⟩ => ⟨S2216x128, .f32⟩
  | .hbm, ⟨9, _⟩ => ⟨S2216x128, .f32⟩
  | .hbm, ⟨10, _⟩ => ⟨S2216x128, .f32⟩
  | .hbm, ⟨11, _⟩ => ⟨S_, .f32⟩
  | .hbm, ⟨12, _⟩ => ⟨S2216x128, .f32⟩
  | .hbm, ⟨13, _⟩ => ⟨S2216x128, .f32⟩
  | .hbm, ⟨14, _⟩ => ⟨S2216x128, .f32⟩
  | .hbm, ⟨15, _⟩ => ⟨S_, .f32⟩
  | .hbm, ⟨16, _⟩ => ⟨S2216x128, .f32⟩
  | .hbm, ⟨17, _⟩ => ⟨S2216x128, .f32⟩
  | .hbm, ⟨18, _⟩ => ⟨S2216x128, .f32⟩
  | .hbm, ⟨19, _⟩ => ⟨S_, .f32⟩
  | .hbm, ⟨20, _⟩ => ⟨S2216x128, .f32⟩
  | .hbm, ⟨21, _⟩ => ⟨S2216x128, .f32⟩
  | .hbm, ⟨22, _⟩ => ⟨S_, .f32⟩
  | .hbm, ⟨23, _⟩ => ⟨S2216x128, .f32⟩
  | .hbm, ⟨24, _⟩ => ⟨S2216x128, .f32⟩
  | .hbm, ⟨25, _⟩ => ⟨S2216x128, .f32⟩
  | .hbm, ⟨26, _⟩ => ⟨S_, .f32⟩
  | .hbm, ⟨27, _⟩ => ⟨S2216x128, .f32⟩
  | .hbm, ⟨28, _⟩ => ⟨S2216x128, .f32⟩
  | .hbm, ⟨29, _⟩ => ⟨S2216x128, .f32⟩
  | .hbm, ⟨30, _⟩ => ⟨S_, .f32⟩
  | .hbm, ⟨31, _⟩ => ⟨S2216x128, .f32⟩
  | .hbm, ⟨32, _⟩ => ⟨S2216x128, .f32⟩
  | .hbm, ⟨33, _⟩ => ⟨S2216x128, .f32⟩
  | .hbm, ⟨34, _⟩ => ⟨S_, .f32⟩
  | .hbm, ⟨35, _⟩ => ⟨S2216x128, .f32⟩
  | .hbm, ⟨36, _⟩ => ⟨S2216x128, .f32⟩
  | _, _ => ⟨S2216x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwLayers.lean ====
abbrev S4x1024x1024 : Shape := ⟨3, ![4, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamwLayersRefIdeal.lean ====
abbrev S4x1024x1024 : Shape := ⟨3, ![4, 1024, 1024]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S4x1024x1024, .f32⟩
  | .hbm, ⟨12, _⟩ => ⟨S_, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S4x1024x1024, .f32⟩
  | .hbm, ⟨23, _⟩ => ⟨S_, .f32⟩
  | .hbm, ⟨24, _⟩ => ⟨S4x1024x1024, .f32⟩
  | .hbm, ⟨25, _⟩ => ⟨S4x1024x1024, .f32⟩
  | .hbm, ⟨26, _⟩ => ⟨S4x1024x1024, .f32⟩
  | .hbm, ⟨27, _⟩ => ⟨S_, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | .hbm, ⟨37, _⟩ => ⟨S4x1024x1024, .f32⟩
  | .hbm, ⟨38, _⟩ => ⟨S_, .f32⟩
  | .hbm, ⟨39, _⟩ => ⟨S4x1024x1024, .f32⟩
  | .hbm, ⟨40, _⟩ => ⟨S4x1024x1024, .f32⟩
  | .hbm, ⟨41, _⟩ => ⟨S4x1024x1024, .f32⟩
  | .hbm, ⟨42, _⟩ => ⟨S_, .f32⟩
  | .hbm, ⟨43, _⟩ => ⟨S4x1024x1024, .f32⟩
  | .hbm, ⟨44, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== InWgrad.lean ====
abbrev S2048x1024 : Shape := ⟨2, ![2048, 1024]⟩
abbrev S2048x7680 : Shape := ⟨2, ![2048, 7680]⟩
abbrev S4x1024x1920 : Shape := ⟨3, ![4, 1024, 1920]⟩
abbrev S2048x1920 : Shape := ⟨2, ![2048, 1920]⟩
abbrev S1x1024x1920 : Shape := ⟨3, ![1, 1024, 1920]⟩
abbrev S1024x1920 : Shape := ⟨2, ![1024, 1920]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x7680, .bf16⟩
  | .hbm, ⟨2, _⟩ => ⟨S4x1024x1920, .f32⟩
  | .local _ .vmem, ⟨0, _⟩ => ⟨S2048x1024, .bf16⟩
  | .local _ .vmem, ⟨1, _⟩ => ⟨S2048x1920, .bf16⟩
  | .local _ .vmem, ⟨2, _⟩ => ⟨S2048x1920, .bf16⟩
  | .local _ .vmem, ⟨3, _⟩ => ⟨S1x1024x1920, .f32⟩
  | .local _ .vmem, ⟨4, _⟩ => ⟨S1x1024x1920, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== InWgradRefIdeal.lean ====
abbrev S2048x1024 : Shape := ⟨2, ![2048, 1024]⟩
abbrev S2048x7680 : Shape := ⟨2, ![2048, 7680]⟩
abbrev S_ : Shape := ⟨0, ![]⟩
abbrev S1024x7680 : Shape := ⟨2, ![1024, 7680]⟩
abbrev S7680x1024 : Shape := ⟨2, ![7680, 1024]⟩
abbrev S1024x4x1920 : Shape := ⟨3, ![1024, 4, 1920]⟩
abbrev S4x1024x1920 : Shape := ⟨3, ![4, 1024, 1920]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x7680, .bf16⟩
  | .hbm, ⟨2, _⟩ => ⟨S_, .f32⟩
  | .hbm, ⟨3, _⟩ => ⟨S1024x7680, .f32⟩
  | .hbm, ⟨4, _⟩ => ⟨S2048x1024, .f32⟩
  | .hbm, ⟨5, _⟩ => ⟨S2048x7680, .f32⟩
  | .hbm, ⟨6, _⟩ => ⟨S2048x7680, .f32⟩
  | .hbm, ⟨7, _⟩ => ⟨S7680x1024, .f32⟩
  | .hbm, ⟨8, _⟩ => ⟨S1024x7680, .f32⟩
  | .hbm, ⟨9, _⟩ => ⟨S1024x4x1920, .f32⟩
  | .hbm, ⟨10, _⟩ => ⟨S4x1024x1920, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutDgrad.lean ====
abbrev S2048x1024 : Shape := ⟨2, ![2048, 1024]⟩
abbrev S1024x1024 : Shape := ⟨2, ![1024, 1024]⟩
abbrev S4x256x1024 : Shape := ⟨3, ![4, 256, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S4x256x1024, .f32⟩
  | .hbm, ⟨3, _⟩ => ⟨S4x256x1024, .bf16⟩
  | .hbm, ⟨4, _⟩ => ⟨S1024x1024, .bf16⟩
  | .hbm, ⟨5, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== OutDgradRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InProj.lean ====
abbrev S2048x1024 : Shape := ⟨2, ![2048, 1024]⟩
abbrev S1024x7680 : Shape := ⟨2, ![1024, 7680]⟩
abbrev S1024x4x1920 : Shape := ⟨3, ![1024, 4, 1920]⟩
abbrev S4x1024x1920 : Shape := ⟨3, ![4, 1024, 1920]⟩
abbrev S2048x7680 : Shape := ⟨2, ![2048, 7680]⟩
abbrev S1024x1024 : Shape := ⟨2, ![1024, 1024]⟩
abbrev S1x1024x1920 : Shape := ⟨3, ![1, 1024, 1920]⟩
abbrev S1024x1920 : Shape := ⟨2, ![1024, 1920]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x7680, .f32⟩
  | .hbm, ⟨2, _⟩ => ⟨S1024x4x1920, .f32⟩
  | .hbm, ⟨3, _⟩ => ⟨S4x1024x1920, .f32⟩
  | .hbm, ⟨4, _⟩ => ⟨S4x1024x1920, .bf16⟩
  | .hbm, ⟨5, _⟩ => ⟨S2048x7680, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1920, .bf16⟩
  | .local _ .vmem, ⟨3, _⟩ => ⟨S1x1024x1920, .bf16⟩
  | .local _ .vmem, ⟨4, _⟩ => ⟨S1024x1920, .f32⟩
  | .local _ .vmem, ⟨5, _⟩ => ⟨S1024x1920, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S2048x1024 : Shape := ⟨2, ![2048, 1024]⟩
abbrev S1024x7680 : Shape := ⟨2, ![1024, 7680]⟩
abbrev S2048x7680 : Shape := ⟨2, ![2048, 7680]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x7680, .f32⟩
  | .hbm, ⟨2, _⟩ => ⟨S2048x1024, .f32⟩
  | .hbm, ⟨3, _⟩ => ⟨S2048x7680, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Ff2Fwd.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S4x1024x1024 : Shape := ⟨3, ![4, 1024, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .f32⟩
  | .hbm, ⟨2, _⟩ => ⟨S2048x1024, .f32⟩
  | .hbm, ⟨3, _⟩ => ⟨S1x1024, .f32⟩
  | .hbm, ⟨4, _⟩ => ⟨S4x1024x1024, .f32⟩
  | .hbm, ⟨5, _⟩ => ⟨S4x1024x1024, .bf16⟩
  | .hbm, ⟨6, _⟩ => ⟨S4096x1024, .bf16⟩
  | .hbm, ⟨7, _⟩ => ⟨S2048x1024, .f32⟩
  | .hbm, ⟨8, _⟩ => ⟨S2048x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Ff2FwdRefIdeal.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .f32⟩
  | .hbm, ⟨2, _⟩ => ⟨S2048x1024, .f32⟩
  | .hbm, ⟨3, _⟩ => ⟨S1x1024, .f32⟩
  | .hbm, ⟨4, _⟩ => ⟨S2048x4096, .f32⟩
  | .hbm, ⟨5, _⟩ => ⟨S2048x1024, .f32⟩
  | .hbm, ⟨6, _⟩ => ⟨S2048x1024, .f32⟩
  | .hbm, ⟨7, _⟩ => ⟨S1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== HgrnFwd.lean ====
abbrev S2048x7680 : Shape := ⟨2, ![2048, 7680]⟩
abbrev S1x512 : Shape := ⟨2, ![1, 512]⟩
abbrev S512x64 : Shape := ⟨2, ![512, 64]⟩
abbrev S6x64x64 : Shape := ⟨3, ![6, 64, 64]⟩
abbrev S2048x512 : Shape := ⟨2, ![2048, 512]⟩
abbrev S3x2048x512 : Shape := ⟨3, ![3, 2048, 512]⟩
abbrev S32x4x128x128 : Shape := ⟨4, ![32, 4, 128, 128]⟩
abbrev S256x2048 : Shape := ⟨2, ![256, 2048]⟩
abbrev S256x512 : Shape := ⟨2, ![256, 512]⟩
abbrev S1x256x512 : Shape := ⟨3, ![1, 256, 512]⟩
abbrev S4x4x128x128 : Shape := ⟨4, ![4, 4, 128, 128]⟩
abbrev S4x128x128 : Shape := ⟨3, ![4, 128, 128]⟩
abbrev S64x128 : Shape := ⟨2, ![64, 128]⟩
abbrev S1x128 : Shape := ⟨2, ![1, 128]⟩
abbrev S64x384 : Shape := ⟨2, ![64, 384]⟩
abbrev S512x384 : Shape := ⟨2, ![512, 384]⟩
abbrev S512x128 : Shape := ⟨2, ![512, 128]⟩
abbrev S64x64 : Shape := ⟨2, ![64, 64]⟩
abbrev S64 : Shape := ⟨1, ![64]⟩
abbrev S64x1 : Shape := ⟨2, ![64, 1]⟩
abbrev S1x64x64 : Shape := ⟨3, ![1, 64, 64]⟩
abbrev S1x128x128 : Shape := ⟨3, ![1, 128, 128]⟩
abbrev S128x128 : Shape := ⟨2, ![128, 128]⟩
abbrev S1x1x128x128 : Shape := ⟨4, ![1, 1, 128, 128]⟩
abbrev S128 : Shape := ⟨1, ![128]⟩
abbrev S1x64x128 : Shape := ⟨3, ![1, 64, 128]⟩

abbrev nBuf : Space → Nat
  | .hbm => 8
  | .vmem => 13
  | .smem => 0
  | _ => 0

abbrev bufTy : (tb : Table) → Fin (tcTables nBuf tb) → BufTy
  | .hbm, ⟨0, _⟩ => ⟨S2048x7680, .f32⟩
  | .hbm, ⟨1, _⟩ => ⟨S1x512, .f32⟩
  | .hbm, ⟨2, _⟩ => ⟨S1x512, .f32⟩
  | .hbm, ⟨3, _⟩ => ⟨S512x64, .bf16⟩
  | .hbm, ⟨4, _⟩ => ⟨S6x64x64, .f32⟩
  | .hbm, ⟨5, _⟩ => ⟨S2048x512, .f32⟩
  | .hbm, ⟨6, _⟩ => ⟨S3x2048x512, .bf16⟩
  | .hbm, ⟨7, _⟩ => ⟨S32x4x128x128, .f32⟩
  | .local _ .vmem, ⟨0, _⟩ => ⟨S256x2048, .f32⟩
  | .local _ .vmem, ⟨1, _⟩ => ⟨S256x2048, .f32⟩
  | .local _ .vmem, ⟨2, _⟩ => ⟨S1x512, .f32⟩
  | .local _ .vmem, ⟨3, _⟩ => ⟨S1x512, .f32⟩
  | .local _ .vmem, ⟨4, _⟩ => ⟨S512x64, .bf16⟩
  | .local _ .vmem, ⟨5, _⟩ => ⟨S6x64x64, .f32⟩
  | .local _ .vmem, ⟨6, _⟩ => ⟨S256x512, .f32⟩
  | .local _ .vmem, ⟨7, _⟩ => ⟨S256x512, .f32⟩
  | .local _ .vmem, ⟨8, _⟩ => ⟨S1x256x512, .bf16⟩
  | .local _ .vmem, ⟨9, _⟩ => ⟨S1x256x512, .bf16⟩
  | .local _ .vmem, ⟨10, _⟩ => ⟨S4x4x128x128, .f32⟩
  | .local _ .vmem, ⟨11, _⟩ => ⟨S4x4x128x128, .f32⟩
  | .local _ .vmem, ⟨12, _⟩ => ⟨S4x128x128, .f32⟩
  | _, _ => ⟨S2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== HgrnBwd.lean ====
abbrev S2048x7680 : Shape := ⟨2, ![2048, 7680]⟩
abbrev S2048x512 : Shape := ⟨2, ![2048, 512]⟩
abbrev S3x2048x512 : Shape := ⟨3, ![3, 2048, 512]⟩
abbrev S32x4x128x128 : Shape := ⟨4, ![32, 4, 128, 128]⟩
abbrev S1x512 : Shape := ⟨2, ![1, 512]⟩
abbrev S512x64 : Shape := ⟨2, ![512, 64]⟩
abbrev S6x64x64 : Shape := ⟨3, ![6, 64, 64]⟩
abbrev S8x512 : Shape := ⟨2, ![8, 512]⟩
abbrev S256x2048 : Shape := ⟨2, ![256, 2048]⟩
abbrev S256x512 : Shape := ⟨2, ![256, 512]⟩
abbrev S1x256x512 : Shape := ⟨3, ![1, 256, 512]⟩
abbrev S4x4x128x128 : Shape := ⟨4, ![4, 4, 128, 128]⟩
abbrev S4x128x128 : Shape := ⟨3, ![4, 128, 128]⟩
abbrev S64x128 : Shape := ⟨2, ![64, 128]⟩
abbrev S1x128 : Shape := ⟨2, ![1, 128]⟩
abbrev S64x384 : Shape := ⟨2, ![64, 384]⟩
abbrev S512x384 : Shape := ⟨2, ![512, 384]⟩
abbrev S512x128 : Shape := ⟨2, ![512, 128]⟩
abbrev S64x64 : Shape := ⟨2, ![64, 64]⟩
abbrev S64 : Shape := ⟨1, ![64]⟩
abbrev S64x1 : Shape := ⟨2, ![64, 1]⟩
abbrev S1x64x64 : Shape := ⟨3, ![1, 64, 64]⟩
abbrev S1x1x128x128 : Shape := ⟨4, ![1, 1, 128, 128]⟩
abbrev S128x128 : Shape := ⟨2, ![128, 128]⟩
abbrev S1x128x128 : Shape := ⟨3, ![1, 128, 128]⟩
abbrev S128 : Shape := ⟨1, ![128]⟩
abbrev S1x64x128 : Shape := ⟨3, ![1, 64, 128]⟩
abbrev S8x128 : Shape := ⟨2, ![8, 128]⟩

abbrev nBuf : Space → Nat
  | .hbm => 12
  | .vmem => 17
  | .smem => 0
  | _ => 0

abbrev bufTy : (tb : Table) → Fin (tcTables nBuf tb) → BufTy
  | .hbm, ⟨0, _⟩ => ⟨S2048x7680, .f32⟩
  | .hbm, ⟨1, _⟩ => ⟨S2048x512, .f32⟩
  | .hbm, ⟨2, _⟩ => ⟨S3x2048x512, .f32⟩
  | .hbm, ⟨3, _⟩ => ⟨S32x4x128x128, .f32⟩
  | .hbm, ⟨4, _⟩ => ⟨S1x512, .f32⟩
  | .hbm, ⟨5, _⟩ => ⟨S1x512, .f32⟩
  | .hbm, ⟨6, _⟩ => ⟨S2048x7680, .bf16⟩
  | .hbm, ⟨7, _⟩ => ⟨S512x64, .bf16⟩
  | .hbm, ⟨8, _⟩ => ⟨S6x64x64, .f32⟩
  | .hbm, ⟨9, _⟩ => ⟨S2048x7680, .bf16⟩
  | .hbm, ⟨10, _⟩ => ⟨S8x512, .f32⟩
  | .hbm, ⟨11, _⟩ => ⟨S8x512, .f32⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S1x256x512, .f32⟩
  | .local _ .vmem, ⟨5, _⟩ => ⟨S1x256x512, .f32⟩
  | .local _ .vmem, ⟨6, _⟩ => ⟨S4x4x128x128, .f32⟩
  | .local _ .vmem, ⟨7, _⟩ => ⟨S4x4x128x128, .f32⟩
  | .local _ .vmem, ⟨8, _⟩ => ⟨S1x512, .f32⟩
  | .local _ .vmem, ⟨9, _⟩ => ⟨S1x512, .f32⟩
  | .local _ .vmem, ⟨10, _⟩ => ⟨S512x64, .bf16⟩
  | .local _ .vmem, ⟨11, _⟩ => ⟨S6x64x64, .f32⟩
  | .local _ .vmem, ⟨12, _⟩ => ⟨S256x2048, .bf16⟩
  | .local _ .vmem, ⟨13, _⟩ => ⟨S256x2048, .bf16⟩
  | .local _ .vmem, ⟨14, _⟩ => ⟨S8x512, .f32⟩
  | .local _ .vmem, ⟨15, _⟩ => ⟨S8x512, .f32⟩
  | .local _ .vmem, ⟨16, _⟩ => ⟨S4x128x128, .f32⟩
  | _, _ => ⟨S2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Proof.Reals.lean ====
/-
  EXTENDED REALS THAT ARE REAL. A gradient's algebra (distributing a product over a sum, cancelling a factor) holds of real
  numbers and not of the infinities, so the value claims of the gradients assume that their arguments are finite. This
  module turns that assumption into real numbers: an extended real whose absolute value compares less than infinity is
  the image of a real (`real_of_lt_top`, `reals_of_finite`), and every scalar operation of the idealized programs on
  images of reals is the image of the real operation (`coe_*`).
-/
module

public import Idealize.ShloMosaic.PureOps.Ideal
public import Idealize.ShloMosaic.Lib.Pointwise

@[expose] public section

namespace Cert.Reals

open Idealize.ShloMosaic

/-! ## From the precondition to reals -/

/-- The word of the precondition's bound is `⊤`. -/
theorem ofBits_inf : Ideal.ofBits .f32 0x7F800000#32 = ⊤ := by
  simp [Ideal.ofBits, Ideal.ieee]

/-- The word that starts a maximum is `⊥`. -/
theorem ofBits_neg_inf : Ideal.ofBits .f32 0xFF800000#32 = ⊥ := by
  simp [Ideal.ofBits, Ideal.ieee]

/-- An extended real whose absolute value is below infinity is a real. -/
theorem real_of_lt_top {x : EReal} (h : max x (-x) < ⊤) : ∃ r : ℝ, x = (r : EReal) := by
  induction x with
  | bot => simp at h
  | top => simp at h
  | coe r => exact ⟨r, rfl⟩

/-- The precondition of one argument, `abs(x) < inf` at every index: the array is one of reals. -/
theorem reals_of_finite {s z : Shape} (a : FVec Ideal s .f32) (d : Fin z.rank → Fin s.rank) (hb : z.BroadcastsInDim s d)
    (h : cmpf .olt (Host.absf a) (broadcastInDim s d hb (constant z .f32 0x7F800000#32)) = fun _ => 1#1) :
    ∃ f : s.Idx → ℝ, a = fun i => ((f i : ℝ) : EReal) := by
  have h1 : ∀ i, ∃ r : ℝ, a i = (r : EReal) := by
    intro i
    have hi := congrFun h i
    have hc : Ideal.cmp .olt (max (a i) (-(a i))) (Ideal.ofBits .f32 0x7F800000#32) = 1#1 := hi
    rw [ofBits_inf] at hc
    exact real_of_lt_top ((Ideal.cmp_olt_eq_one _ _).1 hc)
  choose f hf using h1
  exact ⟨f, funext hf⟩

/-! ## Scalar operations on reals -/

/-- The idealized quotient of two reals whose divisor is not zero is the real quotient. -/
theorem div_coe_coe (x y : ℝ) (h : y ≠ 0) : Ideal.div (x : EReal) (y : EReal) = ((x / y : ℝ) : EReal) := by
  rw [Ideal.div_coe h, ← EReal.coe_mul, mul_one_div]

/-- The idealized reciprocal square root of a positive real. -/
theorem rsqrt_coe_pos (x : ℝ) (h : 0 < x) : Ideal.rsqrt (x : EReal) = (((Real.sqrt x)⁻¹ : ℝ) : EReal) := by
  rw [Ideal.rsqrt_coe, if_neg (not_lt.2 h.le), if_neg h.ne']

/-- The larger of two reals. -/
theorem max_coe (x y : ℝ) : max (x : EReal) (y : EReal) = ((max x y : ℝ) : EReal) := (EReal.coe_strictMono.monotone.map_max).symm

/-- A finite sum of reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## Host sums over an axis and an axis of extent one -/

/-- The indices that a sum over the first two axes sends to `j`. -/
theorem fiber_a01 {n0 n1 n2 : ℕ} (h : (⟨3, ![n0, n1, n2]⟩ : Shape).ReducesTo [0, 1] ⟨1, ![n2]⟩) (l : Fin n2) (i : (⟨3, ![n0, n1, n2]⟩ : Shape).Idx) :
    h.drop i = ix1 l ↔ ∃ k : Fin n0 × Fin n1, ix3 k.1 k.2 l = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- A host sum over the first two axes. -/
theorem hostReduceAdd_a01 {n0 n1 n2 : ℕ} (h : (⟨3, ![n0, n1, n2]⟩ : Shape).ReducesTo [0, 1] ⟨1, ![n2]⟩) (v : (⟨3, ![n0, n1, n2]⟩ : Shape).Idx → EReal) (b : EReal) (l : Fin n2) :
    Ideal.hostReduceAdd h v b (ix1 l) = b + ∑ i : Fin n0, ∑ k : Fin n1, v (ix3 i k l) := by
  refine congrArg (b + ·) ((Finset.sum_filter_eq_sum_of_fiber _ (fun k : Fin n0 × Fin n1 => (ix3 k.1 k.2 l : (⟨3, ![n0, n1, n2]⟩ : Shape).Idx))
    (fun _ _ e => Prod.ext (congrFun e 0) (congrFun e 1)) (fiber_a01 h l) v).trans ?_)
  simp only [Fintype.sum_prod_type]

/-- The indices that a sum over the first and last of three axes sends to `j`. -/
theorem fiber_a02 {n0 n1 n2 : ℕ} (h : (⟨3, ![n0, n1, n2]⟩ : Shape).ReducesTo [0, 2] ⟨1, ![n1]⟩) (r : Fin n1) (i : (⟨3, ![n0, n1, n2]⟩ : Shape).Idx) :
    h.drop i = ix1 r ↔ ∃ k : Fin n0 × Fin n2, ix3 k.1 r k.2 = i := by
  constructor
  · intro e
    refine ⟨(i 0, i 2), ?_⟩
    funext a; apply Fin.ext
    match a with
    | ⟨0, _⟩ => rfl
    | ⟨1, _⟩ => exact (congrArg Fin.val (congrFun e 0)).symm
    | ⟨2, _⟩ => rfl
  · rintro ⟨k, rfl⟩
    funext b
    apply Fin.ext
    match b with
    | ⟨0, _⟩ => rfl

/-- A host sum over the first and last of three axes. -/
theorem hostReduceAdd_a02 {n0 n1 n2 : ℕ} (h : (⟨3, ![n0, n1, n2]⟩ : Shape).ReducesTo [0, 2] ⟨1, ![n1]⟩) (v : (⟨3, ![n0, n1, n2]⟩ : Shape).Idx → EReal) (b : EReal) (r : Fin n1) :
    Ideal.hostReduceAdd h v b (ix1 r) = b + ∑ i : Fin n0, ∑ k : Fin n2, v (ix3 i r k) := by
  refine congrArg (b + ·) ((Finset.sum_filter_eq_sum_of_fiber _ (fun k : Fin n0 × Fin n2 => (ix3 k.1 r k.2 : (⟨3, ![n0, n1, n2]⟩ : Shape).Idx))
    (fun _ _ e => Prod.ext (congrFun e 0) (congrFun e 2)) (fiber_a02 h r) v).trans ?_)
  simp only [Fintype.sum_prod_type]

end Cert.Reals

end
-- ==== Proof.LbsBwdReference.lean ====
/-
  WHAT THE REFERENCE OF `lbs_bwd` COMPUTES: the derivative of `cumsum(softmax(lower_bounds)) - softmax(lower_bounds)[:1]`
  along the four layers, read off the printed program stage by stage as real numbers: the exponentials `e`, their sum `s`
  over the layers, the cotangent `d` of the softmax, and the result.
-/
module

public import proofs.«01_k».proof.Proof.Gen.LbsBwdRefIdeal.Read
public import proofs.«01_k».proof.Proof.Reals
public import Idealize.ShloMosaic.Lib.Pointwise

@[expose] public section

set_option maxRecDepth 16384

noncomputable section

namespace Cert.LbsBwdReference

open Cert.LbsBwdRefIdeal Cert.LbsBwdRefIdeal.Read Idealize.ShloMosaic Cert.Reals

/-! ## The real quantities -/

/-- The largest of the four layers' entries in column `l`. -/
def mx (f : S4x512.Idx → ℝ) (l : Fin 512) : ℝ := max (max (max (f (ix2 0 l)) (f (ix2 1 l))) (f (ix2 2 l))) (f (ix2 3 l))

/-- The softmax's numerator. -/
def e (f : S4x512.Idx → ℝ) (r : Fin 4) (l : Fin 512) : ℝ := Real.exp (f (ix2 r l) - mx f l)

/-- The softmax's denominator. -/
def s (f : S4x512.Idx → ℝ) (l : Fin 512) : ℝ := ∑ k : Fin 4, e f k l

/-- The denominator is positive. -/
theorem s_pos (f : S4x512.Idx → ℝ) (l : Fin 512) : 0 < s f l :=
  Finset.sum_pos (fun k _ => Real.exp_pos _) ⟨0, Finset.mem_univ _⟩

/-- The cotangent of the softmax: the sums of the cotangent `g` from row `r` on, less, at row 0, the whole sum. -/
def d (g : S4x512.Idx → ℝ) (r : Fin 4) (l : Fin 512) : ℝ :=
  (if r.val < 1 then ∑ k : Fin 4, -g (ix2 k l) else 0) + ∑ k : Fin 4, if r ≤ k then g (ix2 k l) else 0

/-- The gradient with respect to the lower bounds. -/
def out (f g : S4x512.Idx → ℝ) (r : Fin 4) (l : Fin 512) : ℝ :=
  (d g r l / s f l + -∑ k : Fin 4, d g k l * (1 / (s f l * s f l)) * e f k l) * e f r l

/-! ## The printed program, stage by stage -/

/-- A left fold of sums over the positions of a shape, in row-major order, is the sum over its indices. -/
theorem foldl_rowMajor (W : Shape) (F : W.Idx → EReal) (v : EReal) :
    (List.finRange W.numel).foldl (fun r n => r + F (W.rowMajor.symm n)) v = v + ∑ i : W.Idx, F i := by
  have h : ∀ (L : List (Fin W.numel)) (v : EReal),
      L.foldl (fun r n => r + F (W.rowMajor.symm n)) v = v + (L.map fun n => F (W.rowMajor.symm n)).sum := by
    intro L
    induction L with
    | nil => intro v; simp
    | cons a L ih => intro v; simp only [List.foldl_cons, List.map_cons, List.sum_cons]; rw [ih, add_assoc]
  rw [h, ← List.ofFn_eq_map, List.sum_ofFn, Equiv.sum_comp W.rowMajor.symm F]

/-- The maximum over the layers. -/
theorem v0_apply (f : S4x512.Idx → ℝ) (l : Fin 512) :
    val_main_v0 (F := Ideal) (fun i => ((f i : ℝ) : EReal)) (ix1 l) = ((mx f l : ℝ) : EReal) := by
  pointwise [val_main_v0, val_main_cst]
  rw [ofBits_neg_inf]
  simp only [mx, ← max_coe]
  simp [Fin.univ_succ, Finset.fold_insert_idem, max_assoc]

/-- The exponentials. -/
theorem v20_apply (f : S4x512.Idx → ℝ) (r : Fin 4) (l : Fin 512) :
    val_main_v20 (F := Ideal) (fun i => ((f i : ℝ) : EReal)) (ix2 r l) = ((e f r l : ℝ) : EReal) := by
  pointwise [val_main_v20, val_main_v19, val_main_v18, val_main_v17, val_main_v7, val_main_v6, val_main_cst_1]
  rw [v0_apply, ofBits_neg_inf, max_eq_right bot_le, ← EReal.coe_sub, Ideal.exp_coe, e]

/-- Their sum over the layers. -/
theorem v21_apply (f : S4x512.Idx → ℝ) (l : Fin 512) :
    val_main_v21 (F := Ideal) (fun i => ((f i : ℝ) : EReal)) (ix1 l) = ((s f l : ℝ) : EReal) := by
  pointwise [val_main_v21, val_main_cst_7]
  simp only [v20_apply, sum_coe, s]

/-- The transposed cumulative sum: at row `r` the cotangents from row `r` on. -/
theorem v41_apply (g : S4x512.Idx → ℝ) (r : Fin 4) (l : Fin 512) :
    val_main_v41 (F := Ideal) (fun i => ((g i : ℝ) : EReal)) (ix2 r l)
      = ((∑ k : Fin 4, if r ≤ k then g (ix2 k l) else 0 : ℝ) : EReal) := by
  have h34 : val_main_v34 (F := Ideal) (fun i => ((g i : ℝ) : EReal)) = fun i => ((g i : ℝ) : EReal) := by
    funext i
    pointwise [val_main_v34]
  have h0 : ∀ i, val_main_call1_call0_v0 (F := Ideal) i = 0 := by
    intro i
    pointwise [val_main_call1_call0_v0, val_main_call1_call0_cst]
  unfold val_main_v41 Host.reduceWindowAdd
  simp only [Ideal.hostReduceWindowAdd_def, Ideal.hostReduceWindowAdd, Host.reduceWindow, h34, h0]
  refine (foldl_rowMajor ⟨2, ![4, 1]⟩ (fun i => if h : ∀ a : Fin 2, ![0, 0] a ≤ (ix2 r l a).val * ![1, 1] a + (i a).val
      ∧ (ix2 r l a).val * ![1, 1] a + (i a).val - ![0, 0] a < ![4, 512] a then ((g (fun a => ⟨(ix2 r l a).val * ![1, 1] a + (i a).val - ![0, 0] a, (h a).2⟩) : ℝ) : EReal) else 0) 0).trans ?_
  rw [sum_idx2, zero_add]
  fin_cases r <;> simp [Fin.sum_univ_four, Fin.forall_fin_two] <;>
    (repeat' first | refine congrArg₂ (· + ·) ?_ ?_ | refine congrArg Real.toEReal ?_ | refine congrArg g ?_) <;>
    (funext a; fin_cases a <;> first | rfl | exact Fin.ext (by simp))
/-- The cotangent of the row that is subtracted from all rows, in its place at row 0. -/
theorem v40_apply (g : S4x512.Idx → ℝ) (r : Fin 4) (l : Fin 512) :
    val_main_v40 (F := Ideal) (fun i => ((g i : ℝ) : EReal)) (ix2 r l)
      = ((if r.val < 1 then ∑ k : Fin 4, -g (ix2 k l) else 0 : ℝ) : EReal) := by
  pointwise [val_main_v40, val_main_v39, val_main_v38, val_main_v37, val_main_v36, val_main_v35, val_main_cst_9, val_main_cst_10,
    val_main_cst_11]
  simp only [← EReal.coe_neg, sum_coe]
  split <;> simp

/-- The cotangent of the softmax. -/
theorem v42_apply (g : S4x512.Idx → ℝ) (r : Fin 4) (l : Fin 512) :
    val_main_v42 (F := Ideal) (fun i => ((g i : ℝ) : EReal)) (ix2 r l) = ((d g r l : ℝ) : EReal) := by
  pointwise [val_main_v42]
  rw [v40_apply, v41_apply, ← EReal.coe_add, d]

/-- THE REFERENCE'S RESULT at layer `r`, column `l`. -/
theorem v54_apply (f g : S4x512.Idx → ℝ) (r : Fin 4) (l : Fin 512) :
    val_main_v54 (F := Ideal) (fun i => ((f i : ℝ) : EReal)) (fun i => ((g i : ℝ) : EReal)) (ix2 r l)
      = ((out f g r l : ℝ) : EReal) := by
  have hs := (s_pos f l).ne'
  pointwise [val_main_v54, val_main_v53, val_main_v52, val_main_v51, val_main_v50, val_main_v49, val_main_v48, val_main_v47,
    val_main_v46, val_main_v45, val_main_v44, val_main_v43, val_main_v27, val_main_v26, val_main_v25, val_main_v22, val_main_cst_8,
    val_main_cst_12, val_main_cst_13]
  simp only [v42_apply, v21_apply, v20_apply, ← EReal.coe_one, ← EReal.coe_mul, div_coe_coe _ _ hs, div_coe_coe _ _ (mul_ne_zero hs hs),
    sum_coe, ← EReal.coe_neg, ← EReal.coe_add, out]
  simp

end Cert.LbsBwdReference

end
-- ==== Proof.LbsBwdValue.lean ====
/-
  THE VALUE OF `lbs_bwd`: what the kernel's body leaves at each index, as a real number, and that it is the reference's result.
  The body holds the four layers' softmax `e / s` and the cotangent of the softmax by hand (row 0 gets zero, row `r` the sum
  of the cotangents from `r` on), and stores at each row the softmax times the cotangent less their inner product.
-/
module

public import proofs.«01_k».proof.Proof.Gen.LbsBwdIdeal.Value
public import proofs.«01_k».proof.Proof.LbsBwdReference
public import Idealize.ShloMosaic.Lib.Pipeline.ValueKit

@[expose] public section

set_option maxRecDepth 16384

noncomputable section

namespace Cert.LbsBwdValue

open Cert.LbsBwdIdeal Cert.LbsBwdIdeal.Gen Idealize.ShloMosaic Cert.Reals Cert.LbsBwdReference

/-- An array of reals, as the idealized program holds it. -/
abbrev emb (f : S4x512.Idx → ℝ) : Vec Ideal S4x512 .f32 := fun i => ((f i : ℝ) : EReal)

/-- The exponentials of the four rows and their sum, as the body computes them. -/
theorem exps_apply (f : S4x512.Idx → ℝ) (x : S1x512.Idx) :
    k0_pay6 (F := Ideal) (View.ld (emb f) r0_0) (View.ld (emb f) r0_1) (View.ld (emb f) r0_2) (View.ld (emb f) r0_3) x = ((e f 0 (x 1) : ℝ) : EReal)
    ∧ k0_pay7 (F := Ideal) (View.ld (emb f) r0_0) (View.ld (emb f) r0_1) (View.ld (emb f) r0_2) (View.ld (emb f) r0_3) x = ((e f 1 (x 1) : ℝ) : EReal)
    ∧ k0_pay8 (F := Ideal) (View.ld (emb f) r0_0) (View.ld (emb f) r0_1) (View.ld (emb f) r0_2) (View.ld (emb f) r0_3) x = ((e f 2 (x 1) : ℝ) : EReal)
    ∧ k0_pay9 (F := Ideal) (View.ld (emb f) r0_0) (View.ld (emb f) r0_1) (View.ld (emb f) r0_2) (View.ld (emb f) r0_3) x = ((e f 3 (x 1) : ℝ) : EReal)
    ∧ k0_pay10 (F := Ideal) (View.ld (emb f) r0_0) (View.ld (emb f) r0_1) (View.ld (emb f) r0_2) (View.ld (emb f) r0_3) x = ((s f (x 1) : ℝ) : EReal) := by
  pointwise [k0_pay10, k0_pay9, k0_pay8, k0_pay7, k0_pay6, k0_pay5, r0_0, r0_1, r0_2, r0_3]
  simp only [max_coe, ← EReal.coe_sub, Ideal.exp_coe, ← EReal.coe_add, s, e, mx, Fin.sum_univ_four]
  simp only [and_self]

/-- The four softmax rows the body holds. -/
theorem softmax_apply (f : S4x512.Idx → ℝ) (x : S1x512.Idx) :
    k0_pay11 (F := Ideal) (View.ld (emb f) r0_0) (View.ld (emb f) r0_1) (View.ld (emb f) r0_2) (View.ld (emb f) r0_3) x = ((e f 0 (x 1) / s f (x 1) : ℝ) : EReal)
    ∧ k0_pay12 (F := Ideal) (View.ld (emb f) r0_0) (View.ld (emb f) r0_1) (View.ld (emb f) r0_2) (View.ld (emb f) r0_3) x = ((e f 1 (x 1) / s f (x 1) : ℝ) : EReal)
    ∧ k0_pay13 (F := Ideal) (View.ld (emb f) r0_0) (View.ld (emb f) r0_1) (View.ld (emb f) r0_2) (View.ld (emb f) r0_3) x = ((e f 2 (x 1) / s f (x 1) : ℝ) : EReal)
    ∧ k0_pay14 (F := Ideal) (View.ld (emb f) r0_0) (View.ld (emb f) r0_1) (View.ld (emb f) r0_2) (View.ld (emb f) r0_3) x = ((e f 3 (x 1) / s f (x 1) : ℝ) : EReal) := by
  obtain ⟨h0, h1, h2, h3, h4⟩ := exps_apply f x
  have hs := (s_pos f (x 1)).ne'
  refine ⟨?_, ?_, ?_, ?_⟩
  · unfold k0_pay11; rw [divf_apply, h0, h4, Ideal.divf_def, div_coe_coe _ _ hs]
  · unfold k0_pay12; rw [divf_apply, h1, h4, Ideal.divf_def, div_coe_coe _ _ hs]
  · unfold k0_pay13; rw [divf_apply, h2, h4, Ideal.divf_def, div_coe_coe _ _ hs]
  · unfold k0_pay14; rw [divf_apply, h3, h4, Ideal.divf_def, div_coe_coe _ _ hs]

/-- The kernel's cotangent of the softmax: zero at row 0, the sum of the cotangents from row `r` on below it. -/
def kd (g : S4x512.Idx → ℝ) (r : Fin 4) (l : Fin 512) : ℝ := if r = 0 then 0 else ∑ k : Fin 4, if r ≤ k then g (ix2 k l) else 0

/-- It is the reference's. -/
theorem kd_eq (g : S4x512.Idx → ℝ) (r : Fin 4) (l : Fin 512) : kd g r l = d g r l := by
  fin_cases r <;> simp [kd, d, Fin.sum_univ_four]
  ring

/-- The kernel's inner product of the softmax with its cotangent. -/
def inner (f g : S4x512.Idx → ℝ) (l : Fin 512) : ℝ := ∑ k : Fin 4, kd g k l * (e f k l / s f l)

/-- A load of one row, at an index. -/
theorem rows_apply (g : S4x512.Idx → ℝ) (x : S1x512.Idx) :
    View.ld (emb g) r0_1 x = ((g (ix2 1 (x 1)) : ℝ) : EReal) ∧ View.ld (emb g) r0_2 x = ((g (ix2 2 (x 1)) : ℝ) : EReal)
    ∧ View.ld (emb g) r0_3 x = ((g (ix2 3 (x 1)) : ℝ) : EReal) := by
  pointwise [r0_1, r0_2, r0_3]

/-- The cotangents of the softmax the body holds. -/
theorem cotangent_apply (g : S4x512.Idx → ℝ) (x : S1x512.Idx) :
    k0_pay15 (F := Ideal) x = ((kd g 0 (x 1) : ℝ) : EReal)
    ∧ k0_pay16 (F := Ideal) (View.ld (emb g) r0_1) (View.ld (emb g) r0_2) (View.ld (emb g) r0_3) x = ((kd g 1 (x 1) : ℝ) : EReal)
    ∧ k0_pay17 (F := Ideal) (View.ld (emb g) r0_2) (View.ld (emb g) r0_3) x = ((kd g 2 (x 1) : ℝ) : EReal)
    ∧ View.ld (emb g) r0_3 x = ((kd g 3 (x 1) : ℝ) : EReal) := by
  obtain ⟨h1, h2, h3⟩ := rows_apply g x
  refine ⟨?_, ?_, ?_, ?_⟩
  · pointwise [k0_pay15]; simp [kd]
  · unfold k0_pay16; simp only [addf_apply, h1, h2, h3, Ideal.addf_def, ← EReal.coe_add]; simp [kd, Fin.sum_univ_four]
  · unfold k0_pay17; simp only [addf_apply, h2, h3, Ideal.addf_def, ← EReal.coe_add]; simp [kd, Fin.sum_univ_four]
  · rw [h3]; simp [kd, Fin.sum_univ_four]

/-- The inner product the body computes. -/
theorem inner_apply (f g : S4x512.Idx → ℝ) (x : S1x512.Idx) : k0_pay19 (F := Ideal) (emb f) (emb g) x = ((inner f g (x 1) : ℝ) : EReal) := by
  obtain ⟨h0, h1, h2, h3⟩ := softmax_apply f x
  obtain ⟨c0, c1, c2, c3⟩ := cotangent_apply g x
  unfold k0_pay19 k0_pay18
  simp only [addf_apply, mulf_apply, Ideal.addf_def, Ideal.mulf_def, h0, h1, h2, h3, c0, c1, c2, c3, ← EReal.coe_add, ← EReal.coe_mul]
  simp only [inner, Fin.sum_univ_four]

/-- The kernel's closed form of the gradient is the reference's. -/
theorem closed_eq (f g : S4x512.Idx → ℝ) (r : Fin 4) (l : Fin 512) :
    e f r l / s f l * (kd g r l - inner f g l) = out f g r l := by
  have hs := (s_pos f l).ne'
  have h : ∑ k : Fin 4, d g k l * (1 / (s f l * s f l)) * e f k l = inner f g l / s f l := by
    rw [inner, Finset.sum_div]
    refine Finset.sum_congr rfl fun k _ => ?_
    rw [kd_eq]; field_simp
  rw [out, h, kd_eq]
  field_simp
  ring

/-- WHAT THE KERNEL'S ARRAY HOLDS at layer `r`, column `l`: the reference's result there. -/
theorem G2_apply (f g : S4x512.Idx → ℝ) (r : Fin 4) (l : Fin 512) :
    Value.G2 (F := Ideal) (emb f) (emb g) (ix2 r l) = ((out f g r l : ℝ) : EReal) := by
  rw [← closed_eq]
  canon_tiles x h
  all_goals
    obtain ⟨p0, p1, p2, p3⟩ := softmax_apply f x
    obtain ⟨c0, c1, c2, c3⟩ := cotangent_apply g x
    have hi := inner_apply f g x
    have hl : l = x 1 := Fin.ext h1
  · have hr : r = 3 := Fin.ext (by change r.val = _ at h0; show r.val = 3; omega)
    unfold k0_pay4
    simp only [subf_apply, mulf_apply, Ideal.subf_def, Ideal.mulf_def, p3, c3, hi, ← EReal.coe_sub, ← EReal.coe_mul, hl, hr]
  · have hr : r = 2 := Fin.ext (by change r.val = _ at h0; show r.val = 2; omega)
    unfold k0_pay3
    simp only [subf_apply, mulf_apply, Ideal.subf_def, Ideal.mulf_def, p2, c2, hi, ← EReal.coe_sub, ← EReal.coe_mul, hl, hr]
  · have hr : r = 1 := Fin.ext (by change r.val = _ at h0; show r.val = 1; omega)
    unfold k0_pay2
    simp only [subf_apply, mulf_apply, Ideal.subf_def, Ideal.mulf_def, p1, c1, hi, ← EReal.coe_sub, ← EReal.coe_mul, hl, hr]
  · have hr : r = 0 := Fin.ext (by change r.val = _ at h0; show r.val = 0; omega)
    unfold k0_pay1
    simp only [subf_apply, mulf_apply, Ideal.subf_def, Ideal.mulf_def, p0, c0, hi, ← EReal.coe_sub, ← EReal.coe_mul, hl, hr]

end Cert.LbsBwdValue

end
-- ==== Proof.LbsBwdClaim.lean ====
/-
  THE CLAIMS OF `lbs_bwd`, assembled: both runs of the kernel and the reference's, and that over the extended reals the kernel's
  result is the reference's when the lower bounds and the cotangent are finite.
-/
module

public import proofs.«01_k».proof.Defs
public import proofs.«01_k».proof.Proof.Gen.LbsBwd.Frame
public import proofs.«01_k».proof.Proof.LbsBwdValue
public import Idealize.ShloMosaic.Lib.Quiescent

@[expose] public section

noncomputable section

namespace Cert.LbsBwdClaim

open Idealize.ShloMosaic Idealize.SL.Sem Cert.Reals

/-- The side condition of the precondition's operations. -/
theorem pre_facts : Cert.Pre_lbs_bwd_finite.Facts := ⟨by decide⟩

attribute [local instance] pre_facts

/-- The reference runs, its arguments end unchanged and its counters at zero. -/
theorem reference_runs : Cert.quiescent_LbsBwdRefIdeal := fun m ρ _ =>
  (θ_run Cert.LbsBwdRefIdeal.defs _ _).mono (fun r h => ⟨fun c => (h c).2, sem_eq_zero_of_no_sems (by decide) r.2⟩)
    (Cert.LbsBwdRefIdeal.Value.run (F := Ideal) m ρ)

/-- KERNEL AND REFERENCE AGREE on finite arguments. -/
theorem algebraic : Cert.algebraic_LbsBwdIdeal_LbsBwdRefIdeal_pre_lbs_bwd_finite := by
  intro m ρ m' ρ' hpre hagree
  refine ⟨_, Cert.LbsBwdIdeal.Value.run (F := Ideal) m ρ, ?_⟩
  refine (θ_run Cert.LbsBwdRefIdeal.defs _ _).mono (fun _ h c => ⟨?_, (h c).2⟩) (Cert.LbsBwdRefIdeal.Value.run (F := Ideal) m' ρ')
  obtain ⟨hp0, hp1⟩ := hpre c
  obtain ⟨f, hf⟩ := reals_of_finite _ _ _ hp0
  obtain ⟨g, hg⟩ := reals_of_finite _ _ _ hp1
  rw [(h c).1, Cert.LbsBwdRefIdeal.Read.val_main_v54_eq, (hagree c).1, (hagree c).2, hf, hg]
  funext j
  rw [eq_ix2 j]
  exact (LbsBwdReference.v54_apply f g (j 0) (j 1)).trans (LbsBwdValue.G2_apply f g (j 0) (j 1)).symm

end Cert.LbsBwdClaim

end
-- ==== Proof.Rms.lean ====
/-
  THE DERIVATIVE OF A ROOT-MEAN-SQUARE NORM, at one row of reals. A row `x` of 1024 numbers is scaled by the reciprocal of
  the root of its mean square plus a small constant; pulled back, a cotangent `u` of the scaled row becomes a cotangent of
  `x`. The two ways of writing it that the programs use are one real number.
-/
module

public import proofs.«01_k».proof.Proof.Reals

@[expose] public section

noncomputable section

namespace Cert.Rms

open Idealize.ShloMosaic Cert.Reals

/-- The constant added to the mean square: the rational its float word is. -/
def eps : ℝ := 8796093 * (2 : ℝ) ^ (-43 : ℤ)

theorem eps_pos : 0 < eps := by unfold eps; positivity

theorem ofBits_eps : Ideal.ofBits .f32 0x358637BD#32 = ((eps : ℝ) : EReal) := by
  simp [Ideal.ofBits, Ideal.ieee, -EReal.coe_mul, eps]

theorem ofBits_1024 : Ideal.ofBits .f32 0x44800000#32 = ((1024 : ℝ) : EReal) := by
  simp [Ideal.ofBits, Ideal.ieee, -EReal.coe_mul]
  norm_num

theorem ofBits_half : Ideal.ofBits .f32 0x3F000000#32 = ((1 / 2 : ℝ) : EReal) := by
  simp [Ideal.ofBits, Ideal.ieee, -EReal.coe_mul]
  norm_num

theorem ofBits_neg_half : Ideal.ofBits .f32 0xBF000000#32 = ((-(1 / 2) : ℝ) : EReal) := by
  simp [Ideal.ofBits, Ideal.ieee, -EReal.coe_mul]
  norm_num

theorem ofBits_two : Ideal.ofBits .f32 0x40000000#32 = ((2 : ℝ) : EReal) := by
  simp [Ideal.ofBits, Ideal.ieee, -EReal.coe_mul]
  norm_num

theorem ofBits_inv_1024 : Ideal.ofBits .f32 0x3A800000#32 = ((1 / 1024 : ℝ) : EReal) := by
  simp [Ideal.ofBits, Ideal.ieee, -EReal.coe_mul]
  norm_num

theorem ofBits_inv_2048 : Ideal.ofBits .f32 0x3A000000#32 = ((1 / 2048 : ℝ) : EReal) := by
  simp [Ideal.ofBits, Ideal.ieee, -EReal.coe_mul]
  norm_num

/-- The mean square of a row, the small constant added. -/
def var (x : Fin 1024 → ℝ) : ℝ := (∑ k, x k * x k) / 1024 + eps

theorem var_pos (x : Fin 1024 → ℝ) : 0 < var x :=
  add_pos_of_nonneg_of_pos (div_nonneg (Finset.sum_nonneg fun k _ => mul_self_nonneg _) (by norm_num)) eps_pos

/-- The reciprocal of its root. -/
def inv (x : Fin 1024 → ℝ) : ℝ := (√(var x))⁻¹

theorem inv_sq (x : Fin 1024 → ℝ) : inv x * inv x = (var x)⁻¹ := by
  rw [inv, ← mul_inv, Real.mul_self_sqrt (var_pos x).le]

/-- The derivative's term common to the row, by the chain rule through the root and the mean. -/
def common (x u : Fin 1024 → ℝ) : ℝ := (∑ k, x k * u k) * (-(1 / 2) * (inv x / var x)) / 1024

/-- The cotangent of the row, written by the chain rule: through the scaling, and twice through the square. -/
def grad (x u : Fin 1024 → ℝ) (l : Fin 1024) : ℝ := u l * inv x + x l * common x u + common x u * x l

/-- The same written with the scaled row: `u` less the scaled row times its mean product with `u`, scaled. -/
theorem grad_eq (x u : Fin 1024 → ℝ) (l : Fin 1024) :
    inv x * (u l - x l * inv x * ((∑ k, u k * (x k * inv x)) / 1024)) = grad x u l := by
  have h : ∑ k, u k * (x k * inv x) = (∑ k, x k * u k) * inv x := by
    rw [Finset.sum_mul]; exact Finset.sum_congr rfl fun k _ => by ring
  rw [h, grad, common, div_eq_mul_inv (inv x), ← inv_sq]
  ring

end Cert.Rms

end
-- ==== Proof.LossHeadReference.lean ====
/-
  THE REFERENCE OF THE LOSS HEAD, as real numbers: the loss, the cotangent of the hidden rows and the gradient of the norm's
  weights. `main_v24` is the loss; `main_v51` and `main_v32` are what `jax.vjp` of the loss's lines leaves.
-/
module

public import proofs.«01_k».proof.Proof.Gen.LossHeadRefIdeal.Read
public import proofs.«01_k».proof.Proof.Rms

@[expose] public section

set_option maxRecDepth 16384

noncomputable section

namespace Cert.LossHeadReference

open Cert.LossHeadRefIdeal Cert.LossHeadRefIdeal.Read Idealize.ShloMosaic Cert.Reals Cert.Rms

/-! ## The real quantities: hidden rows `f`, the norm's weights `g`, targets `w` -/

/-- A row of the hidden state. -/
def row (f : S1x2048x1024.Idx → ℝ) (r : Fin 2048) : Fin 1024 → ℝ := fun k => f (ix3 0 r k)

/-- The scaled row less its target. -/
def err (f : S1x2048x1024.Idx → ℝ) (g : S1024.Idx → ℝ) (w : S1x2048x1024.Idx → ℝ) (r : Fin 2048) (k : Fin 1024) : ℝ :=
  row f r k * inv (row f r) * g (ix1 k) - w (ix3 0 r k)

/-- Half the sum over the rows of the mean square error. -/
def loss (f : S1x2048x1024.Idx → ℝ) (g : S1024.Idx → ℝ) (w : S1x2048x1024.Idx → ℝ) : ℝ :=
  1 / 2 * ∑ r, (∑ k, err f g w r k * err f g w r k) / 1024

/-- The cotangent of the norm's output. -/
def dy (f : S1x2048x1024.Idx → ℝ) (g : S1024.Idx → ℝ) (w : S1x2048x1024.Idx → ℝ) (r : Fin 2048) (k : Fin 1024) : ℝ :=
  1 / 2 / 1024 * (2 * err f g w r k)

/-- The cotangent of the hidden rows. -/
def dx (f : S1x2048x1024.Idx → ℝ) (g : S1024.Idx → ℝ) (w : S1x2048x1024.Idx → ℝ) (r : Fin 2048) (l : Fin 1024) : ℝ :=
  grad (row f r) (fun k => dy f g w r k * g (ix1 k)) l

/-- The gradient of the norm's weights. -/
def dg (f : S1x2048x1024.Idx → ℝ) (g : S1024.Idx → ℝ) (w : S1x2048x1024.Idx → ℝ) (l : Fin 1024) : ℝ :=
  ∑ r, row f r l * inv (row f r) * dy f g w r l

/-! ## The printed program, stage by stage -/

/-- Arrays of reals, as the idealized program holds them. -/
abbrev emb (f : S1x2048x1024.Idx → ℝ) : (⟨S1x2048x1024, .f32⟩ : BufTy).Contents (Elt Ideal) := fun i => ((f i : ℝ) : EReal)
abbrev emb1 (g : S1024.Idx → ℝ) : (⟨S1024, .f32⟩ : BufTy).Contents (Elt Ideal) := fun i => ((g i : ℝ) : EReal)

variable (f : S1x2048x1024.Idx → ℝ) (g : S1024.Idx → ℝ) (w : S1x2048x1024.Idx → ℝ)

/-- The mean square of a row. -/
theorem v6_apply (r : Fin 2048) : val_main_v6 (F := Ideal) (emb f) (ix3 0 r 0) = ((var (row f r) : ℝ) : EReal) := by
  pointwise [val_main_v6, val_main_v5, val_main_v4, val_main_v3, val_main_v2, val_main_v1, val_main_v0, val_main_cst, val_main_cst_0, val_main_cst_1]
  simp only [ofBits_eps, ofBits_1024, ← EReal.coe_mul, sum_coe, div_coe_coe _ _ (by norm_num : (1024 : ℝ) ≠ 0), ← EReal.coe_add]
  rfl

/-- The reciprocal of its root. -/
theorem v7_apply (r : Fin 2048) : val_main_v7 (F := Ideal) (emb f) (ix3 0 r 0) = ((inv (row f r) : ℝ) : EReal) := by
  pointwise [val_main_v7]
  rw [v6_apply, rsqrt_coe_pos _ (var_pos _)]; rfl

/-- The derivative of the reciprocal root. -/
theorem v10_apply (r : Fin 2048) : val_main_v10 (F := Ideal) (emb f) (ix3 0 r 0) = ((-(1 / 2) * (inv (row f r) / var (row f r)) : ℝ) : EReal) := by
  pointwise [val_main_v10, val_main_v9, val_main_cst_2, val_main_v8]
  rw [v6_apply, v7_apply, div_coe_coe _ _ (var_pos _).ne', ofBits_neg_half, ← EReal.coe_mul]

/-- The scaled row. -/
theorem v12_apply (r : Fin 2048) (k : Fin 1024) :
    val_main_v12 (F := Ideal) (emb f) (ix3 0 r k) = ((row f r k * inv (row f r) : ℝ) : EReal) := by
  pointwise [val_main_v12, val_main_v11]
  rw [v7_apply, ← EReal.coe_mul]; rfl

/-- The error. -/
theorem v16_apply (r : Fin 2048) (k : Fin 1024) :
    val_main_v16 (F := Ideal) (emb f) (emb1 g) (emb w) (ix3 0 r k) = ((err f g w r k : ℝ) : EReal) := by
  pointwise [val_main_v16, val_main_v15, val_main_v14, val_main_v13]
  rw [v12_apply, ← EReal.coe_mul, ← EReal.coe_sub]; rfl

/-- The loss, in each cell of its block. -/
theorem v52_apply (a : Fin 8) (b : Fin 128) :
    val_main_v52 (F := Ideal) (emb f) (emb1 g) (emb w) (ix2 a b) = ((loss f g w : ℝ) : EReal) := by
  pointwise [val_main_v52, val_main_v24, val_main_cst_7, val_main_v23, val_main_cst_6, val_main_v22, val_main_v21, val_main_cst_5, val_main_v20, val_main_cst_4, val_main_v17]
  simp only [v16_apply, ← EReal.coe_mul, sum_coe, ofBits_1024, ofBits_half, div_coe_coe _ _ (by norm_num : (1024 : ℝ) ≠ 0)]
  rw [loss]; simp

/-- The cotangent of the norm's output. -/
theorem v30_apply (r : Fin 2048) (k : Fin 1024) :
    val_main_v30 (F := Ideal) (emb f) (emb1 g) (emb w) (ix3 0 r k) = ((dy f g w r k : ℝ) : EReal) := by
  pointwise [val_main_v30, val_main_v29, val_main_v28, val_main_v27, val_main_cst_10, val_main_v26, val_main_v25, val_main_cst_9, val_main_cst_8, val_main_v19, val_main_v18, val_main_cst_3]
  simp only [v16_apply, ← EReal.coe_mul, ofBits_1024, ofBits_half, ofBits_two, div_coe_coe _ _ (by norm_num : (1024 : ℝ) ≠ 0), one_mul, mul_one]
  rfl

/-- The cotangent of the scaled row. -/
theorem v35_apply (r : Fin 2048) (k : Fin 1024) :
    val_main_v35 (F := Ideal) (emb f) (emb1 g) (emb w) (ix3 0 r k) = ((dy f g w r k * g (ix1 k) : ℝ) : EReal) := by
  pointwise [val_main_v35, val_main_v34, val_main_v13]
  rw [v30_apply, ← EReal.coe_mul]

/-- The derivative's term common to a row. -/
theorem v47_apply (r : Fin 2048) (k : Fin 1024) :
    val_main_v47 (F := Ideal) (emb f) (emb1 g) (emb w) (ix3 0 r k) = ((common (row f r) (fun k => dy f g w r k * g (ix1 k)) : ℝ) : EReal) := by
  pointwise [val_main_v47, val_main_v46, val_main_v45, val_main_cst_15, val_main_v44, val_main_v43, val_main_cst_14, val_main_v42, val_main_v39, val_main_v38, val_main_cst_13, val_main_v37]
  rw [hostReduceAdd_a02]
  pointwise
  simp only [Fin.sum_univ_one, v35_apply, v10_apply, ← EReal.coe_mul, sum_coe, ofBits_1024, div_coe_coe _ _ (by norm_num : (1024 : ℝ) ≠ 0)]
  rfl

/-- The cotangent of the hidden rows. -/
theorem v53_apply (r : Fin 2048) (l : Fin 1024) :
    val_main_v53 (F := Ideal) (emb f) (emb1 g) (emb w) (ix2 r l) = ((dx f g w r l : ℝ) : EReal) := by
  pointwise [val_main_v53, val_main_v51, val_main_v50, val_main_v49, val_main_v48, val_main_v41, val_main_v40]
  rw [v35_apply, v47_apply, v7_apply]
  simp only [← EReal.coe_mul, ← EReal.coe_add]
  rfl

/-- The gradient of the norm's weights, in row 0 of its block; the other rows hold zero. -/
theorem v56_apply (a : Fin 8) (l : Fin 1024) :
    val_main_v56 (F := Ideal) (emb f) (emb1 g) (emb w) (ix2 a l) = (((if a.val = 0 then dg f g w l else 0) : ℝ) : EReal) := by
  pointwise [val_main_v56, val_main_v55, val_main_v54, val_main_cst_16, val_main_v36, val_main_cst_12, val_main_v33, val_main_v32, val_main_cst_11, val_main_v31]
  rw [hostReduceAdd_a01]
  pointwise
  simp only [v12_apply, v30_apply, ← EReal.coe_mul, sum_coe, Nat.lt_one_iff]
  split_ifs <;> simp [dg]

end Cert.LossHeadReference

end
-- ==== Proof.LossHeadValue.lean ====
/-
  THE VALUE OF `loss_head`: what the kernel's three result arrays hold, as real numbers. The grid walks the hidden state in
  8 blocks of 256 rows. A block's cotangent is stored where it lies; the loss and the weights' gradient are summed over the blocks
  in two output blocks that stay resident, zeroed at the first point.
-/
module

public import proofs.«01_k».proof.Proof.Gen.LossHeadIdeal.Value
public import proofs.«01_k».proof.Proof.LossHeadReference
public import Idealize.ShloMosaic.Lib.Pipeline.ValueKit

@[expose] public section

set_option maxRecDepth 16384

noncomputable section

namespace Cert.LossHeadValue

open Cert.LossHeadIdeal Cert.LossHeadIdeal.Gen Idealize.ShloMosaic Idealize.ShloMosaic.TcCoe Idealize.SL.Sem Cert.Reals Cert.Rms
open Cert.LossHeadReference (row err loss dy dx dg)
open Idealize.ShloMosaic.Pipeline (Dat)

/-! ## One block -/

/-- The number of the `p`-th row of block `t`. -/
def at_ (t : Fin 8) (p : Fin 256) : Fin 2048 := ⟨t.val * 256 + p.val, by omega⟩

/-- Block `t` of an array of rows. -/
abbrev blk (f : S1x2048x1024.Idx → ℝ) (t : Fin 8) : Vec Ideal S256x1024 .f32 := fun i => ((f (ix3 0 (at_ t (i 0)) (i 1)) : ℝ) : EReal)

/-- The weights as the kernel's one row. -/
abbrev wrow (g : S1024.Idx → ℝ) : Vec Ideal S1x1024 .f32 := fun i => ((g (ix1 (i 1)) : ℝ) : EReal)

variable (f : S1x2048x1024.Idx → ℝ) (g : S1024.Idx → ℝ) (w : S1x2048x1024.Idx → ℝ) (t : Fin 8)

/-- The reciprocal root of a row's mean square. -/
theorem pay5_apply (p : Fin 256) : k0_pay5 (F := Ideal) (blk f t) (ix2 p 0) = ((inv (row f (at_ t p)) : ℝ) : EReal) := by
  pointwise [k0_pay5, k0_pay3]
  simp only [ofBits_eps, ofBits_1024, ← EReal.coe_mul, sum_coe, div_coe_coe _ _ (by norm_num : (1024 : ℝ) ≠ 0), ← EReal.coe_add]
  exact rsqrt_coe_pos _ (var_pos (row f (at_ t p)))

/-- The scaled row. -/
theorem pay6_apply (p : Fin 256) (k : Fin 1024) :
    k0_pay6 (F := Ideal) (blk f t) (ix2 p k) = ((row f (at_ t p) k * inv (row f (at_ t p)) : ℝ) : EReal) := by
  pointwise [k0_pay6, k0_pay3]
  rw [pay5_apply, ← EReal.coe_mul]; rfl

/-- The error. -/
theorem pay7_apply (p : Fin 256) (k : Fin 1024) :
    k0_pay7 (F := Ideal) (blk f t) (wrow g) (blk w t) (ix2 p k) = ((err f g w (at_ t p) k : ℝ) : EReal) := by
  pointwise [k0_pay7, k0_pay4]
  rw [pay6_apply, ← EReal.coe_mul, ← EReal.coe_sub]; rfl

/-- The cotangent of the norm's output. -/
theorem pay8_apply (p : Fin 256) (k : Fin 1024) :
    k0_pay8 (F := Ideal) (blk f t) (wrow g) (blk w t) (ix2 p k) = ((dy f g w (at_ t p) k : ℝ) : EReal) := by
  pointwise [k0_pay8]
  rw [pay7_apply, ofBits_inv_1024, ← EReal.coe_mul, dy]
  congr 1; ring

/-- The cotangent of the rows. -/
theorem pay9_apply (p : Fin 256) (l : Fin 1024) :
    k0_pay9 (F := Ideal) (blk f t) (wrow g) (blk w t) (ix2 p l) = ((dx f g w (at_ t p) l : ℝ) : EReal) := by
  pointwise [k0_pay9, k0_pay4]
  simp only [pay8_apply, pay6_apply, pay5_apply, ofBits_1024, ← EReal.coe_mul, sum_coe, div_coe_coe _ _ (by norm_num : (1024 : ℝ) ≠ 0), ← EReal.coe_sub]
  rw [dx, ← grad_eq]
  rfl

/-- A block's part of the weights' gradient, in row 0 of the output block. -/
def dgPart (t : Fin 8) (a : Fin 8) (l : Fin 1024) : ℝ :=
  if a.val = 0 then ∑ p : Fin 256, row f (at_ t p) l * inv (row f (at_ t p)) * dy f g w (at_ t p) l else 0

theorem pay1_apply (acc : Vec Ideal S8x1024 .f32) (a : Fin 8) (l : Fin 1024) :
    k0_pay1 (F := Ideal) (k0_pay6 (blk f t)) (k0_pay8 (blk f t) (wrow g) (blk w t)) (k0_pay12 acc) (ix2 a l) = acc (ix2 a l) + ((dgPart f g w t a l : ℝ) : EReal) := by
  pointwise [k0_pay1, k0_pay12]
  simp only [pay8_apply, pay6_apply, ← EReal.coe_mul, sum_coe]
  congr 1
  unfold dgPart
  fin_cases a <;> simp [Scalar.select, IntOp.cmpi, mul_comm]

theorem pay1_at (acc : Vec Ideal S8x1024 .f32) (j : S8x1024.Idx) :
    k0_pay1 (F := Ideal) (k0_pay6 (blk f t)) (k0_pay8 (blk f t) (wrow g) (blk w t)) (k0_pay12 acc) j = acc j + ((dgPart f g w t (j 0) (j 1) : ℝ) : EReal) := by
  obtain ⟨a, l, rfl⟩ : ∃ (a : Fin 8) (l : Fin 1024), j = ix2 a l := ⟨j 0, j 1, eq_ix2 j⟩
  exact pay1_apply f g w t acc a l

/-- A block's part of the loss. -/
def lossPart (t : Fin 8) : ℝ := (∑ p : Fin 256, ∑ k, err f g w (at_ t p) k * err f g w (at_ t p) k) * (1 / 2048)

theorem pay2_apply (acc : Vec Ideal S8x128 .f32) (a : Fin 8) (b : Fin 128) :
    k0_pay2 (F := Ideal) (k0_pay7 (blk f t) (wrow g) (blk w t)) acc (ix2 a b) = acc (ix2 a b) + ((lossPart f g w t : ℝ) : EReal) := by
  pointwise [k0_pay2]
  simp only [pay7_apply, ← EReal.coe_mul, sum_coe, ofBits_inv_2048]
  rfl

theorem pay2_at (acc : Vec Ideal S8x128 .f32) (j : S8x128.Idx) :
    k0_pay2 (F := Ideal) (k0_pay7 (blk f t) (wrow g) (blk w t)) acc j = acc j + ((lossPart f g w t : ℝ) : EReal) := by
  obtain ⟨a, b, rfl⟩ : ∃ (a : Fin 8) (b : Fin 128), j = ix2 a b := ⟨j 0, j 1, eq_ix2 j⟩
  exact pay2_apply f g w t acc a b

/-! ## The blocks of the argument arrays -/

/-- The windows' block indices at a point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

variable (m : (ℓ : Loc nD τ sig) → Buf (Elt Ideal) ℓ) (c : Dev nD)

/-- A point of the grid as the number of its block. -/
def pt (t : Fin cfg0.N) : Fin 8 := ⟨t.val, lt_of_lt_of_eq t.isLt N_0⟩

variable (hf : m ((c : Thread nD τ).loc main_arg0) = fun i => ((f i : ℝ) : EReal))
  (hg : m ((c : Thread nD τ).loc main_arg1) = fun i => ((g i : ℝ) : EReal))
  (hw : m ((c : Thread nD τ).loc main_arg2) = fun i => ((w i : ℝ) : EReal))

include hf in
theorem iblk0 (t : Fin cfg0.N) : iblk m c 0 t = blk f (pt t) := by
  funext i
  unfold iblk
  entry_read
  rw [hf]
  have he : ((cfg0.win 0).blk t).view.emb i = ix2 (at_ (pt t) (i 0)) (i 1) := by blk_ext [idx t, at_, pt]
  rw [View.read_apply, he]
  pointwise
  rfl

include hg in
theorem iblk1 (t : Fin cfg0.N) : iblk m c 1 t = wrow g := by
  funext i
  unfold iblk
  entry_read
  rw [hg]
  have he : ((cfg0.win 1).blk t).view.emb i = ix2 0 (i 1) := by blk_ext [idx t]
  rw [View.read_apply, he]
  pointwise
  rfl

include hw in
theorem iblk2 (t : Fin cfg0.N) : iblk m c 2 t = blk w (pt t) := by
  funext i
  unfold iblk
  entry_read
  rw [hw]
  have he : ((cfg0.win 2).blk t).view.emb i = ix2 (at_ (pt t) (i 0)) (i 1) := by blk_ext [idx t, at_, pt]
  rw [View.read_apply, he]
  pointwise
  rfl

/-! ## The result arrays -/

/-- Rows summed block by block are rows summed. -/
theorem sum_blocks (F : Fin 2048 → ℝ) : ∑ t : Fin cfg0.N, ∑ p : Fin 256, F (at_ (pt t) p) = ∑ r, F r := by
  have h := Fin.sum_mul_add_fin (S := 8) (n := 256) (L := 2048) F
  exact h

include hf hg hw

/-- The cotangent of the hidden rows: each point stores its block's. -/
theorem final4 (r : Fin 2048) (l : Fin 1024) : (dats m 0 c).arrAt 4 cfg0.N (ix2 r l) = ((dx f g w r l : ℝ) : EReal) := by
  have h : (dats m 0 c).arrAt 4 cfg0.N = fun j : S2048x1024.Idx => ((dx f g w (j 0) (j 1) : ℝ) : EReal) := by
    refine (dats m 0 c).arrAt_eq_of_covers 4 _ (by decide +kernel) fun t _ y => ?_
    rw [after0_4]
    have hb : (outsAt0 m c t.val t.isLt).2.1 = k0_pay9 (F := Ideal) (iblk m c 0 t) (iblk m c 1 t) (iblk m c 2 t) := by
      by_cases h : t.val % 8 = 0
      · rw [outsAt0_A m c t h]; frame_out
      · rw [outsAt0_B m c t h]; frame_out
    have he : ((cfg0.win 4).blk t).view.emb y = ix2 (at_ (pt t) (y 0)) (y 1) := by blk_ext [idx t, at_, pt]
    have hx : (cfg0.win 4).xinj (cfg0.grid.coords t) y = ix2 (y 0) (y 1) := by blk_ext
    rw [hb, iblk0 f m c hf, iblk1 g m c hg, iblk2 w m c hw, he, hx]
    exact pay9_apply f g w (pt t) (y 0) (y 1)
  rw [h]
  rfl

/-- The sum of the blocks' parts of the loss, after the last point. -/
theorem outs3 (j : S8x128.Idx) : (outsAt0 m c t0_7.val t0_7.isLt).1 j = ((loss f g w : ℝ) : EReal) := by
  rw [Pipeline.eq_sum_fin_of_reset_step_apply_last (fun n h => (outsAt0 m c n h).1) 8 (fun _ => 0) (fun t _ => ((lossPart f g w (pt t) : ℝ) : EReal))
    (fun t h j => by
      rw [outsAt0_A m c t h]; frame_out
      rw [iblk0 f m c hf, iblk1 g m c hg, iblk2 w m c hw, pay2_at]
      pointwise [k0_pay11])
    (fun t h j => by
      rw [outsAt0_B m c t h]; frame_out
      rw [iblk0 f m c hf, iblk1 g m c hg, iblk2 w m c hw, pay2_at])
    (le_of_eq N_0) t0_7 rfl j, zero_add, sum_coe]
  rw [loss, ← sum_blocks]
  congr 1
  rw [Finset.mul_sum]
  refine Finset.sum_congr rfl fun t _ => ?_
  rw [lossPart, ← Finset.sum_div]
  ring

/-- The loss. -/
theorem final3 (a : Fin 8) (b : Fin 128) : (dats m 0 c).arrAt 3 cfg0.N (ix2 a b) = ((loss f g w : ℝ) : EReal) := by
  refine (congrFun ((dats m 0 c).arrAt_eq_of_after_last 3 t0_7 (by decide +kernel) (G := fun _ => ((loss f g w : ℝ) : EReal)) fun j => ?_) _)
  rw [after0_3]
  exact outs3 f g w m c hf hg hw _

/-- The sum of the blocks' parts of the weights' gradient, after the last point. -/
theorem outs5 (j : S8x1024.Idx) : (outsAt0 m c t0_7.val t0_7.isLt).2.2 j = (((if (j 0).val = 0 then dg f g w (j 1) else 0) : ℝ) : EReal) := by
  rw [Pipeline.eq_sum_fin_of_reset_step_apply_last (fun n h => (outsAt0 m c n h).2.2) 8 (fun _ => 0) (fun t j => ((dgPart f g w (pt t) (j 0) (j 1) : ℝ) : EReal))
    (fun t h j => by
      rw [outsAt0_A m c t h]; frame_out
      rw [iblk0 f m c hf, iblk1 g m c hg, iblk2 w m c hw, pay1_at]
      pointwise [k0_pay10])
    (fun t h j => by
      rw [outsAt0_B m c t h]; frame_out
      rw [iblk0 f m c hf, iblk1 g m c hg, iblk2 w m c hw, pay1_at])
    (le_of_eq N_0) t0_7 rfl j, zero_add, sum_coe]
  congr 1
  unfold dgPart
  split_ifs
  · exact sum_blocks fun r => row f r (j 1) * inv (row f r) * dy f g w r (j 1)
  · simp

/-- The weights' gradient. -/
theorem final5 (a : Fin 8) (l : Fin 1024) : (dats m 0 c).arrAt 5 cfg0.N (ix2 a l) = (((if a.val = 0 then dg f g w l else 0) : ℝ) : EReal) := by
  refine (congrFun ((dats m 0 c).arrAt_eq_of_after_last 5 t0_7 (by decide +kernel) (G := fun j : S8x1024.Idx => (((if (j 0).val = 0 then dg f g w (j 1) else 0) : ℝ) : EReal)) fun j => ?_) _)
  rw [after0_5]
  exact outs5 f g w m c hf hg hw _

end Cert.LossHeadValue

end
-- ==== Proof.LossHeadClaim.lean ====
/-
  THE CLAIMS OF `loss_head`, assembled: both runs of the kernel and the reference's, and that over the extended reals the kernel's
  results are the reference's when the hidden rows, the weights and the targets are finite.
-/
module

public import proofs.«01_k».proof.Defs
public import proofs.«01_k».proof.Proof.Gen.LossHead.Frame
public import proofs.«01_k».proof.Proof.LossHeadValue
public import Idealize.ShloMosaic.Lib.Quiescent

@[expose] public section

noncomputable section

namespace Cert.LossHeadClaim

open Idealize.ShloMosaic Idealize.SL.Sem Cert.Reals

/-- The side condition of the precondition's operations. -/
theorem pre_facts : Cert.Pre_loss_head_finite.Facts := ⟨by decide, by decide⟩

attribute [local instance] pre_facts

/-- The reference runs, its arguments end unchanged and its counters at zero. -/
theorem reference_runs : Cert.quiescent_LossHeadRefIdeal := fun m ρ _ =>
  (θ_run Cert.LossHeadRefIdeal.defs _ _).mono (fun r h => ⟨fun c => (h c).2.2.2, sem_eq_zero_of_no_sems (by decide) r.2⟩)
    (Cert.LossHeadRefIdeal.Value.run (F := Ideal) m ρ)

/-- Over the extended reals the kernel's three results are the reference's: the loss, the cotangent of the hidden rows and the
    gradient of the norm's weights. -/
theorem algebraic : Cert.algebraic_LossHeadIdeal_LossHeadRefIdeal_pre_loss_head_finite := by
  intro m ρ m' ρ' hpre hagree
  refine ⟨_, _, _, Cert.LossHeadIdeal.Value.run_blocks (F := Ideal) m ρ, ?_⟩
  refine (θ_run Cert.LossHeadRefIdeal.defs _ _).mono (fun _ h c => ⟨?_, ?_, ?_, (h c).2.2.2⟩) (Cert.LossHeadRefIdeal.Value.run (F := Ideal) m' ρ')
  all_goals
    obtain ⟨hp0, hp1, hp2⟩ := hpre c
    obtain ⟨f, hf⟩ := reals_of_finite _ _ _ hp0
    obtain ⟨g, hg⟩ := reals_of_finite _ _ _ hp1
    obtain ⟨w, hw⟩ := reals_of_finite _ _ _ hp2
  · refine ((h c).1.trans (Cert.LossHeadRefIdeal.Read.val_main_v52_eq _ _ _)).trans ?_
    rw [(hagree c).1, (hagree c).2.1, (hagree c).2.2, hf, hg, hw]
    funext j
    rw [eq_ix2 j]
    exact (LossHeadReference.v52_apply f g w (j 0) (j 1)).trans (LossHeadValue.final3 f g w m c hf hg hw (j 0) (j 1)).symm
  · refine ((h c).2.1.trans (Cert.LossHeadRefIdeal.Read.val_main_v53_eq m' c)).trans ?_
    rw [(hagree c).1, (hagree c).2.1, (hagree c).2.2, hf, hg, hw]
    funext j
    rw [eq_ix2 j]
    exact (LossHeadReference.v53_apply f g w (j 0) (j 1)).trans (LossHeadValue.final4 f g w m c hf hg hw (j 0) (j 1)).symm
  · refine ((h c).2.2.1.trans (Cert.LossHeadRefIdeal.Read.val_main_v56_eq _ _ _)).trans ?_
    rw [(hagree c).1, (hagree c).2.1, (hagree c).2.2, hf, hg, hw]
    funext j
    rw [eq_ix2 j]
    exact (LossHeadReference.v56_apply f g w (j 0) (j 1)).trans (LossHeadValue.final5 f g w m c hf hg hw (j 0) (j 1)).symm

end Cert.LossHeadClaim

end
-- ==== Proof.Ff2DgradRun.lean ====
/-
  THE RUN OF `ff2_dgrad` WITH ITS RESULT: the launch over the program's four segments, its last thread state read at the
  result array too. The second region's output array ends at what that region's pipeline leaves of it.
-/
module

public import proofs.«01_k».proof.Proof.Gen.Ff2DgradIdeal.Frame

@[expose] public section

noncomputable section

namespace Cert.Ff2DgradRun

open Cert.Ff2DgradIdeal Cert.Ff2DgradIdeal.Gen
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch, the last thread state read at the result array and at the arguments. -/
theorem run : θ_run defs (onTc (τ := τ) (main (F := F))) ⟨m, fun _ => 0, ρ⟩ fun r => ∀ c : Dev nD,
      r.2.mem ((c.tc : Thread nD τ).loc main_v7) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v7 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.Ff2DgradRun

end
-- ==== Proof.Ff2DgradReference.lean ====
/-
  THE REFERENCE OF `ff2_dgrad` at an index: what `jax.vjp` of the second product's lines leaves for the first product's
  output `a`. Where `a` is positive, twice `a` times the cotangent's product with the weights; elsewhere zero.
-/
module

public import proofs.«01_k».proof.Proof.Gen.Ff2DgradRefIdeal.Read
public import proofs.«01_k».proof.Proof.Reals

@[expose] public section

set_option maxRecDepth 16384

noncomputable section

namespace Cert.Ff2DgradReference

open Cert.Ff2DgradRefIdeal Cert.Ff2DgradRefIdeal.Read Idealize.ShloMosaic Cert.Reals

variable (h2 : (⟨S2048x1024, .bf16⟩ : BufTy).Contents (Elt Ideal)) (w1 : (⟨S1024x4096, .f32⟩ : BufTy).Contents (Elt Ideal))
  (w2 : (⟨S4096x1024, .f32⟩ : BufTy).Contents (Elt Ideal)) (ct : (⟨S2048x1024, .f32⟩ : BufTy).Contents (Elt Ideal))

/-- The first product. -/
def act (r : Fin 2048) (q : Fin 4096) : EReal := ∑ k : Fin 1024, h2 (ix2 r k) * w1 (ix2 k q)

/-- The cotangent of the squared rectifier's output. -/
def back (r : Fin 2048) (q : Fin 4096) : EReal := ∑ k : Fin 1024, ct (ix2 r k) * w2 (ix2 q k)

/-- The cotangent of the first product, as the kernel forms it from the saved square. -/
def grad (r : Fin 2048) (q : Fin 4096) : EReal :=
  back w2 ct r q * 2 * Ideal.sqrt (max (act h2 w1 r q) 0 * max (act h2 w1 r q) 0)

theorem ofBits_two : Ideal.ofBits .f32 0x40000000#32 = 2 := by
  simp [Ideal.ofBits, Ideal.ieee, -EReal.coe_mul]; norm_num; rfl

/-- The root of a square, at an extended real that is not negative. -/
theorem sqrt_sq (a : EReal) (h : 0 ≤ a) : Ideal.sqrt (a * a) = a := by
  induction a with
  | bot => simp at h
  | top => rw [EReal.top_mul_top]; rfl
  | coe r =>
    have hr : 0 ≤ r := by exact_mod_cast h
    rw [← EReal.coe_mul, Ideal.sqrt_coe, Real.sqrt_mul_self hr]
    simp [not_lt.2 (mul_self_nonneg r)]

/-- The result. -/
theorem v14_apply (r : Fin 2048) (q : Fin 4096) : val_main_v14 (F := Ideal) h2 w1 w2 ct (ix2 r q) = grad h2 w1 w2 ct r q := by
  have e1 : val_main_v1 (F := Ideal) h2 w1 (ix2 r q) = act h2 w1 r q := by
    pointwise [val_main_v1, val_main_v0]; rfl
  have e2 : val_main_v10 (F := Ideal) w2 ct (ix2 r q) = back w2 ct r q := by
    pointwise [val_main_v10]; rfl
  pointwise [val_main_v14, val_main_v13, val_main_v12, val_main_v11, val_main_v8, val_main_v7, val_main_v6, val_main_v5, val_main_v4, val_main_v3, val_main_v2,
    val_main_cst, val_main_cst_0, val_main_cst_1, val_main_cst_2, val_main_call0_cst, val_main_call0_v0]
  rw [e1, e2, ofBits_two]
  unfold grad
  by_cases h : 0 < act h2 w1 r q
  · rw [if_pos h, max_eq_left h.le, sqrt_sq _ h.le, mul_assoc]
  · rw [if_neg h, max_eq_right (not_lt.1 h), sqrt_sq _ le_rfl, mul_zero]

end Cert.Ff2DgradReference

end
-- ==== Proof.Ff2DgradValue.lean ====
/-
  THE VALUE OF `ff2_dgrad`: what the two regions leave. The forward call stores the square of the rectified product in
  blocks of 1024 rows and 1024 columns; the backward call reads the square 256 rows at a time and multiplies the cotangent's
  product by twice its root. No sum is split, so each block is the result's block as it stands.
-/
module

public import proofs.«01_k».proof.Proof.Ff2DgradRun
public import proofs.«01_k».proof.Proof.Ff2DgradReference
public import Idealize.ShloMosaic.Lib.Claim
public import Idealize.ShloMosaic.Lib.Pipeline.ValueKit

@[expose] public section

set_option maxRecDepth 16384

noncomputable section

namespace Cert.Ff2DgradValue

open Cert.Ff2DgradIdeal Cert.Ff2DgradIdeal.Gen Idealize.ShloMosaic Idealize.ShloMosaic.TcCoe Idealize.SL.Sem Cert.Reals
open Cert.Ff2DgradReference (act back grad)
open Idealize.ShloMosaic.Pipeline (Dat)

/-! ## One block -/

/-- The forward call's block at an index. -/
theorem pay0_apply (x : Vec Ideal S1024x1024 .bf16) (w : Vec Ideal S1x1024x1024 .bf16) (p q : Fin 1024) :
    k0_pay1 (F := Ideal) x w (ix2 p q) = max (∑ k, x (ix2 p k) * w (ix3 0 k q)) 0 * max (∑ k, x (ix2 p k) * w (ix3 0 k q)) 0 := by
  pointwise [k0_pay1]

/-- The backward call's block at an index. -/
theorem pay1_apply (y : Vec Ideal S256x1024 .f32) (w : Vec Ideal S4096x1024 .bf16) (s : Vec Ideal S256x4096 .bf16) (p : Fin 256) (q : Fin 4096) :
    k1_pay1 (F := Ideal) y w s (ix2 p q) = (∑ k, y (ix2 p k) * w (ix2 q k)) * 2 * Ideal.sqrt (s (ix2 p q)) := by
  pointwise [k1_pay1]
  rw [Ff2DgradReference.ofBits_two]

/-! ## The arrays the regions find -/

variable (m : (ℓ : Loc nD τ sig) → Buf (Elt Ideal) ℓ) (ρ : Dev nD → PrngReg) (c : Dev nD)

/-- The arguments: the normed rows, the two weights and the cotangent. -/
abbrev h2 := m ((c : Thread nD τ).loc main_arg0)
abbrev w1 := m ((c : Thread nD τ).loc main_arg1)
abbrev w2 := m ((c : Thread nD τ).loc main_arg2)
abbrev ct := m ((c : Thread nD τ).loc main_arg3)

theorem V1_arg0 : V1 m ρ c main_arg0 = h2 m c := W1_args m ρ c _ (by decide)

/-- The forward weights, reordered into column blocks and rounded. -/
theorem V1_v2 (j : Fin 4) (k q : Fin 1024) : V1 m ρ c main_v2 (ix3 j k q) = w1 m c (ix2 k ⟨j.val * 1024 + q.val, by omega⟩) := by
  show StableHlo.after hostOps0 (W0 m ρ c) (Proc.devRef .tc main_v2) (ix3 j k q) = _
  entry_read
  pointwise

/-- The backward weights: rounded, reordered into row blocks and back. -/
theorem V3_v6 (q : Fin 4096) (k : Fin 1024) : V3 m ρ c main_v6 (ix2 q k) = w2 m c (ix2 q k) := by
  show StableHlo.after hostOps1 (W2 m ρ c) (Proc.devRef .tc main_v6) (ix2 q k) = _
  entry_read
  rw [W2_of m ρ c main_v4 (by decide)]
  show shapeCast _ (StableHlo.after hostOps0 (W0 m ρ c) (Proc.devRef .tc main_v4)) _ (ix2 q k) = _
  entry_read
  pointwise
  exact congrArg (fun x => w2 m c (ix2 x k)) (Fin.ext (Nat.div_add_mod' q.val 1024))

theorem V3_arg3 : V3 m ρ c main_arg3 = ct m c := W3_args m ρ c _ (by decide)

/-! ## The forward call's array -/

/-- The windows' block indices of the first region at a point: two row blocks within each of four column blocks. -/
theorem idx0 : ∀ t : Fin cfg0.N, win0_0.index t = ![t.val % 2, 0] ∧ win0_1.index t = ![t.val / 2, 0, 0] ∧ win0_2.index t = ![t.val % 2, t.val / 2] :=
  (by decide +kernel : ∀ t : Fin grid0.N, _)

/-- The windows' block indices of the second region at a point. -/
theorem idx1 : ∀ t : Fin cfg1.N, win1_0.index t = ![t.val, 0] ∧ win1_1.index t = ![0, 0] ∧ win1_2.index t = ![t.val, 0] ∧ win1_3.index t = ![t.val, 0] :=
  (by decide +kernel : ∀ t : Fin grid1.N, _)

theorem lt0 (t : Fin cfg0.N) : t.val < 8 := lt_of_lt_of_eq t.isLt N_0
theorem lt1 (t : Fin cfg1.N) : t.val < 8 := lt_of_lt_of_eq t.isLt N_1

/-- The row and the column of the result that a place of point `t`'s block is. -/
def row0 (t : Fin cfg0.N) (p : Fin 1024) : Fin 2048 := ⟨t.val % 2 * 1024 + p.val, by omega⟩
def col0 (t : Fin cfg0.N) (q : Fin 1024) : Fin 4096 := ⟨t.val / 2 * 1024 + q.val, by have := lt0 t; omega⟩
def row1 (t : Fin cfg1.N) (p : Fin 256) : Fin 2048 := ⟨t.val * 256 + p.val, by have := lt1 t; omega⟩

theorem iblk0_0 (t : Fin cfg0.N) : iblk0 (V1 m ρ) c 0 t = fun i => h2 m c (ix2 (row0 t (i 0)) (i 1)) := by
  funext i
  unfold iblk0
  have he : ((cfg0.win 0).blk t).view.emb i = ix2 (row0 t (i 0)) (i 1) := by blk_ext [idx0 t, row0]
  rw [View.read_apply, he]
  exact congrFun (V1_arg0 m ρ c) _

theorem iblk0_1 (t : Fin cfg0.N) : iblk0 (V1 m ρ) c 1 t = fun i => w1 m c (ix2 (i 1) (col0 t (i 2))) := by
  funext i
  unfold iblk0
  have he : ((cfg0.win 1).blk t).view.emb i = ix3 (⟨t.val / 2, by have := lt0 t; omega⟩ : Fin 4) (i 1) (i 2) := by blk_ext [idx0 t]
  rw [View.read_apply, he]
  exact V1_v2 m ρ c _ (i 1) (i 2)

/-- The saved square. -/
def sq (r : Fin 2048) (q : Fin 4096) : EReal := max (act (h2 m c) (w1 m c) r q) 0 * max (act (h2 m c) (w1 m c) r q) 0

theorem final0 (r : Fin 2048) (q : Fin 4096) : (dat0 (V1 m ρ) c).arrAt 2 cfg0.N (ix2 r q) = sq m c r q := by
  have h : (dat0 (V1 m ρ) c).arrAt 2 cfg0.N = fun j : S2048x4096.Idx => sq m c (j 0) (j 1) := by
    refine (dat0 (V1 m ρ) c).arrAt_eq_of_covers 2 _ (by decide +kernel) fun t _ y => ?_
    rw [after0_2]
    have hb : out0_2 (iblk0 (V1 m ρ) c 0 t) (iblk0 (V1 m ρ) c 1 t) = k0_pay1 (F := Ideal) (iblk0 (V1 m ρ) c 0 t) (iblk0 (V1 m ρ) c 1 t) := by
      frame_out
    have he : ((cfg0.win 2).blk t).view.emb y = ix2 (row0 t (y 0)) (col0 t (y 1)) := by blk_ext [idx0 t, row0, col0]
    have hx : (cfg0.win 2).xinj (cfg0.grid.coords t) y = ix2 (y 0) (y 1) := by blk_ext
    rw [hb, iblk0_0, iblk0_1, he, hx]
    exact pay0_apply _ _ (y 0) (y 1)
  rw [h]
  rfl

/-! ## The backward call's array -/

theorem V3_v5 (r : Fin 2048) (q : Fin 4096) : V3 m ρ c main_v5 (ix2 r q) = sq m c r q := by
  show W3 m ρ c (Proc.devRef .tc main_v5) (ix2 r q) = _
  rw [W3_of m ρ c main_v5 (by decide)]
  exact (congrFun (W2_arr m ρ c 2) (ix2 r q)).trans (final0 m ρ c r q)

theorem iblk1_0 (t : Fin cfg1.N) : iblk1 (V3 m ρ) c 0 t = fun i => ct m c (ix2 (row1 t (i 0)) (i 1)) := by
  funext i
  unfold iblk1
  have he : ((cfg1.win 0).blk t).view.emb i = ix2 (row1 t (i 0)) (i 1) := by blk_ext [idx1 t, row1]
  rw [View.read_apply, he]
  exact congrFun (V3_arg3 m ρ c) _

theorem iblk1_1 (t : Fin cfg1.N) : iblk1 (V3 m ρ) c 1 t = fun i => w2 m c (ix2 (i 0) (i 1)) := by
  funext i
  unfold iblk1
  have he : ((cfg1.win 1).blk t).view.emb i = ix2 (i 0) (i 1) := by blk_ext [idx1 t]
  rw [View.read_apply, he]
  exact V3_v6 m ρ c (i 0) (i 1)

theorem iblk1_2 (t : Fin cfg1.N) : iblk1 (V3 m ρ) c 2 t = fun i => sq m c (row1 t (i 0)) (i 1) := by
  funext i
  unfold iblk1
  have he : ((cfg1.win 2).blk t).view.emb i = ix2 (row1 t (i 0)) (i 1) := by blk_ext [idx1 t, row1]
  rw [View.read_apply, he]
  exact V3_v5 m ρ c (row1 t (i 0)) (i 1)

/-- The result: the cotangent of the first product. -/
theorem final1 (r : Fin 2048) (q : Fin 4096) : (dat1 (V3 m ρ) c).arrAt 3 cfg1.N (ix2 r q) = grad (h2 m c) (w1 m c) (w2 m c) (ct m c) r q := by
  have h : (dat1 (V3 m ρ) c).arrAt 3 cfg1.N = fun j : S2048x4096.Idx => grad (h2 m c) (w1 m c) (w2 m c) (ct m c) (j 0) (j 1) := by
    refine (dat1 (V3 m ρ) c).arrAt_eq_of_covers 3 _ (by decide +kernel) fun t _ y => ?_
    rw [after1_3]
    have hb : out1_3 (iblk1 (V3 m ρ) c 0 t) (iblk1 (V3 m ρ) c 1 t) (iblk1 (V3 m ρ) c 2 t)
        = k1_pay1 (F := Ideal) (iblk1 (V3 m ρ) c 0 t) (iblk1 (V3 m ρ) c 1 t) (iblk1 (V3 m ρ) c 2 t) := by
      frame_out
    have he : ((cfg1.win 3).blk t).view.emb y = ix2 (row1 t (y 0)) (y 1) := by blk_ext [idx1 t, row1]
    have hx : (cfg1.win 3).xinj (cfg1.grid.coords t) y = ix2 (y 0) (y 1) := by blk_ext
    rw [hb, iblk1_0, iblk1_1, iblk1_2, he, hx]
    exact pay1_apply _ _ _ (y 0) (y 1)
  rw [h]
  rfl

end Cert.Ff2DgradValue

end
-- ==== Proof.Ff2DgradClaim.lean ====
/-
  THE CLAIMS OF `ff2_dgrad`, assembled: the reference's run, and that over the extended reals the kernel's result is the
  reference's at all arguments.
-/
module

public import proofs.«01_k».proof.Defs
public import proofs.«01_k».proof.Proof.Gen.Ff2Dgrad.Frame
public import proofs.«01_k».proof.Proof.Ff2DgradValue
public import Idealize.ShloMosaic.Lib.Quiescent

@[expose] public section

noncomputable section

namespace Cert.Ff2DgradClaim

open Idealize.ShloMosaic Idealize.SL.Sem

/-- The reference runs, its arguments end unchanged and its counters at zero. -/
theorem reference_runs : Cert.quiescent_Ff2DgradRefIdeal := fun m ρ _ =>
  (θ_run Cert.Ff2DgradRefIdeal.defs _ _).mono (fun r h => ⟨fun c => (h c).2, sem_eq_zero_of_no_sems (by decide) r.2⟩)
    (Cert.Ff2DgradRefIdeal.Value.run (F := Ideal) m ρ)

/-- Over the extended reals the kernel's result is the reference's: the cotangent of the first product. -/
theorem algebraic : Cert.algebraic_Ff2DgradIdeal_Ff2DgradRefIdeal := by
  intro m ρ m' ρ' _ hagree
  refine ⟨_, Cert.Ff2DgradRun.run (F := Ideal) m ρ, ?_⟩
  refine (θ_run Cert.Ff2DgradRefIdeal.defs _ _).mono (fun _ h c => ⟨?_, (h c).2⟩) (Cert.Ff2DgradRefIdeal.Value.run (F := Ideal) m' ρ')
  refine ((h c).1.trans (Cert.Ff2DgradRefIdeal.Read.val_main_v14_eq _ _ _ _)).trans ?_
  rw [(hagree c).1, (hagree c).2.1, (hagree c).2.2.1, (hagree c).2.2.2]
  funext j
  rw [eq_ix2 j]
  exact (Ff2DgradReference.v14_apply _ _ _ _ (j 0) (j 1)).trans (Ff2DgradValue.final1 m ρ c (j 0) (j 1)).symm

end Cert.Ff2DgradClaim

end
-- ==== Proof.DgradNorm.lean ====
/-
  A GRADIENT THROUGH A NORM WITH A PRODUCT IN FRONT OF IT, as real numbers: the quantities that both sides of `ff1_dgrad` and
  `in_proj_dgrad` are shown to hold. `K` is the width of the product.
-/
module

public import proofs.«01_k».proof.Proof.Rms

@[expose] public section

noncomputable section

namespace Cert.DgradNorm

open Idealize.ShloMosaic Cert.Reals Cert.Rms

variable {K : ℕ} (f : (⟨2, ![2048, 1024]⟩ : Shape).Idx → ℝ) (g : (⟨1, ![1024]⟩ : Shape).Idx → ℝ)
  (w : (⟨2, ![1024, K]⟩ : Shape).Idx → ℝ) (a : (⟨2, ![2048, K]⟩ : Shape).Idx → ℝ)

/-- A row of the hidden state. -/
def row (r : Fin 2048) : Fin 1024 → ℝ := fun k => f (ix2 r k)

/-- The cotangent of the norm's output: the product's cotangent times the weight's transpose. -/
def back (r : Fin 2048) (k : Fin 1024) : ℝ := ∑ q : Fin K, a (ix2 r q) * w (ix2 k q)

/-- The norm's part of the hidden row's cotangent. -/
def dx (r : Fin 2048) (l : Fin 1024) : ℝ := grad (row f r) (fun k => back w a r k * g (ix1 k)) l

/-- The gradient of the gain. -/
def dg (l : Fin 1024) : ℝ := ∑ r, row f r l * inv (row f r) * back w a r l

end Cert.DgradNorm

end
-- ==== Proof.Ff1DgradReference.lean ====
/-
  THE REFERENCE OF `ff1_dgrad`, as real numbers: what `jax.vjp` of the norm and the product behind it leaves for the hidden
  rows (`main_v39`, the residual's cotangent added) and for the gain (`main_v42`, in row 0 of its block).
-/
module

public import proofs.«01_k».proof.Proof.Gen.Ff1DgradRefIdeal.Read
public import proofs.«01_k».proof.Proof.DgradNorm

@[expose] public section

set_option maxRecDepth 16384

noncomputable section

namespace Cert.Ff1DgradReference

open Cert.Ff1DgradRefIdeal Cert.Ff1DgradRefIdeal.Read Idealize.ShloMosaic Cert.Reals Cert.Rms Cert.DgradNorm

/-- Arrays of reals, as the idealized program holds them. -/
abbrev emb (f : S2048x1024.Idx → ℝ) : (⟨S2048x1024, .f32⟩ : BufTy).Contents (Elt Ideal) := fun i => ((f i : ℝ) : EReal)
abbrev emb1 (g : S1024.Idx → ℝ) : (⟨S1024, .f32⟩ : BufTy).Contents (Elt Ideal) := fun i => ((g i : ℝ) : EReal)
abbrev embw (w : S1024x4096.Idx → ℝ) : (⟨S1024x4096, .f32⟩ : BufTy).Contents (Elt Ideal) := fun i => ((w i : ℝ) : EReal)
abbrev emba (a : S2048x4096.Idx → ℝ) : (⟨S2048x4096, .bf16⟩ : BufTy).Contents (Elt Ideal) := fun i => ((a i : ℝ) : EReal)

variable (f : S2048x1024.Idx → ℝ) (g : S1024.Idx → ℝ) (w : S1024x4096.Idx → ℝ) (a : S2048x4096.Idx → ℝ)
  (d : (⟨S2048x1024, .f32⟩ : BufTy).Contents (Elt Ideal))

/-! ## The row's scale: the same terms in every norm of these shapes -/

/-- The mean square of a row. -/
theorem v6_apply (r : Fin 2048) : val_main_v6 (F := Ideal) (emb f) (ix2 r 0) = ((var (row f r) : ℝ) : EReal) := by
  pointwise [val_main_v6, val_main_v5, val_main_v4, val_main_v3, val_main_v2, val_main_v1, val_main_v0, val_main_cst, val_main_cst_0, val_main_cst_1]
  simp only [ofBits_eps, ofBits_1024, ← EReal.coe_mul, sum_coe, div_coe_coe _ _ (by norm_num : (1024 : ℝ) ≠ 0), ← EReal.coe_add]
  rfl

/-- The reciprocal of its root. -/
theorem v7_apply (r : Fin 2048) : val_main_v7 (F := Ideal) (emb f) (ix2 r 0) = ((inv (row f r) : ℝ) : EReal) := by
  pointwise [val_main_v7]
  rw [v6_apply, rsqrt_coe_pos _ (var_pos _)]; rfl

/-- The derivative of the reciprocal root. -/
theorem v10_apply (r : Fin 2048) : val_main_v10 (F := Ideal) (emb f) (ix2 r 0) = ((-(1 / 2) * (inv (row f r) / var (row f r)) : ℝ) : EReal) := by
  pointwise [val_main_v10, val_main_v9, val_main_cst_2, val_main_v8]
  rw [v6_apply, v7_apply, div_coe_coe _ _ (var_pos _).ne', ofBits_neg_half, ← EReal.coe_mul]

/-- The scaled row. -/
theorem v12_apply (r : Fin 2048) (k : Fin 1024) : val_main_v12 (F := Ideal) (emb f) (ix2 r k) = ((row f r k * inv (row f r) : ℝ) : EReal) := by
  pointwise [val_main_v12, val_main_v11]
  rw [v7_apply, ← EReal.coe_mul]; rfl

/-! ## The cotangents -/

/-- The cotangent of the norm's output. -/
theorem v18_apply (r : Fin 2048) (k : Fin 1024) : val_main_v18 (F := Ideal) (embw w) (emba a) (ix2 r k) = ((back w a r k : ℝ) : EReal) := by
  pointwise [val_main_v18, val_main_v17]
  simp only [← EReal.coe_mul, sum_coe]
  rfl

/-- The cotangent of the scaled row. -/
theorem v23_apply (r : Fin 2048) (k : Fin 1024) :
    val_main_v23 (F := Ideal) (emb1 g) (embw w) (emba a) (ix2 r k) = ((back w a r k * g (ix1 k) : ℝ) : EReal) := by
  pointwise [val_main_v23, val_main_v22, val_main_v13]
  rw [v18_apply, ← EReal.coe_mul]

/-- The derivative's term common to a row. -/
theorem v35_apply (r : Fin 2048) (k : Fin 1024) :
    val_main_v35 (F := Ideal) (emb f) (emb1 g) (embw w) (emba a) (ix2 r k) = ((common (row f r) (fun k => back w a r k * g (ix1 k)) : ℝ) : EReal) := by
  pointwise [val_main_v35, val_main_v34, val_main_cst_7, val_main_v33, val_main_v32, val_main_cst_6, val_main_v31, val_main_v27, val_main_v26, val_main_cst_5, val_main_v25]
  simp only [Fin.sum_univ_one, v23_apply, v10_apply, ← EReal.coe_mul, sum_coe, ofBits_1024, div_coe_coe _ _ (by norm_num : (1024 : ℝ) ≠ 0)]
  rfl

/-- The cotangent of the hidden rows. -/
theorem v39_apply (r : Fin 2048) (l : Fin 1024) :
    val_main_v39 (F := Ideal) (emb f) (emb1 g) (embw w) (emba a) d (ix2 r l) = d (ix2 r l) + ((dx f g w a r l : ℝ) : EReal) := by
  pointwise [val_main_v39, val_main_v38, val_main_v37, val_main_v36, val_main_v30, val_main_v29, val_main_v28]
  rw [v23_apply, v35_apply, v7_apply]
  simp only [← EReal.coe_mul]
  rw [add_assoc, add_assoc, ← EReal.coe_add, ← EReal.coe_add, ← add_assoc]
  rfl

/-- The gradient of the gain, in row 0 of its block; the other rows hold zero. -/
theorem v42_apply (p : Fin 8) (l : Fin 1024) :
    val_main_v42 (F := Ideal) (emb f) (embw w) (emba a) (ix2 p l) = (((if p.val = 0 then dg f w a l else 0) : ℝ) : EReal) := by
  pointwise [val_main_v42, val_main_v41, val_main_v40, val_main_cst_8, val_main_v24, val_main_cst_4, val_main_v21, val_main_v20, val_main_cst_3, val_main_v19]
  simp only [Fin.sum_univ_one, v12_apply, v18_apply, ← EReal.coe_mul, sum_coe, Nat.lt_one_iff]
  split_ifs <;> simp [dg]

end Cert.Ff1DgradReference

end
-- ==== Proof.Ff1DgradValue.lean ====
/-
  THE VALUE OF `ff1_dgrad`: what the kernel's two result arrays hold, as real numbers. The grid walks the hidden state in 4 blocks
  of 512 rows. A block's product is formed in 4 column chunks; its rows' cotangent is stored where it lies, and the gain's
  gradient is summed over the blocks in one output block that stays resident, zeroed at the first point.
-/
module

public import proofs.«01_k».proof.Proof.Gen.Ff1DgradIdeal.Value
public import proofs.«01_k».proof.Proof.DgradNorm
public import Idealize.ShloMosaic.Lib.Pipeline.ValueKit

@[expose] public section

set_option maxRecDepth 16384

noncomputable section

namespace Cert.Ff1DgradValue

open Cert.Ff1DgradIdeal Cert.Ff1DgradIdeal.Gen Idealize.ShloMosaic Idealize.ShloMosaic.TcCoe Idealize.SL.Sem Cert.Reals Cert.Rms Cert.DgradNorm
open Idealize.ShloMosaic.Pipeline (Dat)

/-! ## The norm's gradient on one block, whatever product stands in front of it -/

/-- The number of the `p`-th row of block `t`. -/
def at_ (t : Fin 4) (p : Fin 512) : Fin 2048 := ⟨t.val * 512 + p.val, by omega⟩

/-- Block `t` of an array of rows. -/
abbrev blk (f : Fin 2048 → Fin 1024 → ℝ) (t : Fin 4) : Vec Ideal S512x1024 .f32 := fun i => ((f (at_ t (i 0)) (i 1) : ℝ) : EReal)

/-- The gain as the kernel's one row. -/
abbrev grow (g : S1024.Idx → ℝ) : Vec Ideal S1x1024 .f32 := fun i => ((g (ix1 (i 1)) : ℝ) : EReal)

/-- Rows summed block by block are rows summed. -/
theorem sum_blocks (F : Fin 2048 → ℝ) : ∑ t : Fin 4, ∑ p : Fin 512, F (at_ t p) = ∑ r, F r :=
  Fin.sum_mul_add_fin (S := 4) (n := 512) (L := 2048) F

section Block

variable (x b : Fin 2048 → Fin 1024 → ℝ) (g : S1024.Idx → ℝ) (d : Vec Ideal S512x1024 .f32) (t : Fin 4)

/-- The reciprocal root of a row's mean square. -/
theorem pay5_apply (p : Fin 512) : k0_pay5 (F := Ideal) (blk x t) (ix2 p 0) = ((inv (x (at_ t p)) : ℝ) : EReal) := by
  pointwise [k0_pay5]
  simp only [ofBits_eps, ofBits_1024, ← EReal.coe_mul, sum_coe, div_coe_coe _ _ (by norm_num : (1024 : ℝ) ≠ 0), ← EReal.coe_add]
  exact rsqrt_coe_pos _ (var_pos (x (at_ t p)))

/-- The scaled row. -/
theorem pay6_apply (p : Fin 512) (k : Fin 1024) :
    k0_pay6 (F := Ideal) (blk x t) (ix2 p k) = ((x (at_ t p) k * inv (x (at_ t p)) : ℝ) : EReal) := by
  pointwise [k0_pay6]
  rw [pay5_apply, ← EReal.coe_mul]; rfl

/-- The cotangent of the rows: the residual's and the norm's. -/
theorem pay1_apply (p : Fin 512) (l : Fin 1024) :
    k0_pay1 (F := Ideal) (blk b t) (k0_pay5 (blk x t)) (k0_pay6 (blk x t)) (grow g) d (ix2 p l)
      = d (ix2 p l) + ((grad (x (at_ t p)) (fun k => b (at_ t p) k * g (ix1 k)) l : ℝ) : EReal) := by
  pointwise [k0_pay1]
  simp only [pay6_apply, pay5_apply, ofBits_1024, ← EReal.coe_mul, sum_coe, div_coe_coe _ _ (by norm_num : (1024 : ℝ) ≠ 0), ← EReal.coe_sub]
  rw [← grad_eq]
  rfl

/-- A block's part of the gain's gradient, in row 0 of the output block. -/
def dgPart (t : Fin 4) (p : Fin 8) (l : Fin 1024) : ℝ :=
  if p.val = 0 then ∑ q : Fin 512, x (at_ t q) l * inv (x (at_ t q)) * b (at_ t q) l else 0

theorem pay3_apply (acc : Vec Ideal S8x1024 .f32) (p : Fin 8) (l : Fin 1024) :
    k0_pay3 (F := Ideal) (blk b t) (k0_pay6 (blk x t)) acc (ix2 p l) = acc (ix2 p l) + ((dgPart x b t p l : ℝ) : EReal) := by
  pointwise [k0_pay3]
  simp only [pay6_apply, ← EReal.coe_mul, sum_coe]
  congr 1
  unfold dgPart
  fin_cases p <;> simp [Scalar.select, IntOp.cmpi, mul_comm]

theorem pay3_at (acc : Vec Ideal S8x1024 .f32) (j : S8x1024.Idx) :
    k0_pay3 (F := Ideal) (blk b t) (k0_pay6 (blk x t)) acc j = acc j + ((dgPart x b t (j 0) (j 1) : ℝ) : EReal) := by
  obtain ⟨p, l, rfl⟩ : ∃ (p : Fin 8) (l : Fin 1024), j = ix2 p l := ⟨j 0, j 1, eq_ix2 j⟩
  exact pay3_apply x b t acc p l

/-- The blocks' parts together. -/
theorem sum_dgPart (p : Fin 8) (l : Fin 1024) :
    ∑ t : Fin 4, dgPart x b t p l = if p.val = 0 then ∑ r, x r l * inv (x r) * b r l else 0 := by
  unfold dgPart
  split_ifs
  · exact sum_blocks fun r => x r l * inv (x r) * b r l
  · simp

end Block

/-! ## The product in front of it -/

/-- The number of the `q`-th column of chunk `j`. -/
def col (j : Fin 4) (q : Fin 1024) : Fin 4096 := ⟨j.val * 1024 + q.val, by omega⟩

variable (f : S2048x1024.Idx → ℝ) (g : S1024.Idx → ℝ) (w : S1024x4096.Idx → ℝ) (a : S2048x4096.Idx → ℝ)

/-- Block `t` of the product's cotangent, and the weight in chunks of its columns. -/
abbrev ablk (t : Fin 4) : Vec Ideal S512x4096 .bf16 := fun i => ((a (ix2 (at_ t (i 0)) (i 1)) : ℝ) : EReal)
abbrev wchunks : Vec Ideal S4x1024x1024 .bf16 := fun i => ((w (ix2 (i 1) (col (i 0) (i 2))) : ℝ) : EReal)

/-- One chunk of a block's columns, and of the weight. -/
abbrev acut (t : Fin 4) (j : Fin 4) : Vec Ideal S512x1024 .bf16 := fun i => ((a (ix2 (at_ t (i 0)) (col j (i 1))) : ℝ) : EReal)
abbrev wcut (j : Fin 4) : Vec Ideal S1x1024x1024 .bf16 := fun i => ((w (ix2 (i 1) (col j (i 2))) : ℝ) : EReal)

/-- The four chunks' products add up to the product. -/
theorem pay4_apply (t : Fin 4) (p : Fin 512) (l : Fin 1024) :
    k0_pay4 (F := Ideal) (acut a t 0) (wcut w 0) (acut a t 1) (wcut w 1) (acut a t 2) (wcut w 2) (acut a t 3) (wcut w 3) (ix2 p l)
      = ((back w a (at_ t p) l : ℝ) : EReal) := by
  pointwise [k0_pay4]
  simp only [← EReal.coe_mul, sum_coe, ← EReal.coe_add]
  have h := Fin.sum_mul_add_fin (S := 4) (n := 1024) (L := 4096) fun q => a (ix2 (at_ t p) q) * w (ix2 l q)
  rw [back, ← h, Fin.sum_univ_four]
  rfl

/-- What the body loads of its block of the cotangent: a chunk of columns. -/
theorem acut_eq (t : Fin 4) (j : Fin 4) (o : Fin 2 → ℕ) (ho : o = ![0, j.val * 1024]) (h) :
    View.ld (ablk a t) (Rect.unit o ![512, 1024] h) = acut a t j := by
  subst ho
  funext i
  exact View.ld_unit_apply_of (ablk a t) _ _ h i (ix2 (i 0) (col j (i 1))) fun x => by
    match x with
    | ⟨0, _⟩ => exact (Nat.zero_add _).symm
    | ⟨1, _⟩ => rfl

/-- What it loads of the weight: the chunk of the same columns. -/
theorem wcut_eq (j : Fin 4) (o : Fin 3 → ℕ) (ho : o = ![j.val, 0, 0]) (h) :
    View.ld (wchunks w) (Rect.unit o ![1, 1024, 1024] h) = wcut w j := by
  subst ho
  funext i
  exact View.ld_unit_apply_of (wchunks w) _ _ h i (ix3 j (i 1) (i 2)) fun x => by
    match x with
    | ⟨0, _⟩ => exact (congrArg (j.val + ·) (Nat.lt_one_iff.1 (i 0).isLt)).symm
    | ⟨1, _⟩ => exact (Nat.zero_add _).symm
    | ⟨2, _⟩ => exact (Nat.zero_add _).symm

/-- The product as the body forms it from the blocks it holds. -/
abbrev prod (A : Vec Ideal S512x4096 .bf16) (W : Vec Ideal S4x1024x1024 .bf16) : FVec Ideal S512x1024 .f32 :=
  k0_pay4 (F := Ideal) (View.ld A (Rect.unit ![0, 0] ![512, 1024] inb_S512x4096_S512x1024_0_0))
    (View.ld W (Rect.unit ![0, 0, 0] ![1, 1024, 1024] inb_S4x1024x1024_S1x1024x1024_0_0_0))
    (View.ld A (Rect.unit ![0, 1024] ![512, 1024] inb_S512x4096_S512x1024_0_1024))
    (View.ld W (Rect.unit ![1, 0, 0] ![1, 1024, 1024] inb_S4x1024x1024_S1x1024x1024_1_0_0))
    (View.ld A (Rect.unit ![0, 2048] ![512, 1024] inb_S512x4096_S512x1024_0_2048))
    (View.ld W (Rect.unit ![2, 0, 0] ![1, 1024, 1024] inb_S4x1024x1024_S1x1024x1024_2_0_0))
    (View.ld A (Rect.unit ![0, 3072] ![512, 1024] inb_S512x4096_S512x1024_0_3072))
    (View.ld W (Rect.unit ![3, 0, 0] ![1, 1024, 1024] inb_S4x1024x1024_S1x1024x1024_3_0_0))

theorem prod_eq (t : Fin 4) : prod (ablk a t) (wchunks w) = blk (back w a) t := by
  unfold prod
  rw [acut_eq a t 0 ![0, 0] rfl, acut_eq a t 1 ![0, 1024] rfl, acut_eq a t 2 ![0, 2048] rfl, acut_eq a t 3 ![0, 3072] rfl,
    wcut_eq w 0 ![0, 0, 0] rfl, wcut_eq w 1 ![1, 0, 0] rfl, wcut_eq w 2 ![2, 0, 0] rfl, wcut_eq w 3 ![3, 0, 0] rfl]
  funext i
  obtain ⟨p, l, rfl⟩ : ∃ (p : Fin 512) (l : Fin 1024), i = ix2 p l := ⟨i 0, i 1, eq_ix2 i⟩
  exact pay4_apply w a t p l

/-! ## The blocks of the argument arrays -/

/-- The windows' block indices at a point. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ) (c : Dev nD)

/-- A point of the grid as the number of its block. -/
def pt (t : Fin cfg0.N) : Fin 4 := ⟨t.val, lt_of_lt_of_eq t.isLt N_0⟩

/-- The residual's cotangent, and a block of its rows. -/
abbrev dres : S2048x1024.Idx → EReal := m ((c : Thread nD τ).loc main_arg4)
abbrev dblk (t : Fin 4) : Vec Ideal S512x1024 .f32 := fun i => dres m c (ix2 (at_ t (i 0)) (i 1))

variable (hf : m ((c : Thread nD τ).loc main_arg0) = fun i => ((f i : ℝ) : EReal))
  (hg : m ((c : Thread nD τ).loc main_arg1) = fun i => ((g i : ℝ) : EReal))
  (hw : m ((c : Thread nD τ).loc main_arg2) = fun i => ((w i : ℝ) : EReal))
  (ha : m ((c : Thread nD τ).loc main_arg3) = fun i => ((a i : ℝ) : EReal))

include ha in
theorem iblk0 (t : Fin cfg0.N) : iblk m c 0 t = ablk a (pt t) := by
  funext i
  unfold iblk
  entry_read
  rw [ha]
  have he : ((cfg0.win 0).blk t).view.emb i = ix2 (at_ (pt t) (i 0)) (i 1) := by blk_ext [idx t, at_, pt]
  rw [View.read_apply, he]
  rfl

include hw in
theorem iblk1 (t : Fin cfg0.N) : iblk m c 1 t = wchunks w := by
  funext i
  unfold iblk
  entry_read
  rw [hw]
  have he : ((cfg0.win 1).blk t).view.emb i = ix3 (i 0) (i 1) (i 2) := by blk_ext [idx t]
  rw [View.read_apply, he]
  pointwise
  rfl

include hf in
theorem iblk2 (t : Fin cfg0.N) : iblk m c 2 t = blk (row f) (pt t) := by
  funext i
  unfold iblk
  entry_read
  rw [hf]
  have he : ((cfg0.win 2).blk t).view.emb i = ix2 (at_ (pt t) (i 0)) (i 1) := by blk_ext [idx t, at_, pt]
  rw [View.read_apply, he]
  rfl

include hg in
theorem iblk3 (t : Fin cfg0.N) : iblk m c 3 t = grow g := by
  funext i
  unfold iblk
  entry_read
  rw [hg]
  have he : ((cfg0.win 3).blk t).view.emb i = ix2 0 (i 1) := by blk_ext [idx t]
  rw [View.read_apply, he]
  pointwise
  rfl

theorem iblk4 (t : Fin cfg0.N) : iblk m c 4 t = dblk m c (pt t) := by
  funext i
  unfold iblk
  entry_read
  have he : ((cfg0.win 4).blk t).view.emb i = ix2 (at_ (pt t) (i 0)) (i 1) := by blk_ext [idx t, at_, pt]
  rw [View.read_apply, he]
  rfl

/-! ## The result arrays -/

include hf hg hw ha

/-- The cotangent of the hidden rows: each point stores its block's. -/
theorem final5 (r : Fin 2048) (l : Fin 1024) :
    (dats m 0 c).arrAt 5 cfg0.N (ix2 r l) = dres m c (ix2 r l) + ((dx f g w a r l : ℝ) : EReal) := by
  have h : (dats m 0 c).arrAt 5 cfg0.N = fun j : S2048x1024.Idx => dres m c (ix2 (j 0) (j 1)) + ((dx f g w a (j 0) (j 1) : ℝ) : EReal) := by
    refine (dats m 0 c).arrAt_eq_of_covers 5 _ (by decide +kernel) fun t _ y => ?_
    rw [after0_5]
    have hb : (outsAt0 m c t.val t.isLt).1
        = k0_pay1 (F := Ideal) (prod (iblk m c 0 t) (iblk m c 1 t)) (k0_pay5 (iblk m c 2 t)) (k0_pay6 (iblk m c 2 t)) (iblk m c 3 t) (iblk m c 4 t) := by
      by_cases h : t.val % 4 = 0
      · rw [outsAt0_A m c t h]; frame_out
      · rw [outsAt0_B m c t h]; frame_out
    have he : ((cfg0.win 5).blk t).view.emb y = ix2 (at_ (pt t) (y 0)) (y 1) := by blk_ext [idx t, at_, pt]
    have hx : (cfg0.win 5).xinj (cfg0.grid.coords t) y = ix2 (y 0) (y 1) := by blk_ext
    rw [hb, iblk0 a m c ha, iblk1 w m c hw, iblk2 f m c hf, iblk3 g m c hg, iblk4 m c, prod_eq, he, hx]
    exact pay1_apply (row f) (back w a) g (dblk m c (pt t)) (pt t) (y 0) (y 1)
  rw [h]
  rfl

/-- The sum of the blocks' parts of the gain's gradient, after the last point. -/
theorem outs6 (j : S8x1024.Idx) : (outsAt0 m c t0_3.val t0_3.isLt).2 j = (((if (j 0).val = 0 then dg f w a (j 1) else 0) : ℝ) : EReal) := by
  rw [Pipeline.eq_sum_fin_of_reset_step_apply_last (fun n h => (outsAt0 m c n h).2) 4 (fun _ => 0)
    (fun t j => ((dgPart (row f) (back w a) (pt t) (j 0) (j 1) : ℝ) : EReal))
    (fun t h j => by
      rw [outsAt0_A m c t h]; frame_out
      show k0_pay3 (F := Ideal) (prod (iblk m c 0 t) (iblk m c 1 t)) (k0_pay6 (iblk m c 2 t)) (k0_pay2 (F := Ideal)) j = _
      rw [iblk0 a m c ha, iblk1 w m c hw, iblk2 f m c hf, prod_eq, pay3_at]
      pointwise [k0_pay2])
    (fun t h j => by
      rw [outsAt0_B m c t h]; frame_out
      show k0_pay3 (F := Ideal) (prod (iblk m c 0 t) (iblk m c 1 t)) (k0_pay6 (iblk m c 2 t)) _ j = _
      rw [iblk0 a m c ha, iblk1 w m c hw, iblk2 f m c hf, prod_eq, pay3_at])
    (le_of_eq N_0) t0_3 rfl j, zero_add, sum_coe]
  exact congrArg _ (sum_dgPart (row f) (back w a) (j 0) (j 1))

/-- The gain's gradient. -/
theorem final6 (p : Fin 8) (l : Fin 1024) : (dats m 0 c).arrAt 6 cfg0.N (ix2 p l) = (((if p.val = 0 then dg f w a l else 0) : ℝ) : EReal) := by
  refine (congrFun ((dats m 0 c).arrAt_eq_of_after_last 6 t0_3 (by decide +kernel) (G := fun j : S8x1024.Idx => (((if (j 0).val = 0 then dg f w a (j 1) else 0) : ℝ) : EReal)) fun j => ?_) _)
  rw [after0_6]
  exact outs6 f g w a m c hf hg hw ha _

end Cert.Ff1DgradValue

end
-- ==== Proof.Ff1DgradClaim.lean ====
/-
  THE CLAIMS OF `ff1_dgrad`, assembled: the reference's run, and that over the extended reals the kernel's two results are the
  reference's when the hidden rows, the gain, the weight and the product's cotangent are finite.
-/
module

public import proofs.«01_k».proof.Defs
public import proofs.«01_k».proof.Proof.Gen.Ff1Dgrad.Frame
public import proofs.«01_k».proof.Proof.Ff1DgradReference
public import proofs.«01_k».proof.Proof.Ff1DgradValue
public import Idealize.ShloMosaic.Lib.Quiescent

@[expose] public section

noncomputable section

namespace Cert.Ff1DgradClaim

open Idealize.ShloMosaic Idealize.SL.Sem Cert.Reals

/-- The side condition of the precondition's operations. -/
theorem pre_facts : Cert.Pre_dgrad_finite.Facts := ⟨by decide, by decide, by decide, by decide, by decide⟩

attribute [local instance] pre_facts

/-- The reference runs, its arguments end unchanged and its counters at zero. -/
theorem reference_runs : Cert.quiescent_Ff1DgradRefIdeal := fun m ρ _ =>
  (θ_run Cert.Ff1DgradRefIdeal.defs _ _).mono (fun r h => ⟨fun c => (h c).2.2, sem_eq_zero_of_no_sems (by decide) r.2⟩)
    (Cert.Ff1DgradRefIdeal.Value.run (F := Ideal) m ρ)

/-- Over the extended reals the kernel's results are the reference's: the cotangent of the hidden rows and the gradient of the gain. -/
theorem algebraic : Cert.algebraic_Ff1DgradIdeal_Ff1DgradRefIdeal_pre_dgrad_finite := by
  intro m ρ m' ρ' hpre hagree
  refine ⟨_, _, Cert.Ff1DgradIdeal.Value.run_blocks (F := Ideal) m ρ, ?_⟩
  refine (θ_run Cert.Ff1DgradRefIdeal.defs _ _).mono (fun _ h c => ⟨?_, ?_, (h c).2.2⟩) (Cert.Ff1DgradRefIdeal.Value.run (F := Ideal) m' ρ')
  all_goals
    obtain ⟨hp0, hp1, hp2, hp3⟩ := hpre c
    obtain ⟨f, hf⟩ := reals_of_finite _ _ _ hp0
    obtain ⟨g, hg⟩ := reals_of_finite _ _ _ hp1
    obtain ⟨w, hw⟩ := reals_of_finite _ _ _ hp2
    obtain ⟨a, ha⟩ := reals_of_finite _ _ _ hp3
    replace ha : m ((c.tc : Thread Cert.Ff1DgradIdeal.nD Cert.Ff1DgradIdeal.τ).loc Cert.Ff1DgradIdeal.main_arg3) = fun i => ((a i : ℝ) : EReal) := ha
  · refine ((h c).1.trans (Cert.Ff1DgradRefIdeal.Read.val_main_v39_eq m' c)).trans ?_
    rw [(hagree c).1, (hagree c).2.1, (hagree c).2.2.1, (hagree c).2.2.2.1, (hagree c).2.2.2.2, hf, hg, hw, ha]
    funext j
    rw [eq_ix2 j]
    exact (Ff1DgradReference.v39_apply f g w a _ (j 0) (j 1)).trans (Ff1DgradValue.final5 f g w a m c hf hg hw ha (j 0) (j 1)).symm
  · refine ((h c).2.1.trans (Cert.Ff1DgradRefIdeal.Read.val_main_v42_eq _ _ _)).trans ?_
    rw [(hagree c).1, (hagree c).2.2.1, (hagree c).2.2.2.1, hf, hw, ha]
    funext j
    rw [eq_ix2 j]
    exact (Ff1DgradReference.v42_apply f w a (j 0) (j 1)).trans (Ff1DgradValue.final6 f g w a m c hf hg hw ha (j 0) (j 1)).symm

end Cert.Ff1DgradClaim

end
-- ==== Proof.InDgradReference.lean ====
/-
  THE REFERENCE OF `in_proj_dgrad`, as real numbers. The row's scale is the same term as in `ff1_dgrad`'s reference; the product
  behind the norm is wider.
-/
module

public import proofs.«01_k».proof.Proof.Gen.InDgradRefIdeal.Read
public import proofs.«01_k».proof.Proof.Ff1DgradReference

@[expose] public section

set_option maxRecDepth 16384

noncomputable section

namespace Cert.InDgradReference

open Cert.InDgradRefIdeal Cert.InDgradRefIdeal.Read Idealize.ShloMosaic Cert.Reals Cert.Rms Cert.DgradNorm
open Cert.Ff1DgradReference (emb emb1)

/-- Arrays of reals, as the idealized program holds them. -/
abbrev embw (w : S1024x7680.Idx → ℝ) : (⟨S1024x7680, .f32⟩ : BufTy).Contents (Elt Ideal) := fun i => ((w i : ℝ) : EReal)
abbrev emba (a : S2048x7680.Idx → ℝ) : (⟨S2048x7680, .bf16⟩ : BufTy).Contents (Elt Ideal) := fun i => ((a i : ℝ) : EReal)

variable (f : S2048x1024.Idx → ℝ) (g : S1024.Idx → ℝ) (w : S1024x7680.Idx → ℝ) (a : S2048x7680.Idx → ℝ)
  (d : (⟨S2048x1024, .f32⟩ : BufTy).Contents (Elt Ideal))

/-- The reciprocal root of a row's mean square, its derivative, and the scaled row. -/
theorem v7_apply (r : Fin 2048) : val_main_v7 (F := Ideal) (emb f) (ix2 r 0) = ((inv (row f r) : ℝ) : EReal) := Ff1DgradReference.v7_apply f r
theorem v10_apply (r : Fin 2048) : val_main_v10 (F := Ideal) (emb f) (ix2 r 0) = ((-(1 / 2) * (inv (row f r) / var (row f r)) : ℝ) : EReal) :=
  Ff1DgradReference.v10_apply f r
theorem v12_apply (r : Fin 2048) (k : Fin 1024) : val_main_v12 (F := Ideal) (emb f) (ix2 r k) = ((row f r k * inv (row f r) : ℝ) : EReal) :=
  Ff1DgradReference.v12_apply f r k

/-- The cotangent of the norm's output. -/
theorem v18_apply (r : Fin 2048) (k : Fin 1024) : val_main_v18 (F := Ideal) (embw w) (emba a) (ix2 r k) = ((back w a r k : ℝ) : EReal) := by
  pointwise [val_main_v18, val_main_v17]
  simp only [← EReal.coe_mul, sum_coe]
  rfl

/-- The cotangent of the scaled row. -/
theorem v23_apply (r : Fin 2048) (k : Fin 1024) :
    val_main_v23 (F := Ideal) (emb1 g) (embw w) (emba a) (ix2 r k) = ((back w a r k * g (ix1 k) : ℝ) : EReal) := by
  pointwise [val_main_v23, val_main_v22, val_main_v13]
  rw [v18_apply, ← EReal.coe_mul]

/-- The derivative's term common to a row. -/
theorem v35_apply (r : Fin 2048) (k : Fin 1024) :
    val_main_v35 (F := Ideal) (emb f) (emb1 g) (embw w) (emba a) (ix2 r k) = ((common (row f r) (fun k => back w a r k * g (ix1 k)) : ℝ) : EReal) := by
  pointwise [val_main_v35, val_main_v34, val_main_cst_7, val_main_v33, val_main_v32, val_main_cst_6, val_main_v31, val_main_v27, val_main_v26, val_main_cst_5, val_main_v25]
  simp only [Fin.sum_univ_one, v23_apply, v10_apply, ← EReal.coe_mul, sum_coe, ofBits_1024, div_coe_coe _ _ (by norm_num : (1024 : ℝ) ≠ 0)]
  rfl

/-- The cotangent of the hidden rows. -/
theorem v39_apply (r : Fin 2048) (l : Fin 1024) :
    val_main_v39 (F := Ideal) (emb f) (emb1 g) (embw w) (emba a) d (ix2 r l) = d (ix2 r l) + ((dx f g w a r l : ℝ) : EReal) := by
  pointwise [val_main_v39, val_main_v38, val_main_v37, val_main_v36, val_main_v30, val_main_v29, val_main_v28]
  rw [v23_apply, v35_apply, v7_apply]
  simp only [← EReal.coe_mul]
  rw [add_assoc, add_assoc, ← EReal.coe_add, ← EReal.coe_add, ← add_assoc]
  rfl

/-- The gradient of the gain, in row 0 of its block; the other rows hold zero. -/
theorem v42_apply (p : Fin 8) (l : Fin 1024) :
    val_main_v42 (F := Ideal) (emb f) (embw w) (emba a) (ix2 p l) = (((if p.val = 0 then dg f w a l else 0) : ℝ) : EReal) := by
  pointwise [val_main_v42, val_main_v41, val_main_v40, val_main_cst_8, val_main_v24, val_main_cst_4, val_main_v21, val_main_v20, val_main_cst_3, val_main_v19]
  simp only [Fin.sum_univ_one, v12_apply, v18_apply, ← EReal.coe_mul, sum_coe, Nat.lt_one_iff]
  split_ifs <;> simp [dg]

end Cert.InDgradReference

end
-- ==== Proof.InDgradValue.lean ====
/-
  THE VALUE OF `in_proj_dgrad`: what the kernel's two result arrays hold, as real numbers. The norm's part of the body is that of
  `ff1_dgrad`, whose lemmas are used; the product in front of it is 7680 wide and formed in 4 chunks of 1920 columns.
-/
module

public import proofs.«01_k».proof.Proof.Gen.InDgradIdeal.Value
public import proofs.«01_k».proof.Proof.Ff1DgradValue

@[expose] public section

set_option maxRecDepth 16384

noncomputable section

namespace Cert.InDgradValue

open Cert.InDgradIdeal Cert.InDgradIdeal.Gen Idealize.ShloMosaic Idealize.ShloMosaic.TcCoe Idealize.SL.Sem Cert.Reals Cert.Rms Cert.DgradNorm
open Idealize.ShloMosaic.Pipeline (Dat)
open Cert.Ff1DgradValue (at_ blk grow dgPart sum_dgPart)

/-! ## The norm's gradient on one block: the payloads are `ff1_dgrad`'s -/

theorem pay1_apply (x b : Fin 2048 → Fin 1024 → ℝ) (g : S1024.Idx → ℝ) (d : Vec Ideal S512x1024 .f32) (t : Fin 4) (p : Fin 512) (l : Fin 1024) :
    k0_pay1 (F := Ideal) (blk b t) (k0_pay5 (blk x t)) (k0_pay6 (blk x t)) (grow g) d (ix2 p l)
      = d (ix2 p l) + ((grad (x (at_ t p)) (fun k => b (at_ t p) k * g (ix1 k)) l : ℝ) : EReal) := Ff1DgradValue.pay1_apply x b g d t p l

theorem pay3_at (x b : Fin 2048 → Fin 1024 → ℝ) (t : Fin 4) (acc : Vec Ideal S8x1024 .f32) (j : S8x1024.Idx) :
    k0_pay3 (F := Ideal) (blk b t) (k0_pay6 (blk x t)) acc j = acc j + ((dgPart x b t (j 0) (j 1) : ℝ) : EReal) := Ff1DgradValue.pay3_at x b t acc j

/-! ## The product in front of it -/

/-- The number of the `q`-th column of chunk `j`. -/
def col (j : Fin 4) (q : Fin 1920) : Fin 7680 := ⟨j.val * 1920 + q.val, by omega⟩

variable (f : S2048x1024.Idx → ℝ) (g : S1024.Idx → ℝ) (w : S1024x7680.Idx → ℝ) (a : S2048x7680.Idx → ℝ)

/-- Block `t` of the product's cotangent, and the weight in chunks of its columns. -/
abbrev ablk (t : Fin 4) : Vec Ideal S512x7680 .bf16 := fun i => ((a (ix2 (at_ t (i 0)) (i 1)) : ℝ) : EReal)
abbrev wchunks : Vec Ideal S4x1024x1920 .bf16 := fun i => ((w (ix2 (i 1) (col (i 0) (i 2))) : ℝ) : EReal)

/-- One chunk of a block's columns, and of the weight. -/
abbrev acut (t : Fin 4) (j : Fin 4) : Vec Ideal S512x1920 .bf16 := fun i => ((a (ix2 (at_ t (i 0)) (col j (i 1))) : ℝ) : EReal)
abbrev wcut (j : Fin 4) : Vec Ideal S1x1024x1920 .bf16 := fun i => ((w (ix2 (i 1) (col j (i 2))) : ℝ) : EReal)

/-- The four chunks' products add up to the product. -/
theorem pay4_apply (t : Fin 4) (p : Fin 512) (l : Fin 1024) :
    k0_pay4 (F := Ideal) (acut a t 0) (wcut w 0) (acut a t 1) (wcut w 1) (acut a t 2) (wcut w 2) (acut a t 3) (wcut w 3) (ix2 p l)
      = ((back w a (at_ t p) l : ℝ) : EReal) := by
  pointwise [k0_pay4]
  simp only [← EReal.coe_mul, sum_coe, ← EReal.coe_add]
  have h := Fin.sum_mul_add_fin (S := 4) (n := 1920) (L := 7680) fun q => a (ix2 (at_ t p) q) * w (ix2 l q)
  rw [back, ← h, Fin.sum_univ_four]
  rfl

/-- What the body loads of its block of the cotangent: a chunk of columns. -/
theorem acut_eq (t : Fin 4) (j : Fin 4) (o : Fin 2 → ℕ) (ho : o = ![0, j.val * 1920]) (h) :
    View.ld (ablk a t) (Rect.unit o ![512, 1920] h) = acut a t j := by
  subst ho
  funext i
  exact View.ld_unit_apply_of (ablk a t) _ _ h i (ix2 (i 0) (col j (i 1))) fun x => by
    match x with
    | ⟨0, _⟩ => exact (Nat.zero_add _).symm
    | ⟨1, _⟩ => rfl

/-- What it loads of the weight: the chunk of the same columns. -/
theorem wcut_eq (j : Fin 4) (o : Fin 3 → ℕ) (ho : o = ![j.val, 0, 0]) (h) :
    View.ld (wchunks w) (Rect.unit o ![1, 1024, 1920] h) = wcut w j := by
  subst ho
  funext i
  exact View.ld_unit_apply_of (wchunks w) _ _ h i (ix3 j (i 1) (i 2)) fun x => by
    match x with
    | ⟨0, _⟩ => exact (congrArg (j.val + ·) (Nat.lt_one_iff.1 (i 0).isLt)).symm
    | ⟨1, _⟩ => exact (Nat.zero_add _).symm
    | ⟨2, _⟩ => exact (Nat.zero_add _).symm

/-- The product as the body forms it from the blocks it holds. -/
abbrev prod (A : Vec Ideal S512x7680 .bf16) (W : Vec Ideal S4x1024x1920 .bf16) : FVec Ideal S512x1024 .f32 :=
  k0_pay4 (F := Ideal) (View.ld A (Rect.unit ![0, 0] ![512, 1920] inb_S512x7680_S512x1920_0_0))
    (View.ld W (Rect.unit ![0, 0, 0] ![1, 1024, 1920] inb_S4x1024x1920_S1x1024x1920_0_0_0))
    (View.ld A (Rect.unit ![0, 1920] ![512, 1920] inb_S512x7680_S512x1920_0_1920))
    (View.ld W (Rect.unit ![1, 0, 0] ![1, 1024, 1920] inb_S4x1024x1920_S1x1024x1920_1_0_0))
    (View.ld A (Rect.unit ![0, 3840] ![512, 1920] inb_S512x7680_S512x1920_0_3840))
    (View.ld W (Rect.unit ![2, 0, 0] ![1, 1024, 1920] inb_S4x1024x1920_S1x1024x1920_2_0_0))
    (View.ld A (Rect.unit ![0, 5760] ![512, 1920] inb_S512x7680_S512x1920_0_5760))
    (View.ld W (Rect.unit ![3, 0, 0] ![1, 1024, 1920] inb_S4x1024x1920_S1x1024x1920_3_0_0))

theorem prod_eq (t : Fin 4) : prod (ablk a t) (wchunks w) = blk (back w a) t := by
  unfold prod
  rw [acut_eq a t 0 ![0, 0] rfl, acut_eq a t 1 ![0, 1920] rfl, acut_eq a t 2 ![0, 3840] rfl, acut_eq a t 3 ![0, 5760] rfl,
    wcut_eq w 0 ![0, 0, 0] rfl, wcut_eq w 1 ![1, 0, 0] rfl, wcut_eq w 2 ![2, 0, 0] rfl, wcut_eq w 3 ![3, 0, 0] rfl]
  funext i
  obtain ⟨p, l, rfl⟩ : ∃ (p : Fin 512) (l : Fin 1024), i = ix2 p l := ⟨i 0, i 1, eq_ix2 i⟩
  exact pay4_apply w a t p l

/-! ## The blocks of the argument arrays -/

/-- The windows' block indices at a point. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ) (c : Dev nD)

/-- A point of the grid as the number of its block. -/
def pt (t : Fin cfg0.N) : Fin 4 := ⟨t.val, lt_of_lt_of_eq t.isLt N_0⟩

/-- The residual's cotangent, and a block of its rows. -/
abbrev dres : S2048x1024.Idx → EReal := m ((c : Thread nD τ).loc main_arg4)
abbrev dblk (t : Fin 4) : Vec Ideal S512x1024 .f32 := fun i => dres m c (ix2 (at_ t (i 0)) (i 1))

variable (hf : m ((c : Thread nD τ).loc main_arg0) = fun i => ((f i : ℝ) : EReal))
  (hg : m ((c : Thread nD τ).loc main_arg1) = fun i => ((g i : ℝ) : EReal))
  (hw : m ((c : Thread nD τ).loc main_arg2) = fun i => ((w i : ℝ) : EReal))
  (ha : m ((c : Thread nD τ).loc main_arg3) = fun i => ((a i : ℝ) : EReal))

include ha in
theorem iblk0 (t : Fin cfg0.N) : iblk m c 0 t = ablk a (pt t) := by
  funext i
  unfold iblk
  entry_read
  rw [ha]
  have he : ((cfg0.win 0).blk t).view.emb i = ix2 (at_ (pt t) (i 0)) (i 1) := by blk_ext [idx t, at_, pt]
  rw [View.read_apply, he]
  rfl

include hw in
theorem iblk1 (t : Fin cfg0.N) : iblk m c 1 t = wchunks w := by
  funext i
  unfold iblk
  entry_read
  rw [hw]
  have he : ((cfg0.win 1).blk t).view.emb i = ix3 (i 0) (i 1) (i 2) := by blk_ext [idx t]
  rw [View.read_apply, he]
  pointwise
  rfl

include hf in
theorem iblk2 (t : Fin cfg0.N) : iblk m c 2 t = blk (row f) (pt t) := by
  funext i
  unfold iblk
  entry_read
  rw [hf]
  have he : ((cfg0.win 2).blk t).view.emb i = ix2 (at_ (pt t) (i 0)) (i 1) := by blk_ext [idx t, at_, pt]
  rw [View.read_apply, he]
  rfl

include hg in
theorem iblk3 (t : Fin cfg0.N) : iblk m c 3 t = grow g := by
  funext i
  unfold iblk
  entry_read
  rw [hg]
  have he : ((cfg0.win 3).blk t).view.emb i = ix2 0 (i 1) := by blk_ext [idx t]
  rw [View.read_apply, he]
  pointwise
  rfl

theorem iblk4 (t : Fin cfg0.N) : iblk m c 4 t = dblk m c (pt t) := by
  funext i
  unfold iblk
  entry_read
  have he : ((cfg0.win 4).blk t).view.emb i = ix2 (at_ (pt t) (i 0)) (i 1) := by blk_ext [idx t, at_, pt]
  rw [View.read_apply, he]
  rfl

/-! ## The result arrays -/

include hf hg hw ha

/-- The cotangent of the hidden rows: each point stores its block's. -/
theorem final5 (r : Fin 2048) (l : Fin 1024) :
    (dats m 0 c).arrAt 5 cfg0.N (ix2 r l) = dres m c (ix2 r l) + ((dx f g w a r l : ℝ) : EReal) := by
  have h : (dats m 0 c).arrAt 5 cfg0.N = fun j : S2048x1024.Idx => dres m c (ix2 (j 0) (j 1)) + ((dx f g w a (j 0) (j 1) : ℝ) : EReal) := by
    refine (dats m 0 c).arrAt_eq_of_covers 5 _ (by decide +kernel) fun t _ y => ?_
    rw [after0_5]
    have hb : (outsAt0 m c t.val t.isLt).1
        = k0_pay1 (F := Ideal) (prod (iblk m c 0 t) (iblk m c 1 t)) (k0_pay5 (iblk m c 2 t)) (k0_pay6 (iblk m c 2 t)) (iblk m c 3 t) (iblk m c 4 t) := by
      by_cases h : t.val % 4 = 0
      · rw [outsAt0_A m c t h]; frame_out
      · rw [outsAt0_B m c t h]; frame_out
    have he : ((cfg0.win 5).blk t).view.emb y = ix2 (at_ (pt t) (y 0)) (y 1) := by blk_ext [idx t, at_, pt]
    have hx : (cfg0.win 5).xinj (cfg0.grid.coords t) y = ix2 (y 0) (y 1) := by blk_ext
    rw [hb, iblk0 a m c ha, iblk1 w m c hw, iblk2 f m c hf, iblk3 g m c hg, iblk4 m c, prod_eq, he, hx]
    exact pay1_apply (row f) (back w a) g (dblk m c (pt t)) (pt t) (y 0) (y 1)
  rw [h]
  rfl

/-- The sum of the blocks' parts of the gain's gradient, after the last point. -/
theorem outs6 (j : S8x1024.Idx) : (outsAt0 m c t0_3.val t0_3.isLt).2 j = (((if (j 0).val = 0 then dg f w a (j 1) else 0) : ℝ) : EReal) := by
  rw [Pipeline.eq_sum_fin_of_reset_step_apply_last (fun n h => (outsAt0 m c n h).2) 4 (fun _ => 0)
    (fun t j => ((dgPart (row f) (back w a) (pt t) (j 0) (j 1) : ℝ) : EReal))
    (fun t h j => by
      rw [outsAt0_A m c t h]; frame_out
      show k0_pay3 (F := Ideal) (prod (iblk m c 0 t) (iblk m c 1 t)) (k0_pay6 (iblk m c 2 t)) (k0_pay2 (F := Ideal)) j = _
      rw [iblk0 a m c ha, iblk1 w m c hw, iblk2 f m c hf, prod_eq, pay3_at]
      pointwise [k0_pay2])
    (fun t h j => by
      rw [outsAt0_B m c t h]; frame_out
      show k0_pay3 (F := Ideal) (prod (iblk m c 0 t) (iblk m c 1 t)) (k0_pay6 (iblk m c 2 t)) _ j = _
      rw [iblk0 a m c ha, iblk1 w m c hw, iblk2 f m c hf, prod_eq, pay3_at])
    (le_of_eq N_0) t0_3 rfl j, zero_add, sum_coe]
  exact congrArg _ (sum_dgPart (row f) (back w a) (j 0) (j 1))

/-- The gain's gradient. -/
theorem final6 (p : Fin 8) (l : Fin 1024) : (dats m 0 c).arrAt 6 cfg0.N (ix2 p l) = (((if p.val = 0 then dg f w a l else 0) : ℝ) : EReal) := by
  refine (congrFun ((dats m 0 c).arrAt_eq_of_after_last 6 t0_3 (by decide +kernel) (G := fun j : S8x1024.Idx => (((if (j 0).val = 0 then dg f w a (j 1) else 0) : ℝ) : EReal)) fun j => ?_) _)
  rw [after0_6]
  exact outs6 f g w a m c hf hg hw ha _

end Cert.InDgradValue

end
-- ==== Proof.InDgradClaim.lean ====
/-
  THE CLAIMS OF `in_proj_dgrad`, assembled: the reference's run, and that over the extended reals the kernel's two results are the
  reference's when the hidden rows, the gain, the weight and the product's cotangent are finite.
-/
module

public import proofs.«01_k».proof.Defs
public import proofs.«01_k».proof.Proof.Gen.InDgrad.Frame
public import proofs.«01_k».proof.Proof.InDgradReference
public import proofs.«01_k».proof.Proof.InDgradValue
public import Idealize.ShloMosaic.Lib.Quiescent

@[expose] public section

noncomputable section

namespace Cert.InDgradClaim

open Idealize.ShloMosaic Idealize.SL.Sem Cert.Reals

/-- The side condition of the precondition's operations. -/
theorem pre_facts : Cert.Pre_in_dgrad_finite.Facts := ⟨by decide, by decide, by decide, by decide, by decide⟩

attribute [local instance] pre_facts

/-- The reference runs, its arguments end unchanged and its counters at zero. -/
theorem reference_runs : Cert.quiescent_InDgradRefIdeal := fun m ρ _ =>
  (θ_run Cert.InDgradRefIdeal.defs _ _).mono (fun r h => ⟨fun c => (h c).2.2, sem_eq_zero_of_no_sems (by decide) r.2⟩)
    (Cert.InDgradRefIdeal.Value.run (F := Ideal) m ρ)

/-- Over the extended reals the kernel's results are the reference's: the cotangent of the hidden rows and the gradient of the gain. -/
theorem algebraic : Cert.algebraic_InDgradIdeal_InDgradRefIdeal_pre_in_dgrad_finite := by
  intro m ρ m' ρ' hpre hagree
  refine ⟨_, _, Cert.InDgradIdeal.Value.run_blocks (F := Ideal) m ρ, ?_⟩
  refine (θ_run Cert.InDgradRefIdeal.defs _ _).mono (fun _ h c => ⟨?_, ?_, (h c).2.2⟩) (Cert.InDgradRefIdeal.Value.run (F := Ideal) m' ρ')
  all_goals
    obtain ⟨hp0, hp1, hp2, hp3⟩ := hpre c
    obtain ⟨f, hf⟩ := reals_of_finite _ _ _ hp0
    obtain ⟨g, hg⟩ := reals_of_finite _ _ _ hp1
    obtain ⟨w, hw⟩ := reals_of_finite _ _ _ hp2
    obtain ⟨a, ha⟩ := reals_of_finite _ _ _ hp3
    replace ha : m ((c.tc : Thread Cert.InDgradIdeal.nD Cert.InDgradIdeal.τ).loc Cert.InDgradIdeal.main_arg3) = fun i => ((a i : ℝ) : EReal) := ha
  · refine ((h c).1.trans (Cert.InDgradRefIdeal.Read.val_main_v39_eq m' c)).trans ?_
    rw [(hagree c).1, (hagree c).2.1, (hagree c).2.2.1, (hagree c).2.2.2.1, (hagree c).2.2.2.2, hf, hg, hw, ha]
    funext j
    rw [eq_ix2 j]
    exact (InDgradReference.v39_apply f g w a _ (j 0) (j 1)).trans (InDgradValue.final5 f g w a m c hf hg hw ha (j 0) (j 1)).symm
  · refine ((h c).2.1.trans (Cert.InDgradRefIdeal.Read.val_main_v42_eq _ _ _)).trans ?_
    rw [(hagree c).1, (hagree c).2.2.1, (hagree c).2.2.2.1, hf, hw, ha]
    funext j
    rw [eq_ix2 j]
    exact (InDgradReference.v42_apply f w a (j 0) (j 1)).trans (InDgradValue.final6 f g w a m c hf hg hw ha (j 0) (j 1)).symm

end Cert.InDgradClaim

end
-- ==== Proof.ConvBwdBody.lean ====
module

public import proofs.«01_k».proof.Proof.Gen.ConvBwdIdeal.Skeleton
public import proofs.«01_k».proof.Proof.Gen.ConvBwdIdeal.Frame
public import Idealize.ShloMosaic.Lib.Pipeline.ValueKit
public import Idealize.ShloMosaic.Lib.VecWindow

/-! What one grid point of the gated convolution's backward kernel leaves behind.

The grid runs over the two row blocks and, within each, over the three column groups of the result. At a row block's first
group the kernel computes everything: the gradient of the first gate goes out, the gradients of the other two columns go to
a scratch array and the taps' gradient is added to. At the other two groups it copies the stashed gradients out. -/

@[expose] public section

set_option maxRecDepth 16384

noncomputable section

namespace Cert.ConvBwdIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ConvBwdIdeal.Gen

variable {F : FTy → Type} [FloatOps F]

local notation "𝕄" => MT nD τ sig Unit (Elt F) ℕ (UR sig nD τ) ℕ

section Values

variable (i : grid0.Coords) (x0 : Vec F S1024x512 .f32) (x1 : Vec F S1024x512 .f32) (x2 : Vec F S1024x512 .f32) (x3 : Vec F S8x512 .f32) (x4 : Vec F S8x512 .f32) (x5 : Vec F S8x512 .f32) (x6 : Vec F S1x1024x512 .f32) (x7 : Vec F S1x8x512 .f32) (x8 : Vec F S3x512 .f32)

/-- The taps' row `0`, `1` or `2` as the body loads it. -/
abbrev tap0 : Vec F S1x512 .f32 := View.ld x8 (Rect.unit (s := S3x512) ![0, 0] S1x512.size inb_S3x512_S1x512_0_0)
/-- The second tap. -/
abbrev tap1 : Vec F S1x512 .f32 := View.ld x8 (Rect.unit (s := S3x512) ![1, 0] S1x512.size inb_S3x512_S1x512_1_0)
/-- The third tap. -/
abbrev tap2 : Vec F S1x512 .f32 := View.ld x8 (Rect.unit (s := S3x512) ![2, 0] S1x512.size inb_S3x512_S1x512_2_0)

/-- The row block's number as the body sees it. -/
abbrev rowBlk : BitVec 32 := BitVec.ofNat 32 (i 0).val

/-- The gradient of the gated convolution's input over a row block. -/
def gradIn : FVec F S1024x512 .f32 := k0_pay12 (rowBlk i) x0 (tap0 x8) (tap1 x8) (tap2 x8) x6 x7 x5

/-- The first gate's gradient over a row block, as it goes out. -/
def gateBlk : FVec F S1024x512 .bf16 :=
  k0_pay15 (k0_pay9 (tap2 x8) (k0_pay4 x1 x2) (k0_pay8 (rowBlk i) x1 x2 (tap0 x8) (tap1 x8) x3 x4)) (k0_pay10 x6)

/-- The taps' gradient with a row block's share added to what was there. -/
def tapsStep (old : Vec F S8x512 .f32) : FVec F S8x512 .f32 :=
  k0_pay14 (k0_pay4 x1 x2) (k0_pay6 (rowBlk i) x1 x2 x3 x4) (k0_pay7 (rowBlk i) x1 x2 x3 x4) (k0_pay11 x0 x6)
    (iota .tc S8x512 32 [0] iota_S8x512_d0_w32) (k0_pay13 old)

/-- The two stashed gradients, as the scratch array holds them. -/
def stashed : Vec F S2x1024x512 .f32 :=
  View.canon
    [⟨Rect.unit (s := S2x1024x512) ![1, 0, 0] S1x1024x512.size inb_S2x1024x512_S1x1024x512_1_0_0, k0_pay2 (k0_pay17 x1 (gradIn i x0 x5 x6 x7 x8))⟩,
     ⟨Rect.unit (s := S2x1024x512) ![0, 0, 0] S1x1024x512.size inb_S2x1024x512_S1x1024x512_0_0_0, k0_pay16 x2 (gradIn i x0 x5 x6 x7 x8)⟩]

end Values

/-- A stashed gradient as it goes out at a later column group. -/
def laterBlk (i : grid0.Coords) (h : k0_cond3 i = 1#1) (s : Vec F S2x1024x512 .f32) : FVec F S1024x512 .bf16 :=
  k0_pay3 (View.ld s (Rect.unit (s := S2x1024x512) (k0_off1 i) S1x1024x512.size (k0_off1_inb i h)))

section Runs

variable (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S1x1024x512 .f32) (harg8 : arg8.IsWhole) (arg9 : Memref sig .tc .vmem S1x8x512 .f32) (harg9 : arg9.IsWhole) (arg10 : Memref sig .tc .vmem S3x512 .f32) (harg10 : arg10.IsWhole) (arg11 : Memref sig .tc .hbm S2048x7680 .bf16) (harg11 : arg11.IsWhole) (arg12 : Memref sig .tc .vmem S1024x512 .bf16) (harg12 : arg12.IsWhole) (arg13 : Memref sig .tc .vmem S8x512 .f32) (harg13 : arg13.IsWhole) (arg14 : Memref sig .tc .vmem S2x1024x512 .f32) (harg14 : arg14.IsWhole) (x0 : Vec F S1024x512 .f32) (x1 : Vec F S1024x512 .f32) (x2 : Vec F S1024x512 .f32) (x3 : Vec F S8x512 .f32) (x4 : Vec F S8x512 .f32) (x5 : Vec F S8x512 .f32) (x6 : Vec F S1x1024x512 .f32) (x7 : Vec F S1x8x512 .f32) (x8 : Vec F S3x512 .f32)

set_option maxHeartbeats 1600000 in
/-- At the very first point the taps' gradient starts from zeros. -/
theorem run_first (hc1 : k0_cond1 i = 1#1) (hc2 : k0_cond2 i = 1#1) (hc3 : ¬ k0_cond3 i = 1#1)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg12 fullShare (gateBlk i x1 x2 x3 x4 x6 x8) ∗ owns (c : Thread nD τ) arg13 fullShare (tapsStep i x0 x1 x2 x3 x4 x6 (k0_pay1 (F := F))) ∗ owns (c : Thread nD τ) arg14 fullShare (stashed i x0 x1 x2 x5 x6 x7 x8)) -∗ K ⟨⟩))
      ⊢ wp frame (wpE (defs₀ (F := F)) Variants.none c none) E (cc0_conv_bwd i arg2 harg2 arg3 harg3 arg4 harg4 arg5 harg5 arg6 harg6 arg7 harg7 arg8 harg8 arg9 harg9 arg10 harg10 arg11 harg11 arg12 harg12 arg13 harg13 arg14 harg14) K := by
  simp only [cc0_conv_bwd_eq_skeleton]; unfold cc0_conv_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8;
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro; exact (View.read_writes_full _ _ _ _ _).trans (by frame_out; rfl)
  isplitl [H10]
  · iexists _; isplitr; swap; · iexact H10
    ipureintro; exact (View.read_writes_full _ _ _ _ _).trans (by frame_out; rfl)
  iexists _; isplitr; swap; · iexact HS
  ipureintro
  refine Eq.trans (View.read_writes_eq_canon (Val := Elt F) arg14.view _ _ (fun y => View.cover_of_tiledL (s := S2x1024x512) _ S1x1024x512.size (by sl_kernel_rfl) y)) ?_
  frame_out; rfl

set_option maxHeartbeats 1600000 in
/-- At a later row block's first group the taps' gradient adds to what the point before left. -/
theorem run_next (hc1 : ¬ k0_cond1 i = 1#1) (hc2 : k0_cond2 i = 1#1) (hc3 : ¬ k0_cond3 i = 1#1) (old : Vec F S8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg12 fullShare d) ∗ owns (c : Thread nD τ) arg13 fullShare old ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg12 fullShare (gateBlk i x1 x2 x3 x4 x6 x8) ∗ owns (c : Thread nD τ) arg13 fullShare (tapsStep i x0 x1 x2 x3 x4 x6 old) ∗ owns (c : Thread nD τ) arg14 fullShare (stashed i x0 x1 x2 x5 x6 x7 x8)) -∗ K ⟨⟩))
      ⊢ wp frame (wpE (defs₀ (F := F)) Variants.none c none) E (cc0_conv_bwd i arg2 harg2 arg3 harg3 arg4 harg4 arg5 harg5 arg6 harg6 arg7 harg7 arg8 harg8 arg9 harg9 arg10 harg10 arg11 harg11 arg12 harg12 arg13 harg13 arg14 harg14) K := by
  simp only [cc0_conv_bwd_eq_skeleton]; unfold cc0_conv_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8;
  obtain rfl := harg13.eq_unread hf10
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro; exact (View.read_writes_full _ _ _ _ _).trans (by frame_out; rfl)
  isplitl [H10]
  · iexists _; isplitr; swap; · iexact H10
    ipureintro; exact (View.read_writes_full _ _ _ _ _).trans (by frame_out; rfl)
  iexists _; isplitr; swap; · iexact HS
  ipureintro
  refine Eq.trans (View.read_writes_eq_canon (Val := Elt F) arg14.view _ _ (fun y => View.cover_of_tiledL (s := S2x1024x512) _ S1x1024x512.size (by sl_kernel_rfl) y)) ?_
  frame_out; rfl

set_option maxHeartbeats 1600000 in
/-- At the other two groups a stashed gradient goes out; the taps' gradient and the scratch array stay. -/
theorem run_later (hc1 : ¬ k0_cond1 i = 1#1) (hc2 : ¬ k0_cond2 i = 1#1) (hc3 : k0_cond3 i = 1#1) (old : Vec F S8x512 .f32) (s : Vec F S2x1024x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg12 fullShare d) ∗ owns (c : Thread nD τ) arg13 fullShare old ∗ owns (c : Thread nD τ) arg14 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg12 fullShare (laterBlk i hc3 s) ∗ owns (c : Thread nD τ) arg13 fullShare old ∗ owns (c : Thread nD τ) arg14 fullShare s) -∗ K ⟨⟩))
      ⊢ wp frame (wpE (defs₀ (F := F)) Variants.none c none) E (cc0_conv_bwd i arg2 harg2 arg3 harg3 arg4 harg4 arg5 harg5 arg6 harg6 arg7 harg7 arg8 harg8 arg9 harg9 arg10 harg10 arg11 harg11 arg12 harg12 arg13 harg13 arg14 harg14) K := by
  simp only [cc0_conv_bwd_eq_skeleton]; unfold cc0_conv_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8;
  obtain rfl := harg13.eq_unread hf10; obtain rfl := harg14.eq_unread hfs
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro; exact (View.read_writes_full _ _ _ _ _).trans (by frame_out; rfl)
  isplitl [H10]
  · iexists _; isplitr; swap; · iexact H10
    ipureintro; exact harg13.read_unread _
  iexists _; isplitr; swap; · iexact HS
  ipureintro; exact harg14.read_unread _

end Runs

end Cert.ConvBwdIdeal

end
-- ==== Proof.ConvBwdRun.lean ====
module

public import proofs.«01_k».proof.Proof.ConvBwdBody
public import Idealize.ShloMosaic.Lib.Pipeline.TableIdle

/-! The gated convolution's backward kernel over its whole grid: what each array holds after every point, and the run. -/

@[expose] public section

set_option maxRecDepth 16384

noncomputable section

namespace Cert.ConvBwdIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ConvBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the arrays hold -/

/-- The first point of a point's row block. -/
def firstOf (t : Fin cfg0.N) : Fin cfg0.N := ⟨t.val - t.val % 3, Nat.lt_of_le_of_lt (Nat.sub_le _ _) t.isLt⟩

theorem firstOf_self (t : Fin cfg0.N) (h : t.val % 3 = 0) : firstOf t = t := Fin.ext (by simp only [firstOf, h, Nat.sub_zero])

/-- The scratch array after a point: the gradients stashed at its row block's first point. -/
def stashAt (c : Dev nD) (t : Fin cfg0.N) : Vec F S2x1024x512 .f32 :=
  stashed (grid0.coords (firstOf t)) (iblk m c 0 (firstOf t)) (iblk m c 1 (firstOf t)) (iblk m c 2 (firstOf t)) (iblk m c 5 (firstOf t)) (iblk m c 6 (firstOf t)) (iblk m c 7 (firstOf t)) (iblk m c 8 (firstOf t))

theorem stashAt_first (c : Dev nD) (t : Fin cfg0.N) (h : t.val % 3 = 0) :
    stashAt m c t = stashed (grid0.coords t) (iblk m c 0 t) (iblk m c 1 t) (iblk m c 2 t) (iblk m c 5 t) (iblk m c 6 t) (iblk m c 7 t) (iblk m c 8 t) := by
  unfold stashAt; rw [firstOf_self t h]

/-- At a later column group the scratch array stays. -/
theorem stashAt_later (c : Dev nD) (t : Fin cfg0.N) (h : ¬ t.val % 3 = 0) :
    stashAt m c ⟨t.val - 1, Nat.lt_of_le_of_lt (Nat.sub_le _ _) t.isLt⟩ = stashAt m c t := by
  unfold stashAt
  rw [show firstOf ⟨t.val - 1, Nat.lt_of_le_of_lt (Nat.sub_le _ _) t.isLt⟩ = firstOf t from Fin.ext (by simp only [firstOf]; omega)]

/-- The taps' gradient after the first row block, -/
def taps0 (c : Dev nD) : Vec F S8x512 .f32 :=
  tapsStep (grid0.coords t0_0) (iblk m c 0 t0_0) (iblk m c 1 t0_0) (iblk m c 2 t0_0) (iblk m c 3 t0_0) (iblk m c 4 t0_0) (iblk m c 6 t0_0) (k0_pay1 (F := F))

/-- and after the second. -/
def taps1 (c : Dev nD) : Vec F S8x512 .f32 :=
  tapsStep (grid0.coords t0_3) (iblk m c 0 t0_3) (iblk m c 1 t0_3) (iblk m c 2 t0_3) (iblk m c 3 t0_3) (iblk m c 4 t0_3) (iblk m c 6 t0_3) (taps0 m c)

/-- The taps' gradient after a point. -/
def tapsAt (c : Dev nD) (t : Fin cfg0.N) : Vec F S8x512 .f32 := if t.val < 3 then taps0 m c else taps1 m c

theorem tapsAt_first (c : Dev nD) (t : Fin cfg0.N) (h : t.val % 6 = 0) :
    tapsAt m c t = tapsStep (grid0.coords t) (iblk m c 0 t) (iblk m c 1 t) (iblk m c 2 t) (iblk m c 3 t) (iblk m c 4 t) (iblk m c 6 t) (k0_pay1 (F := F)) := by
  have hN : t.val < 6 := Nat.lt_of_lt_of_eq t.isLt N_0
  obtain rfl : t = t0_0 := Fin.ext (show t.val = 0 by omega)
  rfl

theorem tapsAt_next (c : Dev nD) (t : Fin cfg0.N) (h : t.val % 3 = 0) (h6 : ¬ t.val % 6 = 0) :
    tapsAt m c t = tapsStep (grid0.coords t) (iblk m c 0 t) (iblk m c 1 t) (iblk m c 2 t) (iblk m c 3 t) (iblk m c 4 t) (iblk m c 6 t)
      (tapsAt m c ⟨t.val - 1, Nat.lt_of_le_of_lt (Nat.sub_le _ _) t.isLt⟩) := by
  have hN : t.val < 6 := Nat.lt_of_lt_of_eq t.isLt N_0
  obtain rfl : t = t0_3 := Fin.ext (show t.val = 3 by omega)
  rfl

theorem tapsAt_later (c : Dev nD) (t : Fin cfg0.N) (h : ¬ t.val % 3 = 0) :
    tapsAt m c ⟨t.val - 1, Nat.lt_of_le_of_lt (Nat.sub_le _ _) t.isLt⟩ = tapsAt m c t := by
  have hN : t.val < 6 := Nat.lt_of_lt_of_eq t.isLt N_0
  have : (t.val - 1 < 3) = (t.val < 3) := propext ⟨fun _ => by omega, fun _ => by omega⟩
  unfold tapsAt; simp only [this]

/-! ## The branches over the points -/

theorem cond1_iff : ∀ t : Fin cfg0.N, k0_cond1 (grid0.coords t) = 1#1 ↔ t.val % 6 = 0 :=
  (by decide +kernel : ∀ t : Fin grid0.N, k0_cond1 (grid0.coords t) = 1#1 ↔ t.val % 6 = 0)

theorem cond2_iff : ∀ t : Fin cfg0.N, k0_cond2 (grid0.coords t) = 1#1 ↔ t.val % 3 = 0 :=
  (by decide +kernel : ∀ t : Fin grid0.N, k0_cond2 (grid0.coords t) = 1#1 ↔ t.val % 3 = 0)

theorem cond3_iff : ∀ t : Fin cfg0.N, k0_cond3 (grid0.coords t) = 1#1 ↔ ¬ t.val % 3 = 0 :=
  (by decide +kernel : ∀ t : Fin grid0.N, k0_cond3 (grid0.coords t) = 1#1 ↔ ¬ t.val % 3 = 0)

/-- The column group that goes out at a point. -/
def dpAt (c : Dev nD) (t : Fin cfg0.N) : Vec F S1024x512 .bf16 :=
  if h : t.val % 3 = 0 then gateBlk (grid0.coords t) (iblk m c 1 t) (iblk m c 2 t) (iblk m c 3 t) (iblk m c 4 t) (iblk m c 6 t) (iblk m c 8 t)
  else laterBlk (grid0.coords t) ((cond3_iff t).mpr h) (stashAt m c t)

/-! ## The invariant: the scratch array -/

/-- The scratch array as the body gets it. -/
abbrev scM : Memref sig .tc .vmem S2x1024x512 .f32 := Memref.whole cc0_scratch0

/-- What is held before point `n`: the scratch array, at what the point before left in it. -/
def Phi (c : Dev nD) : ℕ → sProp 𝕄
  | 0 => Pipeline.ΦA spec0 c
  | n + 1 => if h : n < cfg0.N then iprop(owns (c : Thread nD τ) scM fullShare (stashAt m c ⟨n, h⟩) ∗ (∃ r, prngReg c r)) else Pipeline.ΦA spec0 c

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

theorem Phi_succ (c : Dev nD) (t : Fin cfg0.N) :
    Phi m c (t.val + 1) = iprop(owns (c : Thread nD τ) scM fullShare (stashAt m c t) ∗ (∃ r, prngReg c r)) := by
  simp only [Phi, t.isLt, dite_true]

/-- Before any point the scratch array is held at some contents. -/
theorem Phi_any (c : Dev nD) (n : ℕ) : Phi m c n ⊢ iprop((∃ d, owns (c : Thread nD τ) scM fullShare d) ∗ (∃ r, prngReg c r)) := by
  cases n with
  | zero => rw [← PhiA_eq]; exact .rfl
  | succ n =>
    by_cases h : n < cfg0.N
    · rw [Phi_succ m c ⟨n, h⟩]
      iintro ⟨H, Hg⟩
      isplitl [H]; · iexists _; iexact H
      iexact Hg
    · rw [show Phi m c (n + 1) = Pipeline.ΦA spec0 c from dif_neg h, ← PhiA_eq]

/-- What is held after the last point is what the region hands back. -/
theorem Phi_out (c : Dev nD) (n : ℕ) : Phi m c n ⊢ Pipeline.ΦA spec0 c := by
  rw [PhiA_eq]; exact Phi_any m c n

/-- Before a later column group's point it holds what its row block stashed. -/
theorem Phi_later (c : Dev nD) (t : Fin cfg0.N) (h : ¬ t.val % 3 = 0) :
    Phi m c t.val = iprop(owns (c : Thread nD τ) scM fullShare (stashAt m c t) ∗ (∃ r, prngReg c r)) := by
  have e : t.val = (t.val - 1) + 1 := by omega
  have := Phi_succ m c ⟨t.val - 1, Nat.lt_of_le_of_lt (Nat.sub_le _ _) t.isLt⟩
  rw [stashAt_later m c t h] at this
  rw [← this]
  exact congrArg (Phi m c) e

/-! ## The proof data -/

/-- Each input's block stays, the two outputs hold what the points compute, the scratch array is tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dpAt m c t
    | ⟨10, _⟩ => tapsAt m c t
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = dpAt m c t := by dsimp only [dats]
theorem after0_10 (c : Dev nD) (t : Fin cfg0.N) : (dats m 0 c).after 10 t = tapsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- The taps' window is idle exactly at the later column groups, -/
theorem idle10_iff : ∀ t : Fin cfg0.N, cfg0.idle 10 (grid0.coords t) = true ↔ ¬ t.val % 3 = 0 :=
  (by decide +kernel : ∀ t : Fin grid0.N, idle0 10 (grid0.coords t) = true ↔ ¬ t.val % 3 = 0)

/-- and its buffer is fresh at the first point only. -/
theorem fresh10_iff : ∀ t : Fin cfg0.N, cfg0.fresh 10 t.val = true ↔ t.val % 6 = 0 :=
  (by decide +kernel : ∀ t : Fin grid0.N, cfg0.fresh 10 t.val = true ↔ t.val % 6 = 0)

/-- From the second point on the taps' buffer holds what the point before left. -/
theorem before0_10 (c : Dev nD) (t : Fin cfg0.N) (h : ¬ t.val % 6 = 0) (d) :
    (dats m 0 c).before 10 t d = tapsAt m c ⟨t.val - 1, Nat.lt_of_le_of_lt (Nat.sub_le _ _) t.isLt⟩ := by
  rw [Dat.before_out_traj (dats m 0 c) 10 rfl (fun _ _ => rfl)
    (fun t _ hi _ => by rw [after0_10, after0_10]; exact (tapsAt_later m c t ((idle10_iff t).mp hi)).symm) t.val t rfl d,
    if_neg (fun hf => h ((fresh10_iff t).mp hf)), after0_10]

/-- A buffer left at what the proof data name is what the point must leave, where an idle window's buffer held it before. -/
theorem leaves_of_after (c : Dev nD) (w : Fin cfg0.W) (t : Fin cfg0.N)
    (h : cfg0.idle w (grid0.coords t) = true → ∃ d, (dats m 0 c).before w t d = (dats m 0 c).after w t) :
    owns (c : Thread nD τ) ((cfg0.win w).stage (cfg0.slots t w)) fullShare ((dats m 0 c).after w t) ⊢ (dats m 0 c).leavesExact w t := by
  unfold Dat.leavesExact
  cases hi : cfg0.idle w (cfg0.grid.coords t) with
  | false => exact .rfl
  | true =>
    cases hf : (cfg0.win w).flush t with
    | true => exact .rfl
    | false =>
      obtain ⟨d, hd⟩ := h hi
      rw [← hd]
      iintro H
      iexists d
      iexact H

/-- No other window is ever idle. -/
theorem live9 : ∀ t : Fin cfg0.N, ¬ cfg0.idle 9 (grid0.coords t) = true :=
  (by decide +kernel : ∀ t : Fin grid0.N, ¬ idle0 9 (grid0.coords t) = true)

/-- At an idle point the taps' buffer already holds what the proof data name. -/
theorem idle10_kept (c : Dev nD) (t : Fin cfg0.N) (h : cfg0.idle 10 (grid0.coords t) = true) :
    ∃ d, (dats m 0 c).before 10 t d = (dats m 0 c).after 10 t := by
  have h3 := (idle10_iff t).mp h
  exact ⟨(dats m 0 c).after 10 t, by rw [before0_10 m c t (by omega), after0_10, tapsAt_later m c t h3]⟩

/-! ## The body at every point -/

/-- What a point starts from, -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d)))

/-- and what it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 1600000 in
/-- The first point. -/
theorem body_first (c : Dev nD) (t : Fin cfg0.N) (h : t.val % 6 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Phi m c (t.val + 1) from rfl, show (dats m 0 c).Φ t.castSucc = Phi m c t.val from rfl,
    show (dats m 0 c).owesAt () t.succ = (dats m 0 c).owesAt () t.castSucc from rfl, Phi_succ]
  have h3 : t.val % 3 = 0 := by omega
  have e9 : dpAt m c t = gateBlk (grid0.coords t) (iblk m c 1 t) (iblk m c 2 t) (iblk m c 3 t) (iblk m c 4 t) (iblk m c 6 t) (iblk m c 8 t) := by unfold dpAt; rw [dif_pos h3]
  rw [stashAt_first m c t h3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  icases (Phi_any m c t.val) $$ HΦ with ⟨HS, Hg⟩
  iapply (run_first c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((cond1_iff t).mpr h) ((cond2_iff t).mpr h3) (fun hc => (cond3_iff t).mp hc h3) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS]; · iexact HS
  iintro ⟨H0, H1, H2, H3, H4, H5, H6, H7, H8, H9, H10, HS⟩
  isplitl [HS Hg]
  · isplitl [HS]; · iexact HS
    iexact Hg
  isplitl [Ho]; · iexact Ho
  isplitl [H0]; · iapply (leaves_of_after m c 0 t fun h => absurd h Bool.false_ne_true); rw [after0_0]; iexact H0
  isplitl [H1]; · iapply (leaves_of_after m c 1 t fun h => absurd h Bool.false_ne_true); rw [after0_1]; iexact H1
  isplitl [H2]; · iapply (leaves_of_after m c 2 t fun h => absurd h Bool.false_ne_true); rw [after0_2]; iexact H2
  isplitl [H3]; · iapply (leaves_of_after m c 3 t fun h => absurd h Bool.false_ne_true); rw [after0_3]; iexact H3
  isplitl [H4]; · iapply (leaves_of_after m c 4 t fun h => absurd h Bool.false_ne_true); rw [after0_4]; iexact H4
  isplitl [H5]; · iapply (leaves_of_after m c 5 t fun h => absurd h Bool.false_ne_true); rw [after0_5]; iexact H5
  isplitl [H6]; · iapply (leaves_of_after m c 6 t fun h => absurd h Bool.false_ne_true); rw [after0_6]; iexact H6
  isplitl [H7]; · iapply (leaves_of_after m c 7 t fun h => absurd h Bool.false_ne_true); rw [after0_7]; iexact H7
  isplitl [H8]; · iapply (leaves_of_after m c 8 t fun h => absurd h Bool.false_ne_true); rw [after0_8]; iexact H8
  isplitl [H9]; · iapply (leaves_of_after m c 9 t fun h => absurd h (live9 t)); rw [after0_9, e9]; iexact H9
  iapply (leaves_of_after m c 10 t (idle10_kept m c t)); rw [after0_10, tapsAt_first m c t h]; iexact H10

set_option maxHeartbeats 1600000 in
/-- A later row block's first point. -/
theorem body_next (c : Dev nD) (t : Fin cfg0.N) (h3 : t.val % 3 = 0) (h : ¬ t.val % 6 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Phi m c (t.val + 1) from rfl, show (dats m 0 c).Φ t.castSucc = Phi m c t.val from rfl,
    show (dats m 0 c).owesAt () t.succ = (dats m 0 c).owesAt () t.castSucc from rfl, Phi_succ]
  have e9 : dpAt m c t = gateBlk (grid0.coords t) (iblk m c 1 t) (iblk m c 2 t) (iblk m c 3 t) (iblk m c 4 t) (iblk m c 6 t) (iblk m c 8 t) := by unfold dpAt; rw [dif_pos h3]
  simp only [before0_10 m c t h]
  rw [stashAt_first m c t h3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  icases (Phi_any m c t.val) $$ HΦ with ⟨HS, Hg⟩
  iapply (run_next c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (fun hc => h ((cond1_iff t).mp hc)) ((cond2_iff t).mpr h3) (fun hc => (cond3_iff t).mp hc h3) (tapsAt m c ⟨t.val - 1, Nat.lt_of_le_of_lt (Nat.sub_le _ _) t.isLt⟩) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [HS]; · iexact HS
  iintro ⟨H0, H1, H2, H3, H4, H5, H6, H7, H8, H9, H10, HS⟩
  isplitl [HS Hg]
  · isplitl [HS]; · iexact HS
    iexact Hg
  isplitl [Ho]; · iexact Ho
  isplitl [H0]; · iapply (leaves_of_after m c 0 t fun h => absurd h Bool.false_ne_true); rw [after0_0]; iexact H0
  isplitl [H1]; · iapply (leaves_of_after m c 1 t fun h => absurd h Bool.false_ne_true); rw [after0_1]; iexact H1
  isplitl [H2]; · iapply (leaves_of_after m c 2 t fun h => absurd h Bool.false_ne_true); rw [after0_2]; iexact H2
  isplitl [H3]; · iapply (leaves_of_after m c 3 t fun h => absurd h Bool.false_ne_true); rw [after0_3]; iexact H3
  isplitl [H4]; · iapply (leaves_of_after m c 4 t fun h => absurd h Bool.false_ne_true); rw [after0_4]; iexact H4
  isplitl [H5]; · iapply (leaves_of_after m c 5 t fun h => absurd h Bool.false_ne_true); rw [after0_5]; iexact H5
  isplitl [H6]; · iapply (leaves_of_after m c 6 t fun h => absurd h Bool.false_ne_true); rw [after0_6]; iexact H6
  isplitl [H7]; · iapply (leaves_of_after m c 7 t fun h => absurd h Bool.false_ne_true); rw [after0_7]; iexact H7
  isplitl [H8]; · iapply (leaves_of_after m c 8 t fun h => absurd h Bool.false_ne_true); rw [after0_8]; iexact H8
  isplitl [H9]; · iapply (leaves_of_after m c 9 t fun h => absurd h (live9 t)); rw [after0_9, e9]; iexact H9
  iapply (leaves_of_after m c 10 t (idle10_kept m c t)); rw [after0_10, tapsAt_next m c t h3 h]; iexact H10

set_option maxHeartbeats 1600000 in
/-- A later column group's point. -/
theorem body_later (c : Dev nD) (t : Fin cfg0.N) (h3 : ¬ t.val % 3 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Phi m c (t.val + 1) from rfl, show (dats m 0 c).Φ t.castSucc = Phi m c t.val from rfl,
    show (dats m 0 c).owesAt () t.succ = (dats m 0 c).owesAt () t.castSucc from rfl, Phi_succ]
  have h : ¬ t.val % 6 = 0 := by omega
  have e9 : dpAt m c t = laterBlk (grid0.coords t) ((cond3_iff t).mpr h3) (stashAt m c t) := by unfold dpAt; rw [dif_neg h3]
  simp only [before0_10 m c t h, tapsAt_later m c t h3]
  rw [Phi_later m c t h3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  icases HΦ with ⟨HS, Hg⟩
  iapply (run_later c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (fun hc => h ((cond1_iff t).mp hc)) (fun hc => h3 ((cond2_iff t).mp hc)) ((cond3_iff t).mpr h3) (tapsAt m c t) (stashAt m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [HS]; · iexact HS
  iintro ⟨H0, H1, H2, H3, H4, H5, H6, H7, H8, H9, H10, HS⟩
  isplitl [HS Hg]
  · isplitl [HS]; · iexact HS
    iexact Hg
  isplitl [Ho]; · iexact Ho
  isplitl [H0]; · iapply (leaves_of_after m c 0 t fun h => absurd h Bool.false_ne_true); rw [after0_0]; iexact H0
  isplitl [H1]; · iapply (leaves_of_after m c 1 t fun h => absurd h Bool.false_ne_true); rw [after0_1]; iexact H1
  isplitl [H2]; · iapply (leaves_of_after m c 2 t fun h => absurd h Bool.false_ne_true); rw [after0_2]; iexact H2
  isplitl [H3]; · iapply (leaves_of_after m c 3 t fun h => absurd h Bool.false_ne_true); rw [after0_3]; iexact H3
  isplitl [H4]; · iapply (leaves_of_after m c 4 t fun h => absurd h Bool.false_ne_true); rw [after0_4]; iexact H4
  isplitl [H5]; · iapply (leaves_of_after m c 5 t fun h => absurd h Bool.false_ne_true); rw [after0_5]; iexact H5
  isplitl [H6]; · iapply (leaves_of_after m c 6 t fun h => absurd h Bool.false_ne_true); rw [after0_6]; iexact H6
  isplitl [H7]; · iapply (leaves_of_after m c 7 t fun h => absurd h Bool.false_ne_true); rw [after0_7]; iexact H7
  isplitl [H8]; · iapply (leaves_of_after m c 8 t fun h => absurd h Bool.false_ne_true); rw [after0_8]; iexact H8
  isplitl [H9]; · iapply (leaves_of_after m c 9 t fun h => absurd h (live9 t)); rw [after0_9, e9]; iexact H9
  iapply (leaves_of_after m c 10 t (idle10_kept m c t)); rw [after0_10]; iexact H10

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h3 : t.val % 3 = 0
  · by_cases h : t.val % 6 = 0
    · exact body_first m c t h
    · exact body_next m c t h3 h
  · exact body_later m c t h3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution ends, each array at what the points leave in it and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl)
    (hout := fun c => show Phi m c (Fin.last cfg0.N).val ⊢ Pipeline.ΦA spec0 c from Phi_out m c _)

/-- The arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The results end as the two output windows' arrays after the last point, the arguments as they were. -/
theorem run_results : θ_run defs (onTc (τ := τ) (main (F := F))) ⟨m, fun _ => 0, ρ⟩ (fun r => ∀ c : Dev nD,
      r.2.mem ((c.tc : Thread nD τ).loc main_v0_0) = (dats m 0 c).arrAt 9 cfg0.N
      ∧ r.2.mem ((c.tc : Thread nD τ).loc main_v0_1) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.2.1 c).1 9, (h.2.1 c).1 10, h.1.1 c⟩) (θ_run_and (frame m ρ) (run_main m ρ))

end Cert.ConvBwdIdeal

end
-- ==== Proof.ConvBwdReference.lean ====
/-
  WHAT THE REFERENCE OF `conv_bwd` COMPUTES: the derivative of the gated causal convolution `bg * conv(cg * xc)`, three taps
  a column, read off the printed program stage by stage over the extended reals. Rows and columns are plain numbers, and a
  row past either end reads zero, so that the shifts of the convolution need no cases.
-/
module

public import proofs.«01_k».proof.Proof.Gen.ConvBwdRefIdeal.Read
public import proofs.«01_k».proof.Proof.Reals
public import Idealize.ShloMosaic.Lib.Pointwise

@[expose] public section

set_option maxRecDepth 16384

noncomputable section

namespace Cert.ConvBwdReference

open Cert.ConvBwdRefIdeal Cert.ConvBwdRefIdeal.Read Idealize.ShloMosaic Cert.Reals

/-! ## The quantities -/

/-- The projections at a row and a column, zero outside. -/
def proj (x : S2048x7680.Idx → EReal) (r c : ℕ) : EReal := if h : r < 2048 ∧ c < 7680 then x (ix2 ⟨r, h.1⟩ ⟨c, h.2⟩) else 0

/-- The output's cotangent at a row and a column, zero outside. -/
def cot (x : S3x2048x512.Idx → EReal) (r : ℕ) (k : Fin 512) : EReal := if h : r < 2048 then x (ix3 1 (⟨r, h⟩ : Fin 2048) k) else 0

theorem proj_eq (x : S2048x7680.Idx → EReal) (r : Fin 2048) (c : Fin 7680) : x (ix2 r c) = proj x r.val c.val := by
  unfold proj; rw [dif_pos ⟨r.isLt, c.isLt⟩]

theorem cot_eq (x : S3x2048x512.Idx → EReal) (r : Fin 2048) (k : Fin 512) : x (ix3 1 r k) = cot x r.val k := by
  unfold cot; rw [dif_pos r.isLt]

section Quantities

variable (x0 : S2048x7680.Idx → EReal) (x1 : S3x512.Idx → EReal) (x2 : S3x2048x512.Idx → EReal)

/-- What the convolution takes: the product of two column groups. -/
def gated (r : ℕ) (k : Fin 512) : EReal := proj x0 r (2560 + k.val) * proj x0 r (3072 + k.val)

/-- The same behind two rows of zeros. -/
def padded (j : ℕ) (k : Fin 512) : EReal := if 2 ≤ j then gated x0 (j - 2) k else 0

/-- The convolution's result. -/
def conv (r : ℕ) (k : Fin 512) : EReal :=
  padded x0 r k * x1 (ix2 0 k) + padded x0 (r + 1) k * x1 (ix2 1 k) + padded x0 (r + 2) k * x1 (ix2 2 k)

/-- The cotangent of the convolution's result. -/
def outGrad (r : ℕ) (k : Fin 512) : EReal := proj x0 r (2048 + k.val) * cot x2 r k

/-- The cotangent of what the convolution took. -/
def inGrad (r : ℕ) (k : Fin 512) : EReal :=
  outGrad x0 x2 r k * x1 (ix2 2 k) + outGrad x0 x2 (r + 1) k * x1 (ix2 1 k) + outGrad x0 x2 (r + 2) k * x1 (ix2 0 k)

/-- The gradient of a tap. -/
def tapGrad (n : ℕ) (k : Fin 512) : EReal := ∑ r : Fin 2048, padded x0 (r.val + n) k * outGrad x0 x2 r.val k

/-- A row past the last has no cotangent. -/
theorem outGrad_past (r : ℕ) (h : 2048 ≤ r) (k : Fin 512) : outGrad x0 x2 r k = 0 := by
  unfold outGrad cot; rw [dif_neg (by omega), mul_zero]

end Quantities

/-! ## The stages of the printed program -/

variable (x0 : (⟨S2048x7680, .f32⟩ : BufTy).Contents (Elt Ideal)) (x1 : (⟨S3x512, .f32⟩ : BufTy).Contents (Elt Ideal)) (x2 : (⟨S3x2048x512, .f32⟩ : BufTy).Contents (Elt Ideal)) (x3 : (⟨S2048x7680, .bf16⟩ : BufTy).Contents (Elt Ideal))

theorem v3_apply (r : Fin 2048) (k : Fin 512) : val_main_v3 (F := Ideal) x0 (ix3 0 r k) = proj x0 r.val (2560 + k.val) := by
  pointwise [val_main_v3, val_main_v2]
  exact proj_eq x0 _ _

theorem v5_apply (r : Fin 2048) (k : Fin 512) : val_main_v5 (F := Ideal) x0 (ix3 0 r k) = proj x0 r.val (3072 + k.val) := by
  pointwise [val_main_v5, val_main_v4]
  exact proj_eq x0 _ _

/-- The gated input behind its zeros. -/
theorem v8_apply (j : Fin 2050) (k : Fin 512) : val_main_v8 (F := Ideal) x0 (ix3 0 j k) = padded x0 j.val k := by
  pointwise [val_main_v8, val_main_v7, val_main_cst, val_main_v6]
  unfold padded
  by_cases h : 2 ≤ j.val
  · rw [dif_neg (by omega), if_pos h]
    exact congr (congrArg HMul.hMul (v3_apply x0 _ _)) (v5_apply x0 _ _)
  · rw [dif_pos (by omega), if_neg h]

theorem v10_apply (r : Fin 2048) (k : Fin 512) : val_main_v10 (F := Ideal) x0 (ix3 0 r k) = padded x0 r.val k := by
  pointwise [val_main_v10]; rw [v8_apply]

theorem v16_apply (r : Fin 2048) (k : Fin 512) : val_main_v16 (F := Ideal) x0 (ix3 0 r k) = padded x0 (r.val + 1) k := by
  pointwise [val_main_v16]; rw [v8_apply]; exact congrArg (padded x0 · k) (Nat.add_comm _ _)

theorem v23_apply (r : Fin 2048) (k : Fin 512) : val_main_v23 (F := Ideal) x0 (ix3 0 r k) = padded x0 (r.val + 2) k := by
  pointwise [val_main_v23]; rw [v8_apply]; exact congrArg (padded x0 · k) (Nat.add_comm _ _)

/-- The convolution. -/
theorem v29_apply (r : Fin 2048) (k : Fin 512) : val_main_v29 (F := Ideal) x0 x1 (ix3 0 r k) = conv x0 x1 r.val k := by
  pointwise [val_main_v29, val_main_v22, val_main_v28, val_main_v15, val_main_v21, val_main_v14, val_main_v13, val_main_v12, val_main_v11,
    val_main_v20, val_main_v19, val_main_v18, val_main_v17, val_main_v27, val_main_v26, val_main_v25, val_main_v24]
  rw [v10_apply, v16_apply, v23_apply]; rfl

theorem v33_apply (r : Fin 2048) (k : Fin 512) : val_main_v33 (F := Ideal) x2 (ix3 0 r k) = cot x2 r.val k := by
  pointwise [val_main_v33, val_main_v32, val_main_v31]
  exact cot_eq x2 _ _

/-- The cotangent of the convolution's result. -/
theorem v34_apply (r : Fin 2048) (k : Fin 512) : val_main_v34 (F := Ideal) x0 x2 (ix3 0 r k) = outGrad x0 x2 r.val k := by
  pointwise [val_main_v34, val_main_v1, val_main_v0]
  exact congr (congrArg HMul.hMul (proj_eq x0 _ _)) (v33_apply x2 r k)

theorem v40_apply (r : Fin 2048) (k : Fin 512) : val_main_v40 (F := Ideal) x0 x1 x2 (ix3 0 r k) = outGrad x0 x2 r.val k * x1 (ix2 2 k) := by
  pointwise [val_main_v40, val_main_v39, val_main_v26, val_main_v25, val_main_v24]
  rw [v34_apply]

theorem v49_apply (r : Fin 2048) (k : Fin 512) : val_main_v49 (F := Ideal) x0 x1 x2 (ix3 0 r k) = outGrad x0 x2 r.val k * x1 (ix2 1 k) := by
  pointwise [val_main_v49, val_main_v48, val_main_v19, val_main_v18, val_main_v17]
  rw [v34_apply]

theorem v60_apply (r : Fin 2048) (k : Fin 512) : val_main_v60 (F := Ideal) x0 x1 x2 (ix3 0 r k) = outGrad x0 x2 r.val k * x1 (ix2 0 k) := by
  pointwise [val_main_v60, val_main_v59, val_main_v13, val_main_v12, val_main_v11]
  rw [v34_apply]

/-- The cotangent of what the convolution took: the three shifted cotangents added. -/
theorem v68_apply (r : Fin 2048) (k : Fin 512) : val_main_v68 (F := Ideal) x0 x1 x2 (ix3 0 r k) = inGrad x0 x1 x2 r.val k := by
  pointwise [val_main_v68, val_main_v66, val_main_v65, val_main_v55, val_main_v54, val_main_v44, val_main_cst_4, val_main_cst_8, val_main_cst_12]
  unfold inGrad
  refine congr (congrArg HAdd.hAdd (congr (congrArg HAdd.hAdd ?_) ?_)) ?_
  · exact v40_apply x0 x1 x2 r k
  · by_cases h : r.val + 1 < 2048
    · rw [dif_pos (by omega)]
      refine (v49_apply x0 x1 x2 _ _).trans ?_
      exact congrArg (outGrad x0 x2 · k * x1 (ix2 1 k)) (show 2 + r.val - 1 = r.val + 1 by omega)
    · rw [dif_neg (by omega), outGrad_past _ _ _ (by omega), zero_mul]
  · by_cases h : r.val + 2 < 2048
    · rw [dif_pos (by omega)]
      refine (v60_apply x0 x1 x2 _ _).trans ?_
      exact congrArg (outGrad x0 x2 · k * x1 (ix2 0 k)) (show 2 + r.val = r.val + 2 by omega)
    · rw [dif_neg (by omega), outGrad_past _ _ _ (by omega), zero_mul]

theorem v71_apply (r : Fin 2048) (k : Fin 512) :
    val_main_v71 (F := Ideal) x0 x1 x2 (ix2 r k) = proj x0 r.val (2560 + k.val) * inGrad x0 x1 x2 r.val k := by
  pointwise [val_main_v71, val_main_v69, val_main_cst_13]
  exact (Fin.sum_univ_one _).trans (congr (congrArg HMul.hMul (v3_apply x0 r k)) (v68_apply x0 x1 x2 r k))

theorem v73_apply (r : Fin 2048) (k : Fin 512) :
    val_main_v73 (F := Ideal) x0 x1 x2 (ix2 r k) = inGrad x0 x1 x2 r.val k * proj x0 r.val (3072 + k.val) := by
  pointwise [val_main_v73, val_main_v70, val_main_cst_15]
  exact (Fin.sum_univ_one _).trans (congr (congrArg HMul.hMul (v68_apply x0 x1 x2 r k)) (v5_apply x0 r k))

theorem v76_apply (r : Fin 2048) (k : Fin 512) :
    val_main_v76 (F := Ideal) x0 x1 x2 (ix2 r k) = cot x2 r.val k * conv x0 x1 r.val k := by
  pointwise [val_main_v76, val_main_v35, val_main_cst_17]
  exact (Fin.sum_univ_one _).trans (congr (congrArg HMul.hMul (v33_apply x2 r k)) (v29_apply x0 x1 r k))

/-- The projections' gradient: three column groups of gradients in place of the first result's. -/
def out (x0 : S2048x7680.Idx → EReal) (x1 : S3x512.Idx → EReal) (x2 : S3x2048x512.Idx → EReal) (x3 : S2048x7680.Idx → EReal) (r : Fin 2048) (c : Fin 7680) : EReal :=
  if h : c.val < 2048 then x3 (ix2 r c)
  else if h : c.val < 2560 then cot x2 r.val ⟨c.val - 2048, by omega⟩ * conv x0 x1 r.val ⟨c.val - 2048, by omega⟩
  else if h : c.val < 3072 then inGrad x0 x1 x2 r.val ⟨c.val - 2560, by omega⟩ * proj x0 r.val (3072 + (c.val - 2560))
  else if h : c.val < 3584 then proj x0 r.val (2560 + (c.val - 3072)) * inGrad x0 x1 x2 r.val ⟨c.val - 3072, by omega⟩
  else x3 (ix2 r c)

theorem v83_apply (r : Fin 2048) (c : Fin 7680) : val_main_v83 (F := Ideal) x0 x1 x2 x3 (ix2 r c) = out x0 x1 x2 x3 r c := by
  pointwise [val_main_v83, val_main_v82, val_main_v81, val_main_v80, val_main_v79, val_main_v78, val_main_v77, val_main_v75, val_main_v74, val_main_v72,
    val_main_cst_14, val_main_cst_16, val_main_cst_18]
  unfold out
  have hc := c.isLt
  by_cases h1 : c.val < 2048
  · simp only [dif_pos h1]
  by_cases h2 : c.val < 2560
  · have a : c.val - 2048 < 1536 := by omega
    have a0 : ¬(3072 ≤ 2048 + (c.val - 2048) ∧ 2048 + (c.val - 2048) - 3072 < 512) := by omega
    have a1 : ¬(2560 ≤ 2048 + (c.val - 2048) ∧ 2048 + (c.val - 2048) - 2560 < 512) := by omega
    have a2 : c.val - 2048 < 512 := by omega
    simp only [dif_neg h1, dif_pos h2, dif_pos a, dif_neg a0, dif_neg a1, dif_pos a2]
    rw [zero_add, zero_add]
    exact v76_apply x0 x1 x2 _ _
  by_cases h3 : c.val < 3072
  · have a : c.val - 2048 < 1536 := by omega
    have a0 : ¬(3072 ≤ 2048 + (c.val - 2048) ∧ 2048 + (c.val - 2048) - 3072 < 512) := by omega
    have a1 : 2560 ≤ 2048 + (c.val - 2048) ∧ 2048 + (c.val - 2048) - 2560 < 512 := by omega
    have a2 : ¬(c.val - 2048 < 512) := by omega
    simp only [dif_neg h1, dif_neg h2, dif_pos h3, dif_pos a, dif_neg a0, dif_pos a1, dif_neg a2]
    rw [zero_add, add_zero]
    refine (v73_apply x0 x1 x2 _ _).trans ?_
    have e : 2048 + (c.val - 2048) - 2560 = c.val - 2560 := by omega
    simp only [e]
  by_cases h4 : c.val < 3584
  · have a : c.val - 2048 < 1536 := by omega
    have a0 : 3072 ≤ 2048 + (c.val - 2048) ∧ 2048 + (c.val - 2048) - 3072 < 512 := by omega
    have a1 : ¬(2560 ≤ 2048 + (c.val - 2048) ∧ 2048 + (c.val - 2048) - 2560 < 512) := by omega
    have a2 : ¬(c.val - 2048 < 512) := by omega
    simp only [dif_neg h1, dif_neg h2, dif_neg h3, dif_pos h4, dif_pos a, dif_pos a0, dif_neg a1, dif_neg a2]
    rw [add_zero, add_zero]
    refine (v71_apply x0 x1 x2 _ _).trans ?_
    have e : 2048 + (c.val - 2048) - 3072 = c.val - 3072 := by omega
    simp only [e]
  · have a : ¬ c.val - 2048 < 1536 := by omega
    simp only [dif_neg h1, dif_neg h2, dif_neg h3, dif_neg h4, dif_neg a]
    exact congrArg (fun z => x3 (ix2 r z)) (Fin.ext (show 3584 + (c.val - 2048 - 1536) = c.val by omega))

/-! ## The taps' gradient -/

theorem v41_apply (k : Fin 512) : val_main_v41 (F := Ideal) x0 x2 (ix1 k) = tapGrad x0 x2 2 k := by
  refine (hostReduceAdd_a01 _ _ _ k).trans ?_
  pointwise [val_main_v38, val_main_v37, val_main_v36, val_main_cst_2, val_main_cst_1]
  simp [v23_apply, v34_apply, tapGrad]

theorem v50_apply (k : Fin 512) : val_main_v50 (F := Ideal) x0 x2 (ix1 k) = tapGrad x0 x2 1 k := by
  refine (hostReduceAdd_a01 _ _ _ k).trans ?_
  pointwise [val_main_v47, val_main_v46, val_main_v45, val_main_cst_6, val_main_cst_5]
  simp [v16_apply, v34_apply, tapGrad]

theorem v61_apply (k : Fin 512) : val_main_v61 (F := Ideal) x0 x2 (ix1 k) = tapGrad x0 x2 0 k := by
  refine (hostReduceAdd_a01 _ _ _ k).trans ?_
  pointwise [val_main_v58, val_main_v57, val_main_v56, val_main_cst_10, val_main_cst_9]
  simp [v10_apply, v34_apply, tapGrad]

/-- The taps' gradient in the first three of eight rows. -/
theorem v85_apply (r : Fin 8) (k : Fin 512) :
    val_main_v85 (F := Ideal) x0 x2 (ix2 r k) = if r.val < 3 then tapGrad x0 x2 r.val k else 0 := by
  pointwise [val_main_v85, val_main_v84, val_main_cst_19, val_main_v64, val_main_v63, val_main_v53, val_main_v52, val_main_v43, val_main_v42, val_main_v51, val_main_v62,
    val_main_cst_3, val_main_cst_7, val_main_cst_11]
  by_cases h : r.val < 3
  · rw [dif_pos h, if_pos h]
    obtain h0 | h0 | h0 : r.val = 0 ∨ r.val = 1 ∨ r.val = 2 := by omega
    · rw [dif_neg (by omega), dif_neg (by omega), dif_pos (by omega), zero_add, zero_add, v61_apply, h0]
    · rw [dif_neg (by omega), dif_pos (by omega), dif_neg (by omega), zero_add, add_zero, v50_apply, h0]
    · rw [dif_pos (by omega), dif_neg (by omega), dif_neg (by omega), add_zero, add_zero, v41_apply, h0]
  · rw [dif_neg h, if_neg h]

end Cert.ConvBwdReference

end
-- ==== Proof.ConvBwdValue.lean ====
/-
  THE VALUE OF `conv_bwd`: what the kernel's two result arrays hold over the extended reals. The grid walks two row blocks
  and, for each, the three column groups of the projections. A row block's shifted rows come from the block itself and, at
  its ends, from the eight rows before it or after it.
-/
module

public import proofs.«01_k».proof.Proof.ConvBwdRun
public import proofs.«01_k».proof.Proof.ConvBwdReference
public import Idealize.ShloMosaic.Lib.Pipeline.ValueKit
public import Idealize.ShloMosaic.Lib.WordCmp

@[expose] public section

set_option maxRecDepth 16384

noncomputable section

namespace Cert.ConvBwdValue

open Cert.ConvBwdIdeal Cert.ConvBwdIdeal.Gen Idealize.ShloMosaic Idealize.ShloMosaic.TcCoe Idealize.SL.Sem Cert.Reals Cert.ConvBwdReference
open Idealize.ShloMosaic.Pipeline (Dat)

/-! ## Choices by a row's number -/

theorem select_lt (p n : ℕ) (hp : p < 2048) (hn : n < 2048) (x y : EReal) :
    Scalar.select (IntOp.cmpi .slt (BitVec.ofNat 32 p) (BitVec.ofNat 32 n)) x y = if p < n then x else y := by
  rw [Idealize.ShloMosaic.WordCmp.cmpi_slt_ofNat (by omega) (by omega)]
  by_cases h : p < n <;> simp [Scalar.select, h]

theorem select_ge (p n : ℕ) (hp : p < 2048) (hn : n < 2048) (x y : EReal) :
    Scalar.select (IntOp.cmpi .sge (BitVec.ofNat 32 p) (BitVec.ofNat 32 n)) x y = if n ≤ p then x else y := by
  rw [Idealize.ShloMosaic.WordCmp.cmpi_sge_ofNat (by omega) (by omega)]
  by_cases h : n ≤ p <;> simp [Scalar.select, h]

theorem select_eq (p n : ℕ) (hp : p < 2048) (hn : n < 2048) (x y : EReal) :
    Scalar.select (IntOp.cmpi .eq (BitVec.ofNat 32 p) (BitVec.ofNat 32 n)) x y = if p = n then x else y := by
  rw [Idealize.ShloMosaic.WordCmp.cmpi_eq_ofNat (by omega) (by omega)]
  by_cases h : p = n <;> simp [Scalar.select, h]

/-! ## The blocks -/

variable (x0 : S2048x7680.Idx → EReal) (x1 : S3x512.Idx → EReal) (x2 : S3x2048x512.Idx → EReal) (x3 : S2048x7680.Idx → EReal)

/-- Row block `b` of the projections' columns from `o` on. -/
abbrev rows (o b : ℕ) : Vec Ideal S1024x512 .f32 := fun i => proj x0 (1024 * b + (i 0).val) (o + (i 1).val)

/-- The eight rows before it (for the first block: its own first). -/
abbrev before (o b : ℕ) : Vec Ideal S8x512 .f32 := fun i => proj x0 (1016 * b + (i 0).val) (o + (i 1).val)

/-- The eight rows after it (for the last block: its own last). -/
abbrev next (o b : ℕ) : Vec Ideal S8x512 .f32 := fun i => proj x0 (1024 + 1016 * b + (i 0).val) (o + (i 1).val)

/-- Row block `b` of the cotangent, -/
abbrev cots (b : ℕ) : Vec Ideal S1x1024x512 .f32 := fun i => cot x2 (1024 * b + (i 1).val) (i 2)

/-- and the eight rows after it. -/
abbrev cotsNext (b : ℕ) : Vec Ideal S1x8x512 .f32 := fun i => cot x2 (1024 + 1016 * b + (i 1).val) (i 2)

section Block

variable (b : ℕ) (hb : b < 2) (p : Fin 1024) (k : Fin 512)

include hb in
/-- The gated input two rows up, -/
theorem pay6_apply : k0_pay6 (F := Ideal) (BitVec.ofNat 32 b) (rows x0 2560 b) (rows x0 3072 b) (before x0 2560 b) (before x0 3072 b) (ix2 p k)
    = padded x0 (1024 * b + p.val) k := by
  pointwise [k0_pay6, k0_pay5, k0_pay4]
  refine (select_lt p.val 2 (by omega) (by omega) _ _).trans ?_
  have hp := p.isLt
  unfold padded gated
  by_cases h : p.val < 2
  · rw [if_pos h, dif_pos (show p.val < 8 by omega)]
    obtain rfl | rfl : b = 0 ∨ b = 1 := by omega
    · rw [if_neg (by omega)]; rfl
    · rw [if_pos (by omega)]
      have e : 1016 * 1 + (p.val + 8 - 2) % 8 = 1024 * 1 + p.val - 2 := by omega
      exact congrArg (fun r => proj x0 r (2560 + k.val) * proj x0 r (3072 + k.val)) e
  · rw [if_neg h, if_pos (by omega)]
    have e : 1024 * b + (p.val + 1024 - 2) % 1024 = 1024 * b + p.val - 2 := by omega
    exact congrArg (fun r => proj x0 r (2560 + k.val) * proj x0 r (3072 + k.val)) e

include hb in
/-- one row up, -/
theorem pay7_apply : k0_pay7 (F := Ideal) (BitVec.ofNat 32 b) (rows x0 2560 b) (rows x0 3072 b) (before x0 2560 b) (before x0 3072 b) (ix2 p k)
    = padded x0 (1024 * b + p.val + 1) k := by
  pointwise [k0_pay7, k0_pay5, k0_pay4]
  refine (select_lt p.val 1 (by omega) (by omega) _ _).trans ?_
  have hp := p.isLt
  unfold padded gated
  by_cases h : p.val < 1
  · rw [if_pos h, dif_pos (show p.val < 8 by omega)]
    obtain rfl | rfl : b = 0 ∨ b = 1 := by omega
    · rw [if_neg (by omega)]; rfl
    · rw [if_pos (by omega)]
      have e : 1016 * 1 + (p.val + 8 - 1) % 8 = 1024 * 1 + p.val + 1 - 2 := by omega
      exact congrArg (fun r => proj x0 r (2560 + k.val) * proj x0 r (3072 + k.val)) e
  · rw [if_neg h, if_pos (by omega)]
    have e : 1024 * b + (p.val + 1024 - 1) % 1024 = 1024 * b + p.val + 1 - 2 := by omega
    exact congrArg (fun r => proj x0 r (2560 + k.val) * proj x0 r (3072 + k.val)) e

/-- and in place. -/
theorem pay4_apply : k0_pay4 (F := Ideal) (rows x0 2560 b) (rows x0 3072 b) (ix2 p k) = padded x0 (1024 * b + p.val + 2) k := by
  pointwise [k0_pay4]
  unfold padded; rw [if_pos (by omega)]; rfl

/-- The cotangent of the convolution's result. -/
theorem pay11_apply : k0_pay11 (F := Ideal) (rows x0 2048 b) (cots x2 b) (ix2 p k) = outGrad x0 x2 (1024 * b + p.val) k := by
  pointwise [k0_pay11, k0_pay10]
  exact mul_comm _ _

include hb in
/-- The cotangent of the gated input. -/
theorem pay12_apply (w0 w1 w2 : Vec Ideal S1x512 .f32) (h0 : w0 (ix2 0 k) = x1 (ix2 0 k)) (h1 : w1 (ix2 0 k) = x1 (ix2 1 k)) (h2 : w2 (ix2 0 k) = x1 (ix2 2 k)) :
    k0_pay12 (F := Ideal) (BitVec.ofNat 32 b) (rows x0 2048 b) w0 w1 w2 (cots x2 b) (cotsNext x2 b) (next x0 2048 b) (ix2 p k)
      = inGrad x0 x1 x2 (1024 * b + p.val) k := by
  have hp := p.isLt
  pointwise [k0_pay12]
  rw [h0, h1, h2]
  unfold inGrad
  refine congr (congrArg HAdd.hAdd (congr (congrArg HAdd.hAdd ?_) ?_)) ?_
  · rw [pay11_apply, mul_comm]
  · rw [mul_comm]
    refine congrArg (· * x1 (ix2 1 k)) ?_
    refine (select_ge p.val 1023 (by omega) (by omega) _ _).trans ?_
    by_cases h : 1023 ≤ p.val
    · rw [if_pos h, dif_neg (show ¬ p.val < 1016 by omega)]
      obtain rfl | rfl : b = 0 ∨ b = 1 := by omega
      · have e : 1024 + 1016 * 0 + (p.val - 1016 + 8 - 7) % 8 = 1024 * 0 + p.val + 1 := by omega
        exact (mul_comm _ _).trans (congrArg (fun r => proj x0 r (2048 + k.val) * cot x2 r k) e)
      · rw [outGrad_past _ _ _ (by omega)]; rfl
    · rw [if_neg h]
      have e : 1024 * b + (p.val + 1024 - 1023) % 1024 = 1024 * b + p.val + 1 := by omega
      exact (pay11_apply x0 x2 b _ k).trans (congrArg (fun r => outGrad x0 x2 r k) e)
  · rw [mul_comm]
    refine congrArg (· * x1 (ix2 0 k)) ?_
    refine (select_ge p.val 1022 (by omega) (by omega) _ _).trans ?_
    by_cases h : 1022 ≤ p.val
    · rw [if_pos h, dif_neg (show ¬ p.val < 1016 by omega)]
      obtain rfl | rfl : b = 0 ∨ b = 1 := by omega
      · have e : 1024 + 1016 * 0 + (p.val - 1016 + 8 - 6) % 8 = 1024 * 0 + p.val + 2 := by omega
        exact (mul_comm _ _).trans (congrArg (fun r => proj x0 r (2048 + k.val) * cot x2 r k) e)
      · rw [outGrad_past _ _ _ (by omega)]; rfl
    · rw [if_neg h]
      have e : 1024 * b + (p.val + 1024 - 1022) % 1024 = 1024 * b + p.val + 2 := by omega
      exact (pay11_apply x0 x2 b _ k).trans (congrArg (fun r => outGrad x0 x2 r k) e)

/-- A row block's part of a tap's gradient. -/
def tapPart (n : ℕ) : EReal := ∑ p : Fin 1024, padded x0 (1024 * b + p.val + n) k * outGrad x0 x2 (1024 * b + p.val) k

/-- The taps' gradient in three of eight rows. -/
def tapRows (f : ℕ → EReal) (r : ℕ) : EReal := if r < 3 then f r else 0

include hb in
/-- A row block's step of the taps' gradient. -/
theorem pay14_apply (old : Vec Ideal S8x512 .f32) (r : Fin 8) :
    k0_pay14 (F := Ideal) (k0_pay4 (rows x0 2560 b) (rows x0 3072 b))
      (k0_pay6 (BitVec.ofNat 32 b) (rows x0 2560 b) (rows x0 3072 b) (before x0 2560 b) (before x0 3072 b))
      (k0_pay7 (BitVec.ofNat 32 b) (rows x0 2560 b) (rows x0 3072 b) (before x0 2560 b) (before x0 3072 b))
      (k0_pay11 (rows x0 2048 b) (cots x2 b)) (iota .tc S8x512 32 [0] iota_S8x512_d0_w32) (k0_pay13 old) (ix2 r k)
      = old (ix2 r k) + tapRows (tapPart x0 x2 b k) r.val := by
  pointwise [k0_pay14, k0_pay13]
  refine congrArg (old (ix2 r k) + ·) ?_
  simp only [pay6_apply x0 b hb, pay7_apply x0 b hb, pay4_apply, pay11_apply]
  rw [select_eq r.val 0 (by omega) (by omega), select_eq r.val 1 (by omega) (by omega), select_eq r.val 2 (by omega) (by omega)]
  unfold tapRows tapPart
  fin_cases r <;> simp [mul_comm]

end Block

/-- The two row blocks' parts are the gradient. -/
theorem tapPart_add (n : ℕ) (k : Fin 512) : tapPart x0 x2 0 k n + tapPart x0 x2 1 k n = tapGrad x0 x2 n k := by
  unfold tapPart tapGrad
  have h := Fin.sum_mul_add_fin (S := 2) (n := 1024) (L := 2048) (fun r : Fin 2048 => padded x0 (r.val + n) k * outGrad x0 x2 r.val k)
  rw [← h, Fin.sum_univ_two]
  refine congr (congrArg HAdd.hAdd (Finset.sum_congr rfl fun p _ => ?_)) (Finset.sum_congr rfl fun p _ => ?_)
  · simp
  · simp

/-! ## The blocks as the launch lays them -/

/-- A point's row block and column group. -/
theorem coords_eq : ∀ t : Fin cfg0.N, (grid0.coords t 0).val = t.val / 3 ∧ (grid0.coords t 1).val = t.val % 3 :=
  (by decide +kernel : ∀ t : Fin grid0.N, _)

/-- The windows' block indices at a point. -/
theorem idx : ∀ t : Fin cfg0.N, win0_0.index t = ![t.val / 3, 4] ∧ win0_1.index t = ![t.val / 3, 5] ∧ win0_2.index t = ![t.val / 3, 6]
    ∧ win0_3.index t = ![127 * (t.val / 3), 5] ∧ win0_4.index t = ![127 * (t.val / 3), 6] ∧ win0_5.index t = ![128 + 127 * (t.val / 3), 4]
    ∧ win0_6.index t = ![1, t.val / 3, 0] ∧ win0_7.index t = ![1, 128 + 127 * (t.val / 3), 0] ∧ win0_8.index t = ![0, 0]
    ∧ win0_9.index t = ![t.val / 3, 4 + t.val % 3] ∧ win0_10.index t = ![0, 0] :=
  (by decide +kernel : ∀ t : Fin grid0.N, _)

section Launch

variable (m : (ℓ : Loc nD τ sig) → Buf (Elt Ideal) ℓ) (c : Dev nD)

/-- The projections, the taps, the cotangent and the first result as launched. -/
abbrev P : S2048x7680.Idx → EReal := m ((c : Thread nD τ).loc main_arg0)
abbrev W : S3x512.Idx → EReal := m ((c : Thread nD τ).loc main_arg1)
abbrev Z : S3x2048x512.Idx → EReal := m ((c : Thread nD τ).loc main_arg2)
abbrev D : S2048x7680.Idx → EReal := m ((c : Thread nD τ).loc main_arg3)

theorem div_lt (t : Fin cfg0.N) : t.val / 3 < 2 := by
  have : t.val < 6 := Nat.lt_of_lt_of_eq t.isLt N_0
  omega

/-! The first six windows read the projections, the next two the cotangent, the next the taps. -/

theorem rows0 (t : Fin cfg0.N) : iblk m c 0 t = rows (P m c) 2048 (t.val / 3) := by
  funext i
  unfold iblk
  entry_read
  have ht := div_lt t
  have h0 : (i 0).val < 1024 := (i 0).isLt
  have h1 : (i 1).val < 512 := (i 1).isLt
  have he : ((cfg0.win 0).blk t).view.emb i = ix2 (⟨1024 * (t.val / 3) + (i 0).val, by omega⟩ : Fin 2048) (⟨2048 + (i 1).val, by omega⟩ : Fin 7680) := by
    blk_ext [idx t]
  rw [View.read_apply, he]
  exact proj_eq (P m c) _ _

theorem rows1 (t : Fin cfg0.N) : iblk m c 1 t = rows (P m c) 2560 (t.val / 3) := by
  funext i
  unfold iblk
  entry_read
  have ht := div_lt t
  have h0 : (i 0).val < 1024 := (i 0).isLt
  have h1 : (i 1).val < 512 := (i 1).isLt
  have he : ((cfg0.win 1).blk t).view.emb i = ix2 (⟨1024 * (t.val / 3) + (i 0).val, by omega⟩ : Fin 2048) (⟨2560 + (i 1).val, by omega⟩ : Fin 7680) := by
    blk_ext [idx t]
  rw [View.read_apply, he]
  exact proj_eq (P m c) _ _

theorem rows2 (t : Fin cfg0.N) : iblk m c 2 t = rows (P m c) 3072 (t.val / 3) := by
  funext i
  unfold iblk
  entry_read
  have ht := div_lt t
  have h0 : (i 0).val < 1024 := (i 0).isLt
  have h1 : (i 1).val < 512 := (i 1).isLt
  have he : ((cfg0.win 2).blk t).view.emb i = ix2 (⟨1024 * (t.val / 3) + (i 0).val, by omega⟩ : Fin 2048) (⟨3072 + (i 1).val, by omega⟩ : Fin 7680) := by
    blk_ext [idx t]
  rw [View.read_apply, he]
  exact proj_eq (P m c) _ _

theorem rows3 (t : Fin cfg0.N) : iblk m c 3 t = before (P m c) 2560 (t.val / 3) := by
  funext i
  unfold iblk
  entry_read
  have ht := div_lt t
  have h0 : (i 0).val < 8 := (i 0).isLt
  have h1 : (i 1).val < 512 := (i 1).isLt
  have he : ((cfg0.win 3).blk t).view.emb i = ix2 (⟨1016 * (t.val / 3) + (i 0).val, by omega⟩ : Fin 2048) (⟨2560 + (i 1).val, by omega⟩ : Fin 7680) := by
    blk_ext [idx t]
  rw [View.read_apply, he]
  exact proj_eq (P m c) _ _

theorem rows4 (t : Fin cfg0.N) : iblk m c 4 t = before (P m c) 3072 (t.val / 3) := by
  funext i
  unfold iblk
  entry_read
  have ht := div_lt t
  have h0 : (i 0).val < 8 := (i 0).isLt
  have h1 : (i 1).val < 512 := (i 1).isLt
  have he : ((cfg0.win 4).blk t).view.emb i = ix2 (⟨1016 * (t.val / 3) + (i 0).val, by omega⟩ : Fin 2048) (⟨3072 + (i 1).val, by omega⟩ : Fin 7680) := by
    blk_ext [idx t]
  rw [View.read_apply, he]
  exact proj_eq (P m c) _ _

theorem rows5 (t : Fin cfg0.N) : iblk m c 5 t = next (P m c) 2048 (t.val / 3) := by
  funext i
  unfold iblk
  entry_read
  have ht := div_lt t
  have h0 : (i 0).val < 8 := (i 0).isLt
  have h1 : (i 1).val < 512 := (i 1).isLt
  have he : ((cfg0.win 5).blk t).view.emb i = ix2 (⟨1024 + 1016 * (t.val / 3) + (i 0).val, by omega⟩ : Fin 2048) (⟨2048 + (i 1).val, by omega⟩ : Fin 7680) := by
    blk_ext [idx t]
  rw [View.read_apply, he]
  exact proj_eq (P m c) _ _

theorem rows6 (t : Fin cfg0.N) : iblk m c 6 t = cots (Z m c) (t.val / 3) := by
  funext i
  unfold iblk
  entry_read
  have ht := div_lt t
  have h0 : (i 0).val < 1 := (i 0).isLt
  have h1 : (i 1).val < 1024 := (i 1).isLt
  have he : ((cfg0.win 6).blk t).view.emb i = ix3 (1 : Fin 3) (⟨1024 * (t.val / 3) + (i 1).val, by omega⟩ : Fin 2048) (i 2) := by
    blk_ext [idx t]
  rw [View.read_apply, he]
  exact cot_eq (Z m c) _ _

theorem rows7 (t : Fin cfg0.N) : iblk m c 7 t = cotsNext (Z m c) (t.val / 3) := by
  funext i
  unfold iblk
  entry_read
  have ht := div_lt t
  have h0 : (i 0).val < 1 := (i 0).isLt
  have h1 : (i 1).val < 8 := (i 1).isLt
  have he : ((cfg0.win 7).blk t).view.emb i = ix3 (1 : Fin 3) (⟨1024 + 1016 * (t.val / 3) + (i 1).val, by omega⟩ : Fin 2048) (i 2) := by
    blk_ext [idx t]
  rw [View.read_apply, he]
  exact cot_eq (Z m c) _ _

theorem rows8 (t : Fin cfg0.N) : iblk m c 8 t = W m c := by
  funext i
  unfold iblk
  entry_read
  have he : ((cfg0.win 8).blk t).view.emb i = ix2 (i 0) (i 1) := by blk_ext [idx t]
  rw [View.read_apply, he]
  exact congrArg (W m c) (ix2_eta i)

/-! ## What goes out -/

theorem rowBlk_eq (t : Fin cfg0.N) : rowBlk (grid0.coords t) = BitVec.ofNat 32 (t.val / 3) := by
  unfold rowBlk; rw [(coords_eq t).1]

theorem tap0_apply (k : Fin 512) : tap0 (F := Ideal) (W m c) (ix2 0 k) = W m c (ix2 0 k) := View.ld_unit_apply_of _ _ _ _ _ _ (Fin.forall_fin_two.mpr ⟨rfl, (Nat.zero_add _).symm⟩)
theorem tap1_apply (k : Fin 512) : tap1 (F := Ideal) (W m c) (ix2 0 k) = W m c (ix2 1 k) := View.ld_unit_apply_of _ _ _ _ _ _ (Fin.forall_fin_two.mpr ⟨rfl, (Nat.zero_add _).symm⟩)
theorem tap2_apply (k : Fin 512) : tap2 (F := Ideal) (W m c) (ix2 0 k) = W m c (ix2 2 k) := View.ld_unit_apply_of _ _ _ _ _ _ (Fin.forall_fin_two.mpr ⟨rfl, (Nat.zero_add _).symm⟩)

/-- The first gate's gradient over a row block. -/
theorem gateBlk_apply (t : Fin cfg0.N) (p : Fin 1024) (k : Fin 512) :
    gateBlk (grid0.coords t) (iblk m c 1 t) (iblk m c 2 t) (iblk m c 3 t) (iblk m c 4 t) (iblk m c 6 t) (iblk m c 8 t) (ix2 p k)
      = cot (Z m c) (1024 * (t.val / 3) + p.val) k * conv (P m c) (W m c) (1024 * (t.val / 3) + p.val) k := by
  rw [rows1, rows2, rows3, rows4, rows6, rows8]
  unfold gateBlk
  rw [rowBlk_eq]
  pointwise [k0_pay15, k0_pay9, k0_pay8, k0_pay10]
  rw [pay6_apply _ _ (div_lt t), pay7_apply _ _ (div_lt t), pay4_apply, tap0_apply, tap1_apply, tap2_apply]
  unfold conv
  rw [mul_comm (W m c (ix2 0 k)), mul_comm (W m c (ix2 1 k)), mul_comm (W m c (ix2 2 k))]; rfl

/-- The cotangent of the gated input over a row block. -/
theorem gradIn_apply (t : Fin cfg0.N) (p : Fin 1024) (k : Fin 512) :
    gradIn (grid0.coords t) (iblk m c 0 t) (iblk m c 5 t) (iblk m c 6 t) (iblk m c 7 t) (iblk m c 8 t) (ix2 p k)
      = inGrad (P m c) (W m c) (Z m c) (1024 * (t.val / 3) + p.val) k := by
  rw [rows0, rows5, rows6, rows7, rows8]
  unfold gradIn
  rw [rowBlk_eq]
  exact pay12_apply _ _ _ _ (div_lt t) _ _ _ _ _ (tap0_apply m c k) (tap1_apply m c k) (tap2_apply m c k)

/-- The two stashed gradients of a row block. -/
theorem stashAt_apply (t : Fin cfg0.N) (q : Fin 2) (p : Fin 1024) (k : Fin 512) :
    stashAt m c t (ix3 q p k) = inGrad (P m c) (W m c) (Z m c) (1024 * (t.val / 3) + p.val) k
      * proj (P m c) (1024 * (t.val / 3) + p.val) ((if q.val = 0 then 3072 else 2560) + k.val) := by
  have hd : (firstOf t).val / 3 = t.val / 3 := by simp only [firstOf]; omega
  have hg := gradIn_apply m c (firstOf t) p k
  rw [hd] at hg
  rw [← hg]
  unfold stashAt
  have h1 := rows1 m c (firstOf t)
  have h2 := rows2 m c (firstOf t)
  rw [hd] at h1 h2
  rw [h1, h2]
  generalize iblk m c 0 (firstOf t) = b0
  generalize iblk m c 5 (firstOf t) = b5
  generalize iblk m c 6 (firstOf t) = b6
  generalize iblk m c 7 (firstOf t) = b7
  generalize iblk m c 8 (firstOf t) = b8
  unfold stashed
  canon_tiles x h
  · have e0 : x 0 = (0 : Fin 1) := Fin.ext (Nat.lt_one_iff.mp x0_lt)
    have e1 : x 1 = p := Fin.ext h1.symm
    have e2 : x 2 = k := Fin.ext h2.symm
    obtain rfl : x = ix3 (0 : Fin 1) p k := by rw [← ix3_eta x, e0, e1, e2]
    have hq : q.val = 1 + 0 := h0
    rw [if_neg (by omega)]
    pointwise [k0_pay2, k0_pay17]
    rfl
  · have e0 : x 0 = (0 : Fin 1) := Fin.ext (Nat.lt_one_iff.mp x0_lt)
    have e1 : x 1 = p := Fin.ext h1.symm
    have e2 : x 2 = k := Fin.ext h2.symm
    obtain rfl : x = ix3 (0 : Fin 1) p k := by rw [← ix3_eta x, e0, e1, e2]
    have hq : q.val = 0 := h0
    rw [if_pos hq]
    pointwise [k0_pay16]
    rfl

/-- The taps' gradient in its eight rows. -/
theorem taps1_apply (r : Fin 8) (k : Fin 512) : taps1 m c (ix2 r k) = if r.val < 3 then tapGrad (P m c) (Z m c) r.val k else 0 := by
  unfold taps1 taps0
  rw [rows0, rows1, rows2, rows3, rows4, rows6, rows0, rows1, rows2, rows3, rows4, rows6]
  unfold tapsStep
  rw [rowBlk_eq, rowBlk_eq]
  refine (pay14_apply _ _ 1 (by omega) k _ r).trans ?_
  refine (congrArg (· + _) (pay14_apply _ _ 0 (by omega) k _ r)).trans ?_
  pointwise [k0_pay1]
  unfold tapRows
  by_cases h : r.val < 3
  · simp only [if_pos h]
    exact tapPart_add _ _ _ _
  · simp only [if_neg h, add_zero]

/-- The stash's row that goes out at a later column group. -/
theorem off1_eq : ∀ t : Fin cfg0.N, t.val % 3 = 0 ∨ k0_off1 (grid0.coords t) 0 = t.val % 3 - 1 :=
  (by decide +kernel : ∀ t : Fin grid0.N, t.val % 3 = 0 ∨ k0_off1 (grid0.coords t) 0 = t.val % 3 - 1)

/-- A later column group, of any stash. -/
theorem laterBlk_of (i : grid0.Coords) (h : k0_cond3 i = 1#1) (s : Vec Ideal S2x1024x512 .f32) (a : Fin 2) (ha : a.val = k0_off1 i 0) (p : Fin 1024)
    (k : Fin 512) : laterBlk (F := Ideal) i h s (ix2 p k) = s (ix3 a p k) := by
  have e : View.ld s (Rect.unit (s := S2x1024x512) (k0_off1 i) S1x1024x512.size (k0_off1_inb i h)) (ix3 (0 : Fin 1) p k) = s (ix3 a p k) := by
    refine View.ld_unit_apply_of s (k0_off1 i) S1x1024x512.size (k0_off1_inb i h) (ix3 (0 : Fin 1) p k) (ix3 a p k) fun b => ?_
    match b with
    | ⟨0, _⟩ => exact ha
    | ⟨1, _⟩ => exact (Nat.zero_add _).symm
    | ⟨2, _⟩ => exact (Nat.zero_add _).symm
  unfold laterBlk
  generalize View.ld s (Rect.unit (s := S2x1024x512) (k0_off1 i) S1x1024x512.size (k0_off1_inb i h)) = w at e ⊢
  pointwise [k0_pay3]
  exact e

/-- A later column group. -/
theorem laterBlk_apply (t : Fin cfg0.N) (ht : ¬ t.val % 3 = 0) (h : k0_cond3 (grid0.coords t) = 1#1) (p : Fin 1024) (k : Fin 512) :
    laterBlk (grid0.coords t) h (stashAt m c t) (ix2 p k) = stashAt m c t (ix3 (⟨t.val % 3 - 1, by omega⟩ : Fin 2) p k) :=
  laterBlk_of (grid0.coords t) h (stashAt m c t) _ ((off1_eq t).resolve_left ht).symm p k

/-- What goes out at a point, as a part of the result. -/
theorem dpAt_apply (t : Fin cfg0.N) (p : Fin 1024) (k : Fin 512) (r : Fin 2048) (o : Fin 7680) (hr : r.val = 1024 * (t.val / 3) + p.val)
    (ho : o.val = 2048 + 512 * (t.val % 3) + k.val) : dpAt m c t (ix2 p k) = out (P m c) (W m c) (Z m c) (D m c) r o := by
  have hk := k.isLt
  unfold dpAt out
  rw [hr]
  obtain h | h | h : t.val % 3 = 0 ∨ t.val % 3 = 1 ∨ t.val % 3 = 2 := by omega
  · have e : (⟨o.val - 2048, by omega⟩ : Fin 512) = k := Fin.ext (show o.val - 2048 = k.val by omega)
    rw [dif_pos h, gateBlk_apply]
    simp only [dif_neg (show ¬ o.val < 2048 by omega), dif_pos (show o.val < 2560 by omega), e]
  · have e : (⟨o.val - 2560, by omega⟩ : Fin 512) = k := Fin.ext (show o.val - 2560 = k.val by omega)
    have e' : 3072 + (o.val - 2560) = 3072 + k.val := by omega
    rw [dif_neg (by omega), laterBlk_apply m c t (by omega), stashAt_apply]
    simp only [dif_neg (show ¬ o.val < 2048 by omega), dif_neg (show ¬ o.val < 2560 by omega), dif_pos (show o.val < 3072 by omega), e, e',
      if_pos (show t.val % 3 - 1 = 0 by omega)]
  · have e : (⟨o.val - 3072, by omega⟩ : Fin 512) = k := Fin.ext (show o.val - 3072 = k.val by omega)
    have e' : 2560 + (o.val - 3072) = 2560 + k.val := by omega
    rw [dif_neg (by omega), laterBlk_apply m c t (by omega), stashAt_apply]
    simp only [dif_neg (show ¬ o.val < 2048 by omega), dif_neg (show ¬ o.val < 2560 by omega), dif_neg (show ¬ o.val < 3072 by omega),
      dif_pos (show o.val < 3584 by omega), e, e', if_neg (show ¬ t.val % 3 - 1 = 0 by omega)]
    exact mul_comm _ _

/-- The projections' gradient in place of the first result's three column groups. -/
theorem final9 (r : Fin 2048) (o : Fin 7680) : (dats m 0 c).arrAt 9 cfg0.N (ix2 r o) = out (P m c) (W m c) (Z m c) (D m c) r o := by
  have h : (dats m 0 c).arrAt 9 cfg0.N = fun i : S2048x7680.Idx => if 2048 ≤ (i 1).val ∧ (i 1).val < 3584 then out (P m c) (W m c) (Z m c) (D m c) (i 0) (i 1) else (dats m 0 c).A 9 i := by
    refine (dats m 0 c).arrAt_eq_of_coversWhere 9 _ (fun β => 4 ≤ β (1 : Fin 2) ∧ β (1 : Fin 2) < 7) (by decide +kernel) (fun t hf y => ?_) (fun j => ?_)
    · rw [after0_9]
      have h0 : (y 0).val < 1024 := (y 0).isLt
      have h1 : (y 1).val < 512 := (y 1).isLt
      have ht := div_lt t
      have hx : (cfg0.win 9).xinj (cfg0.grid.coords t) y = ix2 (y 0) (y 1) := by blk_ext
      have he : ((cfg0.win 9).blk t).view.emb y = ix2 (⟨1024 * (t.val / 3) + (y 0).val, by omega⟩ : Fin 2048) (⟨2048 + 512 * (t.val % 3) + (y 1).val, by omega⟩ : Fin 7680) := by
        blk_ext [idx t]
      rw [hx, he]
      exact dpAt_apply m c t _ _ _ _ rfl rfl
    · blk_simp [Pipeline.Window.cell_apply]; omega
  rw [h]
  show (if 2048 ≤ o.val ∧ o.val < 3584 then out (P m c) (W m c) (Z m c) (D m c) r o else (dats m 0 c).A 9 (ix2 r o)) = _
  by_cases hc : 2048 ≤ o.val ∧ o.val < 3584
  · rw [if_pos hc]
  · rw [if_neg hc]
    unfold out
    have hA : (dats m 0 c).A 9 (ix2 r o) = D m c (ix2 r o) := by
      show V m c main_v0_0 (ix2 r o) = _
      unfold V
      entry_read
      rfl
    rw [hA]
    by_cases h2 : o.val < 2048
    · simp only [dif_pos h2]
    · simp only [dif_neg h2, dif_neg (show ¬ o.val < 2560 by omega), dif_neg (show ¬ o.val < 3072 by omega), dif_neg (show ¬ o.val < 3584 by omega)]

/-- The taps' gradient. -/
theorem final10 (r : Fin 8) (k : Fin 512) : (dats m 0 c).arrAt 10 cfg0.N (ix2 r k) = if r.val < 3 then tapGrad (P m c) (Z m c) r.val k else 0 := by
  refine (congrFun ((dats m 0 c).arrAt_eq_of_after_last 10 t0_5 (by decide +kernel) (G := fun j : S8x512.Idx => (if (j 0).val < 3 then tapGrad (P m c) (Z m c) (j 0).val (j 1) else 0 : EReal)) fun j => ?_) _)
  rw [after0_10]
  exact (congrArg (taps1 m c) (ix2_eta j).symm).trans (taps1_apply m c _ _)

end Launch

end Cert.ConvBwdValue

end
-- ==== Proof.ConvBwdClaim.lean ====
/-
  THE CLAIMS OF `conv_bwd`, assembled: the kernel's run at the extended reals and at the machine's words, the reference's run, and
  that over the extended reals the kernel's two results are the reference's at all arguments.
-/
module

public import proofs.«01_k».proof.Defs
public import proofs.«01_k».proof.Proof.ConvBwdRun
public import proofs.«01_k».proof.Proof.ConvBwdValue
public import proofs.«01_k».proof.Proof.Gen.ConvBwd.Frame
public import Idealize.ShloMosaic.Lib.Quiescent

@[expose] public section

noncomputable section

namespace Cert.ConvBwdClaim

open Idealize.ShloMosaic Idealize.SL.Sem

/-- The kernel runs at the extended reals: its arguments end unchanged and its counters at zero. -/
theorem frame_ideal : Cert.quiescent_ConvBwdIdeal := fun m ρ _ => Cert.ConvBwdIdeal.frame m ρ

/-- The two printed programs have the same functions at the machine's words. -/
theorem defs_eq : (Cert.ConvBwd.defs (F := Bits)) = Cert.ConvBwdIdeal.defs (F := Bits) := by sl_kernel_rfl

/-- The two printed programs have the same entry at the machine's words. -/
theorem main_eq : (Cert.ConvBwd.main (F := Bits)) = Cert.ConvBwdIdeal.main (F := Bits) := by sl_kernel_rfl

/-- The kernel runs at the machine's words: its arguments end unchanged and its counters at zero. -/
theorem frame_bits : Cert.quiescent_ConvBwd := fun m ρ _ => by
  have h := Cert.ConvBwdIdeal.frame (F := Bits) m ρ
  rw [← defs_eq, ← main_eq] at h
  exact h

/-- The reference runs, its arguments end unchanged and its counters at zero. -/
theorem reference_runs : Cert.quiescent_ConvBwdRefIdeal := fun m ρ _ =>
  (θ_run Cert.ConvBwdRefIdeal.defs _ _).mono (fun r h => ⟨fun c => (h c).2.2, sem_eq_zero_of_no_sems (by decide) r.2⟩)
    (Cert.ConvBwdRefIdeal.Value.run (F := Ideal) m ρ)

/-- Over the extended reals the kernel's results are the reference's: the columns of the projection's cotangent and the gradient of
the taps. -/
theorem algebraic : Cert.algebraic_ConvBwdIdeal_ConvBwdRefIdeal := by
  intro m ρ m' ρ' _ hagree
  refine ⟨_, _, Cert.ConvBwdIdeal.run_results (F := Ideal) m ρ, ?_⟩
  refine (θ_run Cert.ConvBwdRefIdeal.defs _ _).mono (fun _ h c => ⟨?_, ?_, (h c).2.2⟩) (Cert.ConvBwdRefIdeal.Value.run (F := Ideal) m' ρ')
  · refine ((h c).1.trans (Cert.ConvBwdRefIdeal.Read.val_main_v83_eq _ _)).trans ?_
    rw [(hagree c).1, (hagree c).2.1, (hagree c).2.2.1, (hagree c).2.2.2]
    funext j
    rw [eq_ix2 j]
    exact (ConvBwdReference.v83_apply _ _ _ _ (j 0) (j 1)).trans (ConvBwdValue.final9 m c (j 0) (j 1)).symm
  · refine ((h c).2.1.trans (Cert.ConvBwdRefIdeal.Read.val_main_v85_eq _ _)).trans ?_
    rw [(hagree c).1, (hagree c).2.2.1]
    funext j
    rw [eq_ix2 j]
    exact (ConvBwdReference.v85_apply _ _ (j 0) (j 1)).trans (ConvBwdValue.final10 m c (j 0) (j 1)).symm

end Cert.ConvBwdClaim

end
-- ==== Proof.Pieces.lean ====
module

public import Idealize.ShloMosaic.Lib.Pipeline.ValueKit
public import Idealize.ShloMosaic.Lib.Pipeline.ReadBack

/-! An array kept as four parts, each part read, changed and written back in turn, several times over: after the last pass the
array holds each part changed once per pass. -/

@[expose] public section

noncomputable section

namespace Cert.Pieces

open Idealize.ShloMosaic Idealize.ShloMosaic.TcCoe Idealize.ShloMosaic.View

variable {sig : RefSig} {κ : Kind} {sp : Space} {s : Shape} {e : EltTy} {Val : EltTy → Type} [∀ e, Nonempty (Val e)]
  (v : View sig κ sp s e) (r0 r1 r2 r3 : Rect s)

/-- The four parts are pairwise apart. -/
structure Apart : Prop where
  h01 : LoadRect.disj r0 r1.toLoadRect = true
  h02 : LoadRect.disj r0 r2.toLoadRect = true
  h03 : LoadRect.disj r0 r3.toLoadRect = true
  h10 : LoadRect.disj r1 r0.toLoadRect = true
  h12 : LoadRect.disj r1 r2.toLoadRect = true
  h13 : LoadRect.disj r1 r3.toLoadRect = true
  h20 : LoadRect.disj r2 r0.toLoadRect = true
  h21 : LoadRect.disj r2 r1.toLoadRect = true
  h23 : LoadRect.disj r2 r3.toLoadRect = true
  h30 : LoadRect.disj r3 r0.toLoadRect = true
  h31 : LoadRect.disj r3 r1.toLoadRect = true
  h32 : LoadRect.disj r3 r2.toLoadRect = true

section

variable (f0 : (r0.shape.Idx → Val e) → r0.shape.Idx → Val e) (f1 : (r1.shape.Idx → Val e) → r1.shape.Idx → Val e)
  (f2 : (r2.shape.Idx → Val e) → r2.shape.Idx → Val e) (f3 : (r3.shape.Idx → Val e) → r3.shape.Idx → Val e)

/-- The four parts put on top of earlier writes. -/
abbrev over (a0 : r0.shape.Idx → Val e) (a1 : r1.shape.Idx → Val e) (a2 : r2.shape.Idx → Val e) (a3 : r3.shape.Idx → Val e)
    (B : List (Piece Val s e)) : List (Piece Val s e) := ⟨r3, a3⟩ :: ⟨r2, a2⟩ :: ⟨r1, a1⟩ :: ⟨r0, a0⟩ :: B

/-- One pass: each part read back, changed and written, in turn. -/
def pass (L : List (Piece Val s e)) : List (Piece Val s e) :=
  let L1 : List (Piece Val s e) := ⟨r0, f0 (v.readCov L r0.toLoadRect)⟩ :: L
  let L2 : List (Piece Val s e) := ⟨r1, f1 (v.readCov L1 r1.toLoadRect)⟩ :: L1
  let L3 : List (Piece Val s e) := ⟨r2, f2 (v.readCov L2 r2.toLoadRect)⟩ :: L2
  ⟨r3, f3 (v.readCov L3 r3.toLoadRect)⟩ :: L3

variable {r0 r1 r2 r3}

/-- A pass over the four parts changes each once. -/
theorem pass_over (h : Apart r0 r1 r2 r3) (a0 : r0.shape.Idx → Val e) (a1 : r1.shape.Idx → Val e) (a2 : r2.shape.Idx → Val e)
    (a3 : r3.shape.Idx → Val e) (B : List (Piece Val s e)) :
    pass v r0 r1 r2 r3 f0 f1 f2 f3 (over r0 r1 r2 r3 a0 a1 a2 a3 B)
      = over r0 r1 r2 r3 (f0 a0) (f1 a1) (f2 a2) (f3 a3) (over r0 r1 r2 r3 a0 a1 a2 a3 B) := by
  have e0 : v.readCov (over r0 r1 r2 r3 a0 a1 a2 a3 B) r0.toLoadRect = a0 := by
    rw [over, View.readCov_skip v r3 a3 _ _ h.h30, View.readCov_skip v r2 a2 _ _ h.h20, View.readCov_skip v r1 a1 _ _ h.h10,
      View.readCov_cons_toLoadRect]
  have e1 : ∀ w, v.readCov (⟨r0, w⟩ :: over r0 r1 r2 r3 a0 a1 a2 a3 B) r1.toLoadRect = a1 := by
    intro w
    rw [View.readCov_skip v r0 w _ _ h.h01, over, View.readCov_skip v r3 a3 _ _ h.h31, View.readCov_skip v r2 a2 _ _ h.h21,
      View.readCov_cons_toLoadRect]
  have e2 : ∀ w w', v.readCov (⟨r1, w'⟩ :: ⟨r0, w⟩ :: over r0 r1 r2 r3 a0 a1 a2 a3 B) r2.toLoadRect = a2 := by
    intro w w'
    rw [View.readCov_skip v r1 w' _ _ h.h12, View.readCov_skip v r0 w _ _ h.h02, over, View.readCov_skip v r3 a3 _ _ h.h32,
      View.readCov_cons_toLoadRect]
  have e3 : ∀ w w' w'', v.readCov (⟨r2, w''⟩ :: ⟨r1, w'⟩ :: ⟨r0, w⟩ :: over r0 r1 r2 r3 a0 a1 a2 a3 B) r3.toLoadRect = a3 := by
    intro w w' w''
    rw [View.readCov_skip v r2 w'' _ _ h.h23, View.readCov_skip v r1 w' _ _ h.h13, View.readCov_skip v r0 w _ _ h.h03, over,
      View.readCov_cons_toLoadRect]
  unfold pass
  simp only [e0, e1, e2, e3]

/-- A pass over an array filled whole changes each part of the filling. -/
theorem pass_filled (h : Apart r0 r1 r2 r3) {off : Fin s.rank → ℕ} (inb : ∀ a, off a + s.size a ≤ s.size a) (Z : s.Idx → Val e)
    (hz : ∀ a, off a = 0) (L : List (Piece Val s e)) :
    pass v r0 r1 r2 r3 f0 f1 f2 f3 (⟨Rect.unit off s.size inb, Z⟩ :: L)
      = over r0 r1 r2 r3 (f0 (View.ld Z r0)) (f1 (View.ld Z r1)) (f2 (View.ld Z r2)) (f3 (View.ld Z r3)) (⟨Rect.unit off s.size inb, Z⟩ :: L) := by
  have e0 : v.readCov (⟨Rect.unit off s.size inb, Z⟩ :: L) r0.toLoadRect = View.ld Z r0 := View.readCov_fill v inb Z L r0 hz
  have e1 : ∀ w, v.readCov (⟨r0, w⟩ :: ⟨Rect.unit off s.size inb, Z⟩ :: L) r1.toLoadRect = View.ld Z r1 := by
    intro w
    rw [View.readCov_skip v r0 w _ _ h.h01]; exact View.readCov_fill v inb Z L r1 hz
  have e2 : ∀ w w', v.readCov (⟨r1, w'⟩ :: ⟨r0, w⟩ :: ⟨Rect.unit off s.size inb, Z⟩ :: L) r2.toLoadRect = View.ld Z r2 := by
    intro w w'
    rw [View.readCov_skip v r1 w' _ _ h.h12, View.readCov_skip v r0 w _ _ h.h02]; exact View.readCov_fill v inb Z L r2 hz
  have e3 : ∀ w w' w'', v.readCov (⟨r2, w''⟩ :: ⟨r1, w'⟩ :: ⟨r0, w⟩ :: ⟨Rect.unit off s.size inb, Z⟩ :: L) r3.toLoadRect = View.ld Z r3 := by
    intro w w' w''
    rw [View.readCov_skip v r2 w'' _ _ h.h23, View.readCov_skip v r1 w' _ _ h.h13, View.readCov_skip v r0 w _ _ h.h03]
    exact View.readCov_fill v inb Z L r3 hz
  unfold pass
  simp only [e0, e1, e2, e3]

/-- Where the four parts make up the array, what lies under them does not matter. -/
theorem canon_over (hc : ∀ y : s.Idx, y ∈ r0.set ∨ y ∈ r1.set ∨ y ∈ r2.set ∨ y ∈ r3.set) (a0 : r0.shape.Idx → Val e)
    (a1 : r1.shape.Idx → Val e) (a2 : r2.shape.Idx → Val e) (a3 : r3.shape.Idx → Val e) (B : List (Piece Val s e)) :
    View.canon (over r0 r1 r2 r3 a0 a1 a2 a3 B) = View.canon (over r0 r1 r2 r3 a0 a1 a2 a3 []) := by
  have key : ∀ (r : Rect s) (a : r.shape.Idx → Val e) (B C : List (Piece Val s e)) (y : s.Idx),
      (y ∉ r.set → View.canon B y = View.canon C y) → View.canon (⟨r, a⟩ :: B) y = View.canon (⟨r, a⟩ :: C) y := by
    intro r a B C y h
    by_cases hy : y ∈ r.set
    · obtain ⟨x, rfl⟩ : ∃ x, r.emb x = y := r.exists_idx_of_mem hy
      rw [View.canon_cons_emb, View.canon_cons_emb]
    · rw [View.canon_cons_of_not_mem _ _ hy, View.canon_cons_of_not_mem _ _ hy, h hy]
  funext y
  refine key _ _ _ _ y fun h3 => key _ _ _ _ y fun h2 => key _ _ _ _ y fun h1 => key _ _ _ _ y fun h0 => ?_
  rcases hc y with h | h | h | h
  · exact absurd h h0
  · exact absurd h h1
  · exact absurd h h2
  · exact absurd h h3

end

/-- The four parts, one by one. -/
theorem over_congr (r0 r1 r2 r3 : Rect s) {a0 b0 : r0.shape.Idx → Val e} {a1 b1 : r1.shape.Idx → Val e} {a2 b2 : r2.shape.Idx → Val e}
    {a3 b3 : r3.shape.Idx → Val e} (h3 : a3 = b3) (h2 : a2 = b2) (h1 : a1 = b1) (h0 : a0 = b0) :
    View.canon (over r0 r1 r2 r3 a0 a1 a2 a3 []) = View.canon (over r0 r1 r2 r3 b0 b1 b2 b3 []) := by
  rw [h3, h2, h1, h0]

/-- An array changed whole three times over, read back each time, is what the three changes make of it. -/
theorem thrice (r : Rect s) (f1 f2 f3 : (r.shape.Idx → Val e) → r.shape.Idx → Val e) (a : r.shape.Idx → Val e) (B : List (Piece Val s e)) :
    f3 (v.readCov (⟨r, f2 (v.readCov (⟨r, f1 (v.readCov (⟨r, a⟩ :: B) r.toLoadRect)⟩ :: ⟨r, a⟩ :: B) r.toLoadRect)⟩
      :: ⟨r, f1 (v.readCov (⟨r, a⟩ :: B) r.toLoadRect)⟩ :: ⟨r, a⟩ :: B) r.toLoadRect) = f3 (f2 (f1 a)) := by
  simp only [View.readCov_cons_toLoadRect]

end Cert.Pieces

end
-- ==== Proof.SgBwdBody.lean ====
module

public import proofs.«01_k».proof.Proof.Gen.SgBwdIdeal.Skeleton
public import proofs.«01_k».proof.Proof.Gen.SgBwdIdeal.Frame
public import Idealize.ShloMosaic.Lib.Pipeline.ValueKit
public import Idealize.ShloMosaic.Lib.VecWindow
public import proofs.«01_k».proof.Proof.Pieces

/-! What one grid point of the spatial gating's backward kernel leaves behind.

The grid runs over the four row blocks and, within each, over the two column groups of the result. At a row block's first
group the kernel goes through the block's four chunks of 128 rows: of each it writes the gradient of the gate's input, stashes
the gradient of the mixed input, and adds the chunk's share to the gradients of the weights, the biases, the gain and the
offset. At the second group it copies the stashed gradient out. -/

@[expose] public section

set_option maxRecDepth 16384

noncomputable section

namespace Cert.SgBwdIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SgBwdIdeal.Gen

variable {F : FTy → Type} [FloatOps F] [Named F]

local notation "𝕄" => MT nD τ sig Unit (Elt F) ℕ (UR sig nD τ) ℕ

/-! ## One chunk -/

section Chunk

variable (u v : Vec F S128x512 .f32) (g b : Vec F S1x512 .f32) (w0 w1 w2 w3 : Vec F S1x128x128 .f32) (s0 s1 s2 s3 : Vec F S1x128x1 .f32)
  (z : Vec F S1x128x512 .f32)

/-- The mixed input, normed. -/
def normed : FVec F S128x512 .f32 := k0_pay15 (k0_pay12 v) (k0_pay13 v)

/-- The normed input with gain and offset. -/
def scaled : FVec F S128x512 .f32 := k0_pay16 (k0_pay7 g) (k0_pay8 b) (k0_pay12 v) (k0_pay13 v)

/-- What each group's masked weights and biases make of it. -/
def mixed : FVec F S128x512 .f32 :=
  k0_pay23 (scaled v g b) (k0_pay19 w1) (k0_pay20 w2) (k0_pay21 w3) (k0_pay22 (k0_pay7 g) (k0_pay8 b) (k0_pay12 v) (k0_pay13 v) w0) s0 s1 s2 s3

/-- The cotangent of the mixed rows. -/
def dmixed : FVec F S128x512 .f32 := k0_pay25 (k0_pay10 u) z

/-- The first group's columns of it. -/
def dmixed0 : FVec F S128x128 .f32 := k0_pay26 (k0_pay10 u) z

/-- The share of the first group's weights. -/
def dws0 (old : Vec F S1x128x128 .f32) : FVec F S1x128x128 .f32 := k0_pay28 (k0_pay27 (k0_pay10 u) (scaled v g b) k0_pay17 z old)
/-- The share of the second group's weights. -/
def dws1 (old : Vec F S1x128x128 .f32) : FVec F S1x128x128 .f32 := k0_pay32 (scaled v g b) k0_pay17 (dmixed u z) old
/-- The share of the third group's weights. -/
def dws2 (old : Vec F S1x128x128 .f32) : FVec F S1x128x128 .f32 := k0_pay37 (scaled v g b) k0_pay17 (dmixed u z) old
/-- The share of the fourth group's weights. -/
def dws3 (old : Vec F S1x128x128 .f32) : FVec F S1x128x128 .f32 := k0_pay43 (k0_pay41 old) (k0_pay42 (scaled v g b) k0_pay17 (dmixed u z))

/-- The share of the first group's biases. -/
def dbs0 (old : Vec F S1x128x1 .f32) : FVec F S1x128x1 .f32 := k0_pay29 (dmixed0 u z) old
/-- The share of the second group's biases. -/
def dbs1 (old : Vec F S1x128x1 .f32) : FVec F S1x128x1 .f32 := k0_pay34 (k0_pay33 (dmixed u z) old)
/-- The share of the third group's biases. -/
def dbs2 (old : Vec F S1x128x1 .f32) : FVec F S1x128x1 .f32 := k0_pay38 (dmixed u z) old
/-- The share of the fourth group's biases. -/
def dbs3 (old : Vec F S1x128x1 .f32) : FVec F S1x128x1 .f32 := k0_pay44 (k0_pay40 (dmixed u z)) old

/-- The cotangent of the first group's scaled columns. -/
def dscaled0 : FVec F S128x128 .f32 := k0_pay30 (k0_pay18 w0) (dmixed0 u z)
/-- The cotangent of the second group's scaled columns. -/
def dscaled1 : FVec F S128x128 .f32 := k0_pay35 (k0_pay19 w1) (k0_pay31 (dmixed u z))
/-- The cotangent of the third group's scaled columns. -/
def dscaled2 : FVec F S128x128 .f32 := k0_pay39 (k0_pay20 w2) (dmixed u z)

/-- The cotangent of the scaled columns. -/
def dscaled : FVec F S128x512 .f32 := k0_pay45 (k0_pay21 w3) (dscaled0 u w0 z) (dscaled1 u w1 z) (dscaled2 u w2 z) (k0_pay40 (dmixed u z))

/-- The share of the gain. -/
def dgain (old : Vec F S8x512 .f32) : FVec F S8x512 .f32 :=
  k0_pay46 (normed v) (k0_pay21 w3) (dscaled0 u w0 z) (dscaled1 u w1 z) (dscaled2 u w2 z) (k0_pay40 (dmixed u z)) old

/-- The share of the offset. -/
def doff (old : Vec F S8x512 .f32) : FVec F S8x512 .f32 :=
  k0_pay50 (k0_pay47 old) (k0_pay48 (k0_pay21 w3) (dscaled0 u w0 z) (dscaled1 u w1 z) (dscaled2 u w2 z) (k0_pay40 (dmixed u z)))
    (iota .tc S8x512 32 [0] iota_S8x512_d0_w32) k0_pay49

/-- The cotangent of the activated input before its norm. -/
def dact : FVec F S128x512 .f32 := k0_pay51 (k0_pay7 g) (k0_pay14 (k0_pay13 v)) (normed v) (dscaled u w0 w1 w2 w3 z)

/-- The gradient of the gate's input. -/
def dgate : FVec F S128x512 .bf16 := k0_pay54 (k0_pay52 (mixed v g b w0 w1 w2 w3 s0 s1 s2 s3) (k0_pay24 z)) (k0_pay53 u (k0_pay9 u))

/-- The gradient of the mixed input. -/
def dinput : FVec F S128x512 .f32 := k0_pay55 v (k0_pay11 v) (dact u v g w0 w1 w2 w3 z)

end Chunk

/-! ## One row block -/

/-- The chunk `k`'s rows of a block. -/
def chunk {e : EltTy} (k : ℕ) (hk : k < 4) (x : Vec F S512x512 e) : Vec F S128x512 e :=
  View.ld x (Rect.unit (s := S512x512) ![128 * k, 0] S128x512.size (fun a => match a with
    | ⟨0, _⟩ => show 128 * k + 128 ≤ 512 by omega
    | ⟨1, _⟩ => show 0 + 512 ≤ 512 by omega))

/-- The chunk `k`'s rows of a block of the cotangent. -/
def chunkZ (k : ℕ) (hk : k < 4) (x : Vec F S1x512x512 .f32) : Vec F S1x128x512 .f32 :=
  View.ld x (Rect.unit (s := S1x512x512) ![0, 128 * k, 0] S1x128x512.size (fun a => match a with
    | ⟨0, _⟩ => show 0 + 1 ≤ 1 by omega
    | ⟨1, _⟩ => show 128 * k + 128 ≤ 512 by omega
    | ⟨2, _⟩ => show 0 + 512 ≤ 512 by omega))

/-- The group `k`'s weights. -/
def grpW (k : ℕ) (hk : k < 4) (x : Vec F S4x128x128 .f32) : Vec F S1x128x128 .f32 :=
  View.ld x (Rect.unit (s := S4x128x128) ![k, 0, 0] S1x128x128.size (fun a => match a with
    | ⟨0, _⟩ => show k + 1 ≤ 4 by omega
    | ⟨1, _⟩ => show 0 + 128 ≤ 128 by omega
    | ⟨2, _⟩ => show 0 + 128 ≤ 128 by omega))

/-- The group `k`'s biases. -/
def grpB (k : ℕ) (hk : k < 4) (x : Vec F S4x128x1 .f32) : Vec F S1x128x1 .f32 :=
  View.ld x (Rect.unit (s := S4x128x1) ![k, 0, 0] S1x128x1.size (fun a => match a with
    | ⟨0, _⟩ => show k + 1 ≤ 4 by omega
    | ⟨1, _⟩ => show 0 + 128 ≤ 128 by omega
    | ⟨2, _⟩ => show 0 + 1 ≤ 1 by omega))

section Block

variable (x0 x1 : Vec F S512x512 .f32) (x2 x3 : Vec F S1x512 .f32) (x4 : Vec F S4x128x128 .f32) (x5 : Vec F S4x128x1 .f32) (x6 : Vec F S1x512x512 .f32)

/-- The gradient of the gate's input over chunk `k`. -/
def gateC (k : ℕ) (hk : k < 4) : FVec F S128x512 .bf16 :=
  dgate (chunk k hk x0) (chunk k hk x1) x2 x3 (grpW 0 (by omega) x4) (grpW 1 (by omega) x4) (grpW 2 (by omega) x4) (grpW 3 (by omega) x4)
    (grpB 0 (by omega) x5) (grpB 1 (by omega) x5) (grpB 2 (by omega) x5) (grpB 3 (by omega) x5) (chunkZ k hk x6)

/-- The gradient of the mixed input over chunk `k`. -/
def inputC (k : ℕ) (hk : k < 4) : FVec F S128x512 .f32 :=
  dinput (chunk k hk x0) (chunk k hk x1) x2 (grpW 0 (by omega) x4) (grpW 1 (by omega) x4) (grpW 2 (by omega) x4) (grpW 3 (by omega) x4) (chunkZ k hk x6)

/-- The rows of a block's chunk, as a rectangle. -/
abbrev rowsR (k : ℕ) (hk : k < 4) : Rect S512x512 := Rect.unit (s := S512x512) ![128 * k, 0] S128x512.size (fun a => match a with
    | ⟨0, _⟩ => show 128 * k + 128 ≤ 512 by omega
    | ⟨1, _⟩ => show 0 + 512 ≤ 512 by omega)

/-- The gradient of the gate's input over a row block, as it goes out. -/
def firstBlk : Vec F S512x512 .bf16 :=
  View.canon [⟨rowsR 3 (by omega), gateC x0 x1 x2 x3 x4 x5 x6 3 (by omega)⟩, ⟨rowsR 2 (by omega), gateC x0 x1 x2 x3 x4 x5 x6 2 (by omega)⟩,
    ⟨rowsR 1 (by omega), gateC x0 x1 x2 x3 x4 x5 x6 1 (by omega)⟩, ⟨rowsR 0 (by omega), gateC x0 x1 x2 x3 x4 x5 x6 0 (by omega)⟩]

/-- The gradient of the mixed input over a row block, as the scratch array holds it. -/
def stashed : Vec F S512x512 .f32 :=
  View.canon [⟨rowsR 3 (by omega), inputC x0 x1 x2 x4 x6 3 (by omega)⟩, ⟨rowsR 2 (by omega), inputC x0 x1 x2 x4 x6 2 (by omega)⟩,
    ⟨rowsR 1 (by omega), inputC x0 x1 x2 x4 x6 1 (by omega)⟩, ⟨rowsR 0 (by omega), inputC x0 x1 x2 x4 x6 0 (by omega)⟩]

/-- The gradient of the gain with the four chunks' shares added. -/
def dgainStep (old : Vec F S8x512 .f32) : Vec F S8x512 .f32 :=
  let f := fun (k : ℕ) (hk : k < 4) (o : Vec F S8x512 .f32) => dgain (chunk k hk x0) (chunk k hk x1) (grpW 0 (by omega) x4) (grpW 1 (by omega) x4) (grpW 2 (by omega) x4) (grpW 3 (by omega) x4) (chunkZ k hk x6) o
  f 3 (by omega) (f 2 (by omega) (f 1 (by omega) (f 0 (by omega) old)))

/-- The gradient of the offset with the four chunks' shares added. -/
def doffStep (old : Vec F S8x512 .f32) : Vec F S8x512 .f32 :=
  let f := fun (k : ℕ) (hk : k < 4) (o : Vec F S8x512 .f32) => doff (chunk k hk x0) (grpW 0 (by omega) x4) (grpW 1 (by omega) x4) (grpW 2 (by omega) x4) (grpW 3 (by omega) x4) (chunkZ k hk x6) o
  f 3 (by omega) (f 2 (by omega) (f 1 (by omega) (f 0 (by omega) old)))

/-- The group `k`'s weights, as a rectangle. -/
abbrev wR (k : ℕ) (hk : k < 4) : Rect S4x128x128 := Rect.unit (s := S4x128x128) ![k, 0, 0] S1x128x128.size (fun a => match a with
    | ⟨0, _⟩ => show k + 1 ≤ 4 by omega
    | ⟨1, _⟩ => show 0 + 128 ≤ 128 by omega
    | ⟨2, _⟩ => show 0 + 128 ≤ 128 by omega)

/-- The group `k`'s biases, as a rectangle. -/
abbrev bR (k : ℕ) (hk : k < 4) : Rect S4x128x1 := Rect.unit (s := S4x128x1) ![k, 0, 0] S1x128x1.size (fun a => match a with
    | ⟨0, _⟩ => show k + 1 ≤ 4 by omega
    | ⟨1, _⟩ => show 0 + 128 ≤ 128 by omega
    | ⟨2, _⟩ => show 0 + 1 ≤ 1 by omega)

/-- A group's weights' gradient with the four chunks' shares added; `f` adds one chunk's. -/
def fourTimes {A : Type} (f : (k : ℕ) → k < 4 → A → A) (old : A) : A := f 3 (by omega) (f 2 (by omega) (f 1 (by omega) (f 0 (by omega) old)))

/-- The weights' gradient with the four chunks' shares added. -/
def dwsStep (old : Vec F S4x128x128 .f32) : Vec F S4x128x128 .f32 :=
  View.canon [⟨wR 3 (by omega), fourTimes (fun k hk => dws3 (chunk k hk x0) (chunk k hk x1) x2 x3 (chunkZ k hk x6)) (grpW 3 (by omega) old)⟩,
    ⟨wR 2 (by omega), fourTimes (fun k hk => dws2 (chunk k hk x0) (chunk k hk x1) x2 x3 (chunkZ k hk x6)) (grpW 2 (by omega) old)⟩,
    ⟨wR 1 (by omega), fourTimes (fun k hk => dws1 (chunk k hk x0) (chunk k hk x1) x2 x3 (chunkZ k hk x6)) (grpW 1 (by omega) old)⟩,
    ⟨wR 0 (by omega), fourTimes (fun k hk => dws0 (chunk k hk x0) (chunk k hk x1) x2 x3 (chunkZ k hk x6)) (grpW 0 (by omega) old)⟩]

/-- The biases' gradient with the four chunks' shares added. -/
def dbsStep (old : Vec F S4x128x1 .f32) : Vec F S4x128x1 .f32 :=
  View.canon [⟨bR 3 (by omega), fourTimes (fun k hk => dbs3 (chunk k hk x0) (chunkZ k hk x6)) (grpB 3 (by omega) old)⟩,
    ⟨bR 2 (by omega), fourTimes (fun k hk => dbs2 (chunk k hk x0) (chunkZ k hk x6)) (grpB 2 (by omega) old)⟩,
    ⟨bR 1 (by omega), fourTimes (fun k hk => dbs1 (chunk k hk x0) (chunkZ k hk x6)) (grpB 1 (by omega) old)⟩,
    ⟨bR 0 (by omega), fourTimes (fun k hk => dbs0 (chunk k hk x0) (chunkZ k hk x6)) (grpB 0 (by omega) old)⟩]

end Block

/-! ## The four passes over the weights' and the biases' gradients -/

/-- The groups' weights lie apart. -/
theorem wR_apart : Pieces.Apart (wR 0 (by omega)) (wR 1 (by omega)) (wR 2 (by omega)) (wR 3 (by omega)) := by
  constructor <;> rfl

/-- The groups' biases lie apart. -/
theorem bR_apart : Pieces.Apart (bR 0 (by omega)) (bR 1 (by omega)) (bR 2 (by omega)) (bR 3 (by omega)) := by
  constructor <;> rfl

/-- The four groups' weights are all of them. -/
theorem wR_all (y : S4x128x128.Idx) : y ∈ (wR 0 (by omega)).set ∨ y ∈ (wR 1 (by omega)).set ∨ y ∈ (wR 2 (by omega)).set ∨ y ∈ (wR 3 (by omega)).set := by
  obtain ⟨p, hp, hy⟩ := View.cover_of_tiledL (s := S4x128x128) (Val := fun _ => Unit) (e := .f32)
    [⟨wR 3 (by omega), fun _ => ()⟩, ⟨wR 2 (by omega), fun _ => ()⟩,
      ⟨wR 1 (by omega), fun _ => ()⟩, ⟨wR 0 (by omega), fun _ => ()⟩] S1x128x128.size (by sl_kernel_rfl) y
  simp only [List.mem_cons, List.not_mem_nil, or_false] at hp
  rcases hp with rfl | rfl | rfl | rfl
  · exact Or.inr (Or.inr (Or.inr hy))
  · exact Or.inr (Or.inr (Or.inl hy))
  · exact Or.inr (Or.inl hy)
  · exact Or.inl hy

/-- The four groups' biases are all of them. -/
theorem bR_all (y : S4x128x1.Idx) : y ∈ (bR 0 (by omega)).set ∨ y ∈ (bR 1 (by omega)).set ∨ y ∈ (bR 2 (by omega)).set ∨ y ∈ (bR 3 (by omega)).set := by
  obtain ⟨p, hp, hy⟩ := View.cover_of_tiledL (s := S4x128x1) (Val := fun _ => Unit) (e := .f32)
    [⟨bR 3 (by omega), fun _ => ()⟩, ⟨bR 2 (by omega), fun _ => ()⟩,
      ⟨bR 1 (by omega), fun _ => ()⟩, ⟨bR 0 (by omega), fun _ => ()⟩] S1x128x1.size (by sl_kernel_rfl) y
  simp only [List.mem_cons, List.not_mem_nil, or_false] at hp
  rcases hp with rfl | rfl | rfl | rfl
  · exact Or.inr (Or.inr (Or.inr hy))
  · exact Or.inr (Or.inr (Or.inl hy))
  · exact Or.inr (Or.inl hy)
  · exact Or.inl hy

/-- Three passes over the weights' gradient with the first chunk's share added leave the four chunks' shares added. -/
theorem dws_next {sp : Space} (v : View sig .tc sp S4x128x128 .f32) (x0 x1 : Vec F S512x512 .f32) (x2 x3 : Vec F S1x512 .f32) (x6 : Vec F S1x512x512 .f32) (old : Vec F S4x128x128 .f32) (B : List (View.Piece (Elt F) S4x128x128 .f32)) :
    View.canon (Pieces.pass v (wR 0 (by omega)) (wR 1 (by omega)) (wR 2 (by omega)) (wR 3 (by omega)) (dws0 (chunk 3 (by omega) x0) (chunk 3 (by omega) x1) x2 x3 (chunkZ 3 (by omega) x6)) (dws1 (chunk 3 (by omega) x0) (chunk 3 (by omega) x1) x2 x3 (chunkZ 3 (by omega) x6)) (dws2 (chunk 3 (by omega) x0) (chunk 3 (by omega) x1) x2 x3 (chunkZ 3 (by omega) x6)) (dws3 (chunk 3 (by omega) x0) (chunk 3 (by omega) x1) x2 x3 (chunkZ 3 (by omega) x6)) (Pieces.pass v (wR 0 (by omega)) (wR 1 (by omega)) (wR 2 (by omega)) (wR 3 (by omega)) (dws0 (chunk 2 (by omega) x0) (chunk 2 (by omega) x1) x2 x3 (chunkZ 2 (by omega) x6)) (dws1 (chunk 2 (by omega) x0) (chunk 2 (by omega) x1) x2 x3 (chunkZ 2 (by omega) x6)) (dws2 (chunk 2 (by omega) x0) (chunk 2 (by omega) x1) x2 x3 (chunkZ 2 (by omega) x6)) (dws3 (chunk 2 (by omega) x0) (chunk 2 (by omega) x1) x2 x3 (chunkZ 2 (by omega) x6)) (Pieces.pass v (wR 0 (by omega)) (wR 1 (by omega)) (wR 2 (by omega)) (wR 3 (by omega)) (dws0 (chunk 1 (by omega) x0) (chunk 1 (by omega) x1) x2 x3 (chunkZ 1 (by omega) x6)) (dws1 (chunk 1 (by omega) x0) (chunk 1 (by omega) x1) x2 x3 (chunkZ 1 (by omega) x6)) (dws2 (chunk 1 (by omega) x0) (chunk 1 (by omega) x1) x2 x3 (chunkZ 1 (by omega) x6)) (dws3 (chunk 1 (by omega) x0) (chunk 1 (by omega) x1) x2 x3 (chunkZ 1 (by omega) x6)) (Pieces.over (wR 0 (by omega)) (wR 1 (by omega)) (wR 2 (by omega)) (wR 3 (by omega)) (dws0 (chunk 0 (by omega) x0) (chunk 0 (by omega) x1) x2 x3 (chunkZ 0 (by omega) x6) (grpW 0 (by omega) old)) (dws1 (chunk 0 (by omega) x0) (chunk 0 (by omega) x1) x2 x3 (chunkZ 0 (by omega) x6) (grpW 1 (by omega) old)) (dws2 (chunk 0 (by omega) x0) (chunk 0 (by omega) x1) x2 x3 (chunkZ 0 (by omega) x6) (grpW 2 (by omega) old)) (dws3 (chunk 0 (by omega) x0) (chunk 0 (by omega) x1) x2 x3 (chunkZ 0 (by omega) x6) (grpW 3 (by omega) old)) B)))) = dwsStep x0 x1 x2 x3 x6 old := by
  rw [Pieces.pass_over _ _ _ _ _ wR_apart, Pieces.pass_over _ _ _ _ _ wR_apart, Pieces.pass_over _ _ _ _ _ wR_apart,
    Pieces.canon_over (wR_all)]
  rfl

/-- Four passes over the weights' gradient filled whole with `old` leave the four chunks' shares added. -/
theorem dws_first {sp : Space} (v : View sig .tc sp S4x128x128 .f32) (x0 x1 : Vec F S512x512 .f32) (x2 x3 : Vec F S1x512 .f32) (x6 : Vec F S1x512x512 .f32) (inb : ∀ a, (![0, 0, 0] : Fin 3 → ℕ) a + S4x128x128.size a ≤ S4x128x128.size a) (old : Vec F S4x128x128 .f32) :
    View.canon (Pieces.pass v (wR 0 (by omega)) (wR 1 (by omega)) (wR 2 (by omega)) (wR 3 (by omega)) (dws0 (chunk 3 (by omega) x0) (chunk 3 (by omega) x1) x2 x3 (chunkZ 3 (by omega) x6)) (dws1 (chunk 3 (by omega) x0) (chunk 3 (by omega) x1) x2 x3 (chunkZ 3 (by omega) x6)) (dws2 (chunk 3 (by omega) x0) (chunk 3 (by omega) x1) x2 x3 (chunkZ 3 (by omega) x6)) (dws3 (chunk 3 (by omega) x0) (chunk 3 (by omega) x1) x2 x3 (chunkZ 3 (by omega) x6)) (Pieces.pass v (wR 0 (by omega)) (wR 1 (by omega)) (wR 2 (by omega)) (wR 3 (by omega)) (dws0 (chunk 2 (by omega) x0) (chunk 2 (by omega) x1) x2 x3 (chunkZ 2 (by omega) x6)) (dws1 (chunk 2 (by omega) x0) (chunk 2 (by omega) x1) x2 x3 (chunkZ 2 (by omega) x6)) (dws2 (chunk 2 (by omega) x0) (chunk 2 (by omega) x1) x2 x3 (chunkZ 2 (by omega) x6)) (dws3 (chunk 2 (by omega) x0) (chunk 2 (by omega) x1) x2 x3 (chunkZ 2 (by omega) x6)) (Pieces.pass v (wR 0 (by omega)) (wR 1 (by omega)) (wR 2 (by omega)) (wR 3 (by omega)) (dws0 (chunk 1 (by omega) x0) (chunk 1 (by omega) x1) x2 x3 (chunkZ 1 (by omega) x6)) (dws1 (chunk 1 (by omega) x0) (chunk 1 (by omega) x1) x2 x3 (chunkZ 1 (by omega) x6)) (dws2 (chunk 1 (by omega) x0) (chunk 1 (by omega) x1) x2 x3 (chunkZ 1 (by omega) x6)) (dws3 (chunk 1 (by omega) x0) (chunk 1 (by omega) x1) x2 x3 (chunkZ 1 (by omega) x6)) (Pieces.pass v (wR 0 (by omega)) (wR 1 (by omega)) (wR 2 (by omega)) (wR 3 (by omega)) (dws0 (chunk 0 (by omega) x0) (chunk 0 (by omega) x1) x2 x3 (chunkZ 0 (by omega) x6)) (dws1 (chunk 0 (by omega) x0) (chunk 0 (by omega) x1) x2 x3 (chunkZ 0 (by omega) x6)) (dws2 (chunk 0 (by omega) x0) (chunk 0 (by omega) x1) x2 x3 (chunkZ 0 (by omega) x6)) (dws3 (chunk 0 (by omega) x0) (chunk 0 (by omega) x1) x2 x3 (chunkZ 0 (by omega) x6)) [(⟨Rect.unit (s := S4x128x128) ![0, 0, 0] S4x128x128.size inb, old⟩ : View.Piece (Elt F) S4x128x128 .f32)])))) = dwsStep x0 x1 x2 x3 x6 old := by
  rw [Pieces.pass_filled _ _ _ _ _ wR_apart _ _ (fun a => by fin_cases a <;> rfl)]
  exact dws_next v x0 x1 x2 x3 x6 old _

/-- Three passes over the biases' gradient with the first chunk's share added leave the four chunks' shares added. -/
theorem dbs_next {sp : Space} (v : View sig .tc sp S4x128x1 .f32) (x0 : Vec F S512x512 .f32) (x6 : Vec F S1x512x512 .f32) (old : Vec F S4x128x1 .f32) (B : List (View.Piece (Elt F) S4x128x1 .f32)) :
    View.canon (Pieces.pass v (bR 0 (by omega)) (bR 1 (by omega)) (bR 2 (by omega)) (bR 3 (by omega)) (dbs0 (chunk 3 (by omega) x0) (chunkZ 3 (by omega) x6)) (dbs1 (chunk 3 (by omega) x0) (chunkZ 3 (by omega) x6)) (dbs2 (chunk 3 (by omega) x0) (chunkZ 3 (by omega) x6)) (dbs3 (chunk 3 (by omega) x0) (chunkZ 3 (by omega) x6)) (Pieces.pass v (bR 0 (by omega)) (bR 1 (by omega)) (bR 2 (by omega)) (bR 3 (by omega)) (dbs0 (chunk 2 (by omega) x0) (chunkZ 2 (by omega) x6)) (dbs1 (chunk 2 (by omega) x0) (chunkZ 2 (by omega) x6)) (dbs2 (chunk 2 (by omega) x0) (chunkZ 2 (by omega) x6)) (dbs3 (chunk 2 (by omega) x0) (chunkZ 2 (by omega) x6)) (Pieces.pass v (bR 0 (by omega)) (bR 1 (by omega)) (bR 2 (by omega)) (bR 3 (by omega)) (dbs0 (chunk 1 (by omega) x0) (chunkZ 1 (by omega) x6)) (dbs1 (chunk 1 (by omega) x0) (chunkZ 1 (by omega) x6)) (dbs2 (chunk 1 (by omega) x0) (chunkZ 1 (by omega) x6)) (dbs3 (chunk 1 (by omega) x0) (chunkZ 1 (by omega) x6)) (Pieces.over (bR 0 (by omega)) (bR 1 (by omega)) (bR 2 (by omega)) (bR 3 (by omega)) (dbs0 (chunk 0 (by omega) x0) (chunkZ 0 (by omega) x6) (grpB 0 (by omega) old)) (dbs1 (chunk 0 (by omega) x0) (chunkZ 0 (by omega) x6) (grpB 1 (by omega) old)) (dbs2 (chunk 0 (by omega) x0) (chunkZ 0 (by omega) x6) (grpB 2 (by omega) old)) (dbs3 (chunk 0 (by omega) x0) (chunkZ 0 (by omega) x6) (grpB 3 (by omega) old)) B)))) = dbsStep x0 x6 old := by
  rw [Pieces.pass_over _ _ _ _ _ bR_apart, Pieces.pass_over _ _ _ _ _ bR_apart, Pieces.pass_over _ _ _ _ _ bR_apart,
    Pieces.canon_over (bR_all)]
  rfl

/-- Four passes over the biases' gradient filled whole with `old` leave the four chunks' shares added. -/
theorem dbs_first {sp : Space} (v : View sig .tc sp S4x128x1 .f32) (x0 : Vec F S512x512 .f32) (x6 : Vec F S1x512x512 .f32) (inb : ∀ a, (![0, 0, 0] : Fin 3 → ℕ) a + S4x128x1.size a ≤ S4x128x1.size a) (old : Vec F S4x128x1 .f32) :
    View.canon (Pieces.pass v (bR 0 (by omega)) (bR 1 (by omega)) (bR 2 (by omega)) (bR 3 (by omega)) (dbs0 (chunk 3 (by omega) x0) (chunkZ 3 (by omega) x6)) (dbs1 (chunk 3 (by omega) x0) (chunkZ 3 (by omega) x6)) (dbs2 (chunk 3 (by omega) x0) (chunkZ 3 (by omega) x6)) (dbs3 (chunk 3 (by omega) x0) (chunkZ 3 (by omega) x6)) (Pieces.pass v (bR 0 (by omega)) (bR 1 (by omega)) (bR 2 (by omega)) (bR 3 (by omega)) (dbs0 (chunk 2 (by omega) x0) (chunkZ 2 (by omega) x6)) (dbs1 (chunk 2 (by omega) x0) (chunkZ 2 (by omega) x6)) (dbs2 (chunk 2 (by omega) x0) (chunkZ 2 (by omega) x6)) (dbs3 (chunk 2 (by omega) x0) (chunkZ 2 (by omega) x6)) (Pieces.pass v (bR 0 (by omega)) (bR 1 (by omega)) (bR 2 (by omega)) (bR 3 (by omega)) (dbs0 (chunk 1 (by omega) x0) (chunkZ 1 (by omega) x6)) (dbs1 (chunk 1 (by omega) x0) (chunkZ 1 (by omega) x6)) (dbs2 (chunk 1 (by omega) x0) (chunkZ 1 (by omega) x6)) (dbs3 (chunk 1 (by omega) x0) (chunkZ 1 (by omega) x6)) (Pieces.pass v (bR 0 (by omega)) (bR 1 (by omega)) (bR 2 (by omega)) (bR 3 (by omega)) (dbs0 (chunk 0 (by omega) x0) (chunkZ 0 (by omega) x6)) (dbs1 (chunk 0 (by omega) x0) (chunkZ 0 (by omega) x6)) (dbs2 (chunk 0 (by omega) x0) (chunkZ 0 (by omega) x6)) (dbs3 (chunk 0 (by omega) x0) (chunkZ 0 (by omega) x6)) [(⟨Rect.unit (s := S4x128x1) ![0, 0, 0] S4x128x1.size inb, old⟩ : View.Piece (Elt F) S4x128x1 .f32)])))) = dbsStep x0 x6 old := by
  rw [Pieces.pass_filled _ _ _ _ _ bR_apart _ _ (fun a => by fin_cases a <;> rfl)]
  exact dbs_next v x0 x6 old _

section Runs

variable (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S4x128x128 .f32) (harg6 : arg6.IsWhole) (arg7 : Memref sig .tc .vmem S4x128x1 .f32) (harg7 : arg7.IsWhole) (arg8 : Memref sig .tc .vmem S1x512x512 .f32) (harg8 : arg8.IsWhole) (arg9 : Memref sig .tc .hbm S2048x7680 .bf16) (harg9 : arg9.IsWhole) (arg10 : Memref sig .tc .vmem S512x512 .bf16) (harg10 : arg10.IsWhole) (arg11 : Memref sig .tc .vmem S4x128x128 .f32) (harg11 : arg11.IsWhole) (arg12 : Memref sig .tc .vmem S4x128x1 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S512x512 .f32) (harg15 : arg15.IsWhole) (x0 : Vec F S512x512 .f32) (x1 : Vec F S512x512 .f32) (x2 : Vec F S1x512 .f32) (x3 : Vec F S1x512 .f32) (x4 : Vec F S4x128x128 .f32) (x5 : Vec F S4x128x1 .f32) (x6 : Vec F S1x512x512 .f32)

set_option maxHeartbeats 2000000 in
/-- At a later row block's first column group: the four sums add to what the point before left. -/
theorem run_next (hc1 : ¬ k0_cond1 i = 1#1) (hc2 : k0_cond2 i = 1#1) (hc3 : ¬ k0_cond3 i = 1#1) (o8 : Vec F S4x128x128 .f32) (o9 : Vec F S4x128x1 .f32) (o10 : Vec F S8x512 .f32) (o11 : Vec F S8x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ owns (c : Thread nD τ) arg11 fullShare o8 ∗ owns (c : Thread nD τ) arg12 fullShare o9 ∗ owns (c : Thread nD τ) arg13 fullShare o10 ∗ owns (c : Thread nD τ) arg14 fullShare o11 ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg10 fullShare (firstBlk x0 x1 x2 x3 x4 x5 x6) ∗ owns (c : Thread nD τ) arg11 fullShare (dwsStep x0 x1 x2 x3 x6 o8) ∗ owns (c : Thread nD τ) arg12 fullShare (dbsStep x0 x6 o9) ∗ owns (c : Thread nD τ) arg13 fullShare (dgainStep x0 x1 x4 x6 o10) ∗ owns (c : Thread nD τ) arg14 fullShare (doffStep x0 x4 x6 o11) ∗ owns (c : Thread nD τ) arg15 fullShare (stashed x0 x1 x2 x4 x6)) -∗ K ⟨⟩))
      ⊢ wp frame (wpE (defs₀ (F := F)) Variants.none c none) E (cc0_sg_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_sg_bwd_eq_skeleton]; unfold cc0_sg_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%f11, %hf11, H11⟩, ⟨%f12, %hf12, H12⟩, ⟨%f13, %hf13, H13⟩, ⟨%f14, %hf14, H14⟩, ⟨%d15, %f15, -, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  obtain rfl := harg11.eq_unread hf11; obtain rfl := harg12.eq_unread hf12; obtain rfl := harg13.eq_unread hf13; obtain rfl := harg14.eq_unread hf14
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H10]
  · iexists _; isplitr; swap; · iexact H10
    ipureintro
    refine Eq.trans (View.read_writes_eq_canon (Val := Elt F) arg10.view _ _ (fun y => View.cover_of_tiledL (s := S512x512) _ S128x512.size (by sl_kernel_rfl) y)) ?_
    refine Eq.trans ?_ (show firstBlk (arg2.view.read (Elt F) (harg2.unread x0)) (arg3.view.read (Elt F) (harg3.unread x1)) (View.ld (arg4.view.read (Elt F) (harg4.unread x2)) (Rect.unit (s := S1x512) ![0, 0] S1x512.size inb_S1x512_S1x512_0_0)) (View.ld (arg5.view.read (Elt F) (harg5.unread x3)) (Rect.unit (s := S1x512) ![0, 0] S1x512.size inb_S1x512_S1x512_0_0)) (arg6.view.read (Elt F) (harg6.unread x4)) (arg7.view.read (Elt F) (harg7.unread x5)) (arg8.view.read (Elt F) (harg8.unread x6)) = _ by simp (disch := decide) only [Memref.IsWhole.read_unread, View.ld_unit_lit'])
    sl_kernel_rfl
  isplitl [H11]
  · iexists _; isplitr; swap; · iexact H11
    ipureintro
    refine Eq.trans (View.read_writes_eq_canon (Val := Elt F) arg11.view _ _ (fun y => View.cover_of_tiledL (s := S4x128x128) _ S1x128x128.size (by sl_kernel_rfl) y)) ?_
    refine Eq.trans ?_ ((dws_next arg11.view (arg2.view.read (Elt F) (harg2.unread x0)) (arg3.view.read (Elt F) (harg3.unread x1)) (View.ld (arg4.view.read (Elt F) (harg4.unread x2)) (Rect.unit (s := S1x512) ![0, 0] S1x512.size inb_S1x512_S1x512_0_0)) (View.ld (arg5.view.read (Elt F) (harg5.unread x3)) (Rect.unit (s := S1x512) ![0, 0] S1x512.size inb_S1x512_S1x512_0_0)) (arg8.view.read (Elt F) (harg8.unread x6)) (arg11.view.read (Elt F) (harg11.unread o8)) []).trans (by simp (disch := decide) only [Memref.IsWhole.read_unread, View.ld_unit_lit']))
    sl_kernel_rfl
  isplitl [H12]
  · iexists _; isplitr; swap; · iexact H12
    ipureintro
    refine Eq.trans (View.read_writes_eq_canon (Val := Elt F) arg12.view _ _ (fun y => View.cover_of_tiledL (s := S4x128x1) _ S1x128x1.size (by sl_kernel_rfl) y)) ?_
    refine Eq.trans ?_ ((dbs_next arg12.view (arg2.view.read (Elt F) (harg2.unread x0)) (arg8.view.read (Elt F) (harg8.unread x6)) (arg12.view.read (Elt F) (harg12.unread o9)) []).trans (by simp (disch := decide) only [Memref.IsWhole.read_unread, View.ld_unit_lit']))
    sl_kernel_rfl
  isplitl [H13]
  · iexists _; isplitr; swap; · iexact H13
    ipureintro
    refine (View.read_writes_full _ _ _ _ _).trans (Eq.trans ?_ ((Pieces.thrice arg13.view (Rect.unit (s := S8x512) ![0, 0] S8x512.size inb_S8x512_S8x512_0_0) (dgain (chunk 1 (by omega) (arg2.view.read (Elt F) (harg2.unread x0))) (chunk 1 (by omega) (arg3.view.read (Elt F) (harg3.unread x1))) (grpW 0 (by omega) (arg6.view.read (Elt F) (harg6.unread x4))) (grpW 1 (by omega) (arg6.view.read (Elt F) (harg6.unread x4))) (grpW 2 (by omega) (arg6.view.read (Elt F) (harg6.unread x4))) (grpW 3 (by omega) (arg6.view.read (Elt F) (harg6.unread x4))) (chunkZ 1 (by omega) (arg8.view.read (Elt F) (harg8.unread x6)))) (dgain (chunk 2 (by omega) (arg2.view.read (Elt F) (harg2.unread x0))) (chunk 2 (by omega) (arg3.view.read (Elt F) (harg3.unread x1))) (grpW 0 (by omega) (arg6.view.read (Elt F) (harg6.unread x4))) (grpW 1 (by omega) (arg6.view.read (Elt F) (harg6.unread x4))) (grpW 2 (by omega) (arg6.view.read (Elt F) (harg6.unread x4))) (grpW 3 (by omega) (arg6.view.read (Elt F) (harg6.unread x4))) (chunkZ 2 (by omega) (arg8.view.read (Elt F) (harg8.unread x6)))) (dgain (chunk 3 (by omega) (arg2.view.read (Elt F) (harg2.unread x0))) (chunk 3 (by omega) (arg3.view.read (Elt F) (harg3.unread x1))) (grpW 0 (by omega) (arg6.view.read (Elt F) (harg6.unread x4))) (grpW 1 (by omega) (arg6.view.read (Elt F) (harg6.unread x4))) (grpW 2 (by omega) (arg6.view.read (Elt F) (harg6.unread x4))) (grpW 3 (by omega) (arg6.view.read (Elt F) (harg6.unread x4))) (chunkZ 3 (by omega) (arg8.view.read (Elt F) (harg8.unread x6)))) (dgain (chunk 0 (by omega) (arg2.view.read (Elt F) (harg2.unread x0))) (chunk 0 (by omega) (arg3.view.read (Elt F) (harg3.unread x1))) (grpW 0 (by omega) (arg6.view.read (Elt F) (harg6.unread x4))) (grpW 1 (by omega) (arg6.view.read (Elt F) (harg6.unread x4))) (grpW 2 (by omega) (arg6.view.read (Elt F) (harg6.unread x4))) (grpW 3 (by omega) (arg6.view.read (Elt F) (harg6.unread x4))) (chunkZ 0 (by omega) (arg8.view.read (Elt F) (harg8.unread x6))) (View.ld (arg13.view.read (Elt F) (harg13.unread o10)) (Rect.unit (s := S8x512) ![0, 0] S8x512.size inb_S8x512_S8x512_0_0))) []).trans (by rw [View.ld_unit_lit inb_S8x512_S8x512_0_0 _ (fun a => by fin_cases a <;> rfl)]; first | rfl | (simp (disch := decide) only [Memref.IsWhole.read_unread, View.ld_unit_lit']; rfl))))
    sl_kernel_rfl
  isplitl [H14]
  · iexists _; isplitr; swap; · iexact H14
    ipureintro
    refine (View.read_writes_full _ _ _ _ _).trans (Eq.trans ?_ ((Pieces.thrice arg14.view (Rect.unit (s := S8x512) ![0, 0] S8x512.size inb_S8x512_S8x512_0_0) (doff (chunk 1 (by omega) (arg2.view.read (Elt F) (harg2.unread x0))) (grpW 0 (by omega) (arg6.view.read (Elt F) (harg6.unread x4))) (grpW 1 (by omega) (arg6.view.read (Elt F) (harg6.unread x4))) (grpW 2 (by omega) (arg6.view.read (Elt F) (harg6.unread x4))) (grpW 3 (by omega) (arg6.view.read (Elt F) (harg6.unread x4))) (chunkZ 1 (by omega) (arg8.view.read (Elt F) (harg8.unread x6)))) (doff (chunk 2 (by omega) (arg2.view.read (Elt F) (harg2.unread x0))) (grpW 0 (by omega) (arg6.view.read (Elt F) (harg6.unread x4))) (grpW 1 (by omega) (arg6.view.read (Elt F) (harg6.unread x4))) (grpW 2 (by omega) (arg6.view.read (Elt F) (harg6.unread x4))) (grpW 3 (by omega) (arg6.view.read (Elt F) (harg6.unread x4))) (chunkZ 2 (by omega) (arg8.view.read (Elt F) (harg8.unread x6)))) (doff (chunk 3 (by omega) (arg2.view.read (Elt F) (harg2.unread x0))) (grpW 0 (by omega) (arg6.view.read (Elt F) (harg6.unread x4))) (grpW 1 (by omega) (arg6.view.read (Elt F) (harg6.unread x4))) (grpW 2 (by omega) (arg6.view.read (Elt F) (harg6.unread x4))) (grpW 3 (by omega) (arg6.view.read (Elt F) (harg6.unread x4))) (chunkZ 3 (by omega) (arg8.view.read (Elt F) (harg8.unread x6)))) (doff (chunk 0 (by omega) (arg2.view.read (Elt F) (harg2.unread x0))) (grpW 0 (by omega) (arg6.view.read (Elt F) (harg6.unread x4))) (grpW 1 (by omega) (arg6.view.read (Elt F) (harg6.unread x4))) (grpW 2 (by omega) (arg6.view.read (Elt F) (harg6.unread x4))) (grpW 3 (by omega) (arg6.view.read (Elt F) (harg6.unread x4))) (chunkZ 0 (by omega) (arg8.view.read (Elt F) (harg8.unread x6))) (View.ld (arg14.view.read (Elt F) (harg14.unread o11)) (Rect.unit (s := S8x512) ![0, 0] S8x512.size inb_S8x512_S8x512_0_0))) []).trans (by rw [View.ld_unit_lit inb_S8x512_S8x512_0_0 _ (fun a => by fin_cases a <;> rfl)]; first | rfl | (simp (disch := decide) only [Memref.IsWhole.read_unread, View.ld_unit_lit']; rfl))))
    sl_kernel_rfl
  iexists _; isplitr; swap; · iexact H15
  ipureintro
  refine Eq.trans (View.read_writes_eq_canon (Val := Elt F) arg15.view _ _ (fun y => View.cover_of_tiledL (s := S512x512) _ S128x512.size (by sl_kernel_rfl) y)) ?_
  refine Eq.trans ?_ (show stashed (arg2.view.read (Elt F) (harg2.unread x0)) (arg3.view.read (Elt F) (harg3.unread x1)) (View.ld (arg4.view.read (Elt F) (harg4.unread x2)) (Rect.unit (s := S1x512) ![0, 0] S1x512.size inb_S1x512_S1x512_0_0)) (arg6.view.read (Elt F) (harg6.unread x4)) (arg8.view.read (Elt F) (harg8.unread x6)) = _ by simp (disch := decide) only [Memref.IsWhole.read_unread, View.ld_unit_lit'])
  sl_kernel_rfl

set_option maxHeartbeats 2000000 in
/-- At the grid's first point: the four sums start from zero. -/
theorem run_first (hc1 : k0_cond1 i = 1#1) (hc2 : k0_cond2 i = 1#1) (hc3 : ¬ k0_cond3 i = 1#1)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg10 fullShare (firstBlk x0 x1 x2 x3 x4 x5 x6) ∗ owns (c : Thread nD τ) arg11 fullShare (dwsStep x0 x1 x2 x3 x6 k0_pay1) ∗ owns (c : Thread nD τ) arg12 fullShare (dbsStep x0 x6 k0_pay2) ∗ owns (c : Thread nD τ) arg13 fullShare (dgainStep x0 x1 x4 x6 k0_pay3) ∗ owns (c : Thread nD τ) arg14 fullShare (doffStep x0 x4 x6 k0_pay4) ∗ owns (c : Thread nD τ) arg15 fullShare (stashed x0 x1 x2 x4 x6)) -∗ K ⟨⟩))
      ⊢ wp frame (wpE (defs₀ (F := F)) Variants.none c none) E (cc0_sg_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_sg_bwd_eq_skeleton]; unfold cc0_sg_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H10]
  · iexists _; isplitr; swap; · iexact H10
    ipureintro
    refine Eq.trans (View.read_writes_eq_canon (Val := Elt F) arg10.view _ _ (fun y => View.cover_of_tiledL (s := S512x512) _ S128x512.size (by sl_kernel_rfl) y)) ?_
    refine Eq.trans ?_ (show firstBlk (arg2.view.read (Elt F) (harg2.unread x0)) (arg3.view.read (Elt F) (harg3.unread x1)) (View.ld (arg4.view.read (Elt F) (harg4.unread x2)) (Rect.unit (s := S1x512) ![0, 0] S1x512.size inb_S1x512_S1x512_0_0)) (View.ld (arg5.view.read (Elt F) (harg5.unread x3)) (Rect.unit (s := S1x512) ![0, 0] S1x512.size inb_S1x512_S1x512_0_0)) (arg6.view.read (Elt F) (harg6.unread x4)) (arg7.view.read (Elt F) (harg7.unread x5)) (arg8.view.read (Elt F) (harg8.unread x6)) = _ by simp (disch := decide) only [Memref.IsWhole.read_unread, View.ld_unit_lit'])
    sl_kernel_rfl
  isplitl [H11]
  · iexists _; isplitr; swap; · iexact H11
    ipureintro
    refine Eq.trans (View.read_writes_eq_canon (Val := Elt F) arg11.view _ _ (fun y => View.cover_of_tiledL (s := S4x128x128) _ S1x128x128.size (by sl_kernel_rfl) y)) ?_
    refine Eq.trans ?_ ((dws_first arg11.view (arg2.view.read (Elt F) (harg2.unread x0)) (arg3.view.read (Elt F) (harg3.unread x1)) (View.ld (arg4.view.read (Elt F) (harg4.unread x2)) (Rect.unit (s := S1x512) ![0, 0] S1x512.size inb_S1x512_S1x512_0_0)) (View.ld (arg5.view.read (Elt F) (harg5.unread x3)) (Rect.unit (s := S1x512) ![0, 0] S1x512.size inb_S1x512_S1x512_0_0)) (arg8.view.read (Elt F) (harg8.unread x6)) inb_S4x128x128_S4x128x128_0_0_0 k0_pay1).trans (by simp (disch := decide) only [Memref.IsWhole.read_unread, View.ld_unit_lit']))
    sl_kernel_rfl
  isplitl [H12]
  · iexists _; isplitr; swap; · iexact H12
    ipureintro
    refine Eq.trans (View.read_writes_eq_canon (Val := Elt F) arg12.view _ _ (fun y => View.cover_of_tiledL (s := S4x128x1) _ S1x128x1.size (by sl_kernel_rfl) y)) ?_
    refine Eq.trans ?_ ((dbs_first arg12.view (arg2.view.read (Elt F) (harg2.unread x0)) (arg8.view.read (Elt F) (harg8.unread x6)) inb_S4x128x1_S4x128x1_0_0_0 k0_pay2).trans (by simp (disch := decide) only [Memref.IsWhole.read_unread, View.ld_unit_lit']))
    sl_kernel_rfl
  isplitl [H13]
  · iexists _; isplitr; swap; · iexact H13
    ipureintro
    refine (View.read_writes_full _ _ _ _ _).trans (Eq.trans ?_ ((Pieces.thrice arg13.view (Rect.unit (s := S8x512) ![0, 0] S8x512.size inb_S8x512_S8x512_0_0) (dgain (chunk 1 (by omega) (arg2.view.read (Elt F) (harg2.unread x0))) (chunk 1 (by omega) (arg3.view.read (Elt F) (harg3.unread x1))) (grpW 0 (by omega) (arg6.view.read (Elt F) (harg6.unread x4))) (grpW 1 (by omega) (arg6.view.read (Elt F) (harg6.unread x4))) (grpW 2 (by omega) (arg6.view.read (Elt F) (harg6.unread x4))) (grpW 3 (by omega) (arg6.view.read (Elt F) (harg6.unread x4))) (chunkZ 1 (by omega) (arg8.view.read (Elt F) (harg8.unread x6)))) (dgain (chunk 2 (by omega) (arg2.view.read (Elt F) (harg2.unread x0))) (chunk 2 (by omega) (arg3.view.read (Elt F) (harg3.unread x1))) (grpW 0 (by omega) (arg6.view.read (Elt F) (harg6.unread x4))) (grpW 1 (by omega) (arg6.view.read (Elt F) (harg6.unread x4))) (grpW 2 (by omega) (arg6.view.read (Elt F) (harg6.unread x4))) (grpW 3 (by omega) (arg6.view.read (Elt F) (harg6.unread x4))) (chunkZ 2 (by omega) (arg8.view.read (Elt F) (harg8.unread x6)))) (dgain (chunk 3 (by omega) (arg2.view.read (Elt F) (harg2.unread x0))) (chunk 3 (by omega) (arg3.view.read (Elt F) (harg3.unread x1))) (grpW 0 (by omega) (arg6.view.read (Elt F) (harg6.unread x4))) (grpW 1 (by omega) (arg6.view.read (Elt F) (harg6.unread x4))) (grpW 2 (by omega) (arg6.view.read (Elt F) (harg6.unread x4))) (grpW 3 (by omega) (arg6.view.read (Elt F) (harg6.unread x4))) (chunkZ 3 (by omega) (arg8.view.read (Elt F) (harg8.unread x6)))) (dgain (chunk 0 (by omega) (arg2.view.read (Elt F) (harg2.unread x0))) (chunk 0 (by omega) (arg3.view.read (Elt F) (harg3.unread x1))) (grpW 0 (by omega) (arg6.view.read (Elt F) (harg6.unread x4))) (grpW 1 (by omega) (arg6.view.read (Elt F) (harg6.unread x4))) (grpW 2 (by omega) (arg6.view.read (Elt F) (harg6.unread x4))) (grpW 3 (by omega) (arg6.view.read (Elt F) (harg6.unread x4))) (chunkZ 0 (by omega) (arg8.view.read (Elt F) (harg8.unread x6))) (arg13.view.readCov [⟨(Rect.unit (s := S8x512) ![0, 0] S8x512.size inb_S8x512_S8x512_0_0), k0_pay3⟩] (Rect.unit (s := S8x512) ![0, 0] S8x512.size inb_S8x512_S8x512_0_0).toLoadRect)) [⟨(Rect.unit (s := S8x512) ![0, 0] S8x512.size inb_S8x512_S8x512_0_0), k0_pay3⟩]).trans (by rw [View.readCov_cons_toLoadRect]; simp (disch := decide) only [Memref.IsWhole.read_unread, View.ld_unit_lit']; rfl)))
    sl_kernel_rfl
  isplitl [H14]
  · iexists _; isplitr; swap; · iexact H14
    ipureintro
    refine (View.read_writes_full _ _ _ _ _).trans (Eq.trans ?_ ((Pieces.thrice arg14.view (Rect.unit (s := S8x512) ![0, 0] S8x512.size inb_S8x512_S8x512_0_0) (doff (chunk 1 (by omega) (arg2.view.read (Elt F) (harg2.unread x0))) (grpW 0 (by omega) (arg6.view.read (Elt F) (harg6.unread x4))) (grpW 1 (by omega) (arg6.view.read (Elt F) (harg6.unread x4))) (grpW 2 (by omega) (arg6.view.read (Elt F) (harg6.unread x4))) (grpW 3 (by omega) (arg6.view.read (Elt F) (harg6.unread x4))) (chunkZ 1 (by omega) (arg8.view.read (Elt F) (harg8.unread x6)))) (doff (chunk 2 (by omega) (arg2.view.read (Elt F) (harg2.unread x0))) (grpW 0 (by omega) (arg6.view.read (Elt F) (harg6.unread x4))) (grpW 1 (by omega) (arg6.view.read (Elt F) (harg6.unread x4))) (grpW 2 (by omega) (arg6.view.read (Elt F) (harg6.unread x4))) (grpW 3 (by omega) (arg6.view.read (Elt F) (harg6.unread x4))) (chunkZ 2 (by omega) (arg8.view.read (Elt F) (harg8.unread x6)))) (doff (chunk 3 (by omega) (arg2.view.read (Elt F) (harg2.unread x0))) (grpW 0 (by omega) (arg6.view.read (Elt F) (harg6.unread x4))) (grpW 1 (by omega) (arg6.view.read (Elt F) (harg6.unread x4))) (grpW 2 (by omega) (arg6.view.read (Elt F) (harg6.unread x4))) (grpW 3 (by omega) (arg6.view.read (Elt F) (harg6.unread x4))) (chunkZ 3 (by omega) (arg8.view.read (Elt F) (harg8.unread x6)))) (doff (chunk 0 (by omega) (arg2.view.read (Elt F) (harg2.unread x0))) (grpW 0 (by omega) (arg6.view.read (Elt F) (harg6.unread x4))) (grpW 1 (by omega) (arg6.view.read (Elt F) (harg6.unread x4))) (grpW 2 (by omega) (arg6.view.read (Elt F) (harg6.unread x4))) (grpW 3 (by omega) (arg6.view.read (Elt F) (harg6.unread x4))) (chunkZ 0 (by omega) (arg8.view.read (Elt F) (harg8.unread x6))) (arg14.view.readCov [⟨(Rect.unit (s := S8x512) ![0, 0] S8x512.size inb_S8x512_S8x512_0_0), k0_pay4⟩] (Rect.unit (s := S8x512) ![0, 0] S8x512.size inb_S8x512_S8x512_0_0).toLoadRect)) [⟨(Rect.unit (s := S8x512) ![0, 0] S8x512.size inb_S8x512_S8x512_0_0), k0_pay4⟩]).trans (by rw [View.readCov_cons_toLoadRect]; simp (disch := decide) only [Memref.IsWhole.read_unread, View.ld_unit_lit']; rfl)))
    sl_kernel_rfl
  iexists _; isplitr; swap; · iexact H15
  ipureintro
  refine Eq.trans (View.read_writes_eq_canon (Val := Elt F) arg15.view _ _ (fun y => View.cover_of_tiledL (s := S512x512) _ S128x512.size (by sl_kernel_rfl) y)) ?_
  refine Eq.trans ?_ (show stashed (arg2.view.read (Elt F) (harg2.unread x0)) (arg3.view.read (Elt F) (harg3.unread x1)) (View.ld (arg4.view.read (Elt F) (harg4.unread x2)) (Rect.unit (s := S1x512) ![0, 0] S1x512.size inb_S1x512_S1x512_0_0)) (arg6.view.read (Elt F) (harg6.unread x4)) (arg8.view.read (Elt F) (harg8.unread x6)) = _ by simp (disch := decide) only [Memref.IsWhole.read_unread, View.ld_unit_lit'])
  sl_kernel_rfl

set_option maxHeartbeats 2000000 in
/-- At a row block's second column group: the stashed gradient goes out. -/
theorem run_later (hc1 : ¬ k0_cond1 i = 1#1) (hc2 : ¬ k0_cond2 i = 1#1) (hc3 : k0_cond3 i = 1#1) (o8 : Vec F S4x128x128 .f32) (o9 : Vec F S4x128x1 .f32) (o10 : Vec F S8x512 .f32) (o11 : Vec F S8x512 .f32) (o12 : Vec F S512x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ owns (c : Thread nD τ) arg11 fullShare o8 ∗ owns (c : Thread nD τ) arg12 fullShare o9 ∗ owns (c : Thread nD τ) arg13 fullShare o10 ∗ owns (c : Thread nD τ) arg14 fullShare o11 ∗ owns (c : Thread nD τ) arg15 fullShare o12
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg10 fullShare (k0_pay6 o12) ∗ owns (c : Thread nD τ) arg11 fullShare o8 ∗ owns (c : Thread nD τ) arg12 fullShare o9 ∗ owns (c : Thread nD τ) arg13 fullShare o10 ∗ owns (c : Thread nD τ) arg14 fullShare o11 ∗ owns (c : Thread nD τ) arg15 fullShare o12) -∗ K ⟨⟩))
      ⊢ wp frame (wpE (defs₀ (F := F)) Variants.none c none) E (cc0_sg_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_sg_bwd_eq_skeleton]; unfold cc0_sg_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  obtain rfl := harg11.eq_unread hf11; obtain rfl := harg12.eq_unread hf12; obtain rfl := harg13.eq_unread hf13; obtain rfl := harg14.eq_unread hf14; obtain rfl := harg15.eq_unread hf15
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H10]
  · iexists _; isplitr; swap; · iexact H10
    ipureintro
    exact (View.read_writes_full _ _ _ _ _).trans (by frame_out)
  isplitl [H11]
  · iexists _; isplitr; swap; · iexact H11
    ipureintro
    exact harg11.read_unread _
  isplitl [H12]
  · iexists _; isplitr; swap; · iexact H12
    ipureintro
    exact harg12.read_unread _
  isplitl [H13]
  · iexists _; isplitr; swap; · iexact H13
    ipureintro
    exact harg13.read_unread _
  isplitl [H14]
  · iexists _; isplitr; swap; · iexact H14
    ipureintro
    exact harg14.read_unread _
  iexists _; isplitr; swap; · iexact H15
  ipureintro
  exact harg15.read_unread _

end Runs

end Cert.SgBwdIdeal
-- ==== Proof.SgBwdRun.lean ====
module

public import proofs.«01_k».proof.Proof.SgBwdBody
public import Idealize.ShloMosaic.Lib.Pipeline.TableIdle

/-! The spatial gating's backward kernel over its whole grid: what each array holds after every point, and the run. -/

@[expose] public section

set_option maxRecDepth 16384

noncomputable section

namespace Cert.SgBwdIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SgBwdIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the arrays hold -/

/-- The first point of a point's row block. -/
def firstOf (t : Fin cfg0.N) : Fin cfg0.N := ⟨t.val - t.val % 2, Nat.lt_of_le_of_lt (Nat.sub_le _ _) t.isLt⟩

theorem firstOf_self (t : Fin cfg0.N) (h : t.val % 2 = 0) : firstOf t = t := Fin.ext (by simp only [firstOf, h, Nat.sub_zero])

/-- The first point of row block `n`. -/
def blockPt (n : ℕ) : Fin cfg0.N := ⟨2 * n % 8, Nat.lt_of_lt_of_eq (Nat.mod_lt _ (by norm_num)) N_0.symm⟩

theorem blockPt_of (t : Fin cfg0.N) (h : t.val % 2 = 0) : blockPt (t.val / 2) = t := by
  have hN : t.val < 8 := Nat.lt_of_lt_of_eq t.isLt N_0
  exact Fin.ext (by simp only [blockPt]; omega)

/-- The scratch array after a point: the gradient stashed at its row block's first point. -/
def stashAt (c : Dev nD) (t : Fin cfg0.N) : Vec F S512x512 .f32 :=
  stashed (iblk m c 0 (firstOf t)) (iblk m c 1 (firstOf t)) (iblk m c 2 (firstOf t)) (iblk m c 4 (firstOf t)) (iblk m c 6 (firstOf t))

theorem stashAt_first (c : Dev nD) (t : Fin cfg0.N) (h : t.val % 2 = 0) :
    stashAt m c t = stashed (iblk m c 0 t) (iblk m c 1 t) (iblk m c 2 t) (iblk m c 4 t) (iblk m c 6 t) := by
  unfold stashAt; rw [firstOf_self t h]

/-- At a later column group the scratch array stays. -/
theorem stashAt_later (c : Dev nD) (t : Fin cfg0.N) (h : ¬ t.val % 2 = 0) :
    stashAt m c ⟨t.val - 1, Nat.lt_of_le_of_lt (Nat.sub_le _ _) t.isLt⟩ = stashAt m c t := by
  unfold stashAt
  rw [show firstOf ⟨t.val - 1, Nat.lt_of_le_of_lt (Nat.sub_le _ _) t.isLt⟩ = firstOf t from Fin.ext (by simp only [firstOf]; omega)]

/-- The weights' gradient after row block `n`. -/
def dwsAfter (c : Dev nD) : ℕ → Vec F S4x128x128 .f32
  | 0 => dwsStep (iblk m c 0 (blockPt 0)) (iblk m c 1 (blockPt 0)) (iblk m c 2 (blockPt 0)) (iblk m c 3 (blockPt 0)) (iblk m c 6 (blockPt 0)) (k0_pay1 (F := F))
  | n + 1 => dwsStep (iblk m c 0 (blockPt (n + 1))) (iblk m c 1 (blockPt (n + 1))) (iblk m c 2 (blockPt (n + 1))) (iblk m c 3 (blockPt (n + 1))) (iblk m c 6 (blockPt (n + 1))) (dwsAfter c n)

/-- The weights' gradient after a point. -/
def dwsAt (c : Dev nD) (t : Fin cfg0.N) : Vec F S4x128x128 .f32 := dwsAfter m c (t.val / 2)

theorem dwsAt_first (c : Dev nD) (t : Fin cfg0.N) (h : t.val % 8 = 0) :
    dwsAt m c t = dwsStep (iblk m c 0 t) (iblk m c 1 t) (iblk m c 2 t) (iblk m c 3 t) (iblk m c 6 t) (k0_pay1 (F := F)) := by
  have hN : t.val < 8 := Nat.lt_of_lt_of_eq t.isLt N_0
  have e : t.val / 2 = 0 := by omega
  have hb := blockPt_of t (by omega)
  rw [e] at hb
  rw [dwsAt, e, dwsAfter, hb]

theorem dwsAt_next (c : Dev nD) (t : Fin cfg0.N) (h : t.val % 2 = 0) (h8 : ¬ t.val % 8 = 0) :
    dwsAt m c t = dwsStep (iblk m c 0 t) (iblk m c 1 t) (iblk m c 2 t) (iblk m c 3 t) (iblk m c 6 t) (dwsAt m c ⟨t.val - 1, Nat.lt_of_le_of_lt (Nat.sub_le _ _) t.isLt⟩) := by
  have hN : t.val < 8 := Nat.lt_of_lt_of_eq t.isLt N_0
  have e : t.val / 2 = (t.val - 1) / 2 + 1 := by omega
  have hb := blockPt_of t h
  rw [e] at hb
  rw [dwsAt, e, dwsAfter, hb]
  rfl

theorem dwsAt_later (c : Dev nD) (t : Fin cfg0.N) (h : ¬ t.val % 2 = 0) :
    dwsAt m c ⟨t.val - 1, Nat.lt_of_le_of_lt (Nat.sub_le _ _) t.isLt⟩ = dwsAt m c t := by
  unfold dwsAt; rw [show (t.val - 1) / 2 = t.val / 2 by omega]

/-- The biases' gradient after row block `n`. -/
def dbsAfter (c : Dev nD) : ℕ → Vec F S4x128x1 .f32
  | 0 => dbsStep (iblk m c 0 (blockPt 0)) (iblk m c 6 (blockPt 0)) (k0_pay2 (F := F))
  | n + 1 => dbsStep (iblk m c 0 (blockPt (n + 1))) (iblk m c 6 (blockPt (n + 1))) (dbsAfter c n)

/-- The biases' gradient after a point. -/
def dbsAt (c : Dev nD) (t : Fin cfg0.N) : Vec F S4x128x1 .f32 := dbsAfter m c (t.val / 2)

theorem dbsAt_first (c : Dev nD) (t : Fin cfg0.N) (h : t.val % 8 = 0) :
    dbsAt m c t = dbsStep (iblk m c 0 t) (iblk m c 6 t) (k0_pay2 (F := F)) := by
  have hN : t.val < 8 := Nat.lt_of_lt_of_eq t.isLt N_0
  have e : t.val / 2 = 0 := by omega
  have hb := blockPt_of t (by omega)
  rw [e] at hb
  rw [dbsAt, e, dbsAfter, hb]

theorem dbsAt_next (c : Dev nD) (t : Fin cfg0.N) (h : t.val % 2 = 0) (h8 : ¬ t.val % 8 = 0) :
    dbsAt m c t = dbsStep (iblk m c 0 t) (iblk m c 6 t) (dbsAt m c ⟨t.val - 1, Nat.lt_of_le_of_lt (Nat.sub_le _ _) t.isLt⟩) := by
  have hN : t.val < 8 := Nat.lt_of_lt_of_eq t.isLt N_0
  have e : t.val / 2 = (t.val - 1) / 2 + 1 := by omega
  have hb := blockPt_of t h
  rw [e] at hb
  rw [dbsAt, e, dbsAfter, hb]
  rfl

theorem dbsAt_later (c : Dev nD) (t : Fin cfg0.N) (h : ¬ t.val % 2 = 0) :
    dbsAt m c ⟨t.val - 1, Nat.lt_of_le_of_lt (Nat.sub_le _ _) t.isLt⟩ = dbsAt m c t := by
  unfold dbsAt; rw [show (t.val - 1) / 2 = t.val / 2 by omega]

/-- The gain's gradient after row block `n`. -/
def dgainAfter (c : Dev nD) : ℕ → Vec F S8x512 .f32
  | 0 => dgainStep (iblk m c 0 (blockPt 0)) (iblk m c 1 (blockPt 0)) (iblk m c 4 (blockPt 0)) (iblk m c 6 (blockPt 0)) (k0_pay3 (F := F))
  | n + 1 => dgainStep (iblk m c 0 (blockPt (n + 1))) (iblk m c 1 (blockPt (n + 1))) (iblk m c 4 (blockPt (n + 1))) (iblk m c 6 (blockPt (n + 1))) (dgainAfter c n)

/-- The gain's gradient after a point. -/
def dgainAt (c : Dev nD) (t : Fin cfg0.N) : Vec F S8x512 .f32 := dgainAfter m c (t.val / 2)

theorem dgainAt_first (c : Dev nD) (t : Fin cfg0.N) (h : t.val % 8 = 0) :
    dgainAt m c t = dgainStep (iblk m c 0 t) (iblk m c 1 t) (iblk m c 4 t) (iblk m c 6 t) (k0_pay3 (F := F)) := by
  have hN : t.val < 8 := Nat.lt_of_lt_of_eq t.isLt N_0
  have e : t.val / 2 = 0 := by omega
  have hb := blockPt_of t (by omega)
  rw [e] at hb
  rw [dgainAt, e, dgainAfter, hb]

theorem dgainAt_next (c : Dev nD) (t : Fin cfg0.N) (h : t.val % 2 = 0) (h8 : ¬ t.val % 8 = 0) :
    dgainAt m c t = dgainStep (iblk m c 0 t) (iblk m c 1 t) (iblk m c 4 t) (iblk m c 6 t) (dgainAt m c ⟨t.val - 1, Nat.lt_of_le_of_lt (Nat.sub_le _ _) t.isLt⟩) := by
  have hN : t.val < 8 := Nat.lt_of_lt_of_eq t.isLt N_0
  have e : t.val / 2 = (t.val - 1) / 2 + 1 := by omega
  have hb := blockPt_of t h
  rw [e] at hb
  rw [dgainAt, e, dgainAfter, hb]
  rfl

theorem dgainAt_later (c : Dev nD) (t : Fin cfg0.N) (h : ¬ t.val % 2 = 0) :
    dgainAt m c ⟨t.val - 1, Nat.lt_of_le_of_lt (Nat.sub_le _ _) t.isLt⟩ = dgainAt m c t := by
  unfold dgainAt; rw [show (t.val - 1) / 2 = t.val / 2 by omega]

/-- The offset's gradient after row block `n`. -/
def doffAfter (c : Dev nD) : ℕ → Vec F S8x512 .f32
  | 0 => doffStep (iblk m c 0 (blockPt 0)) (iblk m c 4 (blockPt 0)) (iblk m c 6 (blockPt 0)) (k0_pay4 (F := F))
  | n + 1 => doffStep (iblk m c 0 (blockPt (n + 1))) (iblk m c 4 (blockPt (n + 1))) (iblk m c 6 (blockPt (n + 1))) (doffAfter c n)

/-- The offset's gradient after a point. -/
def doffAt (c : Dev nD) (t : Fin cfg0.N) : Vec F S8x512 .f32 := doffAfter m c (t.val / 2)

theorem doffAt_first (c : Dev nD) (t : Fin cfg0.N) (h : t.val % 8 = 0) :
    doffAt m c t = doffStep (iblk m c 0 t) (iblk m c 4 t) (iblk m c 6 t) (k0_pay4 (F := F)) := by
  have hN : t.val < 8 := Nat.lt_of_lt_of_eq t.isLt N_0
  have e : t.val / 2 = 0 := by omega
  have hb := blockPt_of t (by omega)
  rw [e] at hb
  rw [doffAt, e, doffAfter, hb]

theorem doffAt_next (c : Dev nD) (t : Fin cfg0.N) (h : t.val % 2 = 0) (h8 : ¬ t.val % 8 = 0) :
    doffAt m c t = doffStep (iblk m c 0 t) (iblk m c 4 t) (iblk m c 6 t) (doffAt m c ⟨t.val - 1, Nat.lt_of_le_of_lt (Nat.sub_le _ _) t.isLt⟩) := by
  have hN : t.val < 8 := Nat.lt_of_lt_of_eq t.isLt N_0
  have e : t.val / 2 = (t.val - 1) / 2 + 1 := by omega
  have hb := blockPt_of t h
  rw [e] at hb
  rw [doffAt, e, doffAfter, hb]
  rfl

theorem doffAt_later (c : Dev nD) (t : Fin cfg0.N) (h : ¬ t.val % 2 = 0) :
    doffAt m c ⟨t.val - 1, Nat.lt_of_le_of_lt (Nat.sub_le _ _) t.isLt⟩ = doffAt m c t := by
  unfold doffAt; rw [show (t.val - 1) / 2 = t.val / 2 by omega]

/-! ## The branches over the points -/

theorem cond1_iff : ∀ t : Fin cfg0.N, k0_cond1 (grid0.coords t) = 1#1 ↔ t.val % 8 = 0 :=
  (by decide +kernel : ∀ t : Fin grid0.N, k0_cond1 (grid0.coords t) = 1#1 ↔ t.val % 8 = 0)

theorem cond2_iff : ∀ t : Fin cfg0.N, k0_cond2 (grid0.coords t) = 1#1 ↔ t.val % 2 = 0 :=
  (by decide +kernel : ∀ t : Fin grid0.N, k0_cond2 (grid0.coords t) = 1#1 ↔ t.val % 2 = 0)

theorem cond3_iff : ∀ t : Fin cfg0.N, k0_cond3 (grid0.coords t) = 1#1 ↔ ¬ t.val % 2 = 0 :=
  (by decide +kernel : ∀ t : Fin grid0.N, k0_cond3 (grid0.coords t) = 1#1 ↔ ¬ t.val % 2 = 0)

/-- The column group that goes out at a point. -/
def dpAt (c : Dev nD) (t : Fin cfg0.N) : Vec F S512x512 .bf16 :=
  if t.val % 2 = 0 then firstBlk (iblk m c 0 t) (iblk m c 1 t) (iblk m c 2 t) (iblk m c 3 t) (iblk m c 4 t) (iblk m c 5 t) (iblk m c 6 t) else k0_pay6 (stashAt m c t)

/-! ## The invariant: the scratch array -/

/-- The scratch array as the body gets it. -/
abbrev scM : Memref sig .tc .vmem S512x512 .f32 := Memref.whole cc0_scratch0

/-- What is held before point `n`: the scratch array, at what the point before left in it. -/
def Phi (c : Dev nD) : ℕ → sProp 𝕄
  | 0 => Pipeline.ΦA spec0 c
  | n + 1 => if h : n < cfg0.N then iprop(owns (c : Thread nD τ) scM fullShare (stashAt m c ⟨n, h⟩) ∗ (∃ r, prngReg c r)) else Pipeline.ΦA spec0 c

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

theorem Phi_succ (c : Dev nD) (t : Fin cfg0.N) :
    Phi m c (t.val + 1) = iprop(owns (c : Thread nD τ) scM fullShare (stashAt m c t) ∗ (∃ r, prngReg c r)) := by
  simp only [Phi, t.isLt, dite_true]

/-- Before any point the scratch array is held at some contents. -/
theorem Phi_any (c : Dev nD) (n : ℕ) : Phi m c n ⊢ iprop((∃ d, owns (c : Thread nD τ) scM fullShare d) ∗ (∃ r, prngReg c r)) := by
  cases n with
  | zero => rw [← PhiA_eq]; exact .rfl
  | succ n =>
    by_cases h : n < cfg0.N
    · rw [Phi_succ m c ⟨n, h⟩]
      iintro ⟨H, Hg⟩
      isplitl [H]; · iexists _; iexact H
      iexact Hg
    · rw [show Phi m c (n + 1) = Pipeline.ΦA spec0 c from dif_neg h, ← PhiA_eq]

/-- What is held after the last point is what the region hands back. -/
theorem Phi_out (c : Dev nD) (n : ℕ) : Phi m c n ⊢ Pipeline.ΦA spec0 c := by
  rw [PhiA_eq]; exact Phi_any m c n

/-- Before a later column group's point it holds what its row block stashed. -/
theorem Phi_later (c : Dev nD) (t : Fin cfg0.N) (h : ¬ t.val % 2 = 0) :
    Phi m c t.val = iprop(owns (c : Thread nD τ) scM fullShare (stashAt m c t) ∗ (∃ r, prngReg c r)) := by
  have e : t.val = (t.val - 1) + 1 := by omega
  have := Phi_succ m c ⟨t.val - 1, Nat.lt_of_le_of_lt (Nat.sub_le _ _) t.isLt⟩
  rw [stashAt_later m c t h] at this
  rw [← this]
  exact congrArg (Phi m c) e

/-! ## The proof data -/

/-- Each input's block stays, the outputs hold what the points compute, the scratch array is tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dpAt m c t
    | ⟨8, _⟩ => dwsAt m c t
    | ⟨9, _⟩ => dbsAt m c t
    | ⟨10, _⟩ => dgainAt m c t
    | ⟨11, _⟩ => doffAt m c t
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dpAt m c t := by dsimp only [dats]
theorem after0_8 (c : Dev nD) (t : Fin cfg0.N) : (dats m 0 c).after 8 t = dwsAt m c t := by dsimp only [dats]
theorem after0_9 (c : Dev nD) (t : Fin cfg0.N) : (dats m 0 c).after 9 t = dbsAt m c t := by dsimp only [dats]
theorem after0_10 (c : Dev nD) (t : Fin cfg0.N) : (dats m 0 c).after 10 t = dgainAt m c t := by dsimp only [dats]
theorem after0_11 (c : Dev nD) (t : Fin cfg0.N) : (dats m 0 c).after 11 t = doffAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Window 8 is idle exactly at the later column groups, -/
theorem idle8_iff : ∀ t : Fin cfg0.N, cfg0.idle 8 (grid0.coords t) = true ↔ ¬ t.val % 2 = 0 :=
  (by decide +kernel : ∀ t : Fin grid0.N, idle0 8 (grid0.coords t) = true ↔ ¬ t.val % 2 = 0)

/-- its buffer is fresh at the first point only, -/
theorem fresh8_iff : ∀ t : Fin cfg0.N, cfg0.fresh 8 t.val = true ↔ t.val % 8 = 0 :=
  (by decide +kernel : ∀ t : Fin grid0.N, cfg0.fresh 8 t.val = true ↔ t.val % 8 = 0)

/-- and from the second point on it holds what the point before left. -/
theorem before0_8 (c : Dev nD) (t : Fin cfg0.N) (h : ¬ t.val % 8 = 0) (d) :
    (dats m 0 c).before 8 t d = dwsAt m c ⟨t.val - 1, Nat.lt_of_le_of_lt (Nat.sub_le _ _) t.isLt⟩ := by
  rw [Dat.before_out_traj (dats m 0 c) 8 rfl (fun _ _ => rfl)
    (fun t _ hi _ => by rw [after0_8, after0_8]; exact (dwsAt_later m c t ((idle8_iff t).mp hi)).symm) t.val t rfl d,
    if_neg (fun hf => h ((fresh8_iff t).mp hf)), after0_8]

/-- At an idle point the buffer already holds what the proof data name. -/
theorem idle8_kept (c : Dev nD) (t : Fin cfg0.N) (h : cfg0.idle 8 (grid0.coords t) = true) :
    ∃ d, (dats m 0 c).before 8 t d = (dats m 0 c).after 8 t := by
  have h3 := (idle8_iff t).mp h
  exact ⟨(dats m 0 c).after 8 t, by rw [before0_8 m c t (by omega), after0_8, dwsAt_later m c t h3]⟩

/-- Window 9 is idle exactly at the later column groups, -/
theorem idle9_iff : ∀ t : Fin cfg0.N, cfg0.idle 9 (grid0.coords t) = true ↔ ¬ t.val % 2 = 0 :=
  (by decide +kernel : ∀ t : Fin grid0.N, idle0 9 (grid0.coords t) = true ↔ ¬ t.val % 2 = 0)

/-- its buffer is fresh at the first point only, -/
theorem fresh9_iff : ∀ t : Fin cfg0.N, cfg0.fresh 9 t.val = true ↔ t.val % 8 = 0 :=
  (by decide +kernel : ∀ t : Fin grid0.N, cfg0.fresh 9 t.val = true ↔ t.val % 8 = 0)

/-- and from the second point on it holds what the point before left. -/
theorem before0_9 (c : Dev nD) (t : Fin cfg0.N) (h : ¬ t.val % 8 = 0) (d) :
    (dats m 0 c).before 9 t d = dbsAt m c ⟨t.val - 1, Nat.lt_of_le_of_lt (Nat.sub_le _ _) t.isLt⟩ := by
  rw [Dat.before_out_traj (dats m 0 c) 9 rfl (fun _ _ => rfl)
    (fun t _ hi _ => by rw [after0_9, after0_9]; exact (dbsAt_later m c t ((idle9_iff t).mp hi)).symm) t.val t rfl d,
    if_neg (fun hf => h ((fresh9_iff t).mp hf)), after0_9]

/-- At an idle point the buffer already holds what the proof data name. -/
theorem idle9_kept (c : Dev nD) (t : Fin cfg0.N) (h : cfg0.idle 9 (grid0.coords t) = true) :
    ∃ d, (dats m 0 c).before 9 t d = (dats m 0 c).after 9 t := by
  have h3 := (idle9_iff t).mp h
  exact ⟨(dats m 0 c).after 9 t, by rw [before0_9 m c t (by omega), after0_9, dbsAt_later m c t h3]⟩

/-- Window 10 is idle exactly at the later column groups, -/
theorem idle10_iff : ∀ t : Fin cfg0.N, cfg0.idle 10 (grid0.coords t) = true ↔ ¬ t.val % 2 = 0 :=
  (by decide +kernel : ∀ t : Fin grid0.N, idle0 10 (grid0.coords t) = true ↔ ¬ t.val % 2 = 0)

/-- its buffer is fresh at the first point only, -/
theorem fresh10_iff : ∀ t : Fin cfg0.N, cfg0.fresh 10 t.val = true ↔ t.val % 8 = 0 :=
  (by decide +kernel : ∀ t : Fin grid0.N, cfg0.fresh 10 t.val = true ↔ t.val % 8 = 0)

/-- and from the second point on it holds what the point before left. -/
theorem before0_10 (c : Dev nD) (t : Fin cfg0.N) (h : ¬ t.val % 8 = 0) (d) :
    (dats m 0 c).before 10 t d = dgainAt m c ⟨t.val - 1, Nat.lt_of_le_of_lt (Nat.sub_le _ _) t.isLt⟩ := by
  rw [Dat.before_out_traj (dats m 0 c) 10 rfl (fun _ _ => rfl)
    (fun t _ hi _ => by rw [after0_10, after0_10]; exact (dgainAt_later m c t ((idle10_iff t).mp hi)).symm) t.val t rfl d,
    if_neg (fun hf => h ((fresh10_iff t).mp hf)), after0_10]

/-- At an idle point the buffer already holds what the proof data name. -/
theorem idle10_kept (c : Dev nD) (t : Fin cfg0.N) (h : cfg0.idle 10 (grid0.coords t) = true) :
    ∃ d, (dats m 0 c).before 10 t d = (dats m 0 c).after 10 t := by
  have h3 := (idle10_iff t).mp h
  exact ⟨(dats m 0 c).after 10 t, by rw [before0_10 m c t (by omega), after0_10, dgainAt_later m c t h3]⟩

/-- Window 11 is idle exactly at the later column groups, -/
theorem idle11_iff : ∀ t : Fin cfg0.N, cfg0.idle 11 (grid0.coords t) = true ↔ ¬ t.val % 2 = 0 :=
  (by decide +kernel : ∀ t : Fin grid0.N, idle0 11 (grid0.coords t) = true ↔ ¬ t.val % 2 = 0)

/-- its buffer is fresh at the first point only, -/
theorem fresh11_iff : ∀ t : Fin cfg0.N, cfg0.fresh 11 t.val = true ↔ t.val % 8 = 0 :=
  (by decide +kernel : ∀ t : Fin grid0.N, cfg0.fresh 11 t.val = true ↔ t.val % 8 = 0)

/-- and from the second point on it holds what the point before left. -/
theorem before0_11 (c : Dev nD) (t : Fin cfg0.N) (h : ¬ t.val % 8 = 0) (d) :
    (dats m 0 c).before 11 t d = doffAt m c ⟨t.val - 1, Nat.lt_of_le_of_lt (Nat.sub_le _ _) t.isLt⟩ := by
  rw [Dat.before_out_traj (dats m 0 c) 11 rfl (fun _ _ => rfl)
    (fun t _ hi _ => by rw [after0_11, after0_11]; exact (doffAt_later m c t ((idle11_iff t).mp hi)).symm) t.val t rfl d,
    if_neg (fun hf => h ((fresh11_iff t).mp hf)), after0_11]

/-- At an idle point the buffer already holds what the proof data name. -/
theorem idle11_kept (c : Dev nD) (t : Fin cfg0.N) (h : cfg0.idle 11 (grid0.coords t) = true) :
    ∃ d, (dats m 0 c).before 11 t d = (dats m 0 c).after 11 t := by
  have h3 := (idle11_iff t).mp h
  exact ⟨(dats m 0 c).after 11 t, by rw [before0_11 m c t (by omega), after0_11, doffAt_later m c t h3]⟩

/-- A buffer left at what the proof data name is what the point must leave, where an idle window's buffer held it before. -/
theorem leaves_of_after (c : Dev nD) (w : Fin cfg0.W) (t : Fin cfg0.N)
    (h : cfg0.idle w (grid0.coords t) = true → ∃ d, (dats m 0 c).before w t d = (dats m 0 c).after w t) :
    owns (c : Thread nD τ) ((cfg0.win w).stage (cfg0.slots t w)) fullShare ((dats m 0 c).after w t) ⊢ (dats m 0 c).leavesExact w t := by
  unfold Dat.leavesExact
  cases hi : cfg0.idle w (cfg0.grid.coords t) with
  | false => exact .rfl
  | true =>
    cases hf : (cfg0.win w).flush t with
    | true => exact .rfl
    | false =>
      obtain ⟨d, hd⟩ := h hi
      rw [← hd]
      iintro H
      iexists d
      iexact H

/-- The column groups' window is never idle. -/
theorem live7 : ∀ t : Fin cfg0.N, ¬ cfg0.idle 7 (grid0.coords t) = true :=
  (by decide +kernel : ∀ t : Fin grid0.N, ¬ idle0 7 (grid0.coords t) = true)

/-! ## The body at every point -/

/-- What a point starts from, -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d))
    ∗ (∃ d, owns (c : Thread nD τ) ((cfg0.win 11).stage (cfg0.slots t 11)) fullShare ((dats m 0 c).before 11 t d)))

/-- and what it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 1600000 in
/-- The first point. -/
theorem body_first (c : Dev nD) (t : Fin cfg0.N) (h : t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Phi m c (t.val + 1) from rfl, show (dats m 0 c).Φ t.castSucc = Phi m c t.val from rfl,
    show (dats m 0 c).owesAt () t.succ = (dats m 0 c).owesAt () t.castSucc from rfl, Phi_succ]
  have h3 : t.val % 2 = 0 := by omega
  have e7 : dpAt m c t = firstBlk (iblk m c 0 t) (iblk m c 1 t) (iblk m c 2 t) (iblk m c 3 t) (iblk m c 4 t) (iblk m c 5 t) (iblk m c 6 t) := by unfold dpAt; rw [if_pos h3]
  rw [stashAt_first m c t h3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  icases (Phi_any m c t.val) $$ HΦ with ⟨HS, Hg⟩
  iapply (run_first c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((cond1_iff t).mpr h) ((cond2_iff t).mpr h3) (fun hc => (cond3_iff t).mp hc h3) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS]; · iexact HS
  iintro ⟨H0, H1, H2, H3, H4, H5, H6, H7, H8, H9, H10, H11, HS⟩
  isplitl [HS Hg]
  · isplitl [HS]; · iexact HS
    iexact Hg
  isplitl [Ho]; · iexact Ho
  isplitl [H0]; · iapply (leaves_of_after m c 0 t fun h => absurd h Bool.false_ne_true); rw [after0_0]; iexact H0
  isplitl [H1]; · iapply (leaves_of_after m c 1 t fun h => absurd h Bool.false_ne_true); rw [after0_1]; iexact H1
  isplitl [H2]; · iapply (leaves_of_after m c 2 t fun h => absurd h Bool.false_ne_true); rw [after0_2]; iexact H2
  isplitl [H3]; · iapply (leaves_of_after m c 3 t fun h => absurd h Bool.false_ne_true); rw [after0_3]; iexact H3
  isplitl [H4]; · iapply (leaves_of_after m c 4 t fun h => absurd h Bool.false_ne_true); rw [after0_4]; iexact H4
  isplitl [H5]; · iapply (leaves_of_after m c 5 t fun h => absurd h Bool.false_ne_true); rw [after0_5]; iexact H5
  isplitl [H6]; · iapply (leaves_of_after m c 6 t fun h => absurd h Bool.false_ne_true); rw [after0_6]; iexact H6
  isplitl [H7]; · iapply (leaves_of_after m c 7 t fun h => absurd h (live7 t)); rw [after0_7, e7]; iexact H7
  isplitl [H8]; · iapply (leaves_of_after m c 8 t (idle8_kept m c t)); rw [after0_8, dwsAt_first m c t h]; iexact H8
  isplitl [H9]; · iapply (leaves_of_after m c 9 t (idle9_kept m c t)); rw [after0_9, dbsAt_first m c t h]; iexact H9
  isplitl [H10]; · iapply (leaves_of_after m c 10 t (idle10_kept m c t)); rw [after0_10, dgainAt_first m c t h]; iexact H10
  iapply (leaves_of_after m c 11 t (idle11_kept m c t)); rw [after0_11, doffAt_first m c t h]; iexact H11

set_option maxHeartbeats 1600000 in
/-- A later row block's first point. -/
theorem body_next (c : Dev nD) (t : Fin cfg0.N) (h3 : t.val % 2 = 0) (h : ¬ t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Phi m c (t.val + 1) from rfl, show (dats m 0 c).Φ t.castSucc = Phi m c t.val from rfl,
    show (dats m 0 c).owesAt () t.succ = (dats m 0 c).owesAt () t.castSucc from rfl, Phi_succ]
  have e7 : dpAt m c t = firstBlk (iblk m c 0 t) (iblk m c 1 t) (iblk m c 2 t) (iblk m c 3 t) (iblk m c 4 t) (iblk m c 5 t) (iblk m c 6 t) := by unfold dpAt; rw [if_pos h3]
  simp only [before0_8 m c t h, before0_9 m c t h, before0_10 m c t h, before0_11 m c t h]
  rw [stashAt_first m c t h3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  icases (Phi_any m c t.val) $$ HΦ with ⟨HS, Hg⟩
  iapply (run_next c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (fun hc => h ((cond1_iff t).mp hc)) ((cond2_iff t).mpr h3) (fun hc => (cond3_iff t).mp hc h3) (dwsAt m c ⟨t.val - 1, Nat.lt_of_le_of_lt (Nat.sub_le _ _) t.isLt⟩) (dbsAt m c ⟨t.val - 1, Nat.lt_of_le_of_lt (Nat.sub_le _ _) t.isLt⟩) (dgainAt m c ⟨t.val - 1, Nat.lt_of_le_of_lt (Nat.sub_le _ _) t.isLt⟩) (doffAt m c ⟨t.val - 1, Nat.lt_of_le_of_lt (Nat.sub_le _ _) t.isLt⟩) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]; · iexact HS
    iexact Hg
  isplitl [Ho]; · iexact Ho
  isplitl [H0]; · iapply (leaves_of_after m c 0 t fun h => absurd h Bool.false_ne_true); rw [after0_0]; iexact H0
  isplitl [H1]; · iapply (leaves_of_after m c 1 t fun h => absurd h Bool.false_ne_true); rw [after0_1]; iexact H1
  isplitl [H2]; · iapply (leaves_of_after m c 2 t fun h => absurd h Bool.false_ne_true); rw [after0_2]; iexact H2
  isplitl [H3]; · iapply (leaves_of_after m c 3 t fun h => absurd h Bool.false_ne_true); rw [after0_3]; iexact H3
  isplitl [H4]; · iapply (leaves_of_after m c 4 t fun h => absurd h Bool.false_ne_true); rw [after0_4]; iexact H4
  isplitl [H5]; · iapply (leaves_of_after m c 5 t fun h => absurd h Bool.false_ne_true); rw [after0_5]; iexact H5
  isplitl [H6]; · iapply (leaves_of_after m c 6 t fun h => absurd h Bool.false_ne_true); rw [after0_6]; iexact H6
  isplitl [H7]; · iapply (leaves_of_after m c 7 t fun h => absurd h (live7 t)); rw [after0_7, e7]; iexact H7
  isplitl [H8]; · iapply (leaves_of_after m c 8 t (idle8_kept m c t)); rw [after0_8, dwsAt_next m c t h3 h]; iexact H8
  isplitl [H9]; · iapply (leaves_of_after m c 9 t (idle9_kept m c t)); rw [after0_9, dbsAt_next m c t h3 h]; iexact H9
  isplitl [H10]; · iapply (leaves_of_after m c 10 t (idle10_kept m c t)); rw [after0_10, dgainAt_next m c t h3 h]; iexact H10
  iapply (leaves_of_after m c 11 t (idle11_kept m c t)); rw [after0_11, doffAt_next m c t h3 h]; iexact H11

set_option maxHeartbeats 1600000 in
/-- A later column group's point. -/
theorem body_later (c : Dev nD) (t : Fin cfg0.N) (h3 : ¬ t.val % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Phi m c (t.val + 1) from rfl, show (dats m 0 c).Φ t.castSucc = Phi m c t.val from rfl,
    show (dats m 0 c).owesAt () t.succ = (dats m 0 c).owesAt () t.castSucc from rfl, Phi_succ]
  have h : ¬ t.val % 8 = 0 := by omega
  have e7 : dpAt m c t = k0_pay6 (stashAt m c t) := by unfold dpAt; rw [if_neg h3]
  simp only [before0_8 m c t h, before0_9 m c t h, before0_10 m c t h, before0_11 m c t h, dwsAt_later m c t h3, dbsAt_later m c t h3, dgainAt_later m c t h3, doffAt_later m c t h3]
  rw [Phi_later m c t h3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  icases HΦ with ⟨HS, Hg⟩
  iapply (run_later c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (fun hc => h ((cond1_iff t).mp hc)) (fun hc => h3 ((cond2_iff t).mp hc)) ((cond3_iff t).mpr h3) (dwsAt m c t) (dbsAt m c t) (dgainAt m c t) (doffAt m c t) (stashAt m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]; · iexact HS
    iexact Hg
  isplitl [Ho]; · iexact Ho
  isplitl [H0]; · iapply (leaves_of_after m c 0 t fun h => absurd h Bool.false_ne_true); rw [after0_0]; iexact H0
  isplitl [H1]; · iapply (leaves_of_after m c 1 t fun h => absurd h Bool.false_ne_true); rw [after0_1]; iexact H1
  isplitl [H2]; · iapply (leaves_of_after m c 2 t fun h => absurd h Bool.false_ne_true); rw [after0_2]; iexact H2
  isplitl [H3]; · iapply (leaves_of_after m c 3 t fun h => absurd h Bool.false_ne_true); rw [after0_3]; iexact H3
  isplitl [H4]; · iapply (leaves_of_after m c 4 t fun h => absurd h Bool.false_ne_true); rw [after0_4]; iexact H4
  isplitl [H5]; · iapply (leaves_of_after m c 5 t fun h => absurd h Bool.false_ne_true); rw [after0_5]; iexact H5
  isplitl [H6]; · iapply (leaves_of_after m c 6 t fun h => absurd h Bool.false_ne_true); rw [after0_6]; iexact H6
  isplitl [H7]; · iapply (leaves_of_after m c 7 t fun h => absurd h (live7 t)); rw [after0_7, e7]; iexact H7
  isplitl [H8]; · iapply (leaves_of_after m c 8 t (idle8_kept m c t)); rw [after0_8]; iexact H8
  isplitl [H9]; · iapply (leaves_of_after m c 9 t (idle9_kept m c t)); rw [after0_9]; iexact H9
  isplitl [H10]; · iapply (leaves_of_after m c 10 t (idle10_kept m c t)); rw [after0_10]; iexact H10
  iapply (leaves_of_after m c 11 t (idle11_kept m c t)); rw [after0_11]; iexact H11

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h3 : t.val % 2 = 0
  · by_cases h : t.val % 8 = 0
    · exact body_first m c t h
    · exact body_next m c t h3 h
  · exact body_later m c t h3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution ends, each array at what the points leave in it and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl)
    (hout := fun c => show Phi m c (Fin.last cfg0.N).val ⊢ Pipeline.ΦA spec0 c from Phi_out m c _)

/-- The arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The results end as the output windows' arrays after the last point, the arguments as they were. -/
theorem run_results : θ_run defs (onTc (τ := τ) (main (F := F))) ⟨m, fun _ => 0, ρ⟩ (fun r => ∀ c : Dev nD,
      r.2.mem ((c.tc : Thread nD τ).loc main_v3_0) = (dats m 0 c).arrAt 7 cfg0.N
      ∧ r.2.mem ((c.tc : Thread nD τ).loc main_v3_1) = (dats m 0 c).arrAt 8 cfg0.N
      ∧ r.2.mem ((c.tc : Thread nD τ).loc main_v3_2) = (dats m 0 c).arrAt 9 cfg0.N
      ∧ r.2.mem ((c.tc : Thread nD τ).loc main_v3_3) = (dats m 0 c).arrAt 10 cfg0.N
      ∧ r.2.mem ((c.tc : Thread nD τ).loc main_v3_4) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.2.1 c).1 7, (h.2.1 c).1 8, (h.2.1 c).1 9, (h.2.1 c).1 10, (h.2.1 c).1 11, h.1.1 c⟩) (θ_run_and (frame m ρ) (run_main m ρ))

end Cert.SgBwdIdeal

end
-- ==== Proof.SgReal.lean ====
/-
  THE SPATIAL GATING'S GRADIENT, as real numbers: the quantities that both sides of `sg_bwd` are shown to hold. A chunk is 128 rows
  of 512 columns, its columns in four groups of 128; `u` is the gated half, `v` the half that is normalised and mixed along the
  chunk's rows by a lower triangular weight, `z` the cotangent of their product.
-/
module

public import proofs.«01_k».proof.Proof.Reals

@[expose] public section

noncomputable section

namespace Cert.SgReal

open Idealize.ShloMosaic Cert.Reals

/-! ## The activation -/

/-- The factor inside the activation's hyperbolic tangent: the rational its float word is. -/
def C : ℝ := 13386282 * (2 : ℝ) ^ (-24 : ℤ)
/-- The cubic term's factor. -/
def A : ℝ := 8943 / 200000
/-- The constant added to the variance: the rational its float word is. -/
def eps : ℝ := 10995116 * (2 : ℝ) ^ (-40 : ℤ)

theorem eps_pos : 0 < eps := by unfold eps; positivity

theorem ofBits_C : Ideal.ofBits .f32 0x3F4C422A#32 = ((C : ℝ) : EReal) := by
  simp [Ideal.ofBits, Ideal.ieee, C, -EReal.coe_mul]
theorem ofBits_eps : Ideal.ofBits .f32 0x3727C5AC#32 = ((eps : ℝ) : EReal) := by
  simp [Ideal.ofBits, Ideal.ieee, eps, -EReal.coe_mul]
theorem ofBits_one : Ideal.ofBits .f32 0x3F800000#32 = ((1 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_512 : Ideal.ofBits .f32 0x44000000#32 = ((512 : ℝ) : EReal) := by
  simp [Ideal.ofBits, Ideal.ieee, -EReal.coe_mul]; norm_num

/-- The activation's hyperbolic tangent. -/
def th (x : ℝ) : ℝ := Real.tanh (C * (x + A * (x * x * x)))
/-- The activation. -/
def gelu (x : ℝ) : ℝ := x * (1 / 2 * (1 + th x))
/-- Its derivative. -/
def slope (x : ℝ) : ℝ := 1 / 2 * (1 + th x) + 1 / 2 * x * (1 - th x * th x) * C * (1 + 3 * A * x * x)

/-- The cotangent through the activation as the chain rule writes it: through the outer factor, and twice through the tangent. -/
theorem slope_chain (x d : ℝ) :
    d * (1 / 2 * (1 + th x)) + C * (1 / 2 * (x * d) * ((1 + th x) * (1 - th x)))
      + A * (C * (1 / 2 * (x * d) * ((1 + th x) * (1 - th x)))) * (3 * (x * x)) = d * slope x := by
  unfold slope; ring

/-! ## The norm of a row -/

/-- The mean of a row, -/
def mean (x : ℕ → ℝ) : ℝ := (∑ k : Fin 512, x k) / 512
/-- the row less its mean, -/
def cen (x : ℕ → ℝ) (l : ℕ) : ℝ := x l - mean x
/-- its variance, the small constant added, -/
def var (x : ℕ → ℝ) : ℝ := (∑ k : Fin 512, cen x k * cen x k) / 512 + eps
/-- the reciprocal of its root, -/
def inv (x : ℕ → ℝ) : ℝ := (√(var x))⁻¹
/-- and the normalised row. -/
def nrm (x : ℕ → ℝ) (l : ℕ) : ℝ := cen x l * inv x

theorem var_pos (x : ℕ → ℝ) : 0 < var x :=
  add_pos_of_nonneg_of_pos (div_nonneg (Finset.sum_nonneg fun k _ => mul_self_nonneg _) (by norm_num)) eps_pos

theorem inv_sq (x : ℕ → ℝ) : inv x * inv x = (var x)⁻¹ := by
  unfold inv; rw [← mul_inv, Real.mul_self_sqrt (var_pos x).le]

theorem sum_cen (x : ℕ → ℝ) : ∑ k : Fin 512, cen x k = 0 := by
  simp only [cen, Finset.sum_sub_distrib, Finset.sum_const, Finset.card_univ, Fintype.card_fin, nsmul_eq_mul, mean]
  push_cast; ring

/-- The cotangent of the row, from the cotangent `d` of the normalised row. -/
def lnGrad (x d : ℕ → ℝ) (l : ℕ) : ℝ := inv x * (d l - mean d - nrm x l * mean fun k => d k * nrm x k)

/-- The derivative's term common to the row, by the chain rule through the root and the mean. -/
def common (x d : ℕ → ℝ) : ℝ := (∑ k : Fin 512, cen x k * d k) * (-(1 / 2) * (inv x / var x)) / 512
/-- The cotangent of the row less its mean: through the scaling, and twice through the square. -/
def inner (x d : ℕ → ℝ) (l : ℕ) : ℝ := d l * inv x + cen x l * common x d + common x d * cen x l

/-- The chain rule's cotangent is that of the row. -/
theorem inner_mean (x d : ℕ → ℝ) (l : ℕ) : inner x d l + (∑ k : Fin 512, -(inner x d k)) / 512 = lnGrad x d l := by
  have h1 : ∑ k : Fin 512, -(inner x d k) = -(inv x * ∑ k : Fin 512, d k) := by
    rw [Finset.sum_neg_distrib]
    congr 1
    simp only [inner]
    rw [Finset.sum_add_distrib, Finset.sum_add_distrib, ← Finset.sum_mul, ← Finset.sum_mul, ← Finset.mul_sum, sum_cen]
    ring
  have h2 : ∑ k : Fin 512, d k * nrm x k = inv x * ∑ k : Fin 512, cen x k * d k := by
    rw [Finset.mul_sum]; exact Finset.sum_congr rfl fun k _ => by unfold nrm; ring
  have h3 : inv x / var x = inv x * (inv x * inv x) := by rw [inv_sq]; rfl
  unfold lnGrad
  rw [h1]
  simp only [mean, h2]
  simp only [inner, common, h3, nrm]
  ring

/-! ## One chunk -/

section Chunk

variable (u v z : ℕ → ℕ → ℝ) (g b : ℕ → ℝ) (w : ℕ → ℕ → ℕ → ℝ) (s : ℕ → ℕ → ℝ)

/-- The activated row. -/
def act (t : ℕ) : ℕ → ℝ := fun l => gelu (v t l)
/-- The normalised row, scaled and moved. -/
def scaled (t l : ℕ) : ℝ := nrm (act v t) l * g l + b l
/-- The lower triangle of a group's weight. -/
def tri (q t k : ℕ) : ℝ := if k ≤ t then w q t k else 0
/-- The rows mixed. -/
def mixed (t l : ℕ) : ℝ := (∑ k : Fin 128, tri w (l / 128) t k * scaled v g b k l) + s (l / 128) t
/-- The cotangent of the mixed rows, -/
def dmixed (t l : ℕ) : ℝ := z t l * gelu (u t l)
/-- of the scaled rows, -/
def dscaled (t l : ℕ) : ℝ := ∑ k : Fin 128, tri w (l / 128) k t * dmixed u z k l
/-- of a group's weight, -/
def dweight (q t k : ℕ) : ℝ := if k ≤ t then ∑ e : Fin 128, dmixed u z t (128 * q + e) * scaled v g b k (128 * q + e) else 0
/-- of a group's bias, -/
def dbias (q t : ℕ) : ℝ := ∑ e : Fin 128, dmixed u z t (128 * q + e)
/-- of the gain, -/
def dgain (l : ℕ) : ℝ := ∑ t : Fin 128, dscaled u z w t l * nrm (act v t) l
/-- of the offset, -/
def doffset (l : ℕ) : ℝ := ∑ t : Fin 128, dscaled u z w t l
/-- of the gated half, -/
def dgated (t l : ℕ) : ℝ := z t l * mixed v g b w s t l * slope (u t l)
/-- and of the half that is mixed. -/
def dinput (t l : ℕ) : ℝ := lnGrad (act v t) (fun k => dscaled u z w t k * g k) l * slope (v t l)

end Chunk

/-! ## All the chunks -/

/-- The rows of chunk `n`. -/
def rowsOf (x : ℕ → ℕ → ℝ) (n : ℕ) : ℕ → ℕ → ℝ := fun t l => x (128 * n + t) l

section Whole

variable (u v z : ℕ → ℕ → ℝ) (g b : ℕ → ℝ) (w : ℕ → ℕ → ℕ → ℝ) (s : ℕ → ℕ → ℝ)

/-- The gradient of the gated half, -/
def gatedGrad (r l : ℕ) : ℝ := dgated (rowsOf u (r / 128)) (rowsOf v (r / 128)) (rowsOf z (r / 128)) g b w s (r % 128) l
/-- of the half that is mixed, -/
def inputGrad (r l : ℕ) : ℝ := dinput (rowsOf u (r / 128)) (rowsOf v (r / 128)) (rowsOf z (r / 128)) g w (r % 128) l
/-- of a group's weight, -/
def weightGrad (q t k : ℕ) : ℝ := ∑ n : Fin 16, dweight (rowsOf u n) (rowsOf v n) (rowsOf z n) g b q t k
/-- of a group's bias, -/
def biasGrad (q t : ℕ) : ℝ := ∑ n : Fin 16, dbias (rowsOf u n) (rowsOf z n) q t
/-- of the gain, -/
def gainGrad (l : ℕ) : ℝ := ∑ n : Fin 16, dgain (rowsOf u n) (rowsOf v n) (rowsOf z n) w l
/-- and of the offset. -/
def offsetGrad (l : ℕ) : ℝ := ∑ n : Fin 16, doffset (rowsOf u n) (rowsOf z n) w l

end Whole

/-! ## Arrays read at numbers -/

/-- An array's entry, zero outside. -/
def at1 {n : ℕ} (f : (⟨1, ![n]⟩ : Shape).Idx → ℝ) (r : ℕ) : ℝ := if h : r < n then f (ix1 ⟨r, h⟩) else 0
def at2 {n m : ℕ} (f : (⟨2, ![n, m]⟩ : Shape).Idx → ℝ) (r k : ℕ) : ℝ := if h : r < n ∧ k < m then f (ix2 ⟨r, h.1⟩ ⟨k, h.2⟩) else 0
def at3 {n m q : ℕ} (f : (⟨3, ![n, m, q]⟩ : Shape).Idx → ℝ) (r k l : ℕ) : ℝ :=
  if h : r < n ∧ k < m ∧ l < q then f (ix3 ⟨r, h.1⟩ ⟨k, h.2.1⟩ ⟨l, h.2.2⟩) else 0

theorem at1_eq {n : ℕ} (f : (⟨1, ![n]⟩ : Shape).Idx → ℝ) (r : Fin n) : at1 f r = f (ix1 r) := dif_pos r.isLt
theorem at2_eq {n m : ℕ} (f : (⟨2, ![n, m]⟩ : Shape).Idx → ℝ) (r : Fin n) (k : Fin m) : at2 f r k = f (ix2 r k) := dif_pos ⟨r.isLt, k.isLt⟩
theorem at3_eq {n m q : ℕ} (f : (⟨3, ![n, m, q]⟩ : Shape).Idx → ℝ) (r : Fin n) (k : Fin m) (l : Fin q) : at3 f r k l = f (ix3 r k l) :=
  dif_pos ⟨r.isLt, k.isLt, l.isLt⟩

/-- The gated half, the mixed half and the cotangent, by row and column. -/
def gated {n m : ℕ} (f : (⟨2, ![n, m]⟩ : Shape).Idx → ℝ) (r l : ℕ) : ℝ := at2 f r (3584 + l)
def mixedHalf {n m : ℕ} (f : (⟨2, ![n, m]⟩ : Shape).Idx → ℝ) (r l : ℕ) : ℝ := at2 f r (4096 + l)
def cotan {n m q : ℕ} (a : (⟨3, ![n, m, q]⟩ : Shape).Idx → ℝ) (r l : ℕ) : ℝ := at3 a 2 r l

end Cert.SgReal

end
-- ==== Proof.SgBwdChunk.lean ====
/-
  ONE CHUNK OF `sg_bwd`, as real numbers: each of the kernel's values over 128 rows, its operands arrays of reals.
-/
module

public import proofs.«01_k».proof.Proof.SgBwdBody
public import proofs.«01_k».proof.Proof.SgReal

@[expose] public section

set_option maxRecDepth 16384

noncomputable section

namespace Cert.SgBwdChunk

open Cert.SgBwdIdeal Cert.SgBwdIdeal.Gen Idealize.ShloMosaic Idealize.ShloMosaic.TcCoe Idealize.SL.Sem Cert.Reals
open Cert.SgReal (C A th gelu slope mean cen inv nrm lnGrad act tri)

/-! ## Arrays of reals as the kernel holds them -/

/-- 128 rows of 512 columns, -/
def tile (x : ℕ → ℕ → ℝ) : Vec Ideal S128x512 .f32 := fun i => ((x (i 0) (i 1) : ℝ) : EReal)
/-- 128 rows of one group's columns, -/
def sq {φ : FTy} (x : ℕ → ℕ → ℝ) : FVec Ideal S128x128 φ := fun i => ((x (i 0) (i 1) : ℝ) : EReal)
/-- a column, -/
def col (x : ℕ → ℝ) : FVec Ideal S128x1 .f32 := fun i => ((x (i 0) : ℝ) : EReal)
/-- a row, -/
def row (x : ℕ → ℝ) : Vec Ideal S1x512 .f32 := fun i => ((x (i 1) : ℝ) : EReal)
/-- a group's weight, -/
def wgt (x : ℕ → ℕ → ℝ) : Vec Ideal S1x128x128 .f32 := fun i => ((x (i 1) (i 2) : ℝ) : EReal)
/-- a group's bias, -/
def bias (x : ℕ → ℝ) : Vec Ideal S1x128x1 .f32 := fun i => ((x (i 1) : ℝ) : EReal)
/-- and the cotangent's 128 rows. -/
def cot (x : ℕ → ℕ → ℝ) : Vec Ideal S1x128x512 .f32 := fun i => ((x (i 1) (i 2) : ℝ) : EReal)

theorem tile_apply (x : ℕ → ℕ → ℝ) (p : Fin 128) (l : Fin 512) : tile x (ix2 p l) = ((x p l : ℝ) : EReal) := rfl
theorem sq_apply {φ : FTy} (x : ℕ → ℕ → ℝ) (p l : Fin 128) : sq (φ := φ) x (ix2 p l) = ((x p l : ℝ) : EReal) := rfl
theorem col_apply (x : ℕ → ℝ) (p : Fin 128) (l : Fin 1) : col x (ix2 p l) = ((x p : ℝ) : EReal) := rfl
theorem row_apply (x : ℕ → ℝ) (p : Fin 1) (l : Fin 512) : row x (ix2 p l) = ((x l : ℝ) : EReal) := rfl
theorem wgt_apply (x : ℕ → ℕ → ℝ) (q : Fin 1) (p l : Fin 128) : wgt x (ix3 q p l) = ((x p l : ℝ) : EReal) := rfl
theorem bias_apply (x : ℕ → ℝ) (q : Fin 1) (p : Fin 128) (l : Fin 1) : bias x (ix3 q p l) = ((x p : ℝ) : EReal) := rfl
theorem cot_apply (x : ℕ → ℕ → ℝ) (q : Fin 1) (p : Fin 128) (l : Fin 512) : cot x (ix3 q p l) = ((x p l : ℝ) : EReal) := rfl

/-- The activation's cubic factor is named: it is the decimal fraction written. -/
theorem named_a : Named.named (F := Ideal) κ "gelu_a" (φ := .f32) 0x3D372713#32 = ((A : ℝ) : EReal) :=
  IdealRules.named_const.ideal_named_scalar κ "gelu_a" _ _ rfl
/-- Three times it is named too, where the kernel writes it as one constant. -/
theorem named_3a : Named.named (F := Ideal) κ "gelu_3a" (φ := .f32) 0x3E095D4F#32 = ((3 * A : ℝ) : EReal) := by
  rw [IdealRules.named_const.ideal_named_scalar κ "gelu_3a" _ ((26829 / 200000 : ℝ) : EReal) rfl, A]; norm_num

theorem one_coe : (1 : EReal) = ((1 : ℝ) : EReal) := rfl
theorem zero_coe : (0 : EReal) = ((0 : ℝ) : EReal) := rfl

/-- A choice by the comparison of two coordinates. -/
theorem select_ge (p n : ℕ) (hp : p < 2048) (hn : n < 2048) (x y : EReal) :
    Scalar.select (IntOp.cmpi .sge (BitVec.ofNat 32 p) (BitVec.ofNat 32 n)) x y = if n ≤ p then x else y := by
  rw [Idealize.ShloMosaic.WordCmp.cmpi_sge_ofNat (by omega) (by omega)]
  by_cases h : n ≤ p <;> simp [Scalar.select, h]

/-- A choice by a coordinate's being zero. -/
theorem select_zero (p : ℕ) (hp : p < 2048) (x y : EReal) :
    Scalar.select (IntOp.cmpi .eq (BitVec.ofNat 32 p) (0#32)) x y = if p = 0 then x else y := by
  rw [show (0#32) = BitVec.ofNat 32 0 from rfl, Idealize.ShloMosaic.WordCmp.cmpi_eq_ofNat (by omega) (by omega)]
  by_cases h : p = 0 <;> simp [Scalar.select, h]

theorem ofBits_0 : Ideal.ofBits .f32 0x00000000#32 = ((0 : ℝ) : EReal) := by simp [Ideal.ofBits, Ideal.ieee]

variable (u v z d : ℕ → ℕ → ℝ) (g b : ℕ → ℝ) (w : ℕ → ℕ → ℕ → ℝ) (s : ℕ → ℕ → ℝ) (x : ℕ → ℕ → ℝ) (o : ℕ → ℝ)

/-! ## The activation and the norm -/

theorem pay9 : k0_pay9 (F := Ideal) (tile u) = tile fun t l => th (u t l) := by
  funext i
  obtain ⟨p, l, rfl⟩ : ∃ (p : Fin 128) (l : Fin 512), i = ix2 p l := ⟨i 0, i 1, eq_ix2 i⟩
  pointwise [k0_pay9]
  simp only [tile_apply, named_a, SgReal.ofBits_C, ← EReal.coe_mul, ← EReal.coe_add, Ideal.tanh_coe]
  simp only [th]
  congr 3; ring

theorem pay10 : k0_pay10 (F := Ideal) (tile u) = tile fun t l => gelu (u t l) := by
  funext i
  obtain ⟨p, l, rfl⟩ : ∃ (p : Fin 128) (l : Fin 512), i = ix2 p l := ⟨i 0, i 1, eq_ix2 i⟩
  pointwise [k0_pay10]
  simp only [pay9, tile_apply, SgReal.ofBits_half, one_coe, ← EReal.coe_mul, ← EReal.coe_add]
  simp only [gelu]
  congr 1; ring

theorem pay11 : k0_pay11 (F := Ideal) (tile u) = tile fun t l => th (u t l) := pay9 u

theorem pay12 : k0_pay12 (F := Ideal) (tile v) = tile fun t l => cen (act v t) l := by
  funext i
  obtain ⟨p, l, rfl⟩ : ∃ (p : Fin 128) (l : Fin 512), i = ix2 p l := ⟨i 0, i 1, eq_ix2 i⟩
  pointwise [k0_pay12]
  simp only [pay11, tile_apply, SgReal.ofBits_half, one_coe, SgReal.ofBits_512, ← EReal.coe_mul, ← EReal.coe_add, sum_coe,
    div_coe_coe _ _ (by norm_num : (512 : ℝ) ≠ 0), ← EReal.coe_sub]
  have hx : ∀ y : ℝ, 1 / 2 * y * (1 + th y) = y * (1 / 2 * (1 + th y)) := fun y => by ring
  simp only [cen, mean, act, gelu, hx]

theorem pay13 : k0_pay13 (F := Ideal) (tile v) = col fun t => ∑ k : Fin 512, cen (act v t) k * cen (act v t) k := by
  funext i
  obtain ⟨p, l, rfl⟩ : ∃ (p : Fin 128) (l : Fin 1), i = ix2 p l := ⟨i 0, i 1, eq_ix2 i⟩
  pointwise [k0_pay13]
  simp only [pay12, tile_apply, col_apply, ← EReal.coe_mul, sum_coe]

theorem pay14 : k0_pay14 (F := Ideal) (col fun t => ∑ k : Fin 512, cen (act v t) k * cen (act v t) k) = col fun t => inv (act v t) := by
  funext i
  obtain ⟨p, l, rfl⟩ : ∃ (p : Fin 128) (l : Fin 1), i = ix2 p l := ⟨i 0, i 1, eq_ix2 i⟩
  pointwise [k0_pay14]
  simp only [col_apply, SgReal.ofBits_eps, SgReal.ofBits_512, div_coe_coe _ _ (by norm_num : (512 : ℝ) ≠ 0), ← EReal.coe_add]
  exact rsqrt_coe_pos _ (SgReal.var_pos (act v p))

theorem normed_eq : normed (F := Ideal) (tile v) = tile fun t l => nrm (act v t) l := by
  unfold normed
  rw [pay12, pay13]
  funext i
  obtain ⟨p, l, rfl⟩ : ∃ (p : Fin 128) (l : Fin 512), i = ix2 p l := ⟨i 0, i 1, eq_ix2 i⟩
  pointwise [k0_pay15]
  simp only [pay14, tile_apply, col_apply, ← EReal.coe_mul]
  rfl

theorem scaled_eq : scaled (F := Ideal) (tile v) (row g) (row b) = tile (SgReal.scaled v g b) := by
  unfold scaled
  funext i
  obtain ⟨p, l, rfl⟩ : ∃ (p : Fin 128) (l : Fin 512), i = ix2 p l := ⟨i 0, i 1, eq_ix2 i⟩
  pointwise [k0_pay16, k0_pay7, k0_pay8]
  have h := congrFun (normed_eq v) (ix2 p l)
  unfold normed at h
  rw [h]
  simp only [tile_apply, row_apply, ← EReal.coe_mul, ← EReal.coe_add]
  rfl

/-! ## The mixing -/

/-- The mask keeps the lower triangle. -/
theorem pay18 (q : ℕ) : k0_pay18 (F := Ideal) (wgt (w q)) = sq (φ := .bf16) (tri w q) := by
  funext i
  obtain ⟨p, l, rfl⟩ : ∃ (p l : Fin 128), i = ix2 p l := ⟨i 0, i 1, eq_ix2 i⟩
  pointwise [k0_pay18, k0_pay17]
  rw [select_ge _ _ (by omega) (by omega), wgt_apply, sq_apply, zero_coe]
  unfold tri
  split_ifs <;> rfl

theorem mixed_eq : mixed (F := Ideal) (tile v) (row g) (row b) (wgt (w 0)) (wgt (w 1)) (wgt (w 2)) (wgt (w 3)) (bias (s 0)) (bias (s 1)) (bias (s 2)) (bias (s 3))
    = tile (SgReal.mixed v g b w s) := by
  have h0 := pay18 w 0
  have h1 : k0_pay19 (F := Ideal) (wgt (w 1)) = sq (tri w 1) := pay18 w 1
  have h2 : k0_pay20 (F := Ideal) (wgt (w 2)) = sq (tri w 2) := pay18 w 2
  have h3 : k0_pay21 (F := Ideal) (wgt (w 3)) = sq (tri w 3) := pay18 w 3
  unfold mixed
  rw [scaled_eq, h1, h2, h3]
  have e : k0_pay16 (F := Ideal) (k0_pay7 (row g)) (k0_pay8 (row b)) (k0_pay12 (tile v)) (k0_pay13 (tile v)) = tile (SgReal.scaled v g b) := scaled_eq v g b
  funext i
  obtain ⟨p, l, rfl⟩ : ∃ (p : Fin 128) (l : Fin 512), i = ix2 p l := ⟨i 0, i 1, eq_ix2 i⟩
  pointwise [k0_pay23, k0_pay22]
  simp only [h0, e, sq_apply, tile_apply, bias_apply, ← EReal.coe_mul, sum_coe, ← EReal.coe_add]
  have hl := l.isLt
  split_ifs with a1 a2 a3
  · have q : l.val / 128 = 0 := by omega
    simp only [SgReal.mixed, q]
  · have q : l.val / 128 = 1 := by omega
    have r : 128 + (l.val - 128) = l.val := by omega
    simp only [SgReal.mixed, q, r]
  · have q : l.val / 128 = 2 := by omega
    have r : 256 + (l.val - 128 - 128) = l.val := by omega
    simp only [SgReal.mixed, q, r]
  · have q : l.val / 128 = 3 := by omega
    have r : 384 + (l.val - 128 - 128 - 128) = l.val := by omega
    simp only [SgReal.mixed, q, r]

/-! ## The cotangents -/

/-- The columns of group `q`. -/
def grp (x : ℕ → ℕ → ℝ) (q : ℕ) : ℕ → ℕ → ℝ := fun t e => x t (128 * q + e)

theorem dmixed_eq : dmixed (F := Ideal) (tile u) (cot z) = tile (SgReal.dmixed u z) := by
  unfold dmixed
  rw [pay10]
  funext i
  obtain ⟨p, l, rfl⟩ : ∃ (p : Fin 128) (l : Fin 512), i = ix2 p l := ⟨i 0, i 1, eq_ix2 i⟩
  pointwise [k0_pay25, k0_pay24]
  simp only [tile_apply, cot_apply, ← EReal.coe_mul]
  rfl

theorem pay36' (x : ℕ → ℕ → ℝ) : k0_pay36 (F := Ideal) (tile x) = sq (grp x 2) := by
  funext i
  obtain ⟨p, l, rfl⟩ : ∃ (p l : Fin 128), i = ix2 p l := ⟨i 0, i 1, eq_ix2 i⟩
  pointwise [k0_pay36]
  rfl

theorem pay31' (x : ℕ → ℕ → ℝ) : k0_pay31 (F := Ideal) (tile x) = sq (grp x 1) := by
  funext i
  obtain ⟨p, l, rfl⟩ : ∃ (p l : Fin 128), i = ix2 p l := ⟨i 0, i 1, eq_ix2 i⟩
  pointwise [k0_pay31]
  rfl

theorem pay40' (x : ℕ → ℕ → ℝ) : k0_pay40 (F := Ideal) (tile x) = sq (grp x 3) := by
  funext i
  obtain ⟨p, l, rfl⟩ : ∃ (p l : Fin 128), i = ix2 p l := ⟨i 0, i 1, eq_ix2 i⟩
  pointwise [k0_pay40]
  rfl

theorem dmixed0_eq : dmixed0 (F := Ideal) (tile u) (cot z) = sq (grp (SgReal.dmixed u z) 0) := by
  unfold dmixed0
  have h : k0_pay25 (F := Ideal) (k0_pay10 (tile u)) (cot z) = tile (SgReal.dmixed u z) := dmixed_eq u z
  funext i
  obtain ⟨p, l, rfl⟩ : ∃ (p l : Fin 128), i = ix2 p l := ⟨i 0, i 1, eq_ix2 i⟩
  pointwise [k0_pay26]
  rw [h, tile_apply, sq_apply]
  simp only [grp, Nat.mul_zero, Nat.zero_add]

/-- A group's weight transposed, times the cotangent of its mixed columns. -/
theorem pay30' (q : ℕ) (x : ℕ → ℕ → ℝ) : k0_pay30 (F := Ideal) (sq (tri w q)) (sq x) = sq fun t e => ∑ k : Fin 128, tri w q k t * x k e := by
  funext i
  obtain ⟨p, l, rfl⟩ : ∃ (p l : Fin 128), i = ix2 p l := ⟨i 0, i 1, eq_ix2 i⟩
  pointwise [k0_pay30]
  simp only [sq_apply, ← EReal.coe_mul, sum_coe]

theorem dscaled_grp (q : ℕ) : (fun t e => ∑ k : Fin 128, tri w q k t * grp (SgReal.dmixed u z) q k e) = fun t e => ∑ k : Fin 128, tri w q k t * SgReal.dmixed u z k (128 * q + e) := rfl

theorem dscaled_eq : dscaled (F := Ideal) (tile u) (wgt (w 0)) (wgt (w 1)) (wgt (w 2)) (wgt (w 3)) (cot z) = tile (SgReal.dscaled u z w) := by
  have h0 : dscaled0 (F := Ideal) (tile u) (wgt (w 0)) (cot z) = sq fun t e => ∑ k : Fin 128, tri w 0 k t * grp (SgReal.dmixed u z) 0 k e := by
    unfold dscaled0; rw [pay18, dmixed0_eq]; exact pay30' w 0 _
  have h1 : dscaled1 (F := Ideal) (tile u) (wgt (w 1)) (cot z) = sq fun t e => ∑ k : Fin 128, tri w 1 k t * grp (SgReal.dmixed u z) 1 k e := by
    unfold dscaled1; rw [dmixed_eq, pay31', show k0_pay19 (F := Ideal) (wgt (w 1)) = sq (tri w 1) from pay18 w 1]; exact pay30' w 1 _
  have h2 : dscaled2 (F := Ideal) (tile u) (wgt (w 2)) (cot z) = sq fun t e => ∑ k : Fin 128, tri w 2 k t * grp (SgReal.dmixed u z) 2 k e := by
    unfold dscaled2; rw [dmixed_eq, show k0_pay20 (F := Ideal) (wgt (w 2)) = sq (tri w 2) from pay18 w 2]
    refine Eq.trans ?_ (pay30' w 2 _)
    rw [← pay36']; rfl
  unfold dscaled
  rw [h0, h1, h2, dmixed_eq, pay40', show k0_pay21 (F := Ideal) (wgt (w 3)) = sq (tri w 3) from pay18 w 3]
  funext i
  obtain ⟨p, l, rfl⟩ : ∃ (p : Fin 128) (l : Fin 512), i = ix2 p l := ⟨i 0, i 1, eq_ix2 i⟩
  pointwise [k0_pay45]
  simp only [sq_apply, tile_apply, ← EReal.coe_mul, sum_coe]
  have hl := l.isLt
  simp only [grp]
  split_ifs with a1 a2 a3
  · have q : l.val / 128 = 0 := by omega
    simp only [SgReal.dscaled, q, Nat.mul_zero, Nat.zero_add]
  · have q : l.val / 128 = 1 := by omega
    have r : 128 * 1 + (l.val - 128) = l.val := by omega
    simp only [SgReal.dscaled, q, r]
  · have q : l.val / 128 = 2 := by omega
    have r : 128 * 2 + (l.val - 128 - 128) = l.val := by omega
    simp only [SgReal.dscaled, q, r]
  · have q : l.val / 128 = 3 := by omega
    have r : 128 * 3 + (l.val - 128 - 128 - 128) = l.val := by omega
    simp only [SgReal.dscaled, q, r]

/-! ## The shares of the weights' and the biases' gradients -/

theorem dws0_eq : dws0 (F := Ideal) (tile u) (tile v) (row g) (row b) (cot z) (wgt x) = wgt fun t k => x t k + SgReal.dweight u v z g b 0 t k := by
  have h : k0_pay26 (F := Ideal) (k0_pay10 (tile u)) (cot z) = sq (grp (SgReal.dmixed u z) 0) := dmixed0_eq u z
  unfold dws0
  rw [scaled_eq]
  funext i
  obtain ⟨r, p, l, rfl⟩ : ∃ (r : Fin 1) (p l : Fin 128), i = ix3 r p l := ⟨i 0, i 1, i 2, eq_ix3 i⟩
  pointwise [k0_pay28, k0_pay27, k0_pay17]
  rw [select_ge _ _ (by omega) (by omega)]
  simp only [h, wgt_apply, sq_apply, tile_apply, zero_coe, ← EReal.coe_mul, sum_coe]
  unfold SgReal.dweight
  split_ifs <;> simp only [← EReal.coe_add, grp, Nat.mul_zero, Nat.zero_add]

theorem dws1_eq : dws1 (F := Ideal) (tile u) (tile v) (row g) (row b) (cot z) (wgt x) = wgt fun t k => x t k + SgReal.dweight u v z g b 1 t k := by
  unfold dws1
  rw [scaled_eq, dmixed_eq]
  funext i
  obtain ⟨r, p, l, rfl⟩ : ∃ (r : Fin 1) (p l : Fin 128), i = ix3 r p l := ⟨i 0, i 1, i 2, eq_ix3 i⟩
  pointwise [k0_pay32, k0_pay17]
  rw [select_ge _ _ (by omega) (by omega)]
  simp only [pay31', wgt_apply, sq_apply, tile_apply, zero_coe, ← EReal.coe_mul, sum_coe]
  unfold SgReal.dweight
  split_ifs <;> simp only [← EReal.coe_add, grp, Nat.mul_one]

theorem dws2_eq : dws2 (F := Ideal) (tile u) (tile v) (row g) (row b) (cot z) (wgt x) = wgt fun t k => x t k + SgReal.dweight u v z g b 2 t k := by
  unfold dws2
  rw [scaled_eq, dmixed_eq]
  funext i
  obtain ⟨r, p, l, rfl⟩ : ∃ (r : Fin 1) (p l : Fin 128), i = ix3 r p l := ⟨i 0, i 1, i 2, eq_ix3 i⟩
  pointwise [k0_pay37, k0_pay17]
  rw [select_ge _ _ (by omega) (by omega)]
  simp only [pay36', wgt_apply, sq_apply, tile_apply, zero_coe, ← EReal.coe_mul, sum_coe]
  unfold SgReal.dweight
  split_ifs <;> simp only [← EReal.coe_add, grp, Nat.reduceMul]

theorem dws3_eq : dws3 (F := Ideal) (tile u) (tile v) (row g) (row b) (cot z) (wgt x) = wgt fun t k => x t k + SgReal.dweight u v z g b 3 t k := by
  unfold dws3
  rw [scaled_eq, dmixed_eq]
  funext i
  obtain ⟨r, p, l, rfl⟩ : ∃ (r : Fin 1) (p l : Fin 128), i = ix3 r p l := ⟨i 0, i 1, i 2, eq_ix3 i⟩
  pointwise [k0_pay43, k0_pay41, k0_pay42, k0_pay17]
  rw [select_ge _ _ (by omega) (by omega)]
  simp only [pay40', wgt_apply, sq_apply, tile_apply, zero_coe, ← EReal.coe_mul, sum_coe]
  unfold SgReal.dweight
  split_ifs <;> simp only [← EReal.coe_add, grp, Nat.reduceMul]

/-- A group's columns summed along its rows, added to what is there. -/
theorem pay29' (q : ℕ) : k0_pay29 (F := Ideal) (sq (grp (SgReal.dmixed u z) q)) (bias o) = bias fun t => o t + SgReal.dbias u z q t := by
  funext i
  obtain ⟨r, p, l, rfl⟩ : ∃ (r : Fin 1) (p : Fin 128) (l : Fin 1), i = ix3 r p l := ⟨i 0, i 1, i 2, eq_ix3 i⟩
  pointwise [k0_pay29]
  simp only [sq_apply, bias_apply, sum_coe, ← EReal.coe_add]
  rfl

theorem dbs0_eq : dbs0 (F := Ideal) (tile u) (cot z) (bias o) = bias fun t => o t + SgReal.dbias u z 0 t := by
  unfold dbs0; rw [dmixed0_eq]; exact pay29' u z o 0
theorem dbs1_eq : dbs1 (F := Ideal) (tile u) (cot z) (bias o) = bias fun t => o t + SgReal.dbias u z 1 t := by
  unfold dbs1; rw [dmixed_eq]; refine Eq.trans ?_ (pay29' u z o 1); rw [← pay31']; rfl
theorem dbs2_eq : dbs2 (F := Ideal) (tile u) (cot z) (bias o) = bias fun t => o t + SgReal.dbias u z 2 t := by
  unfold dbs2; rw [dmixed_eq]; refine Eq.trans ?_ (pay29' u z o 2); rw [← pay36']; rfl
theorem dbs3_eq : dbs3 (F := Ideal) (tile u) (cot z) (bias o) = bias fun t => o t + SgReal.dbias u z 3 t := by
  unfold dbs3; rw [dmixed_eq]; refine Eq.trans ?_ (pay29' u z o 3); rw [← pay40']; rfl

/-! ## The shares of the gain's and the offset's gradients -/

/-- Eight rows, the sums in the first. -/
def eight (x : ℕ → ℕ → ℝ) : Vec Ideal S8x512 .f32 := fun i => ((x (i 0) (i 1) : ℝ) : EReal)
theorem eight_apply (x : ℕ → ℕ → ℝ) (p : Fin 8) (l : Fin 512) : eight x (ix2 p l) = ((x p l : ℝ) : EReal) := rfl

theorem dgain_eq : dgain (F := Ideal) (tile u) (tile v) (wgt (w 0)) (wgt (w 1)) (wgt (w 2)) (wgt (w 3)) (cot z) (eight x)
    = eight fun p l => x p l + if p = 0 then SgReal.dgain u v z w l else 0 := by
  have h : k0_pay45 (F := Ideal) (k0_pay21 (wgt (w 3))) (dscaled0 (tile u) (wgt (w 0)) (cot z)) (dscaled1 (tile u) (wgt (w 1)) (cot z))
      (dscaled2 (tile u) (wgt (w 2)) (cot z)) (k0_pay40 (dmixed (tile u) (cot z))) = tile (SgReal.dscaled u z w) := dscaled_eq u z w
  unfold dgain
  rw [normed_eq]
  funext i
  obtain ⟨p, l, rfl⟩ : ∃ (p : Fin 8) (l : Fin 512), i = ix2 p l := ⟨i 0, i 1, eq_ix2 i⟩
  pointwise [k0_pay46]
  rw [select_zero _ (by omega)]
  simp only [h, eight_apply, tile_apply, zero_coe, ← EReal.coe_mul, sum_coe]
  unfold SgReal.dgain
  split_ifs <;> simp only [← EReal.coe_add]

theorem doff_eq : doff (F := Ideal) (tile u) (wgt (w 0)) (wgt (w 1)) (wgt (w 2)) (wgt (w 3)) (cot z) (eight x)
    = eight fun p l => x p l + if p = 0 then SgReal.doffset u z w l else 0 := by
  have h : k0_pay45 (F := Ideal) (k0_pay21 (wgt (w 3))) (dscaled0 (tile u) (wgt (w 0)) (cot z)) (dscaled1 (tile u) (wgt (w 1)) (cot z))
      (dscaled2 (tile u) (wgt (w 2)) (cot z)) (k0_pay40 (dmixed (tile u) (cot z))) = tile (SgReal.dscaled u z w) := dscaled_eq u z w
  unfold doff
  funext i
  obtain ⟨p, l, rfl⟩ : ∃ (p : Fin 8) (l : Fin 512), i = ix2 p l := ⟨i 0, i 1, eq_ix2 i⟩
  pointwise [k0_pay50, k0_pay47, k0_pay48, k0_pay49]
  rw [select_zero _ (by omega)]
  simp only [h, eight_apply, tile_apply, zero_coe, sum_coe]
  unfold SgReal.doffset
  split_ifs <;> simp only [← EReal.coe_add]

/-! ## The gradients of the two halves -/

/-- The cotangent of the activated half that is mixed. -/
theorem dact_eq : dact (F := Ideal) (tile u) (tile v) (row g) (wgt (w 0)) (wgt (w 1)) (wgt (w 2)) (wgt (w 3)) (cot z)
    = tile fun t l => lnGrad (act v t) (fun k => SgReal.dscaled u z w t k * g k) l := by
  unfold dact
  rw [normed_eq, dscaled_eq, pay13, pay14]
  funext i
  obtain ⟨p, l, rfl⟩ : ∃ (p : Fin 128) (l : Fin 512), i = ix2 p l := ⟨i 0, i 1, eq_ix2 i⟩
  pointwise [k0_pay51, k0_pay7]
  simp only [tile_apply, row_apply, col_apply, SgReal.ofBits_512, ← EReal.coe_mul, sum_coe, div_coe_coe _ _ (by norm_num : (512 : ℝ) ≠ 0), ← EReal.coe_sub]
  rfl

/-- The activation's derivative as the body forms it. -/
theorem pay53' : k0_pay53 (F := Ideal) (tile u) (tile fun t l => th (u t l)) = tile fun t l => slope (u t l) := by
  funext i
  obtain ⟨p, l, rfl⟩ : ∃ (p : Fin 128) (l : Fin 512), i = ix2 p l := ⟨i 0, i 1, eq_ix2 i⟩
  pointwise [k0_pay53]
  simp only [tile_apply, named_3a, SgReal.ofBits_half, SgReal.ofBits_C, one_coe, ← EReal.coe_mul, ← EReal.coe_add, ← EReal.coe_sub]
  rfl

theorem dinput_eq : dinput (F := Ideal) (tile u) (tile v) (row g) (wgt (w 0)) (wgt (w 1)) (wgt (w 2)) (wgt (w 3)) (cot z)
    = tile (SgReal.dinput u v z g w) := by
  unfold dinput
  rw [dact_eq, pay11]
  funext i
  obtain ⟨p, l, rfl⟩ : ∃ (p : Fin 128) (l : Fin 512), i = ix2 p l := ⟨i 0, i 1, eq_ix2 i⟩
  pointwise [k0_pay55]
  simp only [tile_apply, named_3a, SgReal.ofBits_half, SgReal.ofBits_C, one_coe, ← EReal.coe_mul, ← EReal.coe_add, ← EReal.coe_sub]
  rfl

/-- The gated half's, in the narrow format. -/
def tileb (x : ℕ → ℕ → ℝ) : Vec Ideal S128x512 .bf16 := fun i => ((x (i 0) (i 1) : ℝ) : EReal)

theorem dgate_eq : dgate (F := Ideal) (tile u) (tile v) (row g) (row b) (wgt (w 0)) (wgt (w 1)) (wgt (w 2)) (wgt (w 3)) (bias (s 0)) (bias (s 1)) (bias (s 2)) (bias (s 3)) (cot z)
    = tileb (SgReal.dgated u v z g b w s) := by
  unfold dgate
  rw [mixed_eq, pay9, pay53']
  funext i
  obtain ⟨p, l, rfl⟩ : ∃ (p : Fin 128) (l : Fin 512), i = ix2 p l := ⟨i 0, i 1, eq_ix2 i⟩
  pointwise [k0_pay54, k0_pay52, k0_pay24]
  simp only [tile_apply, cot_apply, ← EReal.coe_mul]
  rfl

end Cert.SgBwdChunk

end
-- ==== Proof.SgBwdValue.lean ====
/-
  THE VALUE OF `sg_bwd`: what the kernel's five result arrays hold, as real numbers. The grid walks the rows in 4 blocks of four
  chunks, each block in two column groups: at the first the chunks' gradients are formed, at the second the stashed ones go out.
-/
module

public import proofs.«01_k».proof.Proof.SgBwdRun
public import proofs.«01_k».proof.Proof.SgBwdChunk
public import Idealize.ShloMosaic.Lib.Pipeline.ValueKit

@[expose] public section

set_option maxRecDepth 16384

noncomputable section

namespace Cert.SgBwdValue

open Cert.SgBwdIdeal Cert.SgBwdIdeal.Gen Cert.SgBwdChunk Idealize.ShloMosaic Idealize.ShloMosaic.TcCoe Idealize.SL.Sem Cert.Reals
open Cert.SgReal (rowsOf gatedGrad inputGrad weightGrad biasGrad gainGrad offsetGrad at1 at2 at3 gated mixedHalf cotan)
open Idealize.ShloMosaic.Pipeline (Dat)

/-! ## Blocks of reals as the launch lays them -/

/-- 512 rows, -/
def blk (x : ℕ → ℕ → ℝ) : Vec Ideal S512x512 .f32 := fun i => ((x (i 0) (i 1) : ℝ) : EReal)
/-- 512 rows of the cotangent, -/
def zblk (x : ℕ → ℕ → ℝ) : Vec Ideal S1x512x512 .f32 := fun i => ((x (i 1) (i 2) : ℝ) : EReal)
/-- the four groups' weights -/
def wAll (x : ℕ → ℕ → ℕ → ℝ) : Vec Ideal S4x128x128 .f32 := fun i => ((x (i 0) (i 1) (i 2) : ℝ) : EReal)
/-- and biases. -/
def sAll (x : ℕ → ℕ → ℝ) : Vec Ideal S4x128x1 .f32 := fun i => ((x (i 0) (i 1) : ℝ) : EReal)

theorem chunk_blk (x : ℕ → ℕ → ℝ) (k : ℕ) (hk : k < 4) : chunk k hk (blk x) = tile (rowsOf x k) := by
  funext i
  have h0 : (i 0).val < 128 := (i 0).isLt
  exact View.ld_unit_apply_of (blk x) _ _ _ i (ix2 (⟨128 * k + (i 0).val, by omega⟩ : Fin 512) (i 1)) fun a => by
    match a with
    | ⟨0, _⟩ => rfl
    | ⟨1, _⟩ => exact (Nat.zero_add _).symm

theorem chunkZ_zblk (x : ℕ → ℕ → ℝ) (k : ℕ) (hk : k < 4) : chunkZ k hk (zblk x) = cot (rowsOf x k) := by
  funext i
  have h0 : (i 1).val < 128 := (i 1).isLt
  exact View.ld_unit_apply_of (zblk x) _ _ _ i (ix3 (0 : Fin 1) (⟨128 * k + (i 1).val, by omega⟩ : Fin 512) (i 2)) fun a => by
    match a with
    | ⟨0, _⟩ => exact (congrArg (0 + ·) (Nat.lt_one_iff.1 (i 0).isLt)).symm
    | ⟨1, _⟩ => rfl
    | ⟨2, _⟩ => exact (Nat.zero_add _).symm

theorem grpW_wAll (x : ℕ → ℕ → ℕ → ℝ) (k : ℕ) (hk : k < 4) : grpW k hk (wAll x) = wgt (x k) := by
  funext i
  exact View.ld_unit_apply_of (wAll x) _ _ _ i (ix3 (⟨k, hk⟩ : Fin 4) (i 1) (i 2)) fun a => by
    match a with
    | ⟨0, _⟩ => exact (congrArg (k + ·) (Nat.lt_one_iff.1 (i 0).isLt)).symm
    | ⟨1, _⟩ => exact (Nat.zero_add _).symm
    | ⟨2, _⟩ => exact (Nat.zero_add _).symm

theorem grpB_sAll (x : ℕ → ℕ → ℝ) (k : ℕ) (hk : k < 4) : grpB k hk (sAll x) = bias (x k) := by
  funext i
  exact View.ld_unit_apply_of (sAll x) _ _ _ i (ix3 (⟨k, hk⟩ : Fin 4) (i 1) (i 2)) fun a => by
    match a with
    | ⟨0, _⟩ => exact (congrArg (k + ·) (Nat.lt_one_iff.1 (i 0).isLt)).symm
    | ⟨1, _⟩ => exact (Nat.zero_add _).symm
    | ⟨2, _⟩ => exact (Nat.zero_add _).symm

/-! ## One block's results -/

section Block

variable (u v z : ℕ → ℕ → ℝ) (g b : ℕ → ℝ) (w : ℕ → ℕ → ℕ → ℝ) (s : ℕ → ℕ → ℝ)

theorem dgainStep_eq (x : ℕ → ℕ → ℝ) : dgainStep (blk u) (blk v) (wAll w) (zblk z) (eight x)
    = eight fun p l => x p l + if p = 0 then ∑ k : Fin 4, SgReal.dgain (rowsOf u k) (rowsOf v k) (rowsOf z k) w l else 0 := by
  unfold dgainStep
  simp only [chunk_blk, chunkZ_zblk, grpW_wAll, dgain_eq]
  congr 1
  funext p l
  rw [Fin.sum_univ_four]
  split_ifs
  · simp only [Fin.val_zero, Fin.val_one, Fin.val_two, show (3 : Fin 4).val = 3 from rfl]; ring
  · ring

theorem doffStep_eq (x : ℕ → ℕ → ℝ) : doffStep (blk u) (wAll w) (zblk z) (eight x)
    = eight fun p l => x p l + if p = 0 then ∑ k : Fin 4, SgReal.doffset (rowsOf u k) (rowsOf z k) w l else 0 := by
  unfold doffStep
  simp only [chunk_blk, chunkZ_zblk, grpW_wAll, doff_eq]
  congr 1
  funext p l
  rw [Fin.sum_univ_four]
  split_ifs
  · simp only [Fin.val_zero, Fin.val_one, Fin.val_two, show (3 : Fin 4).val = 3 from rfl]; ring
  · ring

theorem dwsStep_eq (x : ℕ → ℕ → ℕ → ℝ) : dwsStep (blk u) (blk v) (row g) (row b) (zblk z) (wAll x)
    = wAll fun q t k => x q t k + ∑ j : Fin 4, SgReal.dweight (rowsOf u j) (rowsOf v j) (rowsOf z j) g b q t k := by
  unfold dwsStep fourTimes
  simp only [chunk_blk, chunkZ_zblk, grpW_wAll, dws0_eq, dws1_eq, dws2_eq, dws3_eq]
  funext i
  obtain ⟨q, t, k, rfl⟩ : ∃ (q : Fin 4) (t k : Fin 128), i = ix3 q t k := ⟨i 0, i 1, i 2, eq_ix3 i⟩
  have at_ : ∀ (n : ℕ) (y : S1x128x128.Idx), q.val = n → t.val = (y 1).val → k.val = (y 2).val →
      wgt (fun t k => x n t k + SgReal.dweight (rowsOf u 0) (rowsOf v 0) (rowsOf z 0) g b n t k + SgReal.dweight (rowsOf u 1) (rowsOf v 1) (rowsOf z 1) g b n t k
        + SgReal.dweight (rowsOf u 2) (rowsOf v 2) (rowsOf z 2) g b n t k + SgReal.dweight (rowsOf u 3) (rowsOf v 3) (rowsOf z 3) g b n t k) y
      = wAll (fun q t k => x q t k + ∑ j : Fin 4, SgReal.dweight (rowsOf u j) (rowsOf v j) (rowsOf z j) g b q t k) (ix3 q t k) := by
    rintro n y rfl ht hk
    show ((_ : ℝ) : EReal) = ((_ : ℝ) : EReal)
    rw [← ht, ← hk]
    congr 1
    show _ = x q t k + ∑ j : Fin 4, SgReal.dweight (rowsOf u j) (rowsOf v j) (rowsOf z j) g b q t k
    rw [Fin.sum_univ_four]
    simp only [Fin.val_zero, Fin.val_one, Fin.val_two, show (3 : Fin 4).val = 3 from rfl]; ring
  canon_tiles y h
  · exact at_ 3 y (h0.trans (by rw [Nat.lt_one_iff.1 y0_lt])) h1 h2
  · exact at_ 2 y (h0.trans (by rw [Nat.lt_one_iff.1 y0_lt])) h1 h2
  · exact at_ 1 y (h0.trans (by rw [Nat.lt_one_iff.1 y0_lt])) h1 h2
  · exact at_ 0 y (h0.trans (Nat.lt_one_iff.1 y0_lt)) h1 h2

theorem dbsStep_eq (x : ℕ → ℕ → ℝ) : dbsStep (blk u) (zblk z) (sAll x)
    = sAll fun q t => x q t + ∑ j : Fin 4, SgReal.dbias (rowsOf u j) (rowsOf z j) q t := by
  unfold dbsStep fourTimes
  simp only [chunk_blk, chunkZ_zblk, grpB_sAll, dbs0_eq, dbs1_eq, dbs2_eq, dbs3_eq]
  funext i
  obtain ⟨q, t, k, rfl⟩ : ∃ (q : Fin 4) (t : Fin 128) (k : Fin 1), i = ix3 q t k := ⟨i 0, i 1, i 2, eq_ix3 i⟩
  have at_ : ∀ (n : ℕ) (y : S1x128x1.Idx), q.val = n → t.val = (y 1).val →
      bias (fun t => x n t + SgReal.dbias (rowsOf u 0) (rowsOf z 0) n t + SgReal.dbias (rowsOf u 1) (rowsOf z 1) n t
        + SgReal.dbias (rowsOf u 2) (rowsOf z 2) n t + SgReal.dbias (rowsOf u 3) (rowsOf z 3) n t) y
      = sAll (fun q t => x q t + ∑ j : Fin 4, SgReal.dbias (rowsOf u j) (rowsOf z j) q t) (ix3 q t k) := by
    rintro n y rfl ht
    show ((_ : ℝ) : EReal) = ((_ : ℝ) : EReal)
    rw [← ht]
    congr 1
    show _ = x q t + ∑ j : Fin 4, SgReal.dbias (rowsOf u j) (rowsOf z j) q t
    rw [Fin.sum_univ_four]
    simp only [Fin.val_zero, Fin.val_one, Fin.val_two, show (3 : Fin 4).val = 3 from rfl]; ring
  canon_tiles y h
  · exact at_ 3 y (h0.trans (by rw [Nat.lt_one_iff.1 y0_lt])) h1
  · exact at_ 2 y (h0.trans (by rw [Nat.lt_one_iff.1 y0_lt])) h1
  · exact at_ 1 y (h0.trans (by rw [Nat.lt_one_iff.1 y0_lt])) h1
  · exact at_ 0 y (h0.trans (Nat.lt_one_iff.1 y0_lt)) h1

/-- The gated half's gradient at the first column group. -/
theorem firstBlk_eq (r l : Fin 512) :
    firstBlk (blk u) (blk v) (row g) (row b) (wAll w) (sAll s) (zblk z) (ix2 r l) = ((gatedGrad u v z g b w s r l : ℝ) : EReal) := by
  unfold firstBlk gateC
  simp only [chunk_blk, chunkZ_zblk, grpW_wAll, grpB_sAll, dgate_eq]
  have at_ : ∀ (n : ℕ) (y : S128x512.Idx), r.val = 128 * n + (y 0).val → (y 0).val < 128 → l.val = (y 1).val →
      tileb (SgReal.dgated (rowsOf u n) (rowsOf v n) (rowsOf z n) g b w s) y = ((gatedGrad u v z g b w s r l : ℝ) : EReal) := by
    intro n y hr hy hl
    show ((SgReal.dgated (rowsOf u n) (rowsOf v n) (rowsOf z n) g b w s (y 0) (y 1) : ℝ) : EReal) = _
    unfold gatedGrad
    rw [show r.val / 128 = n by omega, show r.val % 128 = (y 0).val by omega, hl]
  canon_tiles y h
  · exact at_ 3 y h0 y0_lt h1
  · exact at_ 2 y h0 y0_lt h1
  · exact at_ 1 y h0 y0_lt h1
  · exact at_ 0 y (h0.trans (by omega)) y0_lt h1

/-- The mixed half's gradient, stashed there. -/
theorem stashed_eq (r l : Fin 512) :
    stashed (blk u) (blk v) (row g) (wAll w) (zblk z) (ix2 r l) = ((inputGrad u v z g w r l : ℝ) : EReal) := by
  unfold stashed inputC
  simp only [chunk_blk, chunkZ_zblk, grpW_wAll, dinput_eq]
  have at_ : ∀ (n : ℕ) (y : S128x512.Idx), r.val = 128 * n + (y 0).val → (y 0).val < 128 → l.val = (y 1).val →
      tile (SgReal.dinput (rowsOf u n) (rowsOf v n) (rowsOf z n) g w) y = ((inputGrad u v z g w r l : ℝ) : EReal) := by
    intro n y hr hy hl
    show ((SgReal.dinput (rowsOf u n) (rowsOf v n) (rowsOf z n) g w (y 0) (y 1) : ℝ) : EReal) = _
    unfold inputGrad
    rw [show r.val / 128 = n by omega, show r.val % 128 = (y 0).val by omega, hl]
  canon_tiles y h
  · exact at_ 3 y h0 y0_lt h1
  · exact at_ 2 y h0 y0_lt h1
  · exact at_ 1 y h0 y0_lt h1
  · exact at_ 0 y (h0.trans (by omega)) y0_lt h1

end Block

/-! ## Blocks of the whole -/

/-- The 512 rows of block `n`. -/
def block (x : ℕ → ℕ → ℝ) (n : ℕ) : ℕ → ℕ → ℝ := fun p l => x (512 * n + p) l

theorem rowsOf_block (x : ℕ → ℕ → ℝ) (n k : ℕ) : rowsOf (block x n) k = rowsOf x (n * 4 + k) := by
  funext t l
  show x (512 * n + (128 * k + t)) l = x (128 * (n * 4 + k) + t) l
  rw [show 512 * n + (128 * k + t) = 128 * (n * 4 + k) + t by ring]

/-- Four blocks of four chunks are the sixteen chunks. -/
theorem sum_blocks (f : ℕ → ℝ) : ∑ n ∈ Finset.range 4, ∑ k : Fin 4, f (n * 4 + k) = ∑ n : Fin 16, f n := by
  rw [Finset.sum_range, ← Fin.sum_mul_add_fin (S := 4) (n := 4) (L := 16) (fun r : Fin 16 => f r)]

theorem gatedGrad_block (u v z : ℕ → ℕ → ℝ) (g b : ℕ → ℝ) (w : ℕ → ℕ → ℕ → ℝ) (s : ℕ → ℕ → ℝ) (n r l : ℕ) :
    gatedGrad (block u n) (block v n) (block z n) g b w s r l = gatedGrad u v z g b w s (512 * n + r) l := by
  unfold gatedGrad
  rw [rowsOf_block, rowsOf_block, rowsOf_block, show (512 * n + r) / 128 = n * 4 + r / 128 by omega, show (512 * n + r) % 128 = r % 128 by omega]

theorem inputGrad_block (u v z : ℕ → ℕ → ℝ) (g : ℕ → ℝ) (w : ℕ → ℕ → ℕ → ℝ) (n r l : ℕ) :
    inputGrad (block u n) (block v n) (block z n) g w r l = inputGrad u v z g w (512 * n + r) l := by
  unfold inputGrad
  rw [rowsOf_block, rowsOf_block, rowsOf_block, show (512 * n + r) / 128 = n * 4 + r / 128 by omega, show (512 * n + r) % 128 = r % 128 by omega]

/-! ## The blocks as the launch lays them -/

/-- A point's row block and column group. -/
theorem idx : ∀ t : Fin cfg0.N, win0_0.index t = ![t.val / 2, 7] ∧ win0_1.index t = ![t.val / 2, 8] ∧ win0_2.index t = ![0, 0] ∧ win0_3.index t = ![0, 0]
    ∧ win0_4.index t = ![0, 0, 0] ∧ win0_5.index t = ![0, 0, 0] ∧ win0_6.index t = ![2, t.val / 2, 0] ∧ win0_7.index t = ![t.val / 2, 7 + t.val % 2]
    ∧ win0_8.index t = ![0, 0, 0] ∧ win0_9.index t = ![0, 0, 0] ∧ win0_10.index t = ![0, 0] ∧ win0_11.index t = ![0, 0] :=
  (by decide +kernel : ∀ t : Fin grid0.N, _)

section Launch

variable (f : S2048x7680.Idx → ℝ) (g b : S512.Idx → ℝ) (w : S4x128x128.Idx → ℝ) (s : S4x128.Idx → ℝ) (a : S3x2048x512.Idx → ℝ)
  (m : (ℓ : Loc nD τ sig) → Buf (Elt Ideal) ℓ) (c : Dev nD)
  (hf : m ((c : Thread nD τ).loc main_arg0) = fun i => ((f i : ℝ) : EReal))
  (hg : m ((c : Thread nD τ).loc main_arg1) = fun i => ((g i : ℝ) : EReal))
  (hb : m ((c : Thread nD τ).loc main_arg2) = fun i => ((b i : ℝ) : EReal))
  (hw : m ((c : Thread nD τ).loc main_arg3) = fun i => ((w i : ℝ) : EReal))
  (hs : m ((c : Thread nD τ).loc main_arg4) = fun i => ((s i : ℝ) : EReal))
  (ha : m ((c : Thread nD τ).loc main_arg5) = fun i => ((a i : ℝ) : EReal))

theorem div_lt (t : Fin cfg0.N) : t.val / 2 < 4 := by
  have : t.val < 8 := Nat.lt_of_lt_of_eq t.isLt N_0
  omega

include hf in
theorem iblk0 (t : Fin cfg0.N) : iblk m c 0 t = blk (block (gated f) (t.val / 2)) := by
  funext i
  unfold iblk
  entry_read
  rw [hf]
  have ht := div_lt t
  have h0 : (i 0).val < 512 := (i 0).isLt
  have h1 : (i 1).val < 512 := (i 1).isLt
  have he : ((cfg0.win 0).blk t).view.emb i = ix2 (⟨512 * (t.val / 2) + (i 0).val, by omega⟩ : Fin 2048) (⟨3584 + (i 1).val, by omega⟩ : Fin 7680) := by
    blk_ext [idx t]
  rw [View.read_apply, he]
  exact congrArg (fun x : ℝ => (x : EReal)) (SgReal.at2_eq f _ _).symm

include hf in
theorem iblk1 (t : Fin cfg0.N) : iblk m c 1 t = blk (block (mixedHalf f) (t.val / 2)) := by
  funext i
  unfold iblk
  entry_read
  rw [hf]
  have ht := div_lt t
  have h0 : (i 0).val < 512 := (i 0).isLt
  have h1 : (i 1).val < 512 := (i 1).isLt
  have he : ((cfg0.win 1).blk t).view.emb i = ix2 (⟨512 * (t.val / 2) + (i 0).val, by omega⟩ : Fin 2048) (⟨4096 + (i 1).val, by omega⟩ : Fin 7680) := by
    blk_ext [idx t]
  rw [View.read_apply, he]
  exact congrArg (fun x : ℝ => (x : EReal)) (SgReal.at2_eq f _ _).symm

include hg in
theorem iblk2 (t : Fin cfg0.N) : iblk m c 2 t = row (at1 g) := by
  funext i
  unfold iblk
  entry_read
  rw [hg]
  have he : ((cfg0.win 2).blk t).view.emb i = ix2 0 (i 1) := by blk_ext [idx t]
  rw [View.read_apply, he]
  pointwise
  exact congrArg (fun x : ℝ => (x : EReal)) (SgReal.at1_eq g _).symm

include hb in
theorem iblk3 (t : Fin cfg0.N) : iblk m c 3 t = row (at1 b) := by
  funext i
  unfold iblk
  entry_read
  rw [hb]
  have he : ((cfg0.win 3).blk t).view.emb i = ix2 0 (i 1) := by blk_ext [idx t]
  rw [View.read_apply, he]
  pointwise
  exact congrArg (fun x : ℝ => (x : EReal)) (SgReal.at1_eq b _).symm

include hw in
theorem iblk4 (t : Fin cfg0.N) : iblk m c 4 t = wAll (at3 w) := by
  funext i
  unfold iblk
  entry_read
  rw [hw]
  have he : ((cfg0.win 4).blk t).view.emb i = ix3 (i 0) (i 1) (i 2) := by blk_ext [idx t]
  rw [View.read_apply, he]
  exact congrArg (fun x : ℝ => (x : EReal)) (SgReal.at3_eq w _ _ _).symm

include hs in
theorem iblk5 (t : Fin cfg0.N) : iblk m c 5 t = sAll (at2 s) := by
  funext i
  unfold iblk
  entry_read
  rw [hs]
  have he : ((cfg0.win 5).blk t).view.emb i = ix3 (i 0) (i 1) 0 := by blk_ext [idx t]
  rw [View.read_apply, he]
  pointwise
  exact congrArg (fun x : ℝ => (x : EReal)) (SgReal.at2_eq s _ _).symm

include ha in
theorem iblk6 (t : Fin cfg0.N) : iblk m c 6 t = zblk (block (cotan a) (t.val / 2)) := by
  funext i
  unfold iblk
  entry_read
  rw [ha]
  have ht := div_lt t
  have h0 : (i 0).val < 1 := (i 0).isLt
  have h1 : (i 1).val < 512 := (i 1).isLt
  have he : ((cfg0.win 6).blk t).view.emb i = ix3 (2 : Fin 3) (⟨512 * (t.val / 2) + (i 1).val, by omega⟩ : Fin 2048) (i 2) := by
    blk_ext [idx t]
  rw [View.read_apply, he]
  exact congrArg (fun x : ℝ => (x : EReal)) (SgReal.at3_eq a _ _ _).symm

theorem blockPt_div {n : ℕ} (h : n < 4) : (blockPt n).val / 2 = n := by simp only [blockPt]; omega

/-! ## The sums -/

section Sums

include hf ha

include hg hb in
theorem dwsAfter_eq : ∀ n, n < 4 → dwsAfter m c n = wAll fun q t k => ∑ j ∈ Finset.range (n + 1), ∑ i : Fin 4,
    SgReal.dweight (rowsOf (gated f) (j * 4 + i)) (rowsOf (mixedHalf f) (j * 4 + i)) (rowsOf (cotan a) (j * 4 + i)) (at1 g) (at1 b) q t k
  | 0, h => by
    have h0 : (k0_pay1 (F := Ideal)) = wAll fun _ _ _ => 0 := by funext i; pointwise [k0_pay1]; rfl
    rw [dwsAfter, iblk0 f m c hf, iblk1 f m c hf, iblk2 g m c hg, iblk3 b m c hb, iblk6 a m c ha, blockPt_div h, h0, dwsStep_eq]
    simp only [rowsOf_block, Finset.sum_range_one, zero_add]
  | n + 1, h => by
    rw [dwsAfter, iblk0 f m c hf, iblk1 f m c hf, iblk2 g m c hg, iblk3 b m c hb, iblk6 a m c ha, blockPt_div h, dwsAfter_eq n (by omega), dwsStep_eq]
    simp only [rowsOf_block, Finset.sum_range_succ _ (n + 1)]

theorem dbsAfter_eq : ∀ n, n < 4 → dbsAfter m c n = sAll fun q t => ∑ j ∈ Finset.range (n + 1), ∑ i : Fin 4,
    SgReal.dbias (rowsOf (gated f) (j * 4 + i)) (rowsOf (cotan a) (j * 4 + i)) q t
  | 0, h => by
    have h0 : (k0_pay2 (F := Ideal)) = sAll fun _ _ => 0 := by funext i; pointwise [k0_pay2]; rfl
    rw [dbsAfter, iblk0 f m c hf, iblk6 a m c ha, blockPt_div h, h0, dbsStep_eq]
    simp only [rowsOf_block, Finset.sum_range_one, zero_add]
  | n + 1, h => by
    rw [dbsAfter, iblk0 f m c hf, iblk6 a m c ha, blockPt_div h, dbsAfter_eq n (by omega), dbsStep_eq]
    simp only [rowsOf_block, Finset.sum_range_succ _ (n + 1)]

include hw in
theorem dgainAfter_eq : ∀ n, n < 4 → dgainAfter m c n = eight fun p l => if p = 0 then ∑ j ∈ Finset.range (n + 1), ∑ i : Fin 4,
    SgReal.dgain (rowsOf (gated f) (j * 4 + i)) (rowsOf (mixedHalf f) (j * 4 + i)) (rowsOf (cotan a) (j * 4 + i)) (at3 w) l else 0
  | 0, h => by
    have h0 : (k0_pay3 (F := Ideal)) = eight fun _ _ => 0 := by funext i; pointwise [k0_pay3]; rfl
    rw [dgainAfter, iblk0 f m c hf, iblk1 f m c hf, iblk4 w m c hw, iblk6 a m c ha, blockPt_div h, h0, dgainStep_eq]
    simp only [rowsOf_block, Finset.sum_range_one, zero_add]
  | n + 1, h => by
    rw [dgainAfter, iblk0 f m c hf, iblk1 f m c hf, iblk4 w m c hw, iblk6 a m c ha, blockPt_div h, dgainAfter_eq n (by omega), dgainStep_eq]
    simp only [rowsOf_block, Finset.sum_range_succ _ (n + 1)]
    congr 1
    funext p l
    split_ifs <;> simp

include hw in
theorem doffAfter_eq : ∀ n, n < 4 → doffAfter m c n = eight fun p l => if p = 0 then ∑ j ∈ Finset.range (n + 1), ∑ i : Fin 4,
    SgReal.doffset (rowsOf (gated f) (j * 4 + i)) (rowsOf (cotan a) (j * 4 + i)) (at3 w) l else 0
  | 0, h => by
    have h0 : (k0_pay4 (F := Ideal)) = eight fun _ _ => 0 := by funext i; pointwise [k0_pay4]; rfl
    rw [doffAfter, iblk0 f m c hf, iblk4 w m c hw, iblk6 a m c ha, blockPt_div h, h0, doffStep_eq]
    simp only [rowsOf_block, Finset.sum_range_one, zero_add]
  | n + 1, h => by
    rw [doffAfter, iblk0 f m c hf, iblk4 w m c hw, iblk6 a m c ha, blockPt_div h, doffAfter_eq n (by omega), doffStep_eq]
    simp only [rowsOf_block, Finset.sum_range_succ _ (n + 1)]
    congr 1
    funext p l
    split_ifs <;> simp

include hg hb in
theorem dws_last : dwsAfter m c 3 = wAll fun q t k => weightGrad (gated f) (mixedHalf f) (cotan a) (at1 g) (at1 b) q t k := by
  rw [dwsAfter_eq f g b a m c hf hg hb ha 3 (by norm_num)]
  congr 1
  funext q t k
  exact sum_blocks fun n => SgReal.dweight (rowsOf (gated f) n) (rowsOf (mixedHalf f) n) (rowsOf (cotan a) n) (at1 g) (at1 b) q t k

theorem dbs_last : dbsAfter m c 3 = sAll fun q t => biasGrad (gated f) (cotan a) q t := by
  rw [dbsAfter_eq f a m c hf ha 3 (by norm_num)]
  congr 1
  funext q t
  exact sum_blocks fun n => SgReal.dbias (rowsOf (gated f) n) (rowsOf (cotan a) n) q t

include hw in
theorem dgain_last : dgainAfter m c 3 = eight fun p l => if p = 0 then gainGrad (gated f) (mixedHalf f) (cotan a) (at3 w) l else 0 := by
  rw [dgainAfter_eq f w a m c hf hw ha 3 (by norm_num)]
  congr 1
  funext p l
  exact congrArg (fun x : ℝ => if p = 0 then x else 0) (sum_blocks fun n => SgReal.dgain (rowsOf (gated f) n) (rowsOf (mixedHalf f) n) (rowsOf (cotan a) n) (at3 w) l)

include hw in
theorem doff_last : doffAfter m c 3 = eight fun p l => if p = 0 then offsetGrad (gated f) (cotan a) (at3 w) l else 0 := by
  rw [doffAfter_eq f w a m c hf hw ha 3 (by norm_num)]
  congr 1
  funext p l
  exact congrArg (fun x : ℝ => if p = 0 then x else 0) (sum_blocks fun n => SgReal.doffset (rowsOf (gated f) n) (rowsOf (cotan a) n) (at3 w) l)

end Sums

/-! ## The result arrays -/

section Final

include hf ha

include hg hb in
/-- The weights' gradient, -/
theorem final8 (q : Fin 4) (t k : Fin 128) : (dats m 0 c).arrAt 8 cfg0.N (ix3 q t k)
    = ((weightGrad (gated f) (mixedHalf f) (cotan a) (at1 g) (at1 b) q t k : ℝ) : EReal) := by
  have h : (dats m 0 c).arrAt 8 cfg0.N = wAll fun q t k => weightGrad (gated f) (mixedHalf f) (cotan a) (at1 g) (at1 b) q t k := by
    refine (dats m 0 c).arrAt_eq_of_after_last 8 t0_7 (by decide +kernel)
      (G := wAll fun q t k => weightGrad (gated f) (mixedHalf f) (cotan a) (at1 g) (at1 b) q t k) fun j => ?_
    rw [after0_8, dwsAt, show t0_7.val / 2 = 3 from rfl, dws_last f g b a m c hf hg hb ha]
    generalize weightGrad (gated f) (mixedHalf f) (cotan a) (at1 g) (at1 b) = x
    rfl
  rw [h]
  rfl

/-- the biases', -/
theorem final9 (q : Fin 4) (t : Fin 128) (k : Fin 1) : (dats m 0 c).arrAt 9 cfg0.N (ix3 q t k) = ((biasGrad (gated f) (cotan a) q t : ℝ) : EReal) := by
  refine (congrFun ((dats m 0 c).arrAt_eq_of_after_last 9 t0_7 (by decide +kernel) (G := sAll fun q t => biasGrad (gated f) (cotan a) q t) fun j => ?_) _)
  rw [after0_9]
  exact congrFun (dbs_last f a m c hf ha) j

include hw in
/-- the gain's -/
theorem final10 (p : Fin 8) (l : Fin 512) : (dats m 0 c).arrAt 10 cfg0.N (ix2 p l)
    = (((if p.val = 0 then gainGrad (gated f) (mixedHalf f) (cotan a) (at3 w) l else 0) : ℝ) : EReal) := by
  refine (congrFun ((dats m 0 c).arrAt_eq_of_after_last 10 t0_7 (by decide +kernel)
    (G := eight fun p l => if p = 0 then gainGrad (gated f) (mixedHalf f) (cotan a) (at3 w) l else 0) fun j => ?_) _)
  rw [after0_10]
  exact congrFun (dgain_last f w a m c hf hw ha) j

include hw in
/-- and the offset's. -/
theorem final11 (p : Fin 8) (l : Fin 512) : (dats m 0 c).arrAt 11 cfg0.N (ix2 p l)
    = (((if p.val = 0 then offsetGrad (gated f) (cotan a) (at3 w) l else 0) : ℝ) : EReal) := by
  refine (congrFun ((dats m 0 c).arrAt_eq_of_after_last 11 t0_7 (by decide +kernel)
    (G := eight fun p l => if p = 0 then offsetGrad (gated f) (cotan a) (at3 w) l else 0) fun j => ?_) _)
  rw [after0_11]
  exact congrFun (doff_last f w a m c hf hw ha) j

/-- The first result: the launched array with its two column groups of this gradient. -/
def out (d : S2048x7680.Idx → EReal) (r : Fin 2048) (o : Fin 7680) : EReal :=
  if o.val < 3584 then d (ix2 r o)
  else if o.val < 4096 then ((gatedGrad (gated f) (mixedHalf f) (cotan a) (at1 g) (at1 b) (at3 w) (at2 s) r (o - 3584) : ℝ) : EReal)
  else if o.val < 4608 then ((inputGrad (gated f) (mixedHalf f) (cotan a) (at1 g) (at3 w) r (o - 4096) : ℝ) : EReal)
  else d (ix2 r o)

include hg hb hw hs in
/-- A point's block of it. -/
theorem dpAt_apply (d : S2048x7680.Idx → EReal) (t : Fin cfg0.N) (p l : Fin 512) (r : Fin 2048) (o : Fin 7680) (hr : r.val = 512 * (t.val / 2) + p.val)
    (ho : o.val = 3584 + 512 * (t.val % 2) + l.val) : dpAt m c t (ix2 p l) = out f g b w s a d r o := by
  have hl := l.isLt
  unfold dpAt out
  by_cases h : t.val % 2 = 0
  · rw [if_pos h, if_neg (by omega), if_pos (by omega), iblk0 f m c hf, iblk1 f m c hf, iblk2 g m c hg, iblk3 b m c hb, iblk4 w m c hw, iblk5 s m c hs,
      iblk6 a m c ha, firstBlk_eq, gatedGrad_block, ← hr, show o.val - 3584 = l.val by omega]
  · have hd : (firstOf t).val / 2 = t.val / 2 := by simp only [firstOf]; omega
    rw [if_neg h, if_neg (by omega), if_neg (by omega), if_pos (by omega)]
    have e : stashAt m c t (ix2 p l) = ((inputGrad (gated f) (mixedHalf f) (cotan a) (at1 g) (at3 w) r (o - 4096) : ℝ) : EReal) := by
      unfold stashAt
      rw [iblk0 f m c hf, iblk1 f m c hf, iblk2 g m c hg, iblk4 w m c hw, iblk6 a m c ha, hd, stashed_eq, inputGrad_block, ← hr,
        show o.val - 4096 = l.val by omega]
    generalize stashAt m c t = q at e ⊢
    pointwise [k0_pay6]
    exact e

include hg hb hw hs in
theorem final7 (r : Fin 2048) (o : Fin 7680) :
    (dats m 0 c).arrAt 7 cfg0.N (ix2 r o) = out f g b w s a (m ((c : Thread nD τ).loc main_arg6)) r o := by
  have hr := r.isLt
  have h : (dats m 0 c).arrAt 7 cfg0.N = fun j : S2048x7680.Idx => if 3584 ≤ (j 1).val ∧ (j 1).val < 4608
      then out f g b w s a (m ((c : Thread nD τ).loc main_arg6)) (j 0) (j 1) else (dats m 0 c).A 7 j := by
    refine (dats m 0 c).arrAt_eq_of_coversWhere 7 _ (fun β => 7 ≤ β (1 : Fin 2) ∧ β (1 : Fin 2) < 9) (by decide +kernel) (fun t hf' y => ?_) (fun j => ?_)
    · rw [after0_7]
      have h0 : (y 0).val < 512 := (y 0).isLt
      have h1 : (y 1).val < 512 := (y 1).isLt
      have ht := div_lt t
      have hx : (cfg0.win 7).xinj (cfg0.grid.coords t) y = ix2 (y 0) (y 1) := by blk_ext
      have he : ((cfg0.win 7).blk t).view.emb y = ix2 (⟨512 * (t.val / 2) + (y 0).val, by omega⟩ : Fin 2048) (⟨3584 + 512 * (t.val % 2) + (y 1).val, by omega⟩ : Fin 7680) := by
        blk_ext [idx t]
      rw [hx, he]
      exact dpAt_apply f g b w s a m c hf hg hb hw hs ha _ t _ _ _ _ rfl rfl
    · blk_simp [Pipeline.Window.cell_apply]; omega
  rw [h]
  show (if 3584 ≤ o.val ∧ o.val < 4608 then out f g b w s a (m ((c : Thread nD τ).loc main_arg6)) r o else (dats m 0 c).A 7 (ix2 r o)) = _
  by_cases hc : 3584 ≤ o.val ∧ o.val < 4608
  · rw [if_pos hc]
  · rw [if_neg hc]
    unfold out
    have hA : (dats m 0 c).A 7 (ix2 r o) = (m ((c : Thread nD τ).loc main_arg6) : S2048x7680.Idx → EReal) (ix2 r o) := by
      show V m c main_v3_0 (ix2 r o) = _
      unfold V
      entry_read
      rfl
    rw [hA]
    by_cases h2 : o.val < 3584
    · simp only [if_pos h2]
    · simp only [if_neg h2, if_neg (show ¬ o.val < 4096 by omega), if_neg (show ¬ o.val < 4608 by omega)]

end Final

end Launch

end Cert.SgBwdValue

end
-- ==== Proof.SgBwdReference.lean ====
/-
  THE REFERENCE OF `sg_bwd`, as real numbers: what `jax.vjp` of the chunked causal gating leaves for the two halves
  (`main_v163`, `main_v151`), for the groups' weights (`main_v105`) and biases (`main_v98`), and for the norm's gain and offset
  (`main_v115`, `main_v109`).
-/
module

public import proofs.«01_k».proof.Proof.Gen.SgBwdRefIdeal.Read
public import proofs.«01_k».proof.Proof.SgReal
public import Idealize.ShloMosaic.Lib.WordCmp
public import Idealize.ShloMosaic.Lib.Pipeline.ValueKit

@[expose] public section

set_option maxRecDepth 16384

noncomputable section

namespace Cert.SgBwdReference

open Cert.SgBwdRefIdeal Cert.SgBwdRefIdeal.Read Idealize.ShloMosaic Cert.Reals
open Cert.SgReal (rowsOf gatedGrad inputGrad weightGrad biasGrad gainGrad offsetGrad at1 at2 at3 gated mixedHalf cotan th gelu slope act mean cen var inv nrm
  tri ofBits_C ofBits_eps ofBits_one ofBits_half ofBits_neg_half ofBits_three ofBits_512)

/-- Arrays of reals, as the idealized program holds them. -/
abbrev emb (f : S2048x7680.Idx → ℝ) : (⟨S2048x7680, .f32⟩ : BufTy).Contents (Elt Ideal) := fun i => ((f i : ℝ) : EReal)
abbrev emb1 (g : S512.Idx → ℝ) : (⟨S512, .f32⟩ : BufTy).Contents (Elt Ideal) := fun i => ((g i : ℝ) : EReal)
abbrev embw (w : S4x128x128.Idx → ℝ) : (⟨S4x128x128, .f32⟩ : BufTy).Contents (Elt Ideal) := fun i => ((w i : ℝ) : EReal)
abbrev embs (s : S4x128.Idx → ℝ) : (⟨S4x128, .f32⟩ : BufTy).Contents (Elt Ideal) := fun i => ((s i : ℝ) : EReal)
abbrev emba (a : S3x2048x512.Idx → ℝ) : (⟨S3x2048x512, .f32⟩ : BufTy).Contents (Elt Ideal) := fun i => ((a i : ℝ) : EReal)

variable (f : S2048x7680.Idx → ℝ) (g b : S512.Idx → ℝ) (w : S4x128x128.Idx → ℝ) (s : S4x128.Idx → ℝ) (a : S3x2048x512.Idx → ℝ)

theorem ofBits_num : Ideal.ofBits .f32 0x472EAB00#32 = ((44715 : ℝ) : EReal) := by
  simp [Ideal.ofBits, Ideal.ieee, -EReal.coe_mul]; norm_num
theorem ofBits_den : Ideal.ofBits .f32 0x49742400#32 = ((1000000 : ℝ) : EReal) := by
  simp [Ideal.ofBits, Ideal.ieee, -EReal.coe_mul]; norm_num
theorem one_coe : (1 : EReal) = ((1 : ℝ) : EReal) := rfl
theorem zero_coe : (0 : EReal) = ((0 : ℝ) : EReal) := rfl

/-- The cubic term's factor. -/
theorem factor : Ideal.div ((44715 : ℝ) : EReal) ((1000000 : ℝ) : EReal) = ((SgReal.A : ℝ) : EReal) := by
  rw [div_coe_coe _ _ (by norm_num), SgReal.A]; norm_num

/-! ## The activation of the two halves -/

theorem v1_apply (r : Fin 2048) (l : Fin 512) : val_main_v1 (F := Ideal) (emb f) (ix3 0 r l) = ((gated f r l : ℝ) : EReal) := by
  pointwise [val_main_v1, val_main_v0]
  exact congrArg (fun x : ℝ => (x : EReal)) (SgReal.at2_eq f r ⟨3584 + l.val, by omega⟩).symm

theorem v3_apply (r : Fin 2048) (l : Fin 512) : val_main_v3 (F := Ideal) (emb f) (ix3 0 r l) = ((mixedHalf f r l : ℝ) : EReal) := by
  pointwise [val_main_v3, val_main_v2]
  exact congrArg (fun x : ℝ => (x : EReal)) (SgReal.at2_eq f r ⟨4096 + l.val, by omega⟩).symm

theorem v15_apply (r : Fin 2048) (l : Fin 512) : val_main_v15 (F := Ideal) (emb f) (ix3 0 r l) = ((th (gated f r l) : ℝ) : EReal) := by
  pointwise [val_main_v15, val_main_v14, val_main_v13, val_main_v12, val_main_v11, val_main_v10, val_main_v6, val_main_v5, val_main_v4, val_main_cst, val_main_cst_0, val_main_cst_2]
  simp only [v1_apply, ofBits_num, ofBits_den, factor, ofBits_C, ← EReal.coe_mul, ← EReal.coe_add, Ideal.tanh_coe]
  rfl

theorem v37_apply (r : Fin 2048) (l : Fin 512) : val_main_v37 (F := Ideal) (emb f) (ix3 0 r l) = ((th (mixedHalf f r l) : ℝ) : EReal) := by
  pointwise [val_main_v37, val_main_v36, val_main_v35, val_main_v34, val_main_v33, val_main_v32, val_main_v28, val_main_v27, val_main_v26, val_main_cst_7, val_main_cst_8, val_main_cst_10]
  simp only [v3_apply, ofBits_num, ofBits_den, factor, ofBits_C, ← EReal.coe_mul, ← EReal.coe_add, Ideal.tanh_coe]
  rfl

theorem v24_apply (r : Fin 2048) (l : Fin 512) : val_main_v24 (F := Ideal) (emb f) (ix3 0 r l) = ((1 / 2 * (1 + th (gated f r l)) : ℝ) : EReal) := by
  pointwise [val_main_v24, val_main_v23, val_main_v22, val_main_v21, val_main_cst_5, val_main_cst_6]
  simp only [v15_apply, ofBits_half, one_coe, ← EReal.coe_mul, ← EReal.coe_add]

theorem v25_apply (r : Fin 2048) (l : Fin 512) : val_main_v25 (F := Ideal) (emb f) (ix3 0 r l) = ((gelu (gated f r l) : ℝ) : EReal) := by
  pointwise [val_main_v25]
  simp only [v1_apply, v24_apply, ← EReal.coe_mul]
  rfl

theorem v46_apply (r : Fin 2048) (l : Fin 512) : val_main_v46 (F := Ideal) (emb f) (ix3 0 r l) = ((1 / 2 * (1 + th (mixedHalf f r l)) : ℝ) : EReal) := by
  pointwise [val_main_v46, val_main_v45, val_main_v44, val_main_v43, val_main_cst_13, val_main_cst_14]
  simp only [v37_apply, ofBits_half, one_coe, ← EReal.coe_mul, ← EReal.coe_add]

theorem v47_apply (r : Fin 2048) (l : Fin 512) : val_main_v47 (F := Ideal) (emb f) (ix3 0 r l) = ((act (mixedHalf f) r l : ℝ) : EReal) := by
  pointwise [val_main_v47]
  simp only [v3_apply, v46_apply, ← EReal.coe_mul]
  rfl

theorem v20_apply (r : Fin 2048) (l : Fin 512) : val_main_v20 (F := Ideal) (emb f) (ix3 0 r l) = (((1 + th (gated f r l)) * (1 - th (gated f r l)) : ℝ) : EReal) := by
  pointwise [val_main_v20, val_main_v19, val_main_v18, val_main_v17, val_main_v16, val_main_cst_3, val_main_cst_4]
  simp only [v15_apply, one_coe, ← EReal.coe_mul, ← EReal.coe_add, ← EReal.coe_sub]

theorem v42_apply (r : Fin 2048) (l : Fin 512) : val_main_v42 (F := Ideal) (emb f) (ix3 0 r l) = (((1 + th (mixedHalf f r l)) * (1 - th (mixedHalf f r l)) : ℝ) : EReal) := by
  pointwise [val_main_v42, val_main_v41, val_main_v40, val_main_v39, val_main_v38, val_main_cst_11, val_main_cst_12]
  simp only [v37_apply, one_coe, ← EReal.coe_mul, ← EReal.coe_add, ← EReal.coe_sub]

theorem v9_apply (r : Fin 2048) (l : Fin 512) : val_main_v9 (F := Ideal) (emb f) (ix3 0 r l) = ((3 * (gated f r l * gated f r l) : ℝ) : EReal) := by
  pointwise [val_main_v9, val_main_v8, val_main_v7, val_main_cst_1]
  simp only [v1_apply, ofBits_three, ← EReal.coe_mul]

theorem v31_apply (r : Fin 2048) (l : Fin 512) : val_main_v31 (F := Ideal) (emb f) (ix3 0 r l) = ((3 * (mixedHalf f r l * mixedHalf f r l) : ℝ) : EReal) := by
  pointwise [val_main_v31, val_main_v30, val_main_v29, val_main_cst_9]
  simp only [v3_apply, ofBits_three, ← EReal.coe_mul]

/-! ## The norm -/

theorem v53_apply (r : Fin 2048) (l : Fin 512) : val_main_v53 (F := Ideal) (emb f) (ix3 0 r l) = ((cen (act (mixedHalf f) r) l : ℝ) : EReal) := by
  pointwise [val_main_v53, val_main_v52, val_main_v51, val_main_v50, val_main_v49, val_main_v48, val_main_cst_15, val_main_cst_16]
  simp only [v47_apply, ofBits_512, sum_coe, div_coe_coe _ _ (by norm_num : (512 : ℝ) ≠ 0), ← EReal.coe_sub]
  rfl

theorem v60_apply (r : Fin 2048) : val_main_v60 (F := Ideal) (emb f) (ix3 0 r 0) = ((var (act (mixedHalf f) r) : ℝ) : EReal) := by
  pointwise [val_main_v60, val_main_v59, val_main_v58, val_main_v57, val_main_v56, val_main_v55, val_main_v54, val_main_cst_17, val_main_cst_18, val_main_cst_19]
  simp only [v53_apply, ofBits_512, ofBits_eps, ← EReal.coe_mul, sum_coe, div_coe_coe _ _ (by norm_num : (512 : ℝ) ≠ 0), ← EReal.coe_add]
  rfl

theorem v61_apply (r : Fin 2048) : val_main_v61 (F := Ideal) (emb f) (ix3 0 r 0) = ((inv (act (mixedHalf f) r) : ℝ) : EReal) := by
  pointwise [val_main_v61]
  rw [v60_apply, rsqrt_coe_pos _ (SgReal.var_pos _)]; rfl

theorem v64_apply (r : Fin 2048) :
    val_main_v64 (F := Ideal) (emb f) (ix3 0 r 0) = ((-(1 / 2) * (inv (act (mixedHalf f) r) / var (act (mixedHalf f) r)) : ℝ) : EReal) := by
  pointwise [val_main_v64, val_main_v63, val_main_v62, val_main_cst_20]
  rw [v60_apply, v61_apply, div_coe_coe _ _ (SgReal.var_pos _).ne', ofBits_neg_half, ← EReal.coe_mul]

theorem v66_apply (r : Fin 2048) (l : Fin 512) : val_main_v66 (F := Ideal) (emb f) (ix3 0 r l) = ((nrm (act (mixedHalf f) r) l : ℝ) : EReal) := by
  pointwise [val_main_v66, val_main_v65]
  rw [v53_apply, v61_apply, ← EReal.coe_mul]; rfl

theorem v72_apply (r : Fin 2048) (l : Fin 512) : val_main_v72 (F := Ideal) (emb f) (emb1 g) (emb1 b) (ix3 0 r l)
    = ((nrm (act (mixedHalf f) r) l * at1 g l + at1 b l : ℝ) : EReal) := by
  pointwise [val_main_v72, val_main_v71, val_main_v70, val_main_v69, val_main_v68, val_main_v67]
  rw [v66_apply, SgReal.at1_eq, SgReal.at1_eq, ← EReal.coe_mul, ← EReal.coe_add]

/-! ## The mixing -/

theorem v73_apply (n : Fin 16) (t : Fin 128) (q : Fin 4) (e : Fin 128) : val_main_v73 (F := Ideal) (emb f) (emb1 g) (emb1 b) (ix5 0 n t q e)
    = ((SgReal.scaled (rowsOf (mixedHalf f) n) (at1 g) (at1 b) t (128 * q + e) : ℝ) : EReal) := by
  pointwise [val_main_v73]
  refine (v72_apply f g b _ _).trans (congrArg (fun x : ℝ => (x : EReal)) ?_)
  show nrm (act (mixedHalf f) (n.val * 128 + t.val)) (q.val * 128 + e.val) * at1 g (q.val * 128 + e.val) + at1 b (q.val * 128 + e.val) = _
  rw [mul_comm n.val, mul_comm q.val]; rfl

theorem v78_apply (q : Fin 4) (t k : Fin 128) : val_main_v78 (F := Ideal) (embw w) (ix3 q t k) = ((tri (at3 w) q t k : ℝ) : EReal) := by
  pointwise [val_main_v78, val_main_v77, val_main_v76, val_main_v75, val_main_v74, val_main_cst_21, val_main_call0_v0, val_main_call0_c, val_main_call0_v1, val_main_call0_v2, val_main_call0_v3, val_main_call0_v4, val_main_call0_cst, val_main_call0_v5]
  have h : Scalar.select (IntOp.cmpi CmpIPredicate.sge (BitVec.ofNat 32 t.val) (BitVec.ofNat 32 k.val)) (embw w (ix3 q t k)) 0
      = if k.val ≤ t.val then embw w (ix3 q t k) else 0 := by
    rw [Idealize.ShloMosaic.WordCmp.cmpi_sge_ofNat (by omega) (by omega)]
    by_cases h : k.val ≤ t.val <;> simp [Scalar.select, h]
  refine (congrArg (fun x => Scalar.select (IntOp.cmpi CmpIPredicate.sge x (BitVec.ofNat 32 k.val)) (embw w (ix3 q t k)) 0) (BitVec.add_zero _)).trans (h.trans ?_)
  unfold tri
  by_cases h : k.val ≤ t.val
  · rw [if_pos h, if_pos h, SgReal.at3_eq]
  · rw [if_neg h, if_neg h, zero_coe]

theorem v80_apply (n : Fin 16) (t : Fin 128) (q : Fin 4) (e : Fin 128) : val_main_v80 (F := Ideal) (emb f) (emb1 g) (emb1 b) (embw w) (ix5 0 n t q e)
    = ∑ k : Fin 128, val_main_v73 (F := Ideal) (emb f) (emb1 g) (emb1 b) (ix5 0 n k q e) * val_main_v78 (F := Ideal) (embw w) (ix3 q t k) := by
  pointwise [val_main_v80, val_main_v79]

theorem v84_apply (n : Fin 16) (t : Fin 128) (q : Fin 4) (e : Fin 128) : val_main_v84 (F := Ideal) (embs s) (ix5 0 n t q e) = ((at2 s q t : ℝ) : EReal) := by
  pointwise [val_main_v84, val_main_v83, val_main_v82, val_main_v81]
  rw [SgReal.at2_eq]

theorem v85_apply (n : Fin 16) (t : Fin 128) (q : Fin 4) (e : Fin 128) : val_main_v85 (F := Ideal) (emb f) (emb1 g) (emb1 b) (embw w) (embs s) (ix5 0 n t q e)
    = ((SgReal.mixed (rowsOf (mixedHalf f) n) (at1 g) (at1 b) (at3 w) (at2 s) t (128 * q + e) : ℝ) : EReal) := by
  pointwise [val_main_v85]
  rw [v80_apply, v84_apply]
  simp only [v73_apply, v78_apply, ← EReal.coe_mul, sum_coe, ← EReal.coe_add]
  have hq : (128 * q.val + e.val) / 128 = q.val := by omega
  unfold SgReal.mixed
  rw [hq]
  refine congrArg (fun x : ℝ => ((x + _ : ℝ) : EReal)) (Finset.sum_congr rfl fun k _ => mul_comm _ _)

/-- The mixed rows, by row: chunk `r / 128`, row `r % 128`. -/
theorem v86_apply (r : Fin 2048) (l : Fin 512) : val_main_v86 (F := Ideal) (emb f) (emb1 g) (emb1 b) (embw w) (embs s) (ix3 0 r l)
    = ((SgReal.mixed (rowsOf (mixedHalf f) (r / 128)) (at1 g) (at1 b) (at3 w) (at2 s) (r % 128) l : ℝ) : EReal) := by
  pointwise [val_main_v86]
  refine (v85_apply f g b w s _ _ _ _).trans (congrArg (fun x : ℝ => (x : EReal)) ?_)
  show SgReal.mixed (rowsOf (mixedHalf f) (r / 128)) (at1 g) (at1 b) (at3 w) (at2 s) (r % 128) (128 * (l / 128) + l % 128) = _
  rw [Nat.div_add_mod]

theorem v90_apply (r : Fin 2048) (l : Fin 512) : val_main_v90 (F := Ideal) (emba a) (ix3 0 r l) = ((cotan a r l : ℝ) : EReal) := by
  pointwise [val_main_v90, val_main_v89, val_main_v88]
  exact congrArg (fun x : ℝ => (x : EReal)) (SgReal.at3_eq a 2 r l).symm

theorem v93_apply (n : Fin 16) (t : Fin 128) (q : Fin 4) (e : Fin 128) : val_main_v93 (F := Ideal) (emb f) (emba a) (ix5 0 n t q e)
    = ((SgReal.dmixed (rowsOf (gated f) n) (rowsOf (cotan a) n) t (128 * q + e) : ℝ) : EReal) := by
  pointwise [val_main_v93, val_main_v91]
  rw [v25_apply, v90_apply, ← EReal.coe_mul]
  refine congrArg (fun x : ℝ => (x : EReal)) ?_
  show gelu (gated f (n.val * 128 + t.val) (q.val * 128 + e.val)) * cotan a (n.val * 128 + t.val) (q.val * 128 + e.val) = _
  rw [mul_comm n.val, mul_comm q.val, mul_comm (gelu _)]; rfl

/-! ## The biases: the host sums over chunks and a group's channels -/

/-- The indices a sum over the second and fifth of five axes sends to one place. -/
theorem fiber_a14 (h : S1x16x128x4x128.ReducesTo [1, 4] S1x128x4) (t : Fin 128) (q : Fin 4) (i : S1x16x128x4x128.Idx) :
    h.drop i = ix3 0 t q ↔ ∃ k : Fin 16 × Fin 128, ix5 (0 : Fin 1) k.1 t q k.2 = i := by
  constructor
  · intro e
    refine ⟨(i 1, i 4), ?_⟩
    funext a; apply Fin.ext
    match a with
    | ⟨0, _⟩ => exact (congrArg Fin.val (congrFun e 0)).symm
    | ⟨1, _⟩ => rfl
    | ⟨2, _⟩ => exact (congrArg Fin.val (congrFun e 1)).symm
    | ⟨3, _⟩ => exact (congrArg Fin.val (congrFun e 2)).symm
    | ⟨4, _⟩ => rfl
  · rintro ⟨k, rfl⟩
    funext b
    apply Fin.ext
    match b with
    | ⟨0, _⟩ => rfl
    | ⟨1, _⟩ => rfl
    | ⟨2, _⟩ => rfl

theorem v94_apply (t : Fin 128) (q : Fin 4) : val_main_v94 (F := Ideal) (emb f) (emba a) (ix3 0 t q) = ((biasGrad (gated f) (cotan a) q t : ℝ) : EReal) := by
  unfold val_main_v94
  show Ideal.hostReduceAdd Gen.reducesTo_S1x16x128x4x128_S1x128x4_d1_4 (val_main_v93 (F := Ideal) (emb f) (emba a)) _ (ix3 0 t q) = _
  have hs := (Finset.sum_filter_eq_sum_of_fiber (fun i => Gen.reducesTo_S1x16x128x4x128_S1x128x4_d1_4.drop i = ix3 0 t q)
    (fun k : Fin 16 × Fin 128 => (ix5 (0 : Fin 1) k.1 t q k.2 : S1x16x128x4x128.Idx))
    (fun _ _ e => Prod.ext (congrFun e 1) (congrFun e 4)) (fiber_a14 _ t q) (val_main_v93 (F := Ideal) (emb f) (emba a))).trans
      (show _ = ((biasGrad (gated f) (cotan a) q t : ℝ) : EReal) by simp only [Fintype.sum_prod_type, v93_apply, sum_coe]; rfl)
  exact (congrArg (fun x : EReal => val_main_cst_22 (F := Ideal) (Shape.Idx.first Gen.h_S_) + x) hs).trans (by simp [val_main_cst_22, constant])

/-- The indices a sum over the two axes of extent one sends to one place. -/
theorem fiber_a014 (h : S1x1x128x4x1.ReducesTo [0, 1, 4] S128x4) (t : Fin 128) (q : Fin 4) (i : S1x1x128x4x1.Idx) :
    h.drop i = ix2 t q ↔ ∃ k : Unit, ix5 (0 : Fin 1) (0 : Fin 1) t q (0 : Fin 1) = i := by
  constructor
  · intro e
    refine ⟨(), ?_⟩
    funext a; apply Fin.ext
    match a with
    | ⟨0, _⟩ => exact (Nat.lt_one_iff.1 (i 0).isLt).symm
    | ⟨1, _⟩ => exact (Nat.lt_one_iff.1 (i 1).isLt).symm
    | ⟨2, _⟩ => exact (congrArg Fin.val (congrFun e 0)).symm
    | ⟨3, _⟩ => exact (congrArg Fin.val (congrFun e 1)).symm
    | ⟨4, _⟩ => exact (Nat.lt_one_iff.1 (i 4).isLt).symm
  · rintro ⟨k, rfl⟩
    funext b
    apply Fin.ext
    match b with
    | ⟨0, _⟩ => rfl
    | ⟨1, _⟩ => rfl

theorem v96_apply (t : Fin 128) (q : Fin 4) : val_main_v96 (F := Ideal) (emb f) (emba a) (ix2 t q) = ((biasGrad (gated f) (cotan a) q t : ℝ) : EReal) := by
  have h95 : val_main_v95 (F := Ideal) (emb f) (emba a) (ix5 0 0 t q 0) = ((biasGrad (gated f) (cotan a) q t : ℝ) : EReal) := by
    pointwise [val_main_v95]
    exact v94_apply f a _ _
  unfold val_main_v96
  show Ideal.hostReduceAdd Gen.reducesTo_S1x1x128x4x1_S128x4_d0_1_4 (val_main_v95 (F := Ideal) (emb f) (emba a)) _ (ix2 t q) = _
  have hs := (Finset.sum_filter_eq_sum_of_fiber (fun i => Gen.reducesTo_S1x1x128x4x1_S128x4_d0_1_4.drop i = ix2 t q)
    (fun k : Unit => (ix5 (0 : Fin 1) (0 : Fin 1) t q (0 : Fin 1) : S1x1x128x4x1.Idx))
    (fun _ _ _ => rfl) (fiber_a014 _ t q) (val_main_v95 (F := Ideal) (emb f) (emba a))).trans
      (show _ = ((biasGrad (gated f) (cotan a) q t : ℝ) : EReal) by simp only [Finset.univ_unique, Finset.sum_singleton]; exact h95)
  exact (congrArg (fun x : EReal => val_main_cst_23 (F := Ideal) (Shape.Idx.first Gen.h_S_) + x) hs).trans (by simp [val_main_cst_23, constant])

/-- The biases' gradient. -/
theorem v171_apply (q : Fin 4) (t : Fin 128) (k : Fin 1) : val_main_v171 (F := Ideal) (emb f) (emba a) (ix3 q t k) = ((biasGrad (gated f) (cotan a) q t : ℝ) : EReal) := by
  pointwise [val_main_v171, val_main_v99, val_main_v98, val_main_v97, val_main_cst_24]
  rw [Fin.sum_univ_one]
  exact v96_apply f a t q

/-! ## The weights -/

theorem v100_apply (n : Fin 16) (t : Fin 128) (q : Fin 4) (e : Fin 128) : val_main_v100 (F := Ideal) (emb f) (emba a) (ix5 q 0 n e t)
    = ((SgReal.dmixed (rowsOf (gated f) n) (rowsOf (cotan a) n) t (128 * q + e) : ℝ) : EReal) := by
  pointwise [val_main_v100]
  exact v93_apply f a _ _ _ _

/-- The contracted axes of the weights' product: one batch, the chunks and a group's channels. -/
def contracted : Fin 16 × Fin 128 ≃ dot_S4x1x16x128x128_S1x16x128x4x128_S4x128x128_123_014_4_2_0_3.contr.Idx where
  toFun p := fun a => match a with
    | ⟨0, _⟩ => (0 : Fin 1)
    | ⟨1, _⟩ => p.1
    | ⟨2, _⟩ => p.2
  invFun q := (q ⟨1, by decide⟩, q ⟨2, by decide⟩)
  left_inv p := rfl
  right_inv q := by
    funext a
    match a with
    | ⟨0, _⟩ => exact Fin.ext (Nat.lt_one_iff.1 (q ⟨0, by decide⟩).isLt).symm
    | ⟨1, _⟩ => rfl
    | ⟨2, _⟩ => rfl

theorem v101_apply (q : Fin 4) (t k : Fin 128) : val_main_v101 (F := Ideal) (emb f) (emb1 g) (emb1 b) (emba a) (ix3 q t k)
    = ∑ n : Fin 16, ∑ e : Fin 128, val_main_v100 (F := Ideal) (emb f) (emba a) (ix5 q 0 n e t) * val_main_v73 (F := Ideal) (emb f) (emb1 g) (emb1 b) (ix5 0 n k q e) := by
  unfold val_main_v101
  generalize val_main_v100 (F := Ideal) (emb f) (emba a) = y0
  generalize val_main_v73 (F := Ideal) (emb f) (emb1 g) (emb1 b) = y1
  simp only [Host.dotGeneral]
  rw [Ideal.dotGeneral_apply, ← Equiv.sum_comp contracted, Fintype.sum_prod_type]
  refine Finset.sum_congr rfl fun n _ => Finset.sum_congr rfl fun e _ => ?_
  refine congr (congrArg HMul.hMul (congrArg y0 ?_)) (congrArg y1 ?_)
  · funext x
    apply Fin.ext
    match x with
    | ⟨0, _⟩ => rfl
    | ⟨1, _⟩ => rfl
    | ⟨2, _⟩ => rfl
    | ⟨3, _⟩ => rfl
    | ⟨4, _⟩ => rfl
  · funext x
    apply Fin.ext
    match x with
    | ⟨0, _⟩ => rfl
    | ⟨1, _⟩ => rfl
    | ⟨2, _⟩ => rfl
    | ⟨3, _⟩ => rfl
    | ⟨4, _⟩ => rfl

/-- The weights' gradient. -/
theorem v105_apply (q : Fin 4) (t k : Fin 128) : val_main_v105 (F := Ideal) (emb f) (emb1 g) (emb1 b) (emba a) (ix3 q t k)
    = ((weightGrad (gated f) (mixedHalf f) (cotan a) (at1 g) (at1 b) q t k : ℝ) : EReal) := by
  pointwise [val_main_v105, val_main_v104, val_main_v76, val_main_v75, val_main_v74, val_main_cst_21, val_main_call0_v0, val_main_call0_c, val_main_call0_v1, val_main_call0_v2, val_main_call0_v3, val_main_call0_v4, val_main_call0_cst, val_main_call0_v5]
  have h (y : EReal) : Scalar.select (IntOp.cmpi CmpIPredicate.sge (BitVec.ofNat 32 t.val) (BitVec.ofNat 32 k.val)) y 0
      = if k.val ≤ t.val then y else 0 := by
    rw [Idealize.ShloMosaic.WordCmp.cmpi_sge_ofNat (by omega) (by omega)]
    by_cases h : k.val ≤ t.val <;> simp [Scalar.select, h]
  refine (congrArg (fun x => Scalar.select (IntOp.cmpi CmpIPredicate.sge x (BitVec.ofNat 32 k.val)) (val_main_v101 (F := Ideal) (emb f) (emb1 g) (emb1 b) (emba a) (ix3 q t k)) 0)
    (BitVec.add_zero _)).trans ((h _).trans ?_)
  rw [v101_apply]
  simp only [v100_apply, v73_apply, ← EReal.coe_mul, sum_coe]
  unfold weightGrad SgReal.dweight
  by_cases h : k.val ≤ t.val
  · simp only [if_pos h]
  · simp only [if_neg h, Finset.sum_const_zero, zero_coe]

/-! ## The scaled rows' cotangent -/

theorem v103_apply (n : Fin 16) (t : Fin 128) (q : Fin 4) (e : Fin 128) : val_main_v103 (F := Ideal) (emb f) (embw w) (emba a) (ix5 0 n t q e)
    = ((SgReal.dscaled (rowsOf (gated f) n) (rowsOf (cotan a) n) (at3 w) t (128 * q + e) : ℝ) : EReal) := by
  pointwise [val_main_v103, val_main_v102]
  simp only [v100_apply, v78_apply, ← EReal.coe_mul, sum_coe]
  have hq : (128 * q.val + e.val) / 128 = q.val := by omega
  unfold SgReal.dscaled
  rw [hq]
  refine congrArg (fun x : ℝ => (x : EReal)) (Finset.sum_congr rfl fun k _ => mul_comm _ _)

/-- The scaled rows' cotangent, by row. -/
def back (r : ℕ) (l : ℕ) : ℝ := SgReal.dscaled (rowsOf (gated f) (r / 128)) (rowsOf (cotan a) (r / 128)) (at3 w) (r % 128) l

theorem v106_apply (r : Fin 2048) (l : Fin 512) : val_main_v106 (F := Ideal) (emb f) (embw w) (emba a) (ix3 0 r l) = ((back f w a r l : ℝ) : EReal) := by
  pointwise [val_main_v106]
  refine (v103_apply f w a _ _ _ _).trans (congrArg (fun x : ℝ => (x : EReal)) ?_)
  show SgReal.dscaled (rowsOf (gated f) (r / 128)) (rowsOf (cotan a) (r / 128)) (at3 w) (r % 128) (128 * (l / 128) + l % 128) = _
  rw [Nat.div_add_mod]; rfl

/-! ## The gain and the offset -/

/-- A sum over the rows, chunk by chunk. -/
theorem sum_rows (x : ℕ → ℕ → ℝ) : ∑ r : Fin 2048, x (r / 128) (r % 128) = ∑ n : Fin 16, ∑ t : Fin 128, x n t := by
  rw [← Fin.sum_mul_add_fin (S := 16) (n := 128) (L := 2048) (fun r : Fin 2048 => x (r / 128) (r % 128))]
  refine Finset.sum_congr rfl fun n _ => Finset.sum_congr rfl fun t _ => ?_
  show x ((n.val * 128 + t.val) / 128) ((n.val * 128 + t.val) % 128) = _
  rw [show (n.val * 128 + t.val) / 128 = n.val by omega, show (n.val * 128 + t.val) % 128 = t.val by omega]

theorem v109_apply (l : Fin 512) : val_main_v109 (F := Ideal) (emb f) (embw w) (emba a) (ix1 l) = ((offsetGrad (gated f) (cotan a) (at3 w) l : ℝ) : EReal) := by
  unfold val_main_v109
  refine (hostReduceAdd_a01 _ _ _ _).trans ?_
  rw [Fin.sum_univ_one, Fin.sum_univ_one]
  pointwise [val_main_v108, val_main_v107, val_main_cst_25, val_main_cst_26]
  simp only [v106_apply, sum_coe]
  exact congrArg (fun x : ℝ => (x : EReal)) (sum_rows fun n t => SgReal.dscaled (rowsOf (gated f) n) (rowsOf (cotan a) n) (at3 w) t l)

theorem v115_apply (l : Fin 512) : val_main_v115 (F := Ideal) (emb f) (embw w) (emba a) (ix1 l)
    = ((gainGrad (gated f) (mixedHalf f) (cotan a) (at3 w) l : ℝ) : EReal) := by
  unfold val_main_v115
  refine (hostReduceAdd_a01 _ _ _ _).trans ?_
  rw [Fin.sum_univ_one, Fin.sum_univ_one]
  pointwise [val_main_v112, val_main_v111, val_main_v110, val_main_cst_27, val_main_cst_28]
  simp only [v106_apply, v66_apply, ← EReal.coe_mul, sum_coe]
  refine congrArg (fun x : ℝ => (x : EReal)) (Eq.trans ?_ (sum_rows fun n t => SgReal.dscaled (rowsOf (gated f) n) (rowsOf (cotan a) n) (at3 w) t l
    * nrm (act (rowsOf (mixedHalf f) n) t) l))
  refine Finset.sum_congr rfl fun r _ => ?_
  have e : act (rowsOf (mixedHalf f) (r / 128)) (r % 128) = act (mixedHalf f) r := by
    show (fun k => gelu (mixedHalf f (128 * (r.val / 128) + r.val % 128) k)) = _
    rw [Nat.div_add_mod]; rfl
  rw [e, mul_comm]; rfl

/-- The gain's gradient, in row 0 of its block, -/
theorem v174_apply (p : Fin 8) (l : Fin 512) : val_main_v174 (F := Ideal) (emb f) (embw w) (emba a) (ix2 p l)
    = (((if p.val = 0 then gainGrad (gated f) (mixedHalf f) (cotan a) (at3 w) l else 0) : ℝ) : EReal) := by
  pointwise [val_main_v174, val_main_v173, val_main_v172, val_main_cst_39]
  by_cases hp : p.val = 0
  · rw [dif_pos (by omega), if_pos hp]; exact v115_apply f w a l
  · rw [dif_neg (by omega), if_neg hp, zero_coe]

/-- and the offset's. -/
theorem v177_apply (p : Fin 8) (l : Fin 512) : val_main_v177 (F := Ideal) (emb f) (embw w) (emba a) (ix2 p l)
    = (((if p.val = 0 then offsetGrad (gated f) (cotan a) (at3 w) l else 0) : ℝ) : EReal) := by
  pointwise [val_main_v177, val_main_v176, val_main_v175, val_main_cst_40]
  by_cases hp : p.val = 0
  · rw [dif_pos (by omega), if_pos hp]; exact v109_apply f w a l
  · rw [dif_neg (by omega), if_neg hp, zero_coe]

/-! ## The two halves -/

/-- The cotangent of the normalised row. -/
theorem v114_apply (r : Fin 2048) (l : Fin 512) : val_main_v114 (F := Ideal) (emb f) (emb1 g) (embw w) (emba a) (ix3 0 r l)
    = ((back f w a r l * at1 g l : ℝ) : EReal) := by
  pointwise [val_main_v114, val_main_v113, val_main_v67]
  rw [v106_apply, SgReal.at1_eq, ← EReal.coe_mul]

/-- The derivative's term common to a row. -/
theorem v124_apply (r : Fin 2048) : val_main_v124 (F := Ideal) (emb f) (emb1 g) (embw w) (emba a) (ix1 r)
    = ((SgReal.common (act (mixedHalf f) r) (fun l => back f w a r l * at1 g l) : ℝ) : EReal) := by
  unfold val_main_v124
  refine (hostReduceAdd_a02 _ _ _ _).trans ?_
  rw [Fin.sum_univ_one, Fin.sum_univ_one]
  pointwise [val_main_v123, val_main_v122, val_main_v121, val_main_v118, val_main_v117, val_main_v116, val_main_cst_29, val_main_cst_30, val_main_cst_31]
  simp only [v53_apply, v114_apply, v64_apply, ← EReal.coe_mul, sum_coe, ofBits_512, div_coe_coe _ _ (by norm_num : (512 : ℝ) ≠ 0)]
  rfl

theorem v130_apply (r : Fin 2048) (l : Fin 512) : val_main_v130 (F := Ideal) (emb f) (emb1 g) (embw w) (emba a) (ix3 0 r l)
    = ((SgReal.inner (act (mixedHalf f) r) (fun l => back f w a r l * at1 g l) l : ℝ) : EReal) := by
  pointwise [val_main_v130, val_main_v129, val_main_v128, val_main_v127, val_main_v126, val_main_v125, val_main_v120, val_main_v119]
  rw [v114_apply, v61_apply, v53_apply, v124_apply]
  simp only [← EReal.coe_mul, ← EReal.coe_add]
  rfl

theorem v136_apply (r : Fin 2048) : val_main_v136 (F := Ideal) (emb f) (emb1 g) (embw w) (emba a) (ix1 r)
    = (((∑ k : Fin 512, -(SgReal.inner (act (mixedHalf f) r) (fun l => back f w a r l * at1 g l) k)) / 512 : ℝ) : EReal) := by
  unfold val_main_v136
  refine (hostReduceAdd_a02 _ _ _ _).trans ?_
  rw [Fin.sum_univ_one, Fin.sum_univ_one]
  pointwise [val_main_v135, val_main_v134, val_main_v133, val_main_v132, val_main_v131, val_main_cst_32, val_main_cst_33, val_main_cst_34]
  simp only [v130_apply, ← EReal.coe_neg, sum_coe, ofBits_512, div_coe_coe _ _ (by norm_num : (512 : ℝ) ≠ 0)]

theorem v139_apply (r : Fin 2048) (l : Fin 512) : val_main_v139 (F := Ideal) (emb f) (emb1 g) (embw w) (emba a) (ix3 0 r l)
    = ((SgReal.lnGrad (act (mixedHalf f) r) (fun l => back f w a r l * at1 g l) l : ℝ) : EReal) := by
  pointwise [val_main_v139, val_main_v138, val_main_v137]
  rw [v130_apply, v136_apply, ← EReal.coe_add, SgReal.inner_mean]

theorem v151_apply (r : Fin 2048) (l : Fin 512) : val_main_v151 (F := Ideal) (emb f) (emb1 g) (embw w) (emba a) (ix3 0 r l)
    = ((inputGrad (gated f) (mixedHalf f) (cotan a) (at1 g) (at3 w) r l : ℝ) : EReal) := by
  pointwise [val_main_v151, val_main_v150, val_main_v149, val_main_v148, val_main_v147, val_main_v146, val_main_v145, val_main_v144, val_main_v143, val_main_v142, val_main_v141,
    val_main_v140, val_main_v26, val_main_cst_7, val_main_cst_8, val_main_cst_35, val_main_cst_36]
  simp only [v139_apply, v3_apply, v42_apply, v46_apply, v31_apply, ofBits_num, ofBits_den, factor, ofBits_C, ofBits_half, ← EReal.coe_mul, ← EReal.coe_add]
  refine congrArg (fun x : ℝ => (x : EReal)) ((SgReal.slope_chain _ _).trans ?_)
  unfold inputGrad SgReal.dinput
  have e : act (rowsOf (mixedHalf f) (r / 128)) (r % 128) = act (mixedHalf f) r := by
    show (fun k => gelu (mixedHalf f (128 * (r.val / 128) + r.val % 128) k)) = _
    rw [Nat.div_add_mod]; rfl
  have e' : rowsOf (mixedHalf f) (r / 128) (r % 128) l = mixedHalf f r l := by
    show mixedHalf f (128 * (r.val / 128) + r.val % 128) l = _
    rw [Nat.div_add_mod]
  rw [e, e']; rfl

theorem v163_apply (r : Fin 2048) (l : Fin 512) : val_main_v163 (F := Ideal) (emb f) (emb1 g) (emb1 b) (embw w) (embs s) (emba a) (ix3 0 r l)
    = ((gatedGrad (gated f) (mixedHalf f) (cotan a) (at1 g) (at1 b) (at3 w) (at2 s) r l : ℝ) : EReal) := by
  pointwise [val_main_v163, val_main_v162, val_main_v161, val_main_v160, val_main_v159, val_main_v158, val_main_v157, val_main_v156, val_main_v155, val_main_v154, val_main_v153,
    val_main_v152, val_main_v92, val_main_v4, val_main_cst, val_main_cst_0, val_main_cst_37, val_main_cst_38]
  simp only [v90_apply, v86_apply, v1_apply, v20_apply, v24_apply, v9_apply, ofBits_num, ofBits_den, factor, ofBits_C, ofBits_half, ← EReal.coe_mul, ← EReal.coe_add]
  refine congrArg (fun x : ℝ => (x : EReal)) ((SgReal.slope_chain _ _).trans ?_)
  unfold gatedGrad SgReal.dgated
  have e : rowsOf (gated f) (r / 128) (r % 128) l = gated f r l := by
    show gated f (128 * (r.val / 128) + r.val % 128) l = _
    rw [Nat.div_add_mod]
  have e' : rowsOf (cotan a) (r / 128) (r % 128) l = cotan a r l := by
    show cotan a (128 * (r.val / 128) + r.val % 128) l = _
    rw [Nat.div_add_mod]
  rw [e, e']

/-- The first result: the array handed in with its two column groups of this gradient. -/
theorem v170_apply (d : (⟨S2048x7680, .bf16⟩ : BufTy).Contents (Elt Ideal)) (r : Fin 2048) (o : Fin 7680) :
    val_main_v170 (F := Ideal) (emb f) (emb1 g) (emb1 b) (embw w) (embs s) (emba a) d (ix2 r o)
    = if o.val < 3584 then d (ix2 r o)
      else if o.val < 4096 then ((gatedGrad (gated f) (mixedHalf f) (cotan a) (at1 g) (at1 b) (at3 w) (at2 s) r (o - 3584) : ℝ) : EReal)
      else if o.val < 4608 then ((inputGrad (gated f) (mixedHalf f) (cotan a) (at1 g) (at3 w) r (o - 4096) : ℝ) : EReal)
      else d (ix2 r o) := by
  pointwise [val_main_v170, val_main_v169, val_main_v168, val_main_v167, val_main_v166, val_main_v165, val_main_v164]
  by_cases h1 : o.val < 3584
  · rw [dif_pos h1, if_pos h1]
  rw [dif_neg h1, if_neg h1]
  by_cases h2 : o.val < 4096
  · rw [dif_pos (by omega), if_pos h2]; exact v163_apply f g b w s a _ _
  rw [dif_neg (by omega), if_neg h2]
  by_cases h3 : o.val < 4608
  · rw [dif_pos (by omega), if_pos h3]
    refine (v151_apply f g w a _ _).trans (congrArg (fun k => ((inputGrad (gated f) (mixedHalf f) (cotan a) (at1 g) (at3 w) r k : ℝ) : EReal)) ?_)
    show o.val - 3584 - 512 = _
    omega
  rw [dif_neg (by omega), if_neg h3]
  exact congrArg (fun k => d (ix2 r k)) (Fin.ext (by show 4608 + (o.val - 3584 - 512 - 512) = o.val; omega))

end Cert.SgBwdReference

end
-- ==== Proof.SgBwdClaim.lean ====
/-
  THE CLAIMS OF `sg_bwd`, assembled: the kernel's run at the extended reals and at the machine's words, that its named constants stand
  for what they are named, the reference's run, and that over the extended reals the kernel's five results are the reference's when
  the arguments but the array handed through are finite.
-/
module

public import proofs.«01_k».proof.Defs
public import proofs.«01_k».proof.Proof.SgBwdRun
public import proofs.«01_k».proof.Proof.SgBwdValue
public import proofs.«01_k».proof.Proof.SgBwdReference
public import proofs.«01_k».proof.Proof.Gen.SgBwd.Frame
public import proofs.«01_k».proof.Proof.Gen.SgBwdRefIdeal.Run
public import Idealize.ShloMosaic.Lib.Quiescent

@[expose] public section

set_option maxRecDepth 16384

noncomputable section

namespace Cert.SgBwdClaim

open Idealize.ShloMosaic Idealize.SL.Sem Cert.Reals

/-- The side condition of the precondition's operations. -/
theorem pre_facts : Cert.Pre_sg_bwd_finite.Facts := ⟨by decide, by decide, by decide, by decide, by decide⟩

attribute [local instance] pre_facts

/-- A named constant at the machine's words is its word. -/
@[instance_reducible]
def namedBits : Named Bits := ⟨fun _ _ _ bits => FloatOps.ofBits _ bits⟩

attribute [local instance] namedBits

/-- The kernel runs at the extended reals: its arguments end unchanged and its counters at zero. -/
theorem frame_ideal : Cert.quiescent_SgBwdIdeal := fun m ρ _ => Cert.SgBwdIdeal.frame m ρ

/-- The two printed programs have the same functions at the machine's words. -/
theorem defs_eq : (Cert.SgBwd.defs (F := Bits)) = Cert.SgBwdIdeal.defs (F := Bits) := by sl_kernel_rfl

/-- The two printed programs have the same entry at the machine's words. -/
theorem main_eq : (Cert.SgBwd.main (F := Bits)) = Cert.SgBwdIdeal.main (F := Bits) := by sl_kernel_rfl

/-- The kernel runs at the machine's words: its arguments end unchanged and its counters at zero. -/
theorem frame_bits : Cert.quiescent_SgBwd := fun m ρ _ => by
  have h := Cert.SgBwdIdeal.frame (F := Bits) m ρ
  rw [← defs_eq, ← main_eq] at h
  exact h

/-- The named constants stand for the numbers they are named. -/
theorem preserves : Cert.preserves_SgBwd_SgBwdIdeal :=
  ⟨IdealRules.named_const.statement _ _ _ _ _ rfl, IdealRules.named_const.statement _ _ _ _ _ rfl⟩

/-- The reference runs, its arguments end unchanged and its counters at zero. -/
theorem reference_runs : Cert.quiescent_SgBwdRefIdeal := fun m ρ _ =>
  (θ_run Cert.SgBwdRefIdeal.defs _ _).mono (fun r h => ⟨fun c => (h c).2.2.2.2.2, sem_eq_zero_of_no_sems (by decide) r.2⟩)
    (Cert.SgBwdRefIdeal.Value.run (F := Ideal) m ρ)

/-- Over the extended reals the kernel's results are the reference's: the columns of the projection's cotangent, and the gradients of
the mixing weights, of the biases, of the gain and of the offset. -/
theorem algebraic : Cert.algebraic_SgBwdIdeal_SgBwdRefIdeal_pre_sg_bwd_finite := by
  intro m ρ m' ρ' hpre hagree
  refine ⟨_, _, _, _, _, Cert.SgBwdIdeal.run_results (F := Ideal) m ρ, ?_⟩
  refine (θ_run Cert.SgBwdRefIdeal.defs _ _).mono (fun _ h c => ⟨?_, ?_, ?_, ?_, ?_, (h c).2.2.2.2.2⟩) (Cert.SgBwdRefIdeal.Value.run (F := Ideal) m' ρ')
  all_goals
    obtain ⟨hp0, hp1, hp2, hp3, hp4, hp5⟩ := hpre c
    obtain ⟨e0, e1, e2, e3, e4, e5, e6⟩ := hagree c
    obtain ⟨f, hf⟩ := reals_of_finite _ _ _ hp0
    obtain ⟨g, hg⟩ := reals_of_finite _ _ _ hp1
    obtain ⟨b, hb⟩ := reals_of_finite _ _ _ hp2
    obtain ⟨w, hw⟩ := reals_of_finite _ _ _ hp3
    obtain ⟨s, hs⟩ := reals_of_finite _ _ _ hp4
    obtain ⟨a, ha⟩ := reals_of_finite _ _ _ hp5
  · refine ((h c).1.trans (Cert.SgBwdRefIdeal.Read.val_main_v170_eq _)).trans ?_
    refine (congr (congr (congr (congr (congr (congr (congrArg Cert.SgBwdRefIdeal.Read.val_main_v170 (e0.trans hf)) (e1.trans hg)) (e2.trans hb)) (e3.trans hw)) (e4.trans hs)) (e5.trans ha)) e6).trans ?_
    funext j
    rw [eq_ix2 j]
    exact (SgBwdReference.v170_apply f g b w s a _ (j 0) (j 1)).trans (SgBwdValue.final7 f g b w s a m c hf hg hb hw hs ha (j 0) (j 1)).symm
  · refine ((h c).2.1.trans (Cert.SgBwdRefIdeal.Read.val_main_v105_eq _)).trans ?_
    refine (congr (congr (congr (congrArg Cert.SgBwdRefIdeal.Read.val_main_v105 (e0.trans hf)) (e1.trans hg)) (e2.trans hb)) (e5.trans ha)).trans ?_
    funext j
    rw [eq_ix3 j]
    exact (SgBwdReference.v105_apply f g b a (j 0) (j 1) (j 2)).trans (SgBwdValue.final8 f g b a m c hf hg hb ha (j 0) (j 1) (j 2)).symm
  · refine ((h c).2.2.1.trans (Cert.SgBwdRefIdeal.Read.val_main_v171_eq _)).trans ?_
    refine (congr (congrArg Cert.SgBwdRefIdeal.Read.val_main_v171 (e0.trans hf)) (e5.trans ha)).trans ?_
    funext j
    rw [eq_ix3 j]
    exact (SgBwdReference.v171_apply f a (j 0) (j 1) (j 2)).trans (SgBwdValue.final9 f a m c hf ha (j 0) (j 1) (j 2)).symm
  · refine ((h c).2.2.2.1.trans (Cert.SgBwdRefIdeal.Read.val_main_v174_eq _)).trans ?_
    refine (congr (congr (congrArg Cert.SgBwdRefIdeal.Read.val_main_v174 (e0.trans hf)) (e3.trans hw)) (e5.trans ha)).trans ?_
    funext j
    rw [eq_ix2 j]
    exact (SgBwdReference.v174_apply f w a (j 0) (j 1)).trans (SgBwdValue.final10 f w a m c hf hw ha (j 0) (j 1)).symm
  · refine ((h c).2.2.2.2.1.trans (Cert.SgBwdRefIdeal.Read.val_main_v177_eq _)).trans ?_
    refine (congr (congr (congrArg Cert.SgBwdRefIdeal.Read.val_main_v177 (e0.trans hf)) (e3.trans hw)) (e5.trans ha)).trans ?_
    funext j
    rw [eq_ix2 j]
    exact (SgBwdReference.v177_apply f w a (j 0) (j 1)).trans (SgBwdValue.final11 f w a m c hf hw ha (j 0) (j 1)).symm

end Cert.SgBwdClaim

end
-- ==== Proof.MergeBwdBody.lean ====
module

public import proofs.«01_k».proof.Proof.Gen.MergeBwdIdeal.Skeleton
public import proofs.«01_k».proof.Proof.Gen.MergeBwdIdeal.Frame
public import Idealize.ShloMosaic.Lib.Pipeline.ValueKit
public import Idealize.ShloMosaic.Lib.VecWindow

/-! What one grid point of the gated merge's backward kernel leaves behind.

The grid runs over the three branches, the two halves of the model's columns and the two row blocks. At every point the kernel
computes the gates' gradient of a row block and a column half, which goes out, the block's share of the weights' gradient, which
the first row block stores and the second adds to, and the block's share of the branch's gradient, which goes to the row block's
rows of a buffer that holds all rows: the first column half stores it there and the second adds to it. -/

@[expose] public section

set_option maxRecDepth 16384

noncomputable section

namespace Cert.MergeBwdIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeBwdIdeal.Gen

variable {F : FTy → Type} [FloatOps F]

local notation "𝕄" => MT nD τ sig Unit (Elt F) ℕ (UR sig nD τ) ℕ

section Values

variable (x0 : Vec F S1x1024x512 .bf16) (x1 : Vec F S1x1x512x256 .bf16) (x2 : Vec F S1x1x512x256 .bf16) (x3 : Vec F S1024x512 .f32) (x4 : Vec F S1024x512 .bf16)

/-- The gates' gradient over a row block and a column half. -/
def gateBlk : FVec F S1024x512 .bf16 := k0_pay12 x0 x1 x2 x3 x4

/-- A row block's share of the weights' gradient. -/
def weightBlk : FVec F S512x512 .f32 := k0_pay14 x0 x3 x4

/-- A column half's share of the branch's gradient over a row block. -/
def branchBlk : FVec F S1024x512 .f32 := k0_pay15 x1 x2 x3 x4

end Values

/-- The first half of the weights' buffer. -/
abbrev wR0 : Rect S2x1x512x256 := Rect.unit (s := S2x1x512x256) ![0, 0, 0, 0] S1x1x512x256.size inb_S2x1x512x256_S1x1x512x256_0_0_0_0
/-- The second half. -/
abbrev wR1 : Rect S2x1x512x256 := Rect.unit (s := S2x1x512x256) ![1, 0, 0, 0] S1x1x512x256.size inb_S2x1x512x256_S1x1x512x256_1_0_0_0

/-- The weights' buffer with a share stored. -/
def firstW (w : FVec F S512x512 .f32) : Vec F S2x1x512x256 .f32 :=
  View.canon [⟨wR1, k0_pay2 w⟩, ⟨wR0, k0_pay1 w⟩]

/-- The weights' buffer with a share added. -/
def nextW (w : FVec F S512x512 .f32) (old : Vec F S2x1x512x256 .f32) : Vec F S2x1x512x256 .f32 :=
  View.canon [⟨wR1, k0_pay4 w (View.ld old wR1)⟩, ⟨wR0, k0_pay3 w (View.ld old wR0)⟩]

/-- The branch's buffer with a share stored in the rows from `o` on. -/
def storeRows (o : Fin 3 → ℕ) (p : FVec F S1024x512 .f32) (old : Vec F S1x2048x512 .f32) : Vec F S1x2048x512 .f32 :=
  VecWindow.put (s := S1x2048x512) old o S1x1024x512.size (k0_pay5 p)

/-- The branch's buffer with a share added to the rows from `o` on. -/
def addRows (o : Fin 3 → ℕ) (ho : ∀ a, o a + S1x1024x512.size a ≤ S1x2048x512.size a) (p : FVec F S1024x512 .f32)
    (old : Vec F S1x2048x512 .f32) : Vec F S1x2048x512 .f32 :=
  VecWindow.put (s := S1x2048x512) old o S1x1024x512.size (k0_pay6 p (VecWindow.window (s := S1x2048x512) old o S1x1024x512.size ho))

section Runs

variable (c : Dev nD) (i : grid0.Coords) (arg3 : Memref sig .tc .vmem S1x1024x512 .bf16) (harg3 : arg3.IsWhole) (arg4 : Memref sig .tc .vmem S1x1x512x256 .bf16) (harg4 : arg4.IsWhole) (arg5 : Memref sig .tc .vmem S1x1x512x256 .bf16) (harg5 : arg5.IsWhole) (arg6 : Memref sig .tc .vmem S1024x512 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S2x1x512x256 .f32) (harg9 : arg9.IsWhole) (arg10 : Memref sig .tc .vmem S1x2048x512 .f32) (harg10 : arg10.IsWhole) (x0 : Vec F S1x1024x512 .bf16) (x1 : Vec F S1x1x512x256 .bf16) (x2 : Vec F S1x1x512x256 .bf16) (x3 : Vec F S1024x512 .f32) (x4 : Vec F S1024x512 .bf16)
  (o : Fin 3 → ℕ) (ho : ∀ a, o a + S1x1024x512.size a ≤ S1x2048x512.size a) (oldZ : Vec F S1x2048x512 .f32)

set_option maxHeartbeats 1600000 in
/-- First column half, first row block. -/
theorem run_ss (hc1 : k0_cond1 i = 1#1) (hc2 : ¬ k0_cond2 i = 1#1) (hc3 : k0_cond3 i = 1#1) (hc4 : ¬ k0_cond4 i = 1#1) (he : k0_off1 i = o)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare oldZ
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (gateBlk x0 x1 x2 x3 x4) ∗ owns (c : Thread nD τ) arg9 fullShare (firstW (weightBlk x0 x3 x4)) ∗ owns (c : Thread nD τ) arg10 fullShare (storeRows o (branchBlk x1 x2 x3 x4) oldZ)) -∗ K ⟨⟩))
      ⊢ wp frame (wpE (defs₀ (F := F)) Variants.none c none) E (cc0_merge_bwd i arg3 harg3 arg4 harg4 arg5 harg5 arg6 harg6 arg7 harg7 arg8 harg8 arg9 harg9 arg10 harg10) K := by
  simp only [cc0_merge_bwd_eq_skeleton]; unfold cc0_merge_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := harg3.eq_unread hf0; obtain rfl := harg4.eq_unread hf1; obtain rfl := harg5.eq_unread hf2; obtain rfl := harg6.eq_unread hf3; obtain rfl := harg7.eq_unread hf4
  obtain rfl := harg10.eq_unread hf7
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro; exact (View.read_writes_full _ _ _ _ _).trans (by frame_out; rfl)
  isplitl [H6]
  · iexists _; isplitr; swap; · iexact H6
    ipureintro
    refine Eq.trans (View.read_writes_eq_canon (Val := Elt F) arg9.view _ _ (fun y => View.cover_of_tiledL (s := S2x1x512x256) _ S1x1x512x256.size (by sl_kernel_rfl) y)) ?_
    frame_out; rfl
  iexists _; isplitr; swap; · iexact H7
  ipureintro
  refine (View.read_writes_cons_put arg10.view _ _ _ _ he).trans ?_
  unfold storeRows branchBlk
  congr 1
  frame_out

set_option maxHeartbeats 1600000 in
/-- First column half, second row block. -/
theorem run_as (hc1 : ¬ k0_cond1 i = 1#1) (hc2 : k0_cond2 i = 1#1) (hc3 : k0_cond3 i = 1#1) (hc4 : ¬ k0_cond4 i = 1#1) (he : k0_off1 i = o) (oldW : Vec F S2x1x512x256 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare oldW ∗ owns (c : Thread nD τ) arg10 fullShare oldZ
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (gateBlk x0 x1 x2 x3 x4) ∗ owns (c : Thread nD τ) arg9 fullShare (nextW (weightBlk x0 x3 x4) oldW) ∗ owns (c : Thread nD τ) arg10 fullShare (storeRows o (branchBlk x1 x2 x3 x4) oldZ)) -∗ K ⟨⟩))
      ⊢ wp frame (wpE (defs₀ (F := F)) Variants.none c none) E (cc0_merge_bwd i arg3 harg3 arg4 harg4 arg5 harg5 arg6 harg6 arg7 harg7 arg8 harg8 arg9 harg9 arg10 harg10) K := by
  simp only [cc0_merge_bwd_eq_skeleton]; unfold cc0_merge_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg3.eq_unread hf0; obtain rfl := harg4.eq_unread hf1; obtain rfl := harg5.eq_unread hf2; obtain rfl := harg6.eq_unread hf3; obtain rfl := harg7.eq_unread hf4
  obtain rfl := harg9.eq_unread hf6
  obtain rfl := harg10.eq_unread hf7
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro; exact (View.read_writes_full _ _ _ _ _).trans (by frame_out; rfl)
  isplitl [H6]
  · iexists _; isplitr; swap; · iexact H6
    ipureintro
    refine Eq.trans (View.read_writes_eq_canon (Val := Elt F) arg9.view _ _ (fun y => View.cover_of_tiledL (s := S2x1x512x256) _ S1x1x512x256.size (by sl_kernel_rfl) y)) ?_
    frame_out; rfl
  iexists _; isplitr; swap; · iexact H7
  ipureintro
  refine (View.read_writes_cons_put arg10.view _ _ _ _ he).trans ?_
  unfold storeRows branchBlk
  congr 1
  frame_out

set_option maxHeartbeats 1600000 in
/-- Second column half, first row block. -/
theorem run_sa (hc1 : k0_cond1 i = 1#1) (hc2 : ¬ k0_cond2 i = 1#1) (hc3 : ¬ k0_cond3 i = 1#1) (hc4 : k0_cond4 i = 1#1) (he : k0_off2 i = o)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare oldZ
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (gateBlk x0 x1 x2 x3 x4) ∗ owns (c : Thread nD τ) arg9 fullShare (firstW (weightBlk x0 x3 x4)) ∗ owns (c : Thread nD τ) arg10 fullShare (addRows o ho (branchBlk x1 x2 x3 x4) oldZ)) -∗ K ⟨⟩))
      ⊢ wp frame (wpE (defs₀ (F := F)) Variants.none c none) E (cc0_merge_bwd i arg3 harg3 arg4 harg4 arg5 harg5 arg6 harg6 arg7 harg7 arg8 harg8 arg9 harg9 arg10 harg10) K := by
  simp only [cc0_merge_bwd_eq_skeleton]; unfold cc0_merge_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := harg3.eq_unread hf0; obtain rfl := harg4.eq_unread hf1; obtain rfl := harg5.eq_unread hf2; obtain rfl := harg6.eq_unread hf3; obtain rfl := harg7.eq_unread hf4
  obtain rfl := harg10.eq_unread hf7
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro; exact (View.read_writes_full _ _ _ _ _).trans (by frame_out; rfl)
  isplitl [H6]
  · iexists _; isplitr; swap; · iexact H6
    ipureintro
    refine Eq.trans (View.read_writes_eq_canon (Val := Elt F) arg9.view _ _ (fun y => View.cover_of_tiledL (s := S2x1x512x256) _ S1x1x512x256.size (by sl_kernel_rfl) y)) ?_
    frame_out; rfl
  iexists _; isplitr; swap; · iexact H7
  ipureintro
  refine (View.read_writes_cons_put arg10.view _ _ _ _ he).trans ?_
  unfold addRows branchBlk
  congr 1
  subst he
  frame_out; rfl

set_option maxHeartbeats 1600000 in
/-- Second column half, second row block. -/
theorem run_aa (hc1 : ¬ k0_cond1 i = 1#1) (hc2 : k0_cond2 i = 1#1) (hc3 : ¬ k0_cond3 i = 1#1) (hc4 : k0_cond4 i = 1#1) (he : k0_off2 i = o) (oldW : Vec F S2x1x512x256 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare oldW ∗ owns (c : Thread nD τ) arg10 fullShare oldZ
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (gateBlk x0 x1 x2 x3 x4) ∗ owns (c : Thread nD τ) arg9 fullShare (nextW (weightBlk x0 x3 x4) oldW) ∗ owns (c : Thread nD τ) arg10 fullShare (addRows o ho (branchBlk x1 x2 x3 x4) oldZ)) -∗ K ⟨⟩))
      ⊢ wp frame (wpE (defs₀ (F := F)) Variants.none c none) E (cc0_merge_bwd i arg3 harg3 arg4 harg4 arg5 harg5 arg6 harg6 arg7 harg7 arg8 harg8 arg9 harg9 arg10 harg10) K := by
  simp only [cc0_merge_bwd_eq_skeleton]; unfold cc0_merge_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg3.eq_unread hf0; obtain rfl := harg4.eq_unread hf1; obtain rfl := harg5.eq_unread hf2; obtain rfl := harg6.eq_unread hf3; obtain rfl := harg7.eq_unread hf4
  obtain rfl := harg9.eq_unread hf6
  obtain rfl := harg10.eq_unread hf7
  sl_exec (disch := first | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro; exact (View.read_writes_full _ _ _ _ _).trans (by frame_out; rfl)
  isplitl [H6]
  · iexists _; isplitr; swap; · iexact H6
    ipureintro
    refine Eq.trans (View.read_writes_eq_canon (Val := Elt F) arg9.view _ _ (fun y => View.cover_of_tiledL (s := S2x1x512x256) _ S1x1x512x256.size (by sl_kernel_rfl) y)) ?_
    frame_out; rfl
  iexists _; isplitr; swap; · iexact H7
  ipureintro
  refine (View.read_writes_cons_put arg10.view _ _ _ _ he).trans ?_
  unfold addRows branchBlk
  congr 1
  subst he
  frame_out; rfl

end Runs

end Cert.MergeBwdIdeal

end
-- ==== Proof.MergeBwdRun.lean ====
module

public import proofs.«01_k».proof.Proof.MergeBwdBody
public import Idealize.ShloMosaic.Lib.Pipeline.TableIdle
public import Idealize.ShloMosaic.Lib.Pipeline.DatRel
public import Idealize.ShloMosaic.Lib.Pipeline.ArrRel

/-! The gated merge's backward kernel over its whole grid: what each array holds after every point, and the run.

The branch's buffer is fresh at a branch's first point, and that point stores half of it only. What the other half then holds is
unknown, so the buffer is not tracked by contents there but by what is known of them: the first half is the share stored. -/

@[expose] public section

set_option maxRecDepth 16384

noncomputable section

namespace Cert.MergeBwdIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel RDat cellOf)
open Cert.MergeBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the arrays hold -/

/-- The rows of the first row block start here, -/
abbrev rows0 : Fin 3 → ℕ := ![0, 0, 0]
/-- and those of the second here. -/
abbrev rows1 : Fin 3 → ℕ := ![0, 1024, 0]

theorem rows0_in : ∀ a, rows0 a + S1x1024x512.size a ≤ S1x2048x512.size a := by decide
theorem rows1_in : ∀ a, rows1 a + S1x1024x512.size a ≤ S1x2048x512.size a := by decide

/-- What goes out of the gates' gradient at a point. -/
def dpAt (c : Dev nD) (t : Fin cfg0.N) : Vec F S1024x512 .bf16 :=
  gateBlk (iblk m c 0 t) (iblk m c 1 t) (iblk m c 2 t) (iblk m c 3 t) (iblk m c 4 t)

/-- A point's share of the weights' gradient. -/
def weightAt (c : Dev nD) (t : Fin cfg0.N) : FVec F S512x512 .f32 := weightBlk (iblk m c 0 t) (iblk m c 3 t) (iblk m c 4 t)

/-- A point's share of the branch's gradient. -/
def branchAt (c : Dev nD) (t : Fin cfg0.N) : FVec F S1024x512 .f32 :=
  branchBlk (iblk m c 1 t) (iblk m c 2 t) (iblk m c 3 t) (iblk m c 4 t)

/-- The point before. -/
abbrev prev (t : Fin cfg0.N) : Fin cfg0.N := ⟨t.val - 1, Nat.lt_of_le_of_lt (Nat.sub_le _ _) t.isLt⟩

/-- The weights' gradient after a point. -/
def dwAt (c : Dev nD) (t : Fin cfg0.N) : Vec F S2x1x512x256 .f32 :=
  if t.val % 2 = 0 then firstW (weightAt m c t) else nextW (weightAt m c t) (firstW (weightAt m c (prev t)))

theorem dwAt_first (c : Dev nD) (t : Fin cfg0.N) (h : t.val % 2 = 0) : dwAt m c t = firstW (weightAt m c t) := if_pos h

theorem dwAt_next (c : Dev nD) (t : Fin cfg0.N) (h : ¬ t.val % 2 = 0) : dwAt m c t = nextW (weightAt m c t) (dwAt m c (prev t)) := by
  rw [dwAt_first m c (prev t) (show (t.val - 1) % 2 = 0 by omega)]
  exact if_neg h

/-- Point `k` of branch `n`. -/
def pt (n : ℕ) (k : ℕ) (hn : n < 3) (hk : k < 4) : Fin cfg0.N := ⟨4 * n + k, Nat.lt_of_lt_of_eq (m := 12) (by omega) N_0.symm⟩

/-- The branch's gradient after a branch's second point: both row blocks' shares of the first column half; -/
def dz1 (c : Dev nD) (n : ℕ) (hn : n < 3) : Vec F S1x2048x512 .f32 :=
  storeRows rows1 (branchAt m c (pt n 1 hn (by omega)))
    (storeRows rows0 (branchAt m c (pt n 0 hn (by omega))) fun _ => FloatOps.ofBits .f32 0#32)
/-- after the third, the first row block's share of the second column half added; -/
def dz2 (c : Dev nD) (n : ℕ) (hn : n < 3) : Vec F S1x2048x512 .f32 :=
  addRows rows0 rows0_in (branchAt m c (pt n 2 hn (by omega))) (dz1 m c n hn)
/-- after the fourth, everything. -/
def dz3 (c : Dev nD) (n : ℕ) (hn : n < 3) : Vec F S1x2048x512 .f32 :=
  addRows rows1 rows1_in (branchAt m c (pt n 3 hn (by omega))) (dz2 m c n hn)

theorem branch_lt (t : Fin cfg0.N) : t.val / 4 < 3 := by have := Nat.lt_of_lt_of_eq t.isLt N_0; omega

/-- The branch's gradient after a point, where it is known whole. -/
def dzAt (c : Dev nD) (t : Fin cfg0.N) : Vec F S1x2048x512 .f32 :=
  if t.val % 4 = 1 then dz1 m c (t.val / 4) (branch_lt t)
  else if t.val % 4 = 2 then dz2 m c (t.val / 4) (branch_lt t) else dz3 m c (t.val / 4) (branch_lt t)

/-- What is known of the branch's buffer after a point: at a branch's first point the first row block's rows, later everything. -/
def dzKnown (c : Dev nD) (t : Fin cfg0.N) (X : Vec F S1x2048x512 .f32) : Prop :=
  if t.val % 4 = 0 then ∃ X₀, X = storeRows rows0 (branchAt m c t) X₀ else X = dzAt m c t

theorem pt_eq (t : Fin cfg0.N) (k : ℕ) (hk : k < 4) (h : t.val % 4 = k) : pt (t.val / 4) k (branch_lt t) hk = t :=
  Fin.ext (show 4 * (t.val / 4) + k = t.val by omega)

theorem pt_prev (t : Fin cfg0.N) (k : ℕ) (hk : k + 1 < 4) (h : t.val % 4 = k + 1) : pt (t.val / 4) k (branch_lt t) (by omega) = prev t :=
  Fin.ext (show 4 * (t.val / 4) + k = t.val - 1 by omega)

theorem dz1_congr (c : Dev nD) {n n' : ℕ} (h : n = n') (hn : n < 3) (hn' : n' < 3) : dz1 m c n hn = dz1 m c n' hn' := by subst h; rfl
theorem dz2_congr (c : Dev nD) {n n' : ℕ} (h : n = n') (hn : n < 3) (hn' : n' < 3) : dz2 m c n hn = dz2 m c n' hn' := by subst h; rfl

/-- Stores over both row blocks leave nothing of what lay under them. -/
theorem storeRows_both (p q : FVec F S1024x512 .f32) (X Y : Vec F S1x2048x512 .f32) :
    storeRows rows1 q (storeRows rows0 p X) = storeRows rows1 q (storeRows rows0 p Y) := by
  funext y
  unfold storeRows VecWindow.put
  by_cases h1 : ∀ a, rows1 a ≤ (y a).val ∧ (y a).val < rows1 a + S1x1024x512.size a
  · simp only [dif_pos h1]
  · simp only [dif_neg h1]
    have h0 : ∀ a, rows0 a ≤ (y a).val ∧ (y a).val < rows0 a + S1x1024x512.size a := by
      have b0 := (y 0).isLt
      have b1 := (y 1).isLt
      have b2 := (y 2).isLt
      have hy : (y 1).val < 1024 := by
        by_contra hge
        refine h1 fun a => ?_
        fin_cases a
        · exact ⟨Nat.zero_le _, b0⟩
        · exact ⟨Nat.le_of_not_lt hge, b1⟩
        · exact ⟨Nat.zero_le _, b2⟩
      intro a
      fin_cases a
      · exact ⟨Nat.zero_le _, b0⟩
      · exact ⟨Nat.zero_le _, hy⟩
      · exact ⟨Nat.zero_le _, b2⟩
    simp only [dif_pos h0]

theorem known_first (c : Dev nD) (t : Fin cfg0.N) (h : t.val % 4 = 0) (X : Vec F S1x2048x512 .f32) :
    dzKnown m c t (storeRows rows0 (branchAt m c t) X) := by
  unfold dzKnown; rw [if_pos h]; exact ⟨X, rfl⟩

theorem known_second (c : Dev nD) (t : Fin cfg0.N) (h : t.val % 4 = 1) (X : Vec F S1x2048x512 .f32) (hX : dzKnown m c (prev t) X) :
    dzKnown m c t (storeRows rows1 (branchAt m c t) X) := by
  unfold dzKnown at hX ⊢
  rw [if_pos (show (t.val - 1) % 4 = 0 by omega)] at hX
  obtain ⟨X₀, rfl⟩ := hX
  rw [if_neg (by omega)]
  unfold dzAt dz1
  rw [if_pos h, pt_eq t 1 (by omega) h, pt_prev t 0 (by omega) h]
  exact storeRows_both _ _ _ _

theorem known_third (c : Dev nD) (t : Fin cfg0.N) (h : t.val % 4 = 2) (X : Vec F S1x2048x512 .f32) (hX : dzKnown m c (prev t) X) :
    dzKnown m c t (addRows rows0 rows0_in (branchAt m c t) X) := by
  unfold dzKnown at hX ⊢
  rw [if_neg (show ¬ (t.val - 1) % 4 = 0 by omega)] at hX
  subst hX
  rw [if_neg (by omega)]
  unfold dzAt
  rw [if_neg (show ¬ t.val % 4 = 1 by omega), if_pos h, if_pos (show (t.val - 1) % 4 = 1 by omega)]
  unfold dz2
  rw [pt_eq t 2 (by omega) h, dz1_congr m c (show (t.val - 1) / 4 = t.val / 4 by omega) _ (branch_lt t)]

theorem known_fourth (c : Dev nD) (t : Fin cfg0.N) (h : t.val % 4 = 3) (X : Vec F S1x2048x512 .f32) (hX : dzKnown m c (prev t) X) :
    dzKnown m c t (addRows rows1 rows1_in (branchAt m c t) X) := by
  unfold dzKnown at hX ⊢
  rw [if_neg (show ¬ (t.val - 1) % 4 = 0 by omega)] at hX
  subst hX
  rw [if_neg (by omega)]
  unfold dzAt
  rw [if_neg (show ¬ t.val % 4 = 1 by omega), if_neg (show ¬ t.val % 4 = 2 by omega),
    if_neg (show ¬ (t.val - 1) % 4 = 1 by omega), if_pos (show (t.val - 1) % 4 = 2 by omega)]
  unfold dz3
  rw [pt_eq t 3 (by omega) h, dz2_congr m c (show (t.val - 1) / 4 = t.val / 4 by omega) _ (branch_lt t)]

/-! ## The branches over the points -/

theorem cond1_iff : ∀ t : Fin cfg0.N, k0_cond1 (grid0.coords t) = 1#1 ↔ t.val % 2 = 0 :=
  (by decide +kernel : ∀ t : Fin grid0.N, k0_cond1 (grid0.coords t) = 1#1 ↔ t.val % 2 = 0)

theorem cond2_iff : ∀ t : Fin cfg0.N, k0_cond2 (grid0.coords t) = 1#1 ↔ ¬ t.val % 2 = 0 :=
  (by decide +kernel : ∀ t : Fin grid0.N, k0_cond2 (grid0.coords t) = 1#1 ↔ ¬ t.val % 2 = 0)

theorem cond3_iff : ∀ t : Fin cfg0.N, k0_cond3 (grid0.coords t) = 1#1 ↔ t.val % 4 < 2 :=
  (by decide +kernel : ∀ t : Fin grid0.N, k0_cond3 (grid0.coords t) = 1#1 ↔ t.val % 4 < 2)

theorem cond4_iff : ∀ t : Fin cfg0.N, k0_cond4 (grid0.coords t) = 1#1 ↔ ¬ t.val % 4 < 2 :=
  (by decide +kernel : ∀ t : Fin grid0.N, k0_cond4 (grid0.coords t) = 1#1 ↔ ¬ t.val % 4 < 2)

theorem off1_even : ∀ t : Fin cfg0.N, t.val % 2 = 0 → k0_off1 (grid0.coords t) = rows0 :=
  (by decide +kernel : ∀ t : Fin grid0.N, t.val % 2 = 0 → k0_off1 (grid0.coords t) = rows0)

theorem off1_odd : ∀ t : Fin cfg0.N, ¬ t.val % 2 = 0 → k0_off1 (grid0.coords t) = rows1 :=
  (by decide +kernel : ∀ t : Fin grid0.N, ¬ t.val % 2 = 0 → k0_off1 (grid0.coords t) = rows1)

theorem off2_even : ∀ t : Fin cfg0.N, t.val % 2 = 0 → k0_off2 (grid0.coords t) = rows0 :=
  (by decide +kernel : ∀ t : Fin grid0.N, t.val % 2 = 0 → k0_off2 (grid0.coords t) = rows0)

theorem off2_odd : ∀ t : Fin cfg0.N, ¬ t.val % 2 = 0 → k0_off2 (grid0.coords t) = rows1 :=
  (by decide +kernel : ∀ t : Fin grid0.N, ¬ t.val % 2 = 0 → k0_off2 (grid0.coords t) = rows1)

/-! ## The proof data -/

/-- Each input's block stays, the outputs hold what the points compute. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dpAt m c t
    | ⟨6, _⟩ => dwAt m c t
    | ⟨7, _⟩ => dzAt m c t
  Φ _ := Pipeline.ΦA spec0 c
  q w := Pipeline.shareOf spec0 w
  owed _ := 0

/-- The branch's window, of which the points know what `dzKnown` says. -/
def part : Fin cfg0.W → Bool := fun w => decide (w = 7)

/-- What is known of a marked window's buffer after a point. -/
def known (c : Dev nD) (w : Fin cfg0.W) (t : Fin cfg0.N) : ((cfg0.win w).block.Idx → Elt F (cfg0.win w).elt) → Prop :=
  match w with
  | ⟨7, _⟩ => fun X => dzKnown m c t X
  | _ => fun _ => True

/-- The proof data with the branch's window held to what is known of it. -/
abbrev rdat (c : Dev nD) : RDat τ (Elt F) Unit ℕ (UR sig nD τ) ℕ cfg0 c := (dats m 0 c).toRRel part (known m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dpAt m c t := by dsimp only [dats]
theorem after0_6 (c : Dev nD) (t : Fin cfg0.N) : (dats m 0 c).after 6 t = dwAt m c t := by dsimp only [dats]
theorem after0_7 (c : Dev nD) (t : Fin cfg0.N) : (dats m 0 c).after 7 t = dzAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- No window is ever idle, -/
theorem live5 : ∀ t : Fin cfg0.N, ¬ cfg0.idle 5 (grid0.coords t) = true :=
  (by decide +kernel : ∀ t : Fin grid0.N, ¬ idle0 5 (grid0.coords t) = true)
theorem live6 : ∀ t : Fin cfg0.N, ¬ cfg0.idle 6 (grid0.coords t) = true :=
  (by decide +kernel : ∀ t : Fin grid0.N, ¬ idle0 6 (grid0.coords t) = true)

/-- and the weights' buffer is fresh at every first row block. -/
theorem fresh6_iff : ∀ t : Fin cfg0.N, cfg0.fresh 6 t.val = true ↔ t.val % 2 = 0 :=
  (by decide +kernel : ∀ t : Fin grid0.N, cfg0.fresh 6 t.val = true ↔ t.val % 2 = 0)

/-- At a second row block the weights' buffer holds what the point before left. -/
theorem before0_6 (c : Dev nD) (t : Fin cfg0.N) (h : ¬ t.val % 2 = 0) (d) : (dats m 0 c).before 6 t d = dwAt m c (prev t) := by
  rw [Dat.before_out_traj (dats m 0 c) 6 rfl (fun _ _ => rfl) (fun t _ hi _ => absurd hi (live6 t)) t.val t rfl d,
    if_neg (fun hf => h ((fresh6_iff t).mp hf)), after0_6]

/-- At a branch's later points its buffer is as the point before left it. -/
theorem found7 (c : Dev nD) (t : Fin cfg0.N) (h : ¬ t.val % 4 = 0) (Y) (hY : (rdat m c).Finds 7 t Y) : dzKnown m c (prev t) Y := by
  have hf : (cfg0.win 7).fetch t = false := by cases hq : (cfg0.win 7).fetch t with
    | false => rfl
    | true => exact absurd hq ((by decide +kernel : ∀ t : Fin grid0.N, ¬ (cfg0.win 7).fetch t = true) t)
  rcases ((rdat m c).finds_of_pos hf (by omega) Y).mp hY with hfl | hl
  · have := (flush0_7 _).mp hfl
    have : (t.val - 1) % 4 = 3 := this
    omega
  · exact Dat.toRRel_leaves (dats m 0 c) (w := 7) (by decide) hl

theorem leaves_of_after (c : Dev nD) (w : Fin cfg0.W) (t : Fin cfg0.N) (h : ¬ cfg0.idle w (grid0.coords t) = true) :
    owns (c : Thread nD τ) ((cfg0.win w).stage (cfg0.slots t w)) fullShare ((dats m 0 c).after w t) ⊢ (dats m 0 c).leavesExact w t := by
  unfold Dat.leavesExact
  cases hi : cfg0.idle w (cfg0.grid.coords t) with
  | false => exact .rfl
  | true => exact absurd hi h

/-! ## The body at every point -/

/-- What a point starts from, -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ Y, ⌜(rdat m c).Finds 7 t Y⌝ ∗ owns (c : Thread nD τ) ((cfg0.win 7).stage (cfg0.slots t 7)) fullShare Y))

/-- and what it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ X, ⌜dzKnown m c t X⌝ ∗ owns (c : Thread nD τ) ((cfg0.win 7).stage (cfg0.slots t 7)) fullShare X))

set_option maxHeartbeats 1600000 in
/-- A branch's first point. -/
theorem body_ss (c : Dev nD) (t : Fin cfg0.N) (h : t.val % 4 = 0) :
    bodyPre m c t ⊢ wp frame (wpE (defs₀ (F := F)) Variants.none c none) Set.univ (bodyAt0 t) (fun _ => bodyPost m c t) := by
  unfold bodyPre bodyPost bodyAt0
  have h2 : t.val % 2 = 0 := by omega
  have hu : t.val % 4 < 2 := by omega
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  iapply (run_ss c (grid0.coords t) _ _ _ _ _ _ _ _ _ _ _ _ _ _ _ _ (iblk m c 0 t) (iblk m c 1 t) (iblk m c 2 t) (iblk m c 3 t) (iblk m c 4 t) rows0 Y ((cond1_iff t).mpr h2) (fun hc => (cond2_iff t).mp hc h2) ((cond3_iff t).mpr hu) (fun hc => (cond4_iff t).mp hc hu) (off1_even t h2) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]; · iapply (leaves_of_after m c 0 t Bool.false_ne_true); rw [after0_0]; iexact H0
  isplitl [H1]; · iapply (leaves_of_after m c 1 t Bool.false_ne_true); rw [after0_1]; iexact H1
  isplitl [H2]; · iapply (leaves_of_after m c 2 t Bool.false_ne_true); rw [after0_2]; iexact H2
  isplitl [H3]; · iapply (leaves_of_after m c 3 t Bool.false_ne_true); rw [after0_3]; iexact H3
  isplitl [H4]; · iapply (leaves_of_after m c 4 t Bool.false_ne_true); rw [after0_4]; iexact H4
  isplitl [H5]; · iapply (leaves_of_after m c 5 t (live5 t)); rw [after0_5]; unfold dpAt; iexact H5
  isplitl [H6]; · iapply (leaves_of_after m c 6 t (live6 t)); rw [after0_6, dwAt_first m c t h2]; unfold weightAt; iexact H6
  iexists _; isplitr; swap; · iexact H7
  ipureintro; exact known_first m c t h Y

set_option maxHeartbeats 1600000 in
/-- The second. -/
theorem body_as (c : Dev nD) (t : Fin cfg0.N) (h : t.val % 4 = 1) :
    bodyPre m c t ⊢ wp frame (wpE (defs₀ (F := F)) Variants.none c none) Set.univ (bodyAt0 t) (fun _ => bodyPost m c t) := by
  unfold bodyPre bodyPost bodyAt0
  have h2 : ¬ t.val % 2 = 0 := by omega
  have hu : t.val % 4 < 2 := by omega
  simp only [before0_0, before0_1, before0_2, before0_3, before0_4, before0_6 m c t h2]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  iapply (run_as c (grid0.coords t) _ _ _ _ _ _ _ _ _ _ _ _ _ _ _ _ (iblk m c 0 t) (iblk m c 1 t) (iblk m c 2 t) (iblk m c 3 t) (iblk m c 4 t) rows1 Y (fun hc => h2 ((cond1_iff t).mp hc)) ((cond2_iff t).mpr h2) ((cond3_iff t).mpr hu) (fun hc => (cond4_iff t).mp hc hu) (off1_odd t h2) (dwAt m c (prev t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iapply (leaves_of_after m c 0 t Bool.false_ne_true); rw [after0_0]; iexact H0
  isplitl [H1]; · iapply (leaves_of_after m c 1 t Bool.false_ne_true); rw [after0_1]; iexact H1
  isplitl [H2]; · iapply (leaves_of_after m c 2 t Bool.false_ne_true); rw [after0_2]; iexact H2
  isplitl [H3]; · iapply (leaves_of_after m c 3 t Bool.false_ne_true); rw [after0_3]; iexact H3
  isplitl [H4]; · iapply (leaves_of_after m c 4 t Bool.false_ne_true); rw [after0_4]; iexact H4
  isplitl [H5]; · iapply (leaves_of_after m c 5 t (live5 t)); rw [after0_5]; unfold dpAt; iexact H5
  isplitl [H6]; · iapply (leaves_of_after m c 6 t (live6 t)); rw [after0_6, dwAt_next m c t h2]; unfold weightAt; iexact H6
  iexists _; isplitr; swap; · iexact H7
  ipureintro; exact known_second m c t h Y (found7 m c t (by omega) Y hY)

set_option maxHeartbeats 1600000 in
/-- The third. -/
theorem body_sa (c : Dev nD) (t : Fin cfg0.N) (h : t.val % 4 = 2) :
    bodyPre m c t ⊢ wp frame (wpE (defs₀ (F := F)) Variants.none c none) Set.univ (bodyAt0 t) (fun _ => bodyPost m c t) := by
  unfold bodyPre bodyPost bodyAt0
  have h2 : t.val % 2 = 0 := by omega
  have hu : ¬ t.val % 4 < 2 := by omega
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  iapply (run_sa c (grid0.coords t) _ _ _ _ _ _ _ _ _ _ _ _ _ _ _ _ (iblk m c 0 t) (iblk m c 1 t) (iblk m c 2 t) (iblk m c 3 t) (iblk m c 4 t) rows0 rows0_in Y ((cond1_iff t).mpr h2) (fun hc => (cond2_iff t).mp hc h2) (fun hc => hu ((cond3_iff t).mp hc)) ((cond4_iff t).mpr hu) (off2_even t h2) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]; · iapply (leaves_of_after m c 0 t Bool.false_ne_true); rw [after0_0]; iexact H0
  isplitl [H1]; · iapply (leaves_of_after m c 1 t Bool.false_ne_true); rw [after0_1]; iexact H1
  isplitl [H2]; · iapply (leaves_of_after m c 2 t Bool.false_ne_true); rw [after0_2]; iexact H2
  isplitl [H3]; · iapply (leaves_of_after m c 3 t Bool.false_ne_true); rw [after0_3]; iexact H3
  isplitl [H4]; · iapply (leaves_of_after m c 4 t Bool.false_ne_true); rw [after0_4]; iexact H4
  isplitl [H5]; · iapply (leaves_of_after m c 5 t (live5 t)); rw [after0_5]; unfold dpAt; iexact H5
  isplitl [H6]; · iapply (leaves_of_after m c 6 t (live6 t)); rw [after0_6, dwAt_first m c t h2]; unfold weightAt; iexact H6
  iexists _; isplitr; swap; · iexact H7
  ipureintro; exact known_third m c t h Y (found7 m c t (by omega) Y hY)

set_option maxHeartbeats 1600000 in
/-- The fourth. -/
theorem body_aa (c : Dev nD) (t : Fin cfg0.N) (h : t.val % 4 = 3) :
    bodyPre m c t ⊢ wp frame (wpE (defs₀ (F := F)) Variants.none c none) Set.univ (bodyAt0 t) (fun _ => bodyPost m c t) := by
  unfold bodyPre bodyPost bodyAt0
  have h2 : ¬ t.val % 2 = 0 := by omega
  have hu : ¬ t.val % 4 < 2 := by omega
  simp only [before0_0, before0_1, before0_2, before0_3, before0_4, before0_6 m c t h2]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  iapply (run_aa c (grid0.coords t) _ _ _ _ _ _ _ _ _ _ _ _ _ _ _ _ (iblk m c 0 t) (iblk m c 1 t) (iblk m c 2 t) (iblk m c 3 t) (iblk m c 4 t) rows1 rows1_in Y (fun hc => h2 ((cond1_iff t).mp hc)) ((cond2_iff t).mpr h2) (fun hc => hu ((cond3_iff t).mp hc)) ((cond4_iff t).mpr hu) (off2_odd t h2) (dwAt m c (prev t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iapply (leaves_of_after m c 0 t Bool.false_ne_true); rw [after0_0]; iexact H0
  isplitl [H1]; · iapply (leaves_of_after m c 1 t Bool.false_ne_true); rw [after0_1]; iexact H1
  isplitl [H2]; · iapply (leaves_of_after m c 2 t Bool.false_ne_true); rw [after0_2]; iexact H2
  isplitl [H3]; · iapply (leaves_of_after m c 3 t Bool.false_ne_true); rw [after0_3]; iexact H3
  isplitl [H4]; · iapply (leaves_of_after m c 4 t Bool.false_ne_true); rw [after0_4]; iexact H4
  isplitl [H5]; · iapply (leaves_of_after m c 5 t (live5 t)); rw [after0_5]; unfold dpAt; iexact H5
  isplitl [H6]; · iapply (leaves_of_after m c 6 t (live6 t)); rw [after0_6, dwAt_next m c t h2]; unfold weightAt; iexact H6
  iexists _; isplitr; swap; · iexact H7
  ipureintro; exact known_fourth m c t h Y (found7 m c t (by omega) Y hY)

/-- The body at any point. -/
theorem sound_body (c : Dev nD) (t : Fin cfg0.N) :
    bodyPre m c t ⊢ wp frame (wpE (defs₀ (F := F)) Variants.none c none) Set.univ (bodyAt0 t) (fun _ => bodyPost m c t) := by
  have : t.val % 4 = 0 ∨ t.val % 4 = 1 ∨ t.val % 4 = 2 ∨ t.val % 4 = 3 := by omega
  rcases this with h | h | h | h
  · exact body_ss m c t h
  · exact body_as m c t h
  · exact body_sa m c t h
  · exact body_aa m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ part (known m c) := fun t => by
  rw [bigSep_W0, bigSep_W0, defs₀_row]
  exact triple_restated (sound_body m c t) rfl .rfl fun _ => .rfl

/-! ## The run -/

/-- At a branch's last point everything of its buffer is known. -/
theorem known_last (c : Dev nD) (t : Fin cfg0.N) (h : t.val % 4 = 3) (X) (hX : dzKnown m c t X) : X = dzAt m c t := by
  unfold dzKnown at hX; rwa [if_neg (by omega)] at hX

/-- What an array may hold after the run is what the points compute. -/
theorem arr_known (c : Dev nD) (w : Fin cfg0.W) (G) (hG : (rdat m c).ArrAt w cfg0.N G) : G = (dats m 0 c).arrAt w cfg0.N := by
  by_cases h : w = 7
  · subst h
    obtain ⟨X, hX, hA⟩ := hG.exists_exact
    exact hA (dats m 0 c).after fun u hu hf => by
      have hk := Dat.toRRel_leaves (dats m 0 c) (w := 7) (by decide) (hX u hu hf)
      rw [after0_7]
      exact (known_last m c u ((flush0_7 u).mp hf) _ hk).symm
  · have hp : part w = false := by unfold part; exact decide_eq_false h
    exact ((dats m 0 c).toR.override_arrAt (by simp only [hp]) cfg0.N G).trans ((dats m 0 c).toR_arrAt_iff w cfg0.N G) |>.mp hG

set_option backward.isDefEq.respectTransparency.types false in
/-- Every execution ends, each array at what the points leave in it and every semaphore at zero. -/
theorem run_main : θ_run defs (onTc (τ := τ) (main (F := F))) (s₀ m ρ) (fun r => (Pipeline.FramePost cfgs (dats m) 0 (V m)) r ∧ r.2.sem = fun _ => 0) :=
  RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := fun _ => .rfl)
    (hout := fun _ => .rfl)
    (hQ' := fun r h => ⟨fun c => ⟨fun w => arr_known m c w _ ((h.1 c).1 w), (h.1 c).2⟩, h.2⟩)

/-- The arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The results end as the three output windows' arrays after the last point, the arguments as they were. -/
theorem run_results : θ_run defs (onTc (τ := τ) (main (F := F))) ⟨m, fun _ => 0, ρ⟩ (fun r => ∀ c : Dev nD,
      r.2.mem ((c.tc : Thread nD τ).loc main_v3_0) = (dats m 0 c).arrAt 5 cfg0.N
      ∧ r.2.mem ((c.tc : Thread nD τ).loc main_v3_1) = (dats m 0 c).arrAt 6 cfg0.N
      ∧ r.2.mem ((c.tc : Thread nD τ).loc main_v3_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.2.1 c).1 5, (h.2.1 c).1 6, (h.2.1 c).1 7, h.1.1 c⟩) (θ_run_and (frame m ρ) (run_main m ρ))

end Cert.MergeBwdIdeal

end
-- ==== Proof.MergeBwdReference.lean ====
/-
  WHAT THE REFERENCE OF `merge_bwd` COMPUTES: the derivative of the merge `sum over the branches of sigmoid(gates) * (z @ w)`, read off
  the printed program stage by stage over the extended reals. The gates' gradient stands in the gates' columns of the projections'
  cotangent; the mask says which columns these are.
-/
module

public import proofs.«01_k».proof.Proof.Gen.MergeBwdRefIdeal.Read
public import proofs.«01_k».proof.Proof.Gen.On_merge_bwd_written
public import proofs.«01_k».proof.Proof.Reals
public import Idealize.ShloMosaic.Lib.Pointwise
public import Idealize.ShloMosaic.Lib.WordCmp

@[expose] public section

set_option maxRecDepth 16384

noncomputable section

namespace Cert.MergeBwdReference

open Cert.MergeBwdRefIdeal Cert.MergeBwdRefIdeal.Read Idealize.ShloMosaic Cert.Reals

/-! ## The quantities -/

/-- The number of branch `n`'s column `c` among the gates' columns, -/
def flat (n : Fin 3) (c : Fin 1024) : Fin 3072 := ⟨n.val * 1024 + c.val, by omega⟩
/-- and among the projections' columns. -/
def gateCol (n : Fin 3) (c : Fin 1024) : Fin 7680 := ⟨4608 + (n.val * 1024 + c.val), by omega⟩

section Quantities

variable (z : S3x2048x512.Idx → EReal) (p : S2048x7680.Idx → EReal) (w : S3x512x1024.Idx → EReal) (d : S2048x1024.Idx → EReal)

/-- A branch's gate. -/
def gate (n : Fin 3) (r : Fin 2048) (c : Fin 1024) : EReal := Ideal.logistic (p (ix2 r (gateCol n c)))

/-- A branch's product. -/
def prod (n : Fin 3) (r : Fin 2048) (c : Fin 1024) : EReal := ∑ k : Fin 512, z (ix3 n r k) * w (ix3 n k c)

/-- The cotangent of a branch's product. -/
def prodGrad (n : Fin 3) (r : Fin 2048) (c : Fin 1024) : EReal := d (ix2 r c) * gate p n r c

/-- The gradient of a gate's argument. -/
def gateGrad (n : Fin 3) (r : Fin 2048) (c : Fin 1024) : EReal :=
  d (ix2 r c) * prod z w n r c * gate p n r c * (1 - gate p n r c)

/-- The gradient of a branch's weight. -/
def weightGrad (n : Fin 3) (k : Fin 512) (c : Fin 1024) : EReal := ∑ r : Fin 2048, z (ix3 n r k) * prodGrad p d n r c

/-- The gradient of a branch's output. -/
def branchGrad (n : Fin 3) (r : Fin 2048) (k : Fin 512) : EReal := ∑ c : Fin 1024, prodGrad p d n r c * w (ix3 n k c)

end Quantities

/-! ## The stages of the printed program -/

variable (x0 : (⟨S3x2048x512, .bf16⟩ : BufTy).Contents (Elt Ideal)) (x1 : (⟨S2048x7680, .f32⟩ : BufTy).Contents (Elt Ideal))
  (x2 : (⟨S3x512x1024, .f32⟩ : BufTy).Contents (Elt Ideal)) (x3 : (⟨S2048x1024, .bf16⟩ : BufTy).Contents (Elt Ideal))

/-- The branches' products. -/
theorem v6_apply (n : Fin 3) (r : Fin 2048) (c : Fin 1024) : val_main_v6 (F := Ideal) x0 x2 (ix4 0 r n c) = prod x0 x2 n r c := by
  pointwise [val_main_v6, val_main_v5, val_main_v4, val_main_v3, val_main_v0]
  exact Finset.sum_congr rfl fun k _ => mul_comm _ _

/-- The gates. -/
theorem v12_apply (n : Fin 3) (r : Fin 2048) (c : Fin 1024) : val_main_v12 (F := Ideal) x1 (ix3 0 r (flat n c)) = gate x1 n r c := by
  pointwise [val_main_v12, val_main_v11, val_main_v10, val_main_v9, val_main_v8, val_main_v7, val_main_v2, val_main_v1, val_main_cst, val_main_cst_0]
  rfl

theorem v16_apply (n : Fin 3) (r : Fin 2048) (c : Fin 1024) : val_main_v16 (F := Ideal) x1 (ix4 0 r n c) = gate x1 n r c := by
  rw [← v12_apply]
  pointwise [val_main_v16]
  congr 1

/-- The cotangent of the branches' products. -/
theorem v22_apply (n : Fin 3) (r : Fin 2048) (c : Fin 1024) : val_main_v22 (F := Ideal) x1 x3 (ix4 0 r n c) = prodGrad x1 x3 n r c := by
  pointwise [val_main_v22, val_main_v21, val_main_v20, val_main_v19]
  rw [v16_apply]
  exact mul_comm _ _

/-- The gates' gradient. -/
theorem v25_apply (n : Fin 3) (r : Fin 2048) (c : Fin 1024) : val_main_v25 (F := Ideal) x0 x1 x2 x3 (ix3 0 r (flat n c)) = gateGrad x0 x1 x2 x3 n r c := by
  have h : val_main_v24 (F := Ideal) x0 x2 x3 (ix3 0 r (flat n c)) = x3 (ix2 r c) * prod x0 x2 n r c := by
    rw [← v6_apply]
    pointwise [val_main_v24, val_main_v23, val_main_v21, val_main_v20, val_main_v19]
    rw [show (⟨(flat n c).val / 1024, by omega⟩ : Fin 3) = n from Fin.ext (by simp only [flat]; omega),
      show (⟨(flat n c).val % 1024, by omega⟩ : Fin 1024) = c from Fin.ext (by simp only [flat]; omega)]
  pointwise [val_main_v25, val_main_v15, val_main_v14, val_main_v13, val_main_cst_1]
  rw [h, v12_apply]
  exact (mul_assoc _ _ _).symm

/-- The first result, at the gates' columns. -/
theorem v36_apply (n : Fin 3) (r : Fin 2048) (c : Fin 1024) : val_main_v36 (F := Ideal) x0 x1 x2 x3 (ix2 r (gateCol n c)) = gateGrad x0 x1 x2 x3 n r c := by
  rw [← v25_apply]
  pointwise [val_main_v36, val_main_v35, val_main_v34]
  rw [dif_neg (show ¬ (gateCol n c).val < 4608 from Nat.not_lt.2 (Nat.le_add_right _ _))]
  exact congrArg (fun j => val_main_v25 (F := Ideal) x0 x1 x2 x3 (ix3 0 r j)) (Fin.ext (by show 4608 + (n.val * 1024 + c.val) - 4608 = n.val * 1024 + c.val; omega))

/-- The second. -/
theorem v29_apply (n : Fin 3) (k : Fin 512) (c : Fin 1024) : val_main_v29 (F := Ideal) x0 x1 x3 (ix3 n c k) = weightGrad x0 x1 x3 n k c := by
  pointwise [val_main_v29, val_main_v26, val_main_v4, val_main_v3, val_main_v0]
  simp only [v22_apply, Finset.univ_unique, Finset.sum_singleton]
  exact Finset.sum_congr rfl fun r _ => mul_comm _ _

theorem v38_apply (q : Fin 4) (n : Fin 3) (k : Fin 512) (l : Fin 256) :
    val_main_v38 (F := Ideal) x0 x1 x3 (ix4 q n k l) = weightGrad x0 x1 x3 n k ⟨q.val * 256 + l.val, by omega⟩ := by
  rw [← v29_apply]
  pointwise [val_main_v38, val_main_v37, val_main_v30]

/-- The third. -/
theorem v32_apply (n : Fin 3) (r : Fin 2048) (k : Fin 512) : val_main_v32 (F := Ideal) x1 x2 x3 (ix3 n r k) = branchGrad x1 x2 x3 n r k := by
  pointwise [val_main_v32, val_main_v31, val_main_v28, val_main_v27, val_main_v26]
  simp only [v22_apply, Finset.univ_unique, Finset.sum_singleton, val_main_cst_3_apply]
  exact (congrArg (· + branchGrad x1 x2 x3 n r k) (Ideal.ofBits_zero .f32)).trans (zero_add _)

/-! ## The mask -/

/-- Where the mask of the first result is set stand the gates' columns. -/
theorem written (r : Fin 2048) (o : Fin 7680) (h : (Cert.On_merge_bwd_written.fn (F := Ideal) x0 x1 x2 x3).1 (ix2 r o) = 1#1) : 4608 ≤ o.val := by
  have h' : IntOp.cmpi .sge (BitVec.ofNat 32 o.val) 4608#32 = 1#1 := h
  rw [Idealize.ShloMosaic.WordCmp.cmpi_sge_ofNat (by omega) (by omega)] at h'
  by_contra hn
  simp [hn] at h'

/-- Every such column is some branch's. -/
theorem gateCol_of_le (o : Fin 7680) (h : 4608 ≤ o.val) : ∃ (n : Fin 3) (c : Fin 1024), o = gateCol n c :=
  ⟨⟨(o.val - 4608) / 1024, by omega⟩, ⟨(o.val - 4608) % 1024, by omega⟩, Fin.ext (by unfold gateCol; show o.val = 4608 + ((o.val - 4608) / 1024 * 1024 + (o.val - 4608) % 1024); omega)⟩

end Cert.MergeBwdReference

end
-- ==== Proof.MergeBwdValue.lean ====
/-
  THE VALUE OF `merge_bwd`: what the kernel's three result arrays hold over the extended reals. The grid walks the three branches, for
  each the two halves of the model's columns, and for each the two row blocks. The weights' gradient of a column half is summed over
  the row blocks, the branch's gradient of a row block over the column halves.
-/
module

public import proofs.«01_k».proof.Proof.MergeBwdRun
public import proofs.«01_k».proof.Proof.MergeBwdReference
public import Idealize.ShloMosaic.Lib.Pipeline.ValueKit

@[expose] public section

set_option maxRecDepth 16384

noncomputable section

namespace Cert.MergeBwdValue

open Cert.MergeBwdIdeal Cert.MergeBwdIdeal.Gen Idealize.ShloMosaic Idealize.ShloMosaic.TcCoe Idealize.SL.Sem Cert.Reals Cert.MergeBwdReference
open Idealize.ShloMosaic.Pipeline (Dat)

/-! ## Rows and columns -/

/-- The number of row `p` of row block `i`, -/
def row (i : Fin 2) (p : Fin 1024) : Fin 2048 := ⟨i.val * 1024 + p.val, by omega⟩
/-- of column `q` of column half `u`, -/
def col (u : Fin 2) (q : Fin 512) : Fin 1024 := ⟨u.val * 512 + q.val, by omega⟩
/-- and of column `l` of half `h` of these. -/
def half (h : Fin 2) (l : Fin 256) : Fin 512 := ⟨h.val * 256 + l.val, by omega⟩

theorem sum_rows (f : Fin 2048 → EReal) : ∑ i : Fin 2, ∑ p : Fin 1024, f (row i p) = ∑ r, f r :=
  Fin.sum_mul_add_fin (S := 2) (n := 1024) (L := 2048) f

theorem sum_cols (f : Fin 1024 → EReal) : ∑ u : Fin 2, ∑ q : Fin 512, f (col u q) = ∑ c, f c :=
  Fin.sum_mul_add_fin (S := 2) (n := 512) (L := 1024) f

theorem sum_halves (f : Fin 512 → EReal) : ∑ h : Fin 2, ∑ l : Fin 256, f (half h l) = ∑ q, f q :=
  Fin.sum_mul_add_fin (S := 2) (n := 256) (L := 512) f

/-! ## What one point computes -/

section Blocks

variable (z : S3x2048x512.Idx → EReal) (p : S2048x7680.Idx → EReal) (w : S3x512x1024.Idx → EReal) (d : S2048x1024.Idx → EReal)

/-- The blocks a point works on. -/
abbrev zb (n : Fin 3) (i : Fin 2) : Vec Ideal S1x1024x512 .bf16 := fun j => z (ix3 n (row i (j 1)) (j 2))
abbrev wb (n : Fin 3) (u h : Fin 2) : Vec Ideal S1x1x512x256 .bf16 := fun j => w (ix3 n (j 2) (col u (half h (j 3))))
abbrev pb (n : Fin 3) (i u : Fin 2) : Vec Ideal S1024x512 .f32 := fun j => p (ix2 (row i (j 0)) (gateCol n (col u (j 1))))
abbrev db (i u : Fin 2) : Vec Ideal S1024x512 .bf16 := fun j => d (ix2 (row i (j 0)) (col u (j 1)))

variable (n : Fin 3) (i u : Fin 2)

theorem gate_apply (r : Fin 1024) (q : Fin 512) : k0_pay10 (F := Ideal) (pb p n i u) (ix2 r q) = gate p n (row i r) (col u q) := by
  pointwise [k0_pay10]
  rfl

theorem gateBlk_apply (r : Fin 1024) (q : Fin 512) :
    gateBlk (F := Ideal) (zb z n i) (wb w n u 0) (wb w n u 1) (pb p n i u) (db d i u) (ix2 r q) = gateGrad z p w d n (row i r) (col u q) := by
  unfold gateBlk
  pointwise [k0_pay12, k0_pay7, k0_pay8, k0_pay9, k0_pay11]
  simp only [gate_apply]
  have hs : (if h : q.val < 256 then ∑ k : Fin 512, z (ix3 n (row i r) k) * w (ix3 n k (col u (half 0 ⟨q.val, h⟩)))
      else ∑ k : Fin 512, z (ix3 n (row i r) k) * w (ix3 n k (col u (half 1 ⟨q.val - 256, by omega⟩)))) = prod z w n (row i r) (col u q) := by
    unfold prod
    split_ifs with h
    · rw [show half 0 ⟨q.val, h⟩ = q from Fin.ext (by simp [half])]
    · rw [show half 1 ⟨q.val - 256, by omega⟩ = q from Fin.ext (by simp [half]; omega)]
  refine (congrArg (fun y : EReal => d (ix2 (row i r) (col u q)) * y * gate p n (row i r) (col u q) * (1 - gate p n (row i r) (col u q))) ?_)
  exact hs

/-- The cotangent of the branch's product. -/
theorem prodGrad_apply (r : Fin 1024) (q : Fin 512) :
    k0_pay13 (F := Ideal) (pb p n i u) (db d i u) (ix2 r q) = prodGrad p d n (row i r) (col u q) := by
  pointwise [k0_pay13, k0_pay11]
  rw [gate_apply]
  rfl

/-- A row block's share of the weights' gradient. -/
def weightPart (k : Fin 512) (c : Fin 1024) : EReal := ∑ r : Fin 1024, z (ix3 n (row i r) k) * prodGrad p d n (row i r) c

theorem weightBlk_apply (k q : Fin 512) :
    weightBlk (F := Ideal) (zb z n i) (pb p n i u) (db d i u) (ix2 k q) = weightPart z p d n i k (col u q) := by
  unfold weightBlk
  pointwise [k0_pay14, k0_pay7]
  simp only [prodGrad_apply]
  rfl

/-- A column half's share of the branch's gradient. -/
def branchPart (r : Fin 2048) (k : Fin 512) : EReal := ∑ q : Fin 512, prodGrad p d n r (col u q) * w (ix3 n k (col u q))

theorem branchBlk_apply (r : Fin 1024) (k : Fin 512) :
    branchBlk (F := Ideal) (wb w n u 0) (wb w n u 1) (pb p n i u) (db d i u) (ix2 r k) = branchPart p w d n u (row i r) k := by
  unfold branchBlk
  pointwise [k0_pay15, k0_pay8, k0_pay9]
  simp only [prodGrad_apply]
  unfold branchPart
  rw [← sum_halves, Fin.sum_univ_two]
  refine congr (congrArg HAdd.hAdd (Finset.sum_congr rfl fun l _ => ?_)) (Finset.sum_congr rfl fun l _ => ?_)
  · rw [show half 0 l = ⟨l.val, by omega⟩ from Fin.ext (by simp [half])]
    exact congrArg (fun e => _ * w (ix3 n k (col u e))) (Fin.ext (by simp [half]))
  · rw [show half 1 l = ⟨256 + l.val, by omega⟩ from Fin.ext (by simp [half])]
    exact congrArg (fun e => _ * w (ix3 n k (col u e))) (Fin.ext (by simp [half]))

/-- The row blocks' shares together are the weights' gradient, -/
theorem weightPart_add (k : Fin 512) (c : Fin 1024) : weightPart z p d n 0 k c + weightPart z p d n 1 k c = weightGrad z p d n k c := by
  unfold weightGrad
  rw [← sum_rows, Fin.sum_univ_two]
  rfl

/-- and the column halves' the branch's. -/
theorem branchPart_add (r : Fin 2048) (k : Fin 512) : branchPart p w d n 0 r k + branchPart p w d n 1 r k = branchGrad p w d n r k := by
  unfold branchGrad
  rw [← sum_cols, Fin.sum_univ_two]
  rfl

end Blocks

/-! ## The buffers summed up -/

theorem firstW_apply (x : FVec Ideal S512x512 .f32) (h : Fin 2) (k : Fin 512) (l : Fin 256) : firstW x (ix4 h 0 k l) = x (ix2 k (half h l)) := by
  unfold firstW
  canon_tiles y hy
  all_goals
    obtain rfl : y = ix4 (0 : Fin 1) (0 : Fin 1) k l := by
      rw [← ix4_eta y, Fin.ext (Nat.lt_one_iff.mp y0_lt) (b := (0 : Fin 1)), Fin.ext (Nat.lt_one_iff.mp y1_lt) (b := (0 : Fin 1)), Fin.ext hy2.symm (b := k), Fin.ext hy3.symm (b := l)]
  · obtain rfl : h = 1 := Fin.ext hy0
    pointwise [k0_pay2]
    exact congrArg (fun e => x (ix2 k e)) (Fin.ext (by simp [half]))
  · obtain rfl : h = 0 := Fin.ext hy0
    pointwise [k0_pay1]
    exact congrArg (fun e => x (ix2 k e)) (Fin.ext (by simp [half]))

theorem nextW_apply (x : FVec Ideal S512x512 .f32) (old : Vec Ideal S2x1x512x256 .f32) (h : Fin 2) (k : Fin 512) (l : Fin 256) :
    nextW x old (ix4 h 0 k l) = old (ix4 h 0 k l) + x (ix2 k (half h l)) := by
  unfold nextW
  canon_tiles y hy
  all_goals
    obtain rfl : y = ix4 (0 : Fin 1) (0 : Fin 1) k l := by
      rw [← ix4_eta y, Fin.ext (Nat.lt_one_iff.mp y0_lt) (b := (0 : Fin 1)), Fin.ext (Nat.lt_one_iff.mp y1_lt) (b := (0 : Fin 1)), Fin.ext hy2.symm (b := k), Fin.ext hy3.symm (b := l)]
  · obtain rfl : h = 1 := Fin.ext hy0
    pointwise [k0_pay4]
    exact congrArg (fun e => old (ix4 1 0 k l) + x (ix2 k e)) (Fin.ext (by simp [half]))
  · obtain rfl : h = 0 := Fin.ext hy0
    pointwise [k0_pay3]
    exact congrArg (fun e => old (ix4 0 0 k l) + x (ix2 k e)) (Fin.ext (by simp [half]))

/-- Where row block `i`'s rows start. -/
def offs (i : Fin 2) : Fin 3 → ℕ := ![0, i.val * 1024, 0]

theorem offs_in (i : Fin 2) : ∀ a, offs i a + S1x1024x512.size a ≤ S1x2048x512.size a := by
  revert i; decide

/-- A store over a row block's rows leaves the block there, -/
theorem put_same (i : Fin 2) (x : Vec Ideal S1x1024x512 .f32) (old : Vec Ideal S1x2048x512 .f32) (r : Fin 1024) (k : Fin 512) :
    VecWindow.put (s := S1x2048x512) old (offs i) S1x1024x512.size x (ix3 0 (row i r) k) = x (ix3 0 r k) := by
  have h : ∀ a, offs i a ≤ ((ix3 (0 : Fin 1) (row i r) k : S1x2048x512.Idx) a).val ∧ ((ix3 (0 : Fin 1) (row i r) k : S1x2048x512.Idx) a).val < offs i a + S1x1024x512.size a := by
    intro a
    match a with
    | ⟨0, _⟩ => exact ⟨Nat.le_refl 0, Nat.one_pos⟩
    | ⟨1, _⟩ => exact ⟨Nat.le_add_right _ _, Nat.add_lt_add_left r.isLt _⟩
    | ⟨2, _⟩ => exact ⟨Nat.zero_le _, by show k.val < 0 + 512; omega⟩
  unfold VecWindow.put
  rw [dif_pos h]
  refine congrArg x (funext fun a => ?_)
  match a with
  | ⟨0, _⟩ => rfl
  | ⟨1, _⟩ => exact Fin.ext (Nat.add_sub_cancel_left _ _)
  | ⟨2, _⟩ => rfl

/-- and what was there before at the other block's. -/
theorem put_other (i j : Fin 2) (hij : i ≠ j) (x : Vec Ideal S1x1024x512 .f32) (old : Vec Ideal S1x2048x512 .f32) (r : Fin 1024) (k : Fin 512) :
    VecWindow.put (s := S1x2048x512) old (offs i) S1x1024x512.size x (ix3 0 (row j r) k) = old (ix3 0 (row j r) k) := by
  unfold VecWindow.put
  refine dif_neg fun h => ?_
  have h1 : i.val * 1024 ≤ j.val * 1024 + r.val ∧ j.val * 1024 + r.val < i.val * 1024 + 1024 := h 1
  exact hij (Fin.ext (by omega))

theorem window_apply (i : Fin 2) (old : Vec Ideal S1x2048x512 .f32) (r : Fin 1024) (k : Fin 512) :
    VecWindow.window (s := S1x2048x512) old (offs i) S1x1024x512.size (offs_in i) (ix3 0 r k) = old (ix3 0 (row i r) k) := by
  unfold VecWindow.window
  refine congrArg old (funext fun a => ?_)
  match a with
  | ⟨0, _⟩ => rfl
  | ⟨1, _⟩ => exact Fin.ext (congrArg (i.val * 1024 + ·) (Nat.one_mul _))
  | ⟨2, _⟩ => exact Fin.ext ((Nat.zero_add _).trans (Nat.one_mul _))

theorem store_same (i : Fin 2) (x : FVec Ideal S1024x512 .f32) (old : Vec Ideal S1x2048x512 .f32) (r : Fin 1024) (k : Fin 512) :
    storeRows (offs i) x old (ix3 0 (row i r) k) = x (ix2 r k) := by
  refine (put_same i _ old r k).trans ?_
  pointwise [k0_pay5]

theorem store_other (i j : Fin 2) (hij : i ≠ j) (x : FVec Ideal S1024x512 .f32) (old : Vec Ideal S1x2048x512 .f32) (r : Fin 1024) (k : Fin 512) :
    storeRows (offs i) x old (ix3 0 (row j r) k) = old (ix3 0 (row j r) k) := put_other i j hij _ old r k

theorem add_same (i : Fin 2) (ho) (x : FVec Ideal S1024x512 .f32) (old : Vec Ideal S1x2048x512 .f32) (r : Fin 1024) (k : Fin 512) :
    addRows (offs i) ho x old (ix3 0 (row i r) k) = old (ix3 0 (row i r) k) + x (ix2 r k) := by
  refine (put_same i _ old r k).trans ?_
  rw [← window_apply i old r k]
  pointwise [k0_pay6]

theorem add_other (i j : Fin 2) (hij : i ≠ j) (ho) (x : FVec Ideal S1024x512 .f32) (old : Vec Ideal S1x2048x512 .f32) (r : Fin 1024) (k : Fin 512) :
    addRows (offs i) ho x old (ix3 0 (row j r) k) = old (ix3 0 (row j r) k) := put_other i j hij _ old r k

/-- What the four points of a branch leave: at the first row block the first and the third share, -/
theorem summed0 {o₀ o₁ : Fin 3 → ℕ} (e₀ : o₀ = offs 0) (e₁ : o₁ = offs 1) (h₀ h₁) (x₀ x₁ x₂ x₃ : FVec Ideal S1024x512 .f32) (old : Vec Ideal S1x2048x512 .f32) (r : Fin 1024) (k : Fin 512) :
    addRows o₁ h₁ x₃ (addRows o₀ h₀ x₂ (storeRows o₁ x₁ (storeRows o₀ x₀ old))) (ix3 0 (row 0 r) k) = x₀ (ix2 r k) + x₂ (ix2 r k) := by
  subst e₀ e₁
  rw [add_other 1 0 (by decide), add_same, store_other 1 0 (by decide), store_same]

/-- at the second the second and the fourth. -/
theorem summed1 {o₀ o₁ : Fin 3 → ℕ} (e₀ : o₀ = offs 0) (e₁ : o₁ = offs 1) (h₀ h₁) (x₀ x₁ x₂ x₃ : FVec Ideal S1024x512 .f32) (old : Vec Ideal S1x2048x512 .f32) (r : Fin 1024) (k : Fin 512) :
    addRows o₁ h₁ x₃ (addRows o₀ h₀ x₂ (storeRows o₁ x₁ (storeRows o₀ x₀ old))) (ix3 0 (row 1 r) k) = x₁ (ix2 r k) + x₃ (ix2 r k) := by
  subst e₀ e₁
  rw [add_same, add_other 0 1 (by decide), store_same]

/-! ## The launch -/

/-- A point's branch, row block and column half. -/
def pn (t : Fin cfg0.N) : Fin 3 := ⟨t.val / 4, branch_lt t⟩
def pi (t : Fin cfg0.N) : Fin 2 := ⟨t.val % 2, by omega⟩
def pu (t : Fin cfg0.N) : Fin 2 := ⟨t.val / 2 % 2, by omega⟩

theorem idx : ∀ t : Fin cfg0.N, win0_0.index t = ![t.val / 4, t.val % 2, 0] ∧ win0_1.index t = ![2 * (t.val / 2 % 2), t.val / 4, 0, 0]
    ∧ win0_2.index t = ![2 * (t.val / 2 % 2) + 1, t.val / 4, 0, 0] ∧ win0_3.index t = ![t.val % 2, 9 + 2 * (t.val / 4) + t.val / 2 % 2]
    ∧ win0_4.index t = ![t.val % 2, t.val / 2 % 2] ∧ win0_5.index t = ![t.val % 2, 9 + 2 * (t.val / 4) + t.val / 2 % 2]
    ∧ win0_6.index t = ![t.val / 2 % 2, t.val / 4, 0, 0] ∧ win0_7.index t = ![t.val / 4, 0, 0] :=
  (by decide +kernel : ∀ t : Fin grid0.N, _)

section Launch

variable (m : (ℓ : Loc nD τ sig) → Buf (Elt Ideal) ℓ) (c : Dev nD)

/-- The arguments. -/
abbrev Z : S3x2048x512.Idx → EReal := m ((c : Thread nD τ).loc main_arg0)
abbrev P : S2048x7680.Idx → EReal := m ((c : Thread nD τ).loc main_arg1)
abbrev W : S3x512x1024.Idx → EReal := m ((c : Thread nD τ).loc main_arg2)
abbrev D : S2048x1024.Idx → EReal := m ((c : Thread nD τ).loc main_arg3)

theorem iblk0 (t : Fin cfg0.N) : iblk m c 0 t = zb (Z m c) (pn t) (pi t) := by
  funext i
  unfold iblk
  entry_read
  have he : ((cfg0.win 0).blk t).view.emb i = ix3 (pn t) (row (pi t) (i 1)) (i 2) := by blk_ext [idx t, row, pn, pi]
  rw [View.read_apply, he]
  rfl

theorem iblk1 (t : Fin cfg0.N) : iblk m c 1 t = wb (W m c) (pn t) (pu t) 0 := by
  funext i
  unfold iblk
  entry_read
  have he : ((cfg0.win 1).blk t).view.emb i = ix4 (⟨2 * (t.val / 2 % 2), by omega⟩ : Fin 4) (pn t) (i 2) (i 3) := by blk_ext [idx t, pn]
  rw [View.read_apply, he]
  pointwise
  exact congrArg (fun e => W m c (ix3 (pn t) (i 2) e)) (Fin.ext (show 2 * (t.val / 2 % 2) * 256 + (i 3).val = t.val / 2 % 2 * 512 + (0 * 256 + (i 3).val) by omega))

theorem iblk2 (t : Fin cfg0.N) : iblk m c 2 t = wb (W m c) (pn t) (pu t) 1 := by
  funext i
  unfold iblk
  entry_read
  have he : ((cfg0.win 2).blk t).view.emb i = ix4 (⟨2 * (t.val / 2 % 2) + 1, by omega⟩ : Fin 4) (pn t) (i 2) (i 3) := by blk_ext [idx t, pn]
  rw [View.read_apply, he]
  pointwise
  exact congrArg (fun e => W m c (ix3 (pn t) (i 2) e)) (Fin.ext (show (2 * (t.val / 2 % 2) + 1) * 256 + (i 3).val = t.val / 2 % 2 * 512 + (1 * 256 + (i 3).val) by omega))

theorem iblk3 (t : Fin cfg0.N) : iblk m c 3 t = pb (P m c) (pn t) (pi t) (pu t) := by
  funext i
  unfold iblk
  entry_read
  have he : ((cfg0.win 3).blk t).view.emb i = ix2 (row (pi t) (i 0)) (gateCol (pn t) (col (pu t) (i 1))) := by blk_ext [idx t, row, gateCol, col, pn, pi, pu]
  rw [View.read_apply, he]
  rfl

theorem iblk4 (t : Fin cfg0.N) : iblk m c 4 t = db (D m c) (pi t) (pu t) := by
  funext i
  unfold iblk
  entry_read
  have he : ((cfg0.win 4).blk t).view.emb i = ix2 (row (pi t) (i 0)) (col (pu t) (i 1)) := by blk_ext [idx t, row, col, pi, pu]
  rw [View.read_apply, he]
  rfl

theorem dpAt_apply (t : Fin cfg0.N) (r : Fin 1024) (q : Fin 512) :
    dpAt m c t (ix2 r q) = gateGrad (Z m c) (P m c) (W m c) (D m c) (pn t) (row (pi t) r) (col (pu t) q) := by
  unfold dpAt
  rw [iblk0, iblk1, iblk2, iblk3, iblk4]
  exact gateBlk_apply _ _ _ _ _ _ _ _ _

theorem weightAt_apply (t : Fin cfg0.N) (k q : Fin 512) : weightAt m c t (ix2 k q) = weightPart (Z m c) (P m c) (D m c) (pn t) (pi t) k (col (pu t) q) := by
  unfold weightAt
  rw [iblk0, iblk3, iblk4]
  exact weightBlk_apply _ _ _ _ _ _ _ _

theorem branchAt_apply (t : Fin cfg0.N) (r : Fin 1024) (k : Fin 512) :
    branchAt m c t (ix2 r k) = branchPart (P m c) (W m c) (D m c) (pn t) (pu t) (row (pi t) r) k := by
  unfold branchAt
  rw [iblk1, iblk2, iblk3, iblk4]
  exact branchBlk_apply _ _ _ _ _ _ _ _

/-- The weights' gradient as a column half's second point leaves it. -/
theorem dwAt_apply (t : Fin cfg0.N) (h : t.val % 2 = 1) (e : Fin 2) (k : Fin 512) (l : Fin 256) :
    dwAt m c t (ix4 e 0 k l) = weightGrad (Z m c) (P m c) (D m c) (pn t) k (col (pu t) (half e l)) := by
  rw [dwAt_next m c t (by omega), dwAt_first m c (prev t) (show (t.val - 1) % 2 = 0 by omega), nextW_apply, firstW_apply, weightAt_apply, weightAt_apply,
    ← weightPart_add]
  rw [show pn (prev t) = pn t from Fin.ext (show (t.val - 1) / 4 = t.val / 4 by omega), show pu (prev t) = pu t from Fin.ext (show (t.val - 1) / 2 % 2 = t.val / 2 % 2 by omega),
    show pi (prev t) = 0 from Fin.ext (show (t.val - 1) % 2 = 0 by omega), show pi t = 1 from Fin.ext h]

/-- The branch's gradient as a branch's last point leaves it. -/
theorem dz3_apply (n : ℕ) (hn : n < 3) (i : Fin 2) (r : Fin 1024) (k : Fin 512) :
    dz3 m c n hn (ix3 0 (row i r) k) = branchGrad (P m c) (W m c) (D m c) ⟨n, hn⟩ (row i r) k := by
  have hp : ∀ j (hj : j < 4), pn (pt n j hn hj) = ⟨n, hn⟩ := fun j hj => Fin.ext (show (4 * n + j) / 4 = n by omega)
  have hu : ∀ j (hj : j < 4) (u : Fin 2), u.val = j / 2 → pu (pt n j hn hj) = u := fun j hj u h => Fin.ext (show (4 * n + j) / 2 % 2 = u.val by omega)
  have hi : ∀ j (hj : j < 4) (i : Fin 2), i.val = j % 2 → pi (pt n j hn hj) = i := fun j hj u h => Fin.ext (show (4 * n + j) % 2 = u.val by omega)
  rw [← branchPart_add]
  unfold dz3 dz2 dz1
  match i with
  | ⟨0, _⟩ =>
    refine (summed0 (by decide) (by decide) _ _ _ _ _ _ _ r k).trans ?_
    rw [branchAt_apply, branchAt_apply, hp, hp, hu 0 _ 0 rfl, hu 2 _ 1 rfl, hi 0 _ 0 rfl, hi 2 _ 0 rfl]
    rfl
  | ⟨1, _⟩ =>
    refine (summed1 (by decide) (by decide) _ _ _ _ _ _ _ r k).trans ?_
    rw [branchAt_apply, branchAt_apply, hp, hp, hu 1 _ 0 rfl, hu 3 _ 1 rfl, hi 1 _ 1 rfl, hi 3 _ 1 rfl]
    rfl

/-! ## The result arrays -/

/-- The gates' gradient, in its columns. -/
theorem final5 (n : Fin 3) (r : Fin 2048) (k : Fin 1024) :
    (dats m 0 c).arrAt 5 cfg0.N (ix2 r (gateCol n k)) = gateGrad (Z m c) (P m c) (W m c) (D m c) n r k := by
  have h : (dats m 0 c).arrAt 5 cfg0.N = fun i : S2048x7680.Idx => if 4608 ≤ (i 1).val then
      gateGrad (Z m c) (P m c) (W m c) (D m c) ⟨((i 1).val - 4608) / 1024, by have h1 : (i 1).val < 7680 := (i 1).isLt; omega⟩ (i 0) ⟨((i 1).val - 4608) % 1024, by omega⟩
      else (dats m 0 c).A 5 i := by
    refine (dats m 0 c).arrAt_eq_of_coversWhere 5 _ (fun β => 9 ≤ β (1 : Fin 2)) (by decide +kernel) (fun t hf y => ?_) (fun j => ?_)
    · rw [after0_5]
      have h0 : (y 0).val < 1024 := (y 0).isLt
      have h1 : (y 1).val < 512 := (y 1).isLt
      have hx : (cfg0.win 5).xinj (cfg0.grid.coords t) y = ix2 (y 0) (y 1) := by blk_ext
      have he : ((cfg0.win 5).blk t).view.emb y = ix2 (row (pi t) (y 0)) (gateCol (pn t) (col (pu t) (y 1))) := by blk_ext [idx t, row, gateCol, col, pn, pi, pu]
      rw [hx, he]
      refine (dpAt_apply m c t (y 0) (y 1)).trans ?_
      have hn := branch_lt t
      refine congr (congrArg (fun n => gateGrad (Z m c) (P m c) (W m c) (D m c) n (row (pi t) (y 0))) (Fin.ext ?_)) (Fin.ext ?_)
      · show t.val / 4 = (4608 + (t.val / 4 * 1024 + (t.val / 2 % 2 * 512 + (y 1).val)) - 4608) / 1024
        omega
      · show t.val / 2 % 2 * 512 + (y 1).val = (4608 + (t.val / 4 * 1024 + (t.val / 2 % 2 * 512 + (y 1).val)) - 4608) % 1024
        omega
    · blk_simp [Pipeline.Window.cell_apply]; omega
  rw [h]
  refine (if_pos (show 4608 ≤ (gateCol n k).val from Nat.le_add_right _ _)).trans ?_
  refine congr (congrArg (fun n => gateGrad (Z m c) (P m c) (W m c) (D m c) n r) (Fin.ext ?_)) (Fin.ext ?_)
  · show (4608 + (n.val * 1024 + k.val) - 4608) / 1024 = n.val
    omega
  · show (4608 + (n.val * 1024 + k.val) - 4608) % 1024 = k.val
    omega

/-- The weights' gradient. -/
theorem final6 (q : Fin 4) (n : Fin 3) (k : Fin 512) (l : Fin 256) :
    (dats m 0 c).arrAt 6 cfg0.N (ix4 q n k l) = weightGrad (Z m c) (P m c) (D m c) n k ⟨q.val * 256 + l.val, by omega⟩ := by
  have h : (dats m 0 c).arrAt 6 cfg0.N = fun i : S4x3x512x256.Idx => weightGrad (Z m c) (P m c) (D m c) (i 1) (i 2) ⟨(i 0).val * 256 + (i 3).val, by
      have h0 : (i 0).val < 4 := (i 0).isLt; have h3 : (i 3).val < 256 := (i 3).isLt; omega⟩ := by
    refine (dats m 0 c).arrAt_eq_of_covers 6 _ (by decide +kernel) fun t hf y => ?_
    rw [after0_6]
    have h0 : (y 0).val < 2 := (y 0).isLt
    have hx : (cfg0.win 6).xinj (cfg0.grid.coords t) y = ix4 (y 0) 0 (y 2) (y 3) := by blk_ext
    have he : ((cfg0.win 6).blk t).view.emb y = ix4 (⟨2 * (t.val / 2 % 2) + (y 0).val, by omega⟩ : Fin 4) (pn t) (y 2) (y 3) := by blk_ext [idx t, pn]
    rw [hx, he]
    refine (dwAt_apply m c t ((flush0_6 t).mp hf) (y 0) (y 2) (y 3)).trans ?_
    refine congrArg (weightGrad (Z m c) (P m c) (D m c) (pn t) (y 2)) (Fin.ext ?_)
    show t.val / 2 % 2 * 512 + ((y 0).val * 256 + (y 3).val) = (2 * (t.val / 2 % 2) + (y 0).val) * 256 + (y 3).val
    omega
  rw [h]
  rfl

/-- The branches' gradient. -/
theorem final7 (n : Fin 3) (r : Fin 2048) (k : Fin 512) :
    (dats m 0 c).arrAt 7 cfg0.N (ix3 n r k) = branchGrad (P m c) (W m c) (D m c) n r k := by
  have h : (dats m 0 c).arrAt 7 cfg0.N = fun i : S3x2048x512.Idx => branchGrad (P m c) (W m c) (D m c) (i 0) (i 1) (i 2) := by
    refine (dats m 0 c).arrAt_eq_of_covers 7 _ (by decide +kernel) fun t hf y => ?_
    rw [after0_7]
    have h1 : (y 1).val < 2048 := (y 1).isLt
    have hx : (cfg0.win 7).xinj (cfg0.grid.coords t) y = ix3 0 (row ⟨(y 1).val / 1024, by omega⟩ ⟨(y 1).val % 1024, by omega⟩) (y 2) := by blk_ext [row]
    have he : ((cfg0.win 7).blk t).view.emb y = ix3 (pn t) (row ⟨(y 1).val / 1024, by omega⟩ ⟨(y 1).val % 1024, by omega⟩) (y 2) := by blk_ext [idx t, pn, row]
    rw [hx, he]
    have ht := (flush0_7 t).mp hf
    unfold dzAt
    rw [if_neg (by omega), if_neg (by omega)]
    exact dz3_apply m c _ _ _ _ _
  rw [h]
  rfl

end Launch

end Cert.MergeBwdValue

end
-- ==== Proof.MergeBwdClaim.lean ====
/-
  THE CLAIMS OF `merge_bwd`, assembled: the kernel's run at the extended reals and at the machine's words, the reference's run, and that
  over the extended reals the kernel's three results are the reference's wherever the call writes.
-/
module

public import proofs.«01_k».proof.Defs
public import proofs.«01_k».proof.Proof.MergeBwdRun
public import proofs.«01_k».proof.Proof.MergeBwdValue
public import proofs.«01_k».proof.Proof.MergeBwdReference
public import proofs.«01_k».proof.Proof.Gen.MergeBwd.Frame
public import proofs.«01_k».proof.Proof.Gen.MergeBwdRefIdeal.Run
public import proofs.«01_k».proof.Proof.Gen.On_merge_bwd_written
public import Idealize.ShloMosaic.Lib.Quiescent

@[expose] public section

set_option maxRecDepth 16384

noncomputable section

namespace Cert.MergeBwdClaim

open Idealize.ShloMosaic Idealize.SL.Sem Cert.Reals

/-- The kernel runs at the extended reals: its arguments end unchanged and its counters at zero. -/
theorem frame_ideal : Cert.quiescent_MergeBwdIdeal := fun m ρ _ => Cert.MergeBwdIdeal.frame m ρ

/-- The two printed programs have the same functions at the machine's words. -/
theorem defs_eq : (Cert.MergeBwd.defs (F := Bits)) = Cert.MergeBwdIdeal.defs (F := Bits) := by sl_kernel_rfl

/-- The two printed programs have the same entry at the machine's words. -/
theorem main_eq : (Cert.MergeBwd.main (F := Bits)) = Cert.MergeBwdIdeal.main (F := Bits) := by sl_kernel_rfl

/-- The kernel runs at the machine's words: its arguments end unchanged and its counters at zero. -/
theorem frame_bits : Cert.quiescent_MergeBwd := fun m ρ _ => by
  have h := Cert.MergeBwdIdeal.frame (F := Bits) m ρ
  rw [← defs_eq, ← main_eq] at h
  exact h

/-- The reference runs, its arguments end unchanged and its counters at zero. -/
theorem reference_runs : Cert.quiescent_MergeBwdRefIdeal := fun m ρ _ =>
  (θ_run Cert.MergeBwdRefIdeal.defs _ _).mono (fun r h => ⟨fun c => (h c).2.2.2, sem_eq_zero_of_no_sems (by decide) r.2⟩)
    (Cert.MergeBwdRefIdeal.Value.run (F := Ideal) m ρ)

/-- Over the extended reals the kernel's results are the reference's where the call writes: the gates' columns of the projections'
cotangent, the gradient of the branches' weights, and the gradient of the branches' outputs. -/
theorem algebraic : Cert.algebraic_MergeBwdIdeal_MergeBwdRefIdeal_on_merge_bwd_written := by
  intro m ρ m' ρ' _ hagree
  refine ⟨fun c => (Cert.MergeBwdIdeal.dats m 0 c).arrAt 5 Cert.MergeBwdIdeal.cfg0.N, fun c => (Cert.MergeBwdIdeal.dats m 0 c).arrAt 6 Cert.MergeBwdIdeal.cfg0.N,
    fun c => (Cert.MergeBwdIdeal.dats m 0 c).arrAt 7 Cert.MergeBwdIdeal.cfg0.N, ?_, ?_⟩
  · exact (θ_run Cert.MergeBwdIdeal.defs _ _).mono
      (fun _ h c => ⟨fun i _ => congrFun (h c).1 i, fun i _ => congrFun (h c).2.1 i, fun i _ => congrFun (h c).2.2.1 i, (h c).2.2.2⟩)
      (Cert.MergeBwdIdeal.run_results (F := Ideal) m ρ)
  refine (θ_run Cert.MergeBwdRefIdeal.defs _ _).mono (fun _ h c => ⟨fun i hi => ?_, fun i _ => ?_, fun i _ => ?_, (h c).2.2.2⟩)
    (Cert.MergeBwdRefIdeal.Value.run (F := Ideal) m' ρ')
  all_goals obtain ⟨e0, e1, e2, e3⟩ := hagree c
  · refine (congrFun ((h c).1.trans (Cert.MergeBwdRefIdeal.Read.val_main_v36_eq _ _ _ _)) i).trans ?_
    refine (congrFun (congr (congr (congr (congrArg Cert.MergeBwdRefIdeal.Read.val_main_v36 e0) e1) e2) e3) i).trans ?_
    rw [eq_ix2 i] at hi ⊢
    obtain ⟨n, k, hk⟩ := MergeBwdReference.gateCol_of_le (i 1) (MergeBwdReference.written _ _ _ _ (i 0) (i 1) hi)
    rw [hk]
    exact (MergeBwdReference.v36_apply _ _ _ _ n (i 0) k).trans (MergeBwdValue.final5 m c n (i 0) k).symm
  · refine (congrFun ((h c).2.1.trans (Cert.MergeBwdRefIdeal.Read.val_main_v38_eq _ _ _)) i).trans ?_
    refine (congrFun (congr (congr (congrArg Cert.MergeBwdRefIdeal.Read.val_main_v38 e0) e1) e3) i).trans ?_
    rw [eq_ix4 i]
    exact (MergeBwdReference.v38_apply _ _ _ (i 0) (i 1) (i 2) (i 3)).trans (MergeBwdValue.final6 m c (i 0) (i 1) (i 2) (i 3)).symm
  · refine (congrFun ((h c).2.2.1.trans (Cert.MergeBwdRefIdeal.Read.val_main_v32_eq _ _ _)) i).trans ?_
    refine (congrFun (congr (congr (congrArg Cert.MergeBwdRefIdeal.Read.val_main_v32 e1) e2) e3) i).trans ?_
    rw [eq_ix3 i]
    exact (MergeBwdReference.v32_apply _ _ _ (i 0) (i 1) (i 2)).trans (MergeBwdValue.final7 m c (i 0) (i 1) (i 2)).symm

end Cert.MergeBwdClaim

end
-- ==== Proof.SgFwdForm.lean ====
/-
  THE CHUNKED CAUSAL GATING over the extended reals: what both sides of `sg_fwd` are shown to hold. A chunk is 128 rows of 512
  columns, its columns in four groups of 128; the half `u` gates, the half `v` is normalised along its row and mixed along the
  chunk's rows by a lower triangular weight.
-/
module

public import proofs.«01_k».proof.Proof.SgReal

@[expose] public section

noncomputable section

namespace Cert.SgFwdForm

open Idealize.ShloMosaic Cert.Reals

/-- The activation: `x` times a half of one plus the hyperbolic tangent of a cubic. -/
def gelu (x : EReal) : EReal :=
  x * (Ideal.ofBits .f32 0x3F000000#32 * (1 + Ideal.tanh (Ideal.ofBits .f32 0x3F4C422A#32 * (x + ((SgReal.A : ℝ) : EReal) * (x * x * x)))))

/-- A row less its mean, -/
def cen (x : Fin 512 → EReal) (l : Fin 512) : EReal := x l - Ideal.div (∑ k, x k) (Ideal.ofBits .f32 0x44000000#32)
/-- and the row normalised, scaled and moved. -/
def scaled (x g b : Fin 512 → EReal) (l : Fin 512) : EReal :=
  cen x l * Ideal.rsqrt (Ideal.div (∑ k, cen x k * cen x k) (Ideal.ofBits .f32 0x44000000#32) + Ideal.ofBits .f32 0x3727C5AC#32) * g l + b l

/-- The group a column is of. -/
def grp (l : Fin 512) : Fin 4 := ⟨l.val / 128, by omega⟩

/-- A chunk's rows mixed. -/
def mixed (v : Fin 128 → Fin 512 → EReal) (g b : Fin 512 → EReal) (w : Fin 4 → Fin 128 → Fin 128 → EReal) (s : Fin 4 → Fin 128 → EReal)
    (t : Fin 128) (l : Fin 512) : EReal :=
  (∑ k : Fin 128, (if k ≤ t then w (grp l) t k else 0) * scaled (fun l => gelu (v k l)) g b l) + s (grp l) t

/-- A chunk's result. -/
def chunk (u v : Fin 128 → Fin 512 → EReal) (g b : Fin 512 → EReal) (w : Fin 4 → Fin 128 → Fin 128 → EReal) (s : Fin 4 → Fin 128 → EReal)
    (t : Fin 128) (l : Fin 512) : EReal := gelu (u t l) * mixed v g b w s t l

/-- The rows of a chunk's half that begins at column `o`. -/
def half (p : (⟨2, ![2048, 7680]⟩ : Shape).Idx → EReal) (o : ℕ) (ho : o ≤ 7168) (n : Fin 16) : Fin 128 → Fin 512 → EReal :=
  fun t l => p (ix2 ⟨n.val * 128 + t.val, by omega⟩ ⟨o + l.val, by omega⟩)

/-- The result at a row of the whole: its chunk's. -/
def out (p : (⟨2, ![2048, 7680]⟩ : Shape).Idx → EReal) (g b : (⟨1, ![512]⟩ : Shape).Idx → EReal) (w : (⟨3, ![4, 128, 128]⟩ : Shape).Idx → EReal)
    (s : (⟨2, ![4, 128]⟩ : Shape).Idx → EReal) (r : Fin 2048) (l : Fin 512) : EReal :=
  chunk (half p 3584 (by omega) ⟨r.val / 128, by omega⟩) (half p 4096 (by omega) ⟨r.val / 128, by omega⟩) (fun l => g (ix1 l)) (fun l => b (ix1 l))
    (fun q t k => w (ix3 q t k)) (fun q t => s (ix2 q t)) ⟨r.val % 128, by omega⟩ l

end Cert.SgFwdForm

end
-- ==== Proof.SgFwdReference.lean ====
/-
  THE REFERENCE OF `sg_fwd` at an index: the gated rows `main_v68`, and the array of the three branches with the third replaced
  (`main_v71`).
-/
module

public import proofs.«01_k».proof.Proof.Gen.SgFwdRefIdeal.Read
public import proofs.«01_k».proof.Proof.SgFwdForm
public import proofs.«01_k».proof.Proof.SgBwdChunk
public import Idealize.ShloMosaic.Lib.WordCmp
public import Idealize.ShloMosaic.Lib.Pipeline.ValueKit

@[expose] public section

set_option maxRecDepth 16384

noncomputable section

namespace Cert.SgFwdReference

open Cert.SgFwdRefIdeal Cert.SgFwdRefIdeal.Read Idealize.ShloMosaic Cert.Reals
open Cert.SgFwdForm (gelu cen scaled grp mixed chunk half out)

variable (p : (⟨S2048x7680, .f32⟩ : BufTy).Contents (Elt Ideal)) (g b : (⟨S512, .f32⟩ : BufTy).Contents (Elt Ideal))
  (w : (⟨S4x128x128, .f32⟩ : BufTy).Contents (Elt Ideal)) (s : (⟨S4x128, .f32⟩ : BufTy).Contents (Elt Ideal))
  (z : (⟨S3x2048x512, .bf16⟩ : BufTy).Contents (Elt Ideal))

theorem ofBits_num : Ideal.ofBits .f32 0x472EAB00#32 = ((44715 : ℝ) : EReal) := by
  simp [Ideal.ofBits, Ideal.ieee, -EReal.coe_mul]; norm_num
theorem ofBits_den : Ideal.ofBits .f32 0x49742400#32 = ((1000000 : ℝ) : EReal) := by
  simp [Ideal.ofBits, Ideal.ieee, -EReal.coe_mul]; norm_num

/-- The cubic term's factor. -/
theorem factor : Ideal.div ((44715 : ℝ) : EReal) ((1000000 : ℝ) : EReal) = ((SgReal.A : ℝ) : EReal) := by
  rw [div_coe_coe _ _ (by norm_num), SgReal.A]; norm_num

/-! ## The activation of the two halves -/

theorem v17_apply (r : Fin 2048) (l : Fin 512) : val_main_v17 (F := Ideal) p (ix3 0 r l) = gelu (p (ix2 r ⟨3584 + l.val, by omega⟩)) := by
  pointwise [val_main_v17, val_main_v16, val_main_v15, val_main_v14, val_main_v13, val_main_v12, val_main_v11, val_main_v10, val_main_v9, val_main_v8, val_main_v7,
    val_main_v6, val_main_v5, val_main_v4, val_main_v1, val_main_v0, val_main_cst, val_main_cst_0, val_main_cst_1, val_main_cst_2, val_main_cst_3]
  rw [ofBits_num, ofBits_den, factor]
  rfl

theorem v31_apply (r : Fin 2048) (l : Fin 512) : val_main_v31 (F := Ideal) p (ix3 0 r l) = gelu (p (ix2 r ⟨4096 + l.val, by omega⟩)) := by
  pointwise [val_main_v31, val_main_v30, val_main_v29, val_main_v28, val_main_v27, val_main_v26, val_main_v25, val_main_v24, val_main_v23, val_main_v22, val_main_v21,
    val_main_v20, val_main_v19, val_main_v18, val_main_v3, val_main_v2, val_main_cst_4, val_main_cst_5, val_main_cst_6, val_main_cst_7, val_main_cst_8]
  rw [ofBits_num, ofBits_den, factor]
  rfl

/-! ## The norm -/

theorem v37_apply (r : Fin 2048) (l : Fin 512) : val_main_v37 (F := Ideal) p (ix3 0 r l) = cen (fun l => gelu (p (ix2 r ⟨4096 + l.val, by omega⟩))) l := by
  pointwise [val_main_v37, val_main_v36, val_main_v35, val_main_v34, val_main_v33, val_main_v32, val_main_cst_9, val_main_cst_10]
  simp only [v31_apply]
  rfl

theorem v53_apply (r : Fin 2048) (l : Fin 512) : val_main_v53 (F := Ideal) p g b (ix3 0 r l)
    = scaled (fun l => gelu (p (ix2 r ⟨4096 + l.val, by omega⟩))) (fun l => g (ix1 l)) (fun l => b (ix1 l)) l := by
  pointwise [val_main_v53, val_main_v52, val_main_v51, val_main_v50, val_main_v49, val_main_v48, val_main_v47, val_main_v46, val_main_v45, val_main_v44, val_main_v43,
    val_main_v42, val_main_v41, val_main_v40, val_main_v39, val_main_v38, val_main_cst_11, val_main_cst_12, val_main_cst_13]
  simp only [v37_apply]
  rfl

/-! ## The mixing -/

theorem v54_apply (n : Fin 16) (t : Fin 128) (q : Fin 4) (e : Fin 128) : val_main_v54 (F := Ideal) p g b (ix5 0 n t q e)
    = scaled (fun l => gelu (half p 4096 (by omega) n t l)) (fun l => g (ix1 l)) (fun l => b (ix1 l)) ⟨q.val * 128 + e.val, by omega⟩ := by
  pointwise [val_main_v54]
  exact v53_apply p g b _ _

/-- The weights' lower triangle: a weight times the mask's one or zero. -/
theorem v59_apply (q : Fin 4) (t k : Fin 128) : val_main_v59 (F := Ideal) w (ix3 q t k) = if k ≤ t then w (ix3 q t k) else 0 := by
  pointwise [val_main_v59, val_main_v58, val_main_v57, val_main_v56, val_main_v55, val_main_cst_14, val_main_call0_v0, val_main_call0_c, val_main_call0_v1, val_main_call0_v2,
    val_main_call0_v3, val_main_call0_v4, val_main_call0_cst, val_main_call0_v5]
  rw [show IntOp.addi (BitVec.ofNat 32 t.val) 0#32 = BitVec.ofNat 32 t.val from BitVec.add_zero _]
  exact SgBwdChunk.select_ge t.val k.val (by omega) (by omega) _ _

theorem v66_apply (n : Fin 16) (t : Fin 128) (q : Fin 4) (e : Fin 128) : val_main_v66 (F := Ideal) p g b w s (ix5 0 n t q e)
    = mixed (half p 4096 (by omega) n) (fun l => g (ix1 l)) (fun l => b (ix1 l)) (fun q t k => w (ix3 q t k)) (fun q t => s (ix2 q t)) t ⟨q.val * 128 + e.val, by omega⟩ := by
  pointwise [val_main_v66, val_main_v65, val_main_v64, val_main_v63, val_main_v62, val_main_v61, val_main_v60]
  simp only [v54_apply, v59_apply]
  have hq : grp ⟨q.val * 128 + e.val, by omega⟩ = q := Fin.ext (by show (q.val * 128 + e.val) / 128 = q.val; omega)
  unfold mixed
  rw [hq]
  exact congrArg (· + s (ix2 q t)) (Finset.sum_congr rfl fun k _ => mul_comm _ _)

theorem v68_apply (r : Fin 2048) (l : Fin 512) : val_main_v68 (F := Ideal) p g b w s (ix3 0 r l) = out p g b w s r l := by
  pointwise [val_main_v68, val_main_v67]
  rw [v17_apply]
  unfold out chunk
  refine congrArg₂ (· * ·) (congrArg gelu (congrArg p ?_)) ?_
  · exact congrArg (fun a => ix2 a _) (Fin.ext (Nat.div_add_mod' r.val 128).symm)
  rw [v66_apply]
  exact congrArg _ (Fin.ext (Nat.div_add_mod' l.val 128))

/-- The array of the three branches: the third is the gated rows, the others are as they came. -/
theorem v71_apply (e : Fin 3) (r : Fin 2048) (l : Fin 512) : val_main_v71 (F := Ideal) p g b w s z (ix3 e r l)
    = if e.val < 2 then z (ix3 e r l) else out p g b w s r l := by
  pointwise [val_main_v71, val_main_v70, val_main_v69]
  split
  · rfl
  · exact (congrArg (fun j => val_main_v68 (F := Ideal) p g b w s (ix3 j r l)) (Subsingleton.elim (α := Fin 1) _ 0)).trans (v68_apply p g b w s r l)

end Cert.SgFwdReference

end
-- ==== Proof.SgFwdValue.lean ====
/-
  THE VALUE OF `sg_fwd`: what one chunk of 128 rows holds, and the array after the run. A point handles four chunks, each by the
  same arithmetic; the third branch's rows are written, the other branches keep what the array came with.
-/
module

public import proofs.«01_k».proof.Proof.Gen.SgFwdIdeal.Value
public import proofs.«01_k».proof.Proof.SgFwdReference
public import Idealize.ShloMosaic.Lib.Claim
public import Idealize.ShloMosaic.Lib.Pipeline.ValueKit

@[expose] public section

set_option maxRecDepth 16384

noncomputable section

namespace Cert.SgFwdValue

open Cert.SgFwdIdeal Cert.SgFwdIdeal.Gen Idealize.ShloMosaic Idealize.ShloMosaic.TcCoe Idealize.SL.Sem Cert.Reals
open Cert.SgFwdForm (gelu cen scaled grp mixed chunk half out)

/-! ## One chunk -/

/-- The activation's cubic factor is named: it is the decimal fraction written. -/
theorem named_a : Named.named (F := Ideal) κ "gelu_a" (φ := .f32) 0x3D372713#32 = ((SgReal.A : ℝ) : EReal) :=
  IdealRules.named_const.ideal_named_scalar κ "gelu_a" _ _ rfl

/-- The activation as the kernel writes it. -/
theorem gelu_eq (x : EReal) : Ideal.ofBits .f32 0x3F000000#32 * x
    * (1 + Ideal.tanh (Ideal.ofBits .f32 0x3F4C422A#32 * (x + ((SgReal.A : ℝ) : EReal) * x * x * x))) = gelu x := by
  unfold gelu
  rw [mul_comm (Ideal.ofBits .f32 0x3F000000#32) x, mul_assoc x, mul_assoc _ x x, mul_assoc _ x (x * x), ← mul_assoc x x x]

section Chunk

variable (u v : Vec Ideal S128x512 .f32) (g b : Vec Ideal S1x512 .f32) (w0 w1 w2 w3 : Vec Ideal S1x128x128 .f32) (s0 s1 s2 s3 : Vec Ideal S1x128x1 .f32)

theorem pay4_apply (t : Fin 128) (l : Fin 512) : k0_pay4 (F := Ideal) u (ix2 t l) = gelu (u (ix2 t l)) := by
  pointwise [k0_pay4]
  rw [named_a]
  exact gelu_eq _

theorem pay5_apply (t : Fin 128) (l : Fin 512) : k0_pay5 (F := Ideal) v (ix2 t l) = cen (fun l => gelu (v (ix2 t l))) l := by
  pointwise [k0_pay5]
  rw [named_a]
  simp only [gelu_eq]
  rfl

/-- A chunk's rows, normed, scaled and moved. -/
theorem pay7_apply (t : Fin 128) (l : Fin 512) : k0_pay7 (F := Ideal) (k0_pay2 (F := Ideal) g) (k0_pay3 (F := Ideal) b) (k0_pay5 (F := Ideal) v) (k0_pay6 (F := Ideal) v) (ix2 t l)
    = scaled (fun l => gelu (v (ix2 t l))) (fun l => g (ix2 0 l)) (fun l => b (ix2 0 l)) l := by
  pointwise [k0_pay7, k0_pay6, k0_pay2, k0_pay3]
  simp only [pay5_apply]
  rfl

/-- The mask of the lower triangle. -/
theorem pay8_apply (t k : Fin 128) (x y : EReal) : Scalar.select (k0_pay8 (ix2 t k)) x y = if k ≤ t then x else y := by
  pointwise [k0_pay8]
  exact SgBwdChunk.select_ge t.val k.val (by omega) (by omega) _ _

/-- A weight's lower triangle. -/
theorem pay9_apply (t k : Fin 128) : k0_pay9 (F := Ideal) w1 (ix2 t k) = if k ≤ t then w1 (ix3 0 t k) else 0 := by
  pointwise [k0_pay9, k0_pay8]
  exact SgBwdChunk.select_ge t.val k.val (by omega) (by omega) _ _

/-- The rows of a chunk, all four groups of columns. -/
theorem pay13_apply (t : Fin 128) (l : Fin 512) :
    k0_pay13 (F := Ideal) (k0_pay4 (F := Ideal) u) (k0_pay7 (F := Ideal) (k0_pay2 (F := Ideal) g) (k0_pay3 (F := Ideal) b) (k0_pay5 (F := Ideal) v) (k0_pay6 (F := Ideal) v))
        (k0_pay9 (F := Ideal) w1) (k0_pay10 (F := Ideal) w2) (k0_pay11 (F := Ideal) w3)
        (k0_pay12 (F := Ideal) (k0_pay2 (F := Ideal) g) (k0_pay3 (F := Ideal) b) (k0_pay5 (F := Ideal) v) (k0_pay6 (F := Ideal) v) w0) s0 s1 s2 s3 (ix3 0 t l)
      = chunk (fun t l => u (ix2 t l)) (fun t l => v (ix2 t l)) (fun l => g (ix2 0 l)) (fun l => b (ix2 0 l))
          (fun q t k => (![w0, w1, w2, w3] : Fin 4 → Vec Ideal S1x128x128 .f32) q (ix3 0 t k))
          (fun q t => (![s0, s1, s2, s3] : Fin 4 → Vec Ideal S1x128x1 .f32) q (ix3 0 t 0)) t l := by
  have e9 : ∀ w, k0_pay10 (F := Ideal) w = k0_pay9 (F := Ideal) w := fun _ => rfl
  have e10 : ∀ w, k0_pay11 (F := Ideal) w = k0_pay9 (F := Ideal) w := fun _ => rfl
  have e11 : k0_pay12 (F := Ideal) (k0_pay2 (F := Ideal) g) (k0_pay3 (F := Ideal) b) (k0_pay5 (F := Ideal) v) (k0_pay6 (F := Ideal) v) w0
      = fun i => ∑ k : Fin 128, k0_pay9 (F := Ideal) w0 (ix2 (i 0) k)
          * scaled (fun l => gelu (v (ix2 k l))) (fun l => g (ix2 0 l)) (fun l => b (ix2 0 l)) ⟨(i 1).val, by have := (i 1).isLt; show _ < 512; exact lt_trans this (by decide)⟩ := by
    funext i
    obtain ⟨a, d, rfl⟩ : ∃ a d : Fin 128, i = ix2 a d := ⟨i 0, i 1, eq_ix2 i⟩
    pointwise [k0_pay12]
    simp only [pay7_apply]
    refine Finset.sum_congr rfl fun k _ => ?_
    rw [pay9_apply, ite_mul, zero_mul]
    exact pay8_apply a k _ _
  have key : ∀ (q : Fin 4) (W : Vec Ideal S1x128x128 .f32) (S : Vec Ideal S1x128x1 .f32) (x : Fin 512), grp l = q → x = l → (![w0, w1, w2, w3] : Fin 4 → Vec Ideal S1x128x128 .f32) q = W
      → (![s0, s1, s2, s3] : Fin 4 → Vec Ideal S1x128x1 .f32) q = S
      → (∑ k : Fin 128, (if k ≤ t then W (ix3 0 t k) else 0) * scaled (fun l => gelu (v (ix2 k l))) (fun l => g (ix2 0 l)) (fun l => b (ix2 0 l)) x) + S (ix3 0 t 0)
        = (∑ k : Fin 128, (if k ≤ t then (![w0, w1, w2, w3] : Fin 4 → Vec Ideal S1x128x128 .f32) (grp l) (ix3 0 t k) else 0)
            * scaled (fun l => gelu (v (ix2 k l))) (fun l => g (ix2 0 l)) (fun l => b (ix2 0 l)) l) + (![s0, s1, s2, s3] : Fin 4 → Vec Ideal S1x128x1 .f32) (grp l) (ix3 0 t 0) := by
    intro q W S x hq hx hW hS
    rw [hq, hW, hS, hx]
  rw [e9, e10, e11]
  pointwise [k0_pay13]
  simp only [pay9_apply, pay7_apply, pay4_apply]
  unfold chunk mixed
  refine congrArg _ ?_
  by_cases h0 : l.val < 128
  · rw [dif_pos h0]
    have hq : grp l = 0 := Fin.ext (by show l.val / 128 = 0; omega)
    exact key 0 w0 s0 l hq rfl rfl rfl
  rw [dif_neg h0]
  by_cases h1 : l.val - 128 < 128
  · rw [dif_pos h1]
    have hq : grp l = 1 := Fin.ext (by show l.val / 128 = 1; omega)
    exact key 1 w1 s1 ⟨128 + (l.val - 128), by omega⟩ hq (Fin.ext (by show 128 + (l.val - 128) = l.val; omega)) rfl rfl
  rw [dif_neg h1]
  by_cases h2 : l.val - 128 - 128 < 128
  · rw [dif_pos h2]
    have hq : grp l = 2 := Fin.ext (by show l.val / 128 = 2; omega)
    exact key 2 w2 s2 ⟨256 + (l.val - 128 - 128), by omega⟩ hq (Fin.ext (by show 256 + (l.val - 128 - 128) = l.val; omega)) rfl rfl
  · rw [dif_neg h2]
    have hl := l.isLt
    have hq : grp l = 3 := Fin.ext (by show l.val / 128 = 3; omega)
    exact key 3 w3 s3 ⟨384 + (l.val - 128 - 128 - 128), by omega⟩ hq (Fin.ext (by show 384 + (l.val - 128 - 128 - 128) = l.val; omega)) rfl rfl

/-- A chunk's rows as the kernel forms them. -/
def chunkRows : Vec Ideal S1x128x512 .bf16 :=
  k0_pay13 (F := Ideal) (k0_pay4 (F := Ideal) u) (k0_pay7 (F := Ideal) (k0_pay2 (F := Ideal) g) (k0_pay3 (F := Ideal) b) (k0_pay5 (F := Ideal) v) (k0_pay6 (F := Ideal) v))
    (k0_pay9 (F := Ideal) w1) (k0_pay10 (F := Ideal) w2) (k0_pay11 (F := Ideal) w3)
    (k0_pay12 (F := Ideal) (k0_pay2 (F := Ideal) g) (k0_pay3 (F := Ideal) b) (k0_pay5 (F := Ideal) v) (k0_pay6 (F := Ideal) v) w0) s0 s1 s2 s3

/-- The second chunk of a block, -/
theorem rows1_eq : k0_pay23 (F := Ideal) (k0_pay15 (F := Ideal) u) (k0_pay16 (F := Ideal) v (k0_pay14 (F := Ideal) g) b) (k0_pay18 (F := Ideal) w2) (k0_pay19 (F := Ideal) w3)
    (k0_pay20 (F := Ideal) (k0_pay16 (F := Ideal) v (k0_pay14 (F := Ideal) g) b) w0 s0) (k0_pay21 (F := Ideal) (k0_pay16 (F := Ideal) v (k0_pay14 (F := Ideal) g) b) w1) (k0_pay22 (F := Ideal) s1) s2 s3
    = chunkRows u v g b w0 w1 w2 w3 s0 s1 s2 s3 := rfl

/-- the third -/
theorem rows2_eq : k0_pay37 (F := Ideal) (k0_pay28 (F := Ideal) (k0_pay26 (F := Ideal) u) (k0_pay27 (F := Ideal) u)) (k0_pay32 (F := Ideal) (k0_pay30) w3)
    (k0_pay33 (F := Ideal) (k0_pay29 (F := Ideal) v (k0_pay24 (F := Ideal) g) (k0_pay25 (F := Ideal) b)) (k0_pay31 (F := Ideal) w0) s0)
    (k0_pay34 (F := Ideal) (k0_pay29 (F := Ideal) v (k0_pay24 (F := Ideal) g) (k0_pay25 (F := Ideal) b)) (k0_pay30) w1 s1)
    (k0_pay35 (F := Ideal) (k0_pay29 (F := Ideal) v (k0_pay24 (F := Ideal) g) (k0_pay25 (F := Ideal) b)) (k0_pay30) w2 s2)
    (k0_pay36 (F := Ideal) (k0_pay29 (F := Ideal) v (k0_pay24 (F := Ideal) g) (k0_pay25 (F := Ideal) b))) s3
    = chunkRows u v g b w0 w1 w2 w3 s0 s1 s2 s3 := rfl

/-- and the fourth are formed alike. -/
theorem rows3_eq : k0_pay1 (F := Ideal) (k0_pay48 (F := Ideal) (k0_pay40 (F := Ideal) u) (k0_pay42 (F := Ideal) v (k0_pay38 (F := Ideal) g) (k0_pay39 (F := Ideal) b) (k0_pay41 (F := Ideal) v))
    k0_pay43 (k0_pay44 (F := Ideal) w0) (k0_pay45 (F := Ideal) w1) (k0_pay46 (F := Ideal) w2) (k0_pay47 (F := Ideal)) w3 s0 s1 s2 s3)
    = chunkRows u v g b w0 w1 w2 w3 s0 s1 s2 s3 := rfl

end Chunk

variable (m : (ℓ : Loc nD τ sig) → Buf (Elt Ideal) ℓ) (c : Dev nD)

/-- The windows' block indices at a point. -/
theorem idx : ∀ t : Fin cfg0.N, win0_0.index t = ![t.val, 7] ∧ win0_1.index t = ![t.val, 8] ∧ win0_2.index t = ![0, 0] ∧ win0_3.index t = ![0, 0]
    ∧ win0_4.index t = ![0, 0, 0] ∧ win0_5.index t = ![0, 0, 0] ∧ win0_6.index t = ![2, t.val, 0] :=
  (by decide +kernel : ∀ t : Fin grid0.N, _)

theorem lt (t : Fin cfg0.N) : t.val < 4 := lt_of_lt_of_eq t.isLt N_0

/-- The arguments: the projections, the gain, the offset, the mixing weights, the biases and the branches' array. -/
abbrev ps := m ((c : Thread nD τ).loc main_arg0)
abbrev gs := m ((c : Thread nD τ).loc main_arg1)
abbrev bs := m ((c : Thread nD τ).loc main_arg2)
abbrev ws := m ((c : Thread nD τ).loc main_arg3)
abbrev ss := m ((c : Thread nD τ).loc main_arg4)
abbrev zs := m ((c : Thread nD τ).loc main_arg5)

/-- The row of the whole that a place of point `t`'s block is. -/
def row (t : Fin cfg0.N) (r : Fin 512) : Fin 2048 := ⟨t.val * 512 + r.val, by have := lt t; omega⟩

theorem V_v0 (l : Fin 512) : V m c main_v0 (ix2 0 l) = gs m c (ix1 l) := by
  unfold V
  entry_read
  pointwise

theorem V_v1 (l : Fin 512) : V m c main_v1 (ix2 0 l) = bs m c (ix1 l) := by
  unfold V
  entry_read
  pointwise

theorem V_v2 (q : Fin 4) (t : Fin 128) : V m c main_v2 (ix3 q t 0) = ss m c (ix2 q t) := by
  unfold V
  entry_read
  pointwise

theorem iblk_0 (t : Fin cfg0.N) (i l : Fin 512) : iblk m c 0 t (ix2 i l) = ps m c (ix2 (row t i) ⟨3584 + l.val, by omega⟩) := by
  unfold iblk
  have he : ((cfg0.win 0).blk t).view.emb (ix2 i l) = ix2 (row t i) (⟨3584 + l.val, by omega⟩ : Fin 7680) := by blk_ext [idx t, row]
  rw [View.read_apply, he]
  rfl

theorem iblk_1 (t : Fin cfg0.N) (i l : Fin 512) : iblk m c 1 t (ix2 i l) = ps m c (ix2 (row t i) ⟨4096 + l.val, by omega⟩) := by
  unfold iblk
  have he : ((cfg0.win 1).blk t).view.emb (ix2 i l) = ix2 (row t i) (⟨4096 + l.val, by omega⟩ : Fin 7680) := by blk_ext [idx t, row]
  rw [View.read_apply, he]
  rfl

theorem iblk_2 (t : Fin cfg0.N) (l : Fin 512) : iblk m c 2 t (ix2 0 l) = gs m c (ix1 l) := by
  unfold iblk
  have he : ((cfg0.win 2).blk t).view.emb (ix2 0 l) = ix2 (0 : Fin 1) l := by blk_ext [idx t]
  rw [View.read_apply, he]
  exact V_v0 m c l

theorem iblk_3 (t : Fin cfg0.N) (l : Fin 512) : iblk m c 3 t (ix2 0 l) = bs m c (ix1 l) := by
  unfold iblk
  have he : ((cfg0.win 3).blk t).view.emb (ix2 0 l) = ix2 (0 : Fin 1) l := by blk_ext [idx t]
  rw [View.read_apply, he]
  exact V_v1 m c l

theorem iblk_4 (t : Fin cfg0.N) (q : Fin 4) (i k : Fin 128) : iblk m c 4 t (ix3 q i k) = ws m c (ix3 q i k) := by
  unfold iblk
  have he : ((cfg0.win 4).blk t).view.emb (ix3 q i k) = ix3 q i k := by blk_ext [idx t]
  rw [View.read_apply, he]
  rfl

theorem iblk_5 (t : Fin cfg0.N) (q : Fin 4) (i : Fin 128) : iblk m c 5 t (ix3 q i 0) = ss m c (ix2 q i) := by
  unfold iblk
  have he : ((cfg0.win 5).blk t).view.emb (ix3 q i 0) = ix3 q i (0 : Fin 1) := by blk_ext [idx t]
  rw [View.read_apply, he]
  exact V_v2 m c q i

/-- A chunk's block is the result at the chunk's rows. -/
theorem chunk_out (t : Fin cfg0.N) (n : ℕ) (hn : n < 4) (u v : Vec Ideal S128x512 .f32) (g b : Vec Ideal S1x512 .f32) (w0 w1 w2 w3 : Vec Ideal S1x128x128 .f32) (s0 s1 s2 s3 : Vec Ideal S1x128x1 .f32)
    (hu : ∀ (i : Fin 128) (l : Fin 512), u (ix2 i l) = iblk m c 0 t (ix2 ⟨n * 128 + i.val, by omega⟩ l))
    (hv : ∀ (i : Fin 128) (l : Fin 512), v (ix2 i l) = iblk m c 1 t (ix2 ⟨n * 128 + i.val, by omega⟩ l))
    (hg : ∀ l : Fin 512, g (ix2 0 l) = iblk m c 2 t (ix2 0 l)) (hb : ∀ l : Fin 512, b (ix2 0 l) = iblk m c 3 t (ix2 0 l))
    (hw : ∀ (q : Fin 4) (i k : Fin 128), (![w0, w1, w2, w3] : Fin 4 → Vec Ideal S1x128x128 .f32) q (ix3 0 i k) = iblk m c 4 t (ix3 q i k))
    (hs : ∀ (q : Fin 4) (i : Fin 128), (![s0, s1, s2, s3] : Fin 4 → Vec Ideal S1x128x1 .f32) q (ix3 0 i 0) = iblk m c 5 t (ix3 q i 0))
    (i : Fin 128) (l : Fin 512) (r : Fin 2048) (hr : r.val = t.val * 512 + (n * 128 + i.val)) :
    chunkRows u v g b w0 w1 w2 w3 s0 s1 s2 s3 (ix3 0 i l) = out (ps m c) (gs m c) (bs m c) (ws m c) (ss m c) r l := by
  have ht := lt t
  unfold chunkRows
  rw [pay13_apply]
  unfold out
  have hi : (⟨r.val % 128, by omega⟩ : Fin 128) = i := Fin.ext (by show r.val % 128 = i.val; omega)
  rw [hi]
  have e0 : (fun (t : Fin 128) (l : Fin 512) => u (ix2 t l)) = half (ps m c) 3584 (by omega) ⟨r.val / 128, by omega⟩ := by
    funext j l
    rw [hu, iblk_0]
    unfold half
    exact congrArg (fun x => ps m c (ix2 x ⟨3584 + l.val, by omega⟩)) (Fin.ext (by show t.val * 512 + (n * 128 + j.val) = r.val / 128 * 128 + j.val; omega))
  have e1 : (fun (t : Fin 128) (l : Fin 512) => v (ix2 t l)) = half (ps m c) 4096 (by omega) ⟨r.val / 128, by omega⟩ := by
    funext j l
    rw [hv, iblk_1]
    unfold half
    exact congrArg (fun x => ps m c (ix2 x ⟨4096 + l.val, by omega⟩)) (Fin.ext (by show t.val * 512 + (n * 128 + j.val) = r.val / 128 * 128 + j.val; omega))
  have e2 : (fun l : Fin 512 => g (ix2 0 l)) = fun l => gs m c (ix1 l) := funext fun l => (hg l).trans (iblk_2 m c t l)
  have e3 : (fun l : Fin 512 => b (ix2 0 l)) = fun l => bs m c (ix1 l) := funext fun l => (hb l).trans (iblk_3 m c t l)
  have e4 : (fun (q : Fin 4) (i k : Fin 128) => (![w0, w1, w2, w3] : Fin 4 → Vec Ideal S1x128x128 .f32) q (ix3 0 i k)) = fun q i k => ws m c (ix3 q i k) :=
    funext fun q => funext fun i => funext fun k => (hw q i k).trans (iblk_4 m c t q i k)
  have e5 : (fun (q : Fin 4) (i : Fin 128) => (![s0, s1, s2, s3] : Fin 4 → Vec Ideal S1x128x1 .f32) q (ix3 0 i 0)) = fun q i => ss m c (ix2 q i) :=
    funext fun q => funext fun i => (hs q i).trans (iblk_5 m c t q i)
  rw [e0, e1, e2, e3, e4, e5]

/-- A chunk's rows of a block, -/
theorem ld_rows (x : Vec Ideal S512x512 .f32) (o : ℕ) (inb) (i : Fin 128) (l j : Fin 512) (hj : j.val = o + i.val) :
    View.ld x (Rect.unit (s := S512x512) ![o, 0] ![128, 512] inb) (ix2 i l) = x (ix2 j l) :=
  congrArg x (funext fun a => Fin.ext (by
    rw [Rect.idx_unit_val]
    match a with
    | ⟨0, _⟩ => exact hj.symm
    | ⟨1, _⟩ => exact Nat.zero_add _))

/-- a group's weights -/
theorem ld_weights (x : Vec Ideal S4x128x128 .f32) (q : Fin 4) (inb) (i k : Fin 128) :
    View.ld x (Rect.unit (s := S4x128x128) ![q.val, 0, 0] ![1, 128, 128] inb) (ix3 0 i k) = x (ix3 q i k) :=
  congrArg x (funext fun a => Fin.ext (by
    rw [Rect.idx_unit_val]
    match a with
    | ⟨0, _⟩ => exact Nat.add_zero _
    | ⟨1, _⟩ => exact Nat.zero_add _
    | ⟨2, _⟩ => exact Nat.zero_add _))

/-- and its biases. -/
theorem ld_biases (x : Vec Ideal S4x128x1 .f32) (q : Fin 4) (inb) (i : Fin 128) :
    View.ld x (Rect.unit (s := S4x128x1) ![q.val, 0, 0] ![1, 128, 1] inb) (ix3 0 i 0) = x (ix3 q i 0) :=
  congrArg x (funext fun a => Fin.ext (by
    rw [Rect.idx_unit_val]
    match a with
    | ⟨0, _⟩ => exact Nat.add_zero _
    | ⟨1, _⟩ => exact Nat.zero_add _
    | ⟨2, _⟩ => exact Nat.zero_add _))

/-- The rows the kernel forms of the chunk that begins at a block's row `o`. -/
abbrev formed (t : Fin cfg0.N) (o : ℕ) (inb : ∀ a : Fin 2, ![o, 0] a + (![128, 512] : Fin 2 → ℕ) a ≤ S512x512.size a) : Vec Ideal S1x128x512 .bf16 :=
  chunkRows (View.ld (iblk m c 0 t) (Rect.unit (s := S512x512) ![o, 0] ![128, 512] inb)) (View.ld (iblk m c 1 t) (Rect.unit (s := S512x512) ![o, 0] ![128, 512] inb))
    (iblk m c 2 t) (iblk m c 3 t)
    (View.ld (iblk m c 4 t) (Rect.unit (s := S4x128x128) ![0, 0, 0] ![1, 128, 128] inb_S4x128x128_S1x128x128_0_0_0))
    (View.ld (iblk m c 4 t) (Rect.unit (s := S4x128x128) ![1, 0, 0] ![1, 128, 128] inb_S4x128x128_S1x128x128_1_0_0))
    (View.ld (iblk m c 4 t) (Rect.unit (s := S4x128x128) ![2, 0, 0] ![1, 128, 128] inb_S4x128x128_S1x128x128_2_0_0))
    (View.ld (iblk m c 4 t) (Rect.unit (s := S4x128x128) ![3, 0, 0] ![1, 128, 128] inb_S4x128x128_S1x128x128_3_0_0))
    (View.ld (iblk m c 5 t) (Rect.unit (s := S4x128x1) ![0, 0, 0] ![1, 128, 1] inb_S4x128x1_S1x128x1_0_0_0))
    (View.ld (iblk m c 5 t) (Rect.unit (s := S4x128x1) ![1, 0, 0] ![1, 128, 1] inb_S4x128x1_S1x128x1_1_0_0))
    (View.ld (iblk m c 5 t) (Rect.unit (s := S4x128x1) ![2, 0, 0] ![1, 128, 1] inb_S4x128x1_S1x128x1_2_0_0))
    (View.ld (iblk m c 5 t) (Rect.unit (s := S4x128x1) ![3, 0, 0] ![1, 128, 1] inb_S4x128x1_S1x128x1_3_0_0))

theorem formed_apply (t : Fin cfg0.N) (n : ℕ) (hn : n < 4) (o : ℕ) (ho : o = n * 128) (inb) (i : Fin 128) (l : Fin 512) (r : Fin 512) (hr : r.val = o + i.val) :
    formed m c t o inb (ix3 0 i l) = out (ps m c) (gs m c) (bs m c) (ws m c) (ss m c) (row t r) l := by
  subst ho
  refine chunk_out m c t n hn _ _ _ _ _ _ _ _ _ _ _ _ (fun i l => ld_rows _ _ _ i l _ rfl) (fun i l => ld_rows _ _ _ i l _ rfl) (fun l => rfl) (fun l => rfl)
    (fun q i k => ?_) (fun q i => ?_) i l _ (by show t.val * 512 + r.val = _; rw [hr])
  · match q with
    | 0 => exact ld_weights (iblk m c 4 t) 0 inb_S4x128x128_S1x128x128_0_0_0 i k
    | 1 => exact ld_weights (iblk m c 4 t) 1 inb_S4x128x128_S1x128x128_1_0_0 i k
    | 2 => exact ld_weights (iblk m c 4 t) 2 inb_S4x128x128_S1x128x128_2_0_0 i k
    | 3 => exact ld_weights (iblk m c 4 t) 3 inb_S4x128x128_S1x128x128_3_0_0 i k
  · match q with
    | 0 => exact ld_biases (iblk m c 5 t) 0 inb_S4x128x1_S1x128x1_0_0_0 i
    | 1 => exact ld_biases (iblk m c 5 t) 1 inb_S4x128x1_S1x128x1_1_0_0 i
    | 2 => exact ld_biases (iblk m c 5 t) 2 inb_S4x128x1_S1x128x1_2_0_0 i
    | 3 => exact ld_biases (iblk m c 5 t) 3 inb_S4x128x1_S1x128x1_3_0_0 i

/-- A point's block is the result at the point's rows. -/
theorem point (t : Fin cfg0.N) (r l : Fin 512) : (outsAt0 (F := Ideal) m c t) (ix3 0 r l) = out (ps m c) (gs m c) (bs m c) (ws m c) (ss m c) (row t r) l := by
  unfold Gen.outsAt0
  frame_out
  have last : ∀ (n : ℕ) (hn : n < 4) (o : ℕ) (ho : o = n * 128) (inb) (x : S1x128x512.Idx), r.val = o + (x 1).val → l.val = (x 2).val →
      formed m c t o inb x = out (ps m c) (gs m c) (bs m c) (ws m c) (ss m c) (row t r) l := by
    intro n hn o ho inb x h1 h2
    obtain rfl : l = x 2 := Fin.ext h2
    rw [eq_ix3 x, Subsingleton.elim (α := Fin 1) (x 0) 0]
    exact formed_apply m c t n hn o ho inb (x 1) (x 2) r h1
  canon_tiles x h
  · refine Eq.trans ?_ (last 3 (by omega) 384 rfl inb_S512x512_S128x512_384_0 x h1 h2)
    exact congrFun (rows3_eq _ _ _ _ _ _ _ _ _ _ _ _) x
  · refine Eq.trans ?_ (last 2 (by omega) 256 rfl inb_S512x512_S128x512_256_0 x h1 h2)
    exact congrFun (rows2_eq _ _ _ _ _ _ _ _ _ _ _ _) x
  · refine Eq.trans ?_ (last 1 (by omega) 128 rfl inb_S512x512_S128x512_128_0 x h1 h2)
    exact congrFun (rows1_eq _ _ _ _ _ _ _ _ _ _ _ _) x
  · refine Eq.trans ?_ (last 0 (by omega) 0 rfl inb_S512x512_S128x512_0_0 x (h1.trans (Nat.zero_add _).symm) h2)
    rfl

/-- The array of the three branches: the third is the gated rows, the others are as they came. -/
theorem final6 (e : Fin 3) (r : Fin 2048) (l : Fin 512) : (dats m 0 c).arrAt 6 cfg0.N (ix3 e r l)
    = if e.val < 2 then zs m c (ix3 e r l) else out (ps m c) (gs m c) (bs m c) (ws m c) (ss m c) r l := by
  have h : (dats m 0 c).arrAt 6 cfg0.N = fun j : S3x2048x512.Idx => if (j 0).val = 2
      then out (ps m c) (gs m c) (bs m c) (ws m c) (ss m c) (j 1) (j 2) else (dats m 0 c).A 6 j := by
    refine (dats m 0 c).arrAt_eq_of_coversWhere 6 _ (fun β => β (0 : Fin 3) = 2) (by decide +kernel) (fun t hf' y => ?_) (fun j => ?_)
    · rw [after0_6]
      have hx : (cfg0.win 6).xinj (cfg0.grid.coords t) y = ix3 (0 : Fin 1) (y 1) (y 2) := by blk_ext
      have he : ((cfg0.win 6).blk t).view.emb y = ix3 (2 : Fin 3) (row t (y 1)) (y 2) := by blk_ext [idx t, row]
      rw [hx, he]
      refine (cast_eq _ _).trans ?_
      exact point m c t (y 1) (y 2)
    · blk_simp [Pipeline.Window.cell_apply]; omega
  rw [h]
  show (if e.val = 2 then out (ps m c) (gs m c) (bs m c) (ws m c) (ss m c) r l else (dats m 0 c).A 6 (ix3 e r l)) = _
  by_cases he : e.val = 2
  · rw [if_pos he, if_neg (by omega)]
  · rw [if_neg he, if_pos (by omega)]
    show V m c main_v3 (ix3 e r l) = _
    unfold V
    entry_read
    rfl

end Cert.SgFwdValue

end
-- ==== Proof.SgFwdClaim.lean ====
/-
  THE CLAIMS OF `sg_fwd`, assembled: what the named constant stands for, the reference's run, and that over the extended reals the
  array of the branches is the reference's at all arguments.
-/
module

public import proofs.«01_k».proof.Defs
public import proofs.«01_k».proof.Proof.Gen.SgFwd.Frame
public import proofs.«01_k».proof.Proof.Gen.SgFwdRefIdeal.Run
public import proofs.«01_k».proof.Proof.SgFwdReference
public import proofs.«01_k».proof.Proof.SgFwdValue
public import Idealize.ShloMosaic.Lib.Quiescent

@[expose] public section

noncomputable section

namespace Cert.SgFwdClaim

open Idealize.ShloMosaic Idealize.SL.Sem

/-- The named constants stand for the numbers they are named. -/
theorem preserves : Cert.preserves_SgFwd_SgFwdIdeal :=
  IdealRules.named_const.statement _ _ _ _ _ rfl

/-- The reference runs, its arguments end unchanged and its counters at zero. -/
theorem reference_runs : Cert.quiescent_SgFwdRefIdeal := fun m ρ _ =>
  (θ_run Cert.SgFwdRefIdeal.defs _ _).mono (fun r h => ⟨fun c => (h c).2, sem_eq_zero_of_no_sems (by decide) r.2⟩)
    (Cert.SgFwdRefIdeal.Value.run (F := Ideal) m ρ)

/-- Over the extended reals the branches' array is the reference's. -/
theorem algebraic : Cert.algebraic_SgFwdIdeal_SgFwdRefIdeal := by
  intro m ρ m' ρ' _ hagree
  refine ⟨_, Cert.SgFwdIdeal.Value.run_blocks (F := Ideal) m ρ, ?_⟩
  refine (θ_run Cert.SgFwdRefIdeal.defs _ _).mono (fun _ h c => ⟨?_, (h c).2⟩) (Cert.SgFwdRefIdeal.Value.run (F := Ideal) m' ρ')
  obtain ⟨e0, e1, e2, e3, e4, e5⟩ := hagree c
  refine ((h c).1.trans (Cert.SgFwdRefIdeal.Read.val_main_v71_eq _ _)).trans ?_
  rw [e0, e1, e2, e3, e4, e5]
  funext j
  rw [eq_ix3 j]
  exact (SgFwdReference.v71_apply _ _ _ _ _ _ (j 0) (j 1) (j 2)).trans (SgFwdValue.final6 m c (j 0) (j 1) (j 2)).symm

end Cert.SgFwdClaim

end
-- ==== Proof.ConvFwdReference.lean ====
/-
  WHAT THE REFERENCE OF `conv_fwd` COMPUTES: in the second branch's rows the gate column times the causal convolution of the gated
  input over three rows, and in the other two branches what was there.
-/
module

public import proofs.«01_k».proof.Proof.Gen.ConvFwdRefIdeal.Read
public import proofs.«01_k».proof.Proof.ConvBwdReference

@[expose] public section

set_option maxRecDepth 16384

noncomputable section

namespace Cert.ConvFwdReference

open Cert.ConvFwdRefIdeal Cert.ConvFwdRefIdeal.Read Idealize.ShloMosaic Cert.Reals
open Cert.ConvBwdReference (proj proj_eq gated padded conv)

/-- The second branch at a row: the gate times the convolution. -/
def row (x0 : S2048x7680.Idx → EReal) (x1 : S3x512.Idx → EReal) (r : ℕ) (k : Fin 512) : EReal := proj x0 r (2048 + k.val) * conv x0 x1 r k

variable (x0 : (⟨S2048x7680, .f32⟩ : BufTy).Contents (Elt Ideal)) (x1 : (⟨S3x512, .f32⟩ : BufTy).Contents (Elt Ideal)) (x2 : (⟨S3x2048x512, .bf16⟩ : BufTy).Contents (Elt Ideal))

theorem v2_apply (r : Fin 2048) (k : Fin 512) : val_main_v2 (F := Ideal) x0 (ix3 0 r k) = proj x0 r.val (2048 + k.val) := by
  pointwise [val_main_v2, val_main_v1]
  exact proj_eq x0 _ _

theorem v4_apply (r : Fin 2048) (k : Fin 512) : val_main_v4 (F := Ideal) x0 (ix3 0 r k) = proj x0 r.val (2560 + k.val) := by
  pointwise [val_main_v4, val_main_v3]
  exact proj_eq x0 _ _

theorem v6_apply (r : Fin 2048) (k : Fin 512) : val_main_v6 (F := Ideal) x0 (ix3 0 r k) = proj x0 r.val (3072 + k.val) := by
  pointwise [val_main_v6, val_main_v5]
  exact proj_eq x0 _ _

/-- The gated input behind two rows of zeros, -/
theorem v9_apply (j : Fin 2050) (k : Fin 512) : val_main_v9 (F := Ideal) x0 (ix3 0 j k) = padded x0 j.val k := by
  pointwise [val_main_v9, val_main_v8, val_main_cst, val_main_v7]
  unfold padded
  by_cases h : 2 ≤ j.val
  · rw [dif_neg (by omega), if_pos h]
    exact congr (congrArg HMul.hMul (v4_apply x0 _ _)) (v6_apply x0 _ _)
  · rw [dif_pos (by omega), if_neg h]

theorem v10_apply (r : Fin 2048) (k : Fin 512) : val_main_v10 (F := Ideal) x0 (ix3 0 r k) = padded x0 r.val k := by
  pointwise [val_main_v10]; rw [v9_apply]

theorem v16_apply (r : Fin 2048) (k : Fin 512) : val_main_v16 (F := Ideal) x0 (ix3 0 r k) = padded x0 (r.val + 1) k := by
  pointwise [val_main_v16]; rw [v9_apply]; exact congrArg (padded x0 · k) (Nat.add_comm _ _)

theorem v23_apply (r : Fin 2048) (k : Fin 512) : val_main_v23 (F := Ideal) x0 (ix3 0 r k) = padded x0 (r.val + 2) k := by
  pointwise [val_main_v23]; rw [v9_apply]; exact congrArg (padded x0 · k) (Nat.add_comm _ _)

/-- its convolution, -/
theorem v29_apply (r : Fin 2048) (k : Fin 512) : val_main_v29 (F := Ideal) x0 x1 (ix3 0 r k) = conv x0 x1 r.val k := by
  pointwise [val_main_v29, val_main_v22, val_main_v28, val_main_v15, val_main_v21, val_main_v14, val_main_v13, val_main_v12, val_main_v11,
    val_main_v20, val_main_v19, val_main_v18, val_main_v17, val_main_v27, val_main_v26, val_main_v25, val_main_v24]
  rw [v10_apply, v16_apply, v23_apply]; rfl

/-- and the gated convolution. -/
theorem v31_apply (r : Fin 2048) (k : Fin 512) : val_main_v31 (F := Ideal) x0 x1 (ix3 0 r k) = row x0 x1 r.val k := by
  pointwise [val_main_v31, val_main_v30]
  rw [v2_apply, v29_apply]; rfl

/-- THE REFERENCE'S RESULT at branch `e`, row `r`, column `k`. -/
theorem reference_apply (e : Fin 3) (r : Fin 2048) (k : Fin 512) :
    val_main_v33 (F := Ideal) x0 x1 x2 (ix3 e r k) = if e.val = 1 then row x0 x1 r.val k else x2 (ix3 e r k) := by
  fin_cases e
  · pointwise [val_main_v33, val_main_v0]
  · pointwise [val_main_v33]
    exact v31_apply x0 x1 r k
  · pointwise [val_main_v33, val_main_v32]

end Cert.ConvFwdReference

end
-- ==== Proof.ConvFwdValue.lean ====
/-
  THE VALUE OF `conv_fwd`: each of the two points writes 1024 rows of the second branch. The rows above a block's first come from
  the eight rows before it. The shifted rows are those the backward call forms (its `pay6_apply`, `pay7_apply` and `pay4_apply`).
-/
module

public import proofs.«01_k».proof.Proof.Gen.ConvFwdIdeal.Value
public import proofs.«01_k».proof.Proof.ConvFwdReference
public import proofs.«01_k».proof.Proof.ConvBwdValue

@[expose] public section

set_option maxRecDepth 16384

noncomputable section

namespace Cert.ConvFwdValue

open Cert.ConvFwdIdeal Cert.ConvFwdIdeal.Gen Idealize.ShloMosaic Idealize.ShloMosaic.TcCoe Idealize.SL.Sem Cert.Reals
open Cert.ConvBwdReference (proj proj_eq gated padded conv)
open Cert.ConvBwdValue (rows before)
open Idealize.ShloMosaic.Pipeline (Dat)

/-! ## One block -/

/-- The two shifted products a point adds are the ones the backward call forms. -/
theorem pay3_eq (i : grid0.Coords) (a b : Vec Ideal S1024x512 .f32) (d e : Vec Ideal S8x512 .f32) (w0 w1 : Vec Ideal S1x512 .f32) :
    k0_pay3 (F := Ideal) i a b d e w0 w1 = Cert.ConvBwdIdeal.Gen.k0_pay8 (F := Ideal) (BitVec.ofNat 32 (i 0).val) a b w0 w1 d e := rfl

/-- A block of the second branch at an index. -/
theorem block_apply (x0 : S2048x7680.Idx → EReal) (x1 : S3x512.Idx → EReal) (i : grid0.Coords) (b : ℕ) (hi : (i 0).val = b) (hb : b < 2) (p : Fin 1024) (k : Fin 512)
    (w0 w1 w2 : Vec Ideal S1x512 .f32) (h0 : w0 (ix2 0 k) = x1 (ix2 0 k)) (h1 : w1 (ix2 0 k) = x1 (ix2 1 k)) (h2 : w2 (ix2 0 k) = x1 (ix2 2 k)) :
    k0_pay1 (F := Ideal) (k0_pay3 i (rows x0 2560 b) (rows x0 3072 b) (before x0 2560 b) (before x0 3072 b) w0 w1)
      (k0_pay4 (rows x0 2560 b) (rows x0 3072 b) w2) (rows x0 2048 b) (ix3 0 p k) = ConvFwdReference.row x0 x1 (1024 * b + p.val) k := by
  have key : k0_pay3 (F := Ideal) i (rows x0 2560 b) (rows x0 3072 b) (before x0 2560 b) (before x0 3072 b) w0 w1 (ix2 p k)
      = padded x0 (1024 * b + p.val) k * x1 (ix2 0 k) + padded x0 (1024 * b + p.val + 1) k * x1 (ix2 1 k) := by
    rw [pay3_eq, hi]
    pointwise [Cert.ConvBwdIdeal.Gen.k0_pay8]
    rw [h0, h1, ConvBwdValue.pay6_apply x0 b hb p k, ConvBwdValue.pay7_apply x0 b hb p k, mul_comm, mul_comm (x1 (ix2 1 k))]
  have key4 : k0_pay4 (F := Ideal) (rows x0 2560 b) (rows x0 3072 b) w2 (ix2 p k) = padded x0 (1024 * b + p.val + 2) k * x1 (ix2 2 k) := by
    unfold k0_pay4
    pointwise
    rw [h2, mul_comm]
    exact congrArg (· * x1 (ix2 2 k)) (ConvBwdValue.pay4_apply x0 b p k)
  pointwise [k0_pay1]
  rw [key, key4]
  rfl

/-! ## The arrays the region finds -/

variable (m : (ℓ : Loc nD τ sig) → Buf (Elt Ideal) ℓ) (c : Dev nD)

/-- The projections, the taps and the branches as launched. -/
abbrev P : S2048x7680.Idx → EReal := m ((c : Thread nD τ).loc main_arg0)
abbrev W : S3x512.Idx → EReal := m ((c : Thread nD τ).loc main_arg1)
abbrev Z : S3x2048x512.Idx → EReal := m ((c : Thread nD τ).loc main_arg2)

theorem lt (t : Fin cfg0.N) : t.val < 2 := lt_of_lt_of_eq t.isLt N_0

/-- A point's coordinate and the windows' block indices there. -/
theorem coords_eq : ∀ t : Fin cfg0.N, (grid0.coords t 0).val = t.val :=
  (by decide +kernel : ∀ t : Fin grid0.N, _)

theorem idx : ∀ t : Fin cfg0.N, win0_0.index t = ![t.val, 4] ∧ win0_1.index t = ![t.val, 5] ∧ win0_2.index t = ![t.val, 6]
    ∧ win0_3.index t = ![127 * t.val, 5] ∧ win0_4.index t = ![127 * t.val, 6] ∧ win0_5.index t = ![0, 0] ∧ win0_6.index t = ![1, t.val, 0] :=
  (by decide +kernel : ∀ t : Fin grid0.N, _)

theorem rows0 (t : Fin cfg0.N) : iblk m c 0 t = rows (P m c) 2048 t.val := by
  funext i
  unfold iblk
  have ht := lt t
  have h0 : (i 0).val < 1024 := (i 0).isLt
  have h1 : (i 1).val < 512 := (i 1).isLt
  have he : ((cfg0.win 0).blk t).view.emb i = ix2 (⟨1024 * t.val + (i 0).val, by omega⟩ : Fin 2048) (⟨2048 + (i 1).val, by omega⟩ : Fin 7680) := by
    blk_ext [idx t]
  rw [View.read_apply, he]
  exact proj_eq (P m c) _ _

theorem rows1 (t : Fin cfg0.N) : iblk m c 1 t = rows (P m c) 2560 t.val := by
  funext i
  unfold iblk
  have ht := lt t
  have h0 : (i 0).val < 1024 := (i 0).isLt
  have h1 : (i 1).val < 512 := (i 1).isLt
  have he : ((cfg0.win 1).blk t).view.emb i = ix2 (⟨1024 * t.val + (i 0).val, by omega⟩ : Fin 2048) (⟨2560 + (i 1).val, by omega⟩ : Fin 7680) := by
    blk_ext [idx t]
  rw [View.read_apply, he]
  exact proj_eq (P m c) _ _

theorem rows2 (t : Fin cfg0.N) : iblk m c 2 t = rows (P m c) 3072 t.val := by
  funext i
  unfold iblk
  have ht := lt t
  have h0 : (i 0).val < 1024 := (i 0).isLt
  have h1 : (i 1).val < 512 := (i 1).isLt
  have he : ((cfg0.win 2).blk t).view.emb i = ix2 (⟨1024 * t.val + (i 0).val, by omega⟩ : Fin 2048) (⟨3072 + (i 1).val, by omega⟩ : Fin 7680) := by
    blk_ext [idx t]
  rw [View.read_apply, he]
  exact proj_eq (P m c) _ _

theorem rows3 (t : Fin cfg0.N) : iblk m c 3 t = before (P m c) 2560 t.val := by
  funext i
  unfold iblk
  have ht := lt t
  have h0 : (i 0).val < 8 := (i 0).isLt
  have h1 : (i 1).val < 512 := (i 1).isLt
  have he : ((cfg0.win 3).blk t).view.emb i = ix2 (⟨1016 * t.val + (i 0).val, by omega⟩ : Fin 2048) (⟨2560 + (i 1).val, by omega⟩ : Fin 7680) := by
    blk_ext [idx t]
  rw [View.read_apply, he]
  exact proj_eq (P m c) _ _

theorem rows4 (t : Fin cfg0.N) : iblk m c 4 t = before (P m c) 3072 t.val := by
  funext i
  unfold iblk
  have ht := lt t
  have h0 : (i 0).val < 8 := (i 0).isLt
  have h1 : (i 1).val < 512 := (i 1).isLt
  have he : ((cfg0.win 4).blk t).view.emb i = ix2 (⟨1016 * t.val + (i 0).val, by omega⟩ : Fin 2048) (⟨3072 + (i 1).val, by omega⟩ : Fin 7680) := by
    blk_ext [idx t]
  rw [View.read_apply, he]
  exact proj_eq (P m c) _ _

theorem rows5 (t : Fin cfg0.N) : iblk m c 5 t = W m c := by
  funext i
  unfold iblk
  have he : ((cfg0.win 5).blk t).view.emb i = i := by blk_ext [idx t]
  rw [View.read_apply, he]
  rfl

/-- A point's block is the second branch at the point's rows. -/
theorem point (t : Fin cfg0.N) (p : Fin 1024) (k : Fin 512) :
    (outsAt0 (F := Ideal) m c t) (ix3 0 p k) = ConvFwdReference.row (P m c) (W m c) (1024 * t.val + p.val) k := by
  unfold Gen.outsAt0
  frame_out
  rw [rows0, rows1, rows2, rows3, rows4, rows5]
  exact block_apply (P m c) (W m c) _ t.val (coords_eq t) (lt t) p k _ _ _
    (View.ld_unit_apply_of _ _ _ _ _ _ (Fin.forall_fin_two.mpr ⟨rfl, (Nat.zero_add _).symm⟩))
    (View.ld_unit_apply_of _ _ _ _ _ _ (Fin.forall_fin_two.mpr ⟨rfl, (Nat.zero_add _).symm⟩))
    (View.ld_unit_apply_of _ _ _ _ _ _ (Fin.forall_fin_two.mpr ⟨rfl, (Nat.zero_add _).symm⟩))

/-- The array of the three branches: the second is the gated convolution, the others are as they came. -/
theorem final6 (e : Fin 3) (r : Fin 2048) (k : Fin 512) : (dats m 0 c).arrAt 6 cfg0.N (ix3 e r k)
    = if e.val = 1 then ConvFwdReference.row (P m c) (W m c) r.val k else Z m c (ix3 e r k) := by
  have h : (dats m 0 c).arrAt 6 cfg0.N = fun j : S3x2048x512.Idx => if (j 0).val = 1
      then ConvFwdReference.row (P m c) (W m c) (j 1).val (j 2) else (dats m 0 c).A 6 j := by
    refine (dats m 0 c).arrAt_eq_of_coversWhere 6 _ (fun β => β (0 : Fin 3) = 1) (by decide +kernel) (fun t hf' y => ?_) (fun j => ?_)
    · rw [after0_6]
      have ht := lt t
      have hy : (y 1).val < 1024 := (y 1).isLt
      have hx : (cfg0.win 6).xinj (cfg0.grid.coords t) y = ix3 (0 : Fin 1) (y 1) (y 2) := by blk_ext
      have he : ((cfg0.win 6).blk t).view.emb y = ix3 (1 : Fin 3) (⟨1024 * t.val + (y 1).val, by omega⟩ : Fin 2048) (y 2) := by blk_ext [idx t]
      rw [hx, he]
      refine (cast_eq _ _).trans ?_
      exact point m c t (y 1) (y 2)
    · blk_simp [Pipeline.Window.cell_apply]; omega
  rw [h]
  show (if e.val = 1 then ConvFwdReference.row (P m c) (W m c) r.val k else (dats m 0 c).A 6 (ix3 e r k)) = _
  by_cases he : e.val = 1
  · rw [if_pos he, if_pos he]
  · rw [if_neg he, if_neg he]
    show V m c main_v0 (ix3 e r k) = _
    unfold V
    entry_read
    rfl

end Cert.ConvFwdValue

end
-- ==== Proof.ConvFwdClaim.lean ====
/-
  THE CLAIMS OF `conv_fwd`, assembled: the reference's run, and that over the extended reals the
  array of the branches is the reference's at all arguments.
-/
module

public import proofs.«01_k».proof.Defs
public import proofs.«01_k».proof.Proof.Gen.ConvFwd.Frame
public import proofs.«01_k».proof.Proof.Gen.ConvFwdRefIdeal.Run
public import proofs.«01_k».proof.Proof.ConvFwdReference
public import proofs.«01_k».proof.Proof.ConvFwdValue
public import Idealize.ShloMosaic.Lib.Quiescent

@[expose] public section

noncomputable section

namespace Cert.ConvFwdClaim

open Idealize.ShloMosaic Idealize.SL.Sem

/-- The reference runs, its arguments end unchanged and its counters at zero. -/
theorem reference_runs : Cert.quiescent_ConvFwdRefIdeal := fun m ρ _ =>
  (θ_run Cert.ConvFwdRefIdeal.defs _ _).mono (fun r h => ⟨fun c => (h c).2, sem_eq_zero_of_no_sems (by decide) r.2⟩)
    (Cert.ConvFwdRefIdeal.Value.run (F := Ideal) m ρ)

/-- Over the extended reals the branches' array is the reference's. -/
theorem algebraic : Cert.algebraic_ConvFwdIdeal_ConvFwdRefIdeal := by
  intro m ρ m' ρ' _ hagree
  refine ⟨_, Cert.ConvFwdIdeal.Value.run_blocks (F := Ideal) m ρ, ?_⟩
  refine (θ_run Cert.ConvFwdRefIdeal.defs _ _).mono (fun _ h c => ⟨?_, (h c).2⟩) (Cert.ConvFwdRefIdeal.Value.run (F := Ideal) m' ρ')
  obtain ⟨e0, e1, e2⟩ := hagree c
  refine ((h c).1.trans (Cert.ConvFwdRefIdeal.Read.val_main_v33_eq _ _ _)).trans ?_
  rw [e0, e1, e2]
  funext j
  rw [eq_ix3 j]
  exact (ConvFwdReference.reference_apply _ _ _ (j 0) (j 1) (j 2)).trans (ConvFwdValue.final6 m c (j 0) (j 1) (j 2)).symm

end Cert.ConvFwdClaim

end
-- ==== Proof.MergeFwdValue.lean ====
/-
  THE VALUE OF `merge_fwd`: a point gates one branch's product on a block of 1024 rows and 512 columns, three points in a row
  sum the branches in an accumulator, and the third stores the sum. The reference sums the three gated products at once.
-/
module

public import proofs.«01_k».proof.Proof.Gen.MergeFwdIdeal.Value
public import proofs.«01_k».proof.Proof.Gen.MergeFwdRefIdeal.Read
public import proofs.«01_k».proof.Proof.MergeBwdReference
public import Idealize.ShloMosaic.Lib.Claim
public import Idealize.ShloMosaic.Lib.Pipeline.ValueKit

@[expose] public section

set_option maxRecDepth 16384

noncomputable section

namespace Cert.MergeFwdValue

open Cert.MergeFwdIdeal Cert.MergeFwdIdeal.Gen Idealize.ShloMosaic Idealize.ShloMosaic.TcCoe Idealize.SL.Sem Cert.Reals
open Cert.MergeBwdReference (gate prod gateCol flat)
open Idealize.ShloMosaic.Pipeline (Dat)

/-- The merged row: the sum of the branches' gated products. -/
def merged (z : S3x2048x512.Idx → EReal) (p : S2048x7680.Idx → EReal) (w : S3x512x1024.Idx → EReal) (r : Fin 2048) (q : Fin 1024) : EReal :=
  ∑ n : Fin 3, gate p n r q * prod z w n r q

/-! ## The reference -/

section Reference

open Cert.MergeFwdRefIdeal.Read

variable (x0 : (⟨S3x2048x512, .bf16⟩ : BufTy).Contents (Elt Ideal)) (x1 : (⟨S2048x7680, .f32⟩ : BufTy).Contents (Elt Ideal))
  (x2 : (⟨S3x512x1024, .f32⟩ : BufTy).Contents (Elt Ideal))

/-- The branches' products. -/
theorem v6_apply (n : Fin 3) (r : Fin 2048) (q : Fin 1024) : val_main_v6 (F := Ideal) x0 x2 (ix4 0 r n q) = prod x0 x2 n r q := by
  pointwise [val_main_v6, val_main_v5, val_main_v4, val_main_v3, val_main_v0]
  exact Finset.sum_congr rfl fun k _ => mul_comm _ _

/-- The gates. -/
theorem v12_apply (n : Fin 3) (r : Fin 2048) (q : Fin 1024) : val_main_v12 (F := Ideal) x1 (ix3 0 r (flat n q)) = gate x1 n r q := by
  pointwise [val_main_v12, val_main_v11, val_main_v10, val_main_v9, val_main_v8, val_main_v7, val_main_v2, val_main_v1, val_main_cst, val_main_cst_0]
  rfl

theorem v13_apply (n : Fin 3) (r : Fin 2048) (q : Fin 1024) : val_main_v13 (F := Ideal) x1 (ix4 0 r n q) = gate x1 n r q := by
  rw [← v12_apply]
  pointwise [val_main_v13]
  congr 1

/-- The reference at an index. -/
theorem reference_apply (r : Fin 2048) (q : Fin 1024) : val_main_v17 (F := Ideal) x0 x1 x2 (ix2 r q) = merged x0 x1 x2 r q := by
  pointwise [val_main_v17, val_main_v16, val_main_v15, val_main_v14, val_main_cst_1]
  simp only [v6_apply, v13_apply]
  rfl

end Reference

/-! ## One point -/

/-- A gated block at an index. -/
theorem pay1_apply (z : Vec Ideal S1x1024x512 .bf16) (a b : Vec Ideal S1x1x512x256 .bf16) (g : Vec Ideal S1024x512 .f32) (r : Fin 1024) (q : Fin 512) :
    k0_pay1 (F := Ideal) z a b g (ix2 r q) = Ideal.logistic (g (ix2 r q)) *
      (if h : q.val < 256 then ∑ k : Fin 512, z (ix3 0 r k) * a (ix4 0 0 k ⟨q.val, h⟩) else ∑ k : Fin 512, z (ix3 0 r k) * b (ix4 0 0 k ⟨q.val - 256, by omega⟩)) := by
  pointwise [k0_pay1]

/-! ## The arrays the region finds -/

variable (m : (ℓ : Loc nD τ sig) → Buf (Elt Ideal) ℓ) (c : Dev nD)

/-- The arguments: the branches' outputs, the projections and the merge weights. -/
abbrev zs := m ((c : Thread nD τ).loc main_arg0)
abbrev ps := m ((c : Thread nD τ).loc main_arg1)
abbrev ws := m ((c : Thread nD τ).loc main_arg2)

/-- The weights, reordered into column blocks and rounded. -/
theorem V_v2 (j : Fin 4) (n : Fin 3) (k : Fin 512) (l : Fin 256) : V m c main_v2 (ix4 j n k l) = ws m c (ix3 n k ⟨j.val * 256 + l.val, by omega⟩) := by
  unfold V
  entry_read
  pointwise

/-- The windows' block indices at a point: the row block, the column half and the branch. -/
theorem idx : ∀ t : Fin cfg0.N, win0_0.index t = ![t.val % 3, t.val / 6, 0] ∧ win0_1.index t = ![2 * (t.val / 3 % 2), t.val % 3, 0, 0]
    ∧ win0_2.index t = ![2 * (t.val / 3 % 2) + 1, t.val % 3, 0, 0] ∧ win0_3.index t = ![t.val / 6, 9 + 2 * (t.val % 3) + t.val / 3 % 2]
    ∧ win0_4.index t = ![t.val / 6, t.val / 3 % 2] :=
  (by decide +kernel : ∀ t : Fin grid0.N, _)

theorem lt (t : Fin cfg0.N) : t.val < 12 := lt_of_lt_of_eq t.isLt N_0

/-- The branch of a point, and the row and the column that a place of its block is. -/
def br (t : Fin cfg0.N) : Fin 3 := ⟨t.val % 3, by omega⟩
def row (t : Fin cfg0.N) (r : Fin 1024) : Fin 2048 := ⟨t.val / 6 * 1024 + r.val, by have := lt t; omega⟩
def col (t : Fin cfg0.N) (q : Fin 512) : Fin 1024 := ⟨t.val / 3 % 2 * 512 + q.val, by omega⟩

theorem iblk_0 (t : Fin cfg0.N) : iblk m c 0 t = fun i => zs m c (ix3 (br t) (row t (i 1)) (i 2)) := by
  funext i
  unfold iblk
  have he : ((cfg0.win 0).blk t).view.emb i = ix3 (br t) (row t (i 1)) (i 2) := by blk_ext [idx t, row, br]
  rw [View.read_apply, he]
  rfl

theorem iblk_1 (t : Fin cfg0.N) : iblk m c 1 t = fun i => ws m c (ix3 (br t) (i 2) ⟨2 * (t.val / 3 % 2) * 256 + (i 3).val, by have : (i 3).val < 256 := (i 3).isLt; omega⟩) := by
  funext i
  unfold iblk
  have he : ((cfg0.win 1).blk t).view.emb i = ix4 (⟨2 * (t.val / 3 % 2), by omega⟩ : Fin 4) (br t) (i 2) (i 3) := by blk_ext [idx t, br]
  rw [View.read_apply, he]
  exact V_v2 m c _ _ (i 2) (i 3)

theorem iblk_2 (t : Fin cfg0.N) : iblk m c 2 t = fun i => ws m c (ix3 (br t) (i 2) ⟨(2 * (t.val / 3 % 2) + 1) * 256 + (i 3).val, by have : (i 3).val < 256 := (i 3).isLt; omega⟩) := by
  funext i
  unfold iblk
  have he : ((cfg0.win 2).blk t).view.emb i = ix4 (⟨2 * (t.val / 3 % 2) + 1, by omega⟩ : Fin 4) (br t) (i 2) (i 3) := by blk_ext [idx t, br]
  rw [View.read_apply, he]
  exact V_v2 m c _ _ (i 2) (i 3)

theorem iblk_3 (t : Fin cfg0.N) : iblk m c 3 t = fun i => ps m c (ix2 (row t (i 0)) (gateCol (br t) (col t (i 1)))) := by
  funext i
  unfold iblk
  have he : ((cfg0.win 3).blk t).view.emb i = ix2 (row t (i 0)) (gateCol (br t) (col t (i 1))) := by blk_ext [idx t, row, br, col, gateCol]
  rw [View.read_apply, he]
  rfl

/-- A point's gated block is the branch's gated product. -/
theorem point_apply (t : Fin cfg0.N) (r : Fin 1024) (q : Fin 512) :
    k0_pay1 (F := Ideal) (iblk m c 0 t) (iblk m c 1 t) (iblk m c 2 t) (iblk m c 3 t) (ix2 r q)
      = gate (ps m c) (br t) (row t r) (col t q) * prod (zs m c) (ws m c) (br t) (row t r) (col t q) := by
  rw [pay1_apply, iblk_0, iblk_1, iblk_2, iblk_3]
  refine congrArg (gate (ps m c) (br t) (row t r) (col t q) * ·) ?_
  unfold prod
  have e : ∀ (z w : Fin 512 → EReal) (w' : Fin 512 → EReal), (∀ k, w k = w' k) → ∑ k, z k * w k = ∑ k, z k * w' k :=
    fun _ _ _ h => Finset.sum_congr rfl fun k _ => by rw [h k]
  split_ifs with h
  · exact e _ _ _ fun k => congrArg (fun x => ws m c (ix3 (br t) k x)) (Fin.ext (by show 2 * (t.val / 3 % 2) * 256 + q.val = t.val / 3 % 2 * 512 + q.val; omega))
  · exact e _ _ _ fun k => congrArg (fun x => ws m c (ix3 (br t) k x))
      (Fin.ext (by show (2 * (t.val / 3 % 2) + 1) * 256 + (q.val - 256) = t.val / 3 % 2 * 512 + q.val; omega))

/-! ## The accumulator -/

theorem pay2_eq (z : Vec Ideal S1x1024x512 .bf16) (a b : Vec Ideal S1x1x512x256 .bf16) (g : Vec Ideal S1024x512 .f32) (j : S1024x512.Idx) :
    k0_pay2 (F := Ideal) z a b g j = k0_pay1 (F := Ideal) z a b g j := by
  rw [eq_ix2 j]; pointwise [k0_pay2]

theorem pay3_eq (z : Vec Ideal S1x1024x512 .bf16) (a b : Vec Ideal S1x1x512x256 .bf16) (g x : Vec Ideal S1024x512 .f32) (j : S1024x512.Idx) :
    k0_pay3 (F := Ideal) z a b g x j = x j + k0_pay1 (F := Ideal) z a b g j := by
  rw [eq_ix2 j]; pointwise [k0_pay3]

/-- The first point of a run stores its block, -/
theorem acc_reset (t : Fin cfg0.N) (h : t.val % 3 = 0) (j : S1024x512.Idx) : (outsAt0 m c t.val t.isLt).2 j
    = k0_pay1 (F := Ideal) (iblk m c 0 t) (iblk m c 1 t) (iblk m c 2 t) (iblk m c 3 t) j := by
  rw [outsAt0_A m c t h (by omega) (by omega)]
  refine Eq.trans ?_ (pay2_eq _ _ _ _ j)
  dsimp only
  frame_out

/-- the others add theirs, -/
theorem acc_step (t : Fin cfg0.N) (h : ¬ t.val % 3 = 0) (j : S1024x512.Idx) : (outsAt0 m c t.val t.isLt).2 j
    = (outsAt0 m c (t.val - 1) (by have := t.isLt; omega)).2 j + k0_pay1 (F := Ideal) (iblk m c 0 t) (iblk m c 1 t) (iblk m c 2 t) (iblk m c 3 t) j := by
  refine Eq.trans ?_ (pay3_eq _ _ _ _ _ j)
  by_cases h2 : t.val % 3 = 2
  · rw [outsAt0_C m c t h (by omega) h2]
    dsimp only
    frame_out
    exact congrArg (fun x => k0_pay3 (F := Ideal) _ _ _ _ x j) ((Memref.isWhole_whole _).read_unread _)
  · rw [outsAt0_B m c t h (by omega) h2]
    dsimp only
    frame_out
    exact congrArg (fun x => k0_pay3 (F := Ideal) _ _ _ _ x j) ((Memref.isWhole_whole _).read_unread _)

/-- and the last copies the accumulator out. -/
theorem out_last (t : Fin cfg0.N) (h : t.val % 3 = 2) (j : S1024x512.Idx) : (outsAt0 m c t.val t.isLt).1 j = (outsAt0 m c t.val t.isLt).2 j := by
  rw [outsAt0_C m c t (by omega) (by omega) h]
  dsimp only
  frame_out
  rw [eq_ix2 j]
  pointwise [k0_pay4]

/-- The merged rows. -/
theorem final (r : Fin 2048) (q : Fin 1024) : (dats m 0 c).arrAt 4 cfg0.N (ix2 r q) = merged (zs m c) (ps m c) (ws m c) r q := by
  have h : (dats m 0 c).arrAt 4 cfg0.N = fun j : S2048x1024.Idx => merged (zs m c) (ps m c) (ws m c) (j 0) (j 1) := by
    refine (dats m 0 c).arrAt_eq_of_covers 4 _ (by decide +kernel) fun t hf y => ?_
    have h2 : t.val % 3 = 2 := (flush0_4 t).mp hf
    rw [after0_4]
    have he : ((cfg0.win 4).blk t).view.emb y = ix2 (row t (y 0)) (col t (y 1)) := by blk_ext [idx t, row, col]
    have hx : (cfg0.win 4).xinj (cfg0.grid.coords t) y = ix2 (y 0) (y 1) := by blk_ext
    rw [he, hx]
    refine (out_last m c t h2 _).trans ?_
    refine (Pipeline.eq_sum_fin_of_reset_step_apply_of_flush (fun n h => (outsAt0 m c n h).2) 3 (fun _ => 0)
      (fun t j => k0_pay1 (F := Ideal) (iblk m c 0 t) (iblk m c 1 t) (iblk m c 2 t) (iblk m c 3 t) j)
      (fun t h j => (acc_reset m c t h j).trans (zero_add _).symm) (fun t h j => acc_step m c t h j) t h2 _).trans ?_
    rw [zero_add]
    unfold merged
    refine Finset.sum_congr rfl fun n _ => ?_
    have hn := n.isLt
    refine (point_apply m c _ (y 0) (y 1)).trans ?_
    generalize hs : (⟨3 * (t.val / 3) + n.val, _⟩ : Fin cfg0.N) = s
    have hv : s.val = 3 * (t.val / 3) + n.val := by rw [← hs]
    rw [show br s = n from Fin.ext (by show s.val % 3 = n.val; omega),
      show row s (y 0) = row t (y 0) from Fin.ext (by show s.val / 6 * 1024 + (y 0).val = t.val / 6 * 1024 + (y 0).val; omega),
      show col s (y 1) = col t (y 1) from Fin.ext (by show s.val / 3 % 2 * 512 + (y 1).val = t.val / 3 % 2 * 512 + (y 1).val; omega)]
    rfl
  rw [h]
  rfl

end Cert.MergeFwdValue

end
-- ==== Proof.MergeFwdClaim.lean ====
/-
  THE CLAIMS OF `merge_fwd`, assembled: the reference's run, and that over the extended reals the merged rows are the reference's
  at all arguments.
-/
module

public import proofs.«01_k».proof.Defs
public import proofs.«01_k».proof.Proof.Gen.MergeFwd.Frame
public import proofs.«01_k».proof.Proof.Gen.MergeFwdRefIdeal.Run
public import proofs.«01_k».proof.Proof.MergeFwdValue
public import Idealize.ShloMosaic.Lib.Quiescent

@[expose] public section

noncomputable section

namespace Cert.MergeFwdClaim

open Idealize.ShloMosaic Idealize.SL.Sem

/-- The reference runs, its arguments end unchanged and its counters at zero. -/
theorem reference_runs : Cert.quiescent_MergeFwdRefIdeal := fun m ρ _ =>
  (θ_run Cert.MergeFwdRefIdeal.defs _ _).mono (fun r h => ⟨fun c => (h c).2, sem_eq_zero_of_no_sems (by decide) r.2⟩)
    (Cert.MergeFwdRefIdeal.Value.run (F := Ideal) m ρ)

/-- Over the extended reals the merged rows are the reference's. -/
theorem algebraic : Cert.algebraic_MergeFwdIdeal_MergeFwdRefIdeal := by
  intro m ρ m' ρ' _ hagree
  refine ⟨_, Cert.MergeFwdIdeal.Value.run_blocks (F := Ideal) m ρ, ?_⟩
  refine (θ_run Cert.MergeFwdRefIdeal.defs _ _).mono (fun _ h c => ⟨?_, (h c).2⟩) (Cert.MergeFwdRefIdeal.Value.run (F := Ideal) m' ρ')
  refine ((h c).1.trans (Cert.MergeFwdRefIdeal.Read.val_main_v17_eq _ _ _)).trans ?_
  rw [(hagree c).1, (hagree c).2.1, (hagree c).2.2]
  funext j
  rw [eq_ix2 j]
  exact (MergeFwdValue.reference_apply _ _ _ (j 0) (j 1)).trans (MergeFwdValue.final m c (j 0) (j 1)).symm

end Cert.MergeFwdClaim

end
-- ==== Proof.RmsFwdValue.lean ====
/-
  THE NORM of the layer's input: what the kernel's blocks of 256 rows hold and what the reference computes, at an index. Both
  scale a row by the root of its mean square and by the gain; no sum is split between blocks.
-/
module

public import proofs.«01_k».proof.Proof.Gen.RmsFwdIdeal.Value
public import proofs.«01_k».proof.Proof.Gen.RmsFwdRefIdeal.Read
public import proofs.«01_k».proof.Proof.Reals
public import Idealize.ShloMosaic.Lib.Claim
public import Idealize.ShloMosaic.Lib.Pipeline.ValueKit

@[expose] public section

set_option maxRecDepth 16384

noncomputable section

namespace Cert.RmsFwdValue

open Cert.RmsFwdIdeal Cert.RmsFwdIdeal.Gen Idealize.ShloMosaic Idealize.ShloMosaic.TcCoe Idealize.SL.Sem Cert.Reals

/-- The normed entry `q` of a row `x` with gain `g`. -/
def norm (x : Fin 1024 → EReal) (g : Fin 1024 → EReal) (q : Fin 1024) : EReal :=
  x q * Ideal.rsqrt (Ideal.div (∑ k, x k * x k) (Ideal.ofBits .f32 0x44800000#32) + Ideal.ofBits .f32 0x358637BD#32) * g q

/-- One block at an index. -/
theorem pay_apply (x : Vec Ideal S256x1024 .f32) (g : Vec Ideal S1x1024 .f32) (p : Fin 256) (q : Fin 1024) :
    k0_pay1 (F := Ideal) x g (ix2 p q) = norm (fun k => x (ix2 p k)) (fun k => g (ix2 0 k)) q := by
  pointwise [k0_pay1]
  rfl

/-- The reference at an index. -/
theorem reference_apply (x : (⟨S2048x1024, .f32⟩ : BufTy).Contents (Elt Ideal)) (g : (⟨S1x1024, .f32⟩ : BufTy).Contents (Elt Ideal))
    (r : Fin 2048) (q : Fin 1024) :
    Cert.RmsFwdRefIdeal.Read.val_main_v14 (F := Ideal) x g (ix2 r q) = norm (fun k => x (ix2 r k)) (fun k => g (ix2 0 k)) q := by
  open Cert.RmsFwdRefIdeal.Read in
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

variable (m : (ℓ : Loc nD τ sig) → Buf (Elt Ideal) ℓ) (c : Dev nD)

/-- The arguments: the rows and the gain. -/
abbrev xs := m ((c : Thread nD τ).loc main_arg0)
abbrev gain := m ((c : Thread nD τ).loc main_arg1)

/-- The windows' block indices at a point. -/
theorem idx : ∀ t : Fin cfg0.N, win0_0.index t = ![t.val, 0] ∧ win0_1.index t = ![0, 0] ∧ win0_2.index t = ![t.val, 0] :=
  (by decide +kernel : ∀ t : Fin grid0.N, _)

theorem lt (t : Fin cfg0.N) : t.val < 8 := lt_of_lt_of_eq t.isLt N_0

/-- The row that a row of point `t`'s block is. -/
def row (t : Fin cfg0.N) (p : Fin 256) : Fin 2048 := ⟨t.val * 256 + p.val, by have := lt t; omega⟩

theorem iblk_0 (t : Fin cfg0.N) : iblk m c 0 t = fun i => xs m c (ix2 (row t (i 0)) (i 1)) := by
  funext i
  unfold iblk
  have he : ((cfg0.win 0).blk t).view.emb i = ix2 (row t (i 0)) (i 1) := by blk_ext [idx t, row]
  rw [View.read_apply, he]
  rfl

theorem iblk_1 (t : Fin cfg0.N) : iblk m c 1 t = fun i => gain m c (ix2 0 (i 1)) := by
  funext i
  unfold iblk
  have he : ((cfg0.win 1).blk t).view.emb i = ix2 0 (i 1) := by blk_ext [idx t]
  rw [View.read_apply, he]
  rfl

/-- The result at an index. -/
theorem final (r : Fin 2048) (q : Fin 1024) :
    (dats m 0 c).arrAt 2 cfg0.N (ix2 r q) = norm (fun k => xs m c (ix2 r k)) (fun k => gain m c (ix2 0 k)) q := by
  have h : (dats m 0 c).arrAt 2 cfg0.N = fun j : S2048x1024.Idx => norm (fun k => xs m c (ix2 (j 0) k)) (fun k => gain m c (ix2 0 k)) (j 1) := by
    refine (dats m 0 c).arrAt_eq_of_covers 2 _ (by decide +kernel) fun t _ y => ?_
    rw [after0_2]
    have hb : out0_2 (iblk m c 0 t) (iblk m c 1 t) = k0_pay1 (F := Ideal) (iblk m c 0 t) (iblk m c 1 t) := by
      frame_out
    have he : ((cfg0.win 2).blk t).view.emb y = ix2 (row t (y 0)) (y 1) := by blk_ext [idx t, row]
    have hx : (cfg0.win 2).xinj (cfg0.grid.coords t) y = ix2 (y 0) (y 1) := by blk_ext
    rw [hb, iblk_0, iblk_1, he, hx]
    exact pay_apply _ _ (y 0) (y 1)
  rw [h]
  rfl

end Cert.RmsFwdValue

end
-- ==== Proof.RmsFwdClaim.lean ====
/-
  THE CLAIMS OF `rms_fwd`, assembled: the reference's run, and that over the extended reals the normed rows are the reference's
  at all arguments.
-/
module

public import proofs.«01_k».proof.Defs
public import proofs.«01_k».proof.Proof.Gen.RmsFwd.Frame
public import proofs.«01_k».proof.Proof.Gen.RmsFwdRefIdeal.Run
public import proofs.«01_k».proof.Proof.RmsFwdValue
public import Idealize.ShloMosaic.Lib.Quiescent

@[expose] public section

noncomputable section

namespace Cert.RmsFwdClaim

open Idealize.ShloMosaic Idealize.SL.Sem

/-- The reference runs, its arguments end unchanged and its counters at zero. -/
theorem reference_runs : Cert.quiescent_RmsFwdRefIdeal := fun m ρ _ =>
  (θ_run Cert.RmsFwdRefIdeal.defs _ _).mono (fun r h => ⟨fun c => (h c).2, sem_eq_zero_of_no_sems (by decide) r.2⟩)
    (Cert.RmsFwdRefIdeal.Value.run (F := Ideal) m ρ)

/-- Over the extended reals the normed rows are the reference's. -/
theorem algebraic : Cert.algebraic_RmsFwdIdeal_RmsFwdRefIdeal := by
  intro m ρ m' ρ' _ hagree
  refine ⟨_, Cert.RmsFwdIdeal.Value.run_blocks (F := Ideal) m ρ, ?_⟩
  refine (θ_run Cert.RmsFwdRefIdeal.defs _ _).mono (fun _ h c => ⟨?_, (h c).2⟩) (Cert.RmsFwdRefIdeal.Value.run (F := Ideal) m' ρ')
  refine ((h c).1.trans (Cert.RmsFwdRefIdeal.Read.val_main_v14_eq _ _)).trans ?_
  rw [(hagree c).1, (hagree c).2]
  funext j
  rw [eq_ix2 j]
  exact (RmsFwdValue.reference_apply _ _ (j 0) (j 1)).trans (RmsFwdValue.final m c (j 0) (j 1)).symm

end Cert.RmsFwdClaim

end
-- ==== Proof.LbsFwdReference.lean ====
/-
  WHAT THE REFERENCE OF `lbs_fwd` COMPUTES: `cumsum(softmax(lower_bounds)) - softmax(lower_bounds)[0]` along the four layers.
  With `e` the exponentials and `s` their sum over the layers (those of the backward call), row `r` is the sum of `e k / s` over
  the layers `k` from 1 to `r`.
-/
module

public import proofs.«01_k».proof.Proof.Gen.LbsFwdRefIdeal.Read
public import proofs.«01_k».proof.Proof.LbsBwdReference

@[expose] public section

set_option maxRecDepth 16384

noncomputable section

namespace Cert.LbsFwdReference

open Cert.LbsFwdRefIdeal Cert.LbsFwdRefIdeal.Read Idealize.ShloMosaic Cert.Reals
open Cert.LbsBwdReference (mx e s s_pos foldl_rowMajor)

/-- The lower bound of layer `r`'s forget gate in column `l`. -/
def bound (f : S4x512.Idx → ℝ) (r : Fin 4) (l : Fin 512) : ℝ := ∑ k : Fin 4, if k ≤ r ∧ k ≠ 0 then e f k l / s f l else 0

/-- The maximum over the layers. -/
theorem v0_apply (f : S4x512.Idx → ℝ) (l : Fin 512) :
    val_main_v0 (F := Ideal) (fun i => ((f i : ℝ) : EReal)) (ix1 l) = ((mx f l : ℝ) : EReal) := by
  pointwise [val_main_v0, val_main_cst]
  rw [ofBits_neg_inf]
  simp only [mx, ← max_coe]
  simp [Fin.univ_succ, Finset.fold_insert_idem, max_assoc]

/-- The exponentials. -/
theorem v6_apply (f : S4x512.Idx → ℝ) (r : Fin 4) (l : Fin 512) :
    val_main_v6 (F := Ideal) (fun i => ((f i : ℝ) : EReal)) (ix2 r l) = ((e f r l : ℝ) : EReal) := by
  pointwise [val_main_v6, val_main_v5, val_main_v4, val_main_v3, val_main_v2, val_main_v1, val_main_cst_0]
  rw [v0_apply, ofBits_neg_inf, max_eq_right bot_le, ← EReal.coe_sub, Ideal.exp_coe, e]

/-- Their sum over the layers. -/
theorem v7_apply (f : S4x512.Idx → ℝ) (l : Fin 512) :
    val_main_v7 (F := Ideal) (fun i => ((f i : ℝ) : EReal)) (ix1 l) = ((s f l : ℝ) : EReal) := by
  pointwise [val_main_v7, val_main_cst_1]
  simp only [v6_apply, sum_coe, s]

/-- The softmax. -/
theorem v10_apply (f : S4x512.Idx → ℝ) (r : Fin 4) (l : Fin 512) :
    val_main_v10 (F := Ideal) (fun i => ((f i : ℝ) : EReal)) (ix2 r l) = ((e f r l / s f l : ℝ) : EReal) := by
  pointwise [val_main_v10, val_main_v9, val_main_v8]
  rw [v6_apply, v7_apply, div_coe_coe _ _ (s_pos f l).ne']

/-- Its sums over the layers up to `r`. -/
theorem v11_apply (f : S4x512.Idx → ℝ) (r : Fin 4) (l : Fin 512) :
    val_main_v11 (F := Ideal) (fun i => ((f i : ℝ) : EReal)) (ix2 r l)
      = ((∑ k : Fin 4, if k ≤ r then e f k l / s f l else 0 : ℝ) : EReal) := by
  have h10 : val_main_v10 (F := Ideal) (fun i => ((f i : ℝ) : EReal)) = fun i => ((e f (i 0) (i 1) / s f (i 1) : ℝ) : EReal) := by
    funext i
    rw [eq_ix2 i]
    exact v10_apply f (i 0) (i 1)
  have h0 : ∀ i, val_main_call0_call0_v0 (F := Ideal) i = 0 := by
    intro i
    pointwise [val_main_call0_call0_v0, val_main_call0_call0_cst]
  unfold val_main_v11 Host.reduceWindowAdd
  simp only [Ideal.hostReduceWindowAdd_def, Ideal.hostReduceWindowAdd, Host.reduceWindow, h10, h0]
  refine (foldl_rowMajor ⟨2, ![4, 1]⟩ (fun i => if h : ∀ a : Fin 2, ![3, 0] a ≤ (ix2 r l a).val * ![1, 1] a + (i a).val
      ∧ (ix2 r l a).val * ![1, 1] a + (i a).val - ![3, 0] a < ![4, 512] a then
        (((fun j : S4x512.Idx => e f (j 0) (j 1) / s f (j 1)) (fun a => ⟨(ix2 r l a).val * ![1, 1] a + (i a).val - ![3, 0] a, (h a).2⟩) : ℝ) : EReal)
      else 0) 0).trans ?_
  rw [sum_idx2, zero_add]
  fin_cases r <;> simp [Fin.sum_univ_four, Fin.forall_fin_two] <;> rfl

/-- THE REFERENCE'S RESULT at layer `r`, column `l`. -/
theorem reference_apply (f : S4x512.Idx → ℝ) (r : Fin 4) (l : Fin 512) :
    val_main_v16 (F := Ideal) (fun i => ((f i : ℝ) : EReal)) (ix2 r l) = ((bound f r l : ℝ) : EReal) := by
  pointwise [val_main_v16, val_main_v15, val_main_v14, val_main_v13, val_main_v12]
  rw [v11_apply, v10_apply, ← EReal.coe_sub]
  refine congrArg Real.toEReal ?_
  fin_cases r <;> simp [bound, Fin.sum_univ_four] <;> ring

end Cert.LbsFwdReference

end
-- ==== Proof.LbsFwdValue.lean ====
/-
  THE VALUE OF `lbs_fwd`: every row of the kernel's array is the reference's bound of that layer, where the arguments are real.
-/
module

public import proofs.«01_k».proof.Proof.Gen.LbsFwdIdeal.Value
public import proofs.«01_k».proof.Proof.LbsFwdReference
public import Idealize.ShloMosaic.Lib.Pipeline.ValueKit

@[expose] public section

set_option maxRecDepth 16384

noncomputable section

namespace Cert.LbsFwdValue

open Cert.LbsFwdIdeal Cert.LbsFwdIdeal.Gen Idealize.ShloMosaic Cert.Reals Cert.LbsFwdReference
open Cert.LbsBwdReference (mx e s s_pos)

/-- An array of reals, as the idealized program holds it. -/
abbrev emb (f : S4x512.Idx → ℝ) : Vec Ideal S4x512 .f32 := fun i => ((f i : ℝ) : EReal)

/-- The exponentials of the rows from the second on and the sum of all four, as the body computes them. -/
theorem exps_apply (f : S4x512.Idx → ℝ) (x : S1x512.Idx) :
    k0_pay2 (F := Ideal) (View.ld (emb f) r0_0) (View.ld (emb f) r0_1) (View.ld (emb f) r0_2) (View.ld (emb f) r0_3) x = ((e f 1 (x 1) : ℝ) : EReal)
    ∧ k0_pay3 (F := Ideal) (View.ld (emb f) r0_0) (View.ld (emb f) r0_1) (View.ld (emb f) r0_2) (View.ld (emb f) r0_3) x = ((e f 2 (x 1) : ℝ) : EReal)
    ∧ k0_pay4 (F := Ideal) (View.ld (emb f) r0_0) (View.ld (emb f) r0_1) (View.ld (emb f) r0_2) (View.ld (emb f) r0_3) x = ((e f 3 (x 1) : ℝ) : EReal)
    ∧ k0_pay5 (F := Ideal) (View.ld (emb f) r0_0) (View.ld (emb f) r0_1) (View.ld (emb f) r0_2) (View.ld (emb f) r0_3) x = ((s f (x 1) : ℝ) : EReal) := by
  pointwise [k0_pay5, k0_pay4, k0_pay3, k0_pay2, k0_pay1, r0_0, r0_1, r0_2, r0_3]
  simp only [max_coe, ← EReal.coe_sub, Ideal.exp_coe, ← EReal.coe_add, s, e, mx, Fin.sum_univ_four]
  simp only [and_self]

/-- The four rows the body stores. -/
theorem rows_apply (f : S4x512.Idx → ℝ) (x : S1x512.Idx) :
    k0_pay6 (F := Ideal) x = ((bound f 0 (x 1) : ℝ) : EReal)
    ∧ k0_pay7 (F := Ideal) (View.ld (emb f) r0_0) (View.ld (emb f) r0_1) (View.ld (emb f) r0_2) (View.ld (emb f) r0_3) x = ((bound f 1 (x 1) : ℝ) : EReal)
    ∧ k0_pay8 (F := Ideal) (View.ld (emb f) r0_0) (View.ld (emb f) r0_1) (View.ld (emb f) r0_2) (View.ld (emb f) r0_3) x = ((bound f 2 (x 1) : ℝ) : EReal)
    ∧ k0_pay9 (F := Ideal) (View.ld (emb f) r0_0) (View.ld (emb f) r0_1) (View.ld (emb f) r0_2) (View.ld (emb f) r0_3) x = ((bound f 3 (x 1) : ℝ) : EReal) := by
  obtain ⟨h1, h2, h3, h4⟩ := exps_apply f x
  have hs := (s_pos f (x 1)).ne'
  have b0 : k0_pay6 (F := Ideal) x = ((bound f 0 (x 1) : ℝ) : EReal) := by
    pointwise [k0_pay6]
    simp [bound, Fin.sum_univ_four]
  have b1 : k0_pay7 (F := Ideal) (View.ld (emb f) r0_0) (View.ld (emb f) r0_1) (View.ld (emb f) r0_2) (View.ld (emb f) r0_3) x = ((bound f 1 (x 1) : ℝ) : EReal) := by
    unfold k0_pay7
    rw [addf_apply, divf_apply, b0, h1, h4, Ideal.divf_def, div_coe_coe _ _ hs, Ideal.addf_def, ← EReal.coe_add]
    simp [bound, Fin.sum_univ_four]
  have b2 : k0_pay8 (F := Ideal) (View.ld (emb f) r0_0) (View.ld (emb f) r0_1) (View.ld (emb f) r0_2) (View.ld (emb f) r0_3) x = ((bound f 2 (x 1) : ℝ) : EReal) := by
    unfold k0_pay8
    rw [addf_apply, divf_apply, b1, h2, h4, Ideal.divf_def, div_coe_coe _ _ hs, Ideal.addf_def, ← EReal.coe_add]
    simp [bound, Fin.sum_univ_four]
  have b3 : k0_pay9 (F := Ideal) (View.ld (emb f) r0_0) (View.ld (emb f) r0_1) (View.ld (emb f) r0_2) (View.ld (emb f) r0_3) x = ((bound f 3 (x 1) : ℝ) : EReal) := by
    unfold k0_pay9
    rw [addf_apply, divf_apply, b2, h3, h4, Ideal.divf_def, div_coe_coe _ _ hs, Ideal.addf_def, ← EReal.coe_add]
    simp [bound, Fin.sum_univ_four]
  exact ⟨b0, b1, b2, b3⟩

/-- WHAT THE KERNEL'S ARRAY HOLDS at layer `r`, column `l`: the reference's bound there. -/
theorem G1_apply (f : S4x512.Idx → ℝ) (r : Fin 4) (l : Fin 512) :
    Value.G1 (F := Ideal) (emb f) (ix2 r l) = ((bound f r l : ℝ) : EReal) := by
  canon_tiles x h
  all_goals
    obtain ⟨p0, p1, p2, p3⟩ := rows_apply f x
    have hl : l = x 1 := Fin.ext h1
  · have hr : r = 3 := Fin.ext (by change r.val = _ at h0; show r.val = 3; omega)
    rw [hl, hr]; exact p3
  · have hr : r = 2 := Fin.ext (by change r.val = _ at h0; show r.val = 2; omega)
    rw [hl, hr]; exact p2
  · have hr : r = 1 := Fin.ext (by change r.val = _ at h0; show r.val = 1; omega)
    rw [hl, hr]; exact p1
  · have hr : r = 0 := Fin.ext (by change r.val = _ at h0; show r.val = 0; omega)
    rw [hl, hr]; exact p0

end Cert.LbsFwdValue

end
-- ==== Proof.LbsFwdClaim.lean ====
/-
  THE CLAIMS OF `lbs_fwd`, assembled: both runs of the kernel and the reference's, and that over the extended reals the kernel's
  result is the reference's when the lower bounds are finite.
-/
module

public import proofs.«01_k».proof.Defs
public import proofs.«01_k».proof.Proof.Gen.LbsFwd.Frame
public import proofs.«01_k».proof.Proof.LbsFwdValue
public import Idealize.ShloMosaic.Lib.Quiescent

@[expose] public section

noncomputable section

namespace Cert.LbsFwdClaim

open Idealize.ShloMosaic Idealize.SL.Sem Cert.Reals

/-- The side condition of the precondition's operations. -/
theorem pre_facts : Cert.Pre_lbs_fwd_finite.Facts := ⟨by decide⟩

attribute [local instance] pre_facts

/-- The reference runs, its arguments end unchanged and its counters at zero. -/
theorem reference_runs : Cert.quiescent_LbsFwdRefIdeal := fun m ρ _ =>
  (θ_run Cert.LbsFwdRefIdeal.defs _ _).mono (fun r h => ⟨fun c => (h c).2, sem_eq_zero_of_no_sems (by decide) r.2⟩)
    (Cert.LbsFwdRefIdeal.Value.run (F := Ideal) m ρ)

/-- KERNEL AND REFERENCE AGREE on finite arguments. -/
theorem algebraic : Cert.algebraic_LbsFwdIdeal_LbsFwdRefIdeal_pre_lbs_fwd_finite := by
  intro m ρ m' ρ' hpre hagree
  refine ⟨_, Cert.LbsFwdIdeal.Value.run (F := Ideal) m ρ, ?_⟩
  refine (θ_run Cert.LbsFwdRefIdeal.defs _ _).mono (fun _ h c => ⟨?_, (h c).2⟩) (Cert.LbsFwdRefIdeal.Value.run (F := Ideal) m' ρ')
  have hp0 := hpre c
  obtain ⟨f, hf⟩ := reals_of_finite _ _ _ hp0
  rw [(h c).1, Cert.LbsFwdRefIdeal.Read.val_main_v16_eq, hagree c, hf]
  funext j
  rw [eq_ix2 j]
  exact (LbsFwdReference.reference_apply f (j 0) (j 1)).trans (LbsFwdValue.G1_apply f (j 0) (j 1)).symm

end Cert.LbsFwdClaim

end
-- ==== Proof.Ff1Value.lean ====
/-
  THE FIRST FEED-FORWARD PRODUCT: what the kernel's blocks of 1024 rows and 1024 columns hold and what the reference computes,
  at an index: the square of the rectified product. The kernel reads the weights reordered into column blocks; no sum is split.
-/
module

public import proofs.«01_k».proof.Proof.Gen.Ff1Ideal.Value
public import proofs.«01_k».proof.Proof.Gen.Ff1RefIdeal.Read
public import proofs.«01_k».proof.Proof.Reals
public import Idealize.ShloMosaic.Lib.Claim
public import Idealize.ShloMosaic.Lib.Pipeline.ValueKit

@[expose] public section

set_option maxRecDepth 16384

noncomputable section

namespace Cert.Ff1Value

open Cert.Ff1Ideal Cert.Ff1Ideal.Gen Idealize.ShloMosaic Idealize.ShloMosaic.TcCoe Idealize.SL.Sem Cert.Reals

/-- The square of the rectified product of a row with a column. -/
def act (x w : Fin 1024 → EReal) : EReal := max (∑ k, x k * w k) 0 * max (∑ k, x k * w k) 0

/-- One block at an index. -/
theorem pay_apply (x : Vec Ideal S1024x1024 .bf16) (w : Vec Ideal S1x1024x1024 .bf16) (p q : Fin 1024) :
    k0_pay1 (F := Ideal) x w (ix2 p q) = act (fun k => x (ix2 p k)) (fun k => w (ix3 0 k q)) := by
  pointwise [k0_pay1]
  rfl

/-- The reference at an index. -/
theorem reference_apply (x : (⟨S2048x1024, .bf16⟩ : BufTy).Contents (Elt Ideal)) (w : (⟨S1024x4096, .f32⟩ : BufTy).Contents (Elt Ideal))
    (r : Fin 2048) (q : Fin 4096) :
    Cert.Ff1RefIdeal.Read.val_main_v4 (F := Ideal) x w (ix2 r q) = act (fun k => x (ix2 r k)) (fun k => w (ix2 k q)) := by
  open Cert.Ff1RefIdeal.Read in
  pointwise [val_main_v4, val_main_v3, val_main_v2, val_main_v1, val_main_v0, val_main_call0_v0, val_main_call0_cst]
  rfl

variable (m : (ℓ : Loc nD τ sig) → Buf (Elt Ideal) ℓ) (c : Dev nD)

/-- The arguments: the normed rows and the weights. -/
abbrev xs := m ((c : Thread nD τ).loc main_arg0)
abbrev ws := m ((c : Thread nD τ).loc main_arg1)

/-- The weights, reordered into column blocks and rounded. -/
theorem V_v2 (j : Fin 4) (k q : Fin 1024) : V m c main_v2 (ix3 j k q) = ws m c (ix2 k ⟨j.val * 1024 + q.val, by omega⟩) := by
  unfold V
  entry_read
  pointwise

/-- The windows' block indices at a point: two row blocks within each of four column blocks. -/
theorem idx : ∀ t : Fin cfg0.N, win0_0.index t = ![t.val % 2, 0] ∧ win0_1.index t = ![t.val / 2, 0, 0] ∧ win0_2.index t = ![t.val % 2, t.val / 2] :=
  (by decide +kernel : ∀ t : Fin grid0.N, _)

theorem lt (t : Fin cfg0.N) : t.val < 8 := lt_of_lt_of_eq t.isLt N_0

/-- The row and the column of the result that a place of point `t`'s block is. -/
def row (t : Fin cfg0.N) (p : Fin 1024) : Fin 2048 := ⟨t.val % 2 * 1024 + p.val, by omega⟩
def col (t : Fin cfg0.N) (q : Fin 1024) : Fin 4096 := ⟨t.val / 2 * 1024 + q.val, by have := lt t; omega⟩

theorem iblk_0 (t : Fin cfg0.N) : iblk m c 0 t = fun i => xs m c (ix2 (row t (i 0)) (i 1)) := by
  funext i
  unfold iblk
  have he : ((cfg0.win 0).blk t).view.emb i = ix2 (row t (i 0)) (i 1) := by blk_ext [idx t, row]
  rw [View.read_apply, he]
  unfold V
  entry_read
  rfl

theorem iblk_1 (t : Fin cfg0.N) : iblk m c 1 t = fun i => ws m c (ix2 (i 1) (col t (i 2))) := by
  funext i
  unfold iblk
  have he : ((cfg0.win 1).blk t).view.emb i = ix3 (⟨t.val / 2, by have := lt t; omega⟩ : Fin 4) (i 1) (i 2) := by blk_ext [idx t]
  rw [View.read_apply, he]
  exact V_v2 m c _ (i 1) (i 2)

/-- The result at an index. -/
theorem final (r : Fin 2048) (q : Fin 4096) :
    (dats m 0 c).arrAt 2 cfg0.N (ix2 r q) = act (fun k => xs m c (ix2 r k)) (fun k => ws m c (ix2 k q)) := by
  have h : (dats m 0 c).arrAt 2 cfg0.N = fun j : S2048x4096.Idx => act (fun k => xs m c (ix2 (j 0) k)) (fun k => ws m c (ix2 k (j 1))) := by
    refine (dats m 0 c).arrAt_eq_of_covers 2 _ (by decide +kernel) fun t _ y => ?_
    rw [after0_2]
    have hb : out0_2 (iblk m c 0 t) (iblk m c 1 t) = k0_pay1 (F := Ideal) (iblk m c 0 t) (iblk m c 1 t) := by
      frame_out
    have he : ((cfg0.win 2).blk t).view.emb y = ix2 (row t (y 0)) (col t (y 1)) := by blk_ext [idx t, row, col]
    have hx : (cfg0.win 2).xinj (cfg0.grid.coords t) y = ix2 (y 0) (y 1) := by blk_ext
    rw [hb, iblk_0, iblk_1, he, hx]
    exact pay_apply _ _ (y 0) (y 1)
  rw [h]
  rfl

end Cert.Ff1Value

end
-- ==== Proof.Ff1Claim.lean ====
/-
  THE CLAIMS OF `ff1`, assembled: the reference's run, and that over the extended reals the squared activations are the reference's
  at all arguments.
-/
module

public import proofs.«01_k».proof.Defs
public import proofs.«01_k».proof.Proof.Gen.Ff1.Frame
public import proofs.«01_k».proof.Proof.Gen.Ff1RefIdeal.Run
public import proofs.«01_k».proof.Proof.Ff1Value
public import Idealize.ShloMosaic.Lib.Quiescent

@[expose] public section

noncomputable section

namespace Cert.Ff1Claim

open Idealize.ShloMosaic Idealize.SL.Sem

/-- The reference runs, its arguments end unchanged and its counters at zero. -/
theorem reference_runs : Cert.quiescent_Ff1RefIdeal := fun m ρ _ =>
  (θ_run Cert.Ff1RefIdeal.defs _ _).mono (fun r h => ⟨fun c => (h c).2, sem_eq_zero_of_no_sems (by decide) r.2⟩)
    (Cert.Ff1RefIdeal.Value.run (F := Ideal) m ρ)

/-- Over the extended reals the squared activations are the reference's. -/
theorem algebraic : Cert.algebraic_Ff1Ideal_Ff1RefIdeal := by
  intro m ρ m' ρ' _ hagree
  refine ⟨_, Cert.Ff1Ideal.Value.run_blocks (F := Ideal) m ρ, ?_⟩
  refine (θ_run Cert.Ff1RefIdeal.defs _ _).mono (fun _ h c => ⟨?_, (h c).2⟩) (Cert.Ff1RefIdeal.Value.run (F := Ideal) m' ρ')
  refine ((h c).1.trans (Cert.Ff1RefIdeal.Read.val_main_v4_eq _ _)).trans ?_
  rw [(hagree c).1, (hagree c).2]
  funext j
  rw [eq_ix2 j]
  exact (Ff1Value.reference_apply _ _ (j 0) (j 1)).trans (Ff1Value.final m c (j 0) (j 1)).symm

end Cert.Ff1Claim

end
-- ==== Proof.OutProjValue.lean ====
/-
  THE OUTPUT PROJECTION with the residual and the norm after it: what the kernel's blocks of 512 rows hold and what the reference
  computes, at an index, for both results. No sum is split between blocks.
-/
module

public import proofs.«01_k».proof.Proof.Gen.OutProjIdeal.Value
public import proofs.«01_k».proof.Proof.Gen.OutProjRefIdeal.Read
public import proofs.«01_k».proof.Proof.RmsFwdValue

@[expose] public section

set_option maxRecDepth 16384

noncomputable section

namespace Cert.OutProjValue

open Cert.OutProjIdeal Cert.OutProjIdeal.Gen Idealize.ShloMosaic Idealize.ShloMosaic.TcCoe Idealize.SL.Sem Cert.Reals
open Cert.RmsFwdValue (norm)

/-- A row of the residual stream: the layer's input and the projected row. -/
def mid (z : Fin 1024 → EReal) (w : Fin 1024 → Fin 1024 → EReal) (x : Fin 1024 → EReal) (q : Fin 1024) : EReal := x q + ∑ k, z k * w k q

/-- One block of the first result at an index. -/
theorem pay1_apply (z : Vec Ideal S512x1024 .bf16) (w : Vec Ideal S1024x1024 .bf16) (x : Vec Ideal S512x1024 .f32) (p : Fin 512) (q : Fin 1024) :
    k0_pay1 (F := Ideal) z w x (ix2 p q) = mid (fun k => z (ix2 p k)) (fun k l => w (ix2 k l)) (fun k => x (ix2 p k)) q := by
  pointwise [k0_pay1]
  exact add_comm _ _

/-- One block of the second result at an index. -/
theorem pay2_apply (z : Vec Ideal S512x1024 .bf16) (w : Vec Ideal S1024x1024 .bf16) (x : Vec Ideal S512x1024 .f32) (g : Vec Ideal S1x1024 .f32)
    (p : Fin 512) (q : Fin 1024) :
    k0_pay2 (F := Ideal) z w x g (ix2 p q)
      = norm (mid (fun k => z (ix2 p k)) (fun k l => w (ix2 k l)) (fun k => x (ix2 p k))) (fun k => g (ix2 0 k)) q := by
  pointwise [k0_pay2]
  simp only [pay1_apply]
  rfl

section Reference

open Cert.OutProjRefIdeal.Read

variable (z : (⟨S2048x1024, .bf16⟩ : BufTy).Contents (Elt Ideal)) (w : (⟨S1024x1024, .f32⟩ : BufTy).Contents (Elt Ideal))
  (x : (⟨S2048x1024, .f32⟩ : BufTy).Contents (Elt Ideal)) (g : (⟨S1x1024, .f32⟩ : BufTy).Contents (Elt Ideal))

/-- The reference's first result at an index. -/
theorem v2_apply (r : Fin 2048) (q : Fin 1024) :
    val_main_v2 (F := Ideal) z w x (ix2 r q) = mid (fun k => z (ix2 r k)) (fun k l => w (ix2 k l)) (fun k => x (ix2 r k)) q := by
  pointwise [val_main_v2, val_main_v1, val_main_v0]
  rfl

/-- The reference's second result at an index. -/
theorem v17_apply (r : Fin 2048) (q : Fin 1024) :
    val_main_v17 (F := Ideal) z w x g (ix2 r q)
      = norm (mid (fun k => z (ix2 r k)) (fun k l => w (ix2 k l)) (fun k => x (ix2 r k))) (fun k => g (ix2 0 k)) q := by
  pointwise [val_main_v17, val_main_v16, val_main_v15, val_main_v14, val_main_v13, val_main_v12, val_main_v11, val_main_v10, val_main_v9,
    val_main_v8, val_main_v7, val_main_v6, val_main_v5, val_main_v4, val_main_v3, val_main_cst, val_main_cst_0, val_main_cst_1]
  simp only [v2_apply]
  rfl

end Reference

variable (m : (ℓ : Loc nD τ sig) → Buf (Elt Ideal) ℓ) (c : Dev nD)

/-- The arguments: the merged rows, the weights, the layer's input and the gain. -/
abbrev zs := m ((c : Thread nD τ).loc main_arg0)
abbrev ws := m ((c : Thread nD τ).loc main_arg1)
abbrev xs := m ((c : Thread nD τ).loc main_arg2)
abbrev gain := m ((c : Thread nD τ).loc main_arg3)

/-- The windows' block indices at a point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

theorem lt (t : Fin cfg0.N) : t.val < 4 := lt_of_lt_of_eq t.isLt N_0

/-- The row that a row of point `t`'s block is. -/
def row (t : Fin cfg0.N) (p : Fin 512) : Fin 2048 := ⟨t.val * 512 + p.val, by have := lt t; omega⟩

/-- The weights: rounded, reordered into row blocks and back. -/
theorem V_v2 (k q : Fin 1024) : V m c main_v2 (ix2 k q) = ws m c (ix2 k q) := by
  unfold V
  entry_read
  pointwise
  exact congrArg (fun x => ws m c (ix2 x q)) (Fin.ext (Nat.div_add_mod' k.val 256))

theorem iblk_0 (t : Fin cfg0.N) : iblk m c 0 t = fun i => zs m c (ix2 (row t (i 0)) (i 1)) := by
  funext i
  unfold iblk
  have he : ((cfg0.win 0).blk t).view.emb i = ix2 (row t (i 0)) (i 1) := by blk_ext [idx t, row]
  rw [View.read_apply, he]
  unfold V
  entry_read
  rfl

theorem iblk_1 (t : Fin cfg0.N) : iblk m c 1 t = fun i => ws m c (ix2 (i 0) (i 1)) := by
  funext i
  unfold iblk
  have he : ((cfg0.win 1).blk t).view.emb i = ix2 (i 0) (i 1) := by blk_ext [idx t]
  rw [View.read_apply, he]
  exact V_v2 m c (i 0) (i 1)

theorem iblk_2 (t : Fin cfg0.N) : iblk m c 2 t = fun i => xs m c (ix2 (row t (i 0)) (i 1)) := by
  funext i
  unfold iblk
  have he : ((cfg0.win 2).blk t).view.emb i = ix2 (row t (i 0)) (i 1) := by blk_ext [idx t, row]
  rw [View.read_apply, he]
  unfold V
  entry_read
  rfl

theorem iblk_3 (t : Fin cfg0.N) : iblk m c 3 t = fun i => gain m c (ix2 0 (i 1)) := by
  funext i
  unfold iblk
  have he : ((cfg0.win 3).blk t).view.emb i = ix2 0 (i 1) := by blk_ext [idx t]
  rw [View.read_apply, he]
  unfold V
  entry_read
  rfl

/-- A row of the residual stream over the arguments. -/
abbrev midRow (r : Fin 2048) : Fin 1024 → EReal :=
  mid (fun k => zs m c (ix2 r k)) (fun k l => ws m c (ix2 k l)) (fun k => xs m c (ix2 r k))

/-- The first result at an index. -/
theorem final4 (r : Fin 2048) (q : Fin 1024) : (dats m 0 c).arrAt 4 cfg0.N (ix2 r q) = midRow m c r q := by
  have h : (dats m 0 c).arrAt 4 cfg0.N = fun j : S2048x1024.Idx => midRow m c (j 0) (j 1) := by
    refine (dats m 0 c).arrAt_eq_of_covers 4 _ (by decide +kernel) fun t _ y => ?_
    rw [after0_4]
    have hb : out0_4 (iblk m c 0 t) (iblk m c 1 t) (iblk m c 2 t) (iblk m c 3 t)
        = k0_pay1 (F := Ideal) (iblk m c 0 t) (iblk m c 1 t) (iblk m c 2 t) := by
      frame_out
    have he : ((cfg0.win 4).blk t).view.emb y = ix2 (row t (y 0)) (y 1) := by blk_ext [idx t, row]
    have hx : (cfg0.win 4).xinj (cfg0.grid.coords t) y = ix2 (y 0) (y 1) := by blk_ext
    rw [hb, iblk_0, iblk_1, iblk_2, he, hx]
    exact pay1_apply (fun i => zs m c (ix2 (row t (i 0)) (i 1))) (fun i => ws m c (ix2 (i 0) (i 1))) (fun i => xs m c (ix2 (row t (i 0)) (i 1))) (y 0) (y 1)
  rw [h]
  rfl

/-- The second result at an index. -/
theorem final5 (r : Fin 2048) (q : Fin 1024) :
    (dats m 0 c).arrAt 5 cfg0.N (ix2 r q) = norm (midRow m c r) (fun k => gain m c (ix2 0 k)) q := by
  have h : (dats m 0 c).arrAt 5 cfg0.N = fun j : S2048x1024.Idx => norm (midRow m c (j 0)) (fun k => gain m c (ix2 0 k)) (j 1) := by
    refine (dats m 0 c).arrAt_eq_of_covers 5 _ (by decide +kernel) fun t _ y => ?_
    rw [after0_5]
    have hb : out0_5 (iblk m c 0 t) (iblk m c 1 t) (iblk m c 2 t) (iblk m c 3 t)
        = k0_pay2 (F := Ideal) (iblk m c 0 t) (iblk m c 1 t) (iblk m c 2 t) (iblk m c 3 t) := by
      frame_out
    have he : ((cfg0.win 5).blk t).view.emb y = ix2 (row t (y 0)) (y 1) := by blk_ext [idx t, row]
    have hx : (cfg0.win 5).xinj (cfg0.grid.coords t) y = ix2 (y 0) (y 1) := by blk_ext
    rw [hb, iblk_0, iblk_1, iblk_2, iblk_3, he, hx]
    exact pay2_apply _ _ _ _ (y 0) (y 1)
  rw [h]
  rfl

end Cert.OutProjValue

end
-- ==== Proof.OutProjClaim.lean ====
/-
  THE CLAIMS OF `out_proj`, assembled: the reference's run, and that over the extended reals both results are the reference's
  at all arguments.
-/
module

public import proofs.«01_k».proof.Defs
public import proofs.«01_k».proof.Proof.Gen.OutProj.Frame
public import proofs.«01_k».proof.Proof.Gen.OutProjRefIdeal.Run
public import proofs.«01_k».proof.Proof.OutProjValue
public import Idealize.ShloMosaic.Lib.Quiescent

@[expose] public section

noncomputable section

namespace Cert.OutProjClaim

open Idealize.ShloMosaic Idealize.SL.Sem

/-- The reference runs, its arguments end unchanged and its counters at zero. -/
theorem reference_runs : Cert.quiescent_OutProjRefIdeal := fun m ρ _ =>
  (θ_run Cert.OutProjRefIdeal.defs _ _).mono (fun r h => ⟨fun c => (h c).2.2, sem_eq_zero_of_no_sems (by decide) r.2⟩)
    (Cert.OutProjRefIdeal.Value.run (F := Ideal) m ρ)

/-- Over the extended reals both results are the reference's. -/
theorem algebraic : Cert.algebraic_OutProjIdeal_OutProjRefIdeal := by
  intro m ρ m' ρ' _ hagree
  refine ⟨_, _, Cert.OutProjIdeal.Value.run_blocks (F := Ideal) m ρ, ?_⟩
  refine (θ_run Cert.OutProjRefIdeal.defs _ _).mono (fun _ h c => ⟨?_, ?_, (h c).2.2⟩) (Cert.OutProjRefIdeal.Value.run (F := Ideal) m' ρ')
  · refine ((h c).1.trans (Cert.OutProjRefIdeal.Read.val_main_v2_eq _ _ _)).trans ?_
    rw [(hagree c).1, (hagree c).2.1, (hagree c).2.2.1]
    funext j
    rw [eq_ix2 j]
    exact (OutProjValue.v2_apply _ _ _ (j 0) (j 1)).trans (OutProjValue.final4 m c (j 0) (j 1)).symm
  · refine ((h c).2.1.trans (Cert.OutProjRefIdeal.Read.val_main_v17_eq _ _ _ _)).trans ?_
    rw [(hagree c).1, (hagree c).2.1, (hagree c).2.2.1, (hagree c).2.2.2]
    funext j
    rw [eq_ix2 j]
    exact (OutProjValue.v17_apply _ _ _ _ (j 0) (j 1)).trans (OutProjValue.final5 m c (j 0) (j 1)).symm

end Cert.OutProjClaim

end
-- ==== Proof.SumDevicesClaim.lean ====
/-
  THE SUM OVER THE DEVICES: the kernel adds the eight devices' packed arrays one after the other, the reference sums along the
  axis of the devices; over the extended reals both are the same sum at all arguments.
-/
module

public import proofs.«01_k».proof.Defs
public import proofs.«01_k».proof.Proof.Gen.SumDevices.Frame
public import proofs.«01_k».proof.Proof.Gen.SumDevicesIdeal.Value
public import proofs.«01_k».proof.Proof.Gen.SumDevicesRefIdeal.Run
public import proofs.«01_k».proof.Proof.Gen.SumDevicesRefIdeal.Read
public import proofs.«01_k».proof.Proof.Reals
public import Idealize.ShloMosaic.Lib.Quiescent
public import Idealize.ShloMosaic.Lib.Pipeline.ValueKit

@[expose] public section

set_option maxRecDepth 16384

noncomputable section

namespace Cert.SumDevicesClaim

open Idealize.ShloMosaic Idealize.SL.Sem Cert.Reals

/-- The reference runs, its argument ends unchanged and its counters at zero. -/
theorem reference_runs : Cert.quiescent_SumDevicesRefIdeal := fun m ρ _ =>
  (θ_run Cert.SumDevicesRefIdeal.defs _ _).mono (fun r h => ⟨fun c => (h c).2, sem_eq_zero_of_no_sems (by decide) r.2⟩)
    (Cert.SumDevicesRefIdeal.Value.run (F := Ideal) m ρ)

/-- The reference at an index. -/
theorem reference_apply (x : (⟨Cert.SumDevicesRefIdeal.S8x2256x128, .f32⟩ : BufTy).Contents (Elt Ideal)) (r : Fin 2256) (q : Fin 128) :
    Cert.SumDevicesRefIdeal.Read.val_main_v0 (F := Ideal) x (ix2 r q) = ∑ d : Fin 8, x (ix3 d r q) := by
  open Cert.SumDevicesRefIdeal.Read in
  pointwise [val_main_v0, val_main_cst]
  done

/-- The kernel at an index. -/
theorem kernel_apply (x : Vec Ideal Cert.SumDevicesIdeal.S8x2256x128 .f32) (r : Fin 2256) (q : Fin 128) :
    Cert.SumDevicesIdeal.Value.G1 (F := Ideal) x (ix2 r q) = ∑ d : Fin 8, x (ix3 d r q) := by
  open Cert.SumDevicesIdeal.Gen in
  pointwise [Cert.SumDevicesIdeal.Value.G1, k0_pay1]
  rw [Fin.sum_univ_eight]

/-- Over the extended reals the kernel's sum is the reference's. -/
theorem algebraic : Cert.algebraic_SumDevicesIdeal_SumDevicesRefIdeal := by
  intro m ρ m' ρ' _ hagree
  refine ⟨_, Cert.SumDevicesIdeal.Value.run (F := Ideal) m ρ, ?_⟩
  refine (θ_run Cert.SumDevicesRefIdeal.defs _ _).mono (fun _ h c => ⟨?_, (h c).2⟩) (Cert.SumDevicesRefIdeal.Value.run (F := Ideal) m' ρ')
  refine ((h c).1.trans (Cert.SumDevicesRefIdeal.Read.val_main_v0_eq _)).trans ?_
  rw [hagree c]
  funext j
  rw [eq_ix2 j]
  exact (reference_apply _ (j 0) (j 1)).trans (kernel_apply _ (j 0) (j 1)).symm

end Cert.SumDevicesClaim

end
-- ==== Proof.AdamwFlatClaim.lean ====
/-
  THE OPTIMISER'S STEP ON THE PACKED SMALL WEIGHTS: one block, every operation index by index; over the extended reals its three
  results are the reference's at all arguments.
-/
module

public import proofs.«01_k».proof.Defs
public import proofs.«01_k».proof.Proof.Gen.AdamwFlat.Frame
public import proofs.«01_k».proof.Proof.Gen.AdamwFlatIdeal.Value
public import proofs.«01_k».proof.Proof.Gen.AdamwFlatRefIdeal.Run
public import proofs.«01_k».proof.Proof.Gen.AdamwFlatRefIdeal.Read
public import Idealize.ShloMosaic.Lib.Quiescent

@[expose] public section

set_option maxRecDepth 16384

noncomputable section

namespace Cert.AdamwFlatClaim

open Idealize.ShloMosaic Idealize.SL.Sem

/-- The reference runs, its arguments end unchanged and its counters at zero. -/
theorem reference_runs : Cert.quiescent_AdamwFlatRefIdeal := fun m ρ _ =>
  (θ_run Cert.AdamwFlatRefIdeal.defs _ _).mono (fun r h => ⟨fun c => (h c).2.2.2, sem_eq_zero_of_no_sems (by decide) r.2⟩)
    (Cert.AdamwFlatRefIdeal.Value.run (F := Ideal) m ρ)

/-- Over the extended reals the step and both moments are the reference's. -/
theorem algebraic : Cert.algebraic_AdamwFlatIdeal_AdamwFlatRefIdeal := by
  intro m ρ m' ρ' _ hagree
  refine ⟨_, _, _, Cert.AdamwFlatIdeal.Value.run (F := Ideal) m ρ, ?_⟩
  refine (θ_run Cert.AdamwFlatRefIdeal.defs _ _).mono (fun _ h c => ⟨?_, ?_, ?_, (h c).2.2.2⟩) (Cert.AdamwFlatRefIdeal.Value.run (F := Ideal) m' ρ')
  · refine (h c).1.trans ?_
    rw [(hagree c).1, (hagree c).2.1, (hagree c).2.2.1, (hagree c).2.2.2]
    rfl
  · refine (h c).2.1.trans ?_
    rw [(hagree c).2.1, (hagree c).2.2.1]
    rfl
  · refine (h c).2.2.1.trans ?_
    rw [(hagree c).2.1, (hagree c).2.2.2]
    rfl

end Cert.AdamwFlatClaim

end
-- ==== Proof.AdamwLayersValue.lean ====
/-
  THE OPTIMISER'S STEP ON THE LAYERS' WIDE WEIGHT: what the reference computes at an index, and that the kernel's four result
  arrays hold it. The kernel's point reads one half of one layer and takes that layer's gradient out of the four by comparing the
  layer with 1, 2 and 3; the reference stacks the four gradients.
-/
module

public import proofs.«01_k».proof.Defs
public import proofs.«01_k».proof.Proof.Gen.AdamwLayersIdeal.Value
public import proofs.«01_k».proof.Proof.Gen.AdamwLayersRefIdeal.Read
public import proofs.«01_k».proof.Proof.Reals
public import Idealize.ShloMosaic.Lib.Claim
public import Idealize.ShloMosaic.Lib.Pipeline.ValueKit

@[expose] public section

set_option maxRecDepth 16384

noncomputable section

namespace Cert.AdamwLayersValue

open Cert.AdamwLayersIdeal Cert.AdamwLayersIdeal.Gen Idealize.ShloMosaic Idealize.ShloMosaic.TcCoe Idealize.SL.Sem Cert.Reals

/-! ## One weight's step -/

/-- The first moment after the step. -/
def mom1 (g m : EReal) : EReal := Ideal.ofBits .f32 0x3F666666#32 * m + Ideal.ofBits .f32 0x3DCCCCCD#32 * g

/-- The second moment after the step. -/
def mom2 (g v : EReal) : EReal := Ideal.ofBits .f32 0x3F7FBE77#32 * v + Ideal.ofBits .f32 0x3A83126F#32 * (g * g)

/-- The change of the weight, of the moments after the step. -/
def change (w m v : EReal) : EReal :=
  Ideal.ofBits .f32 0xBA83126F#32 *
    (Ideal.div (Ideal.div m (Ideal.ofBits .f32 0x3F26BD02#32)) (Ideal.sqrt (Ideal.div v (Ideal.ofBits .f32 0x3C231ACC#32)) + Ideal.ofBits .f32 0x322BCC77#32)
      + Ideal.ofBits .f32 0x3C23D70A#32 * w)

/-- The gradient of layer `l`. -/
def pick {α : Type} (g0 g1 g2 g3 : α) : Fin 4 → α := ![g0, g1, g2, g3]

/-! ## The reference at an index -/

section Reference

open Cert.AdamwLayersRefIdeal.Read

variable (w u v : (⟨S4x1024x1024, .f32⟩ : BufTy).Contents (Elt Ideal)) (g0 g1 g2 g3 : (⟨S1024x1024, .f32⟩ : BufTy).Contents (Elt Ideal))

theorem ref_grad (l : Fin 4) (r q : Fin 1024) :
    val_main_v4 (F := Ideal) g0 g1 g2 g3 (ix3 l r q) = pick g0 g1 g2 g3 l (ix2 r q) := by
  fin_cases l <;> (pointwise [val_main_v4, val_main_v3, val_main_v2, val_main_v1, val_main_v0]; rfl)

theorem ref_mom1 (l : Fin 4) (r q : Fin 1024) :
    val_main_v9 (F := Ideal) u g0 g1 g2 g3 (ix3 l r q) = mom1 (pick g0 g1 g2 g3 l (ix2 r q)) (u (ix3 l r q)) := by
  rw [← ref_grad]
  pointwise [val_main_v9, val_main_v8, val_main_v7, val_main_v6, val_main_v5, val_main_cst, val_main_cst_0]
  rfl

theorem ref_mom2 (l : Fin 4) (r q : Fin 1024) :
    val_main_v15 (F := Ideal) v g0 g1 g2 g3 (ix3 l r q) = mom2 (pick g0 g1 g2 g3 l (ix2 r q)) (v (ix3 l r q)) := by
  rw [← ref_grad]
  pointwise [val_main_v15, val_main_v14, val_main_v13, val_main_v12, val_main_v11, val_main_v10, val_main_cst_1, val_main_cst_2]
  rfl

theorem ref_change (l : Fin 4) (r q : Fin 1024) :
    val_main_v28 (F := Ideal) w u v g0 g1 g2 g3 (ix3 l r q) =
      change (w (ix3 l r q)) (mom1 (pick g0 g1 g2 g3 l (ix2 r q)) (u (ix3 l r q))) (mom2 (pick g0 g1 g2 g3 l (ix2 r q)) (v (ix3 l r q))) := by
  rw [← ref_mom1, ← ref_mom2]
  rfl

end Reference

/-! ## The blocks -/

variable (m : (ℓ : Loc nD τ sig) → Buf (Elt Ideal) ℓ) (c : Dev nD)

/-- The arguments: the weights, their moments, the four layers' gradients. -/
abbrev ws := m ((c : Thread nD τ).loc main_arg0)
abbrev us := m ((c : Thread nD τ).loc main_arg1)
abbrev vs := m ((c : Thread nD τ).loc main_arg2)
abbrev gs : Fin 4 → (⟨S1024x1024, .f32⟩ : BufTy).Contents (Elt Ideal) :=
  pick (m ((c : Thread nD τ).loc main_arg3)) (m ((c : Thread nD τ).loc main_arg4)) (m ((c : Thread nD τ).loc main_arg5)) (m ((c : Thread nD τ).loc main_arg6))

theorem lt (t : Fin cfg0.N) : t.val < 8 := lt_of_lt_of_eq t.isLt N_0

/-- The layer of a point. -/
def layer (t : Fin cfg0.N) : Fin 4 := ⟨t.val / 2, by have := lt t; omega⟩

/-- The row of the layer that a row of point `t`'s block is. -/
def row (t : Fin cfg0.N) (p : Fin 512) : Fin 1024 := ⟨t.val % 2 * 512 + p.val, by omega⟩

/-- The windows' block indices at a point. -/
theorem idx : ∀ t : Fin cfg0.N, win0_0.index t = ![t.val / 2, t.val % 2, 0] ∧ win0_1.index t = ![t.val / 2, t.val % 2, 0]
    ∧ win0_2.index t = ![t.val / 2, t.val % 2, 0] ∧ win0_7.index t = ![t.val / 2, t.val % 2, 0]
    ∧ win0_8.index t = ![t.val / 2, t.val % 2, 0] ∧ win0_9.index t = ![t.val / 2, t.val % 2, 0]
    ∧ win0_10.index t = ![t.val / 2, t.val % 2, 0] :=
  (by decide +kernel : ∀ t : Fin grid0.N, _)

/-- A gradient's block index at a point of its own layer. -/
theorem idx_g : ∀ t : Fin cfg0.N, (t.val / 2 = 0 → win0_3.index t = ![t.val % 2, 0]) ∧ (t.val / 2 = 1 → win0_4.index t = ![t.val % 2, 0])
    ∧ (t.val / 2 = 2 → win0_5.index t = ![t.val % 2, 0]) ∧ (t.val / 2 = 3 → win0_6.index t = ![t.val % 2, 0]) :=
  (by decide +kernel : ∀ t : Fin grid0.N, _)

/-- The grid's first coordinate is the layer. -/
theorem coord : ∀ t : Fin cfg0.N, (cfg0.grid.coords t 0).val = t.val / 2 :=
  (by decide +kernel : ∀ t : Fin grid0.N, (grid0.coords t 0).val = t.val / 2)

theorem iblk_0 (t : Fin cfg0.N) : iblk m c 0 t = fun i => ws m c (ix3 (layer t) (row t (i 1)) (i 2)) := by
  funext i
  unfold iblk
  have he : ((cfg0.win 0).blk t).view.emb i = ix3 (layer t) (row t (i 1)) (i 2) := by blk_ext [idx t, layer, row]
  rw [View.read_apply, he]
  rfl

theorem iblk_1 (t : Fin cfg0.N) : iblk m c 1 t = fun i => us m c (ix3 (layer t) (row t (i 1)) (i 2)) := by
  funext i
  unfold iblk
  have he : ((cfg0.win 1).blk t).view.emb i = ix3 (layer t) (row t (i 1)) (i 2) := by blk_ext [idx t, layer, row]
  rw [View.read_apply, he]
  rfl

theorem iblk_2 (t : Fin cfg0.N) : iblk m c 2 t = fun i => vs m c (ix3 (layer t) (row t (i 1)) (i 2)) := by
  funext i
  unfold iblk
  have he : ((cfg0.win 2).blk t).view.emb i = ix3 (layer t) (row t (i 1)) (i 2) := by blk_ext [idx t, layer, row]
  rw [View.read_apply, he]
  rfl

/-- The gradient's block that the point takes: the point's rows of its layer's gradient. -/
theorem taken (t : Fin cfg0.N) (p : Fin 512) (q : Fin 1024) :
    k0_pay4 (F := Ideal) (grid0.coords t) (iblk m c 3 t) (iblk m c 4 t) (iblk m c 5 t) (iblk m c 6 t) (ix2 p q) =
      gs m c (layer t) (ix2 (row t p) q) := by
  have hc : (grid0.coords t 0).val = t.val / 2 := coord t
  have h4 : t.val / 2 < 4 := (layer t).isLt
  obtain ⟨h0, h1, h2, h3⟩ := idx_g t
  unfold k0_pay4
  rw [hc]
  rcases (by omega : t.val / 2 = 0 ∨ t.val / 2 = 1 ∨ t.val / 2 = 2 ∨ t.val / 2 = 3) with h | h | h | h
  · have hl : layer t = 0 := Fin.ext h
    have he : ((cfg0.win 3).blk t).view.emb (ix2 p q) = ix2 (row t p) q := by blk_ext [h0 h, row]
    rw [h, hl]
    show iblk m c 3 t (ix2 p q) = _
    unfold iblk
    rw [View.read_apply, he]
    rfl
  · have hl : layer t = 1 := Fin.ext h
    have he : ((cfg0.win 4).blk t).view.emb (ix2 p q) = ix2 (row t p) q := by blk_ext [h1 h, row]
    rw [h, hl]
    show iblk m c 4 t (ix2 p q) = _
    unfold iblk
    rw [View.read_apply, he]
    rfl
  · have hl : layer t = 2 := Fin.ext h
    have he : ((cfg0.win 5).blk t).view.emb (ix2 p q) = ix2 (row t p) q := by blk_ext [h2 h, row]
    rw [h, hl]
    show iblk m c 5 t (ix2 p q) = _
    unfold iblk
    rw [View.read_apply, he]
    rfl
  · have hl : layer t = 3 := Fin.ext h
    have he : ((cfg0.win 6).blk t).view.emb (ix2 p q) = ix2 (row t p) q := by blk_ext [h3 h, row]
    rw [h, hl]
    show iblk m c 6 t (ix2 p q) = _
    unfold iblk
    rw [View.read_apply, he]
    rfl

/-! ## What one point computes -/

section Pay

variable (i : grid0.Coords) (g0 g1 g2 g3 : Vec Ideal S512x1024 .f32) (x : Vec Ideal S1x512x1024 .f32) (p : Fin 512) (q : Fin 1024)

theorem pay_grad : k0_pay5 (F := Ideal) i g0 g1 g2 g3 (ix3 0 p q) = k0_pay4 (F := Ideal) i g0 g1 g2 g3 (ix2 p q) := by
  pointwise [k0_pay5]

theorem pay_mom1 : k0_pay7 (F := Ideal) i g0 g1 g2 g3 x (ix2 p q) = mom1 (k0_pay4 (F := Ideal) i g0 g1 g2 g3 (ix2 p q)) (x (ix3 0 p q)) := by
  pointwise [k0_pay7, mom1]

theorem pay_mom2 : k0_pay8 (F := Ideal) i g0 g1 g2 g3 x (ix2 p q) = mom2 (k0_pay4 (F := Ideal) i g0 g1 g2 g3 (ix2 p q)) (x (ix3 0 p q)) := by
  pointwise [k0_pay8, mom2]

theorem pay_change (u v : Vec Ideal S512x1024 .f32) :
    k0_pay1 (F := Ideal) (k0_pay6 x) u v (ix3 0 p q) = change (x (ix3 0 p q)) (u (ix2 p q)) (v (ix2 p q)) := by
  pointwise [k0_pay1, k0_pay6, change]

theorem pay_2 (u : Vec Ideal S512x1024 .f32) : k0_pay2 (F := Ideal) u (ix3 0 p q) = u (ix2 p q) := by
  pointwise [k0_pay2]

theorem pay_3 (u : Vec Ideal S512x1024 .f32) : k0_pay3 (F := Ideal) u (ix3 0 p q) = u (ix2 p q) := by
  pointwise [k0_pay3]

end Pay

/-! ## The result arrays -/

/-- The moments as the point's values name them. -/
theorem pay9 (i : grid0.Coords) (x0 x1 x2 : Vec Ideal S1x512x1024 .f32) (x3 x4 x5 x6 : Vec Ideal S512x1024 .f32) :
    k0_pay9 (F := Ideal) i x0 x1 x2 x3 x4 x5 x6 = k0_pay7 (F := Ideal) i x3 x4 x5 x6 x1 := by
  unfold k0_pay9
  frame_out

theorem pay10 (i : grid0.Coords) (x0 x1 x2 : Vec Ideal S1x512x1024 .f32) (x3 x4 x5 x6 : Vec Ideal S512x1024 .f32) :
    k0_pay10 (F := Ideal) i x0 x1 x2 x3 x4 x5 x6 = k0_pay8 (F := Ideal) i x3 x4 x5 x6 x2 := by
  unfold k0_pay10
  frame_out

/-- The stacked gradients. -/
theorem final_grad : (dats m 0 c).arrAt 7 cfg0.N = fun j : S4x1024x1024.Idx => gs m c (j 0) (ix2 (j 1) (j 2)) := by
  refine (dats m 0 c).arrAt_eq_of_covers 7 _ (by decide +kernel) fun t _ y => ?_
  rw [after0_7]
  have hb : out0_7 (grid0.coords t) (iblk m c 0 t) (iblk m c 1 t) (iblk m c 2 t) (iblk m c 3 t) (iblk m c 4 t) (iblk m c 5 t) (iblk m c 6 t) =
      k0_pay5 (F := Ideal) (grid0.coords t) (iblk m c 3 t) (iblk m c 4 t) (iblk m c 5 t) (iblk m c 6 t) := by
    frame_out
  have he : ((cfg0.win 7).blk t).view.emb y = ix3 (layer t) (row t (y 1)) (y 2) := by blk_ext [idx t, layer, row]
  have hx : (cfg0.win 7).xinj (cfg0.grid.coords t) y = ix3 0 (y 1) (y 2) := by blk_ext
  rw [hb, he, hx]
  exact (pay_grad _ _ _ _ _ (y 1) (y 2)).trans (taken m c t (y 1) (y 2))

/-- The first moments. -/
theorem final_mom1 : (dats m 0 c).arrAt 9 cfg0.N = fun j : S4x1024x1024.Idx => mom1 (gs m c (j 0) (ix2 (j 1) (j 2))) (us m c (ix3 (j 0) (j 1) (j 2))) := by
  refine (dats m 0 c).arrAt_eq_of_covers 9 _ (by decide +kernel) fun t _ y => ?_
  rw [after0_9]
  have hb : out0_9 (grid0.coords t) (iblk m c 0 t) (iblk m c 1 t) (iblk m c 2 t) (iblk m c 3 t) (iblk m c 4 t) (iblk m c 5 t) (iblk m c 6 t) =
      k0_pay2 (F := Ideal) (k0_pay7 (grid0.coords t) (iblk m c 3 t) (iblk m c 4 t) (iblk m c 5 t) (iblk m c 6 t) (iblk m c 1 t)) := by
    frame_out
    rw [pay9]
  have he : ((cfg0.win 9).blk t).view.emb y = ix3 (layer t) (row t (y 1)) (y 2) := by blk_ext [idx t, layer, row]
  have hx : (cfg0.win 9).xinj (cfg0.grid.coords t) y = ix3 0 (y 1) (y 2) := by blk_ext
  rw [hb, he, hx]
  refine (pay_2 (y 1) (y 2) _).trans ((pay_mom1 _ _ _ _ _ _ (y 1) (y 2)).trans ?_)
  rw [taken m c t (y 1) (y 2), iblk_1]
  rfl

/-- The second moments. -/
theorem final_mom2 : (dats m 0 c).arrAt 10 cfg0.N = fun j : S4x1024x1024.Idx => mom2 (gs m c (j 0) (ix2 (j 1) (j 2))) (vs m c (ix3 (j 0) (j 1) (j 2))) := by
  refine (dats m 0 c).arrAt_eq_of_covers 10 _ (by decide +kernel) fun t _ y => ?_
  rw [after0_10]
  have hb : out0_10 (grid0.coords t) (iblk m c 0 t) (iblk m c 1 t) (iblk m c 2 t) (iblk m c 3 t) (iblk m c 4 t) (iblk m c 5 t) (iblk m c 6 t) =
      k0_pay3 (F := Ideal) (k0_pay8 (grid0.coords t) (iblk m c 3 t) (iblk m c 4 t) (iblk m c 5 t) (iblk m c 6 t) (iblk m c 2 t)) := by
    frame_out
    rw [pay10]
  have he : ((cfg0.win 10).blk t).view.emb y = ix3 (layer t) (row t (y 1)) (y 2) := by blk_ext [idx t, layer, row]
  have hx : (cfg0.win 10).xinj (cfg0.grid.coords t) y = ix3 0 (y 1) (y 2) := by blk_ext
  rw [hb, he, hx]
  refine (pay_3 (y 1) (y 2) _).trans ((pay_mom2 _ _ _ _ _ _ (y 1) (y 2)).trans ?_)
  rw [taken m c t (y 1) (y 2), iblk_2]
  rfl

/-- The changes of the weights. -/
theorem final_change : (dats m 0 c).arrAt 8 cfg0.N = fun j : S4x1024x1024.Idx =>
    change (ws m c (ix3 (j 0) (j 1) (j 2))) (mom1 (gs m c (j 0) (ix2 (j 1) (j 2))) (us m c (ix3 (j 0) (j 1) (j 2))))
      (mom2 (gs m c (j 0) (ix2 (j 1) (j 2))) (vs m c (ix3 (j 0) (j 1) (j 2)))) := by
  refine (dats m 0 c).arrAt_eq_of_covers 8 _ (by decide +kernel) fun t _ y => ?_
  rw [after0_8]
  have hb : out0_8 (grid0.coords t) (iblk m c 0 t) (iblk m c 1 t) (iblk m c 2 t) (iblk m c 3 t) (iblk m c 4 t) (iblk m c 5 t) (iblk m c 6 t) =
      k0_pay1 (F := Ideal) (k0_pay6 (iblk m c 0 t))
        (k0_pay7 (grid0.coords t) (iblk m c 3 t) (iblk m c 4 t) (iblk m c 5 t) (iblk m c 6 t) (iblk m c 1 t))
        (k0_pay8 (grid0.coords t) (iblk m c 3 t) (iblk m c 4 t) (iblk m c 5 t) (iblk m c 6 t) (iblk m c 2 t)) := by
    frame_out
    rw [pay9, pay10]
  have he : ((cfg0.win 8).blk t).view.emb y = ix3 (layer t) (row t (y 1)) (y 2) := by blk_ext [idx t, layer, row]
  have hx : (cfg0.win 8).xinj (cfg0.grid.coords t) y = ix3 0 (y 1) (y 2) := by blk_ext
  rw [hb, he, hx]
  refine (pay_change _ (y 1) (y 2) _ _).trans ?_
  rw [pay_mom1 _ _ _ _ _ _ (y 1) (y 2), pay_mom2 _ _ _ _ _ _ (y 1) (y 2), taken m c t (y 1) (y 2), iblk_0, iblk_1, iblk_2]
  rfl

end Cert.AdamwLayersValue

end
-- ==== Proof.AdamwLayersClaim.lean ====
/-
  THE CLAIM OF THE OPTIMISER'S STEP ON THE LAYERS' WIDE WEIGHT: both programs run and hold the same four arrays over the extended
  reals, at all arguments.
-/
module

public import proofs.«01_k».proof.Defs
public import proofs.«01_k».proof.Proof.Gen.AdamwLayers.Frame
public import proofs.«01_k».proof.Proof.Gen.AdamwLayersRefIdeal.Run
public import proofs.«01_k».proof.Proof.AdamwLayersValue
public import Idealize.ShloMosaic.Lib.Quiescent

@[expose] public section

noncomputable section

namespace Cert.AdamwLayersClaim

open Idealize.ShloMosaic Idealize.SL.Sem

/-- The reference runs, its arguments end unchanged and its counters at zero. -/
theorem reference_runs : Cert.quiescent_AdamwLayersRefIdeal := fun m ρ _ =>
  (θ_run Cert.AdamwLayersRefIdeal.defs _ _).mono (fun r h => ⟨fun c => (h c).2.2.2.2, sem_eq_zero_of_no_sems (by decide) r.2⟩)
    (Cert.AdamwLayersRefIdeal.Value.run (F := Ideal) m ρ)

/-- Over the extended reals the stacked gradients, the changes and both moments are the reference's. -/
theorem algebraic : Cert.algebraic_AdamwLayersIdeal_AdamwLayersRefIdeal := by
  intro m ρ m' ρ' _ hagree
  refine ⟨_, _, _, _, Cert.AdamwLayersIdeal.Value.run_blocks (F := Ideal) m ρ, ?_⟩
  refine (θ_run Cert.AdamwLayersRefIdeal.defs _ _).mono (fun _ h c => ⟨?_, ?_, ?_, ?_, (h c).2.2.2.2⟩)
    (Cert.AdamwLayersRefIdeal.Value.run (F := Ideal) m' ρ')
  · refine ((h c).1.trans (Cert.AdamwLayersRefIdeal.Read.val_main_v4_eq _ _ _ _)).trans ?_
    rw [(hagree c).2.2.2.1, (hagree c).2.2.2.2.1, (hagree c).2.2.2.2.2.1, (hagree c).2.2.2.2.2.2]
    refine Eq.trans ?_ (AdamwLayersValue.final_grad m c).symm
    funext j
    rw [eq_ix3 j]
    exact AdamwLayersValue.ref_grad _ _ _ _ (j 0) (j 1) (j 2)
  · refine ((h c).2.1.trans (Cert.AdamwLayersRefIdeal.Read.val_main_v28_eq _ _ _ _ _ _ _)).trans ?_
    rw [(hagree c).1, (hagree c).2.1, (hagree c).2.2.1, (hagree c).2.2.2.1, (hagree c).2.2.2.2.1, (hagree c).2.2.2.2.2.1, (hagree c).2.2.2.2.2.2]
    refine Eq.trans ?_ (AdamwLayersValue.final_change m c).symm
    funext j
    rw [eq_ix3 j]
    exact AdamwLayersValue.ref_change _ _ _ _ _ _ _ (j 0) (j 1) (j 2)
  · refine ((h c).2.2.1.trans (Cert.AdamwLayersRefIdeal.Read.val_main_v9_eq _ _ _ _ _)).trans ?_
    rw [(hagree c).2.1, (hagree c).2.2.2.1, (hagree c).2.2.2.2.1, (hagree c).2.2.2.2.2.1, (hagree c).2.2.2.2.2.2]
    refine Eq.trans ?_ (AdamwLayersValue.final_mom1 m c).symm
    funext j
    rw [eq_ix3 j]
    exact AdamwLayersValue.ref_mom1 _ _ _ _ _ (j 0) (j 1) (j 2)
  · refine ((h c).2.2.2.1.trans (Cert.AdamwLayersRefIdeal.Read.val_main_v15_eq _ _ _ _ _)).trans ?_
    rw [(hagree c).2.2.1, (hagree c).2.2.2.1, (hagree c).2.2.2.2.1, (hagree c).2.2.2.2.2.1, (hagree c).2.2.2.2.2.2]
    refine Eq.trans ?_ (AdamwLayersValue.final_mom2 m c).symm
    funext j
    rw [eq_ix3 j]
    exact AdamwLayersValue.ref_mom2 _ _ _ _ _ (j 0) (j 1) (j 2)

end Cert.AdamwLayersClaim

end
-- ==== Proof.InWgradClaim.lean ====
/-
  THE GRADIENT OF THE INPUT PROJECTION'S WEIGHT: the kernel forms the product of the transposed rows with the cotangent in four
  column blocks; over the extended reals the four are the reference's at all arguments. No sum is split.
-/
module

public import proofs.«01_k».proof.Defs
public import proofs.«01_k».proof.Proof.Gen.InWgrad.Frame
public import proofs.«01_k».proof.Proof.Gen.InWgradIdeal.Value
public import proofs.«01_k».proof.Proof.Gen.InWgradRefIdeal.Run
public import proofs.«01_k».proof.Proof.Gen.InWgradRefIdeal.Read
public import proofs.«01_k».proof.Proof.Reals
public import Idealize.ShloMosaic.Lib.Claim
public import Idealize.ShloMosaic.Lib.Quiescent
public import Idealize.ShloMosaic.Lib.Pipeline.ValueKit

@[expose] public section

set_option maxRecDepth 16384

noncomputable section

namespace Cert.InWgradClaim

open Cert.InWgradIdeal Cert.InWgradIdeal.Gen Idealize.ShloMosaic Idealize.ShloMosaic.TcCoe Idealize.SL.Sem Cert.Reals

/-- The product's entry: the sum over the tokens. -/
def dot (f g : Fin 2048 → EReal) : EReal := ∑ t, f t * g t

/-- One block at an index. -/
theorem pay_apply (x : Vec Ideal S2048x1024 .bf16) (y : Vec Ideal S2048x1920 .bf16) (p : Fin 1024) (q : Fin 1920) :
    k0_pay1 (F := Ideal) x y (ix3 0 p q) = dot (fun t => x (ix2 t p)) (fun t => y (ix2 t q)) := by
  pointwise [k0_pay1, dot]

/-- The reference at an index. -/
theorem reference_apply (x : (⟨S2048x1024, .bf16⟩ : BufTy).Contents (Elt Ideal)) (y : (⟨S2048x7680, .bf16⟩ : BufTy).Contents (Elt Ideal))
    (j : Fin 4) (p : Fin 1024) (q : Fin 1920) :
    Cert.InWgradRefIdeal.Read.val_main_v7 (F := Ideal) x y (ix3 j p q) =
      dot (fun t => x (ix2 t p)) (fun t => y (ix2 t ⟨j.val * 1920 + q.val, by omega⟩)) := by
  open Cert.InWgradRefIdeal.Read in
  pointwise [val_main_v7, val_main_v6, val_main_v5, val_main_v4, val_main_v3, val_main_v1]
  exact Finset.sum_congr rfl fun t _ => mul_comm _ _

variable (m : (ℓ : Loc nD τ sig) → Buf (Elt Ideal) ℓ) (c : Dev nD)

/-- The arguments: the normed rows and the cotangent. -/
abbrev xs := m ((c : Thread nD τ).loc main_arg0)
abbrev ys := m ((c : Thread nD τ).loc main_arg1)

/-- The windows' block indices at a point. -/
theorem idx : ∀ t : Fin cfg0.N, win0_0.index t = ![0, 0] ∧ win0_1.index t = ![0, t.val] ∧ win0_2.index t = ![t.val, 0, 0] :=
  (by decide +kernel : ∀ t : Fin grid0.N, _)

theorem lt (t : Fin cfg0.N) : t.val < 4 := lt_of_lt_of_eq t.isLt N_0

/-- The column of the cotangent that a column of point `t`'s block is. -/
def col (t : Fin cfg0.N) (q : Fin 1920) : Fin 7680 := ⟨t.val * 1920 + q.val, by have := lt t; omega⟩

theorem iblk_0 (t : Fin cfg0.N) : iblk m c 0 t = fun i => xs m c (ix2 (i 0) (i 1)) := by
  funext i
  unfold iblk
  have he : ((cfg0.win 0).blk t).view.emb i = ix2 (i 0) (i 1) := by blk_ext [idx t]
  rw [View.read_apply, he]
  rfl

theorem iblk_1 (t : Fin cfg0.N) : iblk m c 1 t = fun i => ys m c (ix2 (i 0) (col t (i 1))) := by
  funext i
  unfold iblk
  have he : ((cfg0.win 1).blk t).view.emb i = ix2 (i 0) (col t (i 1)) := by blk_ext [idx t, col]
  rw [View.read_apply, he]
  rfl

/-- The result at an index. -/
theorem final (j : Fin 4) (p : Fin 1024) (q : Fin 1920) :
    (dats m 0 c).arrAt 2 cfg0.N (ix3 j p q) =
      dot (fun t => xs m c (ix2 t p)) (fun t => ys m c (ix2 t ⟨j.val * 1920 + q.val, by omega⟩)) := by
  have h : (dats m 0 c).arrAt 2 cfg0.N = fun i : S4x1024x1920.Idx =>
      dot (fun t => xs m c (ix2 t (i 1))) (fun t => ys m c (ix2 t ⟨(i 0).val * 1920 + (i 2).val, by have h0 : (i 0).val < 4 := (i 0).isLt; have h2 : (i 2).val < 1920 := (i 2).isLt; omega⟩)) := by
    refine (dats m 0 c).arrAt_eq_of_covers 2 _ (by decide +kernel) fun t _ y => ?_
    rw [after0_2]
    have hb : out0_2 (iblk m c 0 t) (iblk m c 1 t) = k0_pay1 (F := Ideal) (iblk m c 0 t) (iblk m c 1 t) := by
      frame_out
    have he : ((cfg0.win 2).blk t).view.emb y = ix3 (⟨t.val, lt t⟩ : Fin 4) (y 1) (y 2) := by blk_ext [idx t]
    have hx : (cfg0.win 2).xinj (cfg0.grid.coords t) y = ix3 0 (y 1) (y 2) := by blk_ext
    rw [hb, iblk_0, iblk_1, he, hx]
    exact pay_apply _ _ (y 1) (y 2)
  rw [h]
  rfl

/-- The reference runs, its arguments end unchanged and its counters at zero. -/
theorem reference_runs : Cert.quiescent_InWgradRefIdeal := fun m ρ _ =>
  (θ_run Cert.InWgradRefIdeal.defs _ _).mono (fun r h => ⟨fun c => (h c).2, sem_eq_zero_of_no_sems (by decide) r.2⟩)
    (Cert.InWgradRefIdeal.Value.run (F := Ideal) m ρ)

/-- Over the extended reals the gradient is the reference's. -/
theorem algebraic : Cert.algebraic_InWgradIdeal_InWgradRefIdeal := by
  intro m ρ m' ρ' _ hagree
  refine ⟨_, Cert.InWgradIdeal.Value.run_blocks (F := Ideal) m ρ, ?_⟩
  refine (θ_run Cert.InWgradRefIdeal.defs _ _).mono (fun _ h c => ⟨?_, (h c).2⟩) (Cert.InWgradRefIdeal.Value.run (F := Ideal) m' ρ')
  refine ((h c).1.trans (Cert.InWgradRefIdeal.Read.val_main_v7_eq _ _)).trans ?_
  rw [(hagree c).1, (hagree c).2]
  funext j
  rw [eq_ix3 j]
  exact (reference_apply _ _ (j 0) (j 1) (j 2)).trans (final m c (j 0) (j 1) (j 2)).symm

end Cert.InWgradClaim

end
-- ==== Proof.OutDgradClaim.lean ====
/-
  THE GRADIENT OF THE OUTPUT PROJECTION'S ARGUMENT: the kernel forms the product of the cotangent with the transposed weight in
  four blocks of 512 rows; over the extended reals the result is the reference's at all arguments. No sum is split.
-/
module

public import proofs.«01_k».proof.Defs
public import proofs.«01_k».proof.Proof.Gen.OutDgrad.Frame
public import proofs.«01_k».proof.Proof.Gen.OutDgradIdeal.Value
public import proofs.«01_k».proof.Proof.Gen.OutDgradRefIdeal.Run
public import proofs.«01_k».proof.Proof.Gen.OutDgradRefIdeal.Read
public import proofs.«01_k».proof.Proof.Reals
public import Idealize.ShloMosaic.Lib.Claim
public import Idealize.ShloMosaic.Lib.Quiescent
public import Idealize.ShloMosaic.Lib.Pipeline.ValueKit

@[expose] public section

set_option maxRecDepth 16384

noncomputable section

namespace Cert.OutDgradClaim

open Cert.OutDgradIdeal Cert.OutDgradIdeal.Gen Idealize.ShloMosaic Idealize.ShloMosaic.TcCoe Idealize.SL.Sem Cert.Reals

/-- The product's entry: the sum over the columns. -/
def dot (f g : Fin 1024 → EReal) : EReal := ∑ k, f k * g k

/-- One block at an index. -/
theorem pay_apply (x : Vec Ideal S512x1024 .f32) (w : Vec Ideal S1024x1024 .bf16) (p : Fin 512) (q : Fin 1024) :
    k0_pay1 (F := Ideal) x w (ix2 p q) = dot (fun k => x (ix2 p k)) (fun k => w (ix2 q k)) := by
  pointwise [k0_pay1, dot]

/-- The reference at an index. -/
theorem reference_apply (x : (⟨S2048x1024, .f32⟩ : BufTy).Contents (Elt Ideal)) (w : (⟨S1024x1024, .f32⟩ : BufTy).Contents (Elt Ideal))
    (r : Fin 2048) (q : Fin 1024) :
    Cert.OutDgradRefIdeal.Read.val_main_v3 (F := Ideal) x w (ix2 r q) = dot (fun k => x (ix2 r k)) (fun k => w (ix2 q k)) := by
  open Cert.OutDgradRefIdeal.Read in
  pointwise [val_main_v3, val_main_v2, dot]

variable (m : (ℓ : Loc nD τ sig) → Buf (Elt Ideal) ℓ) (c : Dev nD)

/-- The arguments: the cotangent and the weight. -/
abbrev xs := m ((c : Thread nD τ).loc main_arg0)
abbrev ws := m ((c : Thread nD τ).loc main_arg1)

/-- The weight as the kernel's call reads it: split in row parts, rounded, and put together again. -/
theorem V_w (k q : Fin 1024) : V m c main_v2 (ix2 k q) = ws m c (ix2 k q) := by
  unfold V
  entry_read
  pointwise
  refine congrArg (ws m c) ?_
  funext a
  match a with
  | 0 => exact Fin.ext (by show k.val / 256 * 256 + k.val % 256 = k.val; omega)
  | 1 => rfl

/-- The windows' block indices at a point. -/
theorem idx : ∀ t : Fin cfg0.N, win0_0.index t = ![t.val, 0] ∧ win0_1.index t = ![0, 0] ∧ win0_2.index t = ![t.val, 0] :=
  (by decide +kernel : ∀ t : Fin grid0.N, _)

theorem lt (t : Fin cfg0.N) : t.val < 4 := lt_of_lt_of_eq t.isLt N_0

/-- The row of the result that a row of point `t`'s block is. -/
def row (t : Fin cfg0.N) (p : Fin 512) : Fin 2048 := ⟨t.val * 512 + p.val, by have := lt t; omega⟩

theorem iblk_0 (t : Fin cfg0.N) : iblk m c 0 t = fun i => xs m c (ix2 (row t (i 0)) (i 1)) := by
  funext i
  unfold iblk
  have he : ((cfg0.win 0).blk t).view.emb i = ix2 (row t (i 0)) (i 1) := by blk_ext [idx t, row]
  rw [View.read_apply, he]
  unfold V
  entry_read
  rfl

theorem iblk_1 (t : Fin cfg0.N) : iblk m c 1 t = fun i => ws m c (ix2 (i 0) (i 1)) := by
  funext i
  unfold iblk
  have he : ((cfg0.win 1).blk t).view.emb i = ix2 (i 0) (i 1) := by blk_ext [idx t]
  rw [View.read_apply, he]
  exact V_w m c (i 0) (i 1)

/-- The result at an index. -/
theorem final (r : Fin 2048) (q : Fin 1024) :
    (dats m 0 c).arrAt 2 cfg0.N (ix2 r q) = dot (fun k => xs m c (ix2 r k)) (fun k => ws m c (ix2 q k)) := by
  have h : (dats m 0 c).arrAt 2 cfg0.N = fun j : S2048x1024.Idx => dot (fun k => xs m c (ix2 (j 0) k)) (fun k => ws m c (ix2 (j 1) k)) := by
    refine (dats m 0 c).arrAt_eq_of_covers 2 _ (by decide +kernel) fun t _ y => ?_
    rw [after0_2]
    have hb : out0_2 (iblk m c 0 t) (iblk m c 1 t) = k0_pay1 (F := Ideal) (iblk m c 0 t) (iblk m c 1 t) := by
      frame_out
    have he : ((cfg0.win 2).blk t).view.emb y = ix2 (row t (y 0)) (y 1) := by blk_ext [idx t, row]
    have hx : (cfg0.win 2).xinj (cfg0.grid.coords t) y = ix2 (y 0) (y 1) := by blk_ext
    rw [hb, iblk_0, iblk_1, he, hx]
    exact pay_apply _ _ (y 0) (y 1)
  rw [h]
  rfl

/-- The reference runs, its arguments end unchanged and its counters at zero. -/
theorem reference_runs : Cert.quiescent_OutDgradRefIdeal := fun m ρ _ =>
  (θ_run Cert.OutDgradRefIdeal.defs _ _).mono (fun r h => ⟨fun c => (h c).2, sem_eq_zero_of_no_sems (by decide) r.2⟩)
    (Cert.OutDgradRefIdeal.Value.run (F := Ideal) m ρ)

/-- Over the extended reals the gradient is the reference's. -/
theorem algebraic : Cert.algebraic_OutDgradIdeal_OutDgradRefIdeal := by
  intro m ρ m' ρ' _ hagree
  refine ⟨_, Cert.OutDgradIdeal.Value.run_blocks (F := Ideal) m ρ, ?_⟩
  refine (θ_run Cert.OutDgradRefIdeal.defs _ _).mono (fun _ h c => ⟨?_, (h c).2⟩) (Cert.OutDgradRefIdeal.Value.run (F := Ideal) m' ρ')
  refine ((h c).1.trans (Cert.OutDgradRefIdeal.Read.val_main_v3_eq _ _)).trans ?_
  rw [(hagree c).1, (hagree c).2]
  funext j
  rw [eq_ix2 j]
  exact (reference_apply _ _ (j 0) (j 1)).trans (final m c (j 0) (j 1)).symm

end Cert.OutDgradClaim

end
-- ==== Proof.InProjValue.lean ====
/-
  THE MIXING BLOCK'S INPUT PROJECTION: what the kernel's blocks of 1024 rows and 1920 columns hold and what the reference computes,
  at an index: the product. The kernel reads the weights reordered into column blocks; no sum is split.
-/
module

public import proofs.«01_k».proof.Proof.Gen.InProjIdeal.Value
public import proofs.«01_k».proof.Proof.Gen.InProjRefIdeal.Read
public import proofs.«01_k».proof.Proof.Reals
public import Idealize.ShloMosaic.Lib.Claim
public import Idealize.ShloMosaic.Lib.Pipeline.ValueKit

@[expose] public section

set_option maxRecDepth 16384

noncomputable section

namespace Cert.InProjValue

open Cert.InProjIdeal Cert.InProjIdeal.Gen Idealize.ShloMosaic Idealize.ShloMosaic.TcCoe Idealize.SL.Sem Cert.Reals

/-- The product of a row with a column. -/
def dot (x w : Fin 1024 → EReal) : EReal := ∑ k, x k * w k

/-- One block at an index. -/
theorem pay_apply (x : Vec Ideal S1024x1024 .bf16) (w : Vec Ideal S1x1024x1920 .bf16) (p : Fin 1024) (q : Fin 1920) :
    k0_pay1 (F := Ideal) x w (ix2 p q) = dot (fun k => x (ix2 p k)) (fun k => w (ix3 0 k q)) := by
  pointwise [k0_pay1, dot]

/-- The reference at an index. -/
theorem reference_apply (x : (⟨S2048x1024, .bf16⟩ : BufTy).Contents (Elt Ideal)) (w : (⟨S1024x7680, .f32⟩ : BufTy).Contents (Elt Ideal))
    (r : Fin 2048) (q : Fin 7680) :
    Cert.InProjRefIdeal.Read.val_main_v1 (F := Ideal) x w (ix2 r q) = dot (fun k => x (ix2 r k)) (fun k => w (ix2 k q)) := by
  open Cert.InProjRefIdeal.Read in
  pointwise [val_main_v1, val_main_v0, dot]

variable (m : (ℓ : Loc nD τ sig) → Buf (Elt Ideal) ℓ) (c : Dev nD)

/-- The arguments: the normed rows and the weights. -/
abbrev xs := m ((c : Thread nD τ).loc main_arg0)
abbrev ws := m ((c : Thread nD τ).loc main_arg1)

/-- The weights, reordered into column blocks and rounded. -/
theorem V_v2 (j : Fin 4) (k : Fin 1024) (q : Fin 1920) : V m c main_v2 (ix3 j k q) = ws m c (ix2 k ⟨j.val * 1920 + q.val, by omega⟩) := by
  unfold V
  entry_read
  pointwise

/-- The windows' block indices at a point: two row blocks within each of four column blocks. -/
theorem idx : ∀ t : Fin cfg0.N, win0_0.index t = ![t.val % 2, 0] ∧ win0_1.index t = ![t.val / 2, 0, 0] ∧ win0_2.index t = ![t.val % 2, t.val / 2] :=
  (by decide +kernel : ∀ t : Fin grid0.N, _)

theorem lt (t : Fin cfg0.N) : t.val < 8 := lt_of_lt_of_eq t.isLt N_0

/-- The row and the column of the result that a place of point `t`'s block is. -/
def row (t : Fin cfg0.N) (p : Fin 1024) : Fin 2048 := ⟨t.val % 2 * 1024 + p.val, by omega⟩
def col (t : Fin cfg0.N) (q : Fin 1920) : Fin 7680 := ⟨t.val / 2 * 1920 + q.val, by have := lt t; omega⟩

theorem iblk_0 (t : Fin cfg0.N) : iblk m c 0 t = fun i => xs m c (ix2 (row t (i 0)) (i 1)) := by
  funext i
  unfold iblk
  have he : ((cfg0.win 0).blk t).view.emb i = ix2 (row t (i 0)) (i 1) := by blk_ext [idx t, row]
  rw [View.read_apply, he]
  unfold V
  entry_read
  rfl

theorem iblk_1 (t : Fin cfg0.N) : iblk m c 1 t = fun i => ws m c (ix2 (i 1) (col t (i 2))) := by
  funext i
  unfold iblk
  have he : ((cfg0.win 1).blk t).view.emb i = ix3 (⟨t.val / 2, by have := lt t; omega⟩ : Fin 4) (i 1) (i 2) := by blk_ext [idx t]
  rw [View.read_apply, he]
  exact V_v2 m c _ (i 1) (i 2)

/-- The result at an index. -/
theorem final (r : Fin 2048) (q : Fin 7680) :
    (dats m 0 c).arrAt 2 cfg0.N (ix2 r q) = dot (fun k => xs m c (ix2 r k)) (fun k => ws m c (ix2 k q)) := by
  have h : (dats m 0 c).arrAt 2 cfg0.N = fun j : S2048x7680.Idx => dot (fun k => xs m c (ix2 (j 0) k)) (fun k => ws m c (ix2 k (j 1))) := by
    refine (dats m 0 c).arrAt_eq_of_covers 2 _ (by decide +kernel) fun t _ y => ?_
    rw [after0_2]
    have hb : out0_2 (iblk m c 0 t) (iblk m c 1 t) = k0_pay1 (F := Ideal) (iblk m c 0 t) (iblk m c 1 t) := by
      frame_out
    have he : ((cfg0.win 2).blk t).view.emb y = ix2 (row t (y 0)) (col t (y 1)) := by blk_ext [idx t, row, col]
    have hx : (cfg0.win 2).xinj (cfg0.grid.coords t) y = ix2 (y 0) (y 1) := by blk_ext
    rw [hb, iblk_0, iblk_1, he, hx]
    exact pay_apply _ _ (y 0) (y 1)
  rw [h]
  rfl

end Cert.InProjValue

end
-- ==== Proof.InProjClaim.lean ====
/-
  THE CLAIMS OF `in_proj`, assembled: the reference's run, and that over the extended reals the product is the reference's
  at all arguments.
-/
module

public import proofs.«01_k».proof.Defs
public import proofs.«01_k».proof.Proof.Gen.InProj.Frame
public import proofs.«01_k».proof.Proof.Gen.InProjRefIdeal.Run
public import proofs.«01_k».proof.Proof.InProjValue
public import Idealize.ShloMosaic.Lib.Quiescent

@[expose] public section

noncomputable section

namespace Cert.InProjClaim

open Idealize.ShloMosaic Idealize.SL.Sem

/-- The reference runs, its arguments end unchanged and its counters at zero. -/
theorem reference_runs : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- Over the extended reals the product is the reference's. -/
theorem algebraic : Cert.algebraic_InProjIdeal_InProjRefIdeal := by
  intro m ρ m' ρ' _ hagree
  refine ⟨_, Cert.InProjIdeal.Value.run_blocks (F := Ideal) m ρ, ?_⟩
  refine (θ_run Cert.InProjRefIdeal.defs _ _).mono (fun _ h c => ⟨?_, (h c).2⟩) (Cert.InProjRefIdeal.Value.run (F := Ideal) m' ρ')
  refine ((h c).1.trans (Cert.InProjRefIdeal.Read.val_main_v1_eq _ _)).trans ?_
  rw [(hagree c).1, (hagree c).2]
  funext j
  rw [eq_ix2 j]
  exact (InProjValue.reference_apply _ _ (j 0) (j 1)).trans (InProjValue.final m c (j 0) (j 1)).symm

end Cert.InProjClaim

end
-- ==== Proof.Ff2FwdValue.lean ====
/-
  THE SECOND FEED-FORWARD PRODUCT with the residual and the next layer's norm after it: what the kernel's blocks of 512 rows hold and
  what the reference computes, at an index, for both results. No sum is split between blocks.
-/
module

public import proofs.«01_k».proof.Proof.Gen.Ff2FwdIdeal.Value
public import proofs.«01_k».proof.Proof.Gen.Ff2FwdRefIdeal.Read
public import proofs.«01_k».proof.Proof.RmsFwdValue

@[expose] public section

set_option maxRecDepth 16384

noncomputable section

namespace Cert.Ff2FwdValue

open Cert.Ff2FwdIdeal Cert.Ff2FwdIdeal.Gen Idealize.ShloMosaic Idealize.ShloMosaic.TcCoe Idealize.SL.Sem Cert.Reals
open Cert.RmsFwdValue (norm)

/-- A row of the residual stream: the residual and the product's row. -/
def mid (z : Fin 4096 → EReal) (w : Fin 4096 → Fin 1024 → EReal) (x : Fin 1024 → EReal) (q : Fin 1024) : EReal := x q + ∑ k, z k * w k q

/-- One block of the first result at an index. -/
theorem pay1_apply (z : Vec Ideal S512x4096 .bf16) (w : Vec Ideal S4096x1024 .bf16) (x : Vec Ideal S512x1024 .f32) (p : Fin 512) (q : Fin 1024) :
    k0_pay1 (F := Ideal) z w x (ix2 p q) = mid (fun k => z (ix2 p k)) (fun k l => w (ix2 k l)) (fun k => x (ix2 p k)) q := by
  pointwise [k0_pay1]
  exact add_comm _ _

/-- One block of the second result at an index. -/
theorem pay2_apply (z : Vec Ideal S512x4096 .bf16) (w : Vec Ideal S4096x1024 .bf16) (x : Vec Ideal S512x1024 .f32) (g : Vec Ideal S1x1024 .f32)
    (p : Fin 512) (q : Fin 1024) :
    k0_pay2 (F := Ideal) z w x g (ix2 p q)
      = norm (mid (fun k => z (ix2 p k)) (fun k l => w (ix2 k l)) (fun k => x (ix2 p k))) (fun k => g (ix2 0 k)) q := by
  pointwise [k0_pay2]
  simp only [pay1_apply]
  rfl

section Reference

open Cert.Ff2FwdRefIdeal.Read

variable (z : (⟨S2048x4096, .bf16⟩ : BufTy).Contents (Elt Ideal)) (w : (⟨S4096x1024, .f32⟩ : BufTy).Contents (Elt Ideal))
  (x : (⟨S2048x1024, .f32⟩ : BufTy).Contents (Elt Ideal)) (g : (⟨S1x1024, .f32⟩ : BufTy).Contents (Elt Ideal))

/-- The reference's first result at an index. -/
theorem v2_apply (r : Fin 2048) (q : Fin 1024) :
    val_main_v2 (F := Ideal) z w x (ix2 r q) = mid (fun k => z (ix2 r k)) (fun k l => w (ix2 k l)) (fun k => x (ix2 r k)) q := by
  pointwise [val_main_v2, val_main_v1, val_main_v0]
  rfl

/-- The reference's second result at an index. -/
theorem v17_apply (r : Fin 2048) (q : Fin 1024) :
    val_main_v17 (F := Ideal) z w x g (ix2 r q)
      = norm (mid (fun k => z (ix2 r k)) (fun k l => w (ix2 k l)) (fun k => x (ix2 r k))) (fun k => g (ix2 0 k)) q := by
  pointwise [val_main_v17, val_main_v16, val_main_v15, val_main_v14, val_main_v13, val_main_v12, val_main_v11, val_main_v10, val_main_v9,
    val_main_v8, val_main_v7, val_main_v6, val_main_v5, val_main_v4, val_main_v3, val_main_cst, val_main_cst_0, val_main_cst_1]
  simp only [v2_apply]
  rfl

end Reference

variable (m : (ℓ : Loc nD τ sig) → Buf (Elt Ideal) ℓ) (c : Dev nD)

/-- The arguments: the hidden rows, the weights, the residual and the gain. -/
abbrev zs := m ((c : Thread nD τ).loc main_arg0)
abbrev ws := m ((c : Thread nD τ).loc main_arg1)
abbrev xs := m ((c : Thread nD τ).loc main_arg2)
abbrev gain := m ((c : Thread nD τ).loc main_arg3)

/-- The windows' block indices at a point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

theorem lt (t : Fin cfg0.N) : t.val < 4 := lt_of_lt_of_eq t.isLt N_0

/-- The row that a row of point `t`'s block is. -/
def row (t : Fin cfg0.N) (p : Fin 512) : Fin 2048 := ⟨t.val * 512 + p.val, by have := lt t; omega⟩

/-- The weights: rounded, reordered into row blocks and back. -/
theorem V_v2 (k : Fin 4096) (q : Fin 1024) : V m c main_v2 (ix2 k q) = ws m c (ix2 k q) := by
  unfold V
  entry_read
  pointwise
  exact congrArg (fun x => ws m c (ix2 x q)) (Fin.ext (Nat.div_add_mod' k.val 1024))

theorem iblk_0 (t : Fin cfg0.N) : iblk m c 0 t = fun i => zs m c (ix2 (row t (i 0)) (i 1)) := by
  funext i
  unfold iblk
  have he : ((cfg0.win 0).blk t).view.emb i = ix2 (row t (i 0)) (i 1) := by blk_ext [idx t, row]
  rw [View.read_apply, he]
  unfold V
  entry_read
  rfl

theorem iblk_1 (t : Fin cfg0.N) : iblk m c 1 t = fun i => ws m c (ix2 (i 0) (i 1)) := by
  funext i
  unfold iblk
  have he : ((cfg0.win 1).blk t).view.emb i = ix2 (i 0) (i 1) := by blk_ext [idx t]
  rw [View.read_apply, he]
  exact V_v2 m c (i 0) (i 1)

theorem iblk_2 (t : Fin cfg0.N) : iblk m c 2 t = fun i => xs m c (ix2 (row t (i 0)) (i 1)) := by
  funext i
  unfold iblk
  have he : ((cfg0.win 2).blk t).view.emb i = ix2 (row t (i 0)) (i 1) := by blk_ext [idx t, row]
  rw [View.read_apply, he]
  unfold V
  entry_read
  rfl

theorem iblk_3 (t : Fin cfg0.N) : iblk m c 3 t = fun i => gain m c (ix2 0 (i 1)) := by
  funext i
  unfold iblk
  have he : ((cfg0.win 3).blk t).view.emb i = ix2 0 (i 1) := by blk_ext [idx t]
  rw [View.read_apply, he]
  unfold V
  entry_read
  rfl

/-- A row of the residual stream over the arguments. -/
abbrev midRow (r : Fin 2048) : Fin 1024 → EReal :=
  mid (fun k => zs m c (ix2 r k)) (fun k l => ws m c (ix2 k l)) (fun k => xs m c (ix2 r k))

/-- The first result at an index. -/
theorem final4 (r : Fin 2048) (q : Fin 1024) : (dats m 0 c).arrAt 4 cfg0.N (ix2 r q) = midRow m c r q := by
  have h : (dats m 0 c).arrAt 4 cfg0.N = fun j : S2048x1024.Idx => midRow m c (j 0) (j 1) := by
    refine (dats m 0 c).arrAt_eq_of_covers 4 _ (by decide +kernel) fun t _ y => ?_
    rw [after0_4]
    have hb : out0_4 (iblk m c 0 t) (iblk m c 1 t) (iblk m c 2 t) (iblk m c 3 t)
        = k0_pay1 (F := Ideal) (iblk m c 0 t) (iblk m c 1 t) (iblk m c 2 t) := by
      frame_out
    have he : ((cfg0.win 4).blk t).view.emb y = ix2 (row t (y 0)) (y 1) := by blk_ext [idx t, row]
    have hx : (cfg0.win 4).xinj (cfg0.grid.coords t) y = ix2 (y 0) (y 1) := by blk_ext
    rw [hb, iblk_0, iblk_1, iblk_2, he, hx]
    exact pay1_apply (fun i => zs m c (ix2 (row t (i 0)) (i 1))) (fun i => ws m c (ix2 (i 0) (i 1))) (fun i => xs m c (ix2 (row t (i 0)) (i 1))) (y 0) (y 1)
  rw [h]
  rfl

/-- The second result at an index. -/
theorem final5 (r : Fin 2048) (q : Fin 1024) :
    (dats m 0 c).arrAt 5 cfg0.N (ix2 r q) = norm (midRow m c r) (fun k => gain m c (ix2 0 k)) q := by
  have h : (dats m 0 c).arrAt 5 cfg0.N = fun j : S2048x1024.Idx => norm (midRow m c (j 0)) (fun k => gain m c (ix2 0 k)) (j 1) := by
    refine (dats m 0 c).arrAt_eq_of_covers 5 _ (by decide +kernel) fun t _ y => ?_
    rw [after0_5]
    have hb : out0_5 (iblk m c 0 t) (iblk m c 1 t) (iblk m c 2 t) (iblk m c 3 t)
        = k0_pay2 (F := Ideal) (iblk m c 0 t) (iblk m c 1 t) (iblk m c 2 t) (iblk m c 3 t) := by
      frame_out
    have he : ((cfg0.win 5).blk t).view.emb y = ix2 (row t (y 0)) (y 1) := by blk_ext [idx t, row]
    have hx : (cfg0.win 5).xinj (cfg0.grid.coords t) y = ix2 (y 0) (y 1) := by blk_ext
    rw [hb, iblk_0, iblk_1, iblk_2, iblk_3, he, hx]
    exact pay2_apply _ _ _ _ (y 0) (y 1)
  rw [h]
  rfl

end Cert.Ff2FwdValue

end
-- ==== Proof.Ff2FwdClaim.lean ====
/-
  THE CLAIMS OF `ff2`, assembled: the reference's run, and that over the extended reals both results are the reference's
  at all arguments.
-/
module

public import proofs.«01_k».proof.Defs
public import proofs.«01_k».proof.Proof.Gen.Ff2Fwd.Frame
public import proofs.«01_k».proof.Proof.Gen.Ff2FwdRefIdeal.Run
public import proofs.«01_k».proof.Proof.Ff2FwdValue
public import Idealize.ShloMosaic.Lib.Quiescent

@[expose] public section

noncomputable section

namespace Cert.Ff2FwdClaim

open Idealize.ShloMosaic Idealize.SL.Sem

/-- The reference runs, its arguments end unchanged and its counters at zero. -/
theorem reference_runs : Cert.quiescent_Ff2FwdRefIdeal := fun m ρ _ =>
  (θ_run Cert.Ff2FwdRefIdeal.defs _ _).mono (fun r h => ⟨fun c => (h c).2.2, sem_eq_zero_of_no_sems (by decide) r.2⟩)
    (Cert.Ff2FwdRefIdeal.Value.run (F := Ideal) m ρ)

/-- Over the extended reals both results are the reference's. -/
theorem algebraic : Cert.algebraic_Ff2FwdIdeal_Ff2FwdRefIdeal := by
  intro m ρ m' ρ' _ hagree
  refine ⟨_, _, Cert.Ff2FwdIdeal.Value.run_blocks (F := Ideal) m ρ, ?_⟩
  refine (θ_run Cert.Ff2FwdRefIdeal.defs _ _).mono (fun _ h c => ⟨?_, ?_, (h c).2.2⟩) (Cert.Ff2FwdRefIdeal.Value.run (F := Ideal) m' ρ')
  · refine ((h c).1.trans (Cert.Ff2FwdRefIdeal.Read.val_main_v2_eq _ _ _)).trans ?_
    rw [(hagree c).1, (hagree c).2.1, (hagree c).2.2.1]
    funext j
    rw [eq_ix2 j]
    exact (Ff2FwdValue.v2_apply _ _ _ (j 0) (j 1)).trans (Ff2FwdValue.final4 m c (j 0) (j 1)).symm
  · refine ((h c).2.1.trans (Cert.Ff2FwdRefIdeal.Read.val_main_v17_eq _ _ _ _)).trans ?_
    rw [(hagree c).1, (hagree c).2.1, (hagree c).2.2.1, (hagree c).2.2.2]
    funext j
    rw [eq_ix2 j]
    exact (Ff2FwdValue.v17_apply _ _ _ _ (j 0) (j 1)).trans (Ff2FwdValue.final5 m c (j 0) (j 1)).symm

end Cert.Ff2FwdClaim

end
-- ==== Proof.lean ====
/-
  THE CERTIFICATE, assembled: for each call the printed program's side conditions, the runs of the kernel at the machine's words
  and at the extended reals, the run of the reference, and the equation between their results. Each call's claims are proved in
  its own module.
-/
module

public import proofs.«01_k».proof.Defs
public import proofs.«01_k».proof.Proof.LbsBwdClaim
public import proofs.«01_k».proof.Proof.LossHeadClaim
public import proofs.«01_k».proof.Proof.Ff2DgradClaim
public import proofs.«01_k».proof.Proof.Ff1DgradClaim
public import proofs.«01_k».proof.Proof.InDgradClaim
public import proofs.«01_k».proof.Proof.ConvBwdClaim
public import proofs.«01_k».proof.Proof.SgBwdClaim
public import proofs.«01_k».proof.Proof.MergeBwdClaim
public import proofs.«01_k».proof.Proof.SgFwdClaim
public import proofs.«01_k».proof.Proof.ConvFwdClaim
public import proofs.«01_k».proof.Proof.MergeFwdClaim
public import proofs.«01_k».proof.Proof.RmsFwdClaim
public import proofs.«01_k».proof.Proof.LbsFwdClaim
public import proofs.«01_k».proof.Proof.Ff1Claim
public import proofs.«01_k».proof.Proof.OutProjClaim
public import proofs.«01_k».proof.Proof.SumDevicesClaim
public import proofs.«01_k».proof.Proof.AdamwFlatClaim
public import proofs.«01_k».proof.Proof.AdamwLayersClaim
public import proofs.«01_k».proof.Proof.InWgradClaim
public import proofs.«01_k».proof.Proof.OutDgradClaim
public import proofs.«01_k».proof.Proof.InProjClaim
public import proofs.«01_k».proof.Proof.Ff2FwdClaim
public import proofs.«01_k».proof.Proof.Gen.HgrnFwd.Frame
public import proofs.«01_k».proof.Proof.Gen.HgrnFwdIdeal.Frame
public import proofs.«01_k».proof.Proof.Gen.HgrnBwd.Frame
public import proofs.«01_k».proof.Proof.Gen.HgrnBwdIdeal.Frame
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.LbsBwd.Gen.facts, Cert.LbsBwdIdeal.Gen.facts, Cert.LbsBwdRefIdeal.Gen.facts,
   Cert.LossHead.Gen.facts, Cert.LossHeadIdeal.Gen.facts, Cert.LossHeadRefIdeal.Gen.facts,
   Cert.Ff2Dgrad.Gen.facts, Cert.Ff2DgradIdeal.Gen.facts, Cert.Ff2DgradRefIdeal.Gen.facts,
   Cert.Ff1Dgrad.Gen.facts, Cert.Ff1DgradIdeal.Gen.facts, Cert.Ff1DgradRefIdeal.Gen.facts,
   Cert.InDgrad.Gen.facts, Cert.InDgradIdeal.Gen.facts, Cert.InDgradRefIdeal.Gen.facts,
   Cert.ConvBwd.Gen.facts, Cert.ConvBwdIdeal.Gen.facts, Cert.ConvBwdRefIdeal.Gen.facts,
   Cert.SgBwd.Gen.facts, Cert.SgBwdIdeal.Gen.facts, Cert.SgBwdRefIdeal.Gen.facts,
   Cert.MergeBwd.Gen.facts, Cert.MergeBwdIdeal.Gen.facts, Cert.MergeBwdRefIdeal.Gen.facts,
   Cert.SgFwd.Gen.facts, Cert.SgFwdIdeal.Gen.facts, Cert.SgFwdRefIdeal.Gen.facts,
   Cert.ConvFwd.Gen.facts, Cert.ConvFwdIdeal.Gen.facts, Cert.ConvFwdRefIdeal.Gen.facts,
   Cert.MergeFwd.Gen.facts, Cert.MergeFwdIdeal.Gen.facts, Cert.MergeFwdRefIdeal.Gen.facts,
   Cert.RmsFwd.Gen.facts, Cert.RmsFwdIdeal.Gen.facts, Cert.RmsFwdRefIdeal.Gen.facts,
   Cert.LbsFwd.Gen.facts, Cert.LbsFwdIdeal.Gen.facts, Cert.LbsFwdRefIdeal.Gen.facts,
   Cert.Ff1.Gen.facts, Cert.Ff1Ideal.Gen.facts, Cert.Ff1RefIdeal.Gen.facts,
   Cert.OutProj.Gen.facts, Cert.OutProjIdeal.Gen.facts, Cert.OutProjRefIdeal.Gen.facts,
   Cert.SumDevices.Gen.facts, Cert.SumDevicesIdeal.Gen.facts, Cert.SumDevicesRefIdeal.Gen.facts,
   Cert.AdamwFlat.Gen.facts, Cert.AdamwFlatIdeal.Gen.facts, Cert.AdamwFlatRefIdeal.Gen.facts,
   Cert.AdamwLayers.Gen.facts, Cert.AdamwLayersIdeal.Gen.facts, Cert.AdamwLayersRefIdeal.Gen.facts,
   Cert.InWgrad.Gen.facts, Cert.InWgradIdeal.Gen.facts, Cert.InWgradRefIdeal.Gen.facts,
   Cert.OutDgrad.Gen.facts, Cert.OutDgradIdeal.Gen.facts, Cert.OutDgradRefIdeal.Gen.facts,
   Cert.InProj.Gen.facts, Cert.InProjIdeal.Gen.facts, Cert.InProjRefIdeal.Gen.facts,
   Cert.Ff2Fwd.Gen.facts, Cert.Ff2FwdIdeal.Gen.facts, Cert.Ff2FwdRefIdeal.Gen.facts,
   Cert.HgrnFwd.Gen.facts, Cert.HgrnFwdIdeal.Gen.facts,
   Cert.HgrnBwd.Gen.facts, Cert.HgrnBwdIdeal.Gen.facts,
   Cert.LbsBwdClaim.pre_facts,
   Cert.LossHeadClaim.pre_facts,
   Cert.Ff1DgradClaim.pre_facts,
   Cert.InDgradClaim.pre_facts,
   Cert.SgBwdClaim.pre_facts,
   Cert.LbsFwdClaim.pre_facts,
   Cert.On_merge_bwd_written.Gen.facts,
   fun m ρ _ => Cert.LbsBwd.Gen.frame m ρ,
   fun m ρ _ => Cert.LbsBwdIdeal.Gen.frame m ρ,
   fun m ρ _ => Cert.LbsBwdIdeal.Gen.frame m ρ,
   Cert.LbsBwdClaim.reference_runs,
   fun m ρ _ => Cert.LbsBwdClaim.reference_runs m ρ trivial,
   fun m ρ _ => Cert.LossHead.Gen.frame m ρ,
   fun m ρ _ => Cert.LossHeadIdeal.Gen.frame m ρ,
   fun m ρ _ => Cert.LossHeadIdeal.Gen.frame m ρ,
   Cert.LossHeadClaim.reference_runs,
   fun m ρ _ => Cert.LossHeadClaim.reference_runs m ρ trivial,
   fun m ρ _ => Cert.Ff2Dgrad.Gen.frame m ρ,
   fun m ρ _ => Cert.Ff2DgradIdeal.Gen.frame m ρ,
   Cert.Ff2DgradClaim.reference_runs,
   fun m ρ _ => Cert.Ff1Dgrad.Gen.frame m ρ,
   fun m ρ _ => Cert.Ff1DgradIdeal.Gen.frame m ρ,
   fun m ρ _ => Cert.Ff1DgradIdeal.Gen.frame m ρ,
   Cert.Ff1DgradClaim.reference_runs,
   fun m ρ _ => Cert.Ff1DgradClaim.reference_runs m ρ trivial,
   fun m ρ _ => Cert.InDgrad.Gen.frame m ρ,
   fun m ρ _ => Cert.InDgradIdeal.Gen.frame m ρ,
   fun m ρ _ => Cert.InDgradIdeal.Gen.frame m ρ,
   Cert.InDgradClaim.reference_runs,
   fun m ρ _ => Cert.InDgradClaim.reference_runs m ρ trivial,
   Cert.ConvBwdClaim.frame_bits,
   Cert.ConvBwdClaim.frame_ideal,
   Cert.ConvBwdClaim.reference_runs,
   Cert.SgBwdClaim.frame_bits,
   Cert.SgBwdClaim.frame_ideal,
   fun m ρ _ => Cert.SgBwdClaim.frame_ideal m ρ trivial,
   Cert.SgBwdClaim.reference_runs,
   fun m ρ _ => Cert.SgBwdClaim.reference_runs m ρ trivial,
   Cert.MergeBwdClaim.frame_bits,
   Cert.MergeBwdClaim.frame_ideal,
   Cert.MergeBwdClaim.reference_runs,
   fun m ρ _ => Cert.SgFwd.Gen.frame m ρ,
   fun m ρ _ => Cert.SgFwdIdeal.Gen.frame m ρ,
   Cert.SgFwdClaim.reference_runs,
   fun m ρ _ => Cert.ConvFwd.Gen.frame m ρ,
   fun m ρ _ => Cert.ConvFwdIdeal.Gen.frame m ρ,
   Cert.ConvFwdClaim.reference_runs,
   fun m ρ _ => Cert.MergeFwd.Gen.frame m ρ,
   fun m ρ _ => Cert.MergeFwdIdeal.Gen.frame m ρ,
   Cert.MergeFwdClaim.reference_runs,
   fun m ρ _ => Cert.RmsFwd.Gen.frame m ρ,
   fun m ρ _ => Cert.RmsFwdIdeal.Gen.frame m ρ,
   Cert.RmsFwdClaim.reference_runs,
   fun m ρ _ => Cert.LbsFwd.Gen.frame m ρ,
   fun m ρ _ => Cert.LbsFwdIdeal.Gen.frame m ρ,
   fun m ρ _ => Cert.LbsFwdIdeal.Gen.frame m ρ,
   Cert.LbsFwdClaim.reference_runs,
   fun m ρ _ => Cert.LbsFwdClaim.reference_runs m ρ trivial,
   fun m ρ _ => Cert.Ff1.Gen.frame m ρ,
   fun m ρ _ => Cert.Ff1Ideal.Gen.frame m ρ,
   Cert.Ff1Claim.reference_runs,
   fun m ρ _ => Cert.OutProj.Gen.frame m ρ,
   fun m ρ _ => Cert.OutProjIdeal.Gen.frame m ρ,
   Cert.OutProjClaim.reference_runs,
   fun m ρ _ => Cert.SumDevices.Gen.frame m ρ,
   fun m ρ _ => Cert.SumDevicesIdeal.Gen.frame m ρ,
   Cert.SumDevicesClaim.reference_runs,
   fun m ρ _ => Cert.AdamwFlat.Gen.frame m ρ,
   fun m ρ _ => Cert.AdamwFlatIdeal.Gen.frame m ρ,
   Cert.AdamwFlatClaim.reference_runs,
   fun m ρ _ => Cert.AdamwLayers.Gen.frame m ρ,
   fun m ρ _ => Cert.AdamwLayersIdeal.Gen.frame m ρ,
   Cert.AdamwLayersClaim.reference_runs,
   fun m ρ _ => Cert.InWgrad.Gen.frame m ρ,
   fun m ρ _ => Cert.InWgradIdeal.Gen.frame m ρ,
   Cert.InWgradClaim.reference_runs,
   fun m ρ _ => Cert.OutDgrad.Gen.frame m ρ,
   fun m ρ _ => Cert.OutDgradIdeal.Gen.frame m ρ,
   Cert.OutDgradClaim.reference_runs,
   fun m ρ _ => Cert.InProj.Gen.frame m ρ,
   fun m ρ _ => Cert.InProjIdeal.Gen.frame m ρ,
   Cert.InProjClaim.reference_runs,
   fun m ρ _ => Cert.Ff2Fwd.Gen.frame m ρ,
   fun m ρ _ => Cert.Ff2FwdIdeal.Gen.frame m ρ,
   Cert.Ff2FwdClaim.reference_runs,
   fun m ρ _ => Cert.HgrnFwd.Gen.frame m ρ,
   fun m ρ _ => Cert.HgrnFwdIdeal.Gen.frame m ρ,
   fun m ρ _ => Cert.HgrnBwd.Gen.frame m ρ,
   fun m ρ _ => Cert.HgrnBwdIdeal.Gen.frame m ρ,
   trivial, Cert.LbsBwdClaim.algebraic,
   trivial, Cert.LossHeadClaim.algebraic,
   trivial, Cert.Ff2DgradClaim.algebraic,
   trivial, Cert.Ff1DgradClaim.algebraic,
   trivial, Cert.InDgradClaim.algebraic,
   trivial, Cert.ConvBwdClaim.algebraic,
   Cert.SgBwdClaim.preserves, Cert.SgBwdClaim.algebraic,
   trivial, Cert.MergeBwdClaim.algebraic,
   Cert.SgFwdClaim.preserves, Cert.SgFwdClaim.algebraic,
   trivial, Cert.ConvFwdClaim.algebraic,
   trivial, Cert.MergeFwdClaim.algebraic,
   trivial, Cert.RmsFwdClaim.algebraic,
   trivial, Cert.LbsFwdClaim.algebraic,
   trivial, Cert.Ff1Claim.algebraic,
   trivial, Cert.OutProjClaim.algebraic,
   trivial, Cert.SumDevicesClaim.algebraic,
   trivial, Cert.AdamwFlatClaim.algebraic,
   trivial, Cert.AdamwLayersClaim.algebraic,
   trivial, Cert.InWgradClaim.algebraic,
   trivial, Cert.OutDgradClaim.algebraic,
   trivial, Cert.InProjClaim.algebraic,
   trivial, Cert.Ff2FwdClaim.algebraic,
   trivial,
   trivial⟩

end Cert.Proof
